-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))).2.2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))).2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.2.2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.2.2.2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.2.2.2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.2.2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.2.2.2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.2.1 = (fun _ => 1#1)
    ∧ (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4))).2.2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.2.1 = (fun _ => 1#1)
    ∧ (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).2.2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).2.2.2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).2.2.2.2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).2.2.2.2.2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).2.2.2.2.2.2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).2.2.2.2.2.2.2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).2.2.2.2.2.2.2.2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9))).2.2.2.2.2.2.2.2.2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).2.2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).2.2.2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).2.2.2.2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).2.2.2.2.2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).2.2.2.2.2.2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).2.2.2.2.2.2.2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).2.2.2.2.2.2.2.2.1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9))).2.2.2.2.2.2.2.2.2 = (fun _ => 1#1)

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0))
      ∧ r.2.sem = fun _ => 0)

def preserves_Down_DownIdeal : Prop :=
  True

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v58) = v0 c
          ∧ r.2.mem ((c.tc : Thread Cert.DownRefIdeal.nD Cert.DownRefIdeal.τ).loc Cert.DownRefIdeal.main_v57) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v76_0)) (v1 : (c : Dev Cert.MixIdeal.nD) → Buf (Elt Ideal) ((c.tc : Thread Cert.MixIdeal.nD Cert.MixIdeal.τ).loc Cert.MixIdeal.main_v76_1)) (v2 : (c : Dev Cert.MixIdeal.nD) → Buf (Elt Ideal) ((c.tc : Thread Cert.MixIdeal.nD Cert.MixIdeal.τ).loc Cert.MixIdeal.main_v76_2)) (v3 : (c : Dev Cert.MixIdeal.nD) → Buf (Elt Ideal) ((c.tc : Thread Cert.MixIdeal.nD Cert.MixIdeal.τ).loc Cert.MixIdeal.main_v76_3)) (v4 : (c : Dev Cert.MixIdeal.nD) → Buf (Elt Ideal) ((c.tc : Thread Cert.MixIdeal.nD Cert.MixIdeal.τ).loc Cert.MixIdeal.main_v76_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v76_0) = v0 c
          ∧ r.2.mem ((c.tc : Thread Cert.MixIdeal.nD Cert.MixIdeal.τ).loc Cert.MixIdeal.main_v76_1) = v1 c
          ∧ r.2.mem ((c.tc : Thread Cert.MixIdeal.nD Cert.MixIdeal.τ).loc Cert.MixIdeal.main_v76_2) = v2 c
          ∧ r.2.mem ((c.tc : Thread Cert.MixIdeal.nD Cert.MixIdeal.τ).loc Cert.MixIdeal.main_v76_3) = v3 c
          ∧ r.2.mem ((c.tc : Thread Cert.MixIdeal.nD Cert.MixIdeal.τ).loc Cert.MixIdeal.main_v76_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v221) = v0 c
          ∧ r.2.mem ((c.tc : Thread Cert.MixRefIdeal.nD Cert.MixRefIdeal.τ).loc Cert.MixRefIdeal.main_v222) = v1 c
          ∧ r.2.mem ((c.tc : Thread Cert.MixRefIdeal.nD Cert.MixRefIdeal.τ).loc Cert.MixRefIdeal.main_v217) = v2 c
          ∧ r.2.mem ((c.tc : Thread Cert.MixRefIdeal.nD Cert.MixRefIdeal.τ).loc Cert.MixRefIdeal.main_v220) = v3 c
          ∧ r.2.mem ((c.tc : Thread Cert.MixRefIdeal.nD Cert.MixRefIdeal.τ).loc Cert.MixRefIdeal.main_v121) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v50_0)) (v1 : (c : Dev Cert.FfnIdeal.nD) → Buf (Elt Ideal) ((c.tc : Thread Cert.FfnIdeal.nD Cert.FfnIdeal.τ).loc Cert.FfnIdeal.main_v50_1)) (v2 : (c : Dev Cert.FfnIdeal.nD) → Buf (Elt Ideal) ((c.tc : Thread Cert.FfnIdeal.nD Cert.FfnIdeal.τ).loc Cert.FfnIdeal.main_v50_2)) (v3 : (c : Dev Cert.FfnIdeal.nD) → Buf (Elt Ideal) ((c.tc : Thread Cert.FfnIdeal.nD Cert.FfnIdeal.τ).loc Cert.FfnIdeal.main_v50_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v50_0) = v0 c
          ∧ r.2.mem ((c.tc : Thread Cert.FfnIdeal.nD Cert.FfnIdeal.τ).loc Cert.FfnIdeal.main_v50_1) = v1 c
          ∧ r.2.mem ((c.tc : Thread Cert.FfnIdeal.nD Cert.FfnIdeal.τ).loc Cert.FfnIdeal.main_v50_2) = v2 c
          ∧ r.2.mem ((c.tc : Thread Cert.FfnIdeal.nD Cert.FfnIdeal.τ).loc Cert.FfnIdeal.main_v50_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v114) = v0 c
          ∧ r.2.mem ((c.tc : Thread Cert.FfnRefIdeal.nD Cert.FfnRefIdeal.τ).loc Cert.FfnRefIdeal.main_v116) = v1 c
          ∧ r.2.mem ((c.tc : Thread Cert.FfnRefIdeal.nD Cert.FfnRefIdeal.τ).loc Cert.FfnRefIdeal.main_v111) = v2 c
          ∧ r.2.mem ((c.tc : Thread Cert.FfnRefIdeal.nD Cert.FfnRefIdeal.τ).loc Cert.FfnRefIdeal.main_v113) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v4_2)) (v3 : (c : Dev Cert.UpIdeal.nD) → Buf (Elt Ideal) ((c.tc : Thread Cert.UpIdeal.nD Cert.UpIdeal.τ).loc Cert.UpIdeal.main_v4_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v4_2) = v2 c
          ∧ r.2.mem ((c.tc : Thread Cert.UpIdeal.nD Cert.UpIdeal.τ).loc Cert.UpIdeal.main_v4_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v43) = v0 c
          ∧ r.2.mem ((c.tc : Thread Cert.UpRefIdeal.nD Cert.UpRefIdeal.τ).loc Cert.UpRefIdeal.main_v44) = v1 c
          ∧ r.2.mem ((c.tc : Thread Cert.UpRefIdeal.nD Cert.UpRefIdeal.τ).loc Cert.UpRefIdeal.main_v45) = v2 c
          ∧ r.2.mem ((c.tc : Thread Cert.UpRefIdeal.nD Cert.UpRefIdeal.τ).loc Cert.UpRefIdeal.main_v46) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Fwd_FwdIdeal : Prop :=
  True

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)) →
    ∃ (v0 : (c : Dev Cert.FwdIdeal.nD) → Buf (Elt Ideal) ((c.tc : Thread Cert.FwdIdeal.nD Cert.FwdIdeal.τ).loc Cert.FwdIdeal.main_v7_0)) (v1 : (c : Dev Cert.FwdIdeal.nD) → Buf (Elt Ideal) ((c.tc : Thread Cert.FwdIdeal.nD Cert.FwdIdeal.τ).loc Cert.FwdIdeal.main_v7_1)) (v2 : (c : Dev Cert.FwdIdeal.nD) → Buf (Elt Ideal) ((c.tc : Thread Cert.FwdIdeal.nD Cert.FwdIdeal.τ).loc Cert.FwdIdeal.main_v7_2)) (v3 : (c : Dev Cert.FwdIdeal.nD) → Buf (Elt Ideal) ((c.tc : Thread Cert.FwdIdeal.nD Cert.FwdIdeal.τ).loc Cert.FwdIdeal.main_v7_3)) (v4 : (c : Dev Cert.FwdIdeal.nD) → Buf (Elt Ideal) ((c.tc : Thread Cert.FwdIdeal.nD Cert.FwdIdeal.τ).loc Cert.FwdIdeal.main_v7_4)) (v5 : (c : Dev Cert.FwdIdeal.nD) → Buf (Elt Ideal) ((c.tc : Thread Cert.FwdIdeal.nD Cert.FwdIdeal.τ).loc Cert.FwdIdeal.main_v7_5)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v7_0) = v0 c
          ∧ r.2.mem ((c.tc : Thread Cert.FwdIdeal.nD Cert.FwdIdeal.τ).loc Cert.FwdIdeal.main_v7_1) = v1 c
          ∧ r.2.mem ((c.tc : Thread Cert.FwdIdeal.nD Cert.FwdIdeal.τ).loc Cert.FwdIdeal.main_v7_2) = v2 c
          ∧ r.2.mem ((c.tc : Thread Cert.FwdIdeal.nD Cert.FwdIdeal.τ).loc Cert.FwdIdeal.main_v7_3) = v3 c
          ∧ r.2.mem ((c.tc : Thread Cert.FwdIdeal.nD Cert.FwdIdeal.τ).loc Cert.FwdIdeal.main_v7_4) = v4 c
          ∧ r.2.mem ((c.tc : Thread Cert.FwdIdeal.nD Cert.FwdIdeal.τ).loc Cert.FwdIdeal.main_v7_5) = v5 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v94) = v0 c
          ∧ r.2.mem ((c.tc : Thread Cert.FwdRefIdeal.nD Cert.FwdRefIdeal.τ).loc Cert.FwdRefIdeal.main_v95) = v1 c
          ∧ r.2.mem ((c.tc : Thread Cert.FwdRefIdeal.nD Cert.FwdRefIdeal.τ).loc Cert.FwdRefIdeal.main_v96) = v2 c
          ∧ r.2.mem ((c.tc : Thread Cert.FwdRefIdeal.nD Cert.FwdRefIdeal.τ).loc Cert.FwdRefIdeal.main_v97) = v3 c
          ∧ r.2.mem ((c.tc : Thread Cert.FwdRefIdeal.nD Cert.FwdRefIdeal.τ).loc Cert.FwdRefIdeal.main_v98) = v4 c
          ∧ r.2.mem ((c.tc : Thread Cert.FwdRefIdeal.nD Cert.FwdRefIdeal.τ).loc Cert.FwdRefIdeal.main_v101) = v5 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m ((c.tc : Thread Cert.PairIdeal.nD Cert.PairIdeal.τ).loc Cert.PairIdeal.main_arg0) = Layout.block ⟨4, ![2, 4, 128, 1024]⟩ ⟨4, ![4, 4, 128, 1024]⟩ 0 2 c (m' (((0 : Dev Cert.PairRefIdeal.nD).tc : Thread Cert.PairRefIdeal.nD Cert.PairRefIdeal.τ).loc Cert.PairRefIdeal.main_arg0))) →
    ∃ (v0 : Buf (Elt Ideal) (((0 : Dev Cert.PairRefIdeal.nD).tc : Thread Cert.PairRefIdeal.nD Cert.PairRefIdeal.τ).loc Cert.PairRefIdeal.main_v5)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v1) = Layout.block ⟨3, ![4, 128, 1024]⟩ ⟨3, ![8, 128, 1024]⟩ 0 2 c v0
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ θ_run (Cert.PairRefIdeal.defs (F := Ideal)) (onTc (τ := Cert.PairRefIdeal.τ) (Cert.PairRefIdeal.main (F := Ideal))) ⟨m', fun _ => 0, g'⟩ (fun r =>
          r.2.mem (((0 : Dev Cert.PairRefIdeal.nD).tc : Thread Cert.PairRefIdeal.nD Cert.PairRefIdeal.τ).loc Cert.PairRefIdeal.main_v5) = v0
          ∧ r.2.mem (((0 : Dev Cert.PairRefIdeal.nD).tc : Thread Cert.PairRefIdeal.nD Cert.PairRefIdeal.τ).loc Cert.PairRefIdeal.main_arg0) = m' (((0 : Dev Cert.PairRefIdeal.nD).tc : Thread Cert.PairRefIdeal.nD Cert.PairRefIdeal.τ).loc Cert.PairRefIdeal.main_arg0))

def Claim : Prop :=
  ∃ (hDown : Cert.Down.Facts) (hDownIdeal : Cert.DownIdeal.Facts) (hDownRefIdeal : Cert.DownRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hUp : Cert.Up.Facts) (hUpIdeal : Cert.UpIdeal.Facts) (hUpRefIdeal : Cert.UpRefIdeal.Facts) (hFwd : Cert.Fwd.Facts) (hFwdIdeal : Cert.FwdIdeal.Facts) (hFwdRefIdeal : Cert.FwdRefIdeal.Facts) (hPair : Cert.Pair.Facts) (hPairIdeal : Cert.PairIdeal.Facts) (hPairRefIdeal : Cert.PairRefIdeal.Facts) (hPre_finite_down : Cert.Pre_finite_down.Facts) (hPre_finite_mix : Cert.Pre_finite_mix.Facts) (hPre_finite_ffn : Cert.Pre_finite_ffn.Facts) (hPre_finite_up : Cert.Pre_finite_up.Facts) (hPre_finite_fwd : Cert.Pre_finite_fwd.Facts),
    quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Pair (hPair := hPair)
    ∧ quiescent_PairIdeal (hPairIdeal := hPairIdeal)
    ∧ quiescent_PairRefIdeal (hPairRefIdeal := hPairRefIdeal)
    ∧ preserves_Down_DownIdeal
    ∧ algebraic_DownIdeal_DownRefIdeal_pre_finite_down (hDownIdeal := hDownIdeal) (hDownRefIdeal := hDownRefIdeal) (hPre_finite_down := hPre_finite_down)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Up_UpIdeal
    ∧ algebraic_UpIdeal_UpRefIdeal_pre_finite_up (hUpIdeal := hUpIdeal) (hUpRefIdeal := hUpRefIdeal) (hPre_finite_up := hPre_finite_up)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Pair_PairIdeal
    ∧ algebraic_PairIdeal_PairRefIdeal (hPairIdeal := hPairIdeal) (hPairRefIdeal := hPairRefIdeal)
-- ==== Pre_finite_down.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x2816 .f32) (main_arg2 : FVec F S2816x1024 .f32) (main_arg3 : FVec F S1024 .f32) (main_arg4 : FVec F S4096x1024 .f32) : IVec S4096x1024 1 × IVec S4096x2816 1 × IVec S2816x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_ffn.lean ====
abbrev S4096x1024 : Shape := ⟨2, ![4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x3x2816 : S_.BroadcastsInDim S1x3x2816 (![] : Fin 0 → Fin S1x3x2816.rank)
  bcast_S_S1x2816 : S_.BroadcastsInDim S1x2816 (![] : Fin 0 → Fin S1x2816.rank)
  bcast_S_S1x2816x1024 : S_.BroadcastsInDim S1x2816x1024 (![] : Fin 0 → Fin S1x2816x1024.rank)

variable [Facts]

def fn_part1 {F : FTy → Type} [FloatOps F] (main_arg6 : FVec F S4096x1024 .f32) (main_v2 : IVec S4096x1024 1) (main_v5 : IVec S1x1024 1) (main_v8 : IVec S1x1024x5632 1) (main_v11 : IVec S1x3x2816 1) (main_v14 : IVec S1x2816 1) (main_v17 : IVec S1x2816x1024 1) : IVec S4096x1024 1 × IVec S1x1024 1 × IVec S1x1024x5632 1 × IVec S1x3x2816 1 × IVec S1x2816 1 × IVec S1x2816x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S1x1024 .f32) (main_arg2 : FVec F S1x1024x5632 .f32) (main_arg3 : FVec F S1x3x2816 .f32) (main_arg4 : FVec F S1x2816 .f32) (main_arg5 : FVec F S1x2816x1024 .f32) (main_arg6 : FVec F S4096x1024 .f32) : IVec S4096x1024 1 × IVec S1x1024 1 × IVec S1x1024x5632 1 × IVec S1x3x2816 1 × IVec S1x2816 1 × IVec S1x2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x3x2816 .f32 := Host.absf main_arg3
  let main_cst_2 : FVec F S_ .f32 := constant S_ .f32 0x7F800000#32
  let main_v10 : FVec F S1x3x2816 .f32 := broadcastInDim S1x3x2816 ![] bcast_S_S1x3x2816 main_cst_2
  let main_v11 : IVec S1x3x2816 1 := cmpf .olt main_v9 main_v10
  let main_v12 : FVec F S1x2816 .f32 := Host.absf main_arg4
  let main_cst_3 : FVec F S_ .f32 := constant S_ .f32 0x7F800000#32
  let main_v13 : FVec F S1x2816 .f32 := broadcastInDim S1x2816 ![] bcast_S_S1x2816 main_cst_3
  let main_v14 : IVec S1x2816 1 := cmpf .olt main_v12 main_v13
  let main_v15 : FVec F S1x2816x1024 .f32 := Host.absf main_arg5
  let main_cst_4 : FVec F S_ .f32 := constant S_ .f32 0x7F800000#32
  let main_v16 : FVec F S1x2816x1024 .f32 := broadcastInDim S1x2816x1024 ![] bcast_S_S1x2816x1024 main_cst_4
  let main_v17 : IVec S1x2816x1024 1 := cmpf .olt main_v15 main_v16
  fn_part1 (F := F) main_arg6 main_v2 main_v5 main_v8 main_v11 main_v14 main_v17
-- ==== Pre_finite_fwd.lean ====
abbrev S4096x1024 : Shape := ⟨2, ![4096, 1024]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x1536 : S_.BroadcastsInDim S1x1024x1536 (![] : Fin 0 → Fin S1x1024x1536.rank)
  bcast_S_S1x31x512 : S_.BroadcastsInDim S1x31x512 (![] : Fin 0 → Fin S1x31x512.rank)
  bcast_S_S1x512 : S_.BroadcastsInDim S1x512 (![] : Fin 0 → Fin S1x512.rank)
  bcast_S_S1x4x128x128 : S_.BroadcastsInDim S1x4x128x128 (![] : Fin 0 → Fin S1x4x128x128.rank)
  bcast_S_S1x1024x1024 : S_.BroadcastsInDim S1x1024x1024 (![] : Fin 0 → Fin S1x1024x1024.rank)

variable [Facts]

def fn_part1 {F : FTy → Type} [FloatOps F] (main_arg6 : FVec F S1x512 .f32) (main_arg7 : FVec F S1x4x128x128 .f32) (main_arg8 : FVec F S1x512 .f32) (main_arg9 : FVec F S1x1024x1024 .f32) (main_v2 : IVec S4096x1024 1) (main_v5 : IVec S1x1024 1) (main_v8 : IVec S1x1024x1536 1) (main_v11 : IVec S1x31x512 1) (main_v14 : IVec S1x512 1) (main_v17 : IVec S1x512 1) : IVec S4096x1024 1 × IVec S1x1024 1 × IVec S1x1024x1536 1 × IVec S1x31x512 1 × IVec S1x512 1 × IVec S1x512 1 × IVec S1x512 1 × IVec S1x4x128x128 1 × IVec S1x512 1 × IVec S1x1024x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x4x128x128 .f32 := Host.absf main_arg7
  let main_cst_6 : FVec F S_ .f32 := constant S_ .f32 0x7F800000#32
  let main_v22 : FVec F S1x4x128x128 .f32 := broadcastInDim S1x4x128x128 ![] bcast_S_S1x4x128x128 main_cst_6
  let main_v23 : IVec S1x4x128x128 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1x1024x1024 .f32 := Host.absf main_arg9
  let main_cst_8 : FVec F S_ .f32 := constant S_ .f32 0x7F800000#32
  let main_v28 : FVec F S1x1024x1024 .f32 := broadcastInDim S1x1024x1024 ![] bcast_S_S1x1024x1024 main_cst_8
  let main_v29 : IVec S1x1024x1024 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : FVec F S1x1024 .f32) (main_arg2 : FVec F S1x1024x1536 .f32) (main_arg3 : FVec F S1x31x512 .f32) (main_arg4 : FVec F S1x512 .f32) (main_arg5 : FVec F S1x512 .f32) (main_arg6 : FVec F S1x512 .f32) (main_arg7 : FVec F S1x4x128x128 .f32) (main_arg8 : FVec F S1x512 .f32) (main_arg9 : FVec F S1x1024x1024 .f32) : IVec S4096x1024 1 × IVec S1x1024 1 × IVec S1x1024x1536 1 × IVec S1x31x512 1 × IVec S1x512 1 × IVec S1x512 1 × IVec S1x512 1 × IVec S1x4x128x128 1 × IVec S1x512 1 × IVec S1x1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1536 .f32 := Host.absf main_arg2
  let main_cst_1 : FVec F S_ .f32 := constant S_ .f32 0x7F800000#32
  let main_v7 : FVec F S1x1024x1536 .f32 := broadcastInDim S1x1024x1536 ![] bcast_S_S1x1024x1536 main_cst_1
  let main_v8 : IVec S1x1024x1536 1 := cmpf .olt main_v6 main_v7
  let main_v9 : FVec F S1x31x512 .f32 := Host.absf main_arg3
  let main_cst_2 : FVec F S_ .f32 := constant S_ .f32 0x7F800000#32
  let main_v10 : FVec F S1x31x512 .f32 := broadcastInDim S1x31x512 ![] bcast_S_S1x31x512 main_cst_2
  let main_v11 : IVec S1x31x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_v2 main_v5 main_v8 main_v11 main_v14 main_v17
-- ==== Pre_finite_mix.lean ====
abbrev S4096x1024 : Shape := ⟨2, ![4096, 1024]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x1536 : S_.BroadcastsInDim S1x1024x1536 (![] : Fin 0 → Fin S1x1024x1536.rank)
  bcast_S_S1x31x512 : S_.BroadcastsInDim S1x31x512 (![] : Fin 0 → Fin S1x31x512.rank)
  bcast_S_S1x512 : S_.BroadcastsInDim S1x512 (![] : Fin 0 → Fin S1x512.rank)
  bcast_S_S1x4x128x128 : S_.BroadcastsInDim S1x4x128x128 (![] : Fin 0 → Fin S1x4x128x128.rank)
  bcast_S_S1x1024x1024 : S_.BroadcastsInDim S1x1024x1024 (![] : Fin 0 → Fin S1x1024x1024.rank)

variable [Facts]

def fn_part1 {F : FTy → Type} [FloatOps F] (main_arg6 : FVec F S1x512 .f32) (main_arg7 : FVec F S1x4x128x128 .f32) (main_arg8 : FVec F S1x512 .f32) (main_arg9 : FVec F S1x1024x1024 .f32) (main_arg10 : FVec F S4096x1024 .f32) (main_v2 : IVec S4096x1024 1) (main_v5 : IVec S1x1024 1) (main_v8 : IVec S1x1024x1536 1) (main_v11 : IVec S1x31x512 1) (main_v14 : IVec S1x512 1) (main_v17 : IVec S1x512 1) : IVec S4096x1024 1 × IVec S1x1024 1 × IVec S1x1024x1536 1 × IVec S1x31x512 1 × IVec S1x512 1 × IVec S1x512 1 × IVec S1x512 1 × IVec S1x4x128x128 1 × IVec S1x512 1 × IVec S1x1024x1024 1 × IVec S4096x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x4x128x128 .f32 := Host.absf main_arg7
  let main_cst_6 : FVec F S_ .f32 := constant S_ .f32 0x7F800000#32
  let main_v22 : FVec F S1x4x128x128 .f32 := broadcastInDim S1x4x128x128 ![] bcast_S_S1x4x128x128 main_cst_6
  let main_v23 : IVec S1x4x128x128 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1x1024x1024 .f32 := Host.absf main_arg9
  let main_cst_8 : FVec F S_ .f32 := constant S_ .f32 0x7F800000#32
  let main_v28 : FVec F S1x1024x1024 .f32 := broadcastInDim S1x1024x1024 ![] bcast_S_S1x1024x1024 main_cst_8
  let main_v29 : IVec S1x1024x1024 1 := cmpf .olt main_v27 main_v28
  let main_v30 : FVec F S4096x1024 .f32 := Host.absf main_arg10
  let main_cst_9 : FVec F S_ .f32 := constant S_ .f32 0x7F800000#32
  let main_v31 : FVec F S4096x1024 .f32 := broadcastInDim S4096x1024 ![] bcast_S_S4096x1024 main_cst_9
  let main_v32 : IVec S4096x1024 1 := cmpf .olt main_v30 main_v31
  (main_v2, main_v5, main_v8, main_v11, main_v14, main_v17, main_v20, main_v23, main_v26, main_v29, main_v32)

def fn {F : FTy → Type} [FloatOps F] (main_arg0 : FVec F S4096x1024 .f32) (main_arg1 : FVec F S1x1024 .f32) (main_arg2 : FVec F S1x1024x1536 .f32) (main_arg3 : FVec F S1x31x512 .f32) (main_arg4 : FVec F S1x512 .f32) (main_arg5 : FVec F S1x512 .f32) (main_arg6 : FVec F S1x512 .f32) (main_arg7 : FVec F S1x4x128x128 .f32) (main_arg8 : FVec F S1x512 .f32) (main_arg9 : FVec F S1x1024x1024 .f32) (main_arg10 : FVec F S4096x1024 .f32) : IVec S4096x1024 1 × IVec S1x1024 1 × IVec S1x1024x1536 1 × IVec S1x31x512 1 × IVec S1x512 1 × IVec S1x512 1 × IVec S1x512 1 × IVec S1x4x128x128 1 × IVec S1x512 1 × IVec S1x1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1536 .f32 := Host.absf main_arg2
  let main_cst_1 : FVec F S_ .f32 := constant S_ .f32 0x7F800000#32
  let main_v7 : FVec F S1x1024x1536 .f32 := broadcastInDim S1x1024x1536 ![] bcast_S_S1x1024x1536 main_cst_1
  let main_v8 : IVec S1x1024x1536 1 := cmpf .olt main_v6 main_v7
  let main_v9 : FVec F S1x31x512 .f32 := Host.absf main_arg3
  let main_cst_2 : FVec F S_ .f32 := constant S_ .f32 0x7F800000#32
  let main_v10 : FVec F S1x31x512 .f32 := broadcastInDim S1x31x512 ![] bcast_S_S1x31x512 main_cst_2
  let main_v11 : IVec S1x31x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_arg10 main_v2 main_v5 main_v8 main_v11 main_v14 main_v17
-- ==== Pre_finite_up.lean ====
abbrev S4096x1024 : Shape := ⟨2, ![4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x3x2816 : S_.BroadcastsInDim S1x3x2816 (![] : Fin 0 → Fin S1x3x2816.rank)
  bcast_S_S1x2816 : S_.BroadcastsInDim S1x2816 (![] : Fin 0 → Fin S1x2816.rank)

variable [Facts]

def fn {F : FTy → Type} [FloatOps F] (main_arg0 : FVec F S4096x1024 .f32) (main_arg1 : FVec F S1x1024 .f32) (main_arg2 : FVec F S1x1024x5632 .f32) (main_arg3 : FVec F S1x3x2816 .f32) (main_arg4 : FVec F S1x2816 .f32) : IVec S4096x1024 1 × IVec S1x1024 1 × IVec S1x1024x5632 1 × IVec S1x3x2816 1 × IVec S1x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x3x2816 .f32 := Host.absf main_arg3
  let main_cst_2 : FVec F S_ .f32 := constant S_ .f32 0x7F800000#32
  let main_v10 : FVec F S1x3x2816 .f32 := broadcastInDim S1x3x2816 ![] bcast_S_S1x3x2816 main_cst_2
  let main_v11 : IVec S1x3x2816 1 := cmpf .olt main_v9 main_v10
  let main_v12 : FVec F S1x2816 .f32 := Host.absf main_arg4
  let main_cst_3 : FVec F S_ .f32 := constant S_ .f32 0x7F800000#32
  let main_v13 : FVec F S1x2816 .f32 := broadcastInDim S1x2816 ![] bcast_S_S1x2816 main_cst_3
  let main_v14 : IVec S1x2816 1 := cmpf .olt main_v12 main_v13
  (main_v2, main_v5, main_v8, main_v11, main_v14)
-- ==== Down.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1x1024 : Shape := ⟨2, ![1, 1024]⟩
abbrev S8x1024 : Shape := ⟨2, ![8, 1024]⟩
abbrev S512x1024 : Shape := ⟨2, ![512, 1024]⟩
abbrev S512x2816 : Shape := ⟨2, ![512, 2816]⟩
abbrev S1 : Shape := ⟨1, ![1]⟩
abbrev S_ : Shape := ⟨0, ![]⟩
abbrev S512 : Shape := ⟨1, ![512]⟩
abbrev S512x1 : Shape := ⟨2, ![512, 1]⟩
abbrev S1x1 : Shape := ⟨2, ![1, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x2816, .bf16⟩
  | .hbm, ⟨7, _⟩ => ⟨S2816x1024, .bf16⟩
  | .hbm, ⟨8, _⟩ => ⟨S4096x1024, .bf16⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x1024, .f32⟩
  | .local _ .vmem, ⟨10, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DownRefIdeal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024 : Shape := ⟨2, ![4, 1024]⟩
abbrev S8x1024 : Shape := ⟨2, ![8, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S_, .f32⟩
  | .hbm, ⟨80, _⟩ => ⟨S4x1024, .f32⟩
  | .hbm, ⟨81, _⟩ => ⟨S8x1024, .f32⟩
  | .hbm, ⟨82, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Mix.lean ====
abbrev S4096x1024 : Shape := ⟨2, ![4096, 1024]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S4096x1536 : Shape := ⟨2, ![4096, 1536]⟩
abbrev S4096x512 : Shape := ⟨2, ![4096, 512]⟩
abbrev S31x512 : Shape := ⟨2, ![31, 512]⟩
abbrev S30x512 : Shape := ⟨2, ![30, 512]⟩
abbrev S4126x512 : Shape := ⟨2, ![4126, 512]⟩
abbrev S1x4126x512 : Shape := ⟨3, ![1, 4126, 512]⟩
abbrev S31x4126x512 : Shape := ⟨3, ![31, 4126, 512]⟩
abbrev S127906x512 : Shape := ⟨2, ![127906, 512]⟩
abbrev S127937x512 : Shape := ⟨2, ![127937, 512]⟩
abbrev S31x4127x512 : Shape := ⟨3, ![31, 4127, 512]⟩
abbrev S31x4096x512 : Shape := ⟨3, ![31, 4096, 512]⟩
abbrev S31x1x512 : Shape := ⟨3, ![31, 1, 512]⟩
abbrev S16x512 : Shape := ⟨2, ![16, 512]⟩
abbrev S4112x512 : Shape := ⟨2, ![4112, 512]⟩
abbrev S4096x128 : Shape := ⟨2, ![4096, 128]⟩
abbrev S1x128 : Shape := ⟨2, ![1, 128]⟩
abbrev S32x512 : Shape := ⟨2, ![32, 512]⟩
abbrev S4x128x128 : Shape := ⟨3, ![4, 128, 128]⟩
abbrev S1024x1024 : Shape := ⟨2, ![1024, 1024]⟩
abbrev S8x1024 : Shape := ⟨2, ![8, 1024]⟩
abbrev S40x512 : Shape := ⟨2, ![40, 512]⟩
abbrev S512x1024 : Shape := ⟨2, ![512, 1024]⟩
abbrev S512x1536 : Shape := ⟨2, ![512, 1536]⟩
abbrev S32x1024 : Shape := ⟨2, ![32, 1024]⟩
abbrev S512x512 : Shape := ⟨2, ![512, 512]⟩
abbrev S544x512 : Shape := ⟨2, ![544, 512]⟩
abbrev S7x536x512 : Shape := ⟨3, ![7, 536, 512]⟩
abbrev S528x512 : Shape := ⟨2, ![528, 512]⟩
abbrev S2 : Shape := ⟨1, ![2]⟩
abbrev S1 : Shape := ⟨1, ![1]⟩
abbrev S512x128 : Shape := ⟨2, ![512, 128]⟩
abbrev S1x128x128 : Shape := ⟨3, ![1, 128, 128]⟩
abbrev S128x128 : Shape := ⟨2, ![128, 128]⟩
abbrev S128 : Shape := ⟨1, ![128]⟩
abbrev S512 : Shape := ⟨1, ![512]⟩
abbrev S512x1 : Shape := ⟨2, ![512, 1]⟩
abbrev S536x512 : Shape := ⟨2, ![536, 512]⟩
abbrev S1x536x512 : Shape := ⟨3, ![1, 536, 512]⟩
abbrev S1x512x512 : Shape := ⟨3, ![1, 512, 512]⟩
abbrev S1024 : Shape := ⟨1, ![1024]⟩

abbrev nBuf : Space → Nat
  | .hbm => 110
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1536, .f32⟩
  | .hbm, ⟨3, _⟩ => ⟨S1x31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x128x128, .f32⟩
  | .hbm, ⟨8, _⟩ => ⟨S1x512, .f32⟩
  | .hbm, ⟨9, _⟩ => ⟨S1x1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x1536, .f32⟩
  | .hbm, ⟨27, _⟩ => ⟨S4096x1536, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S31x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S30x512, .f32⟩
  | .hbm, ⟨43, _⟩ => ⟨S4126x512, .f32⟩
  | .hbm, ⟨44, _⟩ => ⟨S1x4126x512, .f32⟩
  | .hbm, ⟨45, _⟩ => ⟨S31x4126x512, .f32⟩
  | .hbm, ⟨46, _⟩ => ⟨S127906x512, .f32⟩
  | .hbm, ⟨47, _⟩ => ⟨S_, .f32⟩
  | .hbm, ⟨48, _⟩ => ⟨S31x512, .f32⟩
  | .hbm, ⟨49, _⟩ => ⟨S127937x512, .f32⟩
  | .hbm, ⟨50, _⟩ => ⟨S31x4127x512, .f32⟩
  | .hbm, ⟨51, _⟩ => ⟨S31x4096x512, .f32⟩
  | .hbm, ⟨52, _⟩ => ⟨S31x1x512, .f32⟩
  | .hbm, ⟨53, _⟩ => ⟨S31x4096x512, .f32⟩
  | .hbm, ⟨54, _⟩ => ⟨S31x4096x512, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S16x512, .f32⟩
  | .hbm, ⟨61, _⟩ => ⟨S_, .f32⟩
  | .hbm, ⟨62, _⟩ => ⟨S_, .f32⟩
  | .hbm, ⟨63, _⟩ => ⟨S4096x512, .f32⟩
  | .hbm, ⟨64, _⟩ => ⟨S4112x512, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S4096x128, .f32⟩
  | .hbm, ⟨69, _⟩ => ⟨S4096x512, .f32⟩
  | .hbm, ⟨70, _⟩ => ⟨S_, .i32⟩
  | .hbm, ⟨71, _⟩ => ⟨S1x128, .i32⟩
  | .hbm, ⟨72, _⟩ => ⟨S_, .i32⟩
  | .hbm, ⟨73, _⟩ => ⟨S1x128, .i32⟩
  | .hbm, ⟨74, _⟩ => ⟨S_, .i32⟩
  | .hbm, ⟨75, _⟩ => ⟨S1x128, .i32⟩
  | .hbm, ⟨76, _⟩ => ⟨S_, .i32⟩
  | .hbm, ⟨77, _⟩ => ⟨S1x128, .i32⟩
  | .hbm, ⟨78, _⟩ => ⟨S1x512, .i32⟩
  | .hbm, ⟨79, _⟩ => ⟨S4096, .i32⟩
  | .hbm, ⟨80, _⟩ => ⟨S_, .i32⟩
  | .hbm, ⟨81, _⟩ => ⟨S4096, .i32⟩
  | .hbm, ⟨82, _⟩ => ⟨S4096, .i32⟩
  | .hbm, ⟨83, _⟩ => ⟨S4096x1, .i32⟩
  | .hbm, ⟨84, _⟩ => ⟨S4096x512, .i32⟩
  | .hbm, ⟨85, _⟩ => ⟨S4096x512, .i32⟩
  | .hbm, ⟨86, _⟩ => ⟨S4096x512, .i32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S4096x512, .f32⟩
  | .hbm, ⟨92, _⟩ => ⟨S31x512, .f32⟩
  | .hbm, ⟨93, _⟩ => ⟨S_, .i32⟩
  | .hbm, ⟨94, _⟩ => ⟨S_, .f32⟩
  | .hbm, ⟨95, _⟩ => ⟨S32x512, .f32⟩
  | .hbm, ⟨96, _⟩ => ⟨S4096x1024, .bf16⟩
  | .hbm, ⟨97, _⟩ => ⟨S4096x1536, .bf16⟩
  | .hbm, ⟨98, _⟩ => ⟨S4096x512, .bf16⟩
  | .hbm, ⟨99, _⟩ => ⟨S4096x512, .bf16⟩
  | .hbm, ⟨100, _⟩ => ⟨S1024x1536, .f32⟩
  | .hbm, ⟨101, _⟩ => ⟨S1024x1536, .bf16⟩
  | .hbm, ⟨102, _⟩ => ⟨S4x128x128, .f32⟩
  | .hbm, ⟨103, _⟩ => ⟨S1024x1024, .f32⟩
  | .hbm, ⟨104, _⟩ => ⟨S1024x1024, .bf16⟩
  | .hbm, ⟨105, _⟩ => ⟨S4096x1536, .bf16⟩
  | .hbm, ⟨106, _⟩ => ⟨S4096x1024, .f32⟩
  | .hbm, ⟨107, _⟩ => ⟨S8x1024, .f32⟩
  | .hbm, ⟨108, _⟩ => ⟨S40x512, .f32⟩
  | .hbm, ⟨109, _⟩ => ⟨S4x128x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1536, .bf16⟩
  | .local _ .vmem, ⟨5, _⟩ => ⟨S512x1536, .bf16⟩
  | .local _ .vmem, ⟨6, _⟩ => ⟨S32x1024, .bf16⟩
  | .local _ .vmem, ⟨7, _⟩ => ⟨S32x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x1024, .f32⟩
  | .local _ .vmem, ⟨13, _⟩ => ⟨S32x512, .f32⟩
  | .local _ .vmem, ⟨14, _⟩ => ⟨S1x512, .f32⟩
  | .local _ .vmem, ⟨15, _⟩ => ⟨S1x512, .f32⟩
  | .local _ .vmem, ⟨16, _⟩ => ⟨S4x128x128, .f32⟩
  | .local _ .vmem, ⟨17, _⟩ => ⟨S1x512, .f32⟩
  | .local _ .vmem, ⟨18, _⟩ => ⟨S512x1536, .bf16⟩
  | .local _ .vmem, ⟨19, _⟩ => ⟨S512x1536, .bf16⟩
  | .local _ .vmem, ⟨20, _⟩ => ⟨S512x1024, .f32⟩
  | .local _ .vmem, ⟨21, _⟩ => ⟨S512x1024, .f32⟩
  | .local _ .vmem, ⟨22, _⟩ => ⟨S8x1024, .f32⟩
  | .local _ .vmem, ⟨23, _⟩ => ⟨S40x512, .f32⟩
  | .local _ .vmem, ⟨24, _⟩ => ⟨S4x128x128, .f32⟩
  | .local _ .vmem, ⟨25, _⟩ => ⟨S1024x1536, .bf16⟩
  | .local _ .vmem, ⟨26, _⟩ => ⟨S1024x1024, .bf16⟩
  | .local _ .vmem, ⟨27, _⟩ => ⟨S544x512, .f32⟩
  | .local _ .vmem, ⟨28, _⟩ => ⟨S7x536x512, .f32⟩
  | .local _ .vmem, ⟨29, _⟩ => ⟨S544x512, .f32⟩
  | .local _ .vmem, ⟨30, _⟩ => ⟨S7x536x512, .f32⟩
  | .local _ .vmem, ⟨31, _⟩ => ⟨S528x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_call0_call0_cst : Ref sig .tc := ⟨.hbm, 61, rfl⟩
abbrev main_call0_call0_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_call1_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76_0 : Ref sig .tc := ⟨.hbm, 105, rfl⟩
abbrev main_v76_1 : Ref sig .tc := ⟨.hbm, 106, rfl⟩
abbrev main_v76_2 : Ref sig .tc := ⟨.hbm, 107, rfl⟩
abbrev main_v76_3 : Ref sig .tc := ⟨.hbm, 108, rfl⟩
abbrev main_v76_4 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S40x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixRefIdeal.lean ====
abbrev S4096x1024 : Shape := ⟨2, ![4096, 1024]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S4096x1536 : Shape := ⟨2, ![4096, 1536]⟩
abbrev S31x512 : Shape := ⟨2, ![31, 512]⟩
abbrev S4x128x128 : Shape := ⟨3, ![4, 128, 128]⟩
abbrev S1024x1024 : Shape := ⟨2, ![1024, 1024]⟩
abbrev S4096x512 : Shape := ⟨2, ![4096, 512]⟩
abbrev S30x512 : Shape := ⟨2, ![30, 512]⟩
abbrev S4126x512 : Shape := ⟨2, ![4126, 512]⟩
abbrev S1x4126x512 : Shape := ⟨3, ![1, 4126, 512]⟩
abbrev S31x4126x512 : Shape := ⟨3, ![31, 4126, 512]⟩
abbrev S127906x512 : Shape := ⟨2, ![127906, 512]⟩
abbrev S127937x512 : Shape := ⟨2, ![127937, 512]⟩
abbrev S31x4127x512 : Shape := ⟨3, ![31, 4127, 512]⟩
abbrev S31x4096x512 : Shape := ⟨3, ![31, 4096, 512]⟩
abbrev S31x1x512 : Shape := ⟨3, ![31, 1, 512]⟩
abbrev S16x512 : Shape := ⟨2, ![16, 512]⟩
abbrev S4112x512 : Shape := ⟨2, ![4112, 512]⟩
abbrev S4096x128 : Shape := ⟨2, ![4096, 128]⟩
abbrev S1x128 : Shape := ⟨2, ![1, 128]⟩
abbrev S4096x4x128 : Shape := ⟨3, ![4096, 4, 128]⟩
abbrev S4x128x4096 : Shape := ⟨3, ![4, 128, 4096]⟩
abbrev S512 : Shape := ⟨1, ![512]⟩
abbrev S4x4096x128 : Shape := ⟨3, ![4, 4096, 128]⟩
abbrev S1024 : Shape := ⟨1, ![1024]⟩
abbrev S7x1024 : Shape := ⟨2, ![7, 1024]⟩
abbrev S8x1024 : Shape := ⟨2, ![8, 1024]⟩
abbrev S4x512 : Shape := ⟨2, ![4, 512]⟩
abbrev S40x512 : Shape := ⟨2, ![40, 512]⟩

abbrev nBuf : Space → Nat
  | .hbm => 305
  | .vmem => 0
  | .smem => 0
  | _ => 0

abbrev hbmTy0_0 (i : Nat) : BufTy := match i % 128 with
  | 0 => ⟨S4096x1024, .f32⟩
  | 1 => ⟨S1x1024, .f32⟩
  | 2 => ⟨S1x1024x1536, .f32⟩
  | 3 => ⟨S1x31x512, .f32⟩
  | 4 => ⟨S1x512, .f32⟩
  | 5 => ⟨S1x512, .f32⟩
  | 6 => ⟨S1x512, .f32⟩
  | 7 => ⟨S1x4x128x128, .f32⟩
  | 8 => ⟨S1x512, .f32⟩
  | 9 => ⟨S1x1024x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S4096x1024, .f32⟩
  | 30 => ⟨S1024x1536, .f32⟩
  | 31 => ⟨S4096x1536, .f32⟩
  | 32 => ⟨S31x512, .f32⟩
  | 33 => ⟨S4x128x128, .f32⟩
  | 34 => ⟨S1024x1024, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S30x512, .f32⟩
  | 53 => ⟨S4126x512, .f32⟩
  | 54 => ⟨S_, .f32⟩
  | 55 => ⟨S30x512, .f32⟩
  | 56 => ⟨S1x4126x512, .f32⟩
  | 57 => ⟨S31x4126x512, .f32⟩
  | 58 => ⟨S127906x512, .f32⟩
  | 59 => ⟨S_, .f32⟩
  | 60 => ⟨S31x512, .f32⟩
  | 61 => ⟨S127937x512, .f32⟩
  | 62 => ⟨S_, .f32⟩
  | 63 => ⟨S31x512, .f32⟩
  | 64 => ⟨S31x4127x512, .f32⟩
  | 65 => ⟨S31x4096x512, .f32⟩
  | 66 => ⟨S31x1x512, .f32⟩
  | 67 => ⟨S31x4096x512, .f32⟩
  | 68 => ⟨S31x4096x512, .f32⟩
  | 69 => ⟨S_, .f32⟩
  | 70 => ⟨S4096x512, .f32⟩
  | 71 => ⟨S4096x512, .f32⟩
  | 72 => ⟨S4096x512, .f32⟩
  | 73 => ⟨S_, .f32⟩
  | 74 => ⟨S4096, .f32⟩
  | 75 => ⟨S4096x1, .f32⟩
  | 76 => ⟨S_, .f32⟩
  | 77 => ⟨S4096x1, .f32⟩
  | 78 => ⟨S4096x1, .f32⟩
  | 79 => ⟨S4096x512, .f32⟩
  | 80 => ⟨S4096x512, .f32⟩
  | 81 => ⟨S4096x512, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x1, .f32⟩
  | 92 => ⟨S4096x1, .f32⟩
  | 93 => ⟨S_, .f32⟩
  | 94 => ⟨S4096x1, .f32⟩
  | 95 => ⟨S4096x1, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S_, .f32⟩
  | 108 => ⟨S4096x512, .f32⟩
  | 109 => ⟨S4096x512, .f32⟩
  | 110 => ⟨S_, .f32⟩
  | 111 => ⟨S4096x512, .f32⟩
  | 112 => ⟨S4096x512, .f32⟩
  | 113 => ⟨S4096x512, .f32⟩
  | 114 => ⟨S4096x512, .f32⟩
  | 115 => ⟨S_, .f32⟩
  | 116 => ⟨S16x512, .f32⟩
  | 117 => ⟨S_, .f32⟩
  | 118 => ⟨S_, .f32⟩
  | 119 => ⟨S4096x512, .f32⟩
  | 120 => ⟨S4112x512, .f32⟩
  | 121 => ⟨S_, .f32⟩
  | 122 => ⟨S16x512, .f32⟩
  | 123 => ⟨S4096x128, .f32⟩
  | 124 => ⟨S4096x128, .f32⟩
  | 125 => ⟨S4096x128, .f32⟩
  | 126 => ⟨S4096x128, .f32⟩
  | 127 => ⟨S4096x512, .f32⟩
  | _ => ⟨S4096x1024, .f32⟩

abbrev hbmTy0_1 (i : Nat) : BufTy := match i % 128 with
  | 0 => ⟨S_, .i32⟩
  | 1 => ⟨S1x128, .i32⟩
  | 2 => ⟨S_, .i32⟩
  | 3 => ⟨S1x128, .i32⟩
  | 4 => ⟨S_, .i32⟩
  | 5 => ⟨S1x128, .i32⟩
  | 6 => ⟨S_, .i32⟩
  | 7 => ⟨S1x128, .i32⟩
  | 8 => ⟨S1x512, .i32⟩
  | 9 => ⟨S4096, .i32⟩
  | 10 => ⟨S_, .i32⟩
  | 11 => ⟨S4096, .i32⟩
  | 12 => ⟨S4096, .i32⟩
  | 13 => ⟨S4096x1, .i32⟩
  | 14 => ⟨S4096x512, .i32⟩
  | 15 => ⟨S4096x512, .i32⟩
  | 16 => ⟨S4096x512, .i32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S4096x4x128, .f32⟩
  | 23 => ⟨S4x128x4096, .f32⟩
  | 24 => ⟨S4096x4x128, .f32⟩
  | 25 => ⟨S4096x512, .f32⟩
  | 26 => ⟨S4096x512, .f32⟩
  | 27 => ⟨S4096x512, .f32⟩
  | 28 => ⟨S4096x1024, .f32⟩
  | 29 => ⟨S4096x1024, .f32⟩
  | 30 => ⟨S4096x1024, .f32⟩
  | 31 => ⟨S4096x512, .f32⟩
  | 32 => ⟨S4096x512, .f32⟩
  | 33 => ⟨S4096x512, .f32⟩
  | 34 => ⟨S_, .f32⟩
  | 35 => ⟨S512, .f32⟩
  | 36 => ⟨S1x512, .f32⟩
  | 37 => ⟨S4096x512, .f32⟩
  | 38 => ⟨S4096x512, .f32⟩
  | 39 => ⟨S4096x4x128, .f32⟩
  | 40 => ⟨S4x128x4096, .f32⟩
  | 41 => ⟨S4x4096x128, .f32⟩
  | 42 => ⟨S4096x4x128, .f32⟩
  | 43 => ⟨S4x128x128, .f32⟩
  | 44 => ⟨S4x128x128, .f32⟩
  | 45 => ⟨S4096x512, .f32⟩
  | 46 => ⟨S4096x512, .f32⟩
  | 47 => ⟨S4096x512, .f32⟩
  | 48 => ⟨S4096x512, .f32⟩
  | 49 => ⟨S_, .f32⟩
  | 50 => ⟨S4112x512, .f32⟩
  | 51 => ⟨S4096x128, .f32⟩
  | 52 => ⟨S4096x128, .f32⟩
  | 53 => ⟨S4096x128, .f32⟩
  | 54 => ⟨S4096x128, .f32⟩
  | 55 => ⟨S_, .f32⟩
  | 56 => ⟨S4112x512, .f32⟩
  | 57 => ⟨S4112x512, .f32⟩
  | 58 => ⟨S_, .f32⟩
  | 59 => ⟨S4112x512, .f32⟩
  | 60 => ⟨S4112x512, .f32⟩
  | 61 => ⟨S_, .f32⟩
  | 62 => ⟨S4112x512, .f32⟩
  | 63 => ⟨S4112x512, .f32⟩
  | 64 => ⟨S_, .f32⟩
  | 65 => ⟨S4112x512, .f32⟩
  | 66 => ⟨S4112x512, .f32⟩
  | 67 => ⟨S16x512, .f32⟩
  | 68 => ⟨S4096x512, .f32⟩
  | 69 => ⟨S_, .f32⟩
  | 70 => ⟨S_, .f32⟩
  | 71 => ⟨S4096x512, .f32⟩
  | 72 => ⟨S4096x512, .f32⟩
  | 73 => ⟨S4096x512, .f32⟩
  | 74 => ⟨S4096x512, .f32⟩
  | 75 => ⟨S4096x512, .f32⟩
  | 76 => ⟨S4096x512, .f32⟩
  | 77 => ⟨S_, .f32⟩
  | 78 => ⟨S512, .f32⟩
  | 79 => ⟨S1x512, .f32⟩
  | 80 => ⟨S4096x512, .f32⟩
  | 81 => ⟨S_, .f32⟩
  | 82 => ⟨S512, .f32⟩
  | 83 => ⟨S1x512, .f32⟩
  | 84 => ⟨S4096x512, .f32⟩
  | 85 => ⟨S4096x512, .f32⟩
  | 86 => ⟨S4096x512, .f32⟩
  | 87 => ⟨S_, .f32⟩
  | 88 => ⟨S4096, .f32⟩
  | 89 => ⟨S4096x1, .f32⟩
  | 90 => ⟨S4096x512, .f32⟩
  | 91 => ⟨S4096x512, .f32⟩
  | 92 => ⟨S4096x1, .f32⟩
  | 93 => ⟨S_, .f32⟩
  | 94 => ⟨S4096x1, .f32⟩
  | 95 => ⟨S4096x1, .f32⟩
  | 96 => ⟨S_, .f32⟩
  | 97 => ⟨S4096, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S4096x512, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x512, .f32⟩
  | 113 => ⟨S4096x512, .f32⟩
  | 114 => ⟨S_, .f32⟩
  | 115 => ⟨S512, .f32⟩
  | 116 => ⟨S1x512, .f32⟩
  | 117 => ⟨S31x4096x512, .f32⟩
  | 118 => ⟨S31x4096x512, .f32⟩
  | 119 => ⟨S_, .f32⟩
  | 120 => ⟨S31x512, .f32⟩
  | 121 => ⟨S31x1x512, .f32⟩
  | 122 => ⟨S31x4096x512, .f32⟩
  | 123 => ⟨S31x4096x512, .f32⟩
  | 124 => ⟨S_, .f32⟩
  | 125 => ⟨S31x512, .f32⟩
  | 126 => ⟨S_, .f32⟩
  | 127 => ⟨S31x4127x512, .f32⟩
  | _ => ⟨S4096x1024, .f32⟩

abbrev hbmTy0_2 (i : Nat) : BufTy := match i % 128 with
  | 0 => ⟨S127937x512, .f32⟩
  | 1 => ⟨S127906x512, .f32⟩
  | 2 => ⟨S31x512, .f32⟩
  | 3 => ⟨S31x4126x512, .f32⟩
  | 4 => ⟨S_, .f32⟩
  | 5 => ⟨S4126x512, .f32⟩
  | 6 => ⟨S1x4126x512, .f32⟩
  | 7 => ⟨S_, .f32⟩
  | 8 => ⟨S4126x512, .f32⟩
  | 9 => ⟨S30x512, .f32⟩
  | 10 => ⟨S4096x512, .f32⟩
  | 11 => ⟨S4096x512, .f32⟩
  | 12 => ⟨S4096x512, .f32⟩
  | 13 => ⟨S4096x512, .f32⟩
  | 14 => ⟨S4096x1536, .f32⟩
  | 15 => ⟨S4096x1024, .f32⟩
  | 16 => ⟨S4096x1024, .f32⟩
  | 17 => ⟨S_, .f32⟩
  | 18 => ⟨S1024, .f32⟩
  | 19 => ⟨S1x1024, .f32⟩
  | 20 => ⟨S4096x1024, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S4096x1024, .f32⟩
  | 27 => ⟨S4096x1024, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S_, .f32⟩
  | 40 => ⟨S7x1024, .f32⟩
  | 41 => ⟨S8x1024, .f32⟩
  | 42 => ⟨S_, .f32⟩
  | 43 => ⟨S1x512, .f32⟩
  | 44 => ⟨S_, .f32⟩
  | 45 => ⟨S4x512, .f32⟩
  | 46 => ⟨S40x512, .f32⟩
  | 47 => ⟨S4096x1536, .bf16⟩
  | 48 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_v73_2 : Ref sig .tc := ⟨.hbm, 109, rfl⟩
abbrev main_call0_cst_1 : Ref sig .tc := ⟨.hbm, 110, rfl⟩
abbrev main_call0_v6 : Ref sig .tc := ⟨.hbm, 111, rfl⟩
abbrev main_call0_v7 : Ref sig .tc := ⟨.hbm, 112, rfl⟩
abbrev main_v73_1 : Ref sig .tc := ⟨.hbm, 113, rfl⟩
abbrev main_v73_0 : Ref sig .tc := ⟨.hbm, 114, rfl⟩
abbrev main_cst_17 : Ref sig .tc := ⟨.hbm, 115, rfl⟩
abbrev main_v74 : Ref sig .tc := ⟨.hbm, 116, rfl⟩
abbrev main_call1_call0_cst : Ref sig .tc := ⟨.hbm, 117, rfl⟩
abbrev main_call1_call0_v0 : Ref sig .tc := ⟨.hbm, 118, rfl⟩
abbrev main_v75 : Ref sig .tc := ⟨.hbm, 119, rfl⟩
abbrev main_v76 : Ref sig .tc := ⟨.hbm, 120, rfl⟩
abbrev main_cst_18 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c : Ref sig .tc := ⟨.hbm, 128, rfl⟩
abbrev main_v83 : Ref sig .tc := ⟨.hbm, 129, rfl⟩
abbrev main_c_19 : Ref sig .tc := ⟨.hbm, 130, rfl⟩
abbrev main_v84 : Ref sig .tc := ⟨.hbm, 131, rfl⟩
abbrev main_c_20 : Ref sig .tc := ⟨.hbm, 132, rfl⟩
abbrev main_v85 : Ref sig .tc := ⟨.hbm, 133, rfl⟩
abbrev main_c_21 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_c_22 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_23 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_24 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_cst_25 : Ref sig .tc := ⟨.hbm, 183, rfl⟩
abbrev main_v131 : Ref sig .tc := ⟨.hbm, 184, rfl⟩
abbrev main_v132 : Ref sig .tc := ⟨.hbm, 185, rfl⟩
abbrev main_cst_26 : Ref sig .tc := ⟨.hbm, 186, rfl⟩
abbrev main_v133 : Ref sig .tc := ⟨.hbm, 187, rfl⟩
abbrev main_v134 : Ref sig .tc := ⟨.hbm, 188, rfl⟩
abbrev main_cst_27 : Ref sig .tc := ⟨.hbm, 189, rfl⟩
abbrev main_v135 : Ref sig .tc := ⟨.hbm, 190, rfl⟩
abbrev main_v136 : Ref sig .tc := ⟨.hbm, 191, rfl⟩
abbrev main_cst_28 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_call2_call0_cst : Ref sig .tc := ⟨.hbm, 197, rfl⟩
abbrev main_call2_call0_v0 : Ref sig .tc := ⟨.hbm, 198, rfl⟩
abbrev main_v141 : Ref sig .tc := ⟨.hbm, 199, rfl⟩
abbrev main_v142 : Ref sig .tc := ⟨.hbm, 200, rfl⟩
abbrev main_call3_v0 : Ref sig .tc := ⟨.hbm, 201, rfl⟩
abbrev main_call3_v1 : Ref sig .tc := ⟨.hbm, 202, rfl⟩
abbrev main_call3_v2 : Ref sig .tc := ⟨.hbm, 203, rfl⟩
abbrev main_v143 : Ref sig .tc := ⟨.hbm, 204, rfl⟩
abbrev main_cst_29 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_30 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_31 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_cst_32 : Ref sig .tc := ⟨.hbm, 221, rfl⟩
abbrev main_v157 : Ref sig .tc := ⟨.hbm, 222, rfl⟩
abbrev main_v158 : Ref sig .tc := ⟨.hbm, 223, rfl⟩
abbrev main_cst_33 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_cst_34 : Ref sig .tc := ⟨.hbm, 232, rfl⟩
abbrev main_v166 : Ref sig .tc := ⟨.hbm, 233, rfl⟩
abbrev main_v167 : Ref sig .tc := ⟨.hbm, 234, rfl⟩
abbrev main_cst_35 : Ref sig .tc := ⟨.hbm, 235, rfl⟩
abbrev main_v168 : Ref sig .tc := ⟨.hbm, 236, rfl⟩
abbrev main_v169 : Ref sig .tc := ⟨.hbm, 237, rfl⟩
abbrev main_cst_36 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_cst_37 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_cst_38 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_cst_39 : Ref sig .tc := ⟨.hbm, 252, rfl⟩
abbrev main_v181 : Ref sig .tc := ⟨.hbm, 253, rfl⟩
abbrev main_cst_40 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_cst_41 : Ref sig .tc := ⟨.hbm, 260, rfl⟩
abbrev main_v187 : Ref sig .tc := ⟨.hbm, 261, rfl⟩
abbrev main_v188 : Ref sig .tc := ⟨.hbm, 262, rfl⟩
abbrev main_cst_42 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_cst_43 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_cst_44 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_cst_45 : Ref sig .tc := ⟨.hbm, 285, rfl⟩
abbrev main_v208 : Ref sig .tc := ⟨.hbm, 286, rfl⟩
abbrev main_v209 : Ref sig .tc := ⟨.hbm, 287, rfl⟩
abbrev main_cst_46 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_cst_47 : Ref sig .tc := ⟨.hbm, 295, rfl⟩
abbrev main_v216 : Ref sig .tc := ⟨.hbm, 296, rfl⟩
abbrev main_v217 : Ref sig .tc := ⟨.hbm, 297, rfl⟩
abbrev main_cst_48 : Ref sig .tc := ⟨.hbm, 298, rfl⟩
abbrev main_v218 : Ref sig .tc := ⟨.hbm, 299, rfl⟩
abbrev main_cst_49 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S3x2816 : Shape := ⟨2, ![3, 2816]⟩
abbrev S2x2816 : Shape := ⟨2, ![2, 2816]⟩
abbrev S4098x2816 : Shape := ⟨2, ![4098, 2816]⟩
abbrev S2816 : Shape := ⟨1, ![2816]⟩
abbrev S8x2816 : Shape := ⟨2, ![8, 2816]⟩
abbrev S2816x1024 : Shape := ⟨2, ![2816, 1024]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S264x256 : Shape := ⟨2, ![264, 256]⟩
abbrev S2 : Shape := ⟨1, ![2]⟩
abbrev S1 : Shape := ⟨1, ![1]⟩
abbrev S256x256 : Shape := ⟨2, ![256, 256]⟩
abbrev S8x256 : Shape := ⟨2, ![8, 256]⟩
abbrev S1x256 : Shape := ⟨2, ![1, 256]⟩
abbrev S256 : Shape := ⟨1, ![256]⟩
abbrev S1024x256 : Shape := ⟨2, ![1024, 256]⟩
abbrev S256x1 : Shape := ⟨2, ![256, 1]⟩
abbrev S1024 : Shape := ⟨1, ![1024]⟩

abbrev nBuf : Space → Nat
  | .hbm => 67
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024x5632, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S3x2816, .f32⟩
  | .hbm, ⟨27, _⟩ => ⟨S_, .f32⟩
  | .hbm, ⟨28, _⟩ => ⟨S2x2816, .f32⟩
  | .hbm, ⟨29, _⟩ => ⟨S4098x2816, .f32⟩
  | .hbm, ⟨30, _⟩ => ⟨S4096x2816, .f32⟩
  | .hbm, ⟨31, _⟩ => ⟨S1x2816, .f32⟩
  | .hbm, ⟨32, _⟩ => ⟨S2816, .f32⟩
  | .hbm, ⟨33, _⟩ => ⟨S1x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S1x2816, .f32⟩
  | .hbm, ⟨38, _⟩ => ⟨S2816, .f32⟩
  | .hbm, ⟨39, _⟩ => ⟨S1x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S1x2816, .f32⟩
  | .hbm, ⟨45, _⟩ => ⟨S2816, .f32⟩
  | .hbm, ⟨46, _⟩ => ⟨S1x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S3x2816, .f32⟩
  | .hbm, ⟨53, _⟩ => ⟨S_, .i32⟩
  | .hbm, ⟨54, _⟩ => ⟨S_, .f32⟩
  | .hbm, ⟨55, _⟩ => ⟨S8x2816, .f32⟩
  | .hbm, ⟨56, _⟩ => ⟨S4096x1024, .bf16⟩
  | .hbm, ⟨57, _⟩ => ⟨S4096x5632, .bf16⟩
  | .hbm, ⟨58, _⟩ => ⟨S4096x2816, .bf16⟩
  | .hbm, ⟨59, _⟩ => ⟨S1024x5632, .f32⟩
  | .hbm, ⟨60, _⟩ => ⟨S1024x5632, .bf16⟩
  | .hbm, ⟨61, _⟩ => ⟨S2816x1024, .f32⟩
  | .hbm, ⟨62, _⟩ => ⟨S2816x1024, .bf16⟩
  | .hbm, ⟨63, _⟩ => ⟨S4096x5632, .bf16⟩
  | .hbm, ⟨64, _⟩ => ⟨S4096x1024, .bf16⟩
  | .hbm, ⟨65, _⟩ => ⟨S8x1024, .f32⟩
  | .hbm, ⟨66, _⟩ => ⟨S8x2816, .f32⟩
  | .local _ .vmem, ⟨0, _⟩ => ⟨S256x1024, .bf16⟩
  | .local _ .vmem, ⟨1, _⟩ => ⟨S256x1024, .bf16⟩
  | .local _ .vmem, ⟨2, _⟩ => ⟨S256x5632, .bf16⟩
  | .local _ .vmem, ⟨3, _⟩ => ⟨S256x5632, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S8x2816, .f32⟩
  | .local _ .vmem, ⟨10, _⟩ => ⟨S256x5632, .bf16⟩
  | .local _ .vmem, ⟨11, _⟩ => ⟨S256x5632, .bf16⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S8x2816, .f32⟩
  | .local _ .vmem, ⟨16, _⟩ => ⟨S1024x5632, .bf16⟩
  | .local _ .vmem, ⟨17, _⟩ => ⟨S2816x1024, .bf16⟩
  | .local _ .vmem, ⟨18, _⟩ => ⟨S264x256, .f32⟩
  | .local _ .vmem, ⟨19, _⟩ => ⟨S8x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_call0_v0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50_0 : Ref sig .tc := ⟨.hbm, 63, rfl⟩
abbrev main_v50_1 : Ref sig .tc := ⟨.hbm, 64, rfl⟩
abbrev main_v50_2 : Ref sig .tc := ⟨.hbm, 65, rfl⟩
abbrev main_v50_3 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRefIdeal.lean ====
abbrev S4096x1024 : Shape := ⟨2, ![4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S3x2816 : Shape := ⟨2, ![3, 2816]⟩
abbrev S4096x2816 : Shape := ⟨2, ![4096, 2816]⟩
abbrev S2x2816 : Shape := ⟨2, ![2, 2816]⟩
abbrev S4098x2816 : Shape := ⟨2, ![4098, 2816]⟩
abbrev S2816 : Shape := ⟨1, ![2816]⟩
abbrev S2816x1024 : Shape := ⟨2, ![2816, 1024]⟩
abbrev S1024 : Shape := ⟨1, ![1024]⟩
abbrev S6x1024 : Shape := ⟨2, ![6, 1024]⟩
abbrev S8x1024 : Shape := ⟨2, ![8, 1024]⟩
abbrev S4x2816 : Shape := ⟨2, ![4, 2816]⟩
abbrev S8x2816 : Shape := ⟨2, ![8, 2816]⟩

abbrev nBuf : Space → Nat
  | .hbm => 165
  | .vmem => 0
  | .smem => 0
  | _ => 0

abbrev hbmTy0_0 (i : Nat) : BufTy := match i % 128 with
  | 0 => ⟨S4096x1024, .f32⟩
  | 1 => ⟨S1x1024, .f32⟩
  | 2 => ⟨S1x1024x5632, .f32⟩
  | 3 => ⟨S1x3x2816, .f32⟩
  | 4 => ⟨S1x2816, .f32⟩
  | 5 => ⟨S1x2816x1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S4096x1024, .f32⟩
  | 25 => ⟨S4096x1024, .f32⟩
  | 26 => ⟨S1024x5632, .f32⟩
  | 27 => ⟨S4096x5632, .f32⟩
  | 28 => ⟨S3x2816, .f32⟩
  | 29 => ⟨S4096x2816, .f32⟩
  | 30 => ⟨S4096x2816, .f32⟩
  | 31 => ⟨S_, .f32⟩
  | 32 => ⟨S2x2816, .f32⟩
  | 33 => ⟨S4098x2816, .f32⟩
  | 34 => ⟨S_, .f32⟩
  | 35 => ⟨S2x2816, .f32⟩
  | 36 => ⟨S4096x2816, .f32⟩
  | 37 => ⟨S1x2816, .f32⟩
  | 38 => ⟨S2816, .f32⟩
  | 39 => ⟨S1x2816, .f32⟩
  | 40 => ⟨S4096x2816, .f32⟩
  | 41 => ⟨S4096x2816, .f32⟩
  | 42 => ⟨S4096x2816, .f32⟩
  | 43 => ⟨S1x2816, .f32⟩
  | 44 => ⟨S2816, .f32⟩
  | 45 => ⟨S1x2816, .f32⟩
  | 46 => ⟨S4096x2816, .f32⟩
  | 47 => ⟨S4096x2816, .f32⟩
  | 48 => ⟨S4096x2816, .f32⟩
  | 49 => ⟨S4096x2816, .f32⟩
  | 50 => ⟨S1x2816, .f32⟩
  | 51 => ⟨S2816, .f32⟩
  | 52 => ⟨S1x2816, .f32⟩
  | 53 => ⟨S4096x2816, .f32⟩
  | 54 => ⟨S4096x2816, .f32⟩
  | 55 => ⟨S4096x2816, .f32⟩
  | 56 => ⟨S4096x2816, .f32⟩
  | 57 => ⟨S4096x2816, .f32⟩
  | 58 => ⟨S4096x2816, .f32⟩
  | 59 => ⟨S4096x2816, .f32⟩
  | 60 => ⟨S_, .f32⟩
  | 61 => ⟨S4096x2816, .f32⟩
  | 62 => ⟨S4096x2816, .f32⟩
  | 63 => ⟨S_, .f32⟩
  | 64 => ⟨S4096x2816, .f32⟩
  | 65 => ⟨S4096x2816, .f32⟩
  | 66 => ⟨S_, .f32⟩
  | 67 => ⟨S4096x2816, .f32⟩
  | 68 => ⟨S4096x2816, .f32⟩
  | 69 => ⟨S4096x2816, .f32⟩
  | 70 => ⟨S4096x2816, .f32⟩
  | 71 => ⟨S4096x2816, .f32⟩
  | 72 => ⟨S2816x1024, .f32⟩
  | 73 => ⟨S4096x1024, .f32⟩
  | 74 => ⟨S4096x2816, .f32⟩
  | 75 => ⟨S4096x2816, .f32⟩
  | 76 => ⟨S4096x2816, .f32⟩
  | 77 => ⟨S4096x2816, .f32⟩
  | 78 => ⟨S4096x2816, .f32⟩
  | 79 => ⟨S4096x2816, .f32⟩
  | 80 => ⟨S4096x2816, .f32⟩
  | 81 => ⟨S_, .f32⟩
  | 82 => ⟨S2816, .f32⟩
  | 83 => ⟨S1x2816, .f32⟩
  | 84 => ⟨S4096x2816, .f32⟩
  | 85 => ⟨S_, .f32⟩
  | 86 => ⟨S2816, .f32⟩
  | 87 => ⟨S1x2816, .f32⟩
  | 88 => ⟨S4096x2816, .f32⟩
  | 89 => ⟨S4096x2816, .f32⟩
  | 90 => ⟨S_, .f32⟩
  | 91 => ⟨S2816, .f32⟩
  | 92 => ⟨S1x2816, .f32⟩
  | 93 => ⟨S_, .f32⟩
  | 94 => ⟨S3x2816, .f32⟩
  | 95 => ⟨S_, .f32⟩
  | 96 => ⟨S4098x2816, .f32⟩
  | 97 => ⟨S4096x2816, .f32⟩
  | 98 => ⟨S_, .f32⟩
  | 99 => ⟨S2816, .f32⟩
  | 100 => ⟨S1x2816, .f32⟩
  | 101 => ⟨S4096x2816, .f32⟩
  | 102 => ⟨S4096x2816, .f32⟩
  | 103 => ⟨S_, .f32⟩
  | 104 => ⟨S2816, .f32⟩
  | 105 => ⟨S1x2816, .f32⟩
  | 106 => ⟨S_, .f32⟩
  | 107 => ⟨S3x2816, .f32⟩
  | 108 => ⟨S3x2816, .f32⟩
  | 109 => ⟨S_, .f32⟩
  | 110 => ⟨S4098x2816, .f32⟩
  | 111 => ⟨S4098x2816, .f32⟩
  | 112 => ⟨S4096x2816, .f32⟩
  | 113 => ⟨S_, .f32⟩
  | 114 => ⟨S2816, .f32⟩
  | 115 => ⟨S1x2816, .f32⟩
  | 116 => ⟨S4096x2816, .f32⟩
  | 117 => ⟨S4096x2816, .f32⟩
  | 118 => ⟨S_, .f32⟩
  | 119 => ⟨S2816, .f32⟩
  | 120 => ⟨S1x2816, .f32⟩
  | 121 => ⟨S_, .f32⟩
  | 122 => ⟨S3x2816, .f32⟩
  | 123 => ⟨S3x2816, .f32⟩
  | 124 => ⟨S_, .f32⟩
  | 125 => ⟨S4098x2816, .f32⟩
  | 126 => ⟨S4098x2816, .f32⟩
  | 127 => ⟨S2x2816, .f32⟩
  | _ => ⟨S4096x1024, .f32⟩

abbrev hbmTy0_1 (i : Nat) : BufTy := match i % 128 with
  | 0 => ⟨S4096x2816, .f32⟩
  | 1 => ⟨S4096x5632, .f32⟩
  | 2 => ⟨S4096x1024, .f32⟩
  | 3 => ⟨S4096x1024, .f32⟩
  | 4 => ⟨S_, .f32⟩
  | 5 => ⟨S1024, .f32⟩
  | 6 => ⟨S1x1024, .f32⟩
  | 7 => ⟨S4096x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S4096x1024, .f32⟩
  | 14 => ⟨S4096x1024, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S1x1024, .f32⟩
  | 28 => ⟨S_, .f32⟩
  | 29 => ⟨S6x1024, .f32⟩
  | 30 => ⟨S8x1024, .f32⟩
  | 31 => ⟨S_, .f32⟩
  | 32 => ⟨S4x2816, .f32⟩
  | 33 => ⟨S8x2816, .f32⟩
  | 34 => ⟨S4096x5632, .bf16⟩
  | 35 => ⟨S4096x1024, .f32⟩
  | 36 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v45_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v45_1 : Ref sig .tc := ⟨.hbm, 69, rfl⟩
abbrev main_v45_0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_6 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_cst_8 : Ref sig .tc := ⟨.hbm, 93, rfl⟩
abbrev main_v62 : Ref sig .tc := ⟨.hbm, 94, rfl⟩
abbrev main_cst_9 : Ref sig .tc := ⟨.hbm, 95, rfl⟩
abbrev main_v63 : Ref sig .tc := ⟨.hbm, 96, rfl⟩
abbrev main_v64 : Ref sig .tc := ⟨.hbm, 97, rfl⟩
abbrev main_cst_10 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_cst_12 : Ref sig .tc := ⟨.hbm, 106, rfl⟩
abbrev main_v71 : Ref sig .tc := ⟨.hbm, 107, rfl⟩
abbrev main_v72 : Ref sig .tc := ⟨.hbm, 108, rfl⟩
abbrev main_cst_13 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_14 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_15 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_19 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_20 : Ref sig .tc := ⟨.hbm, 144, rfl⟩
abbrev main_v101 : Ref sig .tc := ⟨.hbm, 145, rfl⟩
abbrev main_v102 : Ref sig .tc := ⟨.hbm, 146, rfl⟩
abbrev main_cst_21 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_22 : Ref sig .tc := ⟨.hbm, 154, rfl⟩
abbrev main_v109 : Ref sig .tc := ⟨.hbm, 155, rfl⟩
abbrev main_cst_23 : Ref sig .tc := ⟨.hbm, 156, rfl⟩
abbrev main_v110 : Ref sig .tc := ⟨.hbm, 157, rfl⟩
abbrev main_v111 : Ref sig .tc := ⟨.hbm, 158, rfl⟩
abbrev main_cst_24 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩

abbrev nD : Nat := 1
abbrev τ : Topo := Topo.v7x

variable {F : FTy → Type} [FloatOps F]
-- ==== Up.lean ====
abbrev S4096x1024 : Shape := ⟨2, ![4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S3x2816 : Shape := ⟨2, ![3, 2816]⟩
abbrev S_ : Shape := ⟨0, ![]⟩
abbrev S8x2816 : Shape := ⟨2, ![8, 2816]⟩
abbrev S1024x5632 : Shape := ⟨2, ![1024, 5632]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S520x2816 : Shape := ⟨2, ![520, 2816]⟩
abbrev S1 : Shape := ⟨1, ![1]⟩
abbrev S512 : Shape := ⟨1, ![512]⟩
abbrev S512x1 : Shape := ⟨2, ![512, 1]⟩
abbrev S1024x2816 : Shape := ⟨2, ![1024, 2816]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S3x2816, .f32⟩
  | .hbm, ⟨6, _⟩ => ⟨S_, .i32⟩
  | .hbm, ⟨7, _⟩ => ⟨S_, .f32⟩
  | .hbm, ⟨8, _⟩ => ⟨S8x2816, .f32⟩
  | .hbm, ⟨9, _⟩ => ⟨S1024x5632, .f32⟩
  | .hbm, ⟨10, _⟩ => ⟨S1024x5632, .bf16⟩
  | .hbm, ⟨11, _⟩ => ⟨S4096x1024, .bf16⟩
  | .hbm, ⟨12, _⟩ => ⟨S4096x5632, .bf16⟩
  | .hbm, ⟨13, _⟩ => ⟨S4096x2816, .bf16⟩
  | .hbm, ⟨14, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x2816, .f32⟩
  | .local _ .vmem, ⟨4, _⟩ => ⟨S1x2816, .f32⟩
  | .local _ .vmem, ⟨5, _⟩ => ⟨S512x1024, .bf16⟩
  | .local _ .vmem, ⟨6, _⟩ => ⟨S512x1024, .bf16⟩
  | .local _ .vmem, ⟨7, _⟩ => ⟨S512x5632, .bf16⟩
  | .local _ .vmem, ⟨8, _⟩ => ⟨S512x5632, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S1024x5632, .bf16⟩
  | .local _ .vmem, ⟨14, _⟩ => ⟨S520x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpRefIdeal.lean ====
abbrev S4096x1024 : Shape := ⟨2, ![4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S3x2816 : Shape := ⟨2, ![3, 2816]⟩
abbrev S2x2816 : Shape := ⟨2, ![2, 2816]⟩
abbrev S4098x2816 : Shape := ⟨2, ![4098, 2816]⟩
abbrev S2816 : Shape := ⟨1, ![2816]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x5632, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S3x2816, .f32⟩
  | .hbm, ⟨25, _⟩ => ⟨S_, .f32⟩
  | .hbm, ⟨26, _⟩ => ⟨S2x2816, .f32⟩
  | .hbm, ⟨27, _⟩ => ⟨S4098x2816, .f32⟩
  | .hbm, ⟨28, _⟩ => ⟨S4096x2816, .f32⟩
  | .hbm, ⟨29, _⟩ => ⟨S1x2816, .f32⟩
  | .hbm, ⟨30, _⟩ => ⟨S2816, .f32⟩
  | .hbm, ⟨31, _⟩ => ⟨S1x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x2816, .f32⟩
  | .hbm, ⟨36, _⟩ => ⟨S2816, .f32⟩
  | .hbm, ⟨37, _⟩ => ⟨S1x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S1x2816, .f32⟩
  | .hbm, ⟨43, _⟩ => ⟨S2816, .f32⟩
  | .hbm, ⟨44, _⟩ => ⟨S1x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S_, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x1024, .bf16⟩
  | .hbm, ⟨61, _⟩ => ⟨S4096x5632, .bf16⟩
  | .hbm, ⟨62, _⟩ => ⟨S4096x2816, .bf16⟩
  | .hbm, ⟨63, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Fwd.lean ====
abbrev S4096x1024 : Shape := ⟨2, ![4096, 1024]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S31x512 : Shape := ⟨2, ![31, 512]⟩
abbrev S_ : Shape := ⟨0, ![]⟩
abbrev S32x512 : Shape := ⟨2, ![32, 512]⟩
abbrev S1024x1536 : Shape := ⟨2, ![1024, 1536]⟩
abbrev S1024x1024 : Shape := ⟨2, ![1024, 1024]⟩
abbrev S4x128x128 : Shape := ⟨3, ![4, 128, 128]⟩
abbrev S4096x1536 : Shape := ⟨2, ![4096, 1536]⟩
abbrev S4096x512 : Shape := ⟨2, ![4096, 512]⟩
abbrev S512x1024 : Shape := ⟨2, ![512, 1024]⟩
abbrev S512x1536 : Shape := ⟨2, ![512, 1536]⟩
abbrev S512x512 : Shape := ⟨2, ![512, 512]⟩
abbrev S544x512 : Shape := ⟨2, ![544, 512]⟩
abbrev S7x536x512 : Shape := ⟨3, ![7, 536, 512]⟩
abbrev S528x512 : Shape := ⟨2, ![528, 512]⟩
abbrev S3 : Shape := ⟨1, ![3]⟩
abbrev S1 : Shape := ⟨1, ![1]⟩
abbrev S16x512 : Shape := ⟨2, ![16, 512]⟩
abbrev S512 : Shape := ⟨1, ![512]⟩
abbrev S512x1 : Shape := ⟨2, ![512, 1]⟩
abbrev S536x512 : Shape := ⟨2, ![536, 512]⟩
abbrev S1x536x512 : Shape := ⟨3, ![1, 536, 512]⟩
abbrev S1x512x512 : Shape := ⟨3, ![1, 512, 512]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 25
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1536, .f32⟩
  | .hbm, ⟨3, _⟩ => ⟨S1x31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x128x128, .f32⟩
  | .hbm, ⟨8, _⟩ => ⟨S1x512, .f32⟩
  | .hbm, ⟨9, _⟩ => ⟨S1x1024x1024, .f32⟩
  | .hbm, ⟨10, _⟩ => ⟨S31x512, .f32⟩
  | .hbm, ⟨11, _⟩ => ⟨S_, .i32⟩
  | .hbm, ⟨12, _⟩ => ⟨S_, .f32⟩
  | .hbm, ⟨13, _⟩ => ⟨S32x512, .f32⟩
  | .hbm, ⟨14, _⟩ => ⟨S1024x1536, .f32⟩
  | .hbm, ⟨15, _⟩ => ⟨S1024x1536, .bf16⟩
  | .hbm, ⟨16, _⟩ => ⟨S1024x1024, .f32⟩
  | .hbm, ⟨17, _⟩ => ⟨S1024x1024, .bf16⟩
  | .hbm, ⟨18, _⟩ => ⟨S4x128x128, .f32⟩
  | .hbm, ⟨19, _⟩ => ⟨S4096x1024, .bf16⟩
  | .hbm, ⟨20, _⟩ => ⟨S4096x1536, .bf16⟩
  | .hbm, ⟨21, _⟩ => ⟨S4096x512, .bf16⟩
  | .hbm, ⟨22, _⟩ => ⟨S4096x512, .bf16⟩
  | .hbm, ⟨23, _⟩ => ⟨S4096x1024, .bf16⟩
  | .hbm, ⟨24, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S512x1536, .bf16⟩
  | .local _ .vmem, ⟨11, _⟩ => ⟨S512x1536, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1024x1536, .bf16⟩
  | .local _ .vmem, ⟨21, _⟩ => ⟨S1024x1024, .bf16⟩
  | .local _ .vmem, ⟨22, _⟩ => ⟨S32x512, .f32⟩
  | .local _ .vmem, ⟨23, _⟩ => ⟨S544x512, .f32⟩
  | .local _ .vmem, ⟨24, _⟩ => ⟨S7x536x512, .f32⟩
  | .local _ .vmem, ⟨25, _⟩ => ⟨S528x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FwdRefIdeal.lean ====
abbrev S4096x1024 : Shape := ⟨2, ![4096, 1024]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S_ : Shape := ⟨0, ![]⟩
abbrev S4096 : Shape := ⟨1, ![4096]⟩
abbrev S4096x1 : Shape := ⟨2, ![4096, 1]⟩
abbrev S1024x1536 : Shape := ⟨2, ![1024, 1536]⟩
abbrev S4096x1536 : Shape := ⟨2, ![4096, 1536]⟩
abbrev S4096x512 : Shape := ⟨2, ![4096, 512]⟩
abbrev S31x512 : Shape := ⟨2, ![31, 512]⟩
abbrev S30x512 : Shape := ⟨2, ![30, 512]⟩
abbrev S4126x512 : Shape := ⟨2, ![4126, 512]⟩
abbrev S1x4126x512 : Shape := ⟨3, ![1, 4126, 512]⟩
abbrev S31x4126x512 : Shape := ⟨3, ![31, 4126, 512]⟩
abbrev S127906x512 : Shape := ⟨2, ![127906, 512]⟩
abbrev S127937x512 : Shape := ⟨2, ![127937, 512]⟩
abbrev S31x4127x512 : Shape := ⟨3, ![31, 4127, 512]⟩
abbrev S31x4096x512 : Shape := ⟨3, ![31, 4096, 512]⟩
abbrev S31x1x512 : Shape := ⟨3, ![31, 1, 512]⟩
abbrev S16x512 : Shape := ⟨2, ![16, 512]⟩
abbrev S4112x512 : Shape := ⟨2, ![4112, 512]⟩
abbrev S4096x128 : Shape := ⟨2, ![4096, 128]⟩
abbrev S1x128 : Shape := ⟨2, ![1, 128]⟩
abbrev S4096x4x128 : Shape := ⟨3, ![4096, 4, 128]⟩
abbrev S4x128x128 : Shape := ⟨3, ![4, 128, 128]⟩
abbrev S4x128x4096 : Shape := ⟨3, ![4, 128, 4096]⟩
abbrev S1024x1024 : Shape := ⟨2, ![1024, 1024]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S1x1024, .f32⟩
  | 2 => ⟨S1x1024x1536, .f32⟩
  | 3 => ⟨S1x31x512, .f32⟩
  | 4 => ⟨S1x512, .f32⟩
  | 5 => ⟨S1x512, .f32⟩
  | 6 => ⟨S1x512, .f32⟩
  | 7 => ⟨S1x4x128x128, .f32⟩
  | 8 => ⟨S1x512, .f32⟩
  | 9 => ⟨S1x1024x1024, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S1024x1536, .f32⟩
  | 26 => ⟨S4096x1536, .f32⟩
  | 27 => ⟨S4096x512, .f32⟩
  | 28 => ⟨S4096x512, .f32⟩
  | 29 => ⟨S4096x512, .f32⟩
  | 30 => ⟨S31x512, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S_, .f32⟩
  | 41 => ⟨S30x512, .f32⟩
  | 42 => ⟨S4126x512, .f32⟩
  | 43 => ⟨S1x4126x512, .f32⟩
  | 44 => ⟨S31x4126x512, .f32⟩
  | 45 => ⟨S127906x512, .f32⟩
  | 46 => ⟨S_, .f32⟩
  | 47 => ⟨S31x512, .f32⟩
  | 48 => ⟨S127937x512, .f32⟩
  | 49 => ⟨S31x4127x512, .f32⟩
  | 50 => ⟨S31x4096x512, .f32⟩
  | 51 => ⟨S31x1x512, .f32⟩
  | 52 => ⟨S31x4096x512, .f32⟩
  | 53 => ⟨S31x4096x512, .f32⟩
  | 54 => ⟨S_, .f32⟩
  | 55 => ⟨S4096x512, .f32⟩
  | 56 => ⟨S4096x512, .f32⟩
  | 57 => ⟨S4096x512, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S4096x512, .f32⟩
  | 65 => ⟨S4096x512, .f32⟩
  | 66 => ⟨S4096x512, .f32⟩
  | 67 => ⟨S_, .f32⟩
  | 68 => ⟨S4096, .f32⟩
  | 69 => ⟨S4096x1, .f32⟩
  | 70 => ⟨S_, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S4096x512, .f32⟩
  | 92 => ⟨S_, .f32⟩
  | 93 => ⟨S16x512, .f32⟩
  | 94 => ⟨S_, .f32⟩
  | 95 => ⟨S_, .f32⟩
  | 96 => ⟨S4096x512, .f32⟩
  | 97 => ⟨S4112x512, .f32⟩
  | 98 => ⟨S4096x128, .f32⟩
  | 99 => ⟨S4096x128, .f32⟩
  | 100 => ⟨S4096x128, .f32⟩
  | 101 => ⟨S4096x128, .f32⟩
  | 102 => ⟨S4096x512, .f32⟩
  | 103 => ⟨S_, .i32⟩
  | 104 => ⟨S1x128, .i32⟩
  | 105 => ⟨S_, .i32⟩
  | 106 => ⟨S1x128, .i32⟩
  | 107 => ⟨S_, .i32⟩
  | 108 => ⟨S1x128, .i32⟩
  | 109 => ⟨S_, .i32⟩
  | 110 => ⟨S1x128, .i32⟩
  | 111 => ⟨S1x512, .i32⟩
  | 112 => ⟨S4096, .i32⟩
  | 113 => ⟨S_, .i32⟩
  | 114 => ⟨S4096, .i32⟩
  | 115 => ⟨S4096, .i32⟩
  | 116 => ⟨S4096x1, .i32⟩
  | 117 => ⟨S4096x512, .i32⟩
  | 118 => ⟨S4096x512, .i32⟩
  | 119 => ⟨S4096x512, .i32⟩
  | 120 => ⟨S4096x512, .f32⟩
  | 121 => ⟨S4096x512, .f32⟩
  | 122 => ⟨S4096x512, .f32⟩
  | 123 => ⟨S4096x512, .f32⟩
  | 124 => ⟨S4096x512, .f32⟩
  | 125 => ⟨S4096x4x128, .f32⟩
  | 126 => ⟨S4x128x128, .f32⟩
  | 127 => ⟨S4x128x4096, .f32⟩
  | _ => ⟨S4096x1024, .f32⟩

abbrev hbmTy0_1 (i : Nat) : BufTy := match i % 128 with
  | 0 => ⟨S4096x4x128, .f32⟩
  | 1 => ⟨S4096x512, .f32⟩
  | 2 => ⟨S4096x512, .f32⟩
  | 3 => ⟨S4096x512, .f32⟩
  | 4 => ⟨S4096x1024, .f32⟩
  | 5 => ⟨S4096x1024, .bf16⟩
  | 6 => ⟨S4096x1536, .bf16⟩
  | 7 => ⟨S4096x512, .bf16⟩
  | 8 => ⟨S4096x512, .bf16⟩
  | 9 => ⟨S4096x1024, .bf16⟩
  | 10 => ⟨S1024x1024, .f32⟩
  | 11 => ⟨S4096x1024, .f32⟩
  | 12 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_call1_call0_cst : Ref sig .tc := ⟨.hbm, 94, rfl⟩
abbrev main_call1_call0_v0 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c : Ref sig .tc := ⟨.hbm, 103, rfl⟩
abbrev main_v69 : Ref sig .tc := ⟨.hbm, 104, rfl⟩
abbrev main_c_13 : Ref sig .tc := ⟨.hbm, 105, rfl⟩
abbrev main_v70 : Ref sig .tc := ⟨.hbm, 106, rfl⟩
abbrev main_c_14 : Ref sig .tc := ⟨.hbm, 107, rfl⟩
abbrev main_v71 : Ref sig .tc := ⟨.hbm, 108, rfl⟩
abbrev main_c_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩

abbrev nD : Nat := 1
abbrev τ : Topo := Topo.v7x

variable {F : FTy → Type} [FloatOps F]
-- ==== Pair.lean ====
abbrev S2x4x128x1024 : Shape := ⟨4, ![2, 4, 128, 1024]⟩
abbrev S4x128x1024 : Shape := ⟨3, ![4, 128, 1024]⟩
abbrev S1 : Shape := ⟨1, ![1]⟩
abbrev S_ : Shape := ⟨0, ![]⟩
abbrev S1x4x128x1024 : Shape := ⟨4, ![1, 4, 128, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2x4x128x1024, .bf16⟩
  | .hbm, ⟨1, _⟩ => ⟨S4x128x1024, .bf16⟩
  | _, _ => ⟨S2x4x128x1024, .bf16⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => true
  | ⟨1, _⟩ => true
  | _ => false

abbrev sig : RefSig :=
  (ofTc nBuf bufTy 1 2 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 2
abbrev τ : Topo := Topo.v7x

variable {F : FTy → Type} [FloatOps F]

abbrev grid0 : Pipeline.Grid := .none

def k0_dev1 (d0 : Dev nD) : Nat :=
  let c0_i32 : BitVec 32 := 0#32
  let c1_i32_4 : BitVec 32 := 1#32
  let v5 : BitVec 32 := Dev.word d0
  let c1_i32_3 : BitVec 32 := 1#32
  let v6 : BitVec 32 := Scalar.divsi v5 c1_i32_3
  let c2_i32_2 : BitVec 32 := 2#32
  let v7 : BitVec 32 := Scalar.remsi v6 c2_i32_2
  let v8 : BitVec 32 := Scalar.subi c1_i32_4 v7
  let c1_i32_6 : BitVec 32 := 1#32
  let v10 : BitVec 32 := Scalar.muli v8 c1_i32_6
  let v11 : BitVec 32 := Scalar.addi c0_i32 v10
  v11.toNat
def k0_off1 (d0 : Dev nD) : Fin 4 → Nat :=
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c0_i32_12 : BitVec 32 := 0#32
  let c0_i32_13 : BitVec 32 := 0#32
  let c0_i32_14 : BitVec 32 := 0#32
  ![v3.toNat, 0, 0, 0]
def k0_dev2 (d0 : Dev nD) : Nat :=
  let c0_i32_11 : BitVec 32 := 0#32
  let c1_i32_1 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v4 : BitVec 32 := Scalar.subi c1_i32_1 v2
  let c1_i32_10 : BitVec 32 := 1#32
  let v12 : BitVec 32 := Scalar.muli v4 c1_i32_10
  let v13 : BitVec 32 := Scalar.addi c0_i32_11 v12
  v13.toNat
-- ==== PairRefIdeal.lean ====
abbrev S4x4x128x1024 : Shape := ⟨4, ![4, 4, 128, 1024]⟩
abbrev S2x2x4x128x1024 : Shape := ⟨5, ![2, 2, 4, 128, 1024]⟩
abbrev S1x1x4x128x1024 : Shape := ⟨5, ![1, 1, 4, 128, 1024]⟩
abbrev S4x128x1024 : Shape := ⟨3, ![4, 128, 1024]⟩
abbrev S8x128x1024 : Shape := ⟨3, ![8, 128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x4x128x1024, .bf16⟩
  | .hbm, ⟨1, _⟩ => ⟨S2x2x4x128x1024, .bf16⟩
  | .hbm, ⟨2, _⟩ => ⟨S1x1x4x128x1024, .bf16⟩
  | .hbm, ⟨3, _⟩ => ⟨S4x128x1024, .bf16⟩
  | .hbm, ⟨4, _⟩ => ⟨S1x1x4x128x1024, .bf16⟩
  | .hbm, ⟨5, _⟩ => ⟨S4x128x1024, .bf16⟩
  | .hbm, ⟨6, _⟩ => ⟨S8x128x1024, .bf16⟩
  | _, _ => ⟨S4x4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Proof.Reals.lean ====
/- Arrays of extended reals that hold real numbers. `Rep1`, `Rep2` say that every element of an array is
   the real number a table gives at the element's coordinates; the lemmas below carry that through the
   operations the kernels and their references use, so a program over finite arguments is read as a
   program over the reals. Tables are functions of natural numbers: a shifted or windowed row needs no
   bound in its statement. -/
module

public import Idealize.ShloMosaic.Lib.Pipeline.Value
public import Idealize.ShloMosaic.Lib.ValueIdx
public import Idealize.ShloMosaic.Lib.MatmulPlain
public import Idealize.ShloMosaic.Lib.ValueLayout
public import Idealize.ShloMosaic.Lib.WritesUnit
public import Idealize.ShloMosaic.PureOps.Ideal.Laws

@[expose] public section

noncomputable section

namespace Cert.Reals

open Idealize.ShloMosaic Idealize.ShloMosaic.ValueIdx
open scoped BigOperators

/-- A sum of real numbers, taken in the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The sums of consecutive blocks of `B` terms make the sum of all of them. -/
theorem sum_blocks (B : ℕ) (f : ℕ → ℝ) (n : ℕ) :
    ∑ s ∈ Finset.range n, ∑ k ∈ Finset.range B, f (B * s + k) = ∑ k ∈ Finset.range (B * n), f k := by
  induction n with
  | zero => simp
  | succ n ih => rw [Finset.sum_range_succ, ih, Nat.mul_succ, Finset.sum_range_add]

/-- The quotient of two reals, the second not zero. -/
theorem div_coe' (x y : ℝ) (h : y ≠ 0) : Ideal.div (x : EReal) (y : EReal) = ((x / y : ℝ) : EReal) := by
  rw [Ideal.div_coe h, ← EReal.coe_mul]; congr 1; ring

/-- The reciprocal square root of a positive real. -/
theorem rsqrt_coe' (x : ℝ) (h : 0 < x) : Ideal.rsqrt (x : EReal) = (((Real.sqrt x)⁻¹ : ℝ) : EReal) := by
  rw [Ideal.rsqrt_coe, if_neg (not_lt.mpr h.le), if_neg h.ne']

/-- The literal 1024. -/
theorem lit_1024 : Ideal.ofBits .f32 0x44800000#32 = ((1024 : ℝ) : EReal) := by
  simp [Ideal.ofBits, Ideal.ieee, -EReal.coe_mul]; norm_num
/-- The literal one half. -/
theorem lit_half : Ideal.ofBits .f32 0x3F000000#32 = ((1 / 2 : ℝ) : EReal) := by
  simp [Ideal.ofBits, Ideal.ieee, -EReal.coe_mul]; norm_num
/-- The literal minus one half. -/
theorem lit_neg_half : Ideal.ofBits .f32 0xBF000000#32 = ((-(1 / 2) : ℝ) : EReal) := by
  simp [Ideal.ofBits, Ideal.ieee, -EReal.coe_mul]; norm_num
/-- The literal 2. -/
theorem lit_two : Ideal.ofBits .f32 0x40000000#32 = ((2 : ℝ) : EReal) := by
  simp [Ideal.ofBits, Ideal.ieee, -EReal.coe_mul]; norm_num
/-- The literal 1. -/
theorem lit_one : Ideal.ofBits .f32 0x3F800000#32 = ((1 : ℝ) : EReal) := by
  simp [Ideal.ofBits, Ideal.ieee, -EReal.coe_mul]; norm_num
/-- The literal 0. -/
theorem lit_zero : Ideal.ofBits .f32 0x00000000#32 = ((0 : ℝ) : EReal) := by
  rw [Ideal.ofBits_zero_f32]; rfl
/-- The number the norms add to a mean square: the `f32` nearest a millionth. -/
def eps : ℝ := 8796093 / 8796093022208
theorem eps_pos : 0 < eps := by unfold eps; norm_num
theorem lit_eps : Ideal.ofBits .f32 0x358637BD#32 = ((eps : ℝ) : EReal) := by
  unfold eps
  simp [Ideal.ofBits, Ideal.ieee, -EReal.coe_mul]; norm_num
/-- The literal plus infinity. -/
theorem lit_top : Ideal.ofBits .f32 0x7F800000#32 = ⊤ := by
  simp [Ideal.ofBits, Ideal.ieee]

variable {a b n : ℕ} {φ ψ : FTy}

/-- The rank-one array `x` holds the table `X`. -/
def Rep1 (x : (⟨1, ![a]⟩ : Shape).Idx → EReal) (X : ℕ → ℝ) : Prop := ∀ i, x i = ((X (i 0).val : ℝ) : EReal)
/-- The rank-two array `x` holds the table `X`. -/
def Rep2 (x : (⟨2, ![a, b]⟩ : Shape).Idx → EReal) (X : ℕ → ℕ → ℝ) : Prop :=
  ∀ i, x i = ((X (i 0).val (i 1).val : ℝ) : EReal)

/-- Below infinity in absolute value: a real number. -/
theorem coe_of_abs_lt {x : EReal} (h : Ideal.cmp .olt (max x (-x)) ⊤ = 1#1) : x = ((x.toReal : ℝ) : EReal) := by
  induction x with
  | bot => simp [Ideal.cmp] at h
  | top => simp [Ideal.cmp] at h
  | coe r => rfl

/-- The table a finite rank-two array holds. -/
def tab2 (x : (⟨2, ![a, b]⟩ : Shape).Idx → EReal) (r j : ℕ) : ℝ :=
  if h : r < a ∧ j < b then (x (ix2 ⟨r, h.1⟩ ⟨j, h.2⟩)).toReal else 0
/-- The table a finite rank-one array holds. -/
def tab1 (x : (⟨1, ![a]⟩ : Shape).Idx → EReal) (j : ℕ) : ℝ :=
  if h : j < a then (x (ix1 ⟨j, h⟩)).toReal else 0

theorem rep2_tab2 {x : (⟨2, ![a, b]⟩ : Shape).Idx → EReal} (h : ∀ i, x i = (((x i).toReal : ℝ) : EReal)) : Rep2 x (tab2 x) := by
  intro i
  unfold tab2
  rw [dif_pos ⟨(i 0).isLt, (i 1).isLt⟩]
  conv_lhs => rw [h i, eq_ix2 i]
  rfl
theorem rep1_tab1 {x : (⟨1, ![a]⟩ : Shape).Idx → EReal} (h : ∀ i, x i = (((x i).toReal : ℝ) : EReal)) : Rep1 x (tab1 x) := by
  intro i
  unfold tab1
  rw [dif_pos (show (i 0).val < a from (i 0).isLt)]
  conv_lhs => rw [h i, eq_ix1 i]
  rfl

/-- Outside its rows a table of an array is zero. -/
theorem tab2_row_ge {x : (⟨2, ![a, b]⟩ : Shape).Idx → EReal} {r : ℕ} (h : a ≤ r) (j : ℕ) : tab2 x r j = 0 :=
  dif_neg fun hh => absurd hh.1 (not_lt.mpr h)

/-- A rank-one array laid out as one row. -/
theorem Rep1.asRow {x : (⟨1, ![b]⟩ : Shape).Idx → EReal} {X : ℕ → ℝ} (hx : Rep1 x X) (h : (⟨1, ![b]⟩ : Shape).ShapeCasts ⟨2, ![1, b]⟩) :
    Rep2 (shapeCast ⟨2, ![1, b]⟩ x h) fun _ j => X j := fun i => by
  rw [eq_ix2 i]
  exact (shapeCast_a_1a_apply x h (i 0) (i 1)).trans (hx _)

namespace Rep2

variable {x y : (⟨2, ![a, b]⟩ : Shape).Idx → EReal} {X Y : ℕ → ℕ → ℝ}

theorem congr (hx : Rep2 x X) (h : ∀ r j, r < a → j < b → X r j = Y r j) : Rep2 x Y :=
  fun i => (hx i).trans (by rw [h _ _ (i 0).isLt (i 1).isLt])

theorem eq (hx : Rep2 x X) (hy : Rep2 y Y) (h : ∀ r j, r < a → j < b → X r j = Y r j) : x = y :=
  funext fun i => ((hx i).trans (congrArg Real.toEReal (h _ _ (i 0).isLt (i 1).isLt))).trans (hy i).symm

theorem mul {x y : FVec Ideal ⟨2, ![a, b]⟩ φ} (hx : Rep2 x X) (hy : Rep2 y Y) : Rep2 (mulf x y) fun r j => X r j * Y r j :=
  fun i => by rw [mulf_apply, hx i, hy i, ← EReal.coe_mul]
theorem add {x y : FVec Ideal ⟨2, ![a, b]⟩ φ} (hx : Rep2 x X) (hy : Rep2 y Y) : Rep2 (addf x y) fun r j => X r j + Y r j :=
  fun i => by rw [addf_apply, hx i, hy i, ← EReal.coe_add]
theorem sub {x y : FVec Ideal ⟨2, ![a, b]⟩ φ} (hx : Rep2 x X) (hy : Rep2 y Y) : Rep2 (subf x y) fun r j => X r j - Y r j :=
  fun i => by rw [subf_apply, hx i, hy i, ← EReal.coe_sub]
theorem div {x y : FVec Ideal ⟨2, ![a, b]⟩ φ} (hx : Rep2 x X) (hy : Rep2 y Y) (h : ∀ r j, r < a → j < b → Y r j ≠ 0) :
    Rep2 (divf x y) fun r j => X r j / Y r j :=
  fun i => by rw [divf_apply, hx i, hy i, div_coe' _ _ (h _ _ (i 0).isLt (i 1).isLt)]
theorem rsqrt {x : FVec Ideal ⟨2, ![a, b]⟩ φ} (hx : Rep2 x X) (h : ∀ r j, r < a → j < b → 0 < X r j) :
    Rep2 (Idealize.ShloMosaic.rsqrt x) fun r j => (Real.sqrt (X r j))⁻¹ :=
  fun i => by
    show Ideal.rsqrt (x i) = _
    rw [hx i, rsqrt_coe' _ (h _ _ (i 0).isLt (i 1).isLt)]
theorem trunc {x : FVec Ideal ⟨2, ![a, b]⟩ φ} (hx : Rep2 x X) (h : ψ.bits < φ.bits) : Rep2 (truncf ψ x h : FVec Ideal _ ψ) X :=
  fun i => by rw [truncf_apply, hx i]
theorem ext {x : FVec Ideal ⟨2, ![a, b]⟩ φ} (hx : Rep2 x X) (h : φ.bits < ψ.bits) : Rep2 (extf ψ x h : FVec Ideal _ ψ) X :=
  fun i => by rw [extf_apply, hx i]
theorem cast (hx : Rep2 x X) (h : (⟨2, ![a, b]⟩ : Shape).ShapeCasts ⟨2, ![a, b]⟩) : Rep2 (shapeCast _ x h) X := by
  rw [shapeCast_self]; exact hx

/-- One number everywhere. -/
theorem splat {v : EReal} {r : ℝ} (h : v = (r : EReal)) : Rep2 (broadcast (⟨2, ![a, b]⟩ : Shape) v) fun _ _ => r :=
  fun _ => h

/-- A column spread along the rows. -/
theorem spreadCol {x : (⟨2, ![a, 1]⟩ : Shape).Idx → EReal} (hx : Rep2 x X) (h : (⟨2, ![a, 1]⟩ : Shape).Broadcasts ⟨2, ![a, b]⟩) :
    Rep2 (broadcastTo ⟨2, ![a, b]⟩ x h) fun r _ => X r 0 := fun i => by
  rw [broadcastTo_apply x h i (ix2 (i 0) (0 : Fin 1)) (fun d => match d with
    | ⟨0, _⟩ => by
      show (i 0).val = if a = 1 then 0 else (i 0).val
      split
      · have h0 : (i 0).val < a := (i 0).isLt
        omega
      · rfl
    | ⟨1, _⟩ => rfl), hx]
  rfl
/-- A row spread along the columns. -/
theorem spreadRow {x : (⟨2, ![1, b]⟩ : Shape).Idx → EReal} (hx : Rep2 x X) (h : (⟨2, ![1, b]⟩ : Shape).Broadcasts ⟨2, ![a, b]⟩) :
    Rep2 (broadcastTo ⟨2, ![a, b]⟩ x h) fun _ j => X 0 j := fun i => by
  rw [broadcastTo_apply x h i (ix2 (0 : Fin 1) (i 1)) (fun d => match d with
    | ⟨0, _⟩ => rfl
    | ⟨1, _⟩ => by
      show (i 1).val = if b = 1 then 0 else (i 1).val
      split
      · have h0 : (i 1).val < b := (i 1).isLt
        omega
      · rfl), hx]
  rfl

/-- The sum of each row, kept as a column. -/
theorem rowSum {x : FVec Ideal ⟨2, ![a, b]⟩ φ} (hx : Rep2 x X) (acc : BitVec φ.bits) (h : (⟨2, ![a, b]⟩ : Shape).Reduces [1] ⟨1, ![a]⟩)
    (hφ : FKind.Formats φ) (hacc : acc = FKind.add.neutral φ hφ) (hc : (⟨1, ![a]⟩ : Shape).ShapeCasts ⟨2, ![a, 1]⟩) :
    Rep2 (shapeCast ⟨2, ![a, 1]⟩ (multiReduction .add [1] ⟨1, ![a]⟩ x acc h hφ hacc) hc) fun r _ => ∑ k ∈ Finset.range b, X r k := fun i => by
  rw [shapeCast_apply _ hc i (ix1 (i 0)) (by
    rw [Shape.rowMajor_val_one, Shape.rowMajor_val_two]
    have h1 : (i 1).val < 1 := (i 1).isLt
    show (i 0).val = (i 0).val * 1 + (i 1).val
    omega), Ideal.multiReduction_add_single]
  refine Eq.trans ?_ ((coe_sum _ _).trans (congrArg Real.toEReal (Finset.sum_range _).symm))
  refine Finset.sum_congr rfl fun k _ => ?_
  rw [hx]
  rfl
/-- The sum of each column, kept as a row. -/
theorem colSum {x : FVec Ideal ⟨2, ![a, b]⟩ φ} (hx : Rep2 x X) (acc : BitVec φ.bits) (h : (⟨2, ![a, b]⟩ : Shape).Reduces [0] ⟨1, ![b]⟩)
    (hφ : FKind.Formats φ) (hacc : acc = FKind.add.neutral φ hφ) (hc : (⟨1, ![b]⟩ : Shape).ShapeCasts ⟨2, ![1, b]⟩) :
    Rep2 (shapeCast ⟨2, ![1, b]⟩ (multiReduction .add [0] ⟨1, ![b]⟩ x acc h hφ hacc) hc) fun _ j => ∑ k ∈ Finset.range a, X k j := fun i => by
  rw [shapeCast_apply _ hc i (ix1 (i 1)) (by
    rw [Shape.rowMajor_val_one, Shape.rowMajor_val_two]
    have h1 : (i 0).val < 1 := (i 0).isLt
    show (i 1).val = (i 0).val * b + (i 1).val
    have : (i 0).val = 0 := by omega
    rw [this]; omega), Ideal.multiReduction_add_single]
  refine Eq.trans ?_ ((coe_sum _ _).trans (congrArg Real.toEReal (Finset.sum_range _).symm))
  refine Finset.sum_congr rfl fun k _ => ?_
  rw [hx]
  rfl

/-- The plain product, accumulated onto zero. -/
theorem dot {K : ℕ} {x : FVec Ideal ⟨2, ![a, K]⟩ φ} {y : FVec Ideal ⟨2, ![K, b]⟩ ψ} (hx : Rep2 x X) (hy : Rep2 y Y)
    (prec : Option ContractPrecision) :
    Rep2 (matmul (DotDims.plain a K b) prec x y (constant ⟨2, ![a, b]⟩ .f32 0x00000000#32)) fun r j => ∑ k ∈ Finset.range K, X r k * Y k j := fun i => by
  rw [eq_ix2 i]
  refine (Ideal.matmul_plain_apply prec x y _ (i 0) (i 1)).trans ?_
  rw [constant_apply, Ideal.ofBits_zero_f32, zero_add]
  refine Eq.trans ?_ ((coe_sum _ _).trans (congrArg Real.toEReal (Finset.sum_range _).symm))
  exact Finset.sum_congr rfl fun k _ => by rw [hx, hy, ← EReal.coe_mul]; rfl
/-- The product with the right operand's rows contracted. -/
theorem dotNT {K : ℕ} {x : FVec Ideal ⟨2, ![a, K]⟩ φ} {y : FVec Ideal ⟨2, ![b, K]⟩ ψ} (hx : Rep2 x X) (hy : Rep2 y Y)
    (prec : Option ContractPrecision) :
    Rep2 (matmul (DotDims.transposedRhs a K b) prec x y (constant ⟨2, ![a, b]⟩ .f32 0x00000000#32)) fun r j => ∑ k ∈ Finset.range K, X r k * Y j k := fun i => by
  rw [eq_ix2 i]
  refine (Ideal.matmul_transposedRhs_apply prec x y _ (i 0) (i 1)).trans ?_
  rw [constant_apply, Ideal.ofBits_zero_f32, zero_add]
  refine Eq.trans ?_ ((coe_sum _ _).trans (congrArg Real.toEReal (Finset.sum_range _).symm))
  exact Finset.sum_congr rfl fun k _ => by rw [hx, hy, ← EReal.coe_mul]; rfl

/-- A load of a rectangle: the table from the rectangle's corner on. -/
theorem load {x : Vec Ideal ⟨2, ![a, b]⟩ .f32} (hx : Rep2 x X) (o p q l : ℕ) (inb) :
    Rep2 (a := p) (b := q) (View.ld x (Rect.unit ![o, l] ![p, q] inb)) fun r j => X (o + r) (l + j) := fun i => by
  refine (hx _).trans ?_
  show ((X (o + 1 * (i 0).val) (l + 1 * (i 1).val) : ℝ) : EReal) = _
  rw [Nat.one_mul, Nat.one_mul]

/-- A store of a rectangle: its table inside, the older table outside. -/
theorem store {sig : RefSig} {κ : Kind} {sp : Space} (v : View sig κ sp ⟨2, ![a, b]⟩ .f32) (f : v.ty.Contents (Elt Ideal))
    (L : List (View.Piece (Elt Ideal) ⟨2, ![a, b]⟩ .f32)) {Z W : ℕ → ℕ → ℝ} (hL : Rep2 (v.read (Elt Ideal) (v.writes (Elt Ideal) f L)) Z)
    (o p q l : ℕ) (inb) {w : Vec Ideal ⟨2, ![p, q]⟩ .f32} (hw : Rep2 w W) :
    Rep2 (v.read (Elt Ideal) (v.writes (Elt Ideal) f (⟨Rect.unit ![o, l] ![p, q] inb, w⟩ :: L)))
      fun r j => if (o ≤ r ∧ r < o + p) ∧ (l ≤ j ∧ j < l + q) then W (r - o) (j - l) else Z r j := fun i => by
  rw [View.read_writes_cons_unit v f inb w L i rfl]
  by_cases h : (o ≤ (i 0).val ∧ (i 0).val < o + p) ∧ (l ≤ (i 1).val ∧ (i 1).val < l + q)
  · refine (dif_pos (fun d => match d with
      | ⟨0, _⟩ => h.1
      | ⟨1, _⟩ => h.2)).trans ((hw _).trans (congrArg Real.toEReal ?_))
    exact (if_pos h).symm
  · exact (dif_neg (fun hh => h ⟨hh 0, hh 1⟩)).trans ((hL i).trans (congrArg Real.toEReal (if_neg h).symm))

/-- A load of everything: the table itself. -/
theorem loadAll {x : Vec Ideal ⟨2, ![a, b]⟩ .f32} (hx : Rep2 x X) (inb) :
    Rep2 (View.ld x (Rect.unit ![0, 0] ![a, b] inb)) X := (hx.load 0 a b 0 inb).congr fun r j _ _ => by rw [Nat.zero_add, Nat.zero_add]
/-- The same of `bf16` contents. -/
theorem loadAll16 {x : Vec Ideal ⟨2, ![a, b]⟩ .bf16} (hx : Rep2 x X) (inb) :
    Rep2 (View.ld x (Rect.unit ![0, 0] ![a, b] inb)) X := fun i => by
  refine (hx _).trans ?_
  show ((X (0 + 1 * (i 0).val) (0 + 1 * (i 1).val) : ℝ) : EReal) = _
  rw [Nat.one_mul, Nat.one_mul, Nat.zero_add, Nat.zero_add]
/-- A load of a rectangle of what stores have left. -/
theorem loadCov {sig : RefSig} {κ : Kind} {sp : Space} (v : View sig κ sp ⟨2, ![a, b]⟩ .f32)
    (L : List (View.Piece (Elt Ideal) ⟨2, ![a, b]⟩ .f32)) (hL : Rep2 (v.read (Elt Ideal) (v.writes (Elt Ideal) v.junk L)) X)
    (o p q l : ℕ) (inb) :
    Rep2 (a := p) (b := q) (v.readCov L (Rect.unit (s := ⟨2, ![a, b]⟩) ![o, l] ![p, q] inb).toLoadRect : Vec Ideal ⟨2, ![p, q]⟩ .f32) fun r j => X (o + r) (l + j) := by
  unfold View.readCov
  rw [View.readAt_eq_ld]
  exact hL.load o p q l inb
/-- A load of one row. -/
theorem loadRow {x : Vec Ideal ⟨2, ![a, b]⟩ .f32} (hx : Rep2 x X) (o : ℕ) (inb) :
    Rep2 (a := 1) (b := b) (View.ld x (Rect.unit ![o, 0] ![1, b] inb)) fun _ j => X o j :=
  (hx.load o 1 b 0 inb).congr fun r j hr _ => by rw [Nat.lt_one_iff.mp hr, Nat.add_zero, Nat.zero_add]
/-- A load of one row of what stores have left. -/
theorem loadCovRow {sig : RefSig} {κ : Kind} {sp : Space} (v : View sig κ sp ⟨2, ![a, b]⟩ .f32)
    (L : List (View.Piece (Elt Ideal) ⟨2, ![a, b]⟩ .f32)) (hL : Rep2 (v.read (Elt Ideal) (v.writes (Elt Ideal) v.junk L)) X)
    (o : ℕ) (inb) :
    Rep2 (v.readCov L (Rect.unit (s := ⟨2, ![a, b]⟩) ![o, 0] ![1, b] inb).toLoadRect : Vec Ideal ⟨2, ![1, b]⟩ .f32) fun _ j => X o j :=
  (loadCov v L hL o 1 b 0 inb).congr fun r j hr _ => by rw [Nat.lt_one_iff.mp hr, Nat.add_zero, Nat.zero_add]
/-- A store of one row. -/
theorem storeRow {sig : RefSig} {κ : Kind} {sp : Space} (v : View sig κ sp ⟨2, ![a, b]⟩ .f32) (f : v.ty.Contents (Elt Ideal))
    (L : List (View.Piece (Elt Ideal) ⟨2, ![a, b]⟩ .f32)) {Z W : ℕ → ℕ → ℝ} (hL : Rep2 (v.read (Elt Ideal) (v.writes (Elt Ideal) f L)) Z)
    (o : ℕ) (inb) {w : Vec Ideal ⟨2, ![1, b]⟩ .f32} (hw : Rep2 w W) :
    Rep2 (v.read (Elt Ideal) (v.writes (Elt Ideal) f (⟨Rect.unit ![o, 0] ![1, b] inb, w⟩ :: L)))
      fun r j => if r = o then W 0 j else Z r j :=
  (hL.store v f L o 1 b 0 inb hw).congr fun r j _ hj => by
    by_cases h : r = o
    · subst h
      rw [if_pos (by omega), if_pos rfl, Nat.sub_self, Nat.sub_zero]
    · rw [if_neg (by omega), if_neg h]

/-- A store of everything: the stored table, whatever was there. -/
theorem storeAll {sig : RefSig} {κ : Kind} {sp : Space} (v : View sig κ sp ⟨2, ![a, b]⟩ .f32) (f : v.ty.Contents (Elt Ideal))
    (L : List (View.Piece (Elt Ideal) ⟨2, ![a, b]⟩ .f32)) (inb) {w : Vec Ideal ⟨2, ![a, b]⟩ .f32} (hw : Rep2 w X) :
    Rep2 (v.read (Elt Ideal) (v.writes (Elt Ideal) f (⟨Rect.unit ![0, 0] ![a, b] inb, w⟩ :: L))) X := fun i => by
  rw [View.read_writes_cons_unit_of_mem v f inb w L i i rfl (fun d => by fin_cases d <;> exact (Nat.zero_add _).symm)]
  exact hw i
/-- The same of `bf16` contents. -/
theorem storeAll16 {sig : RefSig} {κ : Kind} {sp : Space} (v : View sig κ sp ⟨2, ![a, b]⟩ .bf16) (f : v.ty.Contents (Elt Ideal))
    (L : List (View.Piece (Elt Ideal) ⟨2, ![a, b]⟩ .bf16)) (inb) {w : Vec Ideal ⟨2, ![a, b]⟩ .bf16} (hw : Rep2 w X) :
    Rep2 (v.read (Elt Ideal) (v.writes (Elt Ideal) f (⟨Rect.unit ![0, 0] ![a, b] inb, w⟩ :: L))) X := fun i => by
  rw [View.read_writes_cons_unit_of_mem v f inb w L i i rfl (fun d => by fin_cases d <;> exact (Nat.zero_add _).symm)]
  exact hw i
/-- A scratch filled by one copy holds what was copied, -/
theorem readCopied16 {sig : RefSig} {κ : Kind} {sp : Space} (v : View sig κ sp ⟨2, ![a, b]⟩ .bf16) (f : v.ty.Contents (Elt Ideal))
    {w : Vec Ideal ⟨2, ![a, b]⟩ .bf16} (hw : Rep2 w X) :
    Rep2 (v.read (Elt Ideal) (v.writes (Elt Ideal) f [⟨Rect.whole ⟨2, ![a, b]⟩, w⟩])) X := fun i => by
  refine Eq.trans ?_ (hw i)
  have h := View.read_writes_cons_emb (Val := Elt Ideal) v f (Rect.whole ⟨2, ![a, b]⟩) w [] i
  rwa [Rect.emb_whole_apply] at h
/-- and so does a load of all of it. -/
theorem copied16 {sig : RefSig} {κ : Kind} {sp : Space} (v : View sig κ sp ⟨2, ![a, b]⟩ .bf16) (inb)
    {w : Vec Ideal ⟨2, ![a, b]⟩ .bf16} (hw : Rep2 w X) :
    Rep2 (v.readCov [⟨Rect.whole ⟨2, ![a, b]⟩, w⟩] (Rect.unit (s := ⟨2, ![a, b]⟩) ![0, 0] ![a, b] inb).toLoadRect :
      Vec Ideal ⟨2, ![a, b]⟩ .bf16) X := by
  unfold View.readCov
  rw [View.readAt_eq_ld]
  exact loadAll16 (readCopied16 v v.junk hw) inb

/-- The array of a table. -/
def arr (a b : ℕ) (X : ℕ → ℕ → ℝ) : (⟨2, ![a, b]⟩ : Shape).Idx → EReal := fun i => ((X (i 0).val (i 1).val : ℝ) : EReal)
theorem arr_rep (X : ℕ → ℕ → ℝ) : Rep2 (arr a b X) X := fun _ => rfl

end Rep2

end Cert.Reals

end
-- ==== Proof.Masked.lean ====
/- More of the operations over real tables: buffers that hold a table on part of their rows only (a scratch
   buffer between its stores), arrays of rank three read plane by plane, and sums grown store by store. -/
module

public import proofs.«01_k».proof.Proof.Reals

@[expose] public section

noncomputable section

namespace Cert.Reals

open Idealize.ShloMosaic Idealize.ShloMosaic.ValueIdx
open scoped BigOperators

variable {a b n : ℕ} {φ ψ : FTy}

/-- The literal 512. -/
theorem lit_512 : Ideal.ofBits .f32 0x44000000#32 = ((512 : ℝ) : EReal) := by
  simp [Ideal.ofBits, Ideal.ieee, -EReal.coe_mul]; norm_num

/-- The logistic function. -/
def sigm (x : ℝ) : ℝ := (1 + Real.exp (-x))⁻¹

namespace Rep2
variable {x y : (⟨2, ![a, b]⟩ : Shape).Idx → EReal} {X Y Z : ℕ → ℕ → ℝ}

theorem logistic {x : FVec Ideal ⟨2, ![a, b]⟩ φ} (hx : Rep2 x X) : Rep2 (Idealize.ShloMosaic.logistic x) fun r j => sigm (X r j) :=
  fun i => by
    show Ideal.logistic (x i) = _
    rw [hx i, Ideal.logistic_coe]; rfl

/-- A block of columns. -/
theorem cols (hx : Rep2 x X) (q l : ℕ) (h : (⟨2, ![a, b]⟩ : Shape).Slices ![0, l] ⟨2, ![a, q]⟩) :
    Rep2 (extractStridedSlice ⟨2, ![a, q]⟩ ![0, l] x h) fun r j => X r (l + j) := fun i =>
  (extractStridedSlice_apply ![0, l] x h i (ix2 (⟨(i 0).val, (i 0).isLt⟩ : Fin a) (⟨l + (i 1).val, by
    have h1 := h.2 1
    have h2 : (i 1).val < q := (i 1).isLt
    have h3 : l + q ≤ b := h1
    omega⟩ : Fin b)) fun d => match d with
    | ⟨0, _⟩ => (Nat.zero_add _).symm
    | ⟨1, _⟩ => rfl).trans (hx _)

/-- A load of a rectangle of `bf16` contents. -/
theorem load16 {x : Vec Ideal ⟨2, ![a, b]⟩ .bf16} (hx : Rep2 x X) (o p q l : ℕ) (inb) :
    Rep2 (a := p) (b := q) (View.ld x (Rect.unit ![o, l] ![p, q] inb)) fun r j => X (o + r) (l + j) := fun i => by
  refine (hx _).trans ?_
  show ((X (o + 1 * (i 0).val) (l + 1 * (i 1).val) : ℝ) : EReal) = _
  rw [Nat.one_mul, Nat.one_mul]
/-- A load of some columns of every row. -/
theorem loadCols16 {x : Vec Ideal ⟨2, ![a, b]⟩ .bf16} (hx : Rep2 x X) (q l : ℕ) (inb) :
    Rep2 (a := a) (b := q) (View.ld x (Rect.unit ![0, l] ![a, q] inb)) fun r j => X r (l + j) :=
  (hx.load16 0 a q l inb).congr fun r j _ _ => by rw [Nat.zero_add]
theorem loadCols {x : Vec Ideal ⟨2, ![a, b]⟩ .f32} (hx : Rep2 x X) (q l : ℕ) (inb) :
    Rep2 (a := a) (b := q) (View.ld x (Rect.unit ![0, l] ![a, q] inb)) fun r j => X r (l + j) :=
  (hx.load 0 a q l inb).congr fun r j _ _ => by rw [Nat.zero_add]

/-- Pieces side by side along the columns, read in one of them. -/
theorem sidePiece {p n : ℕ} {x : (⟨2, ![a, p]⟩ : Shape).Idx → EReal} (hx : Rep2 x X)
    (xs : List ((s : Shape) × (s.Idx → EReal))) (h : Shape.Concatenates (xs.map (·.1)) ⟨2, ![a, n]⟩ 1)
    (k : ℕ) (hk : k < xs.length) (hxk : xs[k] = ⟨⟨2, ![a, p]⟩, x⟩) (pre : ℕ)
    (hpre : (((xs.take k).map (·.1)).map fun s => if h : s.rank = 2 then s.size ((1 : Fin 2).cast h.symm) else 0).sum = pre)
    (i : (⟨2, ![a, n]⟩ : Shape).Idx) (h1 : pre ≤ (i 1).val) (h2 : (i 1).val - pre < p) :
    concatenate ⟨2, ![a, n]⟩ 1 xs h i = ((X (i 0).val ((i 1).val - pre) : ℝ) : EReal) :=
  (concatenate_apply_piece 1 xs h i k hk _ x hxk rfl pre hpre (ix2 (i 0) (⟨(i 1).val - pre, h2⟩ : Fin p))
    (fun d hd => match d with
      | ⟨0, _⟩ => rfl
      | ⟨1, _⟩ => absurd rfl hd)
    (show pre + ((i 1).val - pre) = (i 1).val by omega)).trans (hx _)

/-- One more term of a growing sum of arrays. -/
theorem addTerm {x y : FVec Ideal ⟨2, ![a, b]⟩ φ} {f : ℕ → ℕ → ℕ → ℝ} {n : ℕ} (hx : Rep2 x fun r j => ∑ k ∈ Finset.range n, f k r j)
    (hy : Rep2 y (f n)) : Rep2 (addf x y) fun r j => ∑ k ∈ Finset.range (n + 1), f k r j :=
  (hx.add hy).congr fun r j _ _ => (Finset.sum_range_succ _ n).symm

/-- One more tap of a filter: a row of weights along the rows of a shifted array. -/
theorem addTap {x v : FVec Ideal ⟨2, ![a, b]⟩ φ} {w : FVec Ideal ⟨2, ![1, b]⟩ φ} {A : ℕ → ℕ → ℝ} {W : ℕ → ℕ → ℝ} {f : ℕ → ℕ → ℕ → ℝ} {n : ℕ}
    (hx : Rep2 x fun r j => A r j + ∑ k ∈ Finset.range n, W k j * f k r j) (hw : Rep2 w fun _ j => W n j) (hv : Rep2 v (f n)) (h h') :
    Rep2 (addf x (mulf (broadcastTo ⟨2, ![a, b]⟩ (shapeCast ⟨2, ![1, b]⟩ w h) h') v)) fun r j => A r j + ∑ k ∈ Finset.range (n + 1), W k j * f k r j :=
  (hx.add (((hw.cast h).spreadRow h').mul hv)).congr fun r j _ _ => by rw [Finset.sum_range_succ, add_assoc]
end Rep2

/-- The array holds the table on the places of `p`. -/
def On2 (p : ℕ → ℕ → Prop) (x : (⟨2, ![a, b]⟩ : Shape).Idx → EReal) (X : ℕ → ℕ → ℝ) : Prop :=
  ∀ i, p (i 0).val (i 1).val → x i = ((X (i 0).val (i 1).val : ℝ) : EReal)

namespace On2
variable {p : ℕ → ℕ → Prop} {X : ℕ → ℕ → ℝ}

theorem nowhere (x : (⟨2, ![a, b]⟩ : Shape).Idx → EReal) (X : ℕ → ℕ → ℝ) : On2 (fun _ _ => False) x X := fun _ h => h.elim
theorem all {x : (⟨2, ![a, b]⟩ : Shape).Idx → EReal} (hx : On2 p x X) (h : ∀ r j, r < a → j < b → p r j) : Rep2 x X :=
  fun i => hx i (h _ _ (i 0).isLt (i 1).isLt)
theorem of_rep {x : (⟨2, ![a, b]⟩ : Shape).Idx → EReal} (hx : Rep2 x X) : On2 p x X := fun i _ => hx i
theorem congr {Y : ℕ → ℕ → ℝ} {q : ℕ → ℕ → Prop} {x : (⟨2, ![a, b]⟩ : Shape).Idx → EReal} (hx : On2 p x X)
    (h : ∀ r j, r < a → j < b → q r j → p r j ∧ X r j = Y r j) : On2 q x Y := fun i hi =>
  (hx i (h _ _ (i 0).isLt (i 1).isLt hi).1).trans (congrArg Real.toEReal (h _ _ (i 0).isLt (i 1).isLt hi).2)

/-- A store of a part of the table makes the buffer hold it there too. -/
theorem store {sig : RefSig} {κ : Kind} {sp : Space} {v : View sig κ sp ⟨2, ![a, b]⟩ .f32} {f : v.ty.Contents (Elt Ideal)}
    {L : List (View.Piece (Elt Ideal) ⟨2, ![a, b]⟩ .f32)} (hL : On2 p (v.read (Elt Ideal) (v.writes (Elt Ideal) f L)) X)
    {o c d l : ℕ} {inb} {w : Vec Ideal ⟨2, ![c, d]⟩ .f32} (hw : Rep2 w fun r j => X (o + r) (l + j)) :
    On2 (fun r j => p r j ∨ ((o ≤ r ∧ r < o + c) ∧ (l ≤ j ∧ j < l + d)))
      (v.read (Elt Ideal) (v.writes (Elt Ideal) f (⟨Rect.unit ![o, l] ![c, d] inb, w⟩ :: L))) X := fun i hi => by
  rw [View.read_writes_cons_unit v f inb w L i rfl]
  by_cases h : (o ≤ (i 0).val ∧ (i 0).val < o + c) ∧ (l ≤ (i 1).val ∧ (i 1).val < l + d)
  · refine (dif_pos (fun d => match d with
      | ⟨0, _⟩ => h.1
      | ⟨1, _⟩ => h.2)).trans ((hw _).trans (congrArg Real.toEReal ?_))
    show X (o + ((i 0).val - o)) (l + ((i 1).val - l)) = _
    rw [Nat.add_sub_cancel' h.1.1, Nat.add_sub_cancel' h.2.1]
  · exact (dif_neg (fun hh => h ⟨hh 0, hh 1⟩)).trans (hL i (hi.resolve_right h))

/-- A load within the part held. -/
theorem load {x : Vec Ideal ⟨2, ![a, b]⟩ .f32} (hx : On2 p x X) {o c d l : ℕ} {inb} {Y : ℕ → ℕ → ℝ}
    (h : ∀ r j, r < c → j < d → p (o + r) (l + j) ∧ X (o + r) (l + j) = Y r j) :
    Rep2 (a := c) (b := d) (View.ld x (Rect.unit ![o, l] ![c, d] inb)) Y := fun i => by
  have hi := h _ _ (i 0).isLt (i 1).isLt
  refine (hx _ ?_).trans ?_
  · show p (o + 1 * (i 0).val) (l + 1 * (i 1).val)
    rw [Nat.one_mul, Nat.one_mul]
    exact hi.1
  · show ((X (o + 1 * (i 0).val) (l + 1 * (i 1).val) : ℝ) : EReal) = _
    rw [Nat.one_mul, Nat.one_mul]
    exact congrArg Real.toEReal hi.2
end On2

/-! ## Rank three -/

/-- The rank-three array holds the table. -/
def Rep3 {c : ℕ} (x : (⟨3, ![n, a, c]⟩ : Shape).Idx → EReal) (X : ℕ → ℕ → ℕ → ℝ) : Prop :=
  ∀ i, x i = ((X (i 0).val (i 1).val (i 2).val : ℝ) : EReal)
/-- The rank-three array holds the table on the planes of `p`. -/
def On3 {c : ℕ} (p : ℕ → Prop) (x : (⟨3, ![n, a, c]⟩ : Shape).Idx → EReal) (X : ℕ → ℕ → ℕ → ℝ) : Prop :=
  ∀ i, p (i 0).val → x i = ((X (i 0).val (i 1).val (i 2).val : ℝ) : EReal)

theorem Rep3.congr {X Y : ℕ → ℕ → ℕ → ℝ} {x : (⟨3, ![n, a, b]⟩ : Shape).Idx → EReal} (hx : Rep3 x X)
    (h : ∀ k r j, k < n → r < a → j < b → X k r j = Y k r j) : Rep3 x Y :=
  fun i => (hx i).trans (by rw [h _ _ _ (i 0).isLt (i 1).isLt (i 2).isLt])
theorem Rep3.eq {X Y : ℕ → ℕ → ℕ → ℝ} {x y : (⟨3, ![n, a, b]⟩ : Shape).Idx → EReal} (hx : Rep3 x X) (hy : Rep3 y Y)
    (h : ∀ k r j, k < n → r < a → j < b → X k r j = Y k r j) : x = y :=
  funext fun i => ((hx.congr h) i).trans (hy i).symm

/-- A matrix as the one plane of an array of rank three, -/
theorem Rep2.asPlane {X : ℕ → ℕ → ℝ} {x : (⟨2, ![a, b]⟩ : Shape).Idx → EReal} (hx : Rep2 x X)
    (h : (⟨2, ![a, b]⟩ : Shape).ShapeCasts ⟨3, ![1, a, b]⟩) : Rep3 (shapeCast ⟨3, ![1, a, b]⟩ x h) fun _ => X := fun i =>
  (shapeCast_apply x h i (ix2 (⟨(i 1).val, (i 1).isLt⟩ : Fin a) (⟨(i 2).val, (i 2).isLt⟩ : Fin b)) (by
    rw [Shape.rowMajor_val_two, Shape.rowMajor_val_three]
    have h0 : (i 0).val < 1 := (i 0).isLt
    have h0' : (i 0).val = 0 := by omega
    show (i 1).val * b + (i 2).val = ((i 0).val * a + (i 1).val) * b + (i 2).val
    rw [h0', Nat.zero_mul, Nat.zero_add])).trans (hx _)
/-- and that plane as a matrix. -/
theorem Rep3.asMatrix {X : ℕ → ℕ → ℕ → ℝ} {x : (⟨3, ![1, a, b]⟩ : Shape).Idx → EReal} (hx : Rep3 x X)
    (h : (⟨3, ![1, a, b]⟩ : Shape).ShapeCasts ⟨2, ![a, b]⟩) : Rep2 (shapeCast ⟨2, ![a, b]⟩ x h) (X 0) := fun i =>
  (shapeCast_apply x h i (ix3 (0 : Fin 1) (⟨(i 0).val, (i 0).isLt⟩ : Fin a) (⟨(i 1).val, (i 1).isLt⟩ : Fin b)) (by
    rw [Shape.rowMajor_val_two, Shape.rowMajor_val_three]
    show (0 * a + (i 0).val) * b + (i 1).val = (i 0).val * b + (i 1).val
    rw [Nat.zero_mul, Nat.zero_add])).trans (hx _)

namespace On3
variable {c : ℕ} {p : ℕ → Prop} {X : ℕ → ℕ → ℕ → ℝ}

theorem nowhere (x : (⟨3, ![n, a, b]⟩ : Shape).Idx → EReal) (X : ℕ → ℕ → ℕ → ℝ) : On3 (fun _ => False) x X := fun _ h => h.elim
theorem of_rep {x : (⟨3, ![n, a, b]⟩ : Shape).Idx → EReal} (hx : Rep3 x X) : On3 p x X := fun i _ => hx i

/-- A store of one plane of the table. -/
theorem store {sig : RefSig} {κ : Kind} {sp : Space} {v : View sig κ sp ⟨3, ![n, a, b]⟩ .f32} {f : v.ty.Contents (Elt Ideal)}
    {L : List (View.Piece (Elt Ideal) ⟨3, ![n, a, b]⟩ .f32)} (hL : On3 p (v.read (Elt Ideal) (v.writes (Elt Ideal) f L)) X)
    {k : ℕ} {inb} {w : Vec Ideal ⟨3, ![1, a, b]⟩ .f32} (hw : Rep3 w fun _ => X k) :
    On3 (fun i => p i ∨ i = k)
      (v.read (Elt Ideal) (v.writes (Elt Ideal) f (⟨Rect.unit ![k, 0, 0] ![1, a, b] inb, w⟩ :: L))) X := fun i hi => by
  rw [View.read_writes_cons_unit v f inb w L i rfl]
  by_cases h : (i 0).val = k
  · refine (dif_pos (fun d => match d with
      | ⟨0, _⟩ => (show k ≤ (i 0).val ∧ (i 0).val < k + 1 by omega)
      | ⟨1, _⟩ => ⟨Nat.zero_le _, (Nat.zero_add a).symm ▸ (i 1).isLt⟩
      | ⟨2, _⟩ => ⟨Nat.zero_le _, (Nat.zero_add b).symm ▸ (i 2).isLt⟩)).trans ((hw _).trans (congrArg Real.toEReal ?_))
    show X k ((i 1).val - 0) ((i 2).val - 0) = _
    rw [h, Nat.sub_zero, Nat.sub_zero]
  · exact (dif_neg (fun hh => h (by
      have h0 : k ≤ (i 0).val ∧ (i 0).val < k + 1 := hh 0
      omega))).trans (hL i (hi.resolve_right h))

/-- A load of some rows of one plane, -/
theorem plane {x : Vec Ideal ⟨3, ![n, a, b]⟩ .f32} (hx : On3 p x X) {k o d : ℕ} {inb} (hp : p k) :
    Rep3 (n := 1) (a := d) (c := b) (View.ld x (Rect.unit ![k, o, 0] ![1, d, b] inb)) fun _ r j => X k (o + r) j := fun i => by
  have h0 : (i 0).val < 1 := (i 0).isLt
  have h0' : (i 0).val = 0 := by omega
  refine (hx _ ?_).trans ?_
  · show p (k + 1 * (i 0).val)
    rw [h0']; exact hp
  · show ((X (k + 1 * (i 0).val) (o + 1 * (i 1).val) (0 + 1 * (i 2).val) : ℝ) : EReal) = _
    rw [h0', Nat.mul_zero, Nat.one_mul, Nat.one_mul, Nat.zero_add]
    rfl
/-- and as a matrix. -/
theorem load {x : Vec Ideal ⟨3, ![n, a, b]⟩ .f32} (hx : On3 p x X) {k o d : ℕ} {inb} {h} {Y : ℕ → ℕ → ℝ}
    (hp : p k) (hY : ∀ r j, r < d → j < b → X k (o + r) j = Y r j) :
    Rep2 (shapeCast ⟨2, ![d, b]⟩ (View.ld x (Rect.unit ![k, o, 0] ![1, d, b] inb) : Vec Ideal ⟨3, ![1, d, b]⟩ .f32) h) Y :=
  ((hx.plane hp).asMatrix h).congr hY
end On3

/-! ## Sums brought up to date store by store -/

open Classical in
/-- The new table on the places of `p`, the old one elsewhere. -/
def upd2 (p : ℕ → ℕ → Prop) (Y Z : ℕ → ℕ → ℝ) (r j : ℕ) : ℝ := if p r j then Y r j else Z r j
open Classical in
/-- The same on planes. -/
def upd3 (p : ℕ → Prop) (Y Z : ℕ → ℕ → ℕ → ℝ) (k r j : ℕ) : ℝ := if p k then Y k r j else Z k r j

section Grow
variable {c d l o : ℕ} {sig : RefSig} {κ : Kind} {sp : Space}

theorem Rep2.unchanged {x : (⟨2, ![a, b]⟩ : Shape).Idx → EReal} {Y Z : ℕ → ℕ → ℝ} (hx : Rep2 x Z) : Rep2 x (upd2 (fun _ _ => False) Y Z) :=
  hx.congr fun _ _ _ _ => (if_neg id).symm
theorem Rep2.updated {x : (⟨2, ![a, b]⟩ : Shape).Idx → EReal} {p : ℕ → ℕ → Prop} {Y Z : ℕ → ℕ → ℝ} (hx : Rep2 x (upd2 p Y Z))
    (h : ∀ r j, r < a → j < b → ¬p r j → Z r j = Y r j) : Rep2 x Y := hx.congr fun r j hr hj => by
  unfold upd2
  by_cases hp : p r j
  · rw [if_pos hp]
  · rw [if_neg hp, h r j hr hj hp]

variable {v : View sig κ sp ⟨2, ![a, b]⟩ .f32} {f : v.ty.Contents (Elt Ideal)} {L : List (View.Piece (Elt Ideal) ⟨2, ![a, b]⟩ .f32)}
  {p : ℕ → ℕ → Prop} {Y Z : ℕ → ℕ → ℝ} {E : ℕ → ℝ} {inb inb'} {h : (⟨2, ![1, d]⟩ : Shape).ShapeCasts ⟨2, ![1, d]⟩} {y old : FVec Ideal ⟨2, ![1, d]⟩ .f32}

/-- A stretch of a row brought up to date from its old numbers. -/
theorem grow (hL : Rep2 (v.read (Elt Ideal) (v.writes (Elt Ideal) f L)) (upd2 p Y Z)) (h0 : Rep2 old fun _ j => Z o (l + j))
    (hy : Rep2 y fun _ j => E j) (hE : ∀ j, j < d → Z o (l + j) + E j = Y o (l + j)) :
    Rep2 (v.read (Elt Ideal) (v.writes (Elt Ideal) f (⟨Rect.unit ![o, l] ![1, d] inb, addf (shapeCast ⟨2, ![1, d]⟩ old h) y⟩ :: L)))
      (upd2 (fun r j => p r j ∨ (r = o ∧ l ≤ j ∧ j < l + d)) Y Z) := by
  refine (hL.store v f L o 1 d l inb ((h0.cast h).add hy)).congr fun r j _ _ => ?_
  unfold upd2
  by_cases hc : (o ≤ r ∧ r < o + 1) ∧ (l ≤ j ∧ j < l + d)
  · have e : r = o := by omega
    subst e
    rw [if_pos hc, if_pos (.inr ⟨rfl, hc.2⟩)]
    exact (hE (j - l) (by omega)).trans (by rw [Nat.add_sub_cancel' hc.2.1])
  · rw [if_neg hc]
    have e : (p r j ∨ (r = o ∧ l ≤ j ∧ j < l + d)) ↔ p r j :=
      ⟨fun hh => hh.resolve_right fun h2 => hc ⟨by omega, h2.2⟩, .inl⟩
    by_cases hq : p r j
    · rw [if_pos hq, if_pos (e.2 hq)]
    · rw [if_neg hq, if_neg (fun hh => hq (e.1 hh))]

/-- The same from what the buffer holds there. -/
theorem growBack (hL : Rep2 (v.read (Elt Ideal) (v.writes (Elt Ideal) f L)) (upd2 p Y Z)) (hp : ∀ j, j < d → ¬p o (l + j))
    (hy : Rep2 y fun _ j => E j) (hE : ∀ j, j < d → Z o (l + j) + E j = Y o (l + j)) :
    Rep2 (v.read (Elt Ideal) (v.writes (Elt Ideal) f (⟨Rect.unit ![o, l] ![1, d] inb, addf (shapeCast ⟨2, ![1, d]⟩
      (View.ld (v.read (Elt Ideal) (v.writes (Elt Ideal) f L)) (Rect.unit ![o, l] ![1, d] inb')) h) y⟩ :: L)))
      (upd2 (fun r j => p r j ∨ (r = o ∧ l ≤ j ∧ j < l + d)) Y Z) :=
  grow hL ((hL.load o 1 d l inb').congr fun r j hr hj => by
    rw [Nat.lt_one_iff.mp hr, Nat.add_zero]
    exact if_neg (hp j hj)) hy hE
end Grow

section GrowPlane
variable {k : ℕ} {sig : RefSig} {κ : Kind} {sp : Space} {v : View sig κ sp ⟨3, ![n, a, b]⟩ .f32} {f : v.ty.Contents (Elt Ideal)}
  {L : List (View.Piece (Elt Ideal) ⟨3, ![n, a, b]⟩ .f32)} {p : ℕ → Prop} {Y Z : ℕ → ℕ → ℕ → ℝ} {inb : ∀ d, (![k, 0, 0] : Fin 3 → ℕ) d + (![1, a, b] : Fin 3 → ℕ) d ≤ (![n, a, b] : Fin 3 → ℕ) d}

theorem Rep3.unchanged {x : (⟨3, ![n, a, b]⟩ : Shape).Idx → EReal} (hx : Rep3 x Z) : Rep3 x (upd3 (fun _ => False) Y Z) :=
  hx.congr fun _ _ _ _ _ _ => (if_neg id).symm
theorem Rep3.updated {x : (⟨3, ![n, a, b]⟩ : Shape).Idx → EReal} (hx : Rep3 x (upd3 p Y Z)) (h : ∀ k, k < n → p k) : Rep3 x Y :=
  hx.congr fun _ _ _ hk _ _ => if_pos (h _ hk)
/-- A plane stored. -/
theorem storePlane (hL : Rep3 (v.read (Elt Ideal) (v.writes (Elt Ideal) f L)) (upd3 p Y Z)) {w : Vec Ideal ⟨3, ![1, a, b]⟩ .f32}
    (hw : Rep3 w fun _ => Y k) :
    Rep3 (v.read (Elt Ideal) (v.writes (Elt Ideal) f (⟨Rect.unit ![k, 0, 0] ![1, a, b] inb, w⟩ :: L))) (upd3 (fun i => p i ∨ i = k) Y Z) := fun i => by
  rw [View.read_writes_cons_unit v f inb w L i rfl]
  unfold upd3
  by_cases h : (i 0).val = k
  · rw [if_pos (.inr h)]
    refine (dif_pos (fun d => match d with
      | ⟨0, _⟩ => (show k ≤ (i 0).val ∧ (i 0).val < k + 1 by omega)
      | ⟨1, _⟩ => ⟨Nat.zero_le _, (Nat.zero_add a).symm ▸ (i 1).isLt⟩
      | ⟨2, _⟩ => ⟨Nat.zero_le _, (Nat.zero_add b).symm ▸ (i 2).isLt⟩)).trans ((hw _).trans (congrArg Real.toEReal ?_))
    show Y k ((i 1).val - 0) ((i 2).val - 0) = _
    rw [h, Nat.sub_zero, Nat.sub_zero]
  · refine (dif_neg (fun hh => h (by
      have h0 : k ≤ (i 0).val ∧ (i 0).val < k + 1 := hh 0
      omega))).trans ((hL i).trans (congrArg Real.toEReal ?_))
    unfold upd3
    by_cases hp : p (i 0).val
    · rw [if_pos hp, if_pos (.inl hp)]
    · rw [if_neg hp, if_neg (fun hh => hh.elim hp h)]
/-- A plane's old numbers. -/
theorem oldPlane {x : Vec Ideal ⟨3, ![n, a, b]⟩ .f32} (hx : Rep3 x (upd3 p Y Z)) (hp : ¬p k) :
    Rep3 (n := 1) (a := a) (c := b) (View.ld x (Rect.unit ![k, 0, 0] ![1, a, b] inb)) fun _ => Z k :=
  ((On3.of_rep (p := fun _ => True) hx).plane trivial).congr fun _ r j _ _ _ => by rw [Nat.zero_add]; exact if_neg hp
end GrowPlane

end Cert.Reals

end
-- ==== Proof.MixSpec.lean ====
/- The mixer's backward call over real numbers: every quantity that it computes, by the row of the
   sequence that it belongs to. -/
module

public import proofs.«01_k».proof.Proof.Masked

@[expose] public section

noncomputable section

namespace Cert.MixValue

open Cert.Reals
open scoped BigOperators

/-- What the call reads, as tables: the residual stream, its cotangent, the projected rows that the forward saved, the
    rows before the layer norm, the pooled differences, the weights of the two products, of the filter and of the four
    pools, and the gains, the offset and the scales. -/
structure Tabs where
  X : ℕ → ℕ → ℝ
  DX : ℕ → ℕ → ℝ
  P : ℕ → ℕ → ℝ
  C : ℕ → ℕ → ℝ
  D : ℕ → ℕ → ℝ
  Win : ℕ → ℕ → ℝ
  WO : ℕ → ℕ → ℝ
  WA : ℕ → ℕ → ℝ
  PW : ℕ → ℕ → ℕ → ℝ
  G : ℕ → ℝ
  LG : ℕ → ℝ
  LB : ℕ → ℝ
  PS : ℕ → ℝ

namespace Tabs
variable (S : Tabs)

/-! ## The pooling branch -/

/-- The cotangent of the two branches side by side. -/
def dm (r j : ℕ) : ℝ := ∑ k ∈ Finset.range 1024, S.DX r k * S.WO j k
/-- The pools' output cotangent, scaled. -/
def dq (r j : ℕ) : ℝ := S.dm r (512 + j) * S.PS j
/-- What pool `g` made of its differences. -/
def yp (g r j : ℕ) : ℝ := ∑ c ∈ Finset.range 128, S.D r (128 * g + c) * S.PW g c j
/-- A row's term of the scale's gradient. -/
def tps (g r j : ℕ) : ℝ := S.dm r (512 + (128 * g + j)) * S.yp g r j
/-- A row's term of the pool's weight gradient. -/
def tpw (r g a b : ℕ) : ℝ := S.D r (128 * g + a) * S.dq r (128 * g + b)
/-- The differences' cotangent, pool by pool. -/
def dd (g r j : ℕ) : ℝ := ∑ c ∈ Finset.range 128, S.dq r (128 * g + c) * S.PW g j c
/-- How many rows pool `g` averages. -/
def width (g : ℕ) : ℕ := 2 ^ (g + 1)
/-- How many of them there are at row `r`. -/
def cnt (g r : ℕ) : ℝ := ((min (r + 1) (width g) : ℕ) : ℝ)
/-- The cotangent of a windowed sum. -/
def e (g r j : ℕ) : ℝ := S.dd g r j / cnt g r
/-- The cotangent of the pool's input. -/
def db (g r j : ℕ) : ℝ := (∑ k ∈ Finset.range (width g), S.e g (r + k) j) - S.dd g r j
/-- The four pools' cotangents side by side. -/
def eAll (r j : ℕ) : ℝ := S.e (j / 128) r (j % 128)

theorem cnt_ne (g r : ℕ) : cnt g r ≠ 0 :=
  Nat.cast_ne_zero.mpr (Nat.pos_iff_ne_zero.mp (lt_min (Nat.succ_pos r) (Nat.two_pow_pos _)))

/-! ## The filter branch -/

/-- The mean of a row before the layer norm, -/
def mu (r : ℕ) : ℝ := (∑ k ∈ Finset.range 512, S.C r k) / 512
/-- the row less that, -/
def xc (r j : ℕ) : ℝ := S.C r j - S.mu r
/-- its variance and the norm's small number, -/
def va (r : ℕ) : ℝ := (∑ k ∈ Finset.range 512, S.xc r k * S.xc r k) / 512 + eps
/-- the reciprocal root of that, -/
def rs (r : ℕ) : ℝ := (Real.sqrt (S.va r))⁻¹
/-- the normed row, -/
def z (r j : ℕ) : ℝ := S.xc r j * S.rs r
/-- and the scaled one. -/
def ln (r j : ℕ) : ℝ := S.z r j * S.LG j + S.LB j
/-- Its cotangent, through the unit that follows. -/
def dl (r j : ℕ) : ℝ := S.dm r j * (sigm (S.ln r j) * (1 + S.ln r j * (1 - sigm (S.ln r j))))
/-- The normed row's cotangent. -/
def dz (r j : ℕ) : ℝ := S.dl r j * S.LG j
/-- The cotangent of the filtered rows. -/
def dc (r j : ℕ) : ℝ := S.rs r * (S.dz r j - (∑ k ∈ Finset.range 512, S.dz r k) / 512
  - S.z r j * ((∑ k ∈ Finset.range 512, S.dz r k * S.z r k) / 512))
/-- The gate. -/
def sg (r j : ℕ) : ℝ := sigm (S.P r (512 + j))
/-- The gated rows, -/
def u (r j : ℕ) : ℝ := S.P r j * S.sg r j
/-- and the same after 32 rows of zeros. -/
def up (q j : ℕ) : ℝ := if q < 32 then 0 else S.u (q - 32) j
/-- The gated rows' cotangent: the filter turned round. -/
def du (r j : ℕ) : ℝ := S.WA 30 j * S.dc r j + ∑ k ∈ Finset.range 30, S.WA k j * S.dc (r + (30 - k)) j

theorem va_pos (r : ℕ) : 0 < S.va r :=
  add_pos_of_nonneg_of_pos (div_nonneg (Finset.sum_nonneg fun k _ => mul_self_nonneg _) (by norm_num)) eps_pos

/-! ## The results -/

/-- The projected rows' cotangent. -/
def dp (r j : ℕ) : ℝ :=
  if j < 512 then S.du r j * S.sg r j
  else if j < 1024 then S.du r (j - 512) * S.P r (j - 512) * (S.sg r (j - 512) * (1 - S.sg r (j - 512)))
  else S.db ((j - 1024) / 128) r ((j - 1024) % 128)
/-- The normed stream's cotangent. -/
def dh (r j : ℕ) : ℝ := ∑ k ∈ Finset.range 1536, S.dp r k * S.Win j k
/-- The mean square of a row of the stream, with the norm's small number. -/
def ms (r : ℕ) : ℝ := (∑ k ∈ Finset.range 1024, S.X r k * S.X r k) / 1024 + eps
/-- The reciprocal root of that. -/
def r1 (r : ℕ) : ℝ := (Real.sqrt (S.ms r))⁻¹
/-- The normed stream. -/
def n1 (r j : ℕ) : ℝ := S.X r j * S.r1 r
/-- Its cotangent. -/
def dn (r j : ℕ) : ℝ := S.dh r j * S.G j
/-- The stream's cotangent. -/
def gx (r j : ℕ) : ℝ := S.DX r j + S.r1 r * (S.dn r j - S.n1 r j * ((∑ k ∈ Finset.range 1024, S.dn r k * S.n1 r k) / 1024))

theorem ms_pos (r : ℕ) : 0 < S.ms r :=
  add_pos_of_nonneg_of_pos (div_nonneg (Finset.sum_nonneg fun k _ => mul_self_nonneg _) (by norm_num)) eps_pos

/-- Row `q`'s term of the small result of width 1024: the norm's gain in row 0. -/
def tm (q r j : ℕ) : ℝ := if r = 0 then S.dh q j * S.n1 q j else 0
/-- Row `q`'s term of the small result of width 512: the filter's taps, its offset, the layer norm's gain and offset, the
    pools' scales. -/
def t5 (q r j : ℕ) : ℝ :=
  if r < 31 then S.dc q j * S.up (r + q + 2) j
  else if r = 32 then S.dc q j else if r = 33 then S.dl q j * S.z q j else if r = 34 then S.dl q j
  else if r = 35 then S.tps (j / 128) q (j % 128) else 0

/-- The three sums over the rows from `o` on. -/
def sm (o r j : ℕ) : ℝ := ∑ q ∈ Finset.range (4096 - o), S.tm (o + q) r j
def s5 (o r j : ℕ) : ℝ := ∑ q ∈ Finset.range (4096 - o), S.t5 (o + q) r j
def sp (o g a b : ℕ) : ℝ := ∑ q ∈ Finset.range (4096 - o), S.tpw (o + q) g a b

/-- A block of 512 rows put before the rows from `o + 512` on. -/
theorem sum_split (f : ℕ → ℝ) {o : ℕ} (h : o + 512 ≤ 4096) :
    ∑ q ∈ Finset.range (4096 - o), f (o + q)
      = (∑ q ∈ Finset.range (4096 - (o + 512)), f (o + 512 + q)) + ∑ q ∈ Finset.range 512, f (o + q) := by
  rw [show 4096 - o = 512 + (4096 - (o + 512)) by omega, Finset.sum_range_add, add_comm]
  exact congrArg₂ (· + ·) (Finset.sum_congr rfl fun q _ => by rw [add_assoc]) rfl

end Tabs

end Cert.MixValue

end
-- ==== Proof.MixBody.lean ====
/- The arithmetic of the mixer's backward body over real numbers: each group of its operations on arrays
   that hold the tables of one tile gives the table that the specification names. -/
module

public import proofs.«01_k».proof.Proof.MixSpec
public import proofs.«01_k».proof.Proof.Gen.MixIdeal.Skeleton
public import Idealize.ShloMosaic.Lib.Pointwise.Contract
public import Idealize.ShloMosaic.Lib.Pointwise.ElementwiseCore
public import Idealize.ShloMosaic.Lib.WordCmp
public import Idealize.ShloMosaic.Lib.PlanTiles.Rows

@[expose] public section

set_option maxRecDepth 16384

noncomputable section

namespace Cert.MixValue

open Idealize.ShloMosaic Idealize.ShloMosaic.ValueIdx Cert.Reals Cert.MixIdeal Cert.MixIdeal.Gen
open scoped BigOperators

variable {S : Tabs} {o T g : ℕ}

/-! ## One pool -/

/-- A product whose two operands are both read down their rows. -/
theorem dotTN {x y : FVec Ideal S512x128 .bf16} {X Y : ℕ → ℕ → ℝ} (hx : Rep2 x X) (hy : Rep2 y Y) :
    Rep2 (matmul dot_S512x128_S512x128_S128x128_0_0_1_1_n_n none x y (constant S128x128 .f32 0x00000000#32))
      fun p q => ∑ k ∈ Finset.range 512, X k p * Y k q := fun i => by
  have h : matmul dot_S512x128_S512x128_S128x128_0_0_1_1_n_n none x y (constant S128x128 .f32 0x00000000#32) i
      = constant (F := Ideal) S128x128 .f32 0x00000000#32 i + ∑ k : Fin 512, x (ValueIdx.ix2 k (i 0)) * y (ValueIdx.ix2 k (i 1)) := by
    show Ideal.matmul dot_S512x128_S512x128_S128x128_0_0_1_1_n_n x y (constant (F := Ideal) S128x128 .f32 0x00000000#32) i = _
    simp only [matmulApply]
    rfl
  rw [h]
  have hz : constant (F := Ideal) S128x128 .f32 0x00000000#32 i = 0 := Ideal.ofBits_zero_f32
  rw [hz, zero_add]
  refine Eq.trans ?_ ((coe_sum _ _).trans (congrArg Real.toEReal (Finset.sum_range fun k => X k (i 0).val * Y k (i 1).val).symm))
  exact Finset.sum_congr rfl fun k _ => by rw [hx, hy, ← EReal.coe_mul]

/-- How many rows a pool averages at each row of tile `T`. -/
theorem count {v0 w : BitVec 32} {g : ℕ} (hv : v0 = BitVec.ofNat 32 T) (hT : T < 8) (hw : w = BitVec.ofNat 32 (Tabs.width g)) (hg : g < 4) :
    Rep2 (sitofp (F := Ideal) .f32 (minsi (addi (addi (iota .tc S512x128 32 [0] iota_S512x128_d0_w32) (broadcast S512x128 (Scalar.muli v0 512#32)))
      (broadcast S512x128 1#32)) (broadcast S512x128 w))) fun r _ => Tabs.cnt g (512 * T + r) := fun i => by
  have hr : (i 0).val < 512 := (i 0).isLt
  have hwd : Tabs.width g ≤ 16 := Nat.pow_le_pow_right (n := 2) (by norm_num) (show g + 1 ≤ 4 by omega)
  have e : minsi (addi (addi (iota .tc S512x128 32 [0] iota_S512x128_d0_w32) (broadcast S512x128 (Scalar.muli v0 512#32)))
      (broadcast S512x128 1#32)) (broadcast S512x128 w) i = BitVec.ofNat 32 (min (512 * T + (i 0).val + 1) (Tabs.width g)) := by
    have h1 : addi (addi (iota .tc S512x128 32 [0] iota_S512x128_d0_w32) (broadcast S512x128 (Scalar.muli v0 512#32)))
        (broadcast S512x128 1#32) i = BitVec.ofNat 32 (512 * T + (i 0).val + 1) := by
      show (iota .tc S512x128 32 [0] iota_S512x128_d0_w32 i + v0 * 512#32) + 1#32 = _
      rw [iota_single_apply, hv]
      apply BitVec.eq_of_toNat_eq
      simp only [BitVec.toNat_add, BitVec.toNat_mul, BitVec.toNat_ofNat]
      omega
    rw [minsi_apply, h1]
    show IntOp.minsi _ w = _
    rw [hw, PlanTiles.minsi_word (by omega) (by omega), min_comm]
  rw [sitofp_apply, e]
  show (((BitVec.ofNat 32 (min (512 * T + (i 0).val + 1) (Tabs.width g))).toInt : ℝ) : EReal) = _
  rw [WordCmp.toInt_ofNat_of_lt (lt_of_le_of_lt (min_le_right _ _) (by omega))]
  rfl

section Pool
variable {vm : FVec Ideal S512x128 .f32} {vd : FVec Ideal S512x128 .bf16} {vw : FVec Ideal S128x128 .bf16} {vs : FVec Ideal S1x128 .f32}
  (hm : Rep2 vm fun r j => S.dm (o + r) (512 + (128 * g + j))) (hd : Rep2 vd fun r j => S.D (o + r) (128 * g + j)) (hw : Rep2 vw (S.PW g))
  (hs : Rep2 vs fun _ j => S.PS (128 * g + j))
include hm

/-- The scaled cotangent of a pool's output. -/
theorem pool_dq (hs : Rep2 vs fun _ j => S.PS (128 * g + j)) (hb hh) :
    Rep2 (truncf (F := Ideal) .bf16 (mulf vm (broadcastTo S512x128 vs hb)) hh) fun r j => S.dq (o + r) (128 * g + j) :=
  (hm.mul (hs.spreadRow hb)).trunc _

/-- The scale's gradient brought up to date. -/
theorem pool_scale (hd : Rep2 vd fun r j => S.D (o + r) (128 * g + j)) (hw : Rep2 vw (S.PW g)) {old : FVec Ideal S1x128 .f32} {Z : ℕ → ℝ}
    (h0 : Rep2 old fun _ j => Z j) (hh h1 h2 h3 h4) :
    Rep2 (addf (F := Ideal) (shapeCast S1x128 old hh) (shapeCast S1x128 (multiReduction .add [0] S128 (mulf vm
      (matmul dot_S512x128_S128x128_S512x128_1_0_0_1_n_n none vd vw (constant S512x128 .f32 0x00000000#32))) 0x00000000#32 h1 h2 h3) h4))
      fun _ j => Z j + ∑ r ∈ Finset.range 512, S.tps g (o + r) j :=
  (h0.cast hh).add ((hm.mul (hd.dot hw _)).colSum _ _ _ _ _)

end Pool

/-- The pool's weight gradient brought up to date. -/
theorem pool_weight {vd vq : FVec Ideal S512x128 .bf16} {old : FVec Ideal S1x128x128 .f32} {Z : ℕ → ℕ → ℝ}
    (hd : Rep2 vd fun r j => S.D (o + r) (128 * g + j)) (hq : Rep2 vq fun r j => S.dq (o + r) (128 * g + j)) (h0 : Rep3 old fun _ => Z) (hh hc) :
    Rep3 (shapeCast S1x128x128 (addf (F := Ideal) (shapeCast S128x128 old hh)
      (matmul dot_S512x128_S512x128_S128x128_0_0_1_1_n_n none vd vq (constant S128x128 .f32 0x00000000#32))) hc)
      fun _ a b => Z a b + ∑ r ∈ Finset.range 512, S.tpw (o + r) g a b :=
  ((h0.asMatrix hh).add (dotTN hd hq)).asPlane hc

/-- The cotangent of a pool's differences. -/
theorem pool_dd {vq : FVec Ideal S512x128 .bf16} {vw : FVec Ideal S128x128 .bf16}
    (hq : Rep2 vq fun r j => S.dq (o + r) (128 * g + j)) (hw : Rep2 vw (S.PW g)) :
    Rep2 (matmul (F := Ideal) dot_S512x128_S128x128_S512x128_1_1_0_0_n_n none vq vw (constant S512x128 .f32 0x00000000#32))
      fun r j => S.dd g (o + r) j := hq.dotNT hw _

/-- The cotangent of its windowed sums. -/
theorem pool_e {vq : FVec Ideal S512x128 .bf16} {vw : FVec Ideal S128x128 .bf16} {v0 w : BitVec 32}
    (hq : Rep2 vq fun r j => S.dq (512 * T + r) (128 * g + j)) (hw : Rep2 vw (S.PW g)) (hv : v0 = BitVec.ofNat 32 T) (hT : T < 8)
    (hwd : w = BitVec.ofNat 32 (Tabs.width g)) (hg : g < 4) :
    Rep2 (divf (F := Ideal) (matmul dot_S512x128_S128x128_S512x128_1_1_0_0_n_n none vq vw (constant S512x128 .f32 0x00000000#32))
      (sitofp .f32 (minsi (addi (addi (iota .tc S512x128 32 [0] iota_S512x128_d0_w32) (broadcast S512x128 (Scalar.muli v0 512#32)))
      (broadcast S512x128 1#32)) (broadcast S512x128 w)))) fun r j => S.e g (512 * T + r) j :=
  (pool_dd hq hw).div (count hv hT hwd hg) fun _ _ _ _ => Tabs.cnt_ne _ _

/-! ## The layer norm -/

section Norm
variable {vc : FVec Ideal S512x512 .bf16} {vm : FVec Ideal S512x512 .f32} {vg vb : FVec Ideal S1x512 .f32}
  (hc : Rep2 vc fun r j => S.C (o + r) j) (hm : Rep2 vm fun r j => S.dm (o + r) j) (hg : Rep2 vg fun _ j => S.LG j) (hb : Rep2 vb fun _ j => S.LB j)
include hc

theorem pay56 : Rep2 (k0_pay56 (F := Ideal) vc) fun r j => S.C (o + r) j := (hc.cast _).ext (φ := .bf16) _
theorem pay59 : Rep2 (k0_pay59 (F := Ideal) (k0_pay56 vc) (k0_pay57 vc) k0_pay58) fun r j => S.xc (o + r) j :=
  (pay56 hc).sub ((((pay56 hc).rowSum _ _ _ _ _).div (.splat lit_512) fun _ _ _ _ => by norm_num).spreadCol _)
theorem pay60 : Rep2 (k0_pay60 (F := Ideal) (k0_pay56 vc) (k0_pay57 vc) k0_pay58) fun r _ => S.rs (o + r) :=
  ((((((pay59 hc).mul (pay59 hc)).rowSum _ _ _ _ _).div (.splat lit_512) fun _ _ _ _ => by norm_num).add (.splat lit_eps)).rsqrt
    fun r _ _ _ => S.va_pos (o + r))
theorem pay61 : Rep2 (k0_pay61 (F := Ideal) (k0_pay56 vc) (k0_pay57 vc) k0_pay58) fun r j => S.z (o + r) j :=
  (pay59 hc).mul ((pay60 hc).spreadCol _)
include hm hg hb
theorem pay62 : Rep2 (k0_pay62 (F := Ideal) vm (k0_pay56 vc) (k0_pay57 vc) k0_pay58 vg vb) fun r j => S.dl (o + r) j :=
  let l := ((pay61 hc).mul (hg.spreadRow broadcasts_S1x512_S512x512)).add (hb.spreadRow broadcasts_S1x512_S512x512)
  hm.mul (l.logistic.mul ((Rep2.splat lit_one).add (l.mul ((Rep2.splat lit_one).sub l.logistic))))
theorem pay65 : Rep2 (k0_pay65 (F := Ideal) (k0_pay60 (k0_pay56 vc) (k0_pay57 vc) k0_pay58) (k0_pay61 (k0_pay56 vc) (k0_pay57 vc) k0_pay58)
    (k0_pay62 vm (k0_pay56 vc) (k0_pay57 vc) k0_pay58 vg vb) vg) fun r j => S.dc (o + r) j :=
  let d := (pay62 hc hm hg hb).mul (hg.spreadRow broadcasts_S1x512_S512x512)
  ((pay60 hc).spreadCol _).mul ((d.sub (((d.rowSum _ _ _ _ _).div (.splat lit_512) fun _ _ _ _ => by norm_num).spreadCol _)).sub
    ((pay61 hc).mul ((((d.mul (pay61 hc)).rowSum _ _ _ _ _).div (.splat lit_512) fun _ _ _ _ => by norm_num).spreadCol _)))
end Norm

/-- A row of sums brought up to date with the column sums of a tile. -/
theorem row_sum {x : FVec Ideal S512x512 .f32} {X : ℕ → ℕ → ℝ} (hx : Rep2 x X) {old : FVec Ideal S1x512 .f32} {Z : ℕ → ℝ}
    (h0 : Rep2 old fun _ j => Z j) (hh h1 h2 h3 h4) :
    Rep2 (addf (F := Ideal) (shapeCast S1x512 old hh) (shapeCast S1x512 (multiReduction .add [0] S512 x 0x00000000#32 h1 h2 h3) h4))
      fun _ j => Z j + ∑ q ∈ Finset.range 512, X q j :=
  (h0.cast hh).add (hx.colSum _ _ _ _ _)

/-! ## The gated rows -/

section Gate
variable {va vg : FVec Ideal S512x512 .bf16} (ha : Rep2 va fun r j => S.P (o + r) j) (hg : Rep2 vg fun r j => S.P (o + r) (512 + j))

theorem pay71 (ha : Rep2 va fun r j => S.P (o + r) j) : Rep2 (k0_pay71 (F := Ideal) va) fun r j => S.P (o + r) j := (ha.cast _).ext (φ := .bf16) _
theorem pay72 (hg : Rep2 vg fun r j => S.P (o + r) (512 + j)) : Rep2 (k0_pay72 (F := Ideal) vg) fun r j => S.sg (o + r) j :=
  ((hg.cast _).ext (φ := .bf16) (ψ := .f32) _).logistic
theorem pay73 (ha : Rep2 va fun r j => S.P (o + r) j) (hg : Rep2 vg fun r j => S.P (o + r) (512 + j)) :
    Rep2 (k0_pay73 (F := Ideal) va vg) fun r j => S.u (o + r) j := ((pay71 ha).mul (pay72 hg)).cast _
end Gate

/-- One where a tile has a tile before it, zero at the first. -/
theorem pay68 {v0 : BitVec 32} (hv : v0 = BitVec.ofNat 32 T) (hT : T < 8) : k0_pay68 (F := Ideal) v0 = (((if T = 0 then 0 else 1 : ℝ)) : EReal) := by
  subst hv
  show (((Scalar.extui (Scalar.cmpi .sgt (BitVec.ofNat 32 T) 0#32) : BitVec 32).toInt : ℝ) : EReal) = _
  interval_cases T
  · rw [show (Scalar.extui (Scalar.cmpi .sgt (BitVec.ofNat 32 0) 0#32) : BitVec 32).toInt = 0 by decide]; simp
  all_goals rw [if_neg (by norm_num)]; exact congrArg Real.toEReal (by exact_mod_cast congrArg (Int.cast (R := ℝ)) (by decide : _ = (1 : ℤ)))

/-- The 32 rows before a tile. -/
theorem pay70 {v0 : BitVec 32} (hv : v0 = BitVec.ofNat 32 T) (hT : T < 8) {va vg : FVec Ideal S32x512 .bf16}
    (ha : Rep2 va fun r j => S.P (512 * T - 32 + r) j) (hg : Rep2 vg fun r j => S.P (512 * T - 32 + r) (512 + j)) :
    Rep2 (k0_pay70 (F := Ideal) (k0_pay68 v0) (k0_pay69 va vg)) fun r j => S.up (512 * T + r) j :=
  (((((ha.cast _).ext (φ := .bf16) (ψ := .f32) bitsLt_bf16_f32).mul ((hg.cast _).ext (φ := .bf16) (ψ := .f32) bitsLt_bf16_f32).logistic).mul
    (.splat (pay68 hv hT))).cast shapeCasts_S32x512_S32x512).congr fun r j hr _ => by
    unfold Tabs.up
    by_cases h : T = 0
    · rw [if_pos h, mul_zero, if_pos (by omega)]
    · rw [if_neg h, mul_one, if_neg (by omega), show 512 * T + r - 32 = 512 * T - 32 + r by omega]; rfl

/-! ## The product and the norm's backward -/

section Out
variable {v0 v1 v2 v3 : FVec Ideal S512x128 .f32} {vp vg vu : FVec Ideal S512x512 .f32}

/-- The projected rows' cotangent. -/
theorem pay137 (h0 : Rep2 v0 fun r j => S.db 0 (o + r) j) (h1 : Rep2 v1 fun r j => S.db 1 (o + r) j) (h2 : Rep2 v2 fun r j => S.db 2 (o + r) j)
    (h3 : Rep2 v3 fun r j => S.db 3 (o + r) j) (hp : Rep2 vp fun r j => S.P (o + r) j) (hg : Rep2 vg fun r j => S.sg (o + r) j)
    (hu : Rep2 vu fun r j => S.du (o + r) j) : Rep2 (k0_pay137 (F := Ideal) v0 v1 v2 v3 vp vg vu) fun r j => S.dp (o + r) j := by
  refine Rep2.trunc (φ := .f32) (fun i => ?_) _
  have ha := hu.mul hg
  have hb := (hu.mul hp).mul (hg.mul ((Rep2.splat lit_one).sub hg))
  have hi : (i 1).val < 1536 := (i 1).isLt
  show _ = ((Tabs.dp S (o + (i 0).val) (i 1).val : ℝ) : EReal)
  unfold Tabs.dp
  by_cases c0 : (i 1).val < 512
  · rw [if_pos c0]
    exact ha.sidePiece _ _ 0 (by simp) rfl 0 rfl i (Nat.zero_le _) c0
  rw [if_neg c0]
  by_cases c1 : (i 1).val < 1024
  · rw [if_pos c1]
    exact hb.sidePiece _ _ 1 (by simp) rfl 512 rfl i (by omega) (by omega)
  rw [if_neg c1]
  by_cases d0 : (i 1).val < 1152
  · rw [show ((i 1).val - 1024) / 128 = 0 by omega, show ((i 1).val - 1024) % 128 = (i 1).val - 1024 by omega]
    exact h0.sidePiece _ _ 2 (by simp) rfl 1024 rfl i (by omega) (by omega)
  by_cases d1 : (i 1).val < 1280
  · rw [show ((i 1).val - 1024) / 128 = 1 by omega, show ((i 1).val - 1024) % 128 = (i 1).val - 1152 by omega]
    exact h1.sidePiece _ _ 3 (by simp) rfl 1152 rfl i (by omega) (by omega)
  by_cases d2 : (i 1).val < 1408
  · rw [show ((i 1).val - 1024) / 128 = 2 by omega, show ((i 1).val - 1024) % 128 = (i 1).val - 1280 by omega]
    exact h2.sidePiece _ _ 4 (by simp) rfl 1280 rfl i (by omega) (by omega)
  · rw [show ((i 1).val - 1024) / 128 = 3 by omega, show ((i 1).val - 1024) % 128 = (i 1).val - 1408 by omega]
    exact h3.sidePiece _ _ 5 (by simp) rfl 1408 rfl i (by omega) (by omega)

variable {dp : FVec Ideal S512x1536 .bf16} {w : FVec Ideal S1024x1536 .bf16} {vx : FVec Ideal S512x1024 .f32} {vn : FVec Ideal S1x1024 .f32}

/-- The stream's normed rows. -/
theorem pay139 (hx : Rep2 vx fun r j => S.X (o + r) j) : Rep2 (k0_pay139 (F := Ideal) vx) fun r _ => S.r1 (o + r) :=
  (((((hx.mul hx).rowSum _ _ _ _ _).div (.splat lit_1024) fun _ _ _ _ => by norm_num).add (.splat lit_eps)).rsqrt fun r _ _ _ => S.ms_pos (o + r))
theorem pay140 (hx : Rep2 vx fun r j => S.X (o + r) j) : Rep2 (k0_pay140 (F := Ideal) vx) fun r j => S.n1 (o + r) j :=
  hx.mul ((pay139 hx).spreadCol _)

variable (hd : Rep2 (k0_pay137 (F := Ideal) v0 v1 v2 v3 vp vg vu) fun r j => S.dp (o + r) j) (hw : Rep2 w S.Win)
include hd hw
theorem pay138 : Rep2 (k0_pay138 (F := Ideal) v0 v1 v2 v3 vp vg vu w) fun r j => S.dh (o + r) j := hd.dotNT hw _
/-- The norm's gain gradient brought up to date. -/
theorem pay141 (hx : Rep2 vx fun r j => S.X (o + r) j) {old : FVec Ideal S1x1024 .f32} {Z : ℕ → ℝ} (h0 : Rep2 old fun _ j => Z j) :
    Rep2 (k0_pay141 (F := Ideal) v0 v1 v2 v3 vp vg vu w vx old) fun _ j => Z j + ∑ q ∈ Finset.range 512, S.dh (o + q) j * S.n1 (o + q) j :=
  (h0.cast _).add (((pay138 hd hw).mul (pay140 hx)).colSum _ _ _ _ _)
theorem pay142 (hn : Rep2 vn fun _ j => S.G j) : Rep2 (k0_pay142 (F := Ideal) v0 v1 v2 v3 vp vg vu w vn) fun r j => S.dn (o + r) j :=
  (pay138 hd hw).mul (hn.spreadRow _)
/-- The stream's cotangent. -/
theorem pay1 (hx : Rep2 vx fun r j => S.X (o + r) j) (hn : Rep2 vn fun _ j => S.G j) {v6 : FVec Ideal S512x1024 .f32}
    (h6 : Rep2 v6 fun r j => S.DX (o + r) j) :
    Rep2 (k0_pay1 (F := Ideal) v6 (k0_pay139 vx) (k0_pay140 vx) (k0_pay142 v0 v1 v2 v3 vp vg vu w vn) (k0_pay143 v0 v1 v2 v3 vp vg vu w vx vn))
      fun r j => S.gx (o + r) j :=
  h6.add (((pay139 hx).spreadCol _).mul ((pay142 hd hw hn).sub ((pay140 hx).mul
    (((((pay142 hd hw hn).mul (pay140 hx)).rowSum 0x00000000#32 reduces_S512x1024_S512 (.inl rfl) rfl shapeCasts_S512_S512x1).div (.splat lit_1024) fun _ _ _ _ => by norm_num).spreadCol _))))
end Out

end Cert.MixValue

end
-- ==== Proof.MixKit.lean ====
module

public import proofs.«01_k».proof.Proof.Gen.MixIdeal.Skeleton
public import proofs.«01_k».proof.Proof.Gen.MixIdeal.Frame

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The memory the mixer's backward body works on at one grid point: its staging buffers and its scratch, each whole. -/
structure Mems where
  a1 : Memref sig .tc .vmem S512x1024 .bf16
  h1 : a1.IsWhole
  a2 : Memref sig .tc .vmem S512x1024 .f32
  h2 : a2.IsWhole
  a3 : Memref sig .tc .vmem S512x1536 .bf16
  h3 : a3.IsWhole
  a4 : Memref sig .tc .vmem S32x1024 .bf16
  h4 : a4.IsWhole
  a5 : Memref sig .tc .vmem S512x512 .bf16
  h5 : a5.IsWhole
  a6 : Memref sig .tc .vmem S512x512 .bf16
  h6 : a6.IsWhole
  a7 : Memref sig .tc .vmem S1x1024 .f32
  h7 : a7.IsWhole
  a9 : Memref sig .tc .vmem S32x512 .f32
  h9 : a9.IsWhole
  a10 : Memref sig .tc .vmem S1x512 .f32
  h10 : a10.IsWhole
  a11 : Memref sig .tc .vmem S1x512 .f32
  h11 : a11.IsWhole
  a12 : Memref sig .tc .vmem S4x128x128 .f32
  h12 : a12.IsWhole
  a13 : Memref sig .tc .vmem S1x512 .f32
  h13 : a13.IsWhole
  a15 : Memref sig .tc .vmem S512x1536 .bf16
  h15 : a15.IsWhole
  a16 : Memref sig .tc .vmem S512x1024 .f32
  h16 : a16.IsWhole
  a17 : Memref sig .tc .vmem S8x1024 .f32
  h17 : a17.IsWhole
  a18 : Memref sig .tc .vmem S40x512 .f32
  h18 : a18.IsWhole
  a19 : Memref sig .tc .vmem S4x128x128 .f32
  h19 : a19.IsWhole
  a20 : Memref sig .tc .vmem S1024x1536 .bf16
  h20 : a20.IsWhole
  a21 : Memref sig .tc .vmem S1024x1024 .bf16
  h21 : a21.IsWhole
  a22 : Memref sig .tc .vmem S544x512 .f32
  h22 : a22.IsWhole
  a23 : Memref sig .tc .vmem S7x536x512 .f32
  h23 : a23.IsWhole
  a24 : Memref sig .tc .vmem S544x512 .f32
  h24 : a24.IsWhole
  a25 : Memref sig .tc .vmem S7x536x512 .f32
  h25 : a25.IsWhole
  a26 : Memref sig .tc .vmem S528x512 .f32
  h26 : a26.IsWhole

/-- The blocks the body finds in its input windows. -/
structure Blocks (F : FTy → Type) where
  dx1 : Vec F S512x1024 .bf16
  x : Vec F S512x1024 .f32
  proj : Vec F S512x1536 .bf16
  halo : Vec F S32x1024 .bf16
  cpre : Vec F S512x512 .bf16
  d : Vec F S512x512 .bf16
  g1 : Vec F S1x1024 .f32
  wa : Vec F S32x512 .f32
  lg : Vec F S1x512 .f32
  lb : Vec F S1x512 .f32
  pw : Vec F S4x128x128 .f32
  ps : Vec F S1x512 .f32

/-- What the body leaves: its outputs, and the scratch that the next grid point reads (the two weights, the
    rows of the convolution's and of the pools' gradients that reach into the tile above). -/
structure Left (F : FTy → Type) where
  dproj : Vec F S512x1536 .bf16
  gx : Vec F S512x1024 .f32
  sm : Vec F S8x1024 .f32
  s5 : Vec F S40x512 .f32
  sp : Vec F S4x128x128 .f32
  win : Vec F S1024x1536 .bf16
  wout : Vec F S1024x1024 .bf16
  dcb : Vec F S544x512 .f32
  eb : Vec F S528x512 .f32

/-- The stores of the body into each of those buffers, the last one first. -/
structure Stores (F : FTy → Type) where
  dproj : List (View.Piece (Elt F) S512x1536 .bf16)
  gx : List (View.Piece (Elt F) S512x1024 .f32)
  sm : List (View.Piece (Elt F) S8x1024 .f32)
  s5 : List (View.Piece (Elt F) S40x512 .f32)
  sp : List (View.Piece (Elt F) S4x128x128 .f32)
  win : List (View.Piece (Elt F) S1024x1536 .bf16)
  wout : List (View.Piece (Elt F) S1024x1024 .bf16)
  dcb : List (View.Piece (Elt F) S544x512 .f32)
  eb : List (View.Piece (Elt F) S528x512 .f32)

/-- The first grid point is the one whose coordinate is zero: there the body loads the weights and clears its sums. -/
abbrev First (i : grid0.Coords) : Prop := (Scalar.cmpi .ne (Scalar.extui (Scalar.cmpi .eq (BitVec.ofNat 32 (i 0).val) 0#32)) 0#32) = 1#1

theorem first_iff (t : Fin cfg0.N) : First (grid0.coords t) ↔ t.val = 0 := by
  have ht : t.val < 8 := Nat.lt_of_lt_of_eq t.isLt N_0
  have e : (grid0.coords t 0).val = t.val / 1 % 8 := Pipeline.Grid.coords_val t 0 (by decide) rfl
  have h : First (grid0.coords t) ↔ t.val % 8 = 0 := by
    simp only [First, e]
    word_cmp
  rw [h]; omega

/-- A weight left in the large memory, whole on core `c` with contents `f`. -/
abbrev HbBuf (c : Dev nD) {S : Shape} {e : EltTy} (M : Memref sig .tc .hbm S e) : Type := Buf (Elt F) (M.view.loc (c : Thread nD τ))
abbrev hbPt (c : Dev nD) {S : Shape} {e : EltTy} (M : Memref sig .tc .hbm S e) (f : HbBuf (F := F) c M) : sProp 𝕄 :=
  M.view.loc (c : Thread nD τ) ↦{fullShare} f
abbrev winH : Memref sig .tc .hbm S1024x1536 .bf16 := Memref.whole main_v72
abbrev woutH : Memref sig .tc .hbm S1024x1024 .bf16 := Memref.whole main_v75

/-- What every run of the body is handed and hands back unchanged: the input blocks, the two semaphores at zero, the weights. -/
def kept (c : Dev nD) (M : Mems) (X : Blocks F) (fi : HbBuf (F := F) c winH) (fo : HbBuf (F := F) c woutH) : sProp 𝕄 :=
  iprop(owns (c : Thread nD τ) M.a1 fullShare X.dx1 ∗ owns (c : Thread nD τ) M.a2 fullShare X.x ∗ owns (c : Thread nD τ) M.a3 fullShare X.proj ∗ owns (c : Thread nD τ) M.a4 fullShare X.halo ∗ owns (c : Thread nD τ) M.a5 fullShare X.cpre ∗ owns (c : Thread nD τ) M.a6 fullShare X.d ∗ owns (c : Thread nD τ) M.a7 fullShare X.g1 ∗ owns (c : Thread nD τ) M.a9 fullShare X.wa ∗ owns (c : Thread nD τ) M.a10 fullShare X.lg ∗ owns (c : Thread nD τ) M.a11 fullShare X.lb ∗ owns (c : Thread nD τ) M.a12 fullShare X.pw ∗ owns (c : Thread nD τ) M.a13 fullShare X.ps
    ∗ semVal ((c : Thread nD τ), SemLoc.dma 25) 0 ∗ semVal ((c : Thread nD τ), SemLoc.dma 26) 0 ∗ hbPt c winH fi ∗ hbPt c woutH fo)

end Cert.MixRun

end
-- ==== Proof.MixTile.lean ====
/- One tile of the mixer's backward call: the tables its input blocks hold, the scratch buffers with the
   rows that reach in from the tiles beside it, and the steps that bring each running sum up to date. -/
module

public import proofs.«01_k».proof.Proof.MixBody
public import proofs.«01_k».proof.Proof.MixKit

@[expose] public section

set_option maxRecDepth 16384

noncomputable section

namespace Cert.MixValue

open Idealize.ShloMosaic Idealize.ShloMosaic.ValueIdx Cert.Reals Cert.MixIdeal Cert.MixIdeal.Gen Cert.MixRun
open scoped BigOperators

variable {S : Tabs} {T : ℕ} {X : Blocks Ideal}

/-- The blocks of tile `T`. -/
structure Tile (S : Tabs) (T : ℕ) (X : Blocks Ideal) : Prop where
  dx1 : Rep2 X.dx1 fun r j => S.DX (512 * T + r) j
  x : Rep2 X.x fun r j => S.X (512 * T + r) j
  proj : Rep2 X.proj fun r j => S.P (512 * T + r) j
  halo : Rep2 X.halo fun r j => S.P (512 * T - 32 + r) j
  cpre : Rep2 X.cpre fun r j => S.C (512 * T + r) j
  d : Rep2 X.d fun r j => S.D (512 * T + r) j
  g1 : Rep2 X.g1 fun _ j => S.G j
  wa : Rep2 X.wa S.WA
  lg : Rep2 X.lg fun _ j => S.LG j
  lb : Rep2 X.lb fun _ j => S.LB j
  pw : Rep3 X.pw S.PW
  ps : Rep2 X.ps fun _ j => S.PS j

/-- What the body leaves at tile `T`, of what the call goes on to read. -/
structure Held (S : Tabs) (T : ℕ) (L : Left Ideal) : Prop where
  dproj : Rep2 L.dproj fun r j => S.dp (512 * T + r) j
  gx : Rep2 L.gx fun r j => S.gx (512 * T + r) j
  sm : Rep2 L.sm (S.sm (512 * T))
  s5 : Rep2 L.s5 (S.s5 (512 * T))
  sp : Rep3 L.sp (S.sp (512 * T))
  win : Rep2 L.win S.Win
  wout : Rep2 L.wout S.WO
  dcb : On2 (fun q _ => 512 ≤ q) L.dcb fun q j => S.dc (512 * T + (q - 512)) j
  eb : On2 (fun q _ => 512 ≤ q) L.eb fun q j => S.eAll (512 * T + (q - 512)) j

namespace Tile
variable (B : Tile S T X) {wo : Vec Ideal S1024x1024 .bf16} {g l : ℕ}
include B

/-! ## The pools -/

theorem m (hwo : Rep2 wo S.WO) (inb) : Rep2 (k0_pay9 (F := Ideal) (View.ld X.dx1 (Rect.unit ![0, 0] ![512, 1024] inb)) wo) fun r j => S.dm (512 * T + r) j :=
  ((B.dx1.loadAll16 inb).cast _).dotNT hwo _
theorem ma (hwo : Rep2 wo S.WO) (inb) : Rep2 (k0_pay10 (F := Ideal) (View.ld X.dx1 (Rect.unit ![0, 0] ![512, 1024] inb)) wo) fun r j => S.dm (512 * T + r) j :=
  ((B.m hwo inb).cols 512 0 slices_S512x1024_o0_0_S512x512).congr fun r j _ _ => by rw [Nat.zero_add]
theorem mg (hwo : Rep2 wo S.WO) (inb) (hl : l = 128 * g) (h) :
    Rep2 (extractStridedSlice S512x128 ![0, l] (k0_pay11 (F := Ideal) (View.ld X.dx1 (Rect.unit ![0, 0] ![512, 1024] inb)) wo) h)
      fun r j => S.dm (512 * T + r) (512 + (128 * g + j)) :=
  (((B.m hwo inb).cols 512 512 slices_S512x1024_o0_512_S512x512).cols 128 l h).congr fun r j _ _ => by rw [hl]
theorem psg (hl : l = 128 * g) (inb) : Rep2 (a := 1) (b := 128) (View.ld X.ps (Rect.unit ![0, l] ![1, 128] inb)) fun _ j => S.PS (128 * g + j) :=
  (B.ps.load 0 1 128 l inb).congr fun r j _ _ => by rw [hl]
theorem dg (hl : l = 128 * g) (inb h) : Rep2 (shapeCast S512x128 (View.ld X.d (Rect.unit ![0, l] ![512, 128] inb) : Vec Ideal S512x128 .bf16) h)
    fun r j => S.D (512 * T + r) (128 * g + j) :=
  ((B.d.loadCols16 128 l inb).congr fun r j _ _ => by rw [hl]).cast h
theorem pwg (inb h) (h' : FTy.bits .bf16 < FTy.bits .f32) : Rep2 (truncf (F := Ideal) (φ := .f32) .bf16 (shapeCast S128x128 (View.ld X.pw (Rect.unit ![g, 0, 0] ![1, 128, 128] inb) : Vec Ideal S1x128x128 .f32) h) h') (S.PW g) :=
  ((On3.of_rep (p := fun _ => True) B.pw).load trivial fun r j _ _ => by rw [Nat.zero_add]).trunc (φ := .f32) h'

/-- The scaled cotangent of pool `g`'s output. -/
theorem q (hwo : Rep2 wo S.WO) (hl : l = 128 * g) (i0 i1 hs hb hh) :
    Rep2 (truncf (F := Ideal) .bf16 (mulf (extractStridedSlice S512x128 ![0, l] (k0_pay11 (F := Ideal) (View.ld X.dx1 (Rect.unit ![0, 0] ![512, 1024] i0)) wo) hs)
      (broadcastTo S512x128 (View.ld X.ps (Rect.unit ![0, l] ![1, 128] i1) : Vec Ideal S1x128 .f32) hb)) hh) fun r j => S.dq (512 * T + r) (128 * g + j) :=
  pool_dq (B.mg hwo i0 hl hs) (B.psg hl i1) hb hh

/-! ## The layer norm -/

theorem norm_dl (hwo : Rep2 wo S.WO) (i0 i1 i2 i3) :
    Rep2 (k0_pay62 (F := Ideal) (k0_pay10 (View.ld X.dx1 (Rect.unit ![0, 0] ![512, 1024] i0)) wo) (k0_pay56 (View.ld X.cpre (Rect.unit ![0, 0] ![512, 512] i1)))
      (k0_pay57 (View.ld X.cpre (Rect.unit ![0, 0] ![512, 512] i1))) k0_pay58 (View.ld X.lg (Rect.unit ![0, 0] ![1, 512] i2)) (View.ld X.lb (Rect.unit ![0, 0] ![1, 512] i3)))
      fun r j => S.dl (512 * T + r) j :=
  pay62 (B.cpre.loadAll16 i1) (B.ma hwo i0) (B.lg.loadAll i2) (B.lb.loadAll i3)
theorem norm_z (i1) : Rep2 (k0_pay61 (F := Ideal) (k0_pay56 (View.ld X.cpre (Rect.unit ![0, 0] ![512, 512] i1)))
      (k0_pay57 (View.ld X.cpre (Rect.unit ![0, 0] ![512, 512] i1))) k0_pay58) fun r j => S.z (512 * T + r) j :=
  pay61 (B.cpre.loadAll16 i1)
theorem norm_dc (hwo : Rep2 wo S.WO) (i0 i1 i2 i3) :
    Rep2 (k0_pay65 (F := Ideal) (k0_pay60 (k0_pay56 (View.ld X.cpre (Rect.unit ![0, 0] ![512, 512] i1))) (k0_pay57 (View.ld X.cpre (Rect.unit ![0, 0] ![512, 512] i1))) k0_pay58)
      (k0_pay61 (k0_pay56 (View.ld X.cpre (Rect.unit ![0, 0] ![512, 512] i1))) (k0_pay57 (View.ld X.cpre (Rect.unit ![0, 0] ![512, 512] i1))) k0_pay58)
      (k0_pay62 (F := Ideal) (k0_pay10 (View.ld X.dx1 (Rect.unit ![0, 0] ![512, 1024] i0)) wo) (k0_pay56 (View.ld X.cpre (Rect.unit ![0, 0] ![512, 512] i1)))
        (k0_pay57 (View.ld X.cpre (Rect.unit ![0, 0] ![512, 512] i1))) k0_pay58 (View.ld X.lg (Rect.unit ![0, 0] ![1, 512] i2)) (View.ld X.lb (Rect.unit ![0, 0] ![1, 512] i3)))
      (View.ld X.lg (Rect.unit ![0, 0] ![1, 512] i2))) fun r j => S.dc (512 * T + r) j :=
  pay65 (B.cpre.loadAll16 i1) (B.ma hwo i0) (B.lg.loadAll i2) (B.lb.loadAll i3)

/-! ## The gated rows -/

theorem pa (i1) : Rep2 (View.ld X.proj (Rect.unit ![0, 0] ![512, 512] i1) : Vec Ideal S512x512 .bf16) fun r j => S.P (512 * T + r) j :=
  (B.proj.loadCols16 512 0 i1).congr fun r j _ _ => by rw [Nat.zero_add]
theorem pg (i1) : Rep2 (View.ld X.proj (Rect.unit ![0, 512] ![512, 512] i1) : Vec Ideal S512x512 .bf16) fun r j => S.P (512 * T + r) (512 + j) :=
  B.proj.loadCols16 512 512 i1
theorem ha (i1) : Rep2 (View.ld X.halo (Rect.unit ![0, 0] ![32, 512] i1) : Vec Ideal S32x512 .bf16) fun r j => S.P (512 * T - 32 + r) j :=
  (B.halo.loadCols16 512 0 i1).congr fun r j _ _ => by rw [Nat.zero_add]
theorem hg (i1) : Rep2 (View.ld X.halo (Rect.unit ![0, 512] ![32, 512] i1) : Vec Ideal S32x512 .bf16) fun r j => S.P (512 * T - 32 + r) (512 + j) :=
  B.halo.loadCols16 512 512 i1

end Tile

/-! ## The scratch buffers -/

section Buffers
variable {sig : RefSig} {κ : Kind} {sp : Space}

/-- The buffer of the filtered rows' cotangent, its last rows from the tile after. -/
theorem dc_buf {v : View sig κ sp S544x512 .f32} {f : v.ty.Contents (Elt Ideal)} {L : List (View.Piece (Elt Ideal) S544x512 .f32)} {inb} {w : FVec Ideal S512x512 .f32}
    (hL : On2 (fun q _ => 512 ≤ q) (v.read (Elt Ideal) (v.writes (Elt Ideal) f L)) fun q j => S.dc (512 * (T + 1) + (q - 512)) j)
    (hw : Rep2 w fun r j => S.dc (512 * T + r) j) (h) :
    Rep2 (v.read (Elt Ideal) (v.writes (Elt Ideal) f (⟨Rect.unit ![0, 0] ![512, 512] inb, shapeCast S512x512 w h⟩ :: L))) fun q j => S.dc (512 * T + q) j :=
  ((hL.congr (q := fun q _ => 512 ≤ q) (Y := fun q j => S.dc (512 * T + q) j) fun q j _ _ hq => ⟨hq, by rw [show 512 * (T + 1) + (q - 512) = 512 * T + q by omega]⟩).store
    ((hw.cast h).congr fun r j _ _ => by rw [Nat.zero_add, Nat.zero_add])).all fun r j _ _ => by omega
/-- Its first rows, read off the tile's own store, handed on to the tile before. -/
theorem dc_carry {v : View sig κ sp S544x512 .f32} {f f' : v.ty.Contents (Elt Ideal)} {L L' : List (View.Piece (Elt Ideal) S544x512 .f32)} {inb inb' inb₀} {w : FVec Ideal S512x512 .f32}
    (hw : Rep2 w fun r j => S.dc (512 * T + r) j) (h) :
    On2 (fun q _ => 512 ≤ q) (v.read (Elt Ideal) (v.writes (Elt Ideal) f (⟨Rect.unit ![512, 0] ![32, 512] inb,
      k0_pay136 (F := Ideal) (View.ld (v.read (Elt Ideal) (v.writes (Elt Ideal) f' (⟨Rect.unit ![0, 0] ![512, 512] inb₀, shapeCast S512x512 w h⟩ :: L')))
        (Rect.unit ![0, 0] ![32, 512] inb'))⟩ :: L))) fun q j => S.dc (512 * T + (q - 512)) j := by
  have hx := (On2.nowhere (v.read (Elt Ideal) (v.writes (Elt Ideal) f' L')) fun q j => S.dc (512 * T + q) j).store (inb := inb₀)
    ((hw.cast h).congr fun r j _ _ => by rw [Nat.zero_add, Nat.zero_add])
  refine ((On2.nowhere _ _).store (((hx.load (Y := fun r j => S.dc (512 * T + r) j) (inb := inb') fun r j hr hj => ⟨.inr ⟨⟨by omega, by omega⟩, by omega, by omega⟩, by
    simp only [Nat.zero_add]⟩).cast shapeCasts_S32x512_S32x512).congr fun r j _ _ => by
    simp only [Nat.zero_add, Nat.add_sub_cancel_left])).congr fun r j hr hj h => ⟨.inr ⟨⟨h, hr⟩, Nat.zero_le _, by omega⟩, rfl⟩

/-- The buffer of the windowed sums' cotangents with the stretches left of column `l` in it. -/
def seen (l : ℕ) (q j : ℕ) : Prop := 512 ≤ q ∨ j < l

theorem e_held {x : Vec Ideal S528x512 .f32} (hx : On2 (fun q _ => 512 ≤ q) x fun q j => S.eAll (512 * (T + 1) + (q - 512)) j) :
    On2 (seen 0) x fun q j => S.eAll (512 * T + q) j :=
  hx.congr fun q j _ _ hq => by
    have hq : 512 ≤ q := hq.resolve_right (Nat.not_lt_zero j)
    exact ⟨hq, by rw [show 512 * (T + 1) + (q - 512) = 512 * T + q by omega]⟩
/-- One more stretch. -/
theorem e_put {v : View sig κ sp S528x512 .f32} {f : v.ty.Contents (Elt Ideal)} {L : List (View.Piece (Elt Ideal) S528x512 .f32)} {g l : ℕ} {inb} {w : FVec Ideal S512x128 .f32}
    (hl : l = 128 * g) (hL : On2 (seen l) (v.read (Elt Ideal) (v.writes (Elt Ideal) f L)) fun q j => S.eAll (512 * T + q) j)
    (hw : Rep2 w fun r j => S.e g (512 * T + r) j) (h) :
    On2 (seen (l + 128)) (v.read (Elt Ideal) (v.writes (Elt Ideal) f (⟨Rect.unit ![0, l] ![512, 128] inb, shapeCast S512x128 w h⟩ :: L))) fun q j => S.eAll (512 * T + q) j :=
  (hL.store ((hw.cast h).congr fun r j _ hj => by
    show _ = S.e ((l + j) / 128) (512 * T + (0 + r)) ((l + j) % 128)
    rw [show (l + j) / 128 = g by omega, show (l + j) % 128 = j by omega, Nat.zero_add])).congr fun q j hq hj hs => ⟨by
      have h2 : 512 ≤ q ∨ j < l + 128 := hs
      show (512 ≤ q ∨ j < l) ∨ _
      omega, rfl⟩
/-- The tile's own rows of the first stretches. -/
def fresh (l : ℕ) (q j : ℕ) : Prop := q < 512 ∧ j < l
theorem fresh_start (x : Vec Ideal S528x512 .f32) (Y : ℕ → ℕ → ℝ) : On2 (fresh 0) x Y :=
  (On2.nowhere x Y).congr fun _ _ _ _ h => absurd h.2 (Nat.not_lt_zero _)
theorem fresh_put {v : View sig κ sp S528x512 .f32} {f : v.ty.Contents (Elt Ideal)} {L : List (View.Piece (Elt Ideal) S528x512 .f32)} {g l : ℕ} {inb} {w : FVec Ideal S512x128 .f32}
    (hl : l = 128 * g) (hL : On2 (fresh l) (v.read (Elt Ideal) (v.writes (Elt Ideal) f L)) fun q j => S.eAll (512 * T + q) j)
    (hw : Rep2 w fun r j => S.e g (512 * T + r) j) (h) :
    On2 (fresh (l + 128)) (v.read (Elt Ideal) (v.writes (Elt Ideal) f (⟨Rect.unit ![0, l] ![512, 128] inb, shapeCast S512x128 w h⟩ :: L))) fun q j => S.eAll (512 * T + q) j :=
  (hL.store ((hw.cast h).congr fun r j _ hj => by
    show _ = S.e ((l + j) / 128) (512 * T + (0 + r)) ((l + j) % 128)
    rw [show (l + j) / 128 = g by omega, show (l + j) % 128 = j by omega, Nat.zero_add])).congr fun q j hq hj hs => ⟨by
      have h2 : q < 512 ∧ j < l + 128 := hs
      show (q < 512 ∧ j < l) ∨ _
      omega, rfl⟩
/-- Its first rows handed on to the tile before. -/
theorem e_carry {v : View sig κ sp S528x512 .f32} {f : v.ty.Contents (Elt Ideal)} {L : List (View.Piece (Elt Ideal) S528x512 .f32)} {x : Vec Ideal S528x512 .f32} {inb inb'}
    (hx : On2 (fresh 512) x fun q j => S.eAll (512 * T + q) j) :
    On2 (fun q _ => 512 ≤ q) (v.read (Elt Ideal) (v.writes (Elt Ideal) f (⟨Rect.unit ![512, 0] ![16, 512] inb,
      k0_pay55 (F := Ideal) (View.ld x (Rect.unit ![0, 0] ![16, 512] inb'))⟩ :: L))) fun q j => S.eAll (512 * T + (q - 512)) j :=
  ((On2.nowhere _ _).store (((hx.load (Y := fun r j => S.eAll (512 * T + r) j) fun r j _ hj => ⟨⟨by omega, by omega⟩, by
    simp only [Nat.zero_add]⟩).cast shapeCasts_S16x512_S16x512).congr fun r j _ _ => by
    simp only [Nat.zero_add, Nat.add_sub_cancel_left])).congr fun r j hr hj h => ⟨.inr ⟨⟨h, hr⟩, Nat.zero_le _, by omega⟩, rfl⟩
/-- A pool's stretch of it, some rows on. -/
theorem e_view {x : Vec Ideal S528x512 .f32} {g k l m : ℕ} {inb} (hl : l = 128 * g) (hm : m = l + 128) (hx : On2 (seen m) x fun q j => S.eAll (512 * T + q) j) :
    Rep2 (View.ld x (Rect.unit ![k, l] ![512, 128] inb) : Vec Ideal S512x128 .f32) fun r j => S.e g (512 * T + r + k) j :=
  hx.load fun r j _ hj => ⟨.inr (by omega), by
    show S.e ((l + j) / 128) (512 * T + (k + r)) ((l + j) % 128) = _
    rw [show (l + j) / 128 = g by omega, show (l + j) % 128 = j by omega, show 512 * T + (k + r) = 512 * T + r + k by omega]⟩
theorem db_start {g : ℕ} {x : FVec Ideal S512x128 .f32} (hx : Rep2 x fun r j => S.e g (512 * T + r) j) :
    Rep2 x fun r j => ∑ k ∈ Finset.range 1, S.e g (512 * T + r + k) j := hx.congr fun r j _ _ => by rw [Finset.sum_range_one, Nat.add_zero]

section Pools
variable {x : Vec Ideal S528x512 .f32} {ve vd : FVec Ideal S512x128 .f32}
/-- The cotangent of pool 0's input: a sum of 2 rows less a row. -/
theorem pool_db0 {i1} (hx : On2 (seen 128) x fun q j => S.eAll (512 * T + q) j)
    (he : Rep2 ve fun r j => S.e 0 (512 * T + r) j) (hd : Rep2 vd fun r j => S.dd 0 (512 * T + r) j) :
    Rep2 (subf (F := Ideal) (addf ve (View.ld x (Rect.unit ![1, 0] ![512, 128] i1) : Vec Ideal S512x128 .f32)) vd) fun r j => S.db 0 (512 * T + r) j := by
  have v {k : ℕ} {inb} : Rep2 (View.ld x (Rect.unit ![k, 0] ![512, 128] inb) : Vec Ideal S512x128 .f32) fun r j => S.e 0 (512 * T + r + k) j := e_view rfl rfl hx
  refine Rep2.sub (X := fun r j => ∑ k ∈ Finset.range 2, S.e 0 (512 * T + r + k) j) ?_ hd
  iterate 1 refine Rep2.addTerm (f := fun k r j => S.e 0 (512 * T + r + k) j) ?_ v
  exact db_start he
/-- The cotangent of pool 1's input: a sum of 4 rows less a row. -/
theorem pool_db1 {i1 i2 i3} (hx : On2 (seen 256) x fun q j => S.eAll (512 * T + q) j)
    (he : Rep2 ve fun r j => S.e 1 (512 * T + r) j) (hd : Rep2 vd fun r j => S.dd 1 (512 * T + r) j) :
    Rep2 (subf (F := Ideal) (addf (addf (addf ve (View.ld x (Rect.unit ![1, 128] ![512, 128] i1) : Vec Ideal S512x128 .f32)) (View.ld x (Rect.unit ![2, 128] ![512, 128] i2) : Vec Ideal S512x128 .f32)) (View.ld x (Rect.unit ![3, 128] ![512, 128] i3) : Vec Ideal S512x128 .f32)) vd) fun r j => S.db 1 (512 * T + r) j := by
  have v {k : ℕ} {inb} : Rep2 (View.ld x (Rect.unit ![k, 128] ![512, 128] inb) : Vec Ideal S512x128 .f32) fun r j => S.e 1 (512 * T + r + k) j := e_view rfl rfl hx
  refine Rep2.sub (X := fun r j => ∑ k ∈ Finset.range 4, S.e 1 (512 * T + r + k) j) ?_ hd
  iterate 3 refine Rep2.addTerm (f := fun k r j => S.e 1 (512 * T + r + k) j) ?_ v
  exact db_start he
/-- The cotangent of pool 2's input: a sum of 8 rows less a row. -/
theorem pool_db2 {i1 i2 i3 i4 i5 i6 i7} (hx : On2 (seen 384) x fun q j => S.eAll (512 * T + q) j)
    (he : Rep2 ve fun r j => S.e 2 (512 * T + r) j) (hd : Rep2 vd fun r j => S.dd 2 (512 * T + r) j) :
    Rep2 (subf (F := Ideal) (addf (addf (addf (addf (addf (addf (addf ve (View.ld x (Rect.unit ![1, 256] ![512, 128] i1) : Vec Ideal S512x128 .f32)) (View.ld x (Rect.unit ![2, 256] ![512, 128] i2) : Vec Ideal S512x128 .f32)) (View.ld x (Rect.unit ![3, 256] ![512, 128] i3) : Vec Ideal S512x128 .f32)) (View.ld x (Rect.unit ![4, 256] ![512, 128] i4) : Vec Ideal S512x128 .f32)) (View.ld x (Rect.unit ![5, 256] ![512, 128] i5) : Vec Ideal S512x128 .f32)) (View.ld x (Rect.unit ![6, 256] ![512, 128] i6) : Vec Ideal S512x128 .f32)) (View.ld x (Rect.unit ![7, 256] ![512, 128] i7) : Vec Ideal S512x128 .f32)) vd) fun r j => S.db 2 (512 * T + r) j := by
  have v {k : ℕ} {inb} : Rep2 (View.ld x (Rect.unit ![k, 256] ![512, 128] inb) : Vec Ideal S512x128 .f32) fun r j => S.e 2 (512 * T + r + k) j := e_view rfl rfl hx
  refine Rep2.sub (X := fun r j => ∑ k ∈ Finset.range 8, S.e 2 (512 * T + r + k) j) ?_ hd
  iterate 7 refine Rep2.addTerm (f := fun k r j => S.e 2 (512 * T + r + k) j) ?_ v
  exact db_start he
/-- The cotangent of pool 3's input: a sum of 16 rows less a row. -/
theorem pool_db3 {i1 i2 i3 i4 i5 i6 i7 i8 i9 i10 i11 i12 i13 i14 i15} (hx : On2 (seen 512) x fun q j => S.eAll (512 * T + q) j)
    (he : Rep2 ve fun r j => S.e 3 (512 * T + r) j) (hd : Rep2 vd fun r j => S.dd 3 (512 * T + r) j) :
    Rep2 (subf (F := Ideal) (addf (addf (addf (addf (addf (addf (addf (addf (addf (addf (addf (addf (addf (addf (addf ve (View.ld x (Rect.unit ![1, 384] ![512, 128] i1) : Vec Ideal S512x128 .f32)) (View.ld x (Rect.unit ![2, 384] ![512, 128] i2) : Vec Ideal S512x128 .f32)) (View.ld x (Rect.unit ![3, 384] ![512, 128] i3) : Vec Ideal S512x128 .f32)) (View.ld x (Rect.unit ![4, 384] ![512, 128] i4) : Vec Ideal S512x128 .f32)) (View.ld x (Rect.unit ![5, 384] ![512, 128] i5) : Vec Ideal S512x128 .f32)) (View.ld x (Rect.unit ![6, 384] ![512, 128] i6) : Vec Ideal S512x128 .f32)) (View.ld x (Rect.unit ![7, 384] ![512, 128] i7) : Vec Ideal S512x128 .f32)) (View.ld x (Rect.unit ![8, 384] ![512, 128] i8) : Vec Ideal S512x128 .f32)) (View.ld x (Rect.unit ![9, 384] ![512, 128] i9) : Vec Ideal S512x128 .f32)) (View.ld x (Rect.unit ![10, 384] ![512, 128] i10) : Vec Ideal S512x128 .f32)) (View.ld x (Rect.unit ![11, 384] ![512, 128] i11) : Vec Ideal S512x128 .f32)) (View.ld x (Rect.unit ![12, 384] ![512, 128] i12) : Vec Ideal S512x128 .f32)) (View.ld x (Rect.unit ![13, 384] ![512, 128] i13) : Vec Ideal S512x128 .f32)) (View.ld x (Rect.unit ![14, 384] ![512, 128] i14) : Vec Ideal S512x128 .f32)) (View.ld x (Rect.unit ![15, 384] ![512, 128] i15) : Vec Ideal S512x128 .f32)) vd) fun r j => S.db 3 (512 * T + r) j := by
  have v {k : ℕ} {inb} : Rep2 (View.ld x (Rect.unit ![k, 384] ![512, 128] inb) : Vec Ideal S512x128 .f32) fun r j => S.e 3 (512 * T + r + k) j := e_view rfl rfl hx
  refine Rep2.sub (X := fun r j => ∑ k ∈ Finset.range 16, S.e 3 (512 * T + r + k) j) ?_ hd
  iterate 15 refine Rep2.addTerm (f := fun k r j => S.e 3 (512 * T + r + k) j) ?_ v
  exact db_start he
end Pools

/-- The buffer of the gated rows, its first ones from the tile before. -/
theorem u_buf {v : View sig κ sp S544x512 .f32} {f : v.ty.Contents (Elt Ideal)} {i0 i1} {w0 : FVec Ideal S32x512 .f32} {w1 : FVec Ideal S512x512 .f32}
    {L : List (View.Piece (Elt Ideal) S544x512 .f32)} (h0 : Rep2 w0 fun r j => S.up (512 * T + r) j) (h1 : Rep2 w1 fun r j => S.u (512 * T + r) j) :
    Rep2 (v.read (Elt Ideal) (v.writes (Elt Ideal) f (⟨Rect.unit ![32, 0] ![512, 512] i1, w1⟩ :: ⟨Rect.unit ![0, 0] ![32, 512] i0, w0⟩ :: L))) fun q j => S.up (512 * T + q) j :=
  (((On2.nowhere _ _).store (h0.congr fun r j _ _ => by rw [Nat.zero_add, Nat.zero_add])).store (h1.congr fun r j _ _ => by
    show _ = S.up (512 * T + (32 + r)) (0 + j)
    unfold Tabs.up
    rw [if_neg (by omega), show 512 * T + (32 + r) - 32 = 512 * T + r by omega, Nat.zero_add])).all fun r j _ _ => by omega

/-- A row of the filter. -/
theorem Tile.row (B : Tile S T X) {k : ℕ} {inb} : Rep2 (a := 1) (b := 512) (View.ld X.wa (Rect.unit ![k, 0] ![1, 512] inb)) fun _ j => S.WA k j :=
  (B.wa.load k 1 512 0 inb).congr fun r j hr _ => by rw [Nat.lt_one_iff.mp hr, Nat.add_zero, Nat.zero_add]
/-- A buffer seen some rows on, -/
theorem view_at {x : Vec Ideal S544x512 .f32} {Y Z : ℕ → ℕ → ℝ} {k : ℕ} {inb} (hx : Rep2 x Y) (h : ∀ r j, Y (k + r) j = Z r j) :
    Rep2 (View.ld x (Rect.unit ![k, 0] ![512, 512] inb) : Vec Ideal S512x512 .f32) Z :=
  (hx.load k 512 512 0 inb).congr fun r j _ _ => by rw [Nat.zero_add, h]
/-- and one of the copies of it. -/
theorem plane_at {x : Vec Ideal S7x536x512 .f32} {Y Z : ℕ → ℕ → ℝ} {k o : ℕ} {inb} {h} (hx : On3 (fun k => k < 7) x fun k r j => Y (k + 1 + r) j) (hk : k < 7)
    (e : ∀ r j, Y (k + 1 + (o + r)) j = Z r j) :
    Rep2 (shapeCast S512x512 (View.ld x (Rect.unit ![k, o, 0] ![1, 512, 512] inb) : Vec Ideal S1x512x512 .f32) h) Z :=
  hx.load hk fun r j _ _ => e r j

/-- Seven copies of a buffer, each one row further on. -/
theorem shifts {v : View sig κ sp S7x536x512 .f32} {f : v.ty.Contents (Elt Ideal)} {x : Vec Ideal S544x512 .f32} {Y : ℕ → ℕ → ℝ} (hx : Rep2 x Y)
    {i0 i1 i2 i3 i4 i5 i6 j0 j1 j2 j3 j4 j5 j6} (h) :
    On3 (fun k => k < 7) (v.read (Elt Ideal) (v.writes (Elt Ideal) f [
      ⟨Rect.unit ![6, 0, 0] ![1, 536, 512] i6, shapeCast S1x536x512 (View.ld x (Rect.unit ![7, 0] ![536, 512] j6) : Vec Ideal S536x512 .f32) h⟩,
      ⟨Rect.unit ![5, 0, 0] ![1, 536, 512] i5, shapeCast S1x536x512 (View.ld x (Rect.unit ![6, 0] ![536, 512] j5) : Vec Ideal S536x512 .f32) h⟩,
      ⟨Rect.unit ![4, 0, 0] ![1, 536, 512] i4, shapeCast S1x536x512 (View.ld x (Rect.unit ![5, 0] ![536, 512] j4) : Vec Ideal S536x512 .f32) h⟩,
      ⟨Rect.unit ![3, 0, 0] ![1, 536, 512] i3, shapeCast S1x536x512 (View.ld x (Rect.unit ![4, 0] ![536, 512] j3) : Vec Ideal S536x512 .f32) h⟩,
      ⟨Rect.unit ![2, 0, 0] ![1, 536, 512] i2, shapeCast S1x536x512 (View.ld x (Rect.unit ![3, 0] ![536, 512] j2) : Vec Ideal S536x512 .f32) h⟩,
      ⟨Rect.unit ![1, 0, 0] ![1, 536, 512] i1, shapeCast S1x536x512 (View.ld x (Rect.unit ![2, 0] ![536, 512] j1) : Vec Ideal S536x512 .f32) h⟩,
      ⟨Rect.unit ![0, 0, 0] ![1, 536, 512] i0, shapeCast S1x536x512 (View.ld x (Rect.unit ![1, 0] ![536, 512] j0) : Vec Ideal S536x512 .f32) h⟩]))
      fun k r j => Y (k + 1 + r) j := by
  have P {k : ℕ} (inb) : Rep3 (shapeCast S1x536x512 (View.ld x (Rect.unit ![k + 1, 0] ![536, 512] inb) : Vec Ideal S536x512 .f32) h) fun _ r j => Y (k + 1 + r) j :=
    ((hx.load (k + 1) 536 512 0 inb).congr fun r j _ _ => by rw [Nat.zero_add]).asPlane h
  intro i hi
  refine (((((((On3.nowhere _ fun k r j => Y (k + 1 + r) j).store (P j0)).store (P j1)).store (P j2)).store (P j3)).store (P j4)).store (P j5)).store (P j6) i ?_
  have h7 : (i 0).val < 7 := hi
  dsimp only
  omega

end Buffers

/-! ## The sums brought up to date -/

section Sums
variable {sig : RefSig} {κ : Kind} {sp : Space} {v : View sig κ sp S40x512 .f32} {f : v.ty.Contents (Elt Ideal)} {L : List (View.Piece (Elt Ideal) S40x512 .f32)}
  {p : ℕ → ℕ → Prop} {o l d : ℕ}

theorem s5_step (hT : T < 8) (r j : ℕ) : S.s5 (512 * (T + 1)) r j + ∑ q ∈ Finset.range 512, S.t5 (512 * T + q) r j = S.s5 (512 * T) r j := by
  unfold Tabs.s5
  rw [Tabs.sum_split (fun q => S.t5 q r j) (show 512 * T + 512 ≤ 4096 by omega)]
  rfl
theorem sm_step (hT : T < 8) (r j : ℕ) : S.sm (512 * (T + 1)) r j + ∑ q ∈ Finset.range 512, S.tm (512 * T + q) r j = S.sm (512 * T) r j := by
  unfold Tabs.sm
  rw [Tabs.sum_split (fun q => S.tm q r j) (show 512 * T + 512 ≤ 4096 by omega)]
  rfl
theorem sp_step (hT : T < 8) (g a b : ℕ) : S.sp (512 * (T + 1)) g a b + ∑ q ∈ Finset.range 512, S.tpw (512 * T + q) g a b = S.sp (512 * T) g a b := by
  unfold Tabs.sp
  rw [Tabs.sum_split (fun q => S.tpw q g a b) (show 512 * T + 512 ≤ 4096 by omega)]
  rfl

/-- The two tables of the small result before and after tile `T`. -/
def mid5 (S : Tabs) (T : ℕ) (p : ℕ → ℕ → Prop) : ℕ → ℕ → ℝ := upd2 p (S.s5 (512 * T)) (S.s5 (512 * (T + 1)))

/-- The places brought up to date after `k` of the body's stores: the scale's four stretches, the norm's three rows, then the taps. -/
def done (k r j : ℕ) : Prop := (r = 35 ∧ j < 128 * k) ∨ (r = 33 ∧ 5 ≤ k) ∨ (r = 34 ∧ 6 ≤ k) ∨ (r = 32 ∧ 7 ≤ k) ∨ r + 8 ≤ k

/-- One more stretch brought up to date with column sums, from old numbers, -/
theorem s5_put (hT : T < 8) {k : ℕ} {inb h h1 h2 h3 h4} {old : FVec Ideal ⟨2, ![1, d]⟩ .f32} {x : FVec Ideal ⟨2, ![512, d]⟩ .f32}
    (hL : Rep2 (v.read (Elt Ideal) (v.writes (Elt Ideal) f L)) (mid5 S T (done k))) (h0 : Rep2 old fun _ j => S.s5 (512 * (T + 1)) o (l + j))
    (hx : Rep2 x fun q j => S.t5 (512 * T + q) o (l + j)) (hk : ∀ r j, j < 512 → (done (k + 1) r j ↔ done k r j ∨ (r = o ∧ l ≤ j ∧ j < l + d))) :
    Rep2 (v.read (Elt Ideal) (v.writes (Elt Ideal) f (⟨Rect.unit ![o, l] ![1, d] inb, addf (shapeCast ⟨2, ![1, d]⟩ old h)
      (shapeCast ⟨2, ![1, d]⟩ (multiReduction .add [0] ⟨1, ![d]⟩ x 0x00000000#32 h1 h2 h3) h4)⟩ :: L))) (mid5 S T (done (k + 1))) :=
  (grow hL h0 (hx.colSum _ _ _ _ _) fun j _ => s5_step hT o (l + j)).congr fun r j _ hj => by
    unfold mid5 upd2
    by_cases hc : done (k + 1) r j
    · rw [if_pos hc, if_pos ((hk r j hj).mp hc)]
    · rw [if_neg hc, if_neg (mt (hk r j hj).mpr hc)]
/-- and from what the buffer holds. -/
theorem s5_back (hT : T < 8) {k : ℕ} {inb inb' h h1 h2 h3 h4} {x : FVec Ideal ⟨2, ![512, d]⟩ .f32}
    (hL : Rep2 (v.read (Elt Ideal) (v.writes (Elt Ideal) f L)) (mid5 S T (done k)))
    (hx : Rep2 x fun q j => S.t5 (512 * T + q) o (l + j)) (hk : ∀ r j, j < 512 → (done (k + 1) r j ↔ done k r j ∨ (r = o ∧ l ≤ j ∧ j < l + d)))
    (hp : ∀ j, j < d → ¬done k o (l + j)) :
    Rep2 (v.read (Elt Ideal) (v.writes (Elt Ideal) f (⟨Rect.unit ![o, l] ![1, d] inb, addf (shapeCast ⟨2, ![1, d]⟩
      (View.ld (v.read (Elt Ideal) (v.writes (Elt Ideal) f L)) (Rect.unit ![o, l] ![1, d] inb')) h)
      (shapeCast ⟨2, ![1, d]⟩ (multiReduction .add [0] ⟨1, ![d]⟩ x 0x00000000#32 h1 h2 h3) h4)⟩ :: L))) (mid5 S T (done (k + 1))) :=
  (growBack hL hp (hx.colSum _ _ _ _ _) fun j _ => s5_step hT o (l + j)).congr fun r j _ hj => by
    unfold mid5 upd2
    by_cases hc : done (k + 1) r j
    · rw [if_pos hc, if_pos ((hk r j hj).mp hc)]
    · rw [if_neg hc, if_neg (mt (hk r j hj).mpr hc)]
theorem s5_start {n : ℕ} {x : (⟨2, ![n, 512]⟩ : Shape).Idx → EReal} (hx : Rep2 x (S.s5 (512 * (T + 1)))) : Rep2 x (mid5 S T (done 0)) :=
  hx.congr fun r j _ _ => (if_neg (by unfold done; omega)).symm

/-- A tap's terms. -/
theorem tap_term {x y : FVec Ideal S512x512 .f32} (hx : Rep2 x fun r j => S.dc (512 * T + r) j) (ho : o < 31)
    (hy : Rep2 y fun q j => S.up (o + (512 * T + q) + 2) j) : Rep2 (mulf x y) fun q j => S.t5 (512 * T + q) o (0 + j) :=
  (hx.mul hy).congr fun q j _ _ => by unfold Tabs.t5; rw [if_pos ho, Nat.zero_add]
theorem done_tap {n : ℕ} (hn : n < 31) (r j : ℕ) (hj : j < 512) : done (n + 7 + 1) r j ↔ done (n + 7) r j ∨ (r = n ∧ 0 ≤ j ∧ j < 0 + 512) := by
  unfold done
  omega
/-- A tap's row brought up to date, from old numbers, -/
theorem s5_tap (hT : T < 8) {n : ℕ} {inb h h1 h2 h3 h4} {old : FVec Ideal S1x512 .f32} {x y : FVec Ideal S512x512 .f32} (hn : n < 31)
    (hL : Rep2 (v.read (Elt Ideal) (v.writes (Elt Ideal) f L)) (mid5 S T (done (n + 7)))) (h0 : Rep2 old fun _ j => S.s5 (512 * (T + 1)) n (0 + j))
    (hx : Rep2 x fun r j => S.dc (512 * T + r) j) (hy : Rep2 y fun q j => S.up (n + (512 * T + q) + 2) j) :
    Rep2 (v.read (Elt Ideal) (v.writes (Elt Ideal) f (⟨Rect.unit ![n, 0] ![1, 512] inb, (addf (shapeCast S1x512 old h)
      (shapeCast S1x512 (multiReduction .add [0] S512 (mulf (F := Ideal) x y) 0x00000000#32 h1 h2 h3) h4))⟩ :: L))) (mid5 S T (done (n + 8))) :=
  s5_put hT hL h0 (tap_term hx hn hy) (done_tap hn)
/-- and from what the buffer holds. -/
theorem s5_tapBack (hT : T < 8) {n : ℕ} {inb inb' h h1 h2 h3 h4} {x y : FVec Ideal S512x512 .f32} (hn : n < 31)
    (hL : Rep2 (v.read (Elt Ideal) (v.writes (Elt Ideal) f L)) (mid5 S T (done (n + 7))))
    (hx : Rep2 x fun r j => S.dc (512 * T + r) j) (hy : Rep2 y fun q j => S.up (n + (512 * T + q) + 2) j) :
    Rep2 (v.read (Elt Ideal) (v.writes (Elt Ideal) f (⟨Rect.unit ![n, 0] ![1, 512] inb,
      (addf (shapeCast S1x512 (View.ld (v.read (Elt Ideal) (v.writes (Elt Ideal) f L)) (Rect.unit ![n, 0] ![1, 512] inb')) h)
      (shapeCast S1x512 (multiReduction .add [0] S512 (mulf (F := Ideal) x y) 0x00000000#32 h1 h2 h3) h4))⟩ :: L))) (mid5 S T (done (n + 8))) :=
  s5_back hT hL (tap_term hx hn hy) (done_tap hn) fun j hj => by unfold done; omega
/-- A scale's terms. -/
theorem scale_term {g : ℕ} (hl : l = 128 * g) {vm : FVec Ideal S512x128 .f32} {vd : FVec Ideal S512x128 .bf16} {vw : FVec Ideal S128x128 .bf16}
    (hm : Rep2 vm fun r j => S.dm (512 * T + r) (512 + (128 * g + j))) (hd : Rep2 vd fun r j => S.D (512 * T + r) (128 * g + j)) (hw : Rep2 vw (S.PW g)) :
    Rep2 (mulf (F := Ideal) vm (matmul dot_S512x128_S128x128_S512x128_1_0_0_1_n_n none vd vw (constant S512x128 .f32 0x00000000#32)))
      fun q j => S.t5 (512 * T + q) 35 (l + j) := (hm.mul (hd.dot hw _)).congr fun q j _ hj => by
  unfold Tabs.t5
  rw [if_neg (by norm_num), if_neg (by norm_num), if_neg (by norm_num), if_neg (by norm_num), if_pos rfl,
    show (l + j) / 128 = g by omega, show (l + j) % 128 = j by omega]
  rfl
theorem done_scale {g l : ℕ} (hl : l = 128 * g) (hg : g < 4) (r j : ℕ) (hj : j < 512) : done (g + 1) r j ↔ done g r j ∨ (r = 35 ∧ l ≤ j ∧ j < l + 128) := by
  unfold done
  omega
/-- A stretch of the scale's row brought up to date, from old numbers, -/
theorem s5_scale (hT : T < 8) (B : Tile S T X) {wo : Vec Ideal S1024x1024 .bf16} (hwo : Rep2 wo S.WO) {g l : ℕ} (hl : l = 128 * g) (hg : g < 4)
    {inb i0 i1 i2 hs h h1 h2 h3 h4 h5 h6} {h7 : FTy.bits .bf16 < FTy.bits .f32} {old : FVec Ideal S1x128 .f32}
    (hL : Rep2 (v.read (Elt Ideal) (v.writes (Elt Ideal) f L)) (mid5 S T (done g))) (h0 : Rep2 old fun _ j => S.s5 (512 * (T + 1)) 35 (l + j)) :
    Rep2 (v.read (Elt Ideal) (v.writes (Elt Ideal) f (⟨Rect.unit ![35, l] ![1, 128] inb, addf (shapeCast S1x128 old h)
      (shapeCast S1x128 (multiReduction .add [0] S128 (mulf (F := Ideal) (extractStridedSlice S512x128 ![0, l] (k0_pay11 (F := Ideal) (View.ld X.dx1 (Rect.unit ![0, 0] ![512, 1024] i0)) wo) hs)
        (matmul dot_S512x128_S128x128_S512x128_1_0_0_1_n_n none (shapeCast S512x128 (View.ld X.d (Rect.unit ![0, l] ![512, 128] i1) : Vec Ideal S512x128 .bf16) h5 : FVec Ideal S512x128 .bf16)
          (truncf (F := Ideal) (φ := .f32) .bf16 (shapeCast S128x128 (View.ld X.pw (Rect.unit ![g, 0, 0] ![1, 128, 128] i2) : Vec Ideal S1x128x128 .f32) h6) h7 : FVec Ideal S128x128 .bf16)
          (constant S512x128 .f32 0x00000000#32))) 0x00000000#32 h1 h2 h3) h4)⟩ :: L))) (mid5 S T (done (g + 1))) :=
  s5_put hT hL h0 (scale_term hl (B.mg hwo _ hl _) (B.dg hl _ _) (B.pwg _ _ _)) (done_scale hl hg)
/-- and from what the buffer holds. -/
theorem s5_scaleBack (hT : T < 8) (B : Tile S T X) {wo : Vec Ideal S1024x1024 .bf16} (hwo : Rep2 wo S.WO) {g l : ℕ} (hl : l = 128 * g) (hg : g < 4)
    {inb inb' i0 i1 i2 hs h h1 h2 h3 h4 h5 h6} {h7 : FTy.bits .bf16 < FTy.bits .f32}
    (hL : Rep2 (v.read (Elt Ideal) (v.writes (Elt Ideal) f L)) (mid5 S T (done g))) :
    Rep2 (v.read (Elt Ideal) (v.writes (Elt Ideal) f (⟨Rect.unit ![35, l] ![1, 128] inb,
      addf (shapeCast S1x128 (View.ld (v.read (Elt Ideal) (v.writes (Elt Ideal) f L)) (Rect.unit ![35, l] ![1, 128] inb')) h)
      (shapeCast S1x128 (multiReduction .add [0] S128 (mulf (F := Ideal) (extractStridedSlice S512x128 ![0, l] (k0_pay11 (F := Ideal) (View.ld X.dx1 (Rect.unit ![0, 0] ![512, 1024] i0)) wo) hs)
        (matmul dot_S512x128_S128x128_S512x128_1_0_0_1_n_n none (shapeCast S512x128 (View.ld X.d (Rect.unit ![0, l] ![512, 128] i1) : Vec Ideal S512x128 .bf16) h5 : FVec Ideal S512x128 .bf16)
          (truncf (F := Ideal) (φ := .f32) .bf16 (shapeCast S128x128 (View.ld X.pw (Rect.unit ![g, 0, 0] ![1, 128, 128] i2) : Vec Ideal S1x128x128 .f32) h6) h7 : FVec Ideal S128x128 .bf16)
          (constant S512x128 .f32 0x00000000#32))) 0x00000000#32 h1 h2 h3) h4)⟩ :: L))) (mid5 S T (done (g + 1))) :=
  s5_back hT hL (scale_term hl (B.mg hwo _ hl _) (B.dg hl _ _) (B.pwg _ _ _)) (done_scale hl hg) fun j hj => by unfold done; omega
theorem s5_zero (q r j : ℕ) (h : r = 31 ∨ 36 ≤ r) : S.t5 q r j = 0 := by
  unfold Tabs.t5
  rw [if_neg (by omega), if_neg (by omega), if_neg (by omega), if_neg (by omega), if_neg (by omega)]
/-- The rows with no terms stay. -/
theorem s5_rest (hT : T < 8) (r j : ℕ) (h : r = 31 ∨ 36 ≤ r) : S.s5 (512 * (T + 1)) r j = S.s5 (512 * T) r j := by
  rw [← s5_step hT r j, Finset.sum_eq_zero fun q _ => s5_zero _ _ _ h, add_zero]

end Sums

theorem s5_end (hT : T < 8) {x : (⟨2, ![40, 512]⟩ : Shape).Idx → EReal} (hx : Rep2 x (mid5 S T (done 38))) : Rep2 x (S.s5 (512 * T)) :=
  hx.updated fun r j hr hj h => s5_rest hT r j (by unfold done at h; omega)
/-- Old numbers of one row. -/
theorem old_row {n b : ℕ} {x : Vec Ideal ⟨2, ![n, b]⟩ .f32} {Z : ℕ → ℕ → ℝ} (hx : Rep2 x Z) {o l d : ℕ} {inb} :
    Rep2 (a := 1) (b := d) (View.ld x (Rect.unit ![o, l] ![1, d] inb)) fun _ j => Z o (l + j) :=
  (hx.load o 1 d l inb).congr fun r j hr _ => by rw [Nat.lt_one_iff.mp hr, Nat.add_zero]
theorem old_sp {x : Vec Ideal S4x128x128 .f32} {Z : ℕ → ℕ → ℕ → ℝ} (hx : Rep3 x Z) {k : ℕ} {inb} :
    Rep3 (n := 1) (a := 128) (c := 128) (View.ld x (Rect.unit ![k, 0, 0] ![1, 128, 128] inb)) fun _ => Z k :=
  ((On3.of_rep (p := fun _ => True) hx).plane trivial).congr fun _ r j _ _ _ => by rw [Nat.zero_add]
/-- A plane of the pools' weight gradient brought up to date. -/
theorem sp_plane (hT : T < 8) {g : ℕ} {vd vq : FVec Ideal S512x128 .bf16} {old : FVec Ideal S1x128x128 .f32}
    (hd : Rep2 vd fun r j => S.D (512 * T + r) (128 * g + j)) (hq : Rep2 vq fun r j => S.dq (512 * T + r) (128 * g + j))
    (h0 : Rep3 old fun _ => S.sp (512 * (T + 1)) g) (hh hc) :
    Rep3 (shapeCast S1x128x128 (addf (F := Ideal) (shapeCast S128x128 old hh)
      (matmul dot_S512x128_S512x128_S128x128_0_0_1_1_n_n none vd vq (constant S128x128 .f32 0x00000000#32))) hc) fun _ => S.sp (512 * T) g :=
  (pool_weight hd hq h0 hh hc).congr fun _ a b _ _ _ => sp_step hT g a b
/-- The norm's terms. -/
theorem lg_term {x y : FVec Ideal S512x512 .f32} (hx : Rep2 x fun r j => S.dl (512 * T + r) j) (hy : Rep2 y fun r j => S.z (512 * T + r) j) :
    Rep2 (mulf x y) fun q j => S.t5 (512 * T + q) 33 (0 + j) := (hx.mul hy).congr fun q j _ _ => by
  unfold Tabs.t5; rw [if_neg (by norm_num), if_neg (by norm_num), if_pos rfl, Nat.zero_add]
theorem lb_term {x : FVec Ideal S512x512 .f32} (hx : Rep2 x fun r j => S.dl (512 * T + r) j) :
    Rep2 x fun q j => S.t5 (512 * T + q) 34 (0 + j) := hx.congr fun q j _ _ => by
  unfold Tabs.t5; rw [if_neg (by norm_num), if_neg (by norm_num), if_neg (by norm_num), if_pos rfl, Nat.zero_add]
theorem cb_term {x : FVec Ideal S512x512 .f32} (hx : Rep2 x fun r j => S.dc (512 * T + r) j) :
    Rep2 x fun q j => S.t5 (512 * T + q) 32 (0 + j) := hx.congr fun q j _ _ => by
  unfold Tabs.t5; rw [if_neg (by norm_num), if_pos rfl, Nat.zero_add]

/-- The stream's cotangent and the norm's gain gradient, from the projected rows' cotangent. -/
theorem out_gx (B : Tile S T X) {v0 v1 v2 v3 : FVec Ideal S512x128 .f32} {vp vg vu : FVec Ideal S512x512 .f32} {i0 i1 i2} {wi : Vec Ideal S1024x1536 .bf16}
    (hd : Rep2 (k0_pay137 (F := Ideal) v0 v1 v2 v3 vp vg vu) fun r j => S.dp (512 * T + r) j) (hwi : Rep2 wi S.Win) :
    Rep2 (k0_pay1 (F := Ideal) (k0_pay8 (View.ld X.dx1 (Rect.unit ![0, 0] ![512, 1024] i0))) (k0_pay139 (View.ld X.x (Rect.unit ![0, 0] ![512, 1024] i1)))
      (k0_pay140 (View.ld X.x (Rect.unit ![0, 0] ![512, 1024] i1))) (k0_pay142 v0 v1 v2 v3 vp vg vu wi (View.ld X.g1 (Rect.unit ![0, 0] ![1, 1024] i2)))
      (k0_pay143 v0 v1 v2 v3 vp vg vu wi (View.ld X.x (Rect.unit ![0, 0] ![512, 1024] i1)) (View.ld X.g1 (Rect.unit ![0, 0] ![1, 1024] i2))))
      fun r j => S.gx (512 * T + r) j :=
  pay1 hd hwi (B.x.loadAll i1) (B.g1.loadAll i2) (((B.dx1.loadAll16 i0).cast _).ext (φ := .bf16) _)
theorem out_sm (B : Tile S T X) (hT : T < 8) {v0 v1 v2 v3 : FVec Ideal S512x128 .f32} {vp vg vu : FVec Ideal S512x512 .f32} {i1 is'}
    {sig : RefSig} {κ : Kind} {sp : Space} {ws : View sig κ sp S8x1024 .f32} {fs : ws.ty.Contents (Elt Ideal)}
    {L : List (View.Piece (Elt Ideal) S8x1024 .f32)} {wi : Vec Ideal S1024x1536 .bf16} {old : FVec Ideal S1x1024 .f32}
    (hd : Rep2 (k0_pay137 (F := Ideal) v0 v1 v2 v3 vp vg vu) fun r j => S.dp (512 * T + r) j) (hwi : Rep2 wi S.Win)
    (hL : Rep2 (ws.read (Elt Ideal) (ws.writes (Elt Ideal) fs L)) (S.sm (512 * (T + 1)))) (h0 : Rep2 old fun _ j => S.sm (512 * (T + 1)) 0 (0 + j)) :
    Rep2 (ws.read (Elt Ideal) (ws.writes (Elt Ideal) fs (⟨Rect.unit ![0, 0] ![1, 1024] is',
      k0_pay141 (F := Ideal) v0 v1 v2 v3 vp vg vu wi (View.ld X.x (Rect.unit ![0, 0] ![512, 1024] i1)) old⟩ :: L))) (S.sm (512 * T)) := by
  refine (hL.storeRow ws fs L 0 is' (pay141 hd hwi (B.x.loadAll i1) (h0.congr fun r j _ _ => by rw [Nat.zero_add]))).congr fun r j _ _ => ?_
  by_cases h : r = 0
  · rw [if_pos h, h, ← sm_step hT]
    exact congrArg _ (Finset.sum_congr rfl fun q _ => (if_pos rfl).symm)
  · rw [if_neg h, ← sm_step hT, Finset.sum_eq_zero fun q _ => show S.tm (512 * T + q) r j = 0 from if_neg h, add_zero]

end Cert.MixValue

end
-- ==== Proof.MixRunFirst.lean ====
module

public import proofs.«01_k».proof.Proof.MixKit

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at the first grid point, run from any contents of its outputs and scratch: the stores that it makes into
    each of them. They are found by running the body. -/
def runFirst (c : Dev nD) (i : grid0.Coords) (M : Mems) (h : First i) (X : Blocks F) (fi : HbBuf (F := F) c winH) (fo : HbBuf (F := F) c woutH) :
    { L : Stores F // ∀ (W : Waits sig Unit) (K : PUnit → sProp 𝕄),
      iprop(kept c M X fi fo ∗ (∃ d, owns (c : Thread nD τ) M.a15 fullShare d) ∗ (∃ d, owns (c : Thread nD τ) M.a16 fullShare d) ∗ (∃ d, owns (c : Thread nD τ) M.a17 fullShare d) ∗ (∃ d, owns (c : Thread nD τ) M.a18 fullShare d) ∗ (∃ d, owns (c : Thread nD τ) M.a19 fullShare d) ∗ (∃ d, owns (c : Thread nD τ) M.a20 fullShare d) ∗ (∃ d, owns (c : Thread nD τ) M.a21 fullShare d) ∗ (∃ d, owns (c : Thread nD τ) M.a22 fullShare d) ∗ (∃ d, owns (c : Thread nD τ) M.a23 fullShare d) ∗ (∃ d, owns (c : Thread nD τ) M.a24 fullShare d) ∗ (∃ d, owns (c : Thread nD τ) M.a25 fullShare d) ∗ (∃ d, owns (c : Thread nD τ) M.a26 fullShare d) ∗ owes (c : Thread nD τ) 0 W
          ∗ (iprop(kept c M X fi fo ∗ (∃ f, M.a15.view.loc (c : Thread nD τ) ↦[M.a15.view.set]{fullShare} M.a15.view.writes (Elt F) f L.dproj) ∗ (∃ f, M.a16.view.loc (c : Thread nD τ) ↦[M.a16.view.set]{fullShare} M.a16.view.writes (Elt F) f L.gx) ∗ (∃ f, M.a17.view.loc (c : Thread nD τ) ↦[M.a17.view.set]{fullShare} M.a17.view.writes (Elt F) f L.sm) ∗ (∃ f, M.a18.view.loc (c : Thread nD τ) ↦[M.a18.view.set]{fullShare} M.a18.view.writes (Elt F) f L.s5) ∗ (∃ f, M.a19.view.loc (c : Thread nD τ) ↦[M.a19.view.set]{fullShare} M.a19.view.writes (Elt F) f L.sp) ∗ (∃ f, M.a20.view.loc (c : Thread nD τ) ↦[M.a20.view.set]{fullShare} M.a20.view.writes (Elt F) f L.win) ∗ (∃ f, M.a21.view.loc (c : Thread nD τ) ↦[M.a21.view.set]{fullShare} M.a21.view.writes (Elt F) f L.wout) ∗ (∃ d, owns (c : Thread nD τ) M.a22 fullShare d) ∗ (∃ d, owns (c : Thread nD τ) M.a23 fullShare d) ∗ (∃ f, M.a24.view.loc (c : Thread nD τ) ↦[M.a24.view.set]{fullShare} M.a24.view.writes (Elt F) f L.dcb) ∗ (∃ d, owns (c : Thread nD τ) M.a25 fullShare d) ∗ (∃ f, M.a26.view.loc (c : Thread nD τ) ↦[M.a26.view.set]{fullShare} M.a26.view.writes (Elt F) f L.eb) ∗ (∃ W', owes (c : Thread nD τ) 0 W')) -∗ K ⟨⟩))
        ⊢ wp frame (wpE (defs₀ (F := F)) Variants.none c none) Set.univ (cc0_mixer_bwd i M.a1 M.h1 M.a2 M.h2 M.a3 M.h3 M.a4 M.h4 M.a5 M.h5 M.a6 M.h6 M.a7 M.h7 (Memref.whole main_v72) (Memref.isWhole_whole _) M.a9 M.h9 M.a10 M.h10 M.a11 M.h11 M.a12 M.h12 M.a13 M.h13 (Memref.whole main_v75) (Memref.isWhole_whole _) M.a15 M.h15 M.a16 M.h16 M.a17 M.h17 M.a18 M.h18 M.a19 M.h19 M.a20 M.h20 M.a21 M.h21 M.a22 M.h22 M.a23 M.h23 M.a24 M.h24 M.a25 M.h25 M.a26 M.h26 cc0_scratch7) K } := by
  refine ⟨⟨?_, ?_, ?_, ?_, ?_, ?_, ?_, ?_, ?_⟩, fun W K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold kept owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, ⟨%f11, %hf11, H11⟩, ⟨%f12, %hf12, H12⟩, ⟨%f13, %hf13, H13⟩, Hq0, Hq1, Hfi, Hfo⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, HW, Hk⟩
    obtain rfl := M.h1.eq_unread hf1; obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h9.eq_unread hf9; obtain rfl := M.h10.eq_unread hf10; obtain rfl := M.h11.eq_unread hf11; obtain rfl := M.h12.eq_unread hf12; obtain rfl := M.h13.eq_unread hf13
    sl_exec (disch := first | sl_exact h)
    sl_step
    iapply Hk
    isplitl [H1 H2 H3 H4 H5 H6 H7 H9 H10 H11 H12 H13 Hq0 Hq1 Hfi Hfo]
    · isplitl [H1]
      · iexists _; isplitr; · ipureintro; exact M.h1.read_unread _
        iexact H1
      isplitl [H2]
      · iexists _; isplitr; · ipureintro; exact M.h2.read_unread _
        iexact H2
      isplitl [H3]
      · iexists _; isplitr; · ipureintro; exact M.h3.read_unread _
        iexact H3
      isplitl [H4]
      · iexists _; isplitr; · ipureintro; exact M.h4.read_unread _
        iexact H4
      isplitl [H5]
      · iexists _; isplitr; · ipureintro; exact M.h5.read_unread _
        iexact H5
      isplitl [H6]
      · iexists _; isplitr; · ipureintro; exact M.h6.read_unread _
        iexact H6
      isplitl [H7]
      · iexists _; isplitr; · ipureintro; exact M.h7.read_unread _
        iexact H7
      isplitl [H9]
      · iexists _; isplitr; · ipureintro; exact M.h9.read_unread _
        iexact H9
      isplitl [H10]
      · iexists _; isplitr; · ipureintro; exact M.h10.read_unread _
        iexact H10
      isplitl [H11]
      · iexists _; isplitr; · ipureintro; exact M.h11.read_unread _
        iexact H11
      isplitl [H12]
      · iexists _; isplitr; · ipureintro; exact M.h12.read_unread _
        iexact H12
      isplitl [H13]
      · iexists _; isplitr; · ipureintro; exact M.h13.read_unread _
        iexact H13
      isplitl [Hq0]; · iexact Hq0
      isplitl [Hq1]; · iexact Hq1
      isplitl [Hfi]; · iexact Hfi
      iexact Hfo
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]
    · iexists _, _; isplitr; swap; · iexact H22
      ipureintro; rfl
    isplitl [H23]
    · iexists _, _; isplitr; swap; · iexact H23
      ipureintro; rfl
    isplitl [H24]; · iexists _; iexact H24
    isplitl [H25]
    · iexists _, _; isplitr; swap; · iexact H25
      ipureintro; rfl
    isplitl [H26]; · iexists _; iexact H26
    iexists _; iexact HW

end Cert.MixRun

end
-- ==== Proof.MixRunLater.lean ====
module

public import proofs.«01_k».proof.Proof.MixKit

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a later grid point, run from the sums and the scratch `P` that the point before left: the stores that it
    makes into each of its buffers. The weights stay as they are. -/
def runLater (c : Dev nD) (i : grid0.Coords) (M : Mems) (h : ¬First i) (X : Blocks F) (P : Left F) (fi : HbBuf (F := F) c winH) (fo : HbBuf (F := F) c woutH) :
    { L : Stores F // ∀ (W : Waits sig Unit) (K : PUnit → sProp 𝕄),
      iprop(kept c M X fi fo ∗ (∃ d, owns (c : Thread nD τ) M.a15 fullShare d) ∗ (∃ d, owns (c : Thread nD τ) M.a16 fullShare d) ∗ owns (c : Thread nD τ) M.a17 fullShare P.sm ∗ owns (c : Thread nD τ) M.a18 fullShare P.s5 ∗ owns (c : Thread nD τ) M.a19 fullShare P.sp ∗ owns (c : Thread nD τ) M.a20 fullShare P.win ∗ owns (c : Thread nD τ) M.a21 fullShare P.wout ∗ (∃ d, owns (c : Thread nD τ) M.a22 fullShare d) ∗ (∃ d, owns (c : Thread nD τ) M.a23 fullShare d) ∗ owns (c : Thread nD τ) M.a24 fullShare P.dcb ∗ (∃ d, owns (c : Thread nD τ) M.a25 fullShare d) ∗ owns (c : Thread nD τ) M.a26 fullShare P.eb ∗ owes (c : Thread nD τ) 0 W
          ∗ (iprop(kept c M X fi fo ∗ (∃ f, M.a15.view.loc (c : Thread nD τ) ↦[M.a15.view.set]{fullShare} M.a15.view.writes (Elt F) f L.dproj) ∗ (∃ f, M.a16.view.loc (c : Thread nD τ) ↦[M.a16.view.set]{fullShare} M.a16.view.writes (Elt F) f L.gx) ∗ (M.a17.view.loc (c : Thread nD τ) ↦[M.a17.view.set]{fullShare} M.a17.view.writes (Elt F) (M.h17.unread P.sm) L.sm) ∗ (M.a18.view.loc (c : Thread nD τ) ↦[M.a18.view.set]{fullShare} M.a18.view.writes (Elt F) (M.h18.unread P.s5) L.s5) ∗ (M.a19.view.loc (c : Thread nD τ) ↦[M.a19.view.set]{fullShare} M.a19.view.writes (Elt F) (M.h19.unread P.sp) L.sp) ∗ owns (c : Thread nD τ) M.a20 fullShare P.win ∗ owns (c : Thread nD τ) M.a21 fullShare P.wout ∗ (∃ d, owns (c : Thread nD τ) M.a22 fullShare d) ∗ (∃ d, owns (c : Thread nD τ) M.a23 fullShare d) ∗ (M.a24.view.loc (c : Thread nD τ) ↦[M.a24.view.set]{fullShare} M.a24.view.writes (Elt F) (M.h24.unread P.dcb) L.dcb) ∗ (∃ d, owns (c : Thread nD τ) M.a25 fullShare d) ∗ (M.a26.view.loc (c : Thread nD τ) ↦[M.a26.view.set]{fullShare} M.a26.view.writes (Elt F) (M.h26.unread P.eb) L.eb) ∗ (∃ W', owes (c : Thread nD τ) 0 W')) -∗ K ⟨⟩))
        ⊢ wp frame (wpE (defs₀ (F := F)) Variants.none c none) Set.univ (cc0_mixer_bwd i M.a1 M.h1 M.a2 M.h2 M.a3 M.h3 M.a4 M.h4 M.a5 M.h5 M.a6 M.h6 M.a7 M.h7 (Memref.whole main_v72) (Memref.isWhole_whole _) M.a9 M.h9 M.a10 M.h10 M.a11 M.h11 M.a12 M.h12 M.a13 M.h13 (Memref.whole main_v75) (Memref.isWhole_whole _) M.a15 M.h15 M.a16 M.h16 M.a17 M.h17 M.a18 M.h18 M.a19 M.h19 M.a20 M.h20 M.a21 M.h21 M.a22 M.h22 M.a23 M.h23 M.a24 M.h24 M.a25 M.h25 M.a26 M.h26 cc0_scratch7) K } := by
  refine ⟨⟨?_, ?_, ?_, ?_, ?_, [], [], ?_, ?_⟩, fun W K => ?run⟩
  case run =>
    simp only [cc0_mixer_bwd_eq_skeleton]; unfold cc0_mixer_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold kept owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f9, %hf9, H9⟩, ⟨%f10, %hf10, H10⟩, ⟨%f11, %hf11, H11⟩, ⟨%f12, %hf12, H12⟩, ⟨%f13, %hf13, H13⟩, Hq0, Hq1, Hfi, Hfo⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%f24, %hf24, H24⟩, ⟨%d25, %f25, -, H25⟩, ⟨%f26, %hf26, H26⟩, HW, Hk⟩
    obtain rfl := M.h1.eq_unread hf1; obtain rfl := M.h2.eq_unread hf2; obtain rfl := M.h3.eq_unread hf3; obtain rfl := M.h4.eq_unread hf4; obtain rfl := M.h5.eq_unread hf5; obtain rfl := M.h6.eq_unread hf6; obtain rfl := M.h7.eq_unread hf7; obtain rfl := M.h9.eq_unread hf9; obtain rfl := M.h10.eq_unread hf10; obtain rfl := M.h11.eq_unread hf11; obtain rfl := M.h12.eq_unread hf12; obtain rfl := M.h13.eq_unread hf13
    obtain rfl := M.h17.eq_unread hf17; obtain rfl := M.h18.eq_unread hf18; obtain rfl := M.h19.eq_unread hf19; obtain rfl := M.h20.eq_unread hf20; obtain rfl := M.h21.eq_unread hf21; obtain rfl := M.h24.eq_unread hf24; obtain rfl := M.h26.eq_unread hf26
    sl_exec (disch := first | sl_exact h)
    sl_step
    iapply Hk
    isplitl [H1 H2 H3 H4 H5 H6 H7 H9 H10 H11 H12 H13 Hq0 Hq1 Hfi Hfo]
    · isplitl [H1]
      · iexists _; isplitr; · ipureintro; exact M.h1.read_unread _
        iexact H1
      isplitl [H2]
      · iexists _; isplitr; · ipureintro; exact M.h2.read_unread _
        iexact H2
      isplitl [H3]
      · iexists _; isplitr; · ipureintro; exact M.h3.read_unread _
        iexact H3
      isplitl [H4]
      · iexists _; isplitr; · ipureintro; exact M.h4.read_unread _
        iexact H4
      isplitl [H5]
      · iexists _; isplitr; · ipureintro; exact M.h5.read_unread _
        iexact H5
      isplitl [H6]
      · iexists _; isplitr; · ipureintro; exact M.h6.read_unread _
        iexact H6
      isplitl [H7]
      · iexists _; isplitr; · ipureintro; exact M.h7.read_unread _
        iexact H7
      isplitl [H9]
      · iexists _; isplitr; · ipureintro; exact M.h9.read_unread _
        iexact H9
      isplitl [H10]
      · iexists _; isplitr; · ipureintro; exact M.h10.read_unread _
        iexact H10
      isplitl [H11]
      · iexists _; isplitr; · ipureintro; exact M.h11.read_unread _
        iexact H11
      isplitl [H12]
      · iexists _; isplitr; · ipureintro; exact M.h12.read_unread _
        iexact H12
      isplitl [H13]
      · iexists _; isplitr; · ipureintro; exact M.h13.read_unread _
        iexact H13
      isplitl [Hq0]; · iexact Hq0
      isplitl [Hq1]; · iexact Hq1
      isplitl [Hfi]; · iexact Hfi
      iexact Hfo
    isplitl [H15]; · iexists _; iexact H15
    isplitl [H16]; · iexists _; iexact H16
    isplitl [H17]; · iexact H17
    isplitl [H18]; · iexact H18
    isplitl [H19]; · iexact H19
    isplitl [H20]
    · iexists _; isplitr; · ipureintro; exact M.h20.read_unread _
      iexact H20
    isplitl [H21]
    · iexists _; isplitr; · ipureintro; exact M.h21.read_unread _
      iexact H21
    isplitl [H22]
    · iexists _, _; isplitr; swap; · iexact H22
      ipureintro; rfl
    isplitl [H23]
    · iexists _, _; isplitr; swap; · iexact H23
      ipureintro; rfl
    isplitl [H24]; · iexact H24
    isplitl [H25]
    · iexists _, _; isplitr; swap; · iexact H25
      ipureintro; rfl
    isplitl [H26]; · iexact H26
    iexists _; iexact HW

end Cert.MixRun

end
-- ==== Proof.MixFrame.lean ====
module

public import proofs.«01_k».proof.Proof.MixRunFirst
public import proofs.«01_k».proof.Proof.MixRunLater
public import Idealize.ShloMosaic.Lib.Claim

@[expose] public section

set_option maxRecDepth 16384

noncomputable section

namespace Cert.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body leaves -/

/-- A buffer's contents after stores that cover it: what was there before does not matter. -/
abbrev readBack {S : Shape} {e : EltTy} (a : Memref sig .tc .vmem S e) (L : List (View.Piece (Elt F) S e)) : Vec F S e :=
  a.view.read (Elt F) (a.view.writes (Elt F) a.view.junk L)

/-- A buffer's contents after stores over the contents `x`. -/
abbrev readOver {S : Shape} {e : EltTy} (a : Memref sig .tc .vmem S e) (h : a.IsWhole) (x : Vec F S e) (L : List (View.Piece (Elt F) S e)) : Vec F S e :=
  a.view.read (Elt F) (a.view.writes (Elt F) (h.unread x) L)

section

variable (c : Dev nD) (i : grid0.Coords) (M : Mems) (X : Blocks F) (fi : HbBuf (F := F) c winH) (fo : HbBuf (F := F) c woutH)

/-- What the first grid point leaves. -/
def leftFirst (h : First i) : Left F where
  dproj := readBack M.a15 (runFirst c i M h X fi fo).1.dproj
  gx := readBack M.a16 (runFirst c i M h X fi fo).1.gx
  sm := readBack M.a17 (runFirst c i M h X fi fo).1.sm
  s5 := readBack M.a18 (runFirst c i M h X fi fo).1.s5
  sp := readBack M.a19 (runFirst c i M h X fi fo).1.sp
  win := readBack M.a20 (runFirst c i M h X fi fo).1.win
  wout := readBack M.a21 (runFirst c i M h X fi fo).1.wout
  dcb := readBack M.a24 (runFirst c i M h X fi fo).1.dcb
  eb := readBack M.a26 (runFirst c i M h X fi fo).1.eb

/-- What a later grid point leaves, of what the point before left. -/
def leftLater (h : ¬First i) (P : Left F) : Left F where
  dproj := readBack M.a15 (runLater c i M h X P fi fo).1.dproj
  gx := readBack M.a16 (runLater c i M h X P fi fo).1.gx
  sm := readOver M.a17 M.h17 P.sm (runLater c i M h X P fi fo).1.sm
  s5 := readOver M.a18 M.h18 P.s5 (runLater c i M h X P fi fo).1.s5
  sp := readOver M.a19 M.h19 P.sp (runLater c i M h X P fi fo).1.sp
  win := P.win
  wout := P.wout
  dcb := readOver M.a24 M.h24 P.dcb (runLater c i M h X P fi fo).1.dcb
  eb := readOver M.a26 M.h26 P.eb (runLater c i M h X P fi fo).1.eb

theorem cover_first_dproj (h : First i) (y : S512x1536.Idx) : ∃ p ∈ (runFirst c i M h X fi fo).1.dproj, y ∈ p.1.set :=
  View.cover_of_tiledL (runFirst c i M h X fi fo).1.dproj S512x1536.size (by sl_kernel_rfl) y

theorem cover_first_gx (h : First i) (y : S512x1024.Idx) : ∃ p ∈ (runFirst c i M h X fi fo).1.gx, y ∈ p.1.set :=
  View.cover_of_tiledL (runFirst c i M h X fi fo).1.gx S512x1024.size (by sl_kernel_rfl) y

theorem cover_first_sm (h : First i) (y : S8x1024.Idx) : ∃ p ∈ (runFirst c i M h X fi fo).1.sm, y ∈ p.1.set :=
  View.cover_of_tiledBy (runFirst c i M h X fi fo).1.sm ![1, 1024] (by sl_kernel_rfl) y

theorem cover_first_s5 (h : First i) (y : S40x512.Idx) : ∃ p ∈ (runFirst c i M h X fi fo).1.s5, y ∈ p.1.set :=
  View.cover_of_tiledBy (runFirst c i M h X fi fo).1.s5 ![1, 128] (by sl_kernel_rfl) y

theorem cover_first_sp (h : First i) (y : S4x128x128.Idx) : ∃ p ∈ (runFirst c i M h X fi fo).1.sp, y ∈ p.1.set :=
  View.cover_of_tiledBy (runFirst c i M h X fi fo).1.sp ![1, 128, 128] (by sl_kernel_rfl) y

theorem cover_first_win (h : First i) (y : S1024x1536.Idx) : ∃ p ∈ (runFirst c i M h X fi fo).1.win, y ∈ p.1.set :=
  View.cover_of_tiledL (runFirst c i M h X fi fo).1.win S1024x1536.size (by sl_kernel_rfl) y

theorem cover_first_wout (h : First i) (y : S1024x1024.Idx) : ∃ p ∈ (runFirst c i M h X fi fo).1.wout, y ∈ p.1.set :=
  View.cover_of_tiledL (runFirst c i M h X fi fo).1.wout S1024x1024.size (by sl_kernel_rfl) y

theorem cover_first_dcb (h : First i) (y : S544x512.Idx) : ∃ p ∈ (runFirst c i M h X fi fo).1.dcb, y ∈ p.1.set :=
  View.cover_of_tiledBy (runFirst c i M h X fi fo).1.dcb ![32, 512] (by sl_kernel_rfl) y

theorem cover_first_eb (h : First i) (y : S528x512.Idx) : ∃ p ∈ (runFirst c i M h X fi fo).1.eb, y ∈ p.1.set :=
  View.cover_of_tiledBy (runFirst c i M h X fi fo).1.eb ![16, 128] (by sl_kernel_rfl) y

theorem cover_later_dproj (h : ¬First i) (P : Left F) (y : S512x1536.Idx) : ∃ p ∈ (runLater c i M h X P fi fo).1.dproj, y ∈ p.1.set :=
  View.cover_of_tiledL (runLater c i M h X P fi fo).1.dproj S512x1536.size (by sl_kernel_rfl) y

theorem cover_later_gx (h : ¬First i) (P : Left F) (y : S512x1024.Idx) : ∃ p ∈ (runLater c i M h X P fi fo).1.gx, y ∈ p.1.set :=
  View.cover_of_tiledL (runLater c i M h X P fi fo).1.gx S512x1024.size (by sl_kernel_rfl) y

end

variable (m : (ℓ : Loc nD τ sig) → Buf (Elt F) ℓ) (ρ : Dev nD → PrngReg)

/-! ## The grid points -/

/-- The memory of grid point `t`. -/
def mems (t : Fin cfg0.N) : Mems :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16),
   Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _⟩

/-- Input window `w`'s block at grid point `t`: no block of this kernel reaches past its array. -/
def block (c : Dev nD) (w : Fin cfg0.W) (t : Fin cfg0.N) : (cfg0.win w).block.Idx → Elt F (cfg0.win w).elt :=
  (cfg0.win w).fill (cfg0.grid.coords t) (fun _ => Classical.choice inferInstance) (iblk m c w t)

theorem whole_block : ∀ (w : Fin cfg0.W) (t : Fin cfg0.N) (a), (cfg0.win w).xsize (cfg0.grid.coords t) a = (cfg0.win w).size a := by decide +kernel

theorem block_moved (w : Fin cfg0.W) (t : Fin cfg0.N) (j : (cfg0.win w).block.Idx) : (cfg0.win w).moved (cfg0.grid.coords t) j = true :=
  ((cfg0.win w).moved_iff _ j).mpr fun a => by rw [whole_block w t a]; exact (j a).isLt

theorem clip_of_index : ∀ (w : Fin cfg0.W) (t t' : Fin cfg0.N), (cfg0.win w).index t = (cfg0.win w).index t' →
    (cfg0.win w).clip (cfg0.grid.coords t) = (cfg0.win w).clip (cfg0.grid.coords t') := by decide +kernel

/-- An input window's staging buffer holds its block at every point, for any proof data that leaves it there. -/
theorem before_block {c : Dev nD} (dat : Dat τ (Elt F) Unit ℕ (Pipeline.UD sig nD τ) ℕ cfg0 c) (w : Fin cfg0.W) (hw : (cfg0.win w).isOut = false)
    (hA : dat.A w = V m c (Pipeline.arrRef spec0 w)) (hafter : ∀ t, dat.after w t = block m c w t) (t : Fin cfg0.N) (d) :
    dat.before w t d = block m c w t := by
  have e : dat.blockOf w t = iblk m c w t := by unfold Dat.blockOf iblk; rw [hA]
  refine (dat.before_in_eq_fetched w hw (fun _ => rfl) (clip_of_index w) (fun t => ?_) t d).trans ?_
  · rw [hafter]; unfold block; rw [Pipeline.Window.cut_fill]; unfold Dat.blockOf iblk; rw [hA]
  · unfold Dat.fetched block; rw [e]
    funext j; unfold Pipeline.Window.fill; rw [dif_pos (block_moved w t j), dif_pos (block_moved w t j)]

/-- The input blocks of grid point `t`. -/
def blocks (c : Dev nD) (t : Fin cfg0.N) : Blocks F :=
  ⟨block m c 0 t, block m c 1 t, block m c 2 t, block m c 3 t, block m c 4 t, block m c 5 t, block m c 6 t, block m c 7 t, block m c 8 t, block m c 9 t, block m c 10 t, block m c 11 t⟩

/-- What grid point `n` leaves: the first from nothing, a later one from what the point before left. -/
def left (c : Dev nD) : (n : ℕ) → n < cfg0.N → Left F
  | 0, hn => leftFirst c (grid0.coords ⟨0, hn⟩) (mems ⟨0, hn⟩) (blocks m c ⟨0, hn⟩) (V m c main_v72) (V m c main_v75) ((first_iff ⟨0, hn⟩).mpr rfl)
  | n + 1, hn => leftLater c (grid0.coords ⟨n + 1, hn⟩) (mems ⟨n + 1, hn⟩) (blocks m c ⟨n + 1, hn⟩) (V m c main_v72) (V m c main_v75)
      (fun h => Nat.succ_ne_zero n ((first_iff ⟨n + 1, hn⟩).mp h)) (left c n (Nat.lt_of_succ_lt hn))

theorem left_first (c : Dev nD) (t : Fin cfg0.N) (h : First (grid0.coords t)) :
    left m c t.val t.isLt = leftFirst c (grid0.coords t) (mems t) (blocks m c t) (V m c main_v72) (V m c main_v75) h := by
  obtain ⟨n, hn⟩ := t
  cases n with
  | zero => rfl
  | succ n => exact absurd ((first_iff _).mp h) (Nat.succ_ne_zero n)

theorem left_later (c : Dev nD) (t : Fin cfg0.N) (h : ¬First (grid0.coords t)) :
    left m c t.val t.isLt = leftLater c (grid0.coords t) (mems t) (blocks m c t) (V m c main_v72) (V m c main_v75) h
      (left m c (t.val - 1) (Nat.lt_of_le_of_lt (Nat.sub_le _ _) t.isLt)) := by
  obtain ⟨n, hn⟩ := t
  cases n with
  | zero => exact absurd ((first_iff _).mpr rfl) h
  | succ n => rfl

/-! ## The launch's data -/

/-- The body's own semaphores: one for each weight that it copies. -/
abbrev sems : Fin 2 → SemLoc sig := fun j => (![SemLoc.dma 25, SemLoc.dma 26] : Fin 2 → SemLoc sig) j
theorem sems_own : Pipeline.OwnSemFacts spec0 sems := by decide
/-- The weights in the large memory. -/
def weights : Finset (Ref sig .tc) := {main_v72, main_v75}
theorem weights_sub : weights ⊆ Pipeline.restRefs sig spec0 := by decide

/-- The scratch, at any contents. -/
def anyScratch (c : Dev nD) : sProp 𝕄 :=
  iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d))

/-- What does not change from point to point: the semaphores at zero and the weights. -/
def still (c : Dev nD) : sProp 𝕄 :=
  iprop(iprop(semVal ((c : Thread nD τ), SemLoc.dma 25) 0 ∗ semVal ((c : Thread nD τ), SemLoc.dma 26) 0) ∗ iprop(hbPt c winH (V m c main_v72) ∗ hbPt c woutH (V m c main_v75)))

theorem launch_eq (c : Dev nD) :
    (Pipeline.ΦD sems spec0 weights (V m) c : sProp 𝕄) = iprop(anyScratch c ∗ (∃ r, prngReg c r) ∗ still m c) := by
  have hs : (Pipeline.ownSems0 (Ix := Unit) (Name := ℕ) (U := Pipeline.UD sig nD τ) (Lvl := ℕ) (Val := Elt F) (τ := τ) sems c : sProp 𝕄)
      = iprop(semVal ((c : Thread nD τ), SemLoc.dma 25) 0 ∗ semVal ((c : Thread nD τ), SemLoc.dma 26) 0) := by
    rw [Pipeline.ownSems0_eq_of_list c sems [0, 1] (by decide) (by decide)]; rfl
  have hw : (bigSep weights (fun b => ((c : Thread nD τ).loc b) ↦{fullShare} V m c b) : sProp 𝕄)
      = iprop(hbPt c winH (V m c main_v72) ∗ hbPt c woutH (V m c main_v75)) := by
    rw [BI.bigSep_eq_bigSepL_of_eq [main_v72, main_v75] (by decide) (by decide)]; rfl
  rw [Pipeline.ΦD_eq, scopedRest0_eq, hs, hw]; unfold anyScratch still; simp only [owns_whole]

/-- What holds between the points: before the first the launch's resources, and after point `n` the same with the
    scratch that the next point reads at what point `n` left. -/
def between (c : Dev nD) : (n : ℕ) → n ≤ cfg0.N → sProp 𝕄
  | 0, _ => Pipeline.ΦD sems spec0 weights (V m) c
  | n + 1, hn => iprop(iprop(owns (c : Thread nD τ) (Memref.whole cc0_scratch0) fullShare (left m c n hn).win ∗ owns (c : Thread nD τ) (Memref.whole cc0_scratch1) fullShare (left m c n hn).wout ∗ (∃ d, owns (c : Thread nD τ) (Memref.whole cc0_scratch2) fullShare d) ∗ (∃ d, owns (c : Thread nD τ) (Memref.whole cc0_scratch3) fullShare d) ∗ owns (c : Thread nD τ) (Memref.whole cc0_scratch4) fullShare (left m c n hn).dcb ∗ (∃ d, owns (c : Thread nD τ) (Memref.whole cc0_scratch5) fullShare d) ∗ owns (c : Thread nD τ) (Memref.whole cc0_scratch6) fullShare (left m c n hn).eb)
      ∗ (∃ r, prngReg c r) ∗ still m c)

theorem between_succ (c : Dev nD) (t : Fin cfg0.N) : between m c (t.val + 1) t.isLt =
    iprop(iprop(owns (c : Thread nD τ) (Memref.whole cc0_scratch0) fullShare (left m c t.val t.isLt).win ∗ owns (c : Thread nD τ) (Memref.whole cc0_scratch1) fullShare (left m c t.val t.isLt).wout ∗ (∃ d, owns (c : Thread nD τ) (Memref.whole cc0_scratch2) fullShare d) ∗ (∃ d, owns (c : Thread nD τ) (Memref.whole cc0_scratch3) fullShare d) ∗ owns (c : Thread nD τ) (Memref.whole cc0_scratch4) fullShare (left m c t.val t.isLt).dcb ∗ (∃ d, owns (c : Thread nD τ) (Memref.whole cc0_scratch5) fullShare d) ∗ owns (c : Thread nD τ) (Memref.whole cc0_scratch6) fullShare (left m c t.val t.isLt).eb)
      ∗ (∃ r, prngReg c r) ∗ still m c) := rfl

theorem between_pos (c : Dev nD) (n : ℕ) (h : n ≤ cfg0.N) (hz : n ≠ 0) :
    between m c n h = between m c (n - 1 + 1) (by omega) := by
  cases n with
  | zero => exact absurd rfl hz
  | succ n => rfl

/-- The proof data: each array as the launch finds it, each input at its block and each output at what the body leaves. -/
def dats (_ : Fin 1) (c : Dev nD) : Dat τ (Elt F) Unit ℕ (Pipeline.UD sig nD τ) ℕ cfg0 c where
  A w := V m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => block m c 5 t
    | ⟨6, _⟩ => block m c 6 t
    | ⟨7, _⟩ => block m c 7 t
    | ⟨8, _⟩ => block m c 8 t
    | ⟨9, _⟩ => block m c 9 t
    | ⟨10, _⟩ => block m c 10 t
    | ⟨11, _⟩ => block m c 11 t
    | ⟨12, _⟩ => (left m c t.val t.isLt).dproj
    | ⟨13, _⟩ => (left m c t.val t.isLt).gx
    | ⟨14, _⟩ => (left m c t.val t.isLt).sm
    | ⟨15, _⟩ => (left m c t.val t.isLt).s5
    | ⟨16, _⟩ => (left m c t.val t.isLt).sp
    | ⟨n + 17, h⟩ => absurd h (Nat.not_lt.2 (Nat.le_add_left 17 n))
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = block m c 0 t := by dsimp only [dats]
theorem after_1 (c : Dev nD) (t : Fin cfg0.N) : (dats m 0 c).after 1 t = block m c 1 t := by dsimp only [dats]
theorem after_2 (c : Dev nD) (t : Fin cfg0.N) : (dats m 0 c).after 2 t = block m c 2 t := by dsimp only [dats]
theorem after_3 (c : Dev nD) (t : Fin cfg0.N) : (dats m 0 c).after 3 t = block m c 3 t := by dsimp only [dats]
theorem after_4 (c : Dev nD) (t : Fin cfg0.N) : (dats m 0 c).after 4 t = block m c 4 t := by dsimp only [dats]
theorem after_5 (c : Dev nD) (t : Fin cfg0.N) : (dats m 0 c).after 5 t = block m c 5 t := by dsimp only [dats]
theorem after_6 (c : Dev nD) (t : Fin cfg0.N) : (dats m 0 c).after 6 t = block m c 6 t := by dsimp only [dats]
theorem after_7 (c : Dev nD) (t : Fin cfg0.N) : (dats m 0 c).after 7 t = block m c 7 t := by dsimp only [dats]
theorem after_8 (c : Dev nD) (t : Fin cfg0.N) : (dats m 0 c).after 8 t = block m c 8 t := by dsimp only [dats]
theorem after_9 (c : Dev nD) (t : Fin cfg0.N) : (dats m 0 c).after 9 t = block m c 9 t := by dsimp only [dats]
theorem after_10 (c : Dev nD) (t : Fin cfg0.N) : (dats m 0 c).after 10 t = block m c 10 t := by dsimp only [dats]
theorem after_11 (c : Dev nD) (t : Fin cfg0.N) : (dats m 0 c).after 11 t = block m c 11 t := by dsimp only [dats]
theorem after_12 (c : Dev nD) (t : Fin cfg0.N) : (dats m 0 c).after 12 t = (left m c t.val t.isLt).dproj := by dsimp only [dats]
theorem after_13 (c : Dev nD) (t : Fin cfg0.N) : (dats m 0 c).after 13 t = (left m c t.val t.isLt).gx := by dsimp only [dats]
theorem after_14 (c : Dev nD) (t : Fin cfg0.N) : (dats m 0 c).after 14 t = (left m c t.val t.isLt).sm := by dsimp only [dats]
theorem after_15 (c : Dev nD) (t : Fin cfg0.N) : (dats m 0 c).after 15 t = (left m c t.val t.isLt).s5 := by dsimp only [dats]
theorem after_16 (c : Dev nD) (t : Fin cfg0.N) : (dats m 0 c).after 16 t = (left m c t.val t.isLt).sp := by dsimp only [dats]

theorem before_0 (c : Dev nD) (t : Fin cfg0.N) (d) : (dats m 0 c).before 0 t d = block m c 0 t :=
  before_block m (dats m 0 c) 0 rfl (A_eq m c 0) (after_0 m c) t d
theorem before_1 (c : Dev nD) (t : Fin cfg0.N) (d) : (dats m 0 c).before 1 t d = block m c 1 t :=
  before_block m (dats m 0 c) 1 rfl (A_eq m c 1) (after_1 m c) t d
theorem before_2 (c : Dev nD) (t : Fin cfg0.N) (d) : (dats m 0 c).before 2 t d = block m c 2 t :=
  before_block m (dats m 0 c) 2 rfl (A_eq m c 2) (after_2 m c) t d
theorem before_3 (c : Dev nD) (t : Fin cfg0.N) (d) : (dats m 0 c).before 3 t d = block m c 3 t :=
  before_block m (dats m 0 c) 3 rfl (A_eq m c 3) (after_3 m c) t d
theorem before_4 (c : Dev nD) (t : Fin cfg0.N) (d) : (dats m 0 c).before 4 t d = block m c 4 t :=
  before_block m (dats m 0 c) 4 rfl (A_eq m c 4) (after_4 m c) t d
theorem before_5 (c : Dev nD) (t : Fin cfg0.N) (d) : (dats m 0 c).before 5 t d = block m c 5 t :=
  before_block m (dats m 0 c) 5 rfl (A_eq m c 5) (after_5 m c) t d
theorem before_6 (c : Dev nD) (t : Fin cfg0.N) (d) : (dats m 0 c).before 6 t d = block m c 6 t :=
  before_block m (dats m 0 c) 6 rfl (A_eq m c 6) (after_6 m c) t d
theorem before_7 (c : Dev nD) (t : Fin cfg0.N) (d) : (dats m 0 c).before 7 t d = block m c 7 t :=
  before_block m (dats m 0 c) 7 rfl (A_eq m c 7) (after_7 m c) t d
theorem before_8 (c : Dev nD) (t : Fin cfg0.N) (d) : (dats m 0 c).before 8 t d = block m c 8 t :=
  before_block m (dats m 0 c) 8 rfl (A_eq m c 8) (after_8 m c) t d
theorem before_9 (c : Dev nD) (t : Fin cfg0.N) (d) : (dats m 0 c).before 9 t d = block m c 9 t :=
  before_block m (dats m 0 c) 9 rfl (A_eq m c 9) (after_9 m c) t d
theorem before_10 (c : Dev nD) (t : Fin cfg0.N) (d) : (dats m 0 c).before 10 t d = block m c 10 t :=
  before_block m (dats m 0 c) 10 rfl (A_eq m c 10) (after_10 m c) t d
theorem before_11 (c : Dev nD) (t : Fin cfg0.N) (d) : (dats m 0 c).before 11 t d = block m c 11 t :=
  before_block m (dats m 0 c) 11 rfl (A_eq m c 11) (after_11 m c) t d

/-- At a later point the sum in window 14 is what the point before left. -/
theorem before_14 (c : Dev nD) (t : Fin cfg0.N) (h : t.val ≠ 0) (d) :
    (dats m 0 c).before 14 t d = (left m c (t.val - 1) (Nat.lt_of_le_of_lt (Nat.sub_le _ _) t.isLt)).sm := by
  have hN : t.val < 8 := lt_of_lt_of_eq t.isLt (show cfg0.N = 8 from N_0)
  rw [Dat.before_out_kept _ 14 rfl t h (Bool.eq_false_iff.mpr fun h => by have := (flush0_14 _).mp h; dsimp only at this; omega)
    (fun _ => rfl) (fun _ _ => rfl)]
  dsimp only [dats]
/-- At a later point the sum in window 15 is what the point before left. -/
theorem before_15 (c : Dev nD) (t : Fin cfg0.N) (h : t.val ≠ 0) (d) :
    (dats m 0 c).before 15 t d = (left m c (t.val - 1) (Nat.lt_of_le_of_lt (Nat.sub_le _ _) t.isLt)).s5 := by
  have hN : t.val < 8 := lt_of_lt_of_eq t.isLt (show cfg0.N = 8 from N_0)
  rw [Dat.before_out_kept _ 15 rfl t h (Bool.eq_false_iff.mpr fun h => by have := (flush0_15 _).mp h; dsimp only at this; omega)
    (fun _ => rfl) (fun _ _ => rfl)]
  dsimp only [dats]
/-- At a later point the sum in window 16 is what the point before left. -/
theorem before_16 (c : Dev nD) (t : Fin cfg0.N) (h : t.val ≠ 0) (d) :
    (dats m 0 c).before 16 t d = (left m c (t.val - 1) (Nat.lt_of_le_of_lt (Nat.sub_le _ _) t.isLt)).sp := by
  have hN : t.val < 8 := lt_of_lt_of_eq t.isLt (show cfg0.N = 8 from N_0)
  rw [Dat.before_out_kept _ 16 rfl t h (Bool.eq_false_iff.mpr fun h => by have := (flush0_16 _).mp h; dsimp only at this; omega)
    (fun _ => rfl) (fun _ _ => rfl)]
  dsimp only [dats]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (mems t).a1 fullShare ((dats m 0 c).before 0 t d))
    ∗ (∃ d, owns (c : Thread nD τ) (mems t).a2 fullShare ((dats m 0 c).before 1 t d))
    ∗ (∃ d, owns (c : Thread nD τ) (mems t).a3 fullShare ((dats m 0 c).before 2 t d))
    ∗ (∃ d, owns (c : Thread nD τ) (mems t).a4 fullShare ((dats m 0 c).before 3 t d))
    ∗ (∃ d, owns (c : Thread nD τ) (mems t).a5 fullShare ((dats m 0 c).before 4 t d))
    ∗ (∃ d, owns (c : Thread nD τ) (mems t).a6 fullShare ((dats m 0 c).before 5 t d))
    ∗ (∃ d, owns (c : Thread nD τ) (mems t).a7 fullShare ((dats m 0 c).before 6 t d))
    ∗ (∃ d, owns (c : Thread nD τ) (mems t).a9 fullShare ((dats m 0 c).before 7 t d))
    ∗ (∃ d, owns (c : Thread nD τ) (mems t).a10 fullShare ((dats m 0 c).before 8 t d))
    ∗ (∃ d, owns (c : Thread nD τ) (mems t).a11 fullShare ((dats m 0 c).before 9 t d))
    ∗ (∃ d, owns (c : Thread nD τ) (mems t).a12 fullShare ((dats m 0 c).before 10 t d))
    ∗ (∃ d, owns (c : Thread nD τ) (mems t).a13 fullShare ((dats m 0 c).before 11 t d))
    ∗ (∃ d, owns (c : Thread nD τ) (mems t).a15 fullShare ((dats m 0 c).before 12 t d))
    ∗ (∃ d, owns (c : Thread nD τ) (mems t).a16 fullShare ((dats m 0 c).before 13 t d))
    ∗ (∃ d, owns (c : Thread nD τ) (mems t).a17 fullShare ((dats m 0 c).before 14 t d))
    ∗ (∃ d, owns (c : Thread nD τ) (mems t).a18 fullShare ((dats m 0 c).before 15 t d))
    ∗ (∃ d, owns (c : Thread nD τ) (mems t).a19 fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (mems t).a1 fullShare ((dats m 0 c).after 0 t)
    ∗ owns (c : Thread nD τ) (mems t).a2 fullShare ((dats m 0 c).after 1 t)
    ∗ owns (c : Thread nD τ) (mems t).a3 fullShare ((dats m 0 c).after 2 t)
    ∗ owns (c : Thread nD τ) (mems t).a4 fullShare ((dats m 0 c).after 3 t)
    ∗ owns (c : Thread nD τ) (mems t).a5 fullShare ((dats m 0 c).after 4 t)
    ∗ owns (c : Thread nD τ) (mems t).a6 fullShare ((dats m 0 c).after 5 t)
    ∗ owns (c : Thread nD τ) (mems t).a7 fullShare ((dats m 0 c).after 6 t)
    ∗ owns (c : Thread nD τ) (mems t).a9 fullShare ((dats m 0 c).after 7 t)
    ∗ owns (c : Thread nD τ) (mems t).a10 fullShare ((dats m 0 c).after 8 t)
    ∗ owns (c : Thread nD τ) (mems t).a11 fullShare ((dats m 0 c).after 9 t)
    ∗ owns (c : Thread nD τ) (mems t).a12 fullShare ((dats m 0 c).after 10 t)
    ∗ owns (c : Thread nD τ) (mems t).a13 fullShare ((dats m 0 c).after 11 t)
    ∗ owns (c : Thread nD τ) (mems t).a15 fullShare ((dats m 0 c).after 12 t)
    ∗ owns (c : Thread nD τ) (mems t).a16 fullShare ((dats m 0 c).after 13 t)
    ∗ owns (c : Thread nD τ) (mems t).a17 fullShare ((dats m 0 c).after 14 t)
    ∗ owns (c : Thread nD τ) (mems t).a18 fullShare ((dats m 0 c).after 15 t)
    ∗ owns (c : Thread nD τ) (mems t).a19 fullShare ((dats m 0 c).after 16 t))

set_option maxHeartbeats 4000000 in
/-- The body at any point: the run of its kind of point, its resources handed over and taken back. -/
theorem body_sound (c : Dev nD) (t : Fin cfg0.N) :
    bodyPre m c t ⊢ wp frame (wpE (defs₀ (F := F)) Variants.none c none) Set.univ (bodyAt0 t) (fun _ => bodyPost m c t) := by
  have hb : (dats m 0 c).Φ t.castSucc = between m c t.val (Nat.le_of_lt t.isLt) := by
    dsimp only [dats]; exact Pipeline.Dat.Φ_castSucc (between m c) t
  unfold bodyPre bodyPost
  simp only [before_0, before_1, before_2, before_3, before_4, before_5, before_6, before_7, before_8, before_9, before_10, before_11]
  rw [hb, show (dats m 0 c).Φ t.succ = between m c (t.val + 1) t.isLt from rfl, between_succ,
    after_0, after_1, after_2, after_3, after_4, after_5, after_6, after_7, after_8, after_9, after_10, after_11, after_12, after_13, after_14, after_15, after_16]
  unfold Dat.owesAt Pipeline.owesWithin
  rw [show (dats m 0 c).owed t.castSucc = 0 from rfl, show (dats m 0 c).owed t.succ = 0 from rfl]
  by_cases h : First (grid0.coords t)
  · have hz : t.val = 0 := (first_iff t).mp h
    have e : between m c t.val (Nat.le_of_lt t.isLt) = Pipeline.ΦD sems spec0 weights (V m) c := by
      have : ∀ n hn, n = 0 → between m c n hn = Pipeline.ΦD sems spec0 weights (V m) c := fun n hn hz => by subst hz; rfl
      exact this _ _ hz
    rw [e, launch_eq]
    unfold anyScratch still
    rw [left_first m c t h]
    unfold leftFirst; dsimp only
    iintro ⟨⟨⟨S20, S21, S22, S23, S24, S25, S26⟩, Hg, ⟨Hq0, Hq1⟩, Hfi, Hfo⟩, ⟨%W, -, HW⟩, ⟨%d1, H1⟩, ⟨%d2, H2⟩, ⟨%d3, H3⟩, ⟨%d4, H4⟩, ⟨%d5, H5⟩, ⟨%d6, H6⟩, ⟨%d7, H7⟩, ⟨%d9, H9⟩, ⟨%d10, H10⟩, ⟨%d11, H11⟩, ⟨%d12, H12⟩, ⟨%d13, H13⟩, ⟨%d15, H15⟩, ⟨%d16, H16⟩, ⟨%d17, H17⟩, ⟨%d18, H18⟩, ⟨%d19, H19⟩⟩
    iapply ((runFirst c (grid0.coords t) (mems t) h (blocks m c t) (V m c main_v72) (V m c main_v75)).2 W _)
    isplitl [H1 H2 H3 H4 H5 H6 H7 H9 H10 H11 H12 H13 Hq0 Hq1 Hfi Hfo]
    · unfold kept
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H12]; · iexact H12
      isplitl [H13]; · iexact H13
      isplitl [Hq0]; · iexact Hq0
      isplitl [Hq1]; · iexact Hq1
      isplitl [Hfi]; · iexact Hfi
      iexact Hfo
    isplitl [H15]; · iexists _; iexact H15
    isplitl [H16]; · iexists _; iexact H16
    isplitl [H17]; · iexists _; iexact H17
    isplitl [H18]; · iexists _; iexact H18
    isplitl [H19]; · iexists _; iexact H19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [HW]; · iexact HW
    iintro ⟨HK, ⟨%e15, H15⟩, ⟨%e16, H16⟩, ⟨%e17, H17⟩, ⟨%e18, H18⟩, ⟨%e19, H19⟩, ⟨%e20, S20⟩, ⟨%e21, S21⟩, S22, S23, ⟨%e24, S24⟩, S25, ⟨%e26, S26⟩, ⟨%W', HW⟩⟩
    unfold kept
    icases HK with ⟨H1, H2, H3, H4, H5, H6, H7, H9, H10, H11, H12, H13, Hq0, Hq1, Hfi, Hfo⟩
    isplitl [S20 S21 S22 S23 S24 S25 S26 Hg Hq0 Hq1 Hfi Hfo]
    · isplitl [S20 S21 S22 S23 S24 S25 S26]
      · isplitl [S20]
        · unfold owns; iexists _; isplitr
          swap; · iexact S20
          ipureintro; exact View.read_writes_of_cover _ _ _ _ _ (cover_first_win c _ _ _ _ _ _)
        isplitl [S21]
        · unfold owns; iexists _; isplitr
          swap; · iexact S21
          ipureintro; exact View.read_writes_of_cover _ _ _ _ _ (cover_first_wout c _ _ _ _ _ _)
        isplitl [S22]
        · iexact S22
        isplitl [S23]
        · iexact S23
        isplitl [S24]
        · unfold owns; iexists _; isplitr
          swap; · iexact S24
          ipureintro; exact View.read_writes_of_cover _ _ _ _ _ (cover_first_dcb c _ _ _ _ _ _)
        isplitl [S25]
        · iexact S25
        unfold owns; iexists _; isplitr
        swap; · iexact S26
        ipureintro; exact View.read_writes_of_cover _ _ _ _ _ (cover_first_eb c _ _ _ _ _ _)
      isplitl [Hg]; · iexact Hg
      isplitl [Hq0 Hq1]
      · isplitl [Hq0]; · iexact Hq0
        iexact Hq1
      isplitl [Hfi]; · iexact Hfi
      iexact Hfo
    isplitl [HW]
    · iexists W'; isplitr; · ipureintro; exact fun _ _ => Or.inl trivial
      iexact HW
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H15]
    · unfold owns; iexists _; isplitr
      swap; · iexact H15
      ipureintro; exact View.read_writes_of_cover _ _ _ _ _ (cover_first_dproj c _ _ _ _ _ _)
    isplitl [H16]
    · unfold owns; iexists _; isplitr
      swap; · iexact H16
      ipureintro; exact View.read_writes_of_cover _ _ _ _ _ (cover_first_gx c _ _ _ _ _ _)
    isplitl [H17]
    · unfold owns; iexists _; isplitr
      swap; · iexact H17
      ipureintro; exact View.read_writes_of_cover _ _ _ _ _ (cover_first_sm c _ _ _ _ _ _)
    isplitl [H18]
    · unfold owns; iexists _; isplitr
      swap; · iexact H18
      ipureintro; exact View.read_writes_of_cover _ _ _ _ _ (cover_first_s5 c _ _ _ _ _ _)
    unfold owns; iexists _; isplitr
    swap; · iexact H19
    ipureintro; exact View.read_writes_of_cover _ _ _ _ _ (cover_first_sp c _ _ _ _ _ _)
  · have hz : t.val ≠ 0 := fun e => h ((first_iff t).mpr e)
    simp only [before_14 m c t hz, before_15 m c t hz, before_16 m c t hz]
    rw [between_pos m c t.val _ hz]
    unfold between still
    rw [left_later m c t h]
    unfold leftLater; dsimp only
    iintro ⟨⟨⟨S20, S21, S22, S23, S24, S25, S26⟩, Hg, ⟨Hq0, Hq1⟩, Hfi, Hfo⟩, ⟨%W, -, HW⟩, ⟨%d1, H1⟩, ⟨%d2, H2⟩, ⟨%d3, H3⟩, ⟨%d4, H4⟩, ⟨%d5, H5⟩, ⟨%d6, H6⟩, ⟨%d7, H7⟩, ⟨%d9, H9⟩, ⟨%d10, H10⟩, ⟨%d11, H11⟩, ⟨%d12, H12⟩, ⟨%d13, H13⟩, ⟨%d15, H15⟩, ⟨%d16, H16⟩, ⟨%d17, H17⟩, ⟨%d18, H18⟩, ⟨%d19, H19⟩⟩
    iapply ((runLater c (grid0.coords t) (mems t) h (blocks m c t) _ (V m c main_v72) (V m c main_v75)).2 W _)
    isplitl [H1 H2 H3 H4 H5 H6 H7 H9 H10 H11 H12 H13 Hq0 Hq1 Hfi Hfo]
    · unfold kept
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H12]; · iexact H12
      isplitl [H13]; · iexact H13
      isplitl [Hq0]; · iexact Hq0
      isplitl [Hq1]; · iexact Hq1
      isplitl [Hfi]; · iexact Hfi
      iexact Hfo
    isplitl [H15]; · iexists _; iexact H15
    isplitl [H16]; · iexists _; iexact H16
    isplitl [H17]; · iexact H17
    isplitl [H18]; · iexact H18
    isplitl [H19]; · iexact H19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [HW]; · iexact HW
    iintro ⟨HK, ⟨%e15, H15⟩, ⟨%e16, H16⟩, H17, H18, H19, S20, S21, S22, S23, S24, S25, S26, ⟨%W', HW⟩⟩
    unfold kept
    icases HK with ⟨H1, H2, H3, H4, H5, H6, H7, H9, H10, H11, H12, H13, Hq0, Hq1, Hfi, Hfo⟩
    isplitl [S20 S21 S22 S23 S24 S25 S26 Hg Hq0 Hq1 Hfi Hfo]
    · isplitl [S20 S21 S22 S23 S24 S25 S26]
      · isplitl [S20]
        · iexact S20
        isplitl [S21]
        · iexact S21
        isplitl [S22]
        · iexact S22
        isplitl [S23]
        · iexact S23
        isplitl [S24]
        · unfold owns; iexists _; isplitr
          swap; · iexact S24
          ipureintro; rfl
        isplitl [S25]
        · iexact S25
        unfold owns; iexists _; isplitr
        swap; · iexact S26
        ipureintro; rfl
      isplitl [Hg]; · iexact Hg
      isplitl [Hq0 Hq1]
      · isplitl [Hq0]; · iexact Hq0
        iexact Hq1
      isplitl [Hfi]; · iexact Hfi
      iexact Hfo
    isplitl [HW]
    · iexists W'; isplitr; · ipureintro; exact fun _ _ => Or.inl trivial
      iexact HW
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [H13]; · iexact H13
    isplitl [H15]
    · unfold owns; iexists _; isplitr
      swap; · iexact H15
      ipureintro; exact View.read_writes_of_cover _ _ _ _ _ (cover_later_dproj c _ _ _ _ _ _ _)
    isplitl [H16]
    · unfold owns; iexists _; isplitr
      swap; · iexact H16
      ipureintro; exact View.read_writes_of_cover _ _ _ _ _ (cover_later_gx c _ _ _ _ _ _ _)
    isplitl [H17]
    · unfold owns; iexists _; isplitr
      swap; · iexact H17
      ipureintro; rfl
    isplitl [H18]
    · unfold owns; iexists _; isplitr
      swap; · iexact H18
      ipureintro; rfl
    unfold owns; iexists _; isplitr
    swap; · iexact H19
    ipureintro; rfl

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_sound m c t) rfl .rfl fun _ => .rfl

/-! ## The run -/

theorem enter (c : Dev nD) : Pipeline.ΦD sems spec0 weights (V m) c ⊢ (dats m 0 c).Φ 0 := by
  rw [show (dats m 0 c).Φ 0 = between m c 0 (Nat.zero_le _) from rfl]
  exact Idealize.SL.BI.Entails.refl _

theorem leave (c : Dev nD) : (dats m 0 c).Φ (Fin.last cfg0.N) ⊢ Pipeline.ΦD sems spec0 weights (V m) c := by
  rw [show (dats m 0 c).Φ (Fin.last cfg0.N) = between m c cfg0.N le_rfl from rfl,
    between_pos m c _ _ (by rw [show cfg0.N = 8 from N_0]; decide), launch_eq]
  unfold between anyScratch
  iintro ⟨⟨S20, S21, S22, S23, S24, S25, S26⟩, Hg, Hs⟩
  isplitl [S20 S21 S22 S23 S24 S25 S26]
  · isplitl [S20]; · iexists _; iexact S20
    isplitl [S21]; · iexists _; iexact S21
    isplitl [S22]; · iexact S22
    isplitl [S23]; · iexact S23
    isplitl [S24]; · iexists _; iexact S24
    isplitl [S25]; · iexact S25
    iexists _; iexact S26
  isplitl [Hg]; · iexact Hg
  iexact Hs

theorem main_enters (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option backward.isDefEq.respectTransparency.types false in
/-- From any memory with zero counters, every fair execution ends with each array of the kernel at what the proof data
    say, every other buffer as the kernel found it, and every counter at zero. -/
theorem run : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 sems defs₀ Variants.none sems_own weights weights_sub m ρ main
    (hbody := fun c => (body_obligation m c).loose) (hq := fun _ _ _ => rfl)
    (howed := fun _ _ => rfl) (V := V m) (hmain := main_enters m Variants.none) (hA := A_eq m)
    (hin := enter m) (hout := leave m)

/-- What the run leaves of the arguments. -/
abbrev Unchanged (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)

theorem arg_staged {r : PUnit × MemSt nD τ sig (Elt F)} (h : Pipeline.FramePost cfgs (dats m) 0 (V m) r) (c : Dev nD) (w : Fin cfg0.W)
    (hw : (cfg0.win w).isOut = false) :
    r.2.mem ((c.tc : Thread nD τ).loc (Pipeline.arrRef spec0 w)) = V m c (Pipeline.arrRef spec0 w) :=
  ((h c).1 w).trans (((dats m 0 c).arrAt_in w hw _).trans (A_eq m c w))

theorem unchanged {r : PUnit × MemSt nD τ sig (Elt F)} (h : Pipeline.FramePost cfgs (dats m) 0 (V m) r) : Unchanged m r := fun c =>
  ⟨(arg_staged m h c 1 rfl).trans (V_main_arg0 m c),
    (arg_staged m h c 6 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (arg_staged m h c 8 rfl).trans (V_main_arg5 m c),
    (arg_staged m h c 9 rfl).trans (V_main_arg6 m c),
    ((h c).2 main_arg7 (Pipeline.mem_restRefs_of main_arg7 (by decide) (by decide))).trans (V_main_arg7 m c),
    (arg_staged m h c 11 rfl).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The kernel runs and leaves its arguments and counters alone. -/
theorem frame_mix : θ_run defs (onTc (τ := τ) (main (F := F))) ⟨m, fun _ => 0, ρ⟩ (fun r => Unchanged m r ∧ r.2.sem = fun _ => 0) :=
  (θ_run defs _ _).mono (fun _ h => ⟨unchanged m h.1, h.2⟩) (run m ρ)

end Cert.MixRun

end
-- ==== Proof.MixFirst.lean ====
/- What the mixer's backward body leaves at its first point, the sequence's last tile, as tables of reals. -/
module

public import proofs.«01_k».proof.Proof.MixTile
public import proofs.«01_k».proof.Proof.MixFrame

@[expose] public section

set_option maxRecDepth 16384

noncomputable section

namespace Cert.MixValue

open Idealize.ShloMosaic Idealize.ShloMosaic.ValueIdx Idealize.ShloMosaic.Tactic Cert.Reals Cert.MixIdeal Cert.MixIdeal.Gen Cert.MixRun
open scoped BigOperators

variable {S : Tabs}

/-! ## Past the sequence's end -/

/-- The cotangent is zero past the sequence. -/
def Ends (S : Tabs) : Prop := ∀ r j, 4096 ≤ r → S.DX r j = 0

theorem Ends.dm (E : Ends S) {r : ℕ} (h : 4096 ≤ r) (j : ℕ) : S.dm r j = 0 :=
  Finset.sum_eq_zero fun k _ => by rw [E r k h, zero_mul]
theorem Ends.dc (E : Ends S) {r : ℕ} (h : 4096 ≤ r) (j : ℕ) : S.dc r j = 0 := by
  have hz : ∀ k, S.dz r k = 0 := fun k => by unfold Tabs.dz Tabs.dl; rw [E.dm h, zero_mul, zero_mul]
  unfold Tabs.dc
  simp only [hz, zero_mul, Finset.sum_const_zero, zero_div, mul_zero, sub_zero]
theorem Ends.e (E : Ends S) {r : ℕ} (h : 4096 ≤ r) (g j : ℕ) : S.e g r j = 0 := by
  unfold Tabs.e Tabs.dd Tabs.dq
  rw [Finset.sum_eq_zero fun c _ => by rw [E.dm h, zero_mul, zero_mul], zero_div]
theorem sm_end (r j : ℕ) : S.sm (512 * (7 + 1)) r j = 0 := Finset.sum_eq_zero fun q hq => absurd (Finset.mem_range.mp hq) (by omega)
theorem s5_last (r j : ℕ) : S.s5 (512 * (7 + 1)) r j = 0 := Finset.sum_eq_zero fun q hq => absurd (Finset.mem_range.mp hq) (by omega)
theorem sp_last (g a b : ℕ) : S.sp (512 * (7 + 1)) g a b = 0 := Finset.sum_eq_zero fun q hq => absurd (Finset.mem_range.mp hq) (by omega)

section Planes
variable {sig : RefSig} {κ : Kind} {sp : Space} {v : View sig κ sp S4x128x128 .f32} {f : v.ty.Contents (Elt Ideal)} {L : List (View.Piece (Elt Ideal) S4x128x128 .f32)} {T : ℕ}
/-- The pools' weight gradient with its first planes brought up to date. -/
def midp (S : Tabs) (T g : ℕ) : ℕ → ℕ → ℕ → ℝ := upd3 (fun k => k < g) (S.sp (512 * T)) (S.sp (512 * (T + 1)))
/-- The next plane brought up to date from what the buffer holds. -/
theorem sp_back (hT : T < 8) {g : ℕ} {vd vq : FVec Ideal S512x128 .bf16} {inb inb'} {hh hc}
    (hL : Rep3 (v.read (Elt Ideal) (v.writes (Elt Ideal) f L)) (midp S T g))
    (hd : Rep2 vd fun r j => S.D (512 * T + r) (128 * g + j)) (hq : Rep2 vq fun r j => S.dq (512 * T + r) (128 * g + j)) :
    Rep3 (v.read (Elt Ideal) (v.writes (Elt Ideal) f (⟨Rect.unit ![g, 0, 0] ![1, 128, 128] inb, shapeCast S1x128x128 (addf (F := Ideal) (shapeCast S128x128
        (View.ld (v.read (Elt Ideal) (v.writes (Elt Ideal) f L)) (Rect.unit ![g, 0, 0] ![1, 128, 128] inb')) hh)
      (matmul dot_S512x128_S512x128_S128x128_0_0_1_1_n_n none vd vq (constant S128x128 .f32 0x00000000#32))) hc⟩ :: L))) (midp S T (g + 1)) :=
  (storePlane hL (sp_plane hT hd hq (oldPlane hL (Nat.lt_irrefl g)) hh hc)).congr fun k r j _ _ _ => by
    unfold midp upd3
    by_cases hk : k < g + 1
    · rw [if_pos hk, if_pos (Nat.lt_succ_iff_lt_or_eq.mp hk)]
    · rw [if_neg hk, if_neg (mt Nat.lt_succ_iff_lt_or_eq.mpr hk)]
end Planes

/-- A zero store of the rows from 512 on. -/
theorem zero_rows {sig : RefSig} {κ : Kind} {sp : Space} {n b k : ℕ} {v : View sig κ sp ⟨2, ![n, b]⟩ .f32} {f : v.ty.Contents (Elt Ideal)} {inb} {w : Vec Ideal ⟨2, ![k, b]⟩ .f32}
    {Y : ℕ → ℕ → ℝ} (hw : Rep2 w fun _ _ => 0) (hY : ∀ q j, q < k → Y (512 + q) j = 0) (hn : n = 512 + k) :
    On2 (fun q _ => 512 ≤ q) (v.read (Elt Ideal) (v.writes (Elt Ideal) f [⟨Rect.unit ![512, 0] ![k, b] inb, w⟩])) Y :=
  ((On2.nowhere _ Y).store (hw.congr fun r j hr _ => (hY r (0 + j) hr).symm)).congr fun q j hq hj h => ⟨.inr ⟨⟨h, by omega⟩, Nat.zero_le _, by omega⟩, rfl⟩
theorem zero_all {sig : RefSig} {κ : Kind} {sp : Space} {n b : ℕ} {v : View sig κ sp ⟨2, ![n, b]⟩ .f32} {f : v.ty.Contents (Elt Ideal)} {inb} {w : Vec Ideal ⟨2, ![n, b]⟩ .f32}
    {Y : ℕ → ℕ → ℝ} (hw : Rep2 w fun _ _ => 0) (hY : ∀ q j, Y q j = 0) :
    Rep2 (v.read (Elt Ideal) (v.writes (Elt Ideal) f [⟨Rect.unit ![0, 0] ![n, b] inb, w⟩])) Y :=
  (hw.storeAll v f [] inb).congr fun q j _ _ => (hY q j).symm

theorem zero_planes {sig : RefSig} {κ : Kind} {sp : Space} {n a b : ℕ} {v : View sig κ sp ⟨3, ![n, a, b]⟩ .f32} {f : v.ty.Contents (Elt Ideal)} {inb} {w : Vec Ideal ⟨3, ![n, a, b]⟩ .f32}
    {Y : ℕ → ℕ → ℕ → ℝ} (hw : ∀ i, w i = ((0 : ℝ) : EReal)) (hY : ∀ k r j, Y k r j = 0) :
    Rep3 (v.read (Elt Ideal) (v.writes (Elt Ideal) f [⟨Rect.unit ![0, 0, 0] ![n, a, b] inb, w⟩])) Y := fun i => by
  rw [View.read_writes_cons_unit_of_mem v f inb w [] i i rfl (fun d => by fin_cases d <;> exact (Nat.zero_add _).symm), hw, hY]

variable (c : Dev nD) (i : grid0.Coords) (M : Mems) {X : Blocks Ideal}
  (fi : HbBuf (F := Ideal) c winH) (fo : HbBuf (F := Ideal) c woutH) (h : First i)

set_option maxHeartbeats 2000000 in
theorem first_s5 (B : Tile S 7 X) (hfo : Rep2 (runFirst.sl.dma0_1 (F := Ideal) c fo) S.WO)
    (hu : Rep2 (M.a22.view.read (Elt Ideal) (M.a22.view.writes (Elt Ideal) M.a22.view.junk (runFirst.sl.H22_2 (F := Ideal) c i M X)))
      fun q j => S.up (512 * 7 + q) j)
    (hus : On3 (fun k => k < 7) (M.a23.view.read (Elt Ideal) (M.a23.view.writes (Elt Ideal) M.a23.view.junk (runFirst.sl.H23_7 (F := Ideal) c i M X)))
      fun k r j => S.up (512 * 7 + (k + 1 + r)) j) :
    Rep2 (leftFirst c i M X fi fo h).s5 (S.s5 (512 * 7)) := by
  have hwo := (Rep2.readCopied16 M.a21.view M.a21.view.junk hfo).loadAll16 inb_S1024x1024_S1024x1024_0_0
  have hT : 7 < 8 := by decide
  revert hu hus
  unfold leftFirst runFirst readBack
  dsimp only
  sl_unfold_words
  simp only [View.readCov, View.readAt_eq_ld, M.h1.read_unread, M.h2.read_unread, M.h3.read_unread, M.h4.read_unread, M.h5.read_unread, M.h6.read_unread, M.h7.read_unread,
    M.h9.read_unread, M.h10.read_unread, M.h11.read_unread, M.h12.read_unread, M.h13.read_unread]
  simp only [k0_pay12, k0_pay13, k0_pay14, k0_pay15, k0_pay24, k0_pay25, k0_pay26, k0_pay27, k0_pay34, k0_pay35, k0_pay36, k0_pay37, k0_pay44, k0_pay45, k0_pay46, k0_pay47,
    k0_pay106, k0_pay107, k0_pay108, k0_pay115, k0_pay116, k0_pay119, k0_pay120, k0_pay121, k0_pay128, k0_pay129]
  intro hu hus
  refine s5_end hT ?_
  iterate 31 refine s5_tapBack hT (by decide) ?_ (B.norm_dc hwo _ _ _ _) ?_
  · refine s5_back hT ?_ (cb_term (B.norm_dc hwo _ _ _ _)) (fun r j hj => by unfold done; omega) (fun j hj => by unfold done; omega)
    refine s5_back hT ?_ (lb_term (B.norm_dl hwo _ _ _ _)) (fun r j hj => by unfold done; omega) (fun j hj => by unfold done; omega)
    refine s5_back hT ?_ (lg_term (B.norm_dl hwo _ _ _ _) (B.norm_z _)) (fun r j hj => by unfold done; omega) (fun j hj => by unfold done; omega)
    refine s5_scaleBack (g := 3) (l := 384) hT B hwo rfl (by decide) ?_
    refine s5_scaleBack (g := 2) (l := 256) hT B hwo rfl (by decide) ?_
    refine s5_scaleBack (g := 1) (l := 128) hT B hwo rfl (by decide) ?_
    refine s5_scaleBack (g := 0) (l := 0) hT B hwo rfl (by decide) ?_
    exact s5_start (zero_all (Rep2.splat lit_zero) s5_last)
  iterate 6 (exact plane_at (Y := fun q j => S.up (512 * 7 + q) j) hus (by decide) fun r j => congrArg (fun q => S.up q j) (by omega))
  · exact view_at hu fun r j => congrArg (fun q => S.up q j) (by omega)
  iterate 7 (exact plane_at (Y := fun q j => S.up (512 * 7 + q) j) hus (by decide) fun r j => congrArg (fun q => S.up q j) (by omega))
  · exact view_at hu fun r j => congrArg (fun q => S.up q j) (by omega)
  iterate 7 (exact plane_at (Y := fun q j => S.up (512 * 7 + q) j) hus (by decide) fun r j => congrArg (fun q => S.up q j) (by omega))
  · exact view_at hu fun r j => congrArg (fun q => S.up q j) (by omega)
  iterate 7 (exact plane_at (Y := fun q j => S.up (512 * 7 + q) j) hus (by decide) fun r j => congrArg (fun q => S.up q j) (by omega))
  · exact view_at hu fun r j => congrArg (fun q => S.up q j) (by omega)

set_option maxHeartbeats 2000000 in
theorem first_dcb (B : Tile S 7 X) (hfo : Rep2 (runFirst.sl.dma0_1 (F := Ideal) c fo) S.WO) :
    On2 (fun q _ => 512 ≤ q) (leftFirst c i M X fi fo h).dcb fun q j => S.dc (512 * 7 + (q - 512)) j := by
  have hwo := (Rep2.readCopied16 M.a21.view M.a21.view.junk hfo).loadAll16 inb_S1024x1024_S1024x1024_0_0
  unfold leftFirst runFirst readBack
  dsimp only
  sl_unfold_words
  simp only [View.readCov, View.readAt_eq_ld, M.h1.read_unread, M.h2.read_unread, M.h3.read_unread, M.h4.read_unread, M.h5.read_unread, M.h6.read_unread, M.h7.read_unread,
    M.h9.read_unread, M.h10.read_unread, M.h11.read_unread, M.h12.read_unread, M.h13.read_unread]
  exact dc_carry (B.norm_dc hwo _ _ _ _) _

set_option maxHeartbeats 2000000 in
theorem first_eb (B : Tile S 7 X) (hv : Scalar.subi 7#32 (BitVec.ofNat 32 (i 0).val) = BitVec.ofNat 32 7) (hfo : Rep2 (runFirst.sl.dma0_1 (F := Ideal) c fo) S.WO) :
    On2 (fun q _ => 512 ≤ q) (leftFirst c i M X fi fo h).eb fun q j => S.eAll (512 * 7 + (q - 512)) j := by
  have hwo := (Rep2.readCopied16 M.a21.view M.a21.view.junk hfo).loadAll16 inb_S1024x1024_S1024x1024_0_0
  unfold leftFirst runFirst readBack
  dsimp only
  sl_unfold_words
  simp only [View.readCov, View.readAt_eq_ld, M.h1.read_unread, M.h2.read_unread, M.h3.read_unread, M.h4.read_unread, M.h5.read_unread, M.h6.read_unread, M.h7.read_unread,
    M.h9.read_unread, M.h10.read_unread, M.h11.read_unread, M.h12.read_unread, M.h13.read_unread]
  refine e_carry ?_
  refine fresh_put (g := 3) (l := 384) rfl ?_ (pool_e (B.q (l := 384) hwo rfl _ _ slices_S512x512_o0_384_S512x128 _ _) (B.pwg _ _ _) hv (by decide) rfl (by decide)) _
  refine fresh_put (g := 2) (l := 256) rfl ?_ (pool_e (B.q (l := 256) hwo rfl _ _ slices_S512x512_o0_256_S512x128 _ _) (B.pwg _ _ _) hv (by decide) rfl (by decide)) _
  refine fresh_put (g := 1) (l := 128) rfl ?_ (pool_e (B.q (l := 128) hwo rfl _ _ slices_S512x512_o0_128_S512x128 _ _) (B.pwg _ _ _) hv (by decide) rfl (by decide)) _
  refine fresh_put (g := 0) (l := 0) rfl ?_ (pool_e (B.q (l := 0) hwo rfl _ _ slices_S512x512_o0_0_S512x128 _ _) (B.pwg _ _ _) hv (by decide) rfl (by decide)) _
  exact fresh_start _ _

set_option maxHeartbeats 2000000 in
theorem first_sp (B : Tile S 7 X) (hfo : Rep2 (runFirst.sl.dma0_1 (F := Ideal) c fo) S.WO) :
    Rep3 (leftFirst c i M X fi fo h).sp (S.sp (512 * 7)) := by
  have hwo := (Rep2.readCopied16 M.a21.view M.a21.view.junk hfo).loadAll16 inb_S1024x1024_S1024x1024_0_0
  have hT : 7 < 8 := by decide
  unfold leftFirst runFirst readBack
  dsimp only
  sl_unfold_words
  simp only [View.readCov, View.readAt_eq_ld, M.h1.read_unread, M.h2.read_unread, M.h3.read_unread, M.h4.read_unread, M.h5.read_unread, M.h6.read_unread, M.h7.read_unread,
    M.h9.read_unread, M.h10.read_unread, M.h11.read_unread, M.h12.read_unread, M.h13.read_unread]
  refine Rep3.updated (p := fun k => k < 4) (Z := S.sp (512 * (7 + 1))) ?_ fun k hk => hk
  refine sp_back (g := 3) hT ?_ (B.dg (g := 3) (l := 384) rfl _ _) (B.q (l := 384) hwo rfl _ _ slices_S512x512_o0_384_S512x128 _ _)
  refine sp_back (g := 2) hT ?_ (B.dg (g := 2) (l := 256) rfl _ _) (B.q (l := 256) hwo rfl _ _ slices_S512x512_o0_256_S512x128 _ _)
  refine sp_back (g := 1) hT ?_ (B.dg (g := 1) (l := 128) rfl _ _) (B.q (l := 128) hwo rfl _ _ slices_S512x512_o0_128_S512x128 _ _)
  refine sp_back (g := 0) hT ?_ (B.dg (g := 0) (l := 0) rfl _ _) (B.q (l := 0) hwo rfl _ _ slices_S512x512_o0_0_S512x128 _ _)
  exact zero_planes (fun _ => lit_zero) fun k r j => (if_neg (Nat.not_lt_zero k)).trans (sp_last k r j)

set_option maxHeartbeats 4000000 in
theorem first (B : Tile S 7 X) (E : Ends S) (hv : Scalar.subi 7#32 (BitVec.ofNat 32 (i 0).val) = BitVec.ofNat 32 7)
    (hfi : Rep2 (runFirst.sl.dma0 (F := Ideal) c fi) S.Win) (hfo : Rep2 (runFirst.sl.dma0_1 (F := Ideal) c fo) S.WO) :
    Held S 7 (leftFirst c i M X fi fo h) := by
  have hwo := (Rep2.readCopied16 M.a21.view M.a21.view.junk hfo).loadAll16 inb_S1024x1024_S1024x1024_0_0
  have hwi := (Rep2.readCopied16 M.a20.view M.a20.view.junk hfi).loadAll16 inb_S1024x1536_S1024x1536_0_0
  have hT : 7 < 8 := by decide
  have hu : Rep2 (M.a22.view.read (Elt Ideal) (M.a22.view.writes (Elt Ideal) M.a22.view.junk (runFirst.sl.H22_2 (F := Ideal) c i M X)))
      fun q j => S.up (512 * 7 + q) j := by
    sl_unfold_words
    simp only [View.readCov, View.readAt_eq_ld, M.h3.read_unread, M.h4.read_unread]
    exact u_buf (pay70 hv hT (B.ha _) (B.hg _)) (pay73 (B.pa _) (B.pg _))
  have hus : On3 (fun k => k < 7) (M.a23.view.read (Elt Ideal) (M.a23.view.writes (Elt Ideal) M.a23.view.junk (runFirst.sl.H23_7 (F := Ideal) c i M X)))
      fun k r j => S.up (512 * 7 + (k + 1 + r)) j := by
    revert hu
    sl_unfold_words
    simp only [View.readCov, View.readAt_eq_ld, M.h3.read_unread, M.h4.read_unread]
    intro hu
    exact shifts hu _
  have hd : Rep2 (M.a24.view.read (Elt Ideal) (M.a24.view.writes (Elt Ideal) M.a24.view.junk (runFirst.sl.H24_2 (F := Ideal) c M X fo)))
      fun q j => S.dc (512 * 7 + q) j := by
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    exact dc_buf (zero_rows (Rep2.splat lit_zero) (fun q j _ => E.dc (by omega) j) rfl) (B.norm_dc hwo _ _ _ _) _
  have hds : On3 (fun k => k < 7) (M.a25.view.read (Elt Ideal) (M.a25.view.writes (Elt Ideal) M.a25.view.junk (runFirst.sl.H25_7 (F := Ideal) c M X fo)))
      fun k r j => S.dc (512 * 7 + (k + 1 + r)) j := by
    revert hd
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    intro hd
    exact shifts hd _
  have h1 : On2 (seen 128) (M.a26.view.read (Elt Ideal) (M.a26.view.writes (Elt Ideal) M.a26.view.junk (runFirst.sl.H26_2 (F := Ideal) c i M X fo)))
      fun q j => S.eAll (512 * 7 + q) j := by
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    exact e_put (g := 0) (l := 0) rfl (e_held (zero_rows (Rep2.splat lit_zero) (fun q j _ => E.e (by omega) _ _) rfl)) (pool_e (B.q (l := 0) hwo rfl _ _ slices_S512x512_o0_0_S512x128 _ _) (B.pwg _ _ _) hv (by decide) rfl (by decide)) _
  have h2 : On2 (seen 256) (M.a26.view.read (Elt Ideal) (M.a26.view.writes (Elt Ideal) M.a26.view.junk (runFirst.sl.H26_3 (F := Ideal) c i M X fo)))
      fun q j => S.eAll (512 * 7 + q) j := by
    revert h1
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    intro h1
    exact e_put (g := 1) (l := 128) rfl h1 (pool_e (B.q (l := 128) hwo rfl _ _ slices_S512x512_o0_128_S512x128 _ _) (B.pwg _ _ _) hv (by decide) rfl (by decide)) _
  have h3 : On2 (seen 384) (M.a26.view.read (Elt Ideal) (M.a26.view.writes (Elt Ideal) M.a26.view.junk (runFirst.sl.H26_4 (F := Ideal) c i M X fo)))
      fun q j => S.eAll (512 * 7 + q) j := by
    revert h2
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    intro h2
    exact e_put (g := 2) (l := 256) rfl h2 (pool_e (B.q (l := 256) hwo rfl _ _ slices_S512x512_o0_256_S512x128 _ _) (B.pwg _ _ _) hv (by decide) rfl (by decide)) _
  have h4 : On2 (seen 512) (M.a26.view.read (Elt Ideal) (M.a26.view.writes (Elt Ideal) M.a26.view.junk (runFirst.sl.H26_5 (F := Ideal) c i M X fo)))
      fun q j => S.eAll (512 * 7 + q) j := by
    revert h3
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    intro h3
    exact e_put (g := 3) (l := 384) rfl h3 (pool_e (B.q (l := 384) hwo rfl _ _ slices_S512x512_o0_384_S512x128 _ _) (B.pwg _ _ _) hv (by decide) rfl (by decide)) _
  have hdu : Rep2 (runFirst.sl.r_43 (F := Ideal) c M X fo) fun r j => S.du (512 * 7 + r) j := by
    revert hd hds
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    intro hd hds
    unfold Tabs.du
    iterate 30 refine Rep2.addTap ?_ B.row ?_ shapeCasts_S1x512_S1x512 broadcasts_S1x512_S512x512
    · exact (((B.row.cast shapeCasts_S1x512_S1x512).spreadRow broadcasts_S1x512_S512x512).mul (B.norm_dc hwo _ _ _ _)).congr fun r j _ _ => by
        rw [Finset.sum_range_zero, add_zero]
    iterate 6 (exact plane_at (Y := fun q j => S.dc (512 * 7 + q) j) hds (by decide) fun r j => congrArg (fun q => S.dc q j) (by omega))
    · exact view_at hd fun r j => congrArg (fun q => S.dc q j) (by omega)
    iterate 7 (exact plane_at (Y := fun q j => S.dc (512 * 7 + q) j) hds (by decide) fun r j => congrArg (fun q => S.dc q j) (by omega))
    · exact view_at hd fun r j => congrArg (fun q => S.dc q j) (by omega)
    iterate 7 (exact plane_at (Y := fun q j => S.dc (512 * 7 + q) j) hds (by decide) fun r j => congrArg (fun q => S.dc q j) (by omega))
    · exact view_at hd fun r j => congrArg (fun q => S.dc q j) (by omega)
    iterate 7 (exact plane_at (Y := fun q j => S.dc (512 * 7 + q) j) hds (by decide) fun r j => congrArg (fun q => S.dc q j) (by omega))
  have hb0 : Rep2 (runFirst.sl.r_7 (F := Ideal) c i M X fo) fun r j => S.db 0 (512 * 7 + r) j := by
    revert h1
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    intro h1
    exact pool_db0 h1 (pool_e (B.q (l := 0) hwo rfl _ _ slices_S512x512_o0_0_S512x128 _ _) (B.pwg _ _ _) hv (by decide) rfl (by decide)) (pool_dd (B.q (l := 0) hwo rfl _ _ slices_S512x512_o0_0_S512x128 _ _) (B.pwg _ _ _))
  have hb1 : Rep2 (runFirst.sl.r_11 (F := Ideal) c i M X fo) fun r j => S.db 1 (512 * 7 + r) j := by
    revert h2
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    intro h2
    exact pool_db1 h2 (pool_e (B.q (l := 128) hwo rfl _ _ slices_S512x512_o0_128_S512x128 _ _) (B.pwg _ _ _) hv (by decide) rfl (by decide)) (pool_dd (B.q (l := 128) hwo rfl _ _ slices_S512x512_o0_128_S512x128 _ _) (B.pwg _ _ _))
  have hb2 : Rep2 (runFirst.sl.r_15 (F := Ideal) c i M X fo) fun r j => S.db 2 (512 * 7 + r) j := by
    revert h3
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    intro h3
    exact pool_db2 h3 (pool_e (B.q (l := 256) hwo rfl _ _ slices_S512x512_o0_256_S512x128 _ _) (B.pwg _ _ _) hv (by decide) rfl (by decide)) (pool_dd (B.q (l := 256) hwo rfl _ _ slices_S512x512_o0_256_S512x128 _ _) (B.pwg _ _ _))
  have hb3 : Rep2 (runFirst.sl.r_21 (F := Ideal) c i M X fo) fun r j => S.db 3 (512 * 7 + r) j := by
    revert h4
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread]
    intro h4
    exact pool_db3 h4 (pool_e (B.q (l := 384) hwo rfl _ _ slices_S512x512_o0_384_S512x128 _ _) (B.pwg _ _ _) hv (by decide) rfl (by decide)) (pool_dd (B.q (l := 384) hwo rfl _ _ slices_S512x512_o0_384_S512x128 _ _) (B.pwg _ _ _))
  have hp : Rep2 (k0_pay137 (F := Ideal) (runFirst.sl.r_7 c i M X fo) (runFirst.sl.r_11 c i M X fo) (runFirst.sl.r_15 c i M X fo) (runFirst.sl.r_21 c i M X fo)
      (runFirst.sl.r_31 c M X) (runFirst.sl.r_32 c M X) (runFirst.sl.r_43 c M X fo)) fun r j => S.dp (512 * 7 + r) j := by
    refine pay137 hb0 hb1 hb2 hb3 ?_ ?_ hdu
    · sl_unfold_words
      simp only [View.readAt_eq_ld, M.h3.read_unread]
      exact pay71 (B.pa _)
    · sl_unfold_words
      simp only [View.readAt_eq_ld, M.h3.read_unread]
      exact pay72 (B.pg _)
  refine ⟨?_, ?_, ?_, first_s5 c i M fi fo h B hfo hu hus, first_sp c i M fi fo h B hfo, Rep2.readCopied16 _ _ hfi, Rep2.readCopied16 _ _ hfo,
    first_dcb c i M fi fo h B hfo, first_eb c i M fi fo h B hv hfo⟩
  · exact Rep2.storeAll16 _ _ [] _ hp
  · unfold leftFirst runFirst readBack
    dsimp only
    simp only [runFirst.sl.r_53, runFirst.sl.r_54, runFirst.sl.r_55, runFirst.sl.r_56, runFirst.sl.r, runFirst.sl.v883, View.readCov, View.readAt_eq_ld, M.h1.read_unread, M.h2.read_unread, M.h7.read_unread]
    exact Rep2.storeAll _ _ [] _ (out_gx B hp hwi)
  · unfold leftFirst runFirst readBack
    dsimp only
    simp only [runFirst.sl.H17_1, runFirst.sl.v883, runFirst.sl.v896, View.readCov, View.readAt_eq_ld, M.h2.read_unread]
    exact out_sm B hT hp hwi (zero_all (Rep2.splat lit_zero) sm_end) (old_row (zero_all (Rep2.splat lit_zero) sm_end))

end Cert.MixValue

end
-- ==== Proof.MixLater.lean ====
/- What the mixer's backward body leaves at a point after the first, as tables of reals. -/
module

public import proofs.«01_k».proof.Proof.MixTile
public import proofs.«01_k».proof.Proof.MixFrame

@[expose] public section

set_option maxRecDepth 16384

noncomputable section

namespace Cert.MixValue

open Idealize.ShloMosaic Idealize.ShloMosaic.ValueIdx Idealize.ShloMosaic.Tactic Cert.Reals Cert.MixIdeal Cert.MixIdeal.Gen Cert.MixRun
open scoped BigOperators

variable {S : Tabs} {T : ℕ} (c : Dev nD) (i : grid0.Coords) (M : Mems) {X : Blocks Ideal} {P : Left Ideal}
  (fi : HbBuf (F := Ideal) c winH) (fo : HbBuf (F := Ideal) c woutH) (h : ¬First i)

set_option maxHeartbeats 2000000 in
theorem later_s5 (B : Tile S T X) (hT : T < 8) (A : Held S (T + 1) P)
    (hu : Rep2 (M.a22.view.read (Elt Ideal) (M.a22.view.writes (Elt Ideal) M.a22.view.junk (runLater.sl.H22_2 (F := Ideal) c i M X)))
      fun q j => S.up (512 * T + q) j)
    (hus : On3 (fun k => k < 7) (M.a23.view.read (Elt Ideal) (M.a23.view.writes (Elt Ideal) M.a23.view.junk (runLater.sl.H23_7 (F := Ideal) c i M X)))
      fun k r j => S.up (512 * T + (k + 1 + r)) j) :
    Rep2 (leftLater c i M X fi fo h P).s5 (S.s5 (512 * T)) := by
  have hwo := A.wout.loadAll16 inb_S1024x1024_S1024x1024_0_0
  revert hu hus
  unfold leftLater runLater readOver
  dsimp only
  sl_unfold_words
  simp only [View.readCov, View.readAt_eq_ld, M.h1.read_unread, M.h2.read_unread, M.h3.read_unread, M.h4.read_unread, M.h5.read_unread, M.h6.read_unread, M.h7.read_unread,
    M.h9.read_unread, M.h10.read_unread, M.h11.read_unread, M.h12.read_unread, M.h13.read_unread, M.h17.read_unread, M.h18.read_unread, M.h19.read_unread, M.h20.read_unread, M.h21.read_unread]
  simp only [k0_pay12, k0_pay13, k0_pay14, k0_pay15, k0_pay24, k0_pay25, k0_pay26, k0_pay27, k0_pay34, k0_pay35, k0_pay36, k0_pay37, k0_pay44, k0_pay45, k0_pay46, k0_pay47,
    k0_pay106, k0_pay107, k0_pay108, k0_pay115, k0_pay116, k0_pay119, k0_pay120, k0_pay121, k0_pay128, k0_pay129]
  intro hu hus
  refine s5_end hT ?_
  iterate 31 refine s5_tap hT (by decide) ?_ (old_row A.s5) (B.norm_dc hwo _ _ _ _) ?_
  · refine s5_put hT ?_ (old_row A.s5) (cb_term (B.norm_dc hwo _ _ _ _)) (fun r j hj => by unfold done; omega)
    refine s5_put hT ?_ (old_row A.s5) (lb_term (B.norm_dl hwo _ _ _ _)) (fun r j hj => by unfold done; omega)
    refine s5_put hT ?_ (old_row A.s5) (lg_term (B.norm_dl hwo _ _ _ _) (B.norm_z _)) (fun r j hj => by unfold done; omega)
    refine s5_scale (g := 3) (l := 384) hT B hwo rfl (by decide) ?_ (old_row A.s5)
    refine s5_scale (g := 2) (l := 256) hT B hwo rfl (by decide) ?_ (old_row A.s5)
    refine s5_scale (g := 1) (l := 128) hT B hwo rfl (by decide) ?_ (old_row A.s5)
    refine s5_scale (g := 0) (l := 0) hT B hwo rfl (by decide) ?_ (old_row A.s5)
    rw [View.writes_nil, M.h18.read_unread]
    exact s5_start A.s5
  iterate 6 (exact plane_at (Y := fun q j => S.up (512 * T + q) j) hus (by decide) fun r j => congrArg (fun q => S.up q j) (by omega))
  · exact view_at hu fun r j => congrArg (fun q => S.up q j) (by omega)
  iterate 7 (exact plane_at (Y := fun q j => S.up (512 * T + q) j) hus (by decide) fun r j => congrArg (fun q => S.up q j) (by omega))
  · exact view_at hu fun r j => congrArg (fun q => S.up q j) (by omega)
  iterate 7 (exact plane_at (Y := fun q j => S.up (512 * T + q) j) hus (by decide) fun r j => congrArg (fun q => S.up q j) (by omega))
  · exact view_at hu fun r j => congrArg (fun q => S.up q j) (by omega)
  iterate 7 (exact plane_at (Y := fun q j => S.up (512 * T + q) j) hus (by decide) fun r j => congrArg (fun q => S.up q j) (by omega))
  · exact view_at hu fun r j => congrArg (fun q => S.up q j) (by omega)

set_option maxHeartbeats 2000000 in
theorem later_dcb (B : Tile S T X) (A : Held S (T + 1) P) :
    On2 (fun q _ => 512 ≤ q) (leftLater c i M X fi fo h P).dcb fun q j => S.dc (512 * T + (q - 512)) j := by
  have hwo := A.wout.loadAll16 inb_S1024x1024_S1024x1024_0_0
  unfold leftLater runLater readOver
  dsimp only
  sl_unfold_words
  simp only [View.readCov, View.readAt_eq_ld, M.h1.read_unread, M.h2.read_unread, M.h3.read_unread, M.h4.read_unread, M.h5.read_unread, M.h6.read_unread, M.h7.read_unread,
    M.h9.read_unread, M.h10.read_unread, M.h11.read_unread, M.h12.read_unread, M.h13.read_unread, M.h17.read_unread, M.h18.read_unread, M.h19.read_unread, M.h20.read_unread, M.h21.read_unread]
  exact dc_carry (B.norm_dc hwo _ _ _ _) _

set_option maxHeartbeats 2000000 in
theorem later_eb (B : Tile S T X) (hT : T < 8) (hv : Scalar.subi 7#32 (BitVec.ofNat 32 (i 0).val) = BitVec.ofNat 32 T) (A : Held S (T + 1) P) :
    On2 (fun q _ => 512 ≤ q) (leftLater c i M X fi fo h P).eb fun q j => S.eAll (512 * T + (q - 512)) j := by
  have hwo := A.wout.loadAll16 inb_S1024x1024_S1024x1024_0_0
  unfold leftLater runLater readOver
  dsimp only
  sl_unfold_words
  simp only [View.readCov, View.readAt_eq_ld, M.h1.read_unread, M.h2.read_unread, M.h3.read_unread, M.h4.read_unread, M.h5.read_unread, M.h6.read_unread, M.h7.read_unread,
    M.h9.read_unread, M.h10.read_unread, M.h11.read_unread, M.h12.read_unread, M.h13.read_unread, M.h17.read_unread, M.h18.read_unread, M.h19.read_unread, M.h20.read_unread, M.h21.read_unread]
  refine e_carry ?_
  refine fresh_put (g := 3) (l := 384) rfl ?_ (pool_e (B.q (l := 384) hwo rfl _ _ slices_S512x512_o0_384_S512x128 _ _) (B.pwg _ _ _) hv hT rfl (by decide)) _
  refine fresh_put (g := 2) (l := 256) rfl ?_ (pool_e (B.q (l := 256) hwo rfl _ _ slices_S512x512_o0_256_S512x128 _ _) (B.pwg _ _ _) hv hT rfl (by decide)) _
  refine fresh_put (g := 1) (l := 128) rfl ?_ (pool_e (B.q (l := 128) hwo rfl _ _ slices_S512x512_o0_128_S512x128 _ _) (B.pwg _ _ _) hv hT rfl (by decide)) _
  refine fresh_put (g := 0) (l := 0) rfl ?_ (pool_e (B.q (l := 0) hwo rfl _ _ slices_S512x512_o0_0_S512x128 _ _) (B.pwg _ _ _) hv hT rfl (by decide)) _
  exact fresh_start _ _

set_option maxHeartbeats 4000000 in
theorem later (B : Tile S T X) (hT : T < 8) (hv : Scalar.subi 7#32 (BitVec.ofNat 32 (i 0).val) = BitVec.ofNat 32 T) (A : Held S (T + 1) P) :
    Held S T (leftLater c i M X fi fo h P) := by
  have hwo := A.wout.loadAll16 inb_S1024x1024_S1024x1024_0_0
  have hE : On2 (seen 0) P.eb fun q j => S.eAll (512 * T + q) j := e_held A.eb
  have hu : Rep2 (M.a22.view.read (Elt Ideal) (M.a22.view.writes (Elt Ideal) M.a22.view.junk (runLater.sl.H22_2 (F := Ideal) c i M X)))
      fun q j => S.up (512 * T + q) j := by
    sl_unfold_words
    simp only [View.readCov, View.readAt_eq_ld, M.h3.read_unread, M.h4.read_unread]
    exact u_buf (pay70 hv hT (B.ha _) (B.hg _)) (pay73 (B.pa _) (B.pg _))
  have hus : On3 (fun k => k < 7) (M.a23.view.read (Elt Ideal) (M.a23.view.writes (Elt Ideal) M.a23.view.junk (runLater.sl.H23_7 (F := Ideal) c i M X)))
      fun k r j => S.up (512 * T + (k + 1 + r)) j := by
    revert hu
    sl_unfold_words
    simp only [View.readCov, View.readAt_eq_ld, M.h3.read_unread, M.h4.read_unread]
    intro hu
    exact shifts hu _
  have hd : Rep2 (M.a24.view.read (Elt Ideal) (M.a24.view.writes (Elt Ideal) (M.h24.unread P.dcb) (runLater.sl.H24_1 (F := Ideal) c M X P)))
      fun q j => S.dc (512 * T + q) j := by
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    exact dc_buf (by rw [View.writes_nil, M.h24.read_unread]; exact A.dcb) (B.norm_dc hwo _ _ _ _) _
  have hds : On3 (fun k => k < 7) (M.a25.view.read (Elt Ideal) (M.a25.view.writes (Elt Ideal) M.a25.view.junk (runLater.sl.H25_7 (F := Ideal) c M X P)))
      fun k r j => S.dc (512 * T + (k + 1 + r)) j := by
    revert hd
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    intro hd
    exact shifts hd _
  have h1 : On2 (seen 128) (M.a26.view.read (Elt Ideal) (M.a26.view.writes (Elt Ideal) (M.h26.unread P.eb) (runLater.sl.H26_1 (F := Ideal) c i M X P)))
      fun q j => S.eAll (512 * T + q) j := by
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    exact e_put (g := 0) (l := 0) rfl (by rw [View.writes_nil, M.h26.read_unread]; exact hE) (pool_e (B.q (l := 0) hwo rfl _ _ slices_S512x512_o0_0_S512x128 _ _) (B.pwg _ _ _) hv hT rfl (by decide)) _
  have h2 : On2 (seen 256) (M.a26.view.read (Elt Ideal) (M.a26.view.writes (Elt Ideal) (M.h26.unread P.eb) (runLater.sl.H26_2 (F := Ideal) c i M X P)))
      fun q j => S.eAll (512 * T + q) j := by
    revert h1
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    intro h1
    exact e_put (g := 1) (l := 128) rfl h1 (pool_e (B.q (l := 128) hwo rfl _ _ slices_S512x512_o0_128_S512x128 _ _) (B.pwg _ _ _) hv hT rfl (by decide)) _
  have h3 : On2 (seen 384) (M.a26.view.read (Elt Ideal) (M.a26.view.writes (Elt Ideal) (M.h26.unread P.eb) (runLater.sl.H26_3 (F := Ideal) c i M X P)))
      fun q j => S.eAll (512 * T + q) j := by
    revert h2
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    intro h2
    exact e_put (g := 2) (l := 256) rfl h2 (pool_e (B.q (l := 256) hwo rfl _ _ slices_S512x512_o0_256_S512x128 _ _) (B.pwg _ _ _) hv hT rfl (by decide)) _
  have h4 : On2 (seen 512) (M.a26.view.read (Elt Ideal) (M.a26.view.writes (Elt Ideal) (M.h26.unread P.eb) (runLater.sl.H26_4 (F := Ideal) c i M X P)))
      fun q j => S.eAll (512 * T + q) j := by
    revert h3
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    intro h3
    exact e_put (g := 3) (l := 384) rfl h3 (pool_e (B.q (l := 384) hwo rfl _ _ slices_S512x512_o0_384_S512x128 _ _) (B.pwg _ _ _) hv hT rfl (by decide)) _
  have hdu : Rep2 (runLater.sl.r_44 (F := Ideal) c M X P) fun r j => S.du (512 * T + r) j := by
    revert hd hds
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    intro hd hds
    unfold Tabs.du
    iterate 30 refine Rep2.addTap ?_ B.row ?_ shapeCasts_S1x512_S1x512 broadcasts_S1x512_S512x512
    · exact (((B.row.cast shapeCasts_S1x512_S1x512).spreadRow broadcasts_S1x512_S512x512).mul (B.norm_dc hwo _ _ _ _)).congr fun r j _ _ => by
        rw [Finset.sum_range_zero, add_zero]
    iterate 6 (exact plane_at (Y := fun q j => S.dc (512 * T + q) j) hds (by decide) fun r j => congrArg (fun q => S.dc q j) (by omega))
    · exact view_at hd fun r j => congrArg (fun q => S.dc q j) (by omega)
    iterate 7 (exact plane_at (Y := fun q j => S.dc (512 * T + q) j) hds (by decide) fun r j => congrArg (fun q => S.dc q j) (by omega))
    · exact view_at hd fun r j => congrArg (fun q => S.dc q j) (by omega)
    iterate 7 (exact plane_at (Y := fun q j => S.dc (512 * T + q) j) hds (by decide) fun r j => congrArg (fun q => S.dc q j) (by omega))
    · exact view_at hd fun r j => congrArg (fun q => S.dc q j) (by omega)
    iterate 7 (exact plane_at (Y := fun q j => S.dc (512 * T + q) j) hds (by decide) fun r j => congrArg (fun q => S.dc q j) (by omega))
  have hb0 : Rep2 (runLater.sl.r_7 (F := Ideal) c i M X P) fun r j => S.db 0 (512 * T + r) j := by
    revert h1
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    intro h1
    exact pool_db0 h1 (pool_e (B.q (l := 0) hwo rfl _ _ slices_S512x512_o0_0_S512x128 _ _) (B.pwg _ _ _) hv hT rfl (by decide)) (pool_dd (B.q (l := 0) hwo rfl _ _ slices_S512x512_o0_0_S512x128 _ _) (B.pwg _ _ _))
  have hb1 : Rep2 (runLater.sl.r_11 (F := Ideal) c i M X P) fun r j => S.db 1 (512 * T + r) j := by
    revert h2
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    intro h2
    exact pool_db1 h2 (pool_e (B.q (l := 128) hwo rfl _ _ slices_S512x512_o0_128_S512x128 _ _) (B.pwg _ _ _) hv hT rfl (by decide)) (pool_dd (B.q (l := 128) hwo rfl _ _ slices_S512x512_o0_128_S512x128 _ _) (B.pwg _ _ _))
  have hb2 : Rep2 (runLater.sl.r_15 (F := Ideal) c i M X P) fun r j => S.db 2 (512 * T + r) j := by
    revert h3
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    intro h3
    exact pool_db2 h3 (pool_e (B.q (l := 256) hwo rfl _ _ slices_S512x512_o0_256_S512x128 _ _) (B.pwg _ _ _) hv hT rfl (by decide)) (pool_dd (B.q (l := 256) hwo rfl _ _ slices_S512x512_o0_256_S512x128 _ _) (B.pwg _ _ _))
  have hb3 : Rep2 (runLater.sl.r_21 (F := Ideal) c i M X P) fun r j => S.db 3 (512 * T + r) j := by
    revert h4
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    intro h4
    exact pool_db3 h4 (pool_e (B.q (l := 384) hwo rfl _ _ slices_S512x512_o0_384_S512x128 _ _) (B.pwg _ _ _) hv hT rfl (by decide)) (pool_dd (B.q (l := 384) hwo rfl _ _ slices_S512x512_o0_384_S512x128 _ _) (B.pwg _ _ _))
  have hp : Rep2 (k0_pay137 (F := Ideal) (runLater.sl.r_7 c i M X P) (runLater.sl.r_11 c i M X P) (runLater.sl.r_15 c i M X P) (runLater.sl.r_21 c i M X P)
      (runLater.sl.r_31 c M X) (runLater.sl.r_32 c M X) (runLater.sl.r_44 c M X P)) fun r j => S.dp (512 * T + r) j := by
    refine pay137 hb0 hb1 hb2 hb3 ?_ ?_ hdu
    · sl_unfold_words
      simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
      exact pay71 (B.pa _)
    · sl_unfold_words
      simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
      exact pay72 (B.pg _)
  have hsm : Rep2 (leftLater c i M X fi fo h P).sm (S.sm (512 * T)) := by
    revert hp
    unfold leftLater runLater readOver
    dsimp only
    simp only [View.readAt_eq_ld, M.h2.read_unread, M.h17.read_unread, M.h20.read_unread]
    intro hp
    exact out_sm B hT hp (A.win.loadAll16 _) (by rw [View.writes_nil, M.h17.read_unread]; exact A.sm) (old_row A.sm)
  have hs5 := later_s5 c i M fi fo h B hT A hu hus
  have hsp : Rep3 (leftLater c i M X fi fo h P).sp (S.sp (512 * T)) := by
    unfold leftLater runLater readOver
    dsimp only
    sl_unfold_words
    simp only [View.readCov, View.readAt_eq_ld, M.h1.read_unread, M.h2.read_unread, M.h3.read_unread, M.h4.read_unread, M.h5.read_unread, M.h6.read_unread, M.h7.read_unread,
      M.h9.read_unread, M.h10.read_unread, M.h11.read_unread, M.h12.read_unread, M.h13.read_unread, M.h17.read_unread, M.h18.read_unread, M.h19.read_unread, M.h20.read_unread, M.h21.read_unread]
    refine Rep3.updated (p := fun k => (((False ∨ k = 0) ∨ k = 1) ∨ k = 2) ∨ k = 3) (Z := S.sp (512 * (T + 1))) ?_ fun k hk => by omega
    refine storePlane ?_ (sp_plane hT (B.dg rfl _ _) (B.q (l := 384) hwo rfl _ _ slices_S512x512_o0_384_S512x128 _ _) (old_sp A.sp) _ _)
    refine storePlane ?_ (sp_plane hT (B.dg rfl _ _) (B.q (l := 256) hwo rfl _ _ slices_S512x512_o0_256_S512x128 _ _) (old_sp A.sp) _ _)
    refine storePlane ?_ (sp_plane hT (B.dg rfl _ _) (B.q (l := 128) hwo rfl _ _ slices_S512x512_o0_128_S512x128 _ _) (old_sp A.sp) _ _)
    refine storePlane ?_ (sp_plane hT (B.dg rfl _ _) (B.q (l := 0) hwo rfl _ _ slices_S512x512_o0_0_S512x128 _ _) (old_sp A.sp) _ _)
    rw [View.writes_nil, M.h19.read_unread]
    exact A.sp.unchanged
  refine ⟨?_, ?_, hsm, hs5, hsp, A.win, A.wout, ?_, ?_⟩
  · exact Rep2.storeAll16 _ _ [] _ hp
  · unfold leftLater runLater readBack
    dsimp only
    simp only [runLater.sl.r_54, runLater.sl.r_55, runLater.sl.r_56, runLater.sl.r_57, runLater.sl.r, View.readAt_eq_ld, M.h1.read_unread, M.h2.read_unread, M.h7.read_unread, M.h20.read_unread]
    exact Rep2.storeAll _ _ [] _ (out_gx B hp (A.win.loadAll16 _))
  · exact later_dcb c i M fi fo h B A
  · exact later_eb c i M fi fo h B hT hv A

end Cert.MixValue

end
-- ==== Proof.Host.lean ====
/- The host's array operations over real tables: the same lemmas as in `Reals` for the operations of a
   program outside its kernel calls. `Rep0` is an array of rank zero holding a real number. -/
module

public import proofs.«01_k».proof.Proof.Reals
public import Idealize.ShloMosaic.Lib.StackMember

@[expose] public section

noncomputable section

namespace Cert.Reals

open Idealize.ShloMosaic Idealize.ShloMosaic.ValueIdx
open scoped BigOperators

variable {a b : ℕ} {φ ψ : FTy}

/-- The rank-zero array `x` holds the number `r`. -/
def Rep0 (x : (⟨0, ![]⟩ : Shape).Idx → EReal) (r : ℝ) : Prop := ∀ i, x i = (r : EReal)

namespace Rep0
variable {x y : (⟨0, ![]⟩ : Shape).Idx → EReal} {r s : ℝ}

theorem lit {w : BitVec φ.bits} (h : Ideal.ofBits φ w = (r : EReal)) : Rep0 (constant (F := Ideal) ⟨0, ![]⟩ φ w) r := fun _ => h
theorem mul {x y : FVec Ideal ⟨0, ![]⟩ φ} (hx : Rep0 x r) (hy : Rep0 y s) : Rep0 (mulf x y) (r * s) :=
  fun i => by show x i * y i = _; rw [hx, hy]; exact (EReal.coe_mul _ _).symm
/-- A number spread over a vector, -/
theorem fill1 (hx : Rep0 x r) {dims : Fin 0 → Fin 1} (h : (⟨0, ![]⟩ : Shape).BroadcastsInDim ⟨1, ![a]⟩ dims) :
    Rep1 (broadcastInDim ⟨1, ![a]⟩ dims h x) fun _ => r := fun i =>
  (broadcastInDim_apply dims h x i (fun d => d.elim0) fun d => d.elim0).trans (hx _)
/-- and over a matrix. -/
theorem fill2 (hx : Rep0 x r) {dims : Fin 0 → Fin 2} (h : (⟨0, ![]⟩ : Shape).BroadcastsInDim ⟨2, ![a, b]⟩ dims) :
    Rep2 (broadcastInDim ⟨2, ![a, b]⟩ dims h x) fun _ _ => r := fun i =>
  (broadcastInDim_apply dims h x i (fun d => d.elim0) fun d => d.elim0).trans (hx _)
end Rep0

namespace Rep1
variable {X Y : ℕ → ℝ}

theorem congr {x : (⟨1, ![a]⟩ : Shape).Idx → EReal} (hx : Rep1 x X) (h : ∀ j, j < a → X j = Y j) : Rep1 x Y :=
  fun i => (hx i).trans (by rw [h _ (i 0).isLt])

theorem div {x y : FVec Ideal ⟨1, ![a]⟩ φ} (hx : Rep1 x X) (hy : Rep1 y Y) (h : ∀ j, j < a → Y j ≠ 0) :
    Rep1 (Host.divf x y) fun j => X j / Y j :=
  fun i => by show Ideal.div (x i) (y i) = _; rw [hx, hy, div_coe' _ _ (h _ (i 0).isLt)]

/-- A vector as the column of a matrix, the same along each row; -/
theorem alongRows {x : (⟨1, ![a]⟩ : Shape).Idx → EReal} (hx : Rep1 x X) (h : (⟨1, ![a]⟩ : Shape).BroadcastsInDim ⟨2, ![a, b]⟩ ![0]) :
    Rep2 (broadcastInDim ⟨2, ![a, b]⟩ ![0] h x) fun r _ => X r := fun i =>
  (broadcastInDim_apply ![0] h x i (ix1 (i 0)) fun d => match d with
    | ⟨0, _⟩ => by
      show (i 0).val = if a = 1 then 0 else (i 0).val
      split
      · have h0 : (i 0).val < a := (i 0).isLt
        omega
      · rfl).trans (hx _)
/-- as one row. -/
theorem alongCols {x : (⟨1, ![b]⟩ : Shape).Idx → EReal} (hx : Rep1 x X) (h : (⟨1, ![b]⟩ : Shape).BroadcastsInDim ⟨2, ![a, b]⟩ ![1]) :
    Rep2 (broadcastInDim ⟨2, ![a, b]⟩ ![1] h x) fun _ j => X j := fun i =>
  (broadcastInDim_apply ![1] h x i (ix1 (i 1)) fun d => match d with
    | ⟨0, _⟩ => by
      show (i 1).val = if b = 1 then 0 else (i 1).val
      split
      · have h0 : (i 1).val < b := (i 1).isLt
        omega
      · rfl).trans (hx _)
/-- A vector reshaped to one column. -/
theorem asCol {x : (⟨1, ![a]⟩ : Shape).Idx → EReal} (hx : Rep1 x X) (h : (⟨1, ![a]⟩ : Shape).ShapeCasts ⟨2, ![a, 1]⟩) :
    Rep2 (shapeCast ⟨2, ![a, 1]⟩ x h) fun r _ => X r := fun i =>
  (shapeCast_apply x h i (ix1 (i 0)) (by
    rw [Shape.rowMajor_val_one, Shape.rowMajor_val_two]
    have h1 : (i 1).val < 1 := (i 1).isLt
    show (i 0).val = (i 0).val * 1 + (i 1).val
    omega)).trans (hx _)
/-- The sum of a vector. -/
theorem hsum {x : FVec Ideal ⟨1, ![a]⟩ φ} (hx : Rep1 x X) {z : FVec Ideal ⟨0, ![]⟩ φ} (hz : Rep0 z 0)
    (h : (⟨1, ![a]⟩ : Shape).ReducesTo [0] ⟨0, ![]⟩) (h0 : 0 < (⟨0, ![]⟩ : Shape).numel) :
    Rep0 (Host.reduceAdd x z h h0) (∑ k ∈ Finset.range a, X k) := fun i => by
  simp only [Host.reduceAdd, Ideal.hostReduceAdd_def]
  rw [Ideal.hostReduceAdd_total h (fun d => d.elim0), hz, EReal.coe_zero, zero_add]
  refine Eq.trans ?_ ((coe_sum _ _).trans (congrArg Real.toEReal (Finset.sum_range _).symm))
  exact Fintype.sum_equiv ⟨fun i => i 0, ix1, fun i => (eq_ix1 i).symm, fun k => rfl⟩ _ _ fun j => hx j
end Rep1

namespace Rep2
variable {X Y : ℕ → ℕ → ℝ}

theorem hdiv {x y : FVec Ideal ⟨2, ![a, b]⟩ φ} (hx : Rep2 x X) (hy : Rep2 y Y) (h : ∀ r j, r < a → j < b → Y r j ≠ 0) :
    Rep2 (Host.divf x y) fun r j => X r j / Y r j :=
  fun i => by show Ideal.div (x i) (y i) = _; rw [hx, hy, div_coe' _ _ (h _ _ (i 0).isLt (i 1).isLt)]
theorem hrsqrt {x : FVec Ideal ⟨2, ![a, b]⟩ φ} (hx : Rep2 x X) (h : ∀ r j, r < a → j < b → 0 < X r j) :
    Rep2 (Host.rsqrt x) fun r j => (Real.sqrt (X r j))⁻¹ :=
  fun i => by show Ideal.rsqrt (x i) = _; rw [hx, rsqrt_coe' _ (h _ _ (i 0).isLt (i 1).isLt)]
/-- A column spread along the rows; -/
theorem hspreadCol {x : (⟨2, ![a, 1]⟩ : Shape).Idx → EReal} (hx : Rep2 x X) (h : (⟨2, ![a, 1]⟩ : Shape).BroadcastsInDim ⟨2, ![a, b]⟩ ![0, 1]) :
    Rep2 (broadcastInDim ⟨2, ![a, b]⟩ ![0, 1] h x) fun r _ => X r 0 := fun i =>
  (broadcastInDim_apply ![0, 1] h x i (ix2 (i 0) (0 : Fin 1)) fun d => match d with
    | ⟨0, _⟩ => by
      show (i 0).val = if a = 1 then 0 else (i 0).val
      split
      · have h0 : (i 0).val < a := (i 0).isLt
        omega
      · rfl
    | ⟨1, _⟩ => rfl).trans (hx _)
/-- a row spread along the columns. -/
theorem hspreadRow {x : (⟨2, ![1, b]⟩ : Shape).Idx → EReal} (hx : Rep2 x X) (h : (⟨2, ![1, b]⟩ : Shape).BroadcastsInDim ⟨2, ![a, b]⟩ ![0, 1]) :
    Rep2 (broadcastInDim ⟨2, ![a, b]⟩ ![0, 1] h x) fun _ j => X 0 j := fun i =>
  (broadcastInDim_apply ![0, 1] h x i (ix2 (0 : Fin 1) (i 1)) fun d => match d with
    | ⟨0, _⟩ => rfl
    | ⟨1, _⟩ => by
      show (i 1).val = if b = 1 then 0 else (i 1).val
      split
      · have h0 : (i 1).val < b := (i 1).isLt
        omega
      · rfl).trans (hx _)
/-- The sum of each row; -/
theorem hrowSum {x : FVec Ideal ⟨2, ![a, b]⟩ φ} (hx : Rep2 x X) {z : FVec Ideal ⟨0, ![]⟩ φ} (hz : Rep0 z 0)
    (h : (⟨2, ![a, b]⟩ : Shape).ReducesTo [1] ⟨1, ![a]⟩) (h0 : 0 < (⟨0, ![]⟩ : Shape).numel) :
    Rep1 (Host.reduceAdd x z h h0) fun r => ∑ k ∈ Finset.range b, X r k := fun i => by
  simp only [Host.reduceAdd, Ideal.hostReduceAdd_def]
  have hr : (⟨2, ![a, b]⟩ : Shape).Reduces [1] ⟨1, ![a]⟩ := ⟨h.1, Nat.one_pos, h.2⟩
  rw [Ideal.hostReduceAdd_single h hr, hz, EReal.coe_zero, zero_add]
  refine Eq.trans ?_ ((coe_sum _ _).trans (congrArg Real.toEReal (Finset.sum_range _).symm))
  exact Finset.sum_congr rfl fun k _ => hx _
/-- the sum of each column. -/
theorem hcolSum {x : FVec Ideal ⟨2, ![a, b]⟩ φ} (hx : Rep2 x X) {z : FVec Ideal ⟨0, ![]⟩ φ} (hz : Rep0 z 0)
    (h : (⟨2, ![a, b]⟩ : Shape).ReducesTo [0] ⟨1, ![b]⟩) (h0 : 0 < (⟨0, ![]⟩ : Shape).numel) :
    Rep1 (Host.reduceAdd x z h h0) fun j => ∑ k ∈ Finset.range a, X k j := fun i => by
  simp only [Host.reduceAdd, Ideal.hostReduceAdd_def]
  have hr : (⟨2, ![a, b]⟩ : Shape).Reduces [0] ⟨1, ![b]⟩ := ⟨h.1, Nat.one_pos, h.2⟩
  rw [Ideal.hostReduceAdd_single h hr, hz, EReal.coe_zero, zero_add]
  refine Eq.trans ?_ ((coe_sum _ _).trans (congrArg Real.toEReal (Finset.sum_range _).symm))
  exact Finset.sum_congr rfl fun k _ => hx _
/-- The plain product. -/
theorem hdot {K : ℕ} {x : FVec Ideal ⟨2, ![a, K]⟩ φ} {y : FVec Ideal ⟨2, ![K, b]⟩ ψ} (hx : Rep2 x X) (hy : Rep2 y Y)
    (prec : Option ContractPrecision) :
    Rep2 (Host.dotGeneral (DotDims.plain a K b) prec x y) fun r j => ∑ k ∈ Finset.range K, X r k * Y k j := fun i => by
  rw [eq_ix2 i]
  refine (StackMember.dotGeneral_plain_apply prec x y (i 0) (i 1)).trans ?_
  refine Eq.trans ?_ ((coe_sum _ _).trans (congrArg Real.toEReal (Finset.sum_range _).symm))
  exact Finset.sum_congr rfl fun k _ => by rw [hx, hy, ← EReal.coe_mul]; rfl
/-- Pieces stacked along the rows, read in one of them. -/
theorem stackPiece {p n : ℕ} {x : (⟨2, ![p, b]⟩ : Shape).Idx → EReal} (hx : Rep2 x X)
    (xs : List ((s : Shape) × (s.Idx → EReal))) (h : Shape.Concatenates (xs.map (·.1)) ⟨2, ![n, b]⟩ 0)
    (k : ℕ) (hk : k < xs.length) (hxk : xs[k] = ⟨⟨2, ![p, b]⟩, x⟩) (pre : ℕ)
    (hpre : (((xs.take k).map (·.1)).map fun s => if h : s.rank = 2 then s.size ((0 : Fin 2).cast h.symm) else 0).sum = pre)
    (i : (⟨2, ![n, b]⟩ : Shape).Idx) (h1 : pre ≤ (i 0).val) (h2 : (i 0).val - pre < p) :
    concatenate ⟨2, ![n, b]⟩ 0 xs h i = ((X ((i 0).val - pre) (i 1).val : ℝ) : EReal) :=
  (concatenate_apply_piece 0 xs h i k hk _ x hxk rfl pre hpre (ix2 (⟨(i 0).val - pre, h2⟩ : Fin p) (i 1))
    (fun d hd => match d with
      | ⟨0, _⟩ => absurd rfl hd
      | ⟨1, _⟩ => rfl)
    (show pre + ((i 0).val - pre) = (i 0).val by omega)).trans (hx _)
end Rep2

/-- A comparison with infinity that says yes everywhere makes the array one of real numbers. -/
theorem finite2 {a b : ℕ} {x : FVec Ideal ⟨2, ![a, b]⟩ .f32} (h : (⟨0, ![]⟩ : Shape).BroadcastsInDim ⟨2, ![a, b]⟩ (![] : Fin 0 → Fin 2))
    (hx : cmpf .olt (Host.absf x) (broadcastInDim ⟨2, ![a, b]⟩ (![] : Fin 0 → Fin 2) h (constant (F := Ideal) ⟨0, ![]⟩ .f32 0x7F800000#32)) = fun _ => 1#1) :
    Rep2 x (tab2 x) := rep2_tab2 fun i => coe_of_abs_lt ((congrArg _ lit_top.symm).trans (congrFun hx i))
theorem finite1 {a : ℕ} {x : FVec Ideal ⟨1, ![a]⟩ .f32} (h : (⟨0, ![]⟩ : Shape).BroadcastsInDim ⟨1, ![a]⟩ (![] : Fin 0 → Fin 1))
    (hx : cmpf .olt (Host.absf x) (broadcastInDim ⟨1, ![a]⟩ (![] : Fin 0 → Fin 1) h (constant (F := Ideal) ⟨0, ![]⟩ .f32 0x7F800000#32)) = fun _ => 1#1) :
    Rep1 x (tab1 x) := rep1_tab1 fun i => coe_of_abs_lt ((congrArg _ lit_top.symm).trans (congrFun hx i))

end Cert.Reals
-- ==== Proof.HostMore.lean ====
/- More of the host operations over tables of reals: slices and pieces, rank three, reshapes, padding, windowed sums. -/
module

public import proofs.«01_k».proof.Proof.Host
public import proofs.«01_k».proof.Proof.Masked

@[expose] public section

noncomputable section

namespace Cert.Reals

open Idealize.ShloMosaic Idealize.ShloMosaic.ValueIdx
open scoped BigOperators

variable {φ ψ : FTy} {a b c d n p q : ℕ}

/-! ## Matrices -/

namespace Rep2
variable {X Y : ℕ → ℕ → ℝ}

theorem hneg {x : FVec Ideal ⟨2, ![a, b]⟩ φ} (hx : Rep2 x X) : Rep2 (Host.negf x) fun r j => -X r j :=
  fun i => by show -(x i) = _; rw [hx]; exact (EReal.coe_neg _).symm
/-- The logistic function written out. -/
theorem hsigm {x one one' : FVec Ideal ⟨2, ![a, b]⟩ φ} (hx : Rep2 x X) (h1 : Rep2 one fun _ _ => 1) (h2 : Rep2 one' fun _ _ => 1) :
    Rep2 (Host.divf one (addf one' (Host.exp (Host.negf x)))) fun r j => sigm (X r j) := by
  have he : Rep2 (Host.exp (Host.negf x)) fun r j => Real.exp (-X r j) := fun i => by
    show Ideal.exp (-(x i)) = _
    rw [hx, ← EReal.coe_neg]; rfl
  exact (h1.hdiv (h2.add he) fun r j _ _ => by positivity).congr fun r j _ _ => one_div _
/-- A block of rows and columns. -/
theorem hslice {x : (⟨2, ![a, b]⟩ : Shape).Idx → EReal} (hx : Rep2 x X) {o l : ℕ} (h : (⟨2, ![a, b]⟩ : Shape).Slices ![o, l] ⟨2, ![p, q]⟩) :
    Rep2 (extractStridedSlice ⟨2, ![p, q]⟩ ![o, l] x h) fun r j => X (o + r) (l + j) := fun i =>
  (extractStridedSlice_apply ![o, l] x h i (ix2 (⟨o + (i 0).val, by
    have h1 : o + p ≤ a := h.2 0
    have h2 : (i 0).val < p := (i 0).isLt
    omega⟩ : Fin a) (⟨l + (i 1).val, by
    have h1 : l + q ≤ b := h.2 1
    have h2 : (i 1).val < q := (i 1).isLt
    omega⟩ : Fin b)) fun d => match d with
    | ⟨0, _⟩ => rfl
    | ⟨1, _⟩ => rfl).trans (hx _)
/-- Two matrices one above the other. -/
theorem hstack {x : (⟨2, ![p, b]⟩ : Shape).Idx → EReal} {y : (⟨2, ![q, b]⟩ : Shape).Idx → EReal} (hx : Rep2 x X) (hy : Rep2 y Y) (hn : n = p + q)
    (h : Shape.Concatenates [⟨2, ![p, b]⟩, ⟨2, ![q, b]⟩] ⟨2, ![n, b]⟩ 0) :
    Rep2 (concatenate ⟨2, ![n, b]⟩ 0 [⟨⟨2, ![p, b]⟩, x⟩, ⟨⟨2, ![q, b]⟩, y⟩] h) fun r j => if r < p then X r j else Y (r - p) j := fun i => by
  have hi : (i 0).val < n := (i 0).isLt
  by_cases hr : (i 0).val < p
  · refine Eq.trans ?_ (congrArg Real.toEReal (if_pos hr).symm)
    exact hx.stackPiece [⟨⟨2, ![p, b]⟩, x⟩, ⟨⟨2, ![q, b]⟩, y⟩] h 0 (by simp) rfl 0 rfl i (Nat.zero_le _) (by omega)
  · refine Eq.trans ?_ (congrArg Real.toEReal (if_neg hr).symm)
    exact hy.stackPiece [⟨⟨2, ![p, b]⟩, x⟩, ⟨⟨2, ![q, b]⟩, y⟩] h 1 (by simp) rfl p (by simp) i (by omega) (by omega)
/-- A matrix within a larger one, zeros around it. -/
theorem hpad {x : FVec Ideal ⟨2, ![a, b]⟩ φ} (hx : Rep2 x X) {z : FVec Ideal ⟨0, ![]⟩ φ} (hz : Rep0 z 0) {o l o' l' : ℕ}
    (h : (⟨2, ![a, b]⟩ : Shape).Pads ![o, l] ![o', l'] ![0, 0] ⟨2, ![p, q]⟩) (hu : 0 < (⟨0, ![]⟩ : Shape).numel) :
    Rep2 (pad ⟨2, ![p, q]⟩ ![o, l] ![o', l'] ![0, 0] x z h hu) fun r j => if (o ≤ r ∧ r - o < a) ∧ (l ≤ j ∧ j - l < b) then X (r - o) (j - l) else 0 := fun i => by
  by_cases hc : (o ≤ (i 0).val ∧ (i 0).val - o < a) ∧ (l ≤ (i 1).val ∧ (i 1).val - l < b)
  · refine Eq.trans ?_ (congrArg Real.toEReal (if_pos hc).symm)
    exact (pad_apply_of_inside _ _ _ x z h hu i (ix2 (⟨(i 0).val - o, hc.1.2⟩ : Fin a) (⟨(i 1).val - l, hc.2.2⟩ : Fin b)) fun d => match d with
      | ⟨0, _⟩ => (show (i 0).val = o + ((i 0).val - o) * (0 + 1) by omega)
      | ⟨1, _⟩ => (show (i 1).val = l + ((i 1).val - l) * (0 + 1) by omega)).trans (hx _)
  · refine Eq.trans ?_ (congrArg Real.toEReal (if_neg hc).symm)
    by_cases h0 : o ≤ (i 0).val ∧ (i 0).val - o < a
    · refine (pad_apply_of_not_inside _ _ _ x z h hu i 1 fun hh => hc ⟨h0, ?_⟩).trans (hz _)
      have h1 : l ≤ (i 1).val ∧ ((i 1).val - l) % (0 + 1) = 0 ∧ ((i 1).val - l) / (0 + 1) < b := hh
      omega
    · refine (pad_apply_of_not_inside _ _ _ x z h hu i 0 fun hh => h0 ?_).trans (hz _)
      have h1 : o ≤ (i 0).val ∧ ((i 0).val - o) % (0 + 1) = 0 ∧ ((i 0).val - o) / (0 + 1) < a := hh
      omega

theorem foldl_add (g : Fin n → EReal) (v : EReal) (l : List (Fin n)) : l.foldl (fun r k => r + g k) v = v + (l.map g).sum := by
  induction l generalizing v with
  | nil => simp
  | cons k l ih => rw [List.foldl_cons, ih, List.map_cons, List.sum_cons, add_assoc]

/-- The sum over a window of `w` rows of the matrix with zeros around it. -/
theorem hwindow {x : FVec Ideal ⟨2, ![n, b]⟩ φ} (hx : Rep2 x X) {z : FVec Ideal ⟨0, ![]⟩ φ} (hz : Rep0 z 0) {w lo hi : ℕ}
    (h : (⟨2, ![n, b]⟩ : Shape).ReduceWindows ![w, 1] ![1, 1] ![lo, 0] ![hi, 0] ⟨2, ![n, b]⟩) (hu : 0 < (⟨0, ![]⟩ : Shape).numel) :
    Rep2 (Host.reduceWindowAdd ![w, 1] ![1, 1] ![lo, 0] ![hi, 0] x z h hu)
      fun r j => ∑ k ∈ Finset.range w, if lo ≤ r + k ∧ r + k - lo < n then X (r + k - lo) j else 0 := fun i => by
  simp only [Host.reduceWindowAdd, Ideal.hostReduceWindowAdd_def]
  unfold Ideal.hostReduceWindowAdd Host.reduceWindow
  dsimp only
  rw [foldl_add, hz, EReal.coe_zero, zero_add, ← List.ofFn_eq_map, List.sum_ofFn]
  refine Eq.trans ?_ ((coe_sum _ _).trans (congrArg Real.toEReal (Finset.sum_range _).symm))
  let W : Shape := ⟨2, ![w, 1]⟩
  let e : Fin W.numel ≃ Fin w := W.rowMajor.symm.trans ⟨fun i => i 0, fun k => ix2 k (0 : Fin 1), fun i => by
    funext d
    match d with
    | ⟨0, _⟩ => rfl
    | ⟨1, _⟩ => exact (Fin.ext (by have h1 : (i 1).val < 1 := (i 1).isLt; show 0 = (i 1).val; omega)), fun k => rfl⟩
  refine Fintype.sum_equiv e _ _ fun m => ?_
  have e0 : (e m).val = (W.rowMajor.symm m 0).val := rfl
  have e1 : (W.rowMajor.symm m 1).val = 0 := by have h1 : (W.rowMajor.symm m 1).val < 1 := (W.rowMajor.symm m 1).isLt; omega
  by_cases hc : lo ≤ (i 0).val + (e m).val ∧ (i 0).val + (e m).val - lo < n
  · refine Eq.trans ?_ (congrArg Real.toEReal (if_pos hc).symm)
    rw [dif_pos (fun d => match d with
      | ⟨0, _⟩ => (show lo ≤ (i 0).val * 1 + (W.rowMajor.symm m 0).val ∧ (i 0).val * 1 + (W.rowMajor.symm m 0).val - lo < n by rw [← e0, Nat.mul_one]; exact hc)
      | ⟨1, _⟩ => (show 0 ≤ (i 1).val * 1 + (W.rowMajor.symm m 1).val ∧ (i 1).val * 1 + (W.rowMajor.symm m 1).val - 0 < b by
          have hb : (i 1).val < b := (i 1).isLt
          rw [e1]; omega))]
    refine (hx _).trans (congrArg Real.toEReal (congrArg₂ X ?_ ?_))
    · show (i 0).val * 1 + (W.rowMajor.symm m 0).val - lo = (i 0).val + (e m).val - lo
      rw [e0, Nat.mul_one]
    · show (i 1).val * 1 + (W.rowMajor.symm m 1).val - 0 = (i 1).val
      rw [e1]; omega
  · refine Eq.trans ?_ (congrArg Real.toEReal (if_neg hc).symm)
    rw [dif_neg fun hh => hc ?_]
    · rfl
    · have h1 : lo ≤ (i 0).val * 1 + (W.rowMajor.symm m 0).val ∧ (i 0).val * 1 + (W.rowMajor.symm m 0).val - lo < n := hh 0
      rwa [← e0, Nat.mul_one] at h1
/-- Three matrices side by side. -/
theorem hside3 {x0 x1 x2 : (⟨2, ![a, p]⟩ : Shape).Idx → EReal} {X0 X1 X2 : ℕ → ℕ → ℝ} (h0 : Rep2 x0 X0) (h1 : Rep2 x1 X1) (h2 : Rep2 x2 X2) (hn : n = 3 * p)
    (h : Shape.Concatenates [⟨2, ![a, p]⟩, ⟨2, ![a, p]⟩, ⟨2, ![a, p]⟩] ⟨2, ![a, n]⟩ 1) :
    Rep2 (concatenate ⟨2, ![a, n]⟩ 1 [⟨⟨2, ![a, p]⟩, x0⟩, ⟨⟨2, ![a, p]⟩, x1⟩, ⟨⟨2, ![a, p]⟩, x2⟩] h)
      fun r j => if j < p then X0 r j else if j < 2 * p then X1 r (j - p) else X2 r (j - 2 * p) := fun i => by
  have hi : (i 1).val < n := (i 1).isLt
  by_cases c0 : (i 1).val < p
  · refine Eq.trans ?_ (congrArg Real.toEReal (if_pos c0).symm)
    exact h0.sidePiece [⟨⟨2, ![a, p]⟩, x0⟩, ⟨⟨2, ![a, p]⟩, x1⟩, ⟨⟨2, ![a, p]⟩, x2⟩] h 0 (by simp) rfl 0 rfl i (Nat.zero_le _) (by omega)
  refine Eq.trans ?_ (congrArg Real.toEReal (if_neg c0).symm)
  by_cases c1 : (i 1).val < 2 * p
  · refine Eq.trans ?_ (congrArg Real.toEReal (if_pos c1).symm)
    exact h1.sidePiece [⟨⟨2, ![a, p]⟩, x0⟩, ⟨⟨2, ![a, p]⟩, x1⟩, ⟨⟨2, ![a, p]⟩, x2⟩] h 1 (by simp) rfl p (by simp) i (by omega) (by omega)
  refine Eq.trans ?_ (congrArg Real.toEReal (if_neg c1).symm)
  exact h2.sidePiece [⟨⟨2, ![a, p]⟩, x0⟩, ⟨⟨2, ![a, p]⟩, x1⟩, ⟨⟨2, ![a, p]⟩, x2⟩] h 2 (by simp) rfl (2 * p) (by simp; omega) i (by omega) (by omega)
/-- Four matrices side by side. -/
theorem hside4 {x0 x1 x2 x3 : (⟨2, ![a, p]⟩ : Shape).Idx → EReal} {X : ℕ → ℕ → ℕ → ℝ} (h0 : Rep2 x0 (X 0)) (h1 : Rep2 x1 (X 1)) (h2 : Rep2 x2 (X 2))
    (h3 : Rep2 x3 (X 3)) (hp : 0 < p) (hn : n = 4 * p)
    (h : Shape.Concatenates [⟨2, ![a, p]⟩, ⟨2, ![a, p]⟩, ⟨2, ![a, p]⟩, ⟨2, ![a, p]⟩] ⟨2, ![a, n]⟩ 1) :
    Rep2 (concatenate ⟨2, ![a, n]⟩ 1 [⟨⟨2, ![a, p]⟩, x0⟩, ⟨⟨2, ![a, p]⟩, x1⟩, ⟨⟨2, ![a, p]⟩, x2⟩, ⟨⟨2, ![a, p]⟩, x3⟩] h)
      fun r j => X (j / p) r (j % p) := fun i => by
  have hi : (i 1).val < n := (i 1).isLt
  have hd := Nat.div_add_mod (i 1).val p
  have hm := Nat.mod_lt (i 1).val hp
  have hq : (i 1).val / p < 4 := Nat.div_lt_of_lt_mul (by omega)
  have key : ∀ k, (i 1).val / p = k → (X k (i 0).val ((i 1).val - k * p) : EReal) = ((X ((i 1).val / p) (i 0).val ((i 1).val % p) : ℝ) : EReal) := fun k hk => by
    subst hk
    rw [Nat.mul_comm, ← Nat.mod_eq_sub_mul_div]
  have hc : (i 1).val / p = 0 ∨ (i 1).val / p = 1 ∨ (i 1).val / p = 2 ∨ (i 1).val / p = 3 :=
    (show ∀ q, q < 4 → q = 0 ∨ q = 1 ∨ q = 2 ∨ q = 3 by omega) _ hq
  rcases hc with c | c | c | c
  all_goals rw [c] at hd
  · refine Eq.trans ?_ (key 0 c)
    exact (h0.sidePiece [⟨⟨2, ![a, p]⟩, x0⟩, ⟨⟨2, ![a, p]⟩, x1⟩, ⟨⟨2, ![a, p]⟩, x2⟩, ⟨⟨2, ![a, p]⟩, x3⟩] h 0 (by simp) rfl (0 * p) (by simp) i (by omega) (by omega))
  · refine Eq.trans ?_ (key 1 c)
    exact (h1.sidePiece [⟨⟨2, ![a, p]⟩, x0⟩, ⟨⟨2, ![a, p]⟩, x1⟩, ⟨⟨2, ![a, p]⟩, x2⟩, ⟨⟨2, ![a, p]⟩, x3⟩] h 1 (by simp) rfl (1 * p) (by simp) i (by omega) (by omega))
  · refine Eq.trans ?_ (key 2 c)
    exact (h2.sidePiece [⟨⟨2, ![a, p]⟩, x0⟩, ⟨⟨2, ![a, p]⟩, x1⟩, ⟨⟨2, ![a, p]⟩, x2⟩, ⟨⟨2, ![a, p]⟩, x3⟩] h 2 (by simp) rfl (2 * p) (by simp; omega) i (by omega) (by omega))
  · refine Eq.trans ?_ (key 3 c)
    exact (h3.sidePiece [⟨⟨2, ![a, p]⟩, x0⟩, ⟨⟨2, ![a, p]⟩, x1⟩, ⟨⟨2, ![a, p]⟩, x2⟩, ⟨⟨2, ![a, p]⟩, x3⟩] h 3 (by simp) rfl (3 * p) (by simp; omega) i (by omega) (by omega))
end Rep2

/-! ## Rank three -/

/-- The product with the right operand's rows contracted. -/
theorem Rep2.hdotNT {X Y : ℕ → ℕ → ℝ} {K : ℕ} {x : FVec Ideal ⟨2, ![a, K]⟩ φ} {y : FVec Ideal ⟨2, ![b, K]⟩ ψ} (hx : Rep2 x X) (hy : Rep2 y Y)
    (prec : Option ContractPrecision) :
    Rep2 (Host.dotGeneral (DotDims.transposedRhs a K b) prec x y) fun r j => ∑ k ∈ Finset.range K, X r k * Y j k := fun i => by
  rw [eq_ix2 i]
  refine (Ideal.matmul_transposedRhs_apply prec x y (fun _ => 0) (i 0) (i 1)).trans ?_
  rw [zero_add]
  refine Eq.trans ?_ ((coe_sum _ _).trans (congrArg Real.toEReal (Finset.sum_range _).symm))
  exact Finset.sum_congr rfl fun k _ => by rw [hx, hy, ← EReal.coe_mul]; rfl

section
variable {X : ℕ → ℕ → ℝ}

/-- A matrix as every plane. -/
theorem Rep2.hplanes {x : (⟨2, ![a, b]⟩ : Shape).Idx → EReal} (hx : Rep2 x X) (h : (⟨2, ![a, b]⟩ : Shape).BroadcastsInDim ⟨3, ![n, a, b]⟩ ![1, 2]) :
    Rep3 (broadcastInDim ⟨3, ![n, a, b]⟩ ![1, 2] h x) fun _ => X := fun i =>
  (broadcastInDim_apply ![1, 2] h x i (ix2 (i 1) (i 2)) fun d => match d with
    | ⟨0, _⟩ => by
      show (i 1).val = if a = 1 then 0 else (i 1).val
      have h0 : (i 1).val < a := (i 1).isLt
      split <;> omega
    | ⟨1, _⟩ => by
      show (i 2).val = if b = 1 then 0 else (i 2).val
      have h0 : (i 2).val < b := (i 2).isLt
      split <;> omega).trans (hx _)
/-- A row for each plane. -/
theorem Rep2.hmid {x : (⟨2, ![n, b]⟩ : Shape).Idx → EReal} (hx : Rep2 x X) (h : (⟨2, ![n, b]⟩ : Shape).BroadcastsInDim ⟨3, ![n, 1, b]⟩ ![0, 2]) :
    Rep3 (broadcastInDim ⟨3, ![n, 1, b]⟩ ![0, 2] h x) fun k _ j => X k j := fun i =>
  (broadcastInDim_apply ![0, 2] h x i (ix2 (i 0) (i 2)) fun d => match d with
    | ⟨0, _⟩ => by
      show (i 0).val = if n = 1 then 0 else (i 0).val
      have h0 : (i 0).val < n := (i 0).isLt
      split <;> omega
    | ⟨1, _⟩ => by
      show (i 2).val = if b = 1 then 0 else (i 2).val
      have h0 : (i 2).val < b := (i 2).isLt
      split <;> omega).trans (hx _)
/-- The same by a reshape. -/
theorem Rep2.castMid {x : (⟨2, ![n, b]⟩ : Shape).Idx → EReal} (hx : Rep2 x X) (h : (⟨2, ![n, b]⟩ : Shape).ShapeCasts ⟨3, ![n, 1, b]⟩) :
    Rep3 (shapeCast ⟨3, ![n, 1, b]⟩ x h) fun k _ j => X k j := fun i =>
  (shapeCast_apply x h i (ix2 (⟨(i 0).val, (i 0).isLt⟩ : Fin n) (⟨(i 2).val, (i 2).isLt⟩ : Fin b)) (by
    rw [Shape.rowMajor_val_two, Shape.rowMajor_val_three]
    have h0 : (i 1).val < 1 := (i 1).isLt
    have h0' : (i 1).val = 0 := by omega
    show (i 0).val * b + (i 2).val = ((i 0).val * 1 + (i 1).val) * b + (i 2).val
    rw [h0', Nat.mul_one, Nat.add_zero])).trans (hx _)
/-- The rows dealt into planes. -/
theorem Rep2.fold {x : (⟨2, ![c, b]⟩ : Shape).Idx → EReal} (hx : Rep2 x X) (h : (⟨2, ![c, b]⟩ : Shape).ShapeCasts ⟨3, ![n, a, b]⟩) (hc : c = n * a) :
    Rep3 (shapeCast ⟨3, ![n, a, b]⟩ x h) fun k r j => X (k * a + r) j := fun i =>
  (shapeCast_apply x h i (ix2 (⟨(i 0).val * a + (i 1).val, by
      have h0 : (i 0).val < n := (i 0).isLt
      have h1 : (i 1).val < a := (i 1).isLt
      have h2 := Nat.mul_le_mul_right a h0
      have h3 : (i 0).val.succ * a = (i 0).val * a + a := Nat.succ_mul _ _
      omega⟩ : Fin c) (⟨(i 2).val, (i 2).isLt⟩ : Fin b)) (by
    rw [Shape.rowMajor_val_two, Shape.rowMajor_val_three]; rfl)).trans (hx _)
/-- The columns dealt into groups. -/
theorem Rep2.split {x : (⟨2, ![n, c]⟩ : Shape).Idx → EReal} (hx : Rep2 x X) (h : (⟨2, ![n, c]⟩ : Shape).ShapeCasts ⟨3, ![n, a, b]⟩) (hc : c = a * b) :
    Rep3 (shapeCast ⟨3, ![n, a, b]⟩ x h) fun r g j => X r (g * b + j) := by
  subst hc
  exact fun i =>
  (shapeCast_apply x h i (ix2 (⟨(i 0).val, (i 0).isLt⟩ : Fin n) (⟨(i 1).val * b + (i 2).val, by
      have h0 : (i 1).val < a := (i 1).isLt
      have h1 : (i 2).val < b := (i 2).isLt
      have h2 := Nat.mul_le_mul_right b h0
      have h3 : (i 1).val.succ * b = (i 1).val * b + b := Nat.succ_mul _ _
      omega⟩ : Fin (a * b))) (by
    rw [Shape.rowMajor_val_two, Shape.rowMajor_val_three]
    show (i 0).val * (a * b) + ((i 1).val * b + (i 2).val) = ((i 0).val * a + (i 1).val) * b + (i 2).val
    ring)).trans (hx _)
end

namespace Rep3
variable {X Y : ℕ → ℕ → ℕ → ℝ}

theorem mul {x y : FVec Ideal ⟨3, ![n, a, b]⟩ φ} (hx : Rep3 x X) (hy : Rep3 y Y) : Rep3 (mulf x y) fun k r j => X k r j * Y k r j :=
  fun i => by show x i * y i = _; rw [hx, hy]; exact (EReal.coe_mul _ _).symm
/-- One plane repeated. -/
theorem hspread {x : (⟨3, ![1, a, b]⟩ : Shape).Idx → EReal} (hx : Rep3 x X) (h : (⟨3, ![1, a, b]⟩ : Shape).BroadcastsInDim ⟨3, ![n, a, b]⟩ ![0, 1, 2]) :
    Rep3 (broadcastInDim ⟨3, ![n, a, b]⟩ ![0, 1, 2] h x) fun _ => X 0 := fun i =>
  (broadcastInDim_apply ![0, 1, 2] h x i (ix3 (0 : Fin 1) (i 1) (i 2)) fun d => match d with
    | ⟨0, _⟩ => rfl
    | ⟨1, _⟩ => by
      show (i 1).val = if a = 1 then 0 else (i 1).val
      have h0 : (i 1).val < a := (i 1).isLt
      split <;> omega
    | ⟨2, _⟩ => by
      show (i 2).val = if b = 1 then 0 else (i 2).val
      have h0 : (i 2).val < b := (i 2).isLt
      split <;> omega).trans (hx _)
/-- The row of each plane repeated within it. -/
theorem hspreadMid {x : (⟨3, ![n, 1, b]⟩ : Shape).Idx → EReal} (hx : Rep3 x X) (h : (⟨3, ![n, 1, b]⟩ : Shape).BroadcastsInDim ⟨3, ![n, a, b]⟩ ![0, 1, 2]) :
    Rep3 (broadcastInDim ⟨3, ![n, a, b]⟩ ![0, 1, 2] h x) fun k _ j => X k 0 j := fun i =>
  (broadcastInDim_apply ![0, 1, 2] h x i (ix3 (i 0) (0 : Fin 1) (i 2)) fun d => match d with
    | ⟨0, _⟩ => by
      show (i 0).val = if n = 1 then 0 else (i 0).val
      have h0 : (i 0).val < n := (i 0).isLt
      split <;> omega
    | ⟨1, _⟩ => rfl
    | ⟨2, _⟩ => by
      show (i 2).val = if b = 1 then 0 else (i 2).val
      have h0 : (i 2).val < b := (i 2).isLt
      split <;> omega).trans (hx _)
/-- The planes one above the other. -/
theorem unfold {x : (⟨3, ![n, a, b]⟩ : Shape).Idx → EReal} (hx : Rep3 x X) (h : (⟨3, ![n, a, b]⟩ : Shape).ShapeCasts ⟨2, ![c, b]⟩) (hc : c = n * a) (ha : 0 < a) :
    Rep2 (shapeCast ⟨2, ![c, b]⟩ x h) fun q j => X (q / a) (q % a) j := by
  subst hc
  exact fun i =>
  (shapeCast_apply x h i (ix3 (⟨(i 0).val / a, by
      have h0 : (i 0).val < n * a := (i 0).isLt
      exact Nat.div_lt_of_lt_mul (lt_of_lt_of_eq h0 (Nat.mul_comm _ _))⟩ : Fin n) (⟨(i 0).val % a, Nat.mod_lt _ ha⟩ : Fin a) (⟨(i 1).val, (i 1).isLt⟩ : Fin b)) (by
    rw [Shape.rowMajor_val_two, Shape.rowMajor_val_three]
    show ((i 0).val / a * a + (i 0).val % a) * b + (i 1).val = (i 0).val * b + (i 1).val
    rw [Nat.mul_comm ((i 0).val / a), Nat.div_add_mod])).trans (hx _)
/-- The groups of columns side by side. -/
theorem join {x : (⟨3, ![n, a, b]⟩ : Shape).Idx → EReal} (hx : Rep3 x X) (h : (⟨3, ![n, a, b]⟩ : Shape).ShapeCasts ⟨2, ![n, c]⟩) (hc : c = a * b) (hb : 0 < b) :
    Rep2 (shapeCast ⟨2, ![n, c]⟩ x h) fun r j => X r (j / b) (j % b) := by
  subst hc
  exact fun i =>
  (shapeCast_apply x h i (ix3 (⟨(i 0).val, (i 0).isLt⟩ : Fin n) (⟨(i 1).val / b, by
      have h0 : (i 1).val < a * b := (i 1).isLt
      exact Nat.div_lt_of_lt_mul (lt_of_lt_of_eq h0 (Nat.mul_comm _ _))⟩ : Fin a) (⟨(i 1).val % b, Nat.mod_lt _ hb⟩ : Fin b)) (by
    rw [Shape.rowMajor_val_two, Shape.rowMajor_val_three]
    show ((i 0).val * a + (i 1).val / b) * b + (i 1).val % b = (i 0).val * (a * b) + (i 1).val
    have := Nat.div_add_mod (i 1).val b
    calc ((i 0).val * a + (i 1).val / b) * b + (i 1).val % b = (i 0).val * (a * b) + (b * ((i 1).val / b) + (i 1).val % b) := by ring
      _ = _ := by rw [this])).trans (hx _)
/-- The first rows of each plane. -/
theorem hslice {x : (⟨3, ![n, a, b]⟩ : Shape).Idx → EReal} (hx : Rep3 x X) (h : (⟨3, ![n, a, b]⟩ : Shape).Slices ![0, 0, 0] ⟨3, ![n, p, b]⟩) :
    Rep3 (extractStridedSlice ⟨3, ![n, p, b]⟩ ![0, 0, 0] x h) X := fun i =>
  (extractStridedSlice_apply ![0, 0, 0] x h i (ix3 (⟨(i 0).val, (i 0).isLt⟩ : Fin n) (⟨(i 1).val, by
    have h1 : 0 + p ≤ a := h.2 1
    have h2 : (i 1).val < p := (i 1).isLt
    omega⟩ : Fin a) (⟨(i 2).val, (i 2).isLt⟩ : Fin b)) fun d => match d with
    | ⟨0, _⟩ => (Nat.zero_add _).symm
    | ⟨1, _⟩ => (Nat.zero_add _).symm
    | ⟨2, _⟩ => (Nat.zero_add _).symm).trans (hx _)
/-- Zero rows below each plane. -/
theorem hpad {x : FVec Ideal ⟨3, ![n, a, b]⟩ φ} (hx : Rep3 x X) {z : FVec Ideal ⟨0, ![]⟩ φ} (hz : Rep0 z 0) {l : ℕ}
    (h : (⟨3, ![n, a, b]⟩ : Shape).Pads ![0, 0, 0] ![0, l, 0] ![0, 0, 0] ⟨3, ![n, p, b]⟩) (hu : 0 < (⟨0, ![]⟩ : Shape).numel) :
    Rep3 (pad ⟨3, ![n, p, b]⟩ ![0, 0, 0] ![0, l, 0] ![0, 0, 0] x z h hu) fun k r j => if r < a then X k r j else 0 := fun i => by
  by_cases hc : (i 1).val < a
  · refine Eq.trans ?_ (congrArg Real.toEReal (if_pos hc).symm)
    exact (pad_apply_of_inside _ _ _ x z h hu i (ix3 (⟨(i 0).val, (i 0).isLt⟩ : Fin n) (⟨(i 1).val, hc⟩ : Fin a) (⟨(i 2).val, (i 2).isLt⟩ : Fin b)) fun d => match d with
      | ⟨0, _⟩ => (show (i 0).val = 0 + (i 0).val * (0 + 1) by omega)
      | ⟨1, _⟩ => (show (i 1).val = 0 + (i 1).val * (0 + 1) by omega)
      | ⟨2, _⟩ => (show (i 2).val = 0 + (i 2).val * (0 + 1) by omega)).trans (hx _)
  · refine Eq.trans ?_ (congrArg Real.toEReal (if_neg hc).symm)
    refine (pad_apply_of_not_inside _ _ _ x z h hu i 1 fun hh => hc ?_).trans (hz _)
    have h1 : 0 ≤ (i 1).val ∧ ((i 1).val - 0) % (0 + 1) = 0 ∧ ((i 1).val - 0) / (0 + 1) < a := hh
    omega
/-- The sum over the planes; -/
theorem hsumPlanes {x : FVec Ideal ⟨3, ![n, a, b]⟩ φ} (hx : Rep3 x X) {z : FVec Ideal ⟨0, ![]⟩ φ} (hz : Rep0 z 0)
    (h : (⟨3, ![n, a, b]⟩ : Shape).ReducesTo [0] ⟨2, ![a, b]⟩) (h0 : 0 < (⟨0, ![]⟩ : Shape).numel) :
    Rep2 (Host.reduceAdd x z h h0) fun r j => ∑ k ∈ Finset.range n, X k r j := fun i => by
  simp only [Host.reduceAdd, Ideal.hostReduceAdd_def]
  have hr : (⟨3, ![n, a, b]⟩ : Shape).Reduces [0] ⟨2, ![a, b]⟩ := ⟨h.1, Nat.two_pos, h.2⟩
  rw [Ideal.hostReduceAdd_single h hr, hz, EReal.coe_zero, zero_add]
  refine Eq.trans ?_ ((coe_sum _ _).trans (congrArg Real.toEReal (Finset.sum_range _).symm))
  exact Finset.sum_congr rfl fun k _ => hx _
/-- the sum over the rows of each plane. -/
theorem hsumRows {x : FVec Ideal ⟨3, ![n, a, b]⟩ φ} (hx : Rep3 x X) {z : FVec Ideal ⟨0, ![]⟩ φ} (hz : Rep0 z 0)
    (h : (⟨3, ![n, a, b]⟩ : Shape).ReducesTo [1] ⟨2, ![n, b]⟩) (h0 : 0 < (⟨0, ![]⟩ : Shape).numel) :
    Rep2 (Host.reduceAdd x z h h0) fun k j => ∑ r ∈ Finset.range a, X k r j := fun i => by
  simp only [Host.reduceAdd, Ideal.hostReduceAdd_def]
  have hr : (⟨3, ![n, a, b]⟩ : Shape).Reduces [1] ⟨2, ![n, b]⟩ := ⟨h.1, Nat.two_pos, h.2⟩
  rw [Ideal.hostReduceAdd_single h hr, hz, EReal.coe_zero, zero_add]
  refine Eq.trans ?_ ((coe_sum _ _).trans (congrArg Real.toEReal (Finset.sum_range _).symm))
  exact Finset.sum_congr rfl fun k _ => hx _
/-- The axes in another order. -/
theorem turn201 {x : (⟨3, ![a, b, c]⟩ : Shape).Idx → EReal} (hx : Rep3 x X) (h : (⟨3, ![a, b, c]⟩ : Shape).Transposes [2, 0, 1] ⟨3, ![c, a, b]⟩) :
    Rep3 (transpose ⟨3, ![c, a, b]⟩ [2, 0, 1] x h) fun s g j => X g j s := fun i =>
  (transpose_apply [2, 0, 1] x h i (ix3 (i 1) (i 2) (i 0)) fun d => match d with
    | ⟨0, _⟩ => rfl
    | ⟨1, _⟩ => rfl
    | ⟨2, _⟩ => rfl).trans (hx _)
theorem turn120 {x : (⟨3, ![a, b, c]⟩ : Shape).Idx → EReal} (hx : Rep3 x X) (h : (⟨3, ![a, b, c]⟩ : Shape).Transposes [1, 2, 0] ⟨3, ![b, c, a]⟩) :
    Rep3 (transpose ⟨3, ![b, c, a]⟩ [1, 2, 0] x h) fun g j s => X s g j := fun i =>
  (transpose_apply [1, 2, 0] x h i (ix3 (i 2) (i 0) (i 1)) fun d => match d with
    | ⟨0, _⟩ => rfl
    | ⟨1, _⟩ => rfl
    | ⟨2, _⟩ => rfl).trans (hx _)
theorem turn102 {x : (⟨3, ![a, b, c]⟩ : Shape).Idx → EReal} (hx : Rep3 x X) (h : (⟨3, ![a, b, c]⟩ : Shape).Transposes [1, 0, 2] ⟨3, ![b, a, c]⟩) :
    Rep3 (transpose ⟨3, ![b, a, c]⟩ [1, 0, 2] x h) fun s g j => X g s j := fun i =>
  (transpose_apply [1, 0, 2] x h i (ix3 (i 1) (i 0) (i 2)) fun d => match d with
    | ⟨0, _⟩ => rfl
    | ⟨1, _⟩ => rfl
    | ⟨2, _⟩ => rfl).trans (hx _)
theorem turn021 {x : (⟨3, ![a, b, c]⟩ : Shape).Idx → EReal} (hx : Rep3 x X) (h : (⟨3, ![a, b, c]⟩ : Shape).Transposes [0, 2, 1] ⟨3, ![a, c, b]⟩) :
    Rep3 (transpose ⟨3, ![a, c, b]⟩ [0, 2, 1] x h) fun g s j => X g j s := fun i =>
  (transpose_apply [0, 2, 1] x h i (ix3 (i 0) (i 2) (i 1)) fun d => match d with
    | ⟨0, _⟩ => rfl
    | ⟨1, _⟩ => rfl
    | ⟨2, _⟩ => rfl).trans (hx _)
end Rep3

end Cert.Reals

end
-- ==== Proof.MixForward.lean ====
/- The forward lines of the mixer read over real numbers: the tables that the backward pass reads, as the reference
   and the host code before the launch both compute them. -/
module

public import proofs.«01_k».proof.Proof.HostMore
public import proofs.«01_k».proof.Proof.MixSpec
public import Idealize.ShloMosaic.Lib.PlanTiles.Rows
public import Idealize.ShloMosaic.Lib.WordCmp
public import proofs.«01_k».proof.Proof.Gen.MixRefIdeal.Run
public import proofs.«01_k».proof.Proof.Gen.MixRefIdeal.Read

@[expose] public section

set_option maxRecDepth 16384

noncomputable section

namespace Cert.MixValue

open Idealize.ShloMosaic Idealize.ShloMosaic.ValueIdx Cert.Reals Cert.MixRefIdeal.Read Cert.MixRefIdeal
open scoped BigOperators

/-- The arguments as tables; `K` holds the filter's taps and `CB` its offset. -/
structure Args where
  X : ℕ → ℕ → ℝ
  G : ℕ → ℝ
  W : ℕ → ℕ → ℝ
  K : ℕ → ℕ → ℝ
  CB : ℕ → ℝ
  LG : ℕ → ℝ
  LB : ℕ → ℝ
  PW : ℕ → ℕ → ℕ → ℝ
  PS : ℕ → ℝ
  WO : ℕ → ℕ → ℝ
  DX : ℕ → ℕ → ℝ

namespace Args
variable (I : Args)

/-- The reciprocal root of a row's mean square. -/
def inv (r : ℕ) : ℝ := (Real.sqrt ((∑ k ∈ Finset.range 1024, I.X r k * I.X r k) / 1024 + eps))⁻¹
/-- The projected rows. -/
def proj (r j : ℕ) : ℝ := ∑ k ∈ Finset.range 1024, I.X r k * I.inv r * I.G k * I.W k j
/-- The gated rows after 30 rows of zeros. -/
def late (q j : ℕ) : ℝ := if q < 30 then 0 else I.proj (q - 30) j * sigm (I.proj (q - 30) (512 + j))
/-- The filtered rows. -/
def conv (r j : ℕ) : ℝ := (∑ k ∈ Finset.range 31, I.late (k + r) j * I.K k j) + I.CB j
/-- The sums of the pools' input up to each row, after 16 rows of zeros. -/
def cum (q j : ℕ) : ℝ :=
  if q < 16 then 0 else ∑ k ∈ Finset.range 4096, if 4095 ≤ (q - 16) + k ∧ (q - 16) + k - 4095 < 4096 then I.proj ((q - 16) + k - 4095) (1024 + j) else 0
/-- The differences: each row's windowed mean less the row. -/
def diff (r j : ℕ) : ℝ :=
  (I.cum (16 + r) j - I.cum (16 - Tabs.width (j / 128) + r) j) / Tabs.cnt (j / 128) r - I.proj r (1024 + j)
/-- The tables of the backward pass. -/
def tabs : Tabs where
  X := I.X
  DX := I.DX
  P := I.proj
  C := I.conv
  D := I.diff
  Win := I.W
  WO := I.WO
  WA := I.K
  PW := I.PW
  G := I.G
  LG := I.LG
  LB := I.LB
  PS := I.PS
end Args

variable {x0 x10 : FVec Ideal ⟨2, ![4096, 1024]⟩ .f32} {x1 : FVec Ideal ⟨2, ![1, 1024]⟩ .f32} {x2 : FVec Ideal ⟨3, ![1, 1024, 1536]⟩ .f32}
  {x3 : FVec Ideal ⟨3, ![1, 31, 512]⟩ .f32} {x4 x5 x6 x8 : FVec Ideal ⟨2, ![1, 512]⟩ .f32} {x7 : FVec Ideal ⟨4, ![1, 4, 128, 128]⟩ .f32}
  {x9 : FVec Ideal ⟨3, ![1, 1024, 1024]⟩ .f32} {I : Args}

/-- The eleven arguments hold the tables. -/
structure Holds (I : Args) (x0 : FVec Ideal ⟨2, ![4096, 1024]⟩ .f32) (x1 : FVec Ideal ⟨2, ![1, 1024]⟩ .f32) (x2 : FVec Ideal ⟨3, ![1, 1024, 1536]⟩ .f32)
    (x3 : FVec Ideal ⟨3, ![1, 31, 512]⟩ .f32) (x4 x5 x6 : FVec Ideal ⟨2, ![1, 512]⟩ .f32) (x7 : FVec Ideal ⟨4, ![1, 4, 128, 128]⟩ .f32)
    (x8 : FVec Ideal ⟨2, ![1, 512]⟩ .f32) (x9 : FVec Ideal ⟨3, ![1, 1024, 1024]⟩ .f32) (x10 : FVec Ideal ⟨2, ![4096, 1024]⟩ .f32) : Prop where
  x : Rep2 x0 I.X
  g : Rep2 x1 fun _ j => I.G j
  win : Rep2 (a := 1024) (b := 1536) (val_main_v15 (F := Ideal) x2) I.W
  taps : Rep2 (a := 31) (b := 512) (val_main_v17 (F := Ideal) x3) I.K
  cb : Rep2 x4 fun _ j => I.CB j
  lg : Rep2 x5 fun _ j => I.LG j
  lb : Rep2 x6 fun _ j => I.LB j
  pw : Rep3 (n := 4) (a := 128) (c := 128) (val_main_v18 (F := Ideal) x7) I.PW
  ps : Rep2 x8 fun _ j => I.PS j
  wo : Rep2 (a := 1024) (b := 1024) (val_main_v19 (F := Ideal) x9) I.WO
  dx : Rep2 x10 I.DX
  past : ∀ r j, 4096 ≤ r → I.DX r j = 0
  above : ∀ j, I.K 31 j = 0

variable (H : Holds I x0 x1 x2 x3 x4 x5 x6 x7 x8 x9 x10)
include H

theorem ref6 : Rep2 (a := 4096) (b := 1) (val_main_v6 (F := Ideal) x0) fun r _ => I.tabs.ms r :=
  (((((H.x.mul H.x).hrowSum (.lit lit_zero) _ _).alongRows _).hdiv ((Rep0.lit lit_1024).fill2 _)
    fun _ _ _ _ => by norm_num).add ((Rep0.lit lit_eps).fill2 _))
theorem ref7 : Rep2 (a := 4096) (b := 1) (val_main_v7 (F := Ideal) x0) fun r _ => I.tabs.r1 r :=
  (ref6 H).hrsqrt fun r _ _ _ => I.tabs.ms_pos r
theorem ref10 : Rep2 (a := 4096) (b := 1) (val_main_v10 (F := Ideal) x0) fun r _ => -(1 / 2) * (I.tabs.r1 r / I.tabs.ms r) :=
  ((Rep0.lit lit_neg_half).fill2 _).mul ((ref7 H).hdiv (ref6 H) fun r _ _ _ => (I.tabs.ms_pos r).ne')
theorem ref12 : Rep2 (a := 4096) (b := 1024) (val_main_v12 (F := Ideal) x0) I.tabs.n1 := H.x.mul ((ref7 H).hspreadCol _)
theorem ref16 : Rep2 (a := 4096) (b := 1536) (val_main_v16 (F := Ideal) x0 x1 x2) I.proj := ((ref12 H).mul (H.g.hspreadRow _)).hdot H.win _
theorem ref20 : Rep2 (a := 4096) (b := 512) (val_main_v20 (F := Ideal) x0 x1 x2) I.proj :=
  ((ref16 H).hslice _).congr fun r j _ _ => by rw [Nat.zero_add, Nat.zero_add]
theorem ref28 : Rep2 (a := 4096) (b := 512) (val_main_v28 (F := Ideal) x0 x1 x2) I.tabs.sg :=
  (((ref16 H).hslice _).hsigm ((Rep0.lit lit_one).fill2 _) ((Rep0.lit lit_one).fill2 _)).congr fun r j _ _ => by rw [Nat.zero_add]; rfl
theorem ref31 : Rep2 (a := 4096) (b := 512) (val_main_v31 (F := Ideal) x0 x1 x2) fun r j => I.tabs.sg r j * (1 - I.tabs.sg r j) :=
  (ref28 H).mul (((Rep0.lit lit_one).fill2 _).sub (ref28 H))
/-- Every tap's plane of the gated rows, moved down as far as the tap asks. -/
theorem ref43 : Rep3 (n := 31) (a := 4096) (c := 512) (val_main_v43 (F := Ideal) x0 x1 x2) fun k r j => I.late (k + r) j := by
  have h32 : Rep2 (a := 4096) (b := 512) (val_main_v32 (F := Ideal) x0 x1 x2) I.tabs.u := (ref20 H).mul (ref28 H)
  have h34 : Rep2 (a := 4126) (b := 512) (val_main_v34 (F := Ideal) x0 x1 x2) I.late := ((Rep0.lit lit_zero).fill2 _).hstack h32 rfl _
  have h38 : Rep2 (a := 127906) (b := 512) (val_main_v38 (F := Ideal) x0 x1 x2) fun q j => I.late (q % 4126) j :=
    Rep3.unfold (n := 31) (a := 4126) ((h34.hplanes _).hspread _) _ rfl (by norm_num)
  have h40 : Rep2 (a := 127937) (b := 512) (val_main_v40 (F := Ideal) x0 x1 x2) fun q j => if q < 127906 then I.late (q % 4126) j else 0 :=
    Rep2.hstack (n := 127937) (q := 31) h38 ((Rep0.lit lit_zero).fill2 _) (by norm_num) _
  refine (((h40.fold _ (by norm_num)).hslice _)).congr fun k r j hk hr _ => ?_
  rw [if_pos (by omega), show k * 4127 + r = (k + r) + 4126 * k by omega, Nat.add_mul_mod_self_left, Nat.mod_eq_of_lt (by omega)]
theorem ref45 : Rep3 (n := 31) (a := 4096) (c := 512) (val_main_v45 (F := Ideal) x3) fun k _ j => I.K k j := (H.taps.hmid _).hspreadMid _
theorem ref49 : Rep2 (a := 4096) (b := 512) (val_main_v49 (F := Ideal) x0 x1 x2 x3 x4) I.conv :=
  (((ref43 H).mul (ref45 H)).hsumPlanes (.lit lit_zero) _ _).add (H.cb.hspreadRow _)
theorem ref55 : Rep2 (a := 4096) (b := 512) (val_main_v55 (F := Ideal) x0 x1 x2 x3 x4) I.tabs.xc :=
  (ref49 H).sub (((((ref49 H).hrowSum (.lit lit_zero) _ _).alongRows _).hdiv ((Rep0.lit lit_512).fill2 _) fun _ _ _ _ => by norm_num).hspreadCol _)
theorem ref62 : Rep2 (a := 4096) (b := 1) (val_main_v62 (F := Ideal) x0 x1 x2 x3 x4) fun r _ => I.tabs.va r :=
  ((((((ref55 H).mul (ref55 H)).hrowSum (.lit lit_zero) _ _).alongRows _).hdiv ((Rep0.lit lit_512).fill2 _) fun _ _ _ _ => by norm_num).add
    ((Rep0.lit lit_eps).fill2 _))
theorem ref63 : Rep2 (a := 4096) (b := 1) (val_main_v63 (F := Ideal) x0 x1 x2 x3 x4) fun r _ => I.tabs.rs r := (ref62 H).hrsqrt fun r _ _ _ => I.tabs.va_pos r
theorem ref66 : Rep2 (a := 4096) (b := 1) (val_main_v66 (F := Ideal) x0 x1 x2 x3 x4) fun r _ => -(1 / 2) * (I.tabs.rs r / I.tabs.va r) :=
  ((Rep0.lit lit_neg_half).fill2 _).mul ((ref63 H).hdiv (ref62 H) fun r _ _ _ => (I.tabs.va_pos r).ne')
theorem ref68 : Rep2 (a := 4096) (b := 512) (val_main_v68 (F := Ideal) x0 x1 x2 x3 x4) I.tabs.z := (ref55 H).mul ((ref63 H).hspreadCol _)
theorem ref72 : Rep2 (a := 4096) (b := 512) (val_main_v72 (F := Ideal) x0 x1 x2 x3 x4 x5 x6) I.tabs.ln := ((ref68 H).mul (H.lg.hspreadRow _)).add (H.lb.hspreadRow _)
theorem ref73_2 : Rep2 (a := 4096) (b := 512) (val_main_v73_2 (F := Ideal) x0 x1 x2 x3 x4 x5 x6) fun r j => sigm (I.tabs.ln r j) :=
  (ref72 H).hsigm ((Rep0.lit lit_one).fill2 _) ((Rep0.lit lit_one).fill2 _)
theorem ref73_1 : Rep2 (a := 4096) (b := 512) (val_main_v73_1 (F := Ideal) x0 x1 x2 x3 x4 x5 x6) fun r j => sigm (I.tabs.ln r j) * (1 - sigm (I.tabs.ln r j)) :=
  (ref73_2 H).mul (((Rep0.lit lit_one).fill2 _).sub (ref73_2 H))

omit H in
/-- The number of rows in the window of each row and pool. -/
theorem ref95 : Rep2 (a := 4096) (b := 512) (val_main_v95 (F := Ideal)) fun r j => Tabs.cnt (j / 128) r := fun i => by
  have hw : ∀ j : Fin 512, val_main_v87 (F := Ideal) (ix2 (0 : Fin 1) j) = BitVec.ofNat 32 (2 ^ (j.val / 128 + 1)) := by decide +kernel
  have h0 : (i 0).val < 4096 := (i 0).isLt
  have h1 : (i 1).val < 512 := (i 1).isLt
  have hp : 2 ^ ((i 1).val / 128 + 1) < 2 ^ 31 := Nat.pow_lt_pow_right (by norm_num) (by omega)
  have e : val_main_v94 (F := Ideal) i = BitVec.ofNat 32 (min ((i 0).val + 1) (Tabs.width ((i 1).val / 128))) := by
    show IntOp.minsi (val_main_v92 (F := Ideal) i) (val_main_v93 (F := Ideal) i) = _
    have e1 : val_main_v92 (F := Ideal) i = BitVec.ofNat 32 ((i 0).val + 1) := by
      show BitVec.ofNat 32 1 + BitVec.ofNat 32 (i 0).val = _
      rw [← BitVec.ofNat_add, Nat.add_comm]
    have e2 : val_main_v93 (F := Ideal) i = BitVec.ofNat 32 (2 ^ ((i 1).val / 128 + 1)) :=
      (broadcastInDim_apply ![0, 1] _ _ i (ix2 (0 : Fin 1) (i 1)) fun d => match d with
        | ⟨0, _⟩ => rfl
        | ⟨1, _⟩ => rfl).trans (hw (i 1))
    rw [e1, e2, PlanTiles.minsi_word (by omega) hp, min_comm]
    rfl
  show (((val_main_v94 (F := Ideal) i).toInt : ℝ) : EReal) = _
  have hm : min ((i 0).val + 1) (Tabs.width ((i 1).val / 128)) < 2 ^ (32 - 1) := lt_of_le_of_lt (min_le_left _ _) (by omega)
  rw [e, WordCmp.toInt_ofNat_of_lt hm]
  show ((((_ : ℕ) : ℤ) : ℝ) : EReal) = _
  rw [Int.cast_natCast]
  rfl

theorem ref22 : Rep2 (a := 4096) (b := 512) (val_main_v22 (F := Ideal) x0 x1 x2) fun r j => I.proj r (1024 + j) :=
  ((ref16 H).hslice _).congr fun r j _ _ => by rw [Nat.zero_add]
theorem ref99 : Rep2 (a := 4096) (b := 512) (val_main_v99 (F := Ideal) x0 x1 x2) I.diff := by
  have h76 : Rep2 (a := 4112) (b := 512) (val_main_v76 (F := Ideal) x0 x1 x2) I.cum :=
    ((Rep0.lit lit_zero).fill2 _).hstack ((ref22 H).hwindow (fun _ => lit_zero) _ _) rfl _
  have h82 : Rep2 (a := 4096) (b := 512) (val_main_v82 (F := Ideal) x0 x1 x2) fun r j => I.cum (16 - Tabs.width (j / 128) + r) (128 * (j / 128) + j % 128) :=
    Rep2.hside4 (X := fun g r j => I.cum (16 - Tabs.width g + r) (128 * g + j)) (h76.hslice _) (h76.hslice _) (h76.hslice _) (h76.hslice _)
      (by norm_num) (by norm_num) _
  have h96 : Rep2 (a := 4096) (b := 512) (val_main_v96 (F := Ideal) x0 x1 x2) fun r j => I.cum (16 + r) j :=
    (h76.hslice _).congr fun r j _ _ => by rw [Nat.zero_add]
  exact (((h96.sub h82).hdiv ref95 fun r j _ _ => Tabs.cnt_ne _ _).sub (ref22 H)).congr fun r j _ _ => by rw [Nat.div_add_mod]; rfl

end Cert.MixValue

end
-- ==== Proof.MixValue.lean ====
module

public import proofs.«01_k».proof.Proof.MixFirst
public import proofs.«01_k».proof.Proof.MixLater
public import proofs.«01_k».proof.Proof.MixFrame
public import proofs.«01_k».proof.Proof.MixForward
public import Idealize.ShloMosaic.Lib.Pipeline.ValueKit

@[expose] public section

/-! # What the mixer's backward call leaves, over the reals

The arrays the host prepares for the call, the blocks of a grid point, the induction over the grid points, and
the five results after the run. -/

set_option maxRecDepth 16384

noncomputable section

namespace Cert.MixValue

open Cert.MixIdeal Cert.MixIdeal.Gen Cert.MixRun Cert.Reals
open Idealize.ShloMosaic Idealize.ShloMosaic.TcCoe Idealize.ShloMosaic.Tactic
open Idealize.ShloMosaic.Pipeline (arrRef)

variable (m : (ℓ : Loc nD τ sig) → Buf (Elt Ideal) ℓ) (c : Dev nD)

/-- The memory's arguments are the tables `I`. -/
abbrev Loads (I : Args) : Prop :=
  Holds I (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

variable {m c} {I : Args} (H : Loads m c I)

/-! ## The grid points -/

theorem index0 : ∀ t : Fin cfg0.N, win0_0.index t = ![7 - t.val, 0] := by decide +kernel
theorem index1 : ∀ t : Fin cfg0.N, win0_1.index t = ![7 - t.val, 0] := by decide +kernel
theorem index2 : ∀ t : Fin cfg0.N, win0_2.index t = ![7 - t.val, 0] := by decide +kernel
theorem index3 : ∀ t : Fin cfg0.N, win0_3.index t = ![16 * (7 - t.val) - 1, 0] := by decide +kernel
theorem index4 : ∀ t : Fin cfg0.N, win0_4.index t = ![7 - t.val, 0] := by decide +kernel
theorem index5 : ∀ t : Fin cfg0.N, win0_5.index t = ![7 - t.val, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![0, 0] := by decide +kernel
theorem index10 : ∀ t : Fin cfg0.N, win0_10.index t = ![0, 0, 0] := by decide +kernel
theorem index11 : ∀ t : Fin cfg0.N, win0_11.index t = ![0, 0] := by decide +kernel
theorem index12 : ∀ t : Fin cfg0.N, win0_12.index t = ![7 - t.val, 0] := by decide +kernel
theorem index13 : ∀ t : Fin cfg0.N, win0_13.index t = ![7 - t.val, 0] := by decide +kernel

theorem tile_word : ∀ t : Fin cfg0.N, Scalar.subi 7#32 (BitVec.ofNat 32 (grid0.coords t 0).val) = BitVec.ofNat 32 (7 - t.val) := by decide +kernel

/-! ## The arrays the host prepares -/
def arr3 (n a b : ℕ) (X : ℕ → ℕ → ℕ → ℝ) : (⟨3, ![n, a, b]⟩ : Shape).Idx → EReal := fun i => ((X (i 0).val (i 1).val (i 2).val : ℝ) : EReal)

include H

theorem host67 : Rep2 (V m c main_v67) I.DX := by
  dsimp only [V, hostOps0, hostOps0_1, hostOps0_2, hostOps0_3, hostOps0_4, List.flatten_cons, List.flatten_nil, List.append_nil, List.cons_append, List.nil_append]
  after_results
  exact Rep2.trunc (φ := .f32) H.dx _
theorem host68 : Rep2 (V m c main_v68) I.proj := by
  dsimp only [V, hostOps0, hostOps0_1, hostOps0_2, hostOps0_3, hostOps0_4, List.flatten_cons, List.flatten_nil, List.append_nil, List.cons_append, List.nil_append]
  after_results
  exact Rep2.trunc (φ := .f32) (ref16 H) _
theorem host69 : Rep2 (V m c main_v69) I.conv := by
  dsimp only [V, hostOps0, hostOps0_1, hostOps0_2, hostOps0_3, hostOps0_4, List.flatten_cons, List.flatten_nil, List.append_nil, List.cons_append, List.nil_append]
  after_results
  exact Rep2.trunc (φ := .f32) (ref49 H) _
theorem host70 : Rep2 (V m c main_v70) I.diff := by
  dsimp only [V, hostOps0, hostOps0_1, hostOps0_2, hostOps0_3, hostOps0_4, List.flatten_cons, List.flatten_nil, List.append_nil, List.cons_append, List.nil_append]
  after_results
  exact Rep2.trunc (φ := .f32) (ref99 H) _
theorem host72 : Rep2 (V m c main_v72) I.W := by
  dsimp only [V, hostOps0, hostOps0_1, hostOps0_2, hostOps0_3, hostOps0_4, List.flatten_cons, List.flatten_nil, List.append_nil, List.cons_append, List.nil_append]
  after_results
  exact Rep2.trunc (φ := .f32) H.win _
theorem host73 : Rep3 (V m c main_v73) I.PW := by
  dsimp only [V, hostOps0, hostOps0_1, hostOps0_2, hostOps0_3, hostOps0_4, List.flatten_cons, List.flatten_nil, List.append_nil, List.cons_append, List.nil_append]
  after_results
  exact H.pw
theorem host75 : Rep2 (V m c main_v75) I.WO := by
  dsimp only [V, hostOps0, hostOps0_1, hostOps0_2, hostOps0_3, hostOps0_4, List.flatten_cons, List.flatten_nil, List.append_nil, List.cons_append, List.nil_append]
  after_results
  exact Rep2.trunc (φ := .f32) H.wo _
theorem host66 : Rep2 (V m c main_v66) I.K := by
  dsimp only [V, hostOps0, hostOps0_1, hostOps0_2, hostOps0_3, hostOps0_4, List.flatten_cons, List.flatten_nil, List.append_nil, List.cons_append, List.nil_append]
  after_results
  refine (Rep2.hpad (a := 31) (b := 512) (p := 32) (q := 512) (φ := .f32) H.taps (z := sitofp .f32 (constantI S_ 32 0#32)) (fun i => ?_) pads_S31x512_S32x512_010_000 h_S_).congr fun r j hr hj => ?_
  · rw [ValueIdx.sitofp_apply]
    exact (Ideal.scalar_sitofp_def (φ := .f32) _).trans (by rw [show (constantI S_ 32 (0#32) i).toInt = 0 from rfl, Int.cast_zero])
  · split
    · rfl
    · rename_i h
      rw [show r = 31 by omega, H.above]

/-! ## The blocks of a grid point -/

theorem block0 (t : Fin cfg0.N) : Rep2 (block m c 0 t) (fun r j => I.DX (512 * (7 - t.val) + r) j) := fun i => by
  unfold block Pipeline.Window.fill
  rw [dif_pos (block_moved _ _ _)]
  blk_simp [iblk]
  rw [host67 H]
  blk_simp [index0]
  rw [Nat.mul_comm]
theorem block1 (t : Fin cfg0.N) : Rep2 (block m c 1 t) (fun r j => I.X (512 * (7 - t.val) + r) j) := fun i => by
  unfold block Pipeline.Window.fill
  rw [dif_pos (block_moved _ _ _)]
  blk_simp [iblk]
  rw [V_main_arg0, H.x]
  blk_simp [index1]
  rw [Nat.mul_comm]
theorem block2 (t : Fin cfg0.N) : Rep2 (block m c 2 t) (fun r j => I.proj (512 * (7 - t.val) + r) j) := fun i => by
  unfold block Pipeline.Window.fill
  rw [dif_pos (block_moved _ _ _)]
  blk_simp [iblk]
  rw [host68 H]
  blk_simp [index2]
  rw [Nat.mul_comm]
theorem block3 (t : Fin cfg0.N) : Rep2 (block m c 3 t) (fun r j => I.proj (512 * (7 - t.val) - 32 + r) j) := fun i => by
  unfold block Pipeline.Window.fill
  rw [dif_pos (block_moved _ _ _)]
  blk_simp [iblk]
  rw [host68 H]
  blk_simp [index3]
  exact congrArg (fun r => (I.proj r _ : EReal)) (by dsimp only; omega)
theorem block4 (t : Fin cfg0.N) : Rep2 (block m c 4 t) (fun r j => I.conv (512 * (7 - t.val) + r) j) := fun i => by
  unfold block Pipeline.Window.fill
  rw [dif_pos (block_moved _ _ _)]
  blk_simp [iblk]
  rw [host69 H]
  blk_simp [index4]
  rw [Nat.mul_comm]
theorem block5 (t : Fin cfg0.N) : Rep2 (block m c 5 t) (fun r j => I.diff (512 * (7 - t.val) + r) j) := fun i => by
  unfold block Pipeline.Window.fill
  rw [dif_pos (block_moved _ _ _)]
  blk_simp [iblk]
  rw [host70 H]
  blk_simp [index5]
  rw [Nat.mul_comm]
theorem block6 (t : Fin cfg0.N) : Rep2 (block m c 6 t) (fun _ j => I.G j) := fun i => by
  unfold block Pipeline.Window.fill
  rw [dif_pos (block_moved _ _ _)]
  blk_simp [iblk]
  rw [V_main_arg1, H.g]
  blk_simp [index6]
theorem block7 (t : Fin cfg0.N) : Rep2 (block m c 7 t) I.K := fun i => by
  unfold block Pipeline.Window.fill
  rw [dif_pos (block_moved _ _ _)]
  blk_simp [iblk]
  rw [host66 H]
  blk_simp [index7]
theorem block8 (t : Fin cfg0.N) : Rep2 (block m c 8 t) (fun _ j => I.LG j) := fun i => by
  unfold block Pipeline.Window.fill
  rw [dif_pos (block_moved _ _ _)]
  blk_simp [iblk]
  rw [V_main_arg5, H.lg]
  blk_simp [index8]
theorem block9 (t : Fin cfg0.N) : Rep2 (block m c 9 t) (fun _ j => I.LB j) := fun i => by
  unfold block Pipeline.Window.fill
  rw [dif_pos (block_moved _ _ _)]
  blk_simp [iblk]
  rw [V_main_arg6, H.lb]
  blk_simp [index9]
theorem block10 (t : Fin cfg0.N) : Rep3 (block m c 10 t) I.PW := fun i => by
  unfold block Pipeline.Window.fill
  rw [dif_pos (block_moved _ _ _)]
  blk_simp [iblk]
  rw [host73 H]
  blk_simp [index10]
theorem block11 (t : Fin cfg0.N) : Rep2 (block m c 11 t) (fun _ j => I.PS j) := fun i => by
  unfold block Pipeline.Window.fill
  rw [dif_pos (block_moved _ _ _)]
  blk_simp [iblk]
  rw [V_main_arg8, H.ps]
  blk_simp [index11]

theorem tile (t : Fin cfg0.N) : Tile I.tabs (7 - t.val) (blocks m c t) where
  dx1 := by dsimp only [blocks, Args.tabs]; exact block0 H t
  x := by dsimp only [blocks, Args.tabs]; exact block1 H t
  proj := by dsimp only [blocks, Args.tabs]; exact block2 H t
  halo := by dsimp only [blocks, Args.tabs]; exact block3 H t
  cpre := by dsimp only [blocks, Args.tabs]; exact block4 H t
  d := by dsimp only [blocks, Args.tabs]; exact block5 H t
  g1 := by dsimp only [blocks, Args.tabs]; exact block6 H t
  wa := by dsimp only [blocks, Args.tabs]; exact block7 H t
  lg := by dsimp only [blocks, Args.tabs]; exact block8 H t
  lb := by dsimp only [blocks, Args.tabs]; exact block9 H t
  pw := by dsimp only [blocks, Args.tabs]; exact block10 H t
  ps := by dsimp only [blocks, Args.tabs]; exact block11 H t

/-! ## The grid points in order -/

theorem ends : Ends I.tabs := fun r j h => H.past r j h

theorem copied72 : Rep2 (runFirst.sl.dma0 (F := Ideal) c (V m c main_v72)) I.W := fun i => by
  unfold runFirst.sl.dma0
  exact host72 H i
theorem copied75 : Rep2 (runFirst.sl.dma0_1 (F := Ideal) c (V m c main_v75)) I.WO := fun i => by
  unfold runFirst.sl.dma0_1
  exact host75 H i

theorem held_first (t : Fin cfg0.N) (h : First (grid0.coords t)) : Held I.tabs (7 - t.val) (left m c t.val t.isLt) := by
  have ht : t.val = 0 := (first_iff t).mp h
  have B := tile H t
  have hv := tile_word t
  rw [left_first m c t h]
  rw [ht] at B hv ⊢
  exact first _ _ _ _ _ h B (ends H) hv (copied72 H) (copied75 H)

theorem held_later (t : Fin cfg0.N) (h : ¬First (grid0.coords t))
    (ih : Held I.tabs (7 - t.val + 1) (left m c (t.val - 1) (Nat.lt_of_le_of_lt (Nat.sub_le _ _) t.isLt))) :
    Held I.tabs (7 - t.val) (left m c t.val t.isLt) := by
  rw [left_later m c t h]
  exact later _ _ _ _ _ h (tile H t) (by omega) (tile_word t) ih

theorem held : ∀ (n : ℕ) (h : n < cfg0.N), Held I.tabs (7 - n) (left m c n h)
  | 0, h => held_first H ⟨0, h⟩ ((first_iff _).mpr rfl)
  | n + 1, h => held_later H ⟨n + 1, h⟩ (fun e => Nat.succ_ne_zero n ((first_iff _).mp e)) (by
      have hN : cfg0.N = 8 := N_0
      have e : 7 - n = 7 - (n + 1) + 1 := by omega
      have ih := held n (Nat.lt_of_succ_lt h)
      rw [e] at ih
      exact ih)

theorem final12 : Rep2 ((dats m 0 c).arrAt 12 cfg0.N) I.tabs.dp := by
  have h : (dats m 0 c).arrAt 12 cfg0.N = Rep2.arr 4096 1536 I.tabs.dp := by
    refine (dats m 0 c).arrAt_eq_of_covers 12 _ (by decide +kernel) fun t hf y => ?_
    blk_simp
    rw [after_12, (held H t.val t.isLt).dproj]
    unfold Rep2.arr
    blk_simp [index12]
    rw [Nat.mul_comm]
  rw [h]
  exact Rep2.arr_rep _

theorem final13 : Rep2 ((dats m 0 c).arrAt 13 cfg0.N) I.tabs.gx := by
  have h : (dats m 0 c).arrAt 13 cfg0.N = Rep2.arr 4096 1024 I.tabs.gx := by
    refine (dats m 0 c).arrAt_eq_of_covers 13 _ (by decide +kernel) fun t hf y => ?_
    blk_simp
    rw [after_13, (held H t.val t.isLt).gx]
    unfold Rep2.arr
    blk_simp [index13]
    rw [Nat.mul_comm]
  rw [h]
  exact Rep2.arr_rep _

theorem final14 : Rep2 ((dats m 0 c).arrAt 14 cfg0.N) (I.tabs.sm 0) := by
  have h : (dats m 0 c).arrAt 14 cfg0.N = Rep2.arr 8 1024 (I.tabs.sm 0) := by
    refine (dats m 0 c).arrAt_eq_of_after_last 14 t0_7 (by decide +kernel) _ fun j => ?_
    blk_simp
    rw [after_14, (held H _ _).sm]
    rfl
  rw [h]
  exact Rep2.arr_rep _

theorem final15 : Rep2 ((dats m 0 c).arrAt 15 cfg0.N) (I.tabs.s5 0) := by
  have h : (dats m 0 c).arrAt 15 cfg0.N = Rep2.arr 40 512 (I.tabs.s5 0) := by
    refine (dats m 0 c).arrAt_eq_of_after_last 15 t0_7 (by decide +kernel) _ fun j => ?_
    blk_simp
    rw [after_15, (held H _ _).s5]
    rfl
  rw [h]
  exact Rep2.arr_rep _

theorem final16 : Rep3 ((dats m 0 c).arrAt 16 cfg0.N) (I.tabs.sp 0) := by
  have h : (dats m 0 c).arrAt 16 cfg0.N = arr3 4 128 128 (I.tabs.sp 0) := by
    refine (dats m 0 c).arrAt_eq_of_after_last 16 t0_7 (by decide +kernel) _ fun j => ?_
    blk_simp
    rw [after_16, (held H _ _).sp]
    rfl
  rw [h]
  exact fun _ => rfl

end Cert.MixValue
end
-- ==== Proof.MixBackward.lean ====
/- The derivative of the mixer, read over real numbers: the reference's five results hold the tables of the backward pass. -/
module

public import proofs.«01_k».proof.Proof.MixForward
public import Idealize.ShloMosaic.Lib.Pointwise.Contract

@[expose] public section

set_option maxRecDepth 16384

noncomputable section

namespace Cert.MixValue

open Idealize.ShloMosaic Idealize.ShloMosaic.ValueIdx Cert.Reals Cert.MixRefIdeal.Read Cert.MixRefIdeal
open scoped BigOperators

/-! ## The three products by pool -/

section Dots
variable {X Y : ℕ → ℕ → ℕ → ℝ}

/-- The weights turned times the rows; -/
theorem dot_rows {x : FVec Ideal ⟨3, ![4, 128, 128]⟩ .f32} {y : FVec Ideal ⟨3, ![4096, 4, 128]⟩ .f32} (hx : Rep3 x X) (hy : Rep3 y Y) :
    Rep3 (n := 4) (a := 128) (c := 4096) (Host.dotGeneral dot_S4x128x128_S4096x4x128_S4x128x4096_1_2_2_0_0_1 none x y)
      fun g e s => ∑ k ∈ Finset.range 128, X g k e * Y s g k := fun i => by
  obtain ⟨g, e, s, rfl⟩ : ∃ g e s, i = ValueIdx.ix3 (n0 := 4) (n1 := 128) (n2 := 4096) g e s := ⟨i 0, i 1, i 2, ValueIdx.eq_ix3 i⟩
  show Ideal.matmul dot_S4x128x128_S4096x4x128_S4x128x4096_1_2_2_0_0_1 x y (fun _ => 0) _ = _
  simp only [matmulApply]
  rw [zero_add]
  refine Eq.trans ?_ ((coe_sum _ _).trans (congrArg Real.toEReal (Finset.sum_range _).symm))
  exact Finset.sum_congr rfl fun k _ => by rw [hx, hy, ← EReal.coe_mul]; rfl
/-- the cotangents turned times the weights; -/
theorem dot_weights {x : FVec Ideal ⟨3, ![4, 128, 4096]⟩ .f32} {y : FVec Ideal ⟨3, ![4, 128, 128]⟩ .f32} (hx : Rep3 x X) (hy : Rep3 y Y) :
    Rep3 (n := 4) (a := 4096) (c := 128) (Host.dotGeneral dot_S4x128x4096_S4x128x128_S4x4096x128_1_2_2_1_0_0 none x y)
      fun g s e => ∑ k ∈ Finset.range 128, X g k s * Y g e k := fun i => by
  obtain ⟨g, s, e, rfl⟩ : ∃ g s e, i = ValueIdx.ix3 (n0 := 4) (n1 := 4096) (n2 := 128) g s e := ⟨i 0, i 1, i 2, ValueIdx.eq_ix3 i⟩
  show Ideal.matmul dot_S4x128x4096_S4x128x128_S4x4096x128_1_2_2_1_0_0 x y (fun _ => 0) _ = _
  simp only [matmulApply]
  rw [zero_add]
  refine Eq.trans ?_ ((coe_sum _ _).trans (congrArg Real.toEReal (Finset.sum_range _).symm))
  exact Finset.sum_congr rfl fun k _ => by rw [hx, hy, ← EReal.coe_mul]; rfl
/-- the cotangents turned times the rows. -/
theorem dot_both {x : FVec Ideal ⟨3, ![4, 128, 4096]⟩ .f32} {y : FVec Ideal ⟨3, ![4096, 4, 128]⟩ .f32} (hx : Rep3 x X) (hy : Rep3 y Y) :
    Rep3 (n := 4) (a := 128) (c := 128) (Host.dotGeneral dot_S4x128x4096_S4096x4x128_S4x128x128_2_0_1_2_0_1 none x y)
      fun g e c => ∑ k ∈ Finset.range 4096, X g e k * Y k g c := fun i => by
  obtain ⟨g, e, c, rfl⟩ : ∃ g e c, i = ValueIdx.ix3 (n0 := 4) (n1 := 128) (n2 := 128) g e c := ⟨i 0, i 1, i 2, ValueIdx.eq_ix3 i⟩
  show Ideal.matmul dot_S4x128x4096_S4096x4x128_S4x128x128_2_0_1_2_0_1 x y (fun _ => 0) _ = _
  simp only [matmulApply]
  rw [zero_add]
  refine Eq.trans ?_ ((coe_sum _ _).trans (congrArg Real.toEReal (Finset.sum_range _).symm))
  exact Finset.sum_congr rfl fun k _ => by rw [hx, hy, ← EReal.coe_mul]; rfl
end Dots

/-! ## Sums and norms -/

/-- Terms less the terms `w` further on, summed: what is left at the two ends. -/
theorem sum_shift (f : ℕ → ℝ) (w N : ℕ) :
    ∑ k ∈ Finset.range N, (f k - f (w + k)) = (∑ k ∈ Finset.range w, f k) - ∑ k ∈ Finset.range w, f (N + k) := by
  have h1 := Finset.sum_range_add f N w
  have h2 := Finset.sum_range_add f w N
  rw [Nat.add_comm w N] at h2
  rw [Finset.sum_sub_distrib]
  linarith

/-- The reciprocal root over the number under it. -/
theorem root_div {v : ℝ} (h : 0 < v) : (Real.sqrt v)⁻¹ / v = (Real.sqrt v)⁻¹ * ((Real.sqrt v)⁻¹ * (Real.sqrt v)⁻¹) := by
  rw [← mul_inv, Real.mul_self_sqrt h.le, div_eq_mul_inv]

/-- The layer norm's backward pass, from the derivative's terms to the usual form. -/
theorem norm_back {n : ℕ} (hn : (n : ℝ) ≠ 0) {x d : ℕ → ℝ} {v : ℝ} (h : 0 < v) (h0 : ∑ k ∈ Finset.range n, x k = 0) (j : ℕ) :
    let s := (Real.sqrt v)⁻¹
    let c := (∑ k ∈ Finset.range n, x k * d k) * (-(1 / 2) * (s / v)) / n
    (d j * s + x j * c + c * x j) + (∑ k ∈ Finset.range n, -(d k * s + x k * c + c * x k)) / n
      = s * (d j - (∑ k ∈ Finset.range n, d k) / n - x j * s * ((∑ k ∈ Finset.range n, d k * (x k * s)) / n)) := by
  intro s c
  have e1 : ∑ k ∈ Finset.range n, -(d k * s + x k * c + c * x k) = -((∑ k ∈ Finset.range n, d k) * s) := by
    rw [Finset.sum_neg_distrib, Finset.sum_add_distrib, Finset.sum_add_distrib, ← Finset.sum_mul, ← Finset.sum_mul, ← Finset.mul_sum, h0]
    ring
  have e2 : ∑ k ∈ Finset.range n, d k * (x k * s) = (∑ k ∈ Finset.range n, x k * d k) * s := by
    rw [Finset.sum_mul]
    exact Finset.sum_congr rfl fun k _ => by ring
  have e3 : c = (∑ k ∈ Finset.range n, x k * d k) * (-(1 / 2) * (s * (s * s))) / n := by
    show _ * (-(1 / 2) * (s / v)) / _ = _
    rw [show s / v = s * (s * s) from root_div h]
  rw [e1, e2, e3]
  field_simp
  ring

/-- One pool's cotangent leaving its window, within the columns of that pool. -/
theorem one_window {E : ℕ → ℕ → ℝ} (h : ∀ {r j : ℕ}, ¬ r < 4096 → E r j = 0) {r j o l g w : ℕ} (ho : w + o = 16) (hl : l = 128 * g) :
    (if (o ≤ 16 + r ∧ 16 + r - o < 4096) ∧ l ≤ 0 + j ∧ 0 + j - l < 128 then -E (0 + (16 + r - o)) (l + (0 + j - l)) else 0)
      = if j / 128 = g then -E (w + r) j else 0 := by
  by_cases c : j / 128 = g
  · rw [if_pos c]
    by_cases d : w + r < 4096
    · rw [if_pos (by omega), show 0 + (16 + r - o) = w + r by omega, show l + (0 + j - l) = j by omega]
    · rw [if_neg (by omega), h d, neg_zero]
  · rw [if_neg c, if_neg (by omega)]

variable {x0 x10 : FVec Ideal ⟨2, ![4096, 1024]⟩ .f32} {x1 : FVec Ideal ⟨2, ![1, 1024]⟩ .f32} {x2 : FVec Ideal ⟨3, ![1, 1024, 1536]⟩ .f32}
  {x3 : FVec Ideal ⟨3, ![1, 31, 512]⟩ .f32} {x4 x5 x6 x8 : FVec Ideal ⟨2, ![1, 512]⟩ .f32} {x7 : FVec Ideal ⟨4, ![1, 4, 128, 128]⟩ .f32}
  {x9 : FVec Ideal ⟨3, ![1, 1024, 1024]⟩ .f32} {I : Args}
variable (H : Holds I x0 x1 x2 x3 x4 x5 x6 x7 x8 x9 x10)
include H

/-! ## Past the last row every cotangent is zero -/

theorem dm_past {r : ℕ} (h : 4096 ≤ r) (j : ℕ) : I.tabs.dm r j = 0 :=
  Finset.sum_eq_zero fun k _ => by rw [show I.tabs.DX r k = 0 from H.past r k h, zero_mul]
theorem e_past {g r : ℕ} (h : 4096 ≤ r) (j : ℕ) : I.tabs.e g r j = 0 := by
  have hd : I.tabs.dd g r j = 0 := Finset.sum_eq_zero fun k _ => by
    rw [show I.tabs.dq r (128 * g + k) = I.tabs.dm r _ * _ from rfl, dm_past H h, zero_mul, zero_mul]
  rw [show I.tabs.e g r j = I.tabs.dd g r j / _ from rfl, hd, zero_div]
theorem dc_past {r : ℕ} (h : 4096 ≤ r) (j : ℕ) : I.tabs.dc r j = 0 := by
  have hz : ∀ k, I.tabs.dz r k = 0 := fun k => by
    rw [show I.tabs.dz r k = I.tabs.dm r k * _ * _ from rfl, dm_past H h, zero_mul, zero_mul]
  unfold Tabs.dc
  simp only [hz, zero_mul, Finset.sum_const_zero, zero_div, mul_zero, sub_zero]

/-! ## The pooling branch -/

theorem ref108 : Rep2 (a := 4096) (b := 1024) (val_main_v108 (F := Ideal) x9 x10) I.tabs.dm := H.dx.hdotNT H.wo _
theorem ref110 : Rep2 (a := 4096) (b := 512) (val_main_v110 (F := Ideal) x9 x10) fun r j => I.tabs.dm r (512 + j) :=
  ((ref108 H).hslice _).congr fun r j _ _ => by rw [Nat.zero_add]
theorem ref100 : Rep3 (n := 4096) (a := 4) (c := 128) (val_main_v100 (F := Ideal) x0 x1 x2) fun r g j => I.diff r (g * 128 + j) :=
  (ref99 H).split _ (by norm_num)
theorem ref103 : Rep2 (a := 4096) (b := 512) (val_main_v103 (F := Ideal) x0 x1 x2 x7) fun r j => I.tabs.yp (j / 128) r (j % 128) :=
  (((dot_rows H.pw (ref100 H)).turn201 _).join _ (by norm_num) (by norm_num)).congr fun r j _ _ =>
    Finset.sum_congr rfl fun k _ => by rw [mul_comm, Nat.mul_comm (j / 128)]; rfl
theorem ref113 : Rep2 (a := 1) (b := 512) (val_main_v113 (F := Ideal) x0 x1 x2 x7 x9 x10) fun _ j => ∑ k ∈ Finset.range 4096, I.tabs.yp (j / 128) k (j % 128) * I.tabs.dm k (512 + j) :=
  (((ref103 H).mul (ref110 H)).hcolSum (.lit lit_zero) _ _).asRow _
theorem ref117 : Rep3 (n := 4) (a := 128) (c := 4096) (val_main_v117 (F := Ideal) x8 x9 x10) fun g j s => I.tabs.dq s (g * 128 + j) :=
  (Rep2.split (c := 512) (a := 4) (b := 128) ((ref110 H).mul (H.ps.hspreadRow _)) _ (by norm_num)).turn120 _
theorem ref122 : Rep2 (a := 4096) (b := 512) (val_main_v122 (F := Ideal) x7 x8 x9 x10) fun r j => I.tabs.dd (j / 128) r (j % 128) :=
  (((dot_weights (ref117 H) H.pw).turn102 _).join _ (by norm_num) (by norm_num)).congr fun r j _ _ =>
    Finset.sum_congr rfl fun k _ => by rw [Nat.mul_comm (j / 128)]; rfl
theorem ref121 : Rep3 (n := 4) (a := 128) (c := 128) (val_main_v121 (F := Ideal) x0 x1 x2 x8 x9 x10) (I.tabs.sp 0) :=
  ((dot_both (ref117 H) (ref100 H)).turn021 _).congr fun g a b _ _ _ =>
    Finset.sum_congr rfl fun k _ => by rw [mul_comm, Nat.mul_comm g, Nat.zero_add]; rfl
theorem ref124 : Rep2 (a := 4096) (b := 512) (val_main_v124 (F := Ideal) x7 x8 x9 x10) I.tabs.eAll := (ref122 H).hdiv ref95 fun _ _ _ _ => Tabs.cnt_ne _ _
/-- Each row's cotangent less the one that leaves its window. -/
theorem ref140 : Rep2 (a := 4096) (b := 512) (val_main_v140 (F := Ideal) x7 x8 x9 x10) fun r j => I.tabs.eAll r j - I.tabs.eAll (Tabs.width (j / 128) + r) j := by
  have hz : ∀ {r j : ℕ}, ¬ r < 4096 → I.tabs.eAll r j = 0 := fun h => e_past H (not_lt.mp h) _
  have h125 : Rep2 (a := 4096) (b := 512) (val_main_v125 (F := Ideal) x7 x8 x9 x10) fun r j => -I.tabs.eAll r j := (ref124 H).hneg
  have h138 : Rep2 (a := 4112) (b := 512) (val_main_v138 (F := Ideal) x7 x8 x9 x10) _ :=
    (((((ref124 H).hpad (.lit lit_zero) _ _).add ((h125.hslice _).hpad (.lit lit_zero) _ _)).add ((h125.hslice _).hpad (.lit lit_zero) _ _)).add
      ((h125.hslice _).hpad (.lit lit_zero) _ _)).add ((h125.hslice _).hpad (.lit lit_zero) _ _)
  refine (h138.hslice _).congr fun r j hr hj => ?_
  rw [if_pos (by omega), one_window (E := I.tabs.eAll) hz (g := 3) (w := 16) (by norm_num) rfl, one_window (E := I.tabs.eAll) hz (g := 2) (w := 8) (by norm_num) rfl,
    one_window (E := I.tabs.eAll) hz (g := 1) (w := 4) (by norm_num) rfl, one_window (E := I.tabs.eAll) hz (g := 0) (w := 2) (by norm_num) rfl, Nat.add_sub_cancel_left, Nat.sub_zero, Nat.zero_add]
  have hc : j / 128 = 0 ∨ j / 128 = 1 ∨ j / 128 = 2 ∨ j / 128 = 3 := by omega
  rcases hc with c | c | c | c
  all_goals
    rw [c]
    norm_num [Tabs.width, sub_eq_add_neg]
theorem ref142 : Rep2 (a := 4096) (b := 512) (val_main_v142 (F := Ideal) x7 x8 x9 x10) fun r j => I.tabs.db (j / 128) r (j % 128) := by
  refine ((ref122 H).hneg.add ((ref140 H).hwindow (fun _ => lit_zero) _ _)).congr fun r j hr hj => ?_
  have e : ∀ k, (if 0 ≤ r + k ∧ r + k - 0 < 4096 then I.tabs.eAll (r + k - 0) j - I.tabs.eAll (Tabs.width (j / 128) + (r + k - 0)) j else 0)
      = I.tabs.eAll (r + k) j - I.tabs.eAll (r + (Tabs.width (j / 128) + k)) j := fun k => by
    split
    · rw [Nat.sub_zero, Nat.add_left_comm]
    · rw [show I.tabs.eAll (r + k) j = 0 from e_past H (by omega) _, show I.tabs.eAll (r + (Tabs.width (j / 128) + k)) j = 0 from e_past H (by omega) _, sub_zero]
  rw [Finset.sum_congr rfl fun k _ => e k, sum_shift (fun k => I.tabs.eAll (r + k) j), Finset.sum_eq_zero (f := fun k => I.tabs.eAll (r + (4096 + k)) j)
    fun k _ => e_past H (by omega) _, sub_zero, neg_add_eq_sub]
  rfl

/-! ## The filter branch -/

theorem ref143 : Rep2 (a := 4096) (b := 512) (val_main_v143 (F := Ideal) x0 x1 x2 x3 x4 x5 x6 x9 x10) I.tabs.dl := by
  have h109 : Rep2 (a := 4096) (b := 512) (val_main_v109 (F := Ideal) x9 x10) I.tabs.dm := ((ref108 H).hslice _).congr fun r j _ _ => by rw [Nat.zero_add, Nat.zero_add]
  exact ((h109.mul (ref73_2 H)).add (((ref72 H).mul h109).mul (ref73_1 H))).congr fun r j _ _ => by unfold Tabs.dl; ring
theorem ref150 : Rep2 (a := 4096) (b := 512) (val_main_v150 (F := Ideal) x0 x1 x2 x3 x4 x5 x6 x9 x10) I.tabs.dz := (ref143 H).mul (H.lg.hspreadRow _)
theorem ref172 : Rep2 (a := 4096) (b := 512) (val_main_v172 (F := Ideal) x0 x1 x2 x3 x4 x5 x6 x9 x10) I.tabs.dc := by
  have h164 : Rep2 (a := 4096) (b := 512) (val_main_v164 (F := Ideal) x0 x1 x2 x3 x4 x5 x6 x9 x10) _ :=
    have h158 : Rep2 (a := 4096) (b := 1) (val_main_v158 (F := Ideal) x0 x1 x2 x3 x4 x5 x6 x9 x10) _ :=
      (((((ref55 H).mul (ref150 H)).hrowSum (.lit lit_zero) _ _).asCol _).mul (ref66 H)).hdiv ((Rep0.lit lit_512).fill2 _) fun _ _ _ _ => by norm_num
    have h160 : Rep2 (a := 4096) (b := 512) (val_main_v160 (F := Ideal) x0 x1 x2 x3 x4 x5 x6 x9 x10) _ := (h158.hrowSum (.lit lit_zero) _ _).alongRows _
    (((ref150 H).mul ((ref63 H).hspreadCol _)).add ((ref55 H).mul h160)).add (h160.mul (ref55 H))
  have h169 : Rep2 (a := 4096) (b := 1) (val_main_v169 (F := Ideal) x0 x1 x2 x3 x4 x5 x6 x9 x10) _ :=
    ((h164.hneg.hrowSum (.lit lit_zero) _ _).asCol _).hdiv ((Rep0.lit lit_512).fill2 _) fun _ _ _ _ => by norm_num
  refine (h164.add ((h169.hrowSum (.lit lit_zero) _ _).alongRows _)).congr fun r j hr hj => ?_
  have hx : ∑ k ∈ Finset.range 512, I.tabs.xc r k = 0 := by
    unfold Tabs.xc
    rw [Finset.sum_sub_distrib, Finset.sum_const, Finset.card_range, Tabs.mu, nsmul_eq_mul]
    push_cast
    ring
  simp only [Finset.sum_range_one]
  exact (norm_back (n := 512) (by norm_num) (I.tabs.va_pos r) hx (d := I.tabs.dz r) j)
theorem ref191 : Rep2 (a := 4096) (b := 512) (val_main_v191 (F := Ideal) x0 x1 x2 x3 x4 x5 x6 x9 x10) I.tabs.du := by
  have h180 : Rep3 (n := 31) (a := 4096) (c := 512) (val_main_v180 (F := Ideal) x0 x1 x2 x3 x4 x5 x6 x9 x10) fun k r j => I.tabs.dc r j * I.K k j :=
    ((ref172 H).hplanes _).mul ((H.taps.hmid _).hspreadMid _)
  have h183 : Rep2 (a := 127937) (b := 512) (val_main_v183 (F := Ideal) x0 x1 x2 x3 x4 x5 x6 x9 x10) fun q j => if q % 4127 < 4096 then I.tabs.dc (q % 4127) j * I.K (q / 4127) j else 0 :=
    Rep3.unfold (n := 31) (a := 4127) (h180.hpad (.lit lit_zero) _ _) _ rfl (by norm_num)
  have h186 : Rep3 (n := 31) (a := 4126) (c := 512) (val_main_v186 (F := Ideal) x0 x1 x2 x3 x4 x5 x6 x9 x10) _ := Rep2.fold (c := 127906) (h183.hslice _) _ (by norm_num)
  refine ((((h186.hsumPlanes (.lit lit_zero) _ _).hplanes _).hsumPlanes (n := 1) (.lit lit_zero) _ _).hslice _).congr fun r j hr hj => ?_
  rw [Finset.sum_range_one]
  have e : ∀ k ∈ Finset.range 31, (if (0 + (k * 4126 + (30 + r))) % 4127 < 4096 then I.tabs.dc ((0 + (k * 4126 + (30 + r))) % 4127) (0 + (0 + j))
      * I.K ((0 + (k * 4126 + (30 + r))) / 4127) (0 + (0 + j)) else 0) = I.K k j * I.tabs.dc (r + (30 - k)) j := fun k hk => by
    have hk' := Finset.mem_range.mp hk
    rw [show (0 + (k * 4126 + (30 + r))) / 4127 = k by omega, show (0 + (k * 4126 + (30 + r))) % 4127 = r + (30 - k) by omega, Nat.zero_add, Nat.zero_add]
    split
    · exact mul_comm _ _
    · rw [dc_past H (by omega), mul_zero]
  rw [Finset.sum_congr rfl e, Finset.sum_range_succ, add_comm]
  rfl

/-! ## The results -/

theorem ref195 : Rep2 (a := 4096) (b := 1536) (val_main_v195 (F := Ideal) x0 x1 x2 x3 x4 x5 x6 x7 x8 x9 x10) I.tabs.dp :=
  Rep2.congr (((ref191 H).mul (ref28 H)).hside3 ((((ref20 H).mul (ref191 H))).mul (ref31 H)) (ref142 H) (by norm_num) _) fun r j _ _ => by
    unfold Tabs.dp
    simp only [mul_comm (I.tabs.du r (j - 512))]
    rfl
theorem ref221 : Rep2 (a := 4096) (b := 1536) (val_main_v221 (F := Ideal) x0 x1 x2 x3 x4 x5 x6 x7 x8 x9 x10) I.tabs.dp := (ref195 H).trunc _
theorem ref196 : Rep2 (a := 4096) (b := 1024) (val_main_v196 (F := Ideal) x0 x1 x2 x3 x4 x5 x6 x7 x8 x9 x10) I.tabs.dh := (ref195 H).hdotNT H.win _
theorem ref222 : Rep2 (a := 4096) (b := 1024) (val_main_v222 (F := Ideal) x0 x1 x2 x3 x4 x5 x6 x7 x8 x9 x10) I.tabs.gx := by
  have h201 : Rep2 (a := 4096) (b := 1024) (val_main_v201 (F := Ideal) x0 x1 x2 x3 x4 x5 x6 x7 x8 x9 x10) I.tabs.dn := (ref196 H).mul (H.g.hspreadRow _)
  have h209 : Rep2 (a := 4096) (b := 1) (val_main_v209 (F := Ideal) x0 x1 x2 x3 x4 x5 x6 x7 x8 x9 x10) _ :=
    ((((H.x.mul h201).hrowSum (.lit lit_zero) _ _).asCol _).mul (ref10 H)).hdiv ((Rep0.lit lit_1024).fill2 _) fun _ _ _ _ => by norm_num
  have h211 : Rep2 (a := 4096) (b := 1024) (val_main_v211 (F := Ideal) x0 x1 x2 x3 x4 x5 x6 x7 x8 x9 x10) _ := (h209.hrowSum (.lit lit_zero) _ _).alongRows _
  refine (H.dx.add (((h201.mul ((ref7 H).hspreadCol _)).add (H.x.mul h211)).add (h211.mul H.x))).congr fun r j hr hj => ?_
  simp only [Finset.sum_range_one]
  have e : I.tabs.r1 r / I.tabs.ms r = I.tabs.r1 r * (I.tabs.r1 r * I.tabs.r1 r) := root_div (I.tabs.ms_pos r)
  have e2 : ∑ k ∈ Finset.range 1024, I.tabs.dn r k * I.tabs.n1 r k = (∑ k ∈ Finset.range 1024, I.X r k * I.tabs.dn r k) * I.tabs.r1 r := by
    rw [Finset.sum_mul]
    exact Finset.sum_congr rfl fun k _ => by unfold Tabs.n1; rw [show I.tabs.X = I.X from rfl]; ring
  unfold Tabs.gx
  rw [e, e2, Tabs.n1, show I.tabs.X = I.X from rfl, show I.tabs.DX = I.DX from rfl]
  ring
theorem ref217 : Rep2 (a := 8) (b := 1024) (val_main_v217 (F := Ideal) x0 x1 x2 x3 x4 x5 x6 x7 x8 x9 x10) (I.tabs.sm 0) := by
  have h199 : Rep2 (a := 1) (b := 1024) (val_main_v199 (F := Ideal) x0 x1 x2 x3 x4 x5 x6 x7 x8 x9 x10) _ := (((ref12 H).mul (ref196 H)).hcolSum (.lit lit_zero) _ _).asRow _
  refine (Rep2.hstack (n := 8) (q := 7) h199 ((Rep0.lit lit_zero).fill2 _) (by norm_num) _).congr fun r j hr hj => ?_
  unfold Tabs.sm Tabs.tm
  by_cases h : r = 0
  · simp only [h, if_true, Nat.lt_one_iff]
    exact Finset.sum_congr rfl fun k _ => by rw [Nat.zero_add, mul_comm]
  · simp only [h, if_false, Nat.lt_one_iff, Finset.sum_const_zero]

omit H in
theorem up_late (q j : ℕ) : I.tabs.up (q + 2) j = I.late q j := by
  unfold Tabs.up Args.late
  by_cases c : q < 30
  · rw [if_pos c, if_pos (by omega)]
  · rw [if_neg c, if_neg (by omega), show q + 2 - 32 = q - 30 by omega]
    rfl
theorem ref220 : Rep2 (a := 40) (b := 512) (val_main_v220 (F := Ideal) x0 x1 x2 x3 x4 x5 x6 x7 x9 x10) (I.tabs.s5 0) := by
  have h145 : Rep2 (a := 1) (b := 512) (val_main_v145 (F := Ideal) x0 x1 x2 x3 x4 x5 x6 x9 x10) _ := ((ref143 H).hcolSum (.lit lit_zero) _ _).asRow _
  have h148 : Rep2 (a := 1) (b := 512) (val_main_v148 (F := Ideal) x0 x1 x2 x3 x4 x5 x6 x9 x10) _ := (((ref68 H).mul (ref143 H)).hcolSum (.lit lit_zero) _ _).asRow _
  have h174 : Rep2 (a := 1) (b := 512) (val_main_v174 (F := Ideal) x0 x1 x2 x3 x4 x5 x6 x9 x10) _ := ((ref172 H).hcolSum (.lit lit_zero) _ _).asRow _
  have h181 : Rep2 (a := 31) (b := 512) (val_main_v181 (F := Ideal) x0 x1 x2 x3 x4 x5 x6 x9 x10) _ :=
    ((((ref43 H).mul ((ref172 H).hplanes _)).hsumRows (.lit lit_zero) _ _).castMid _).hsumRows (.lit lit_zero) _ _
  have h218 : Rep2 (a := 1) (b := 512) (val_main_v218 (F := Ideal)) fun _ _ => 0 := (Rep0.lit lit_zero).fill2 _
  have h219 : Rep2 (a := 4) (b := 512) (val_main_v219 (F := Ideal)) fun _ _ => 0 := (Rep0.lit lit_zero).fill2 _
  intro i
  have hi : (i 0).val < 40 := (i 0).isLt
  have key : ∀ {v : ℝ}, (∀ q, I.tabs.t5 q (i 0).val (i 1).val = 0) → v = 0 → (v : EReal) = ((I.tabs.s5 0 (i 0).val (i 1).val : ℝ) : EReal) := fun h hv => by
    unfold Tabs.s5; simp only [h, hv, Finset.sum_const_zero]
  by_cases c : (i 0).val < 31
  · refine (h181.stackPiece _ _ 0 (by simp) rfl 0 rfl i (Nat.zero_le _) (by omega)).trans (congrArg Real.toEReal ?_)
    rw [Finset.sum_range_one]
    refine Finset.sum_congr rfl fun q _ => ?_
    unfold Tabs.t5
    rw [if_pos c, Nat.zero_add, mul_comm]
    rw [up_late, Nat.sub_zero]
  by_cases c1 : (i 0).val = 31
  · refine (h218.stackPiece _ _ 1 (by simp) rfl 31 rfl i (by omega) (by omega)).trans (key (fun q => ?_) rfl)
    unfold Tabs.t5
    rw [if_neg c, if_neg (by omega), if_neg (by omega), if_neg (by omega), if_neg (by omega)]
  by_cases c2 : (i 0).val = 32
  · refine (h174.stackPiece _ _ 2 (by simp) rfl 32 rfl i (by omega) (by omega)).trans (congrArg Real.toEReal ?_)
    refine Finset.sum_congr rfl fun q _ => ?_
    unfold Tabs.t5
    rw [if_neg c, if_pos c2, Nat.zero_add]
  by_cases c3 : (i 0).val = 33
  · refine (h148.stackPiece _ _ 3 (by simp) rfl 33 rfl i (by omega) (by omega)).trans (congrArg Real.toEReal ?_)
    refine Finset.sum_congr rfl fun q _ => ?_
    unfold Tabs.t5
    rw [if_neg c, if_neg c2, if_pos c3, Nat.zero_add, mul_comm]
  by_cases c4 : (i 0).val = 34
  · refine (h145.stackPiece _ _ 4 (by simp) rfl 34 rfl i (by omega) (by omega)).trans (congrArg Real.toEReal ?_)
    refine Finset.sum_congr rfl fun q _ => ?_
    unfold Tabs.t5
    rw [if_neg c, if_neg c2, if_neg c3, if_pos c4, Nat.zero_add]
  by_cases c5 : (i 0).val = 35
  · refine ((ref113 H).stackPiece _ _ 5 (by simp) rfl 35 rfl i (by omega) (by omega)).trans (congrArg Real.toEReal ?_)
    refine Finset.sum_congr rfl fun q _ => ?_
    unfold Tabs.t5 Tabs.tps
    rw [if_neg c, if_neg c2, if_neg c3, if_neg c4, if_pos c5, Nat.zero_add, mul_comm, Nat.div_add_mod]
  · refine (h219.stackPiece _ _ 6 (by simp) rfl 36 rfl i (by omega) (by omega)).trans (key (fun q => ?_) rfl)
    unfold Tabs.t5
    rw [if_neg c, if_neg c2, if_neg c3, if_neg c4, if_neg c5]

end Cert.MixValue

end
-- ==== Proof.MixClaim.lean ====
/- The claims about the mixer's backward call: the frames of the kernel, at words and at real numbers, and
   of the reference, and that kernel and reference compute the same five arrays from finite arguments. -/
module

public import proofs.«01_k».proof.Defs
public import proofs.«01_k».proof.Proof.MixValue
public import proofs.«01_k».proof.Proof.MixBackward
public import proofs.«01_k».proof.Proof.Gen.Mix
public import proofs.«01_k».proof.Proof.Gen.MixRefIdeal.Run
public import proofs.«01_k».proof.Proof.Gen.MixRefIdeal.Read
public import proofs.«01_k».proof.Proof.Gen.Pre_finite_mix
public import Idealize.ShloMosaic.Lib.Quiescent

@[expose] public section

set_option maxRecDepth 16384

noncomputable section

namespace Cert.MixValue

open Idealize.ShloMosaic Idealize.ShloMosaic.TcCoe Idealize.ShloMosaic.Tactic Idealize.SL.Sem Cert.Reals

/-- The idealized kernel runs and leaves its arguments and counters alone. -/
theorem frame_ideal (m ρ) : θ_run (Cert.MixIdeal.defs (F := Ideal)) (onTc (τ := Cert.MixIdeal.τ) (Cert.MixIdeal.main (F := Ideal))) ⟨m, fun _ => 0, ρ⟩ fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0 :=
  (θ_run Cert.MixIdeal.defs _ _).mono (fun _ h => ⟨fun c => h.1 c, h.2⟩) (Cert.MixRun.frame_mix (F := Ideal) m ρ)

/-- So does the kernel on words: the two programs are one text. -/
theorem frame_words (m ρ) : θ_run (Cert.Mix.defs (F := Bits)) (onTc (τ := Cert.Mix.τ) (Cert.Mix.main (F := Bits))) ⟨m, fun _ => 0, ρ⟩ fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0 :=
  (θ_run Cert.Mix.defs _ _).mono (fun _ h => ⟨fun c => h.1 c, h.2⟩)
    (show θ_run (Cert.Mix.defs (F := Bits)) (onTc (τ := Cert.Mix.τ) (Cert.Mix.main (F := Bits))) ⟨m, fun _ => 0, ρ⟩
        (fun r => Cert.MixRun.Unchanged (F := Bits) m r ∧ r.2.sem = fun _ => 0) from
      (show (θ_run (Cert.MixIdeal.defs (F := Bits)) (onTc (τ := Cert.MixIdeal.τ) (Cert.MixIdeal.main (F := Bits))) ⟨m, fun _ => 0, ρ⟩
        (fun r => Cert.MixRun.Unchanged (F := Bits) m r ∧ r.2.sem = fun _ => 0))
        = θ_run (Cert.Mix.defs (F := Bits)) (onTc (τ := Cert.Mix.τ) (Cert.Mix.main (F := Bits))) ⟨m, fun _ => 0, ρ⟩
        (fun r => Cert.MixRun.Unchanged (F := Bits) m r ∧ r.2.sem = fun _ => 0) by sl_kernel_rfl) ▸ Cert.MixRun.frame_mix (F := Bits) m ρ)

/-- The reference runs and leaves its arguments and counters alone. -/
theorem frame_ref (m ρ) : θ_run (Cert.MixRefIdeal.defs (F := Ideal)) (onTc (τ := Cert.MixRefIdeal.τ) (Cert.MixRefIdeal.main (F := Ideal))) ⟨m, fun _ => 0, ρ⟩ fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0 :=
  (θ_run Cert.MixRefIdeal.defs _ _).mono (fun r h => ⟨fun c => (h c).2.2.2.2.2, sem_eq_zero_of_no_sems (by decide) r.2⟩)
    (Cert.MixRefIdeal.Value.run m ρ)

/-- An array that passes the test of finiteness holds real numbers. -/
theorem finite_at {s : Shape} {x : FVec Ideal s .f32} (h : (⟨0, ![]⟩ : Shape).BroadcastsInDim s (![] : Fin 0 → Fin s.rank))
    (hx : cmpf .olt (Host.absf x) (broadcastInDim s (![] : Fin 0 → Fin s.rank) h (constant (F := Ideal) ⟨0, ![]⟩ .f32 0x7F800000#32)) = fun _ => 1#1)
    (i : s.Idx) : x i = (((x i).toReal : ℝ) : EReal) := coe_of_abs_lt ((congrArg _ lit_top.symm).trans (congrFun hx i))

/-- So does its reshape. -/
theorem finite_cast {s t : Shape} {x : FVec Ideal s .f32} (hx : ∀ i, x i = (((x i).toReal : ℝ) : EReal)) (h : s.ShapeCasts t) (i : t.Idx) :
    shapeCast t x h i = (((shapeCast t x h i).toReal : ℝ) : EReal) := by
  unfold shapeCast
  exact hx _

/-- The one row of an array. -/
theorem one_row {b : ℕ} {x : FVec Ideal ⟨2, ![1, b]⟩ .f32} (hx : Rep2 x (tab2 x)) : Rep2 x fun _ j => tab2 x 0 j :=
  hx.congr fun r j hr _ => by rw [Nat.lt_one_iff.mp hr]

/-- The table a finite rank-three array holds. -/
def tab3 {n a b : ℕ} (x : (⟨3, ![n, a, b]⟩ : Shape).Idx → EReal) (k r j : ℕ) : ℝ :=
  if h : k < n ∧ r < a ∧ j < b then (x (ValueIdx.ix3 ⟨k, h.1⟩ ⟨r, h.2.1⟩ ⟨j, h.2.2⟩)).toReal else 0
theorem rep3_tab3 {n a b : ℕ} {x : (⟨3, ![n, a, b]⟩ : Shape).Idx → EReal} (h : ∀ i, x i = (((x i).toReal : ℝ) : EReal)) : Rep3 x (tab3 x) := by
  intro i
  unfold tab3
  rw [dif_pos ⟨(i 0).isLt, (i 1).isLt, (i 2).isLt⟩]
  conv_lhs => rw [h i, ValueIdx.eq_ix3 i]
  rfl

section
variable (m : (ℓ : Loc Cert.MixIdeal.nD Cert.MixIdeal.τ Cert.MixIdeal.sig) → Buf (Elt Ideal) ℓ) (c : Dev Cert.MixIdeal.nD)

/-- The arguments in memory as tables. -/
def tables : Args where
  X := tab2 (a := 4096) (b := 1024) (m ((c : Thread Cert.MixIdeal.nD Cert.MixIdeal.τ).loc Cert.MixIdeal.main_arg0))
  G := tab2 (a := 1) (b := 1024) (m ((c : Thread Cert.MixIdeal.nD Cert.MixIdeal.τ).loc Cert.MixIdeal.main_arg1)) 0
  W := tab2 (a := 1024) (b := 1536) (Cert.MixRefIdeal.Read.val_main_v15 (F := Ideal) (m ((c : Thread Cert.MixIdeal.nD Cert.MixIdeal.τ).loc Cert.MixIdeal.main_arg2)))
  K := tab2 (a := 31) (b := 512) (Cert.MixRefIdeal.Read.val_main_v17 (F := Ideal) (m ((c : Thread Cert.MixIdeal.nD Cert.MixIdeal.τ).loc Cert.MixIdeal.main_arg3)))
  CB := tab2 (a := 1) (b := 512) (m ((c : Thread Cert.MixIdeal.nD Cert.MixIdeal.τ).loc Cert.MixIdeal.main_arg4)) 0
  LG := tab2 (a := 1) (b := 512) (m ((c : Thread Cert.MixIdeal.nD Cert.MixIdeal.τ).loc Cert.MixIdeal.main_arg5)) 0
  LB := tab2 (a := 1) (b := 512) (m ((c : Thread Cert.MixIdeal.nD Cert.MixIdeal.τ).loc Cert.MixIdeal.main_arg6)) 0
  PW := tab3 (n := 4) (a := 128) (b := 128) (Cert.MixRefIdeal.Read.val_main_v18 (F := Ideal) (m ((c : Thread Cert.MixIdeal.nD Cert.MixIdeal.τ).loc Cert.MixIdeal.main_arg7)))
  PS := tab2 (a := 1) (b := 512) (m ((c : Thread Cert.MixIdeal.nD Cert.MixIdeal.τ).loc Cert.MixIdeal.main_arg8)) 0
  WO := tab2 (a := 1024) (b := 1024) (Cert.MixRefIdeal.Read.val_main_v19 (F := Ideal) (m ((c : Thread Cert.MixIdeal.nD Cert.MixIdeal.τ).loc Cert.MixIdeal.main_arg9)))
  DX := tab2 (a := 4096) (b := 1024) (m ((c : Thread Cert.MixIdeal.nD Cert.MixIdeal.τ).loc Cert.MixIdeal.main_arg10))

/-- Finite arguments are their tables. -/
theorem loads (hpre : Cert.Pre_MixIdeal_finite_mix m) : Loads m c (tables m c) where
  x := finite2 _ (hpre c).1
  g := one_row (finite2 _ (hpre c).2.1)
  win := rep2_tab2 (finite_cast (finite_at _ (hpre c).2.2.1) _)
  taps := rep2_tab2 (finite_cast (finite_at _ (hpre c).2.2.2.1) _)
  cb := one_row (finite2 _ (hpre c).2.2.2.2.1)
  lg := one_row (finite2 _ (hpre c).2.2.2.2.2.1)
  lb := one_row (finite2 _ (hpre c).2.2.2.2.2.2.1)
  pw := rep3_tab3 (finite_cast (finite_at _ (hpre c).2.2.2.2.2.2.2.1) _)
  ps := one_row (finite2 _ (hpre c).2.2.2.2.2.2.2.2.1)
  wo := rep2_tab2 (finite_cast (finite_at _ (hpre c).2.2.2.2.2.2.2.2.2.1) _)
  dx := finite2 _ (hpre c).2.2.2.2.2.2.2.2.2.2
  past := fun r j h => tab2_row_ge h j
  above := fun j => by
    dsimp only [tables]
    exact tab2_row_ge (le_refl 31) j

end

/-- From finite arguments the kernel's five arrays are the reference's. -/
theorem algebraic : Cert.algebraic_MixIdeal_MixRefIdeal_pre_finite_mix := fun m g m' g' hpre hargs => by
  have H : ∀ c, Loads m c (tables m c) := fun c => loads m c hpre
  refine ⟨_, _, _, _, _, (θ_run Cert.MixIdeal.defs _ _).mono (fun r h c => ⟨(h.1 c).1 12, (h.1 c).1 13, (h.1 c).1 14, (h.1 c).1 15, (h.1 c).1 16,
      Cert.MixRun.unchanged m h.1 c⟩) (Cert.MixRun.run (F := Ideal) m g),
    (θ_run Cert.MixRefIdeal.defs _ _).mono (fun r h c => ?_) (Cert.MixRefIdeal.Value.run m' g')⟩
  have R : Holds (tables m c) (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg2))
      (m' ((c.tc : Thread Cert.MixRefIdeal.nD Cert.MixRefIdeal.τ).loc Cert.MixRefIdeal.main_arg3))
      (m' ((c.tc : Thread Cert.MixRefIdeal.nD Cert.MixRefIdeal.τ).loc Cert.MixRefIdeal.main_arg4))
      (m' ((c.tc : Thread Cert.MixRefIdeal.nD Cert.MixRefIdeal.τ).loc Cert.MixRefIdeal.main_arg5))
      (m' ((c.tc : Thread Cert.MixRefIdeal.nD Cert.MixRefIdeal.τ).loc Cert.MixRefIdeal.main_arg6))
      (m' ((c.tc : Thread Cert.MixRefIdeal.nD Cert.MixRefIdeal.τ).loc Cert.MixRefIdeal.main_arg7))
      (m' ((c.tc : Thread Cert.MixRefIdeal.nD Cert.MixRefIdeal.τ).loc Cert.MixRefIdeal.main_arg8))
      (m' ((c.tc : Thread Cert.MixRefIdeal.nD Cert.MixRefIdeal.τ).loc Cert.MixRefIdeal.main_arg9))
      (m' ((c.tc : Thread Cert.MixRefIdeal.nD Cert.MixRefIdeal.τ).loc Cert.MixRefIdeal.main_arg10)) := by
    obtain ⟨a0, a1, a2, a3, a4, a5, a6, a7, a8, a9, a10⟩ := hargs c
    rw [a0, a1, a2, a3, a4, a5, a6, a7, a8, a9, a10]
    exact H c
  refine ⟨(h c).1.trans ?_, (h c).2.1.trans ?_, (h c).2.2.1.trans ?_, (h c).2.2.2.1.trans ?_, (h c).2.2.2.2.1.trans ?_, (h c).2.2.2.2.2⟩
  · refine (Cert.MixRefIdeal.Read.val_main_v221_eq (F := Ideal) _).trans ?_
    exact (ref221 R).eq (final12 (H c)) fun _ _ _ _ => rfl
  · refine (Cert.MixRefIdeal.Read.val_main_v222_eq (F := Ideal) _).trans ?_
    exact (ref222 R).eq (final13 (H c)) fun _ _ _ _ => rfl
  · refine (Cert.MixRefIdeal.Read.val_main_v217_eq (F := Ideal) _).trans ?_
    exact (ref217 R).eq (final14 (H c)) fun _ _ _ _ => rfl
  · refine (Cert.MixRefIdeal.Read.val_main_v220_eq (F := Ideal) _).trans ?_
    exact (ref220 R).eq (final15 (H c)) fun _ _ _ _ => rfl
  · refine (Cert.MixRefIdeal.Read.val_main_v121_eq (F := Ideal) _).trans ?_
    exact (ref121 R).eq (final16 (H c)) fun _ _ _ _ _ _ => rfl

end Cert.MixValue

end
-- ==== Proof.Down.lean ====
/- The last layer's backward call (`ffn_down`) over real numbers: what its eight grid points leave in the
   two results. -/
module

public import proofs.«01_k».proof.Defs
public import proofs.«01_k».proof.Proof.Reals
public import proofs.«01_k».proof.Proof.Gen.DownIdeal.Value
public import Idealize.ShloMosaic.Lib.Pipeline.ValueKit

@[expose] public section

set_option maxRecDepth 16384

noncomputable section

namespace Cert.DownValue

open Idealize.ShloMosaic Idealize.ShloMosaic.ValueIdx Idealize.ShloMosaic.TcCoe Cert.Reals

/-! ## The call over the reals -/

section Spec
variable (X A W T : ℕ → ℕ → ℝ) (G : ℕ → ℝ)

/-- The residual stream after the block: the input plus the feed-forward's output product. -/
def x2 (r j : ℕ) : ℝ := X r j + ∑ k ∈ Finset.range 2816, A r k * W k j
/-- The mean square of a row, with the norm's small number added. -/
def ms (r : ℕ) : ℝ := (∑ k ∈ Finset.range 1024, x2 X A W r k * x2 X A W r k) / 1024 + eps
/-- The reciprocal root of that. -/
def inv (r : ℕ) : ℝ := (Real.sqrt (ms X A W r))⁻¹
/-- The normed row. -/
def nrm (r j : ℕ) : ℝ := x2 X A W r j * inv X A W r
/-- The scaled normed row less the target. -/
def err (r j : ℕ) : ℝ := nrm X A W r j * G j - T r j
/-- The cotangent of the network's output. -/
def dy (r j : ℕ) : ℝ := err X A W T G r j / 1024
/-- The cotangent of the residual stream. -/
def dx2 (r j : ℕ) : ℝ :=
  inv X A W r * (dy X A W T G r j * G j
    - nrm X A W r j * ((∑ k ∈ Finset.range 1024, dy X A W T G r k * G k * nrm X A W r k) / 1024))
/-- A row's term of the final norm's gain gradient, -/
def dgTerm (j r : ℕ) : ℝ := dy X A W T G r j * nrm X A W r j
/-- and of the loss. -/
def lossTerm (r : ℕ) : ℝ := (∑ k ∈ Finset.range 1024, err X A W T G r k * err X A W T G r k) / 1024

theorem ms_pos (r : ℕ) : 0 < ms X A W r :=
  add_pos_of_nonneg_of_pos (div_nonneg (Finset.sum_nonneg fun k _ => mul_self_nonneg _) (by norm_num)) eps_pos

/-- The small result after the first `n` rows: row 2 the gain's gradient, row 3 half the loss terms, zeros elsewhere. -/
def rows (n : ℕ) (i j : ℕ) : ℝ :=
  if i = 2 then ∑ r ∈ Finset.range n, dgTerm X A W T G j r
  else if i = 3 then 1 / 2 * ∑ r ∈ Finset.range n, lossTerm X A W T G r else 0

/-- Reading every array `n` rows further on reads the call's values `n` rows further on. -/
theorem dg_shift (n j r : ℕ) : dgTerm (fun r j => X (n + r) j) (fun r j => A (n + r) j) W (fun r j => T (n + r) j) G j r
    = dgTerm X A W T G j (n + r) := by
  simp only [dgTerm, dy, err, nrm, inv, ms, x2]
theorem loss_shift (n r : ℕ) : lossTerm (fun r j => X (n + r) j) (fun r j => A (n + r) j) W (fun r j => T (n + r) j) G r
    = lossTerm X A W T G (n + r) := by
  simp only [lossTerm, err, nrm, inv, ms, x2]
theorem dx2_shift (n r j : ℕ) : dx2 (fun r j => X (n + r) j) (fun r j => A (n + r) j) W (fun r j => T (n + r) j) G r j
    = dx2 X A W T G (n + r) j := by
  simp only [dx2, dy, err, nrm, inv, ms, x2]

end Spec

/-! ## The body's arithmetic -/

open Cert.DownIdeal Cert.DownIdeal.Gen

section Pay
variable {X A W T G : ℕ → ℕ → ℝ} {v3 v23 : Vec Ideal S512x1024 .f32} {v4 : Vec Ideal S512x2816 .bf16} {v6 : Vec Ideal S2816x1024 .bf16}
  {v19 : Vec Ideal S1x1024 .f32} (h3 : Rep2 v3 X) (h4 : Rep2 v4 A) (h6 : Rep2 v6 W) (h19 : Rep2 v19 G) (h23 : Rep2 v23 T)
include h3 h4 h6

theorem pay4 : Rep2 (k0_pay4 (F := Ideal) v3 v4 v6) (x2 X A W) := h3.add ((h4.cast _).dot h6 _)

theorem pay5 : Rep2 (k0_pay5 (F := Ideal) v3 v4 v6) fun r _ => inv X A W r :=
  ((((((pay4 h3 h4 h6).mul (pay4 h3 h4 h6)).rowSum _ _ _ _ _).div (.splat lit_1024) (fun _ _ _ _ => by norm_num)).add
    (.splat lit_eps)).rsqrt fun r _ _ _ => ms_pos X A W r)

theorem pay6 : Rep2 (k0_pay6 (F := Ideal) v3 v4 v6) (nrm X A W) := (pay4 h3 h4 h6).mul ((pay5 h3 h4 h6).spreadCol _)

include h19 h23

theorem pay7 : Rep2 (k0_pay7 (F := Ideal) v3 v4 v6 v19 v23) (err X A W T (G 0)) :=
  ((pay6 h3 h4 h6).mul ((h19.cast _).spreadRow _)).sub h23

theorem pay8 : Rep2 (k0_pay8 (F := Ideal) v3 v4 v6 v19 v23) (dy X A W T (G 0)) :=
  (pay7 h3 h4 h6 h19 h23).div (.splat lit_1024) fun _ _ _ _ => by norm_num

theorem pay9 {v31 : Vec Ideal S1x1024 .f32} {Z : ℕ → ℕ → ℝ} (hz : Rep2 v31 Z) :
    Rep2 (k0_pay9 (F := Ideal) v3 v4 v6 v19 v23 v31) fun i j => Z i j + ∑ r ∈ Finset.range 512, dgTerm X A W T (G 0) j r :=
  (hz.cast _).add (((pay8 h3 h4 h6 h19 h23).mul (pay6 h3 h4 h6)).colSum _ _ _ _ _)

theorem pay1 {v43 : Vec Ideal S1x1024 .f32} {Z : ℕ → ℕ → ℝ} (hz : Rep2 v43 Z) :
    Rep2 (k0_pay1 (F := Ideal) (k0_pay10 v3 v4 v6 v19 v23) v43)
      fun i j => Z i j + 1 / 2 * ∑ r ∈ Finset.range 512, lossTerm X A W T (G 0) r :=
  (hz.cast _).add ((((Rep2.splat lit_half).mul (((((pay7 h3 h4 h6 h19 h23).mul (pay7 h3 h4 h6 h19 h23)).rowSum _ _ _ _ _).div
    (.splat lit_1024) (fun _ _ _ _ => by norm_num)).colSum _ _ _ _ _)).cast _).spreadCol _)

theorem pay2 : Rep2 (k0_pay2 (F := Ideal) (k0_pay5 v3 v4 v6) (k0_pay6 v3 v4 v6) (k0_pay8 v3 v4 v6 v19 v23) v19)
    (dx2 X A W T (G 0)) :=
  let dn := (pay8 h3 h4 h6 h19 h23).mul ((h19.cast shapeCasts_S1x1024_S1x1024).spreadRow broadcasts_S1x1024_S512x1024)
  (((pay5 h3 h4 h6).spreadCol _).mul (dn.sub ((pay6 h3 h4 h6).mul
    ((((dn.mul (pay6 h3 h4 h6)).rowSum _ _ _ _ _).div (.splat lit_1024) fun _ _ _ _ => by norm_num).spreadCol _)))).trunc _

end Pay

/-! ## The grid points -/

theorem hz : (![0, 0] : Fin 2 → ℕ) = fun _ => 0 := funext fun a => by fin_cases a <;> rfl

section Run
variable (m : (ℓ : Loc nD τ sig) → Buf (Elt Ideal) ℓ) (c : Dev nD)

/-- What the arguments hold, as tables. -/
structure Holds (X A W T : ℕ → ℕ → ℝ) (G : ℕ → ℝ) : Prop where
  x1 : Rep2 (m ((c : Thread nD τ).loc main_arg0)) X
  act : Rep2 (m ((c : Thread nD τ).loc main_arg1)) A
  w : Rep2 (m ((c : Thread nD τ).loc main_arg2)) W
  g : Rep1 (m ((c : Thread nD τ).loc main_arg3)) G
  t : Rep2 (m ((c : Thread nD τ).loc main_arg4)) T

variable {m c} {X A W T : ℕ → ℕ → ℝ} {G : ℕ → ℝ} (H : Holds m c X A W T G)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![t.val, 0] := by decide +kernel
theorem index4 : ∀ t : Fin cfg0.N, win0_4.index t = ![t.val, 0] := by decide +kernel
theorem index5 : ∀ t : Fin cfg0.N, win0_5.index t = ![0, 0] := by decide +kernel

include H

theorem v0_rep : Rep2 (V m c main_v0) fun _ j => G j := by
  dsimp only [V, hostOps0]
  after_results
  exact H.g.asRow shapeCasts_S1024_S1x1024
theorem v1_rep : Rep2 (V m c main_v1) A := by
  dsimp only [V, hostOps0]
  after_results
  exact Rep2.trunc (φ := .f32) H.act _
theorem v2_rep : Rep2 (V m c main_v2) W := by
  dsimp only [V, hostOps0]
  after_results
  exact Rep2.trunc (φ := .f32) H.w _

theorem iblk0 (t : Fin cfg0.N) : Rep2 (iblk m c 0 t) fun r j => X (512 * t.val + r) j := fun i => by
  blk_simp [iblk]
  rw [V_main_arg0, H.x1]
  blk_simp [index0]
  rw [Nat.mul_comm]
theorem iblk1 (t : Fin cfg0.N) : Rep2 (iblk m c 1 t) fun r j => A (512 * t.val + r) j := fun i => by
  blk_simp [iblk]
  rw [v1_rep H]
  blk_simp [index1]
  rw [Nat.mul_comm]
theorem iblk2 (t : Fin cfg0.N) : Rep2 (iblk m c 2 t) fun _ j => G j := fun i => by
  blk_simp [iblk]
  rw [v0_rep H]
  blk_simp [index2]
theorem iblk3 (t : Fin cfg0.N) : Rep2 (iblk m c 3 t) fun r j => T (512 * t.val + r) j := fun i => by
  blk_simp [iblk]
  rw [V_main_arg4, H.t]
  blk_simp [index3]
  rw [Nat.mul_comm]

/-- The two rows a point stores into the small result: from the sums over the rows before it to those over its own too. -/
theorem rows_step (t : Fin cfg0.N) {sig : RefSig} {κ : Kind} {sp : Space} (v : View sig κ sp S8x1024 .f32)
    (f : v.ty.Contents (Elt Ideal)) (L : List (View.Piece (Elt Ideal) S8x1024 .f32)) {w6 : Vec Ideal S2816x1024 .bf16} (h6 : Rep2 w6 W)
    (hL : Rep2 (v.read (Elt Ideal) (v.writes (Elt Ideal) f L)) (rows X A W T G (512 * t.val)))
    {l2 l3 : Vec Ideal S1x1024 .f32} (h2 : Rep2 l2 fun _ j => rows X A W T G (512 * t.val) 2 j)
    (h3 : Rep2 l3 fun _ j => rows X A W T G (512 * t.val) 3 j) (i0 i1 i2 i3 inb2 inb3) :
    Rep2 (v.read (Elt Ideal) (v.writes (Elt Ideal) f
      (⟨Rect.unit ![3, 0] ![1, 1024] inb3, k0_pay1 (F := Ideal) (k0_pay10 (View.ld (iblk m c 0 t) (Rect.unit ![0, 0] ![512, 1024] i0))
          (View.ld (iblk m c 1 t) (Rect.unit ![0, 0] ![512, 2816] i1)) w6 (View.ld (iblk m c 2 t) (Rect.unit ![0, 0] ![1, 1024] i2))
          (View.ld (iblk m c 3 t) (Rect.unit ![0, 0] ![512, 1024] i3))) l3⟩
        :: ⟨Rect.unit ![2, 0] ![1, 1024] inb2, k0_pay9 (F := Ideal) (View.ld (iblk m c 0 t) (Rect.unit ![0, 0] ![512, 1024] i0))
          (View.ld (iblk m c 1 t) (Rect.unit ![0, 0] ![512, 2816] i1)) w6 (View.ld (iblk m c 2 t) (Rect.unit ![0, 0] ![1, 1024] i2))
          (View.ld (iblk m c 3 t) (Rect.unit ![0, 0] ![512, 1024] i3)) l2⟩ :: L)))
      (rows X A W T G (512 * t.val + 512)) := by
  refine ((hL.storeRow v f L 2 inb2 (pay9 ((iblk0 H t).loadAll i0) ((iblk1 H t).loadAll16 i1) h6 ((iblk2 H t).loadAll i2)
    ((iblk3 H t).loadAll i3) h2)).storeRow v f _ 3 inb3 (pay1 ((iblk0 H t).loadAll i0) ((iblk1 H t).loadAll16 i1) h6
    ((iblk2 H t).loadAll i2) ((iblk3 H t).loadAll i3) h3)).congr fun r j hr hj => ?_
  simp only [dg_shift, loss_shift, rows]
  by_cases h3' : r = 3
  · subst h3'
    norm_num [Finset.sum_range_add, mul_add]
  by_cases h2' : r = 2
  · subst h2'
    norm_num [Finset.sum_range_add]
  simp only [h2', h3', if_false]

/-- The large result's block at a point, -/
theorem dx2_block (t : Fin cfg0.N) {w6 : Vec Ideal S2816x1024 .bf16} (h6 : Rep2 w6 W) (i0 i1 i2 i3) :
    Rep2 (k0_pay2 (F := Ideal) (k0_pay5 (View.ld (iblk m c 0 t) (Rect.unit ![0, 0] ![512, 1024] i0))
          (View.ld (iblk m c 1 t) (Rect.unit ![0, 0] ![512, 2816] i1)) w6)
        (k0_pay6 (View.ld (iblk m c 0 t) (Rect.unit ![0, 0] ![512, 1024] i0))
          (View.ld (iblk m c 1 t) (Rect.unit ![0, 0] ![512, 2816] i1)) w6)
        (k0_pay8 (View.ld (iblk m c 0 t) (Rect.unit ![0, 0] ![512, 1024] i0))
          (View.ld (iblk m c 1 t) (Rect.unit ![0, 0] ![512, 2816] i1)) w6 (View.ld (iblk m c 2 t) (Rect.unit ![0, 0] ![1, 1024] i2))
          (View.ld (iblk m c 3 t) (Rect.unit ![0, 0] ![512, 1024] i3)))
        (View.ld (iblk m c 2 t) (Rect.unit ![0, 0] ![1, 1024] i2))) fun r j => dx2 X A W T G (512 * t.val + r) j :=
  (pay2 ((iblk0 H t).loadAll i0) ((iblk1 H t).loadAll16 i1) h6 ((iblk2 H t).loadAll i2) ((iblk3 H t).loadAll i3)).congr
    fun _ _ _ _ => dx2_shift ..

theorem out_A4 (t : Fin cfg0.N) (hc) :
    Rep2 (out0_A_4 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) hc (iblk m c 0 t) (iblk m c 1 t) (iblk m c 2 t) (iblk m c 3 t) (V m c main_v2))
      fun r j => dx2 X A W T G (512 * t.val + r) j := by
  unfold out0_A_4 kernelRun0_A
  dsimp only
  sl_unfold_words
  simp only [View.readAt_eq_ld, (hs0_0 t).read_unread, (hs0_1 t).read_unread, (hs0_2 t).read_unread, (hs0_3 t).read_unread,
    (hs0_5 t).read_unread, (Memref.isWhole_whole _).read_unread]
  exact (dx2_block H t ((v2_rep H).copied16 _ _) _ _ _ _).storeAll16 _ _ _ _

theorem out_B4 (t : Fin cfg0.N) (hc) (xo5) {xs0} (hw : Rep2 xs0 W) :
    Rep2 (out0_B_4 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) hc (iblk m c 0 t) (iblk m c 1 t) (iblk m c 2 t) (iblk m c 3 t) xo5 xs0 (V m c main_v2))
      fun r j => dx2 X A W T G (512 * t.val + r) j := by
  unfold out0_B_4 kernelRun0_B
  dsimp only
  sl_unfold_words
  simp only [View.readAt_eq_ld, (hs0_0 t).read_unread, (hs0_1 t).read_unread, (hs0_2 t).read_unread, (hs0_3 t).read_unread,
    (hs0_5 t).read_unread, (Memref.isWhole_whole _).read_unread]
  exact (dx2_block H t (hw.loadAll16 _) _ _ _ _).storeAll16 _ _ _ _

theorem out_A5 (t : Fin cfg0.N) (ht : t.val = 0) (hc) :
    Rep2 (out0_A_5 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) hc (iblk m c 0 t) (iblk m c 1 t) (iblk m c 2 t) (iblk m c 3 t) (V m c main_v2)) (rows X A W T G (512 * t.val + 512)) := by
  unfold out0_A_5 kernelRun0_A
  dsimp only
  sl_unfold_words
  simp only [View.readAt_eq_ld, (hs0_0 t).read_unread, (hs0_1 t).read_unread, (hs0_2 t).read_unread, (hs0_3 t).read_unread,
    (hs0_5 t).read_unread, (Memref.isWhole_whole _).read_unread]
  have h0 := fun {sig : RefSig} {κ : Kind} {sp : Space} (v : View sig κ sp S8x1024 .f32) (inb) =>
    Rep2.congr (Y := rows X A W T G (512 * t.val)) ((Rep2.splat lit_zero).storeAll v v.junk [] inb (w := k0_pay3 (F := Ideal)))
      fun r j _ _ => by simp [rows, ht]
  refine rows_step H t _ _ _ ((v2_rep H).copied16 _ _) (h0 _ _) (Rep2.loadCovRow _ _ (h0 _ _) 2 _) ?_ _ _ _ _ _ _
  refine (Rep2.loadCovRow _ _ ((h0 _ _).storeRow _ _ _ 2 _ (pay9 ((iblk0 H t).loadAll _) ((iblk1 H t).loadAll16 _)
    ((v2_rep H).copied16 _ _) ((iblk2 H t).loadAll _) ((iblk3 H t).loadAll _) (Rep2.loadCovRow _ _ (h0 _ _) 2 _))) 3 _).congr
    fun r j _ _ => ?_
  simp

theorem out_B5 (t : Fin cfg0.N) (hc) {xo5 xs0} (hw : Rep2 xs0 W) (ho : Rep2 xo5 (rows X A W T G (512 * t.val))) :
    Rep2 (out0_B_5 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) hc (iblk m c 0 t) (iblk m c 1 t) (iblk m c 2 t) (iblk m c 3 t) xo5 xs0 (V m c main_v2))
      (rows X A W T G (512 * t.val + 512)) := by
  unfold out0_B_5 kernelRun0_B
  dsimp only
  sl_unfold_words
  simp only [View.readAt_eq_ld, (hs0_0 t).read_unread, (hs0_1 t).read_unread, (hs0_2 t).read_unread, (hs0_3 t).read_unread,
    (hs0_5 t).read_unread, (Memref.isWhole_whole _).read_unread]
  refine rows_step H t _ _ _ (hw.loadAll16 _) ?_ (ho.loadRow 2 _) (ho.loadRow 3 _) _ _ _ _ _ _
  rwa [View.writes_nil, (hs0_5 t).read_unread]

/-- The weight the first point copies into its scratch. -/
theorem sout_A (t : Fin cfg0.N) (hc) : Rep2 (sout0_A_0 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) hc (iblk m c 0 t) (iblk m c 1 t) (iblk m c 2 t) (iblk m c 3 t) (V m c main_v2)) W := fun i => by
  unfold sout0_A_0 kernelRun0_A
  dsimp only
  sl_unfold_words
  exact (Rep2.readCopied16 _ _ (v2_rep H)) i

/-- After point `n`: the large result's block, the small result's sums so far, and the weight in the scratch. -/
def Left (X A W T : ℕ → ℕ → ℝ) (G : ℕ → ℝ) (n : ℕ) (o : Vec Ideal S512x1024 .bf16 × Vec Ideal S8x1024 .f32 × Vec Ideal S2816x1024 .bf16) : Prop :=
  Rep2 o.1 (fun r j => dx2 X A W T G (512 * n + r) j) ∧ Rep2 o.2.1 (rows X A W T G (512 * n + 512)) ∧ Rep2 o.2.2 W

omit H in
theorem Left.mk' {n : ℕ} {o4 : Vec Ideal S512x1024 .bf16} {o5 : Vec Ideal S8x1024 .f32} {o6 : Vec Ideal S2816x1024 .bf16}
    (h4 : Rep2 o4 fun r j => dx2 X A W T G (512 * n + r) j) (h5 : Rep2 o5 (rows X A W T G (512 * n + 512))) (h6 : Rep2 o6 W) :
    Left X A W T G n (o4, o5, o6) := ⟨h4, h5, h6⟩

theorem outs_A (t : Fin cfg0.N) (ht : t.val = 0) : Left X A W T G t.val (outsAt0 m c t.val t.isLt) := by
  rw [outsAt0_A m c t (by rw [ht])]
  exact Left.mk' (out_A4 H t _) (out_A5 H t ht _) (sout_A H t _)

theorem outs_B (t : Fin cfg0.N) (ht : ¬t.val % 8 = 0)
    (ih : Left X A W T G (t.val - 1) (outsAt0 m c (t.val - 1) (Nat.lt_of_le_of_lt (Nat.sub_le _ _) t.isLt))) :
    Left X A W T G t.val (outsAt0 m c t.val t.isLt) := by
  have e : 512 * (t.val - 1) + 512 = 512 * t.val := by omega
  obtain ⟨-, h5, hw⟩ := ih
  rw [e] at h5
  rw [outsAt0_B m c t ht]
  exact Left.mk' (out_B4 H t _ _ hw) (out_B5 H t _ hw h5) hw

theorem outs : ∀ (n : ℕ) (h : n < cfg0.N), Left X A W T G n (outsAt0 m c n h)
  | 0, h => outs_A H ⟨0, h⟩ rfl
  | n + 1, h => outs_B H ⟨n + 1, h⟩ (by have hN : cfg0.N = 8 := N_0; dsimp only; omega) (outs n (Nat.lt_of_succ_lt h))

/-- The large result after the run. -/
theorem final4 : Rep2 ((dats m 0 c).arrAt 4 cfg0.N) (dx2 X A W T G) := by
  have h : (dats m 0 c).arrAt 4 cfg0.N = Rep2.arr 4096 1024 (dx2 X A W T G) := by
    refine (dats m 0 c).arrAt_eq_of_covers 4 _ (by decide +kernel) fun t hf y => ?_
    blk_simp
    rw [after0_4, (outs H t.val t.isLt).1]
    unfold Rep2.arr
    blk_simp [index4]
    rw [Nat.mul_comm]
  rw [h]
  exact Rep2.arr_rep _

/-- The small result after the run. -/
theorem final5 : Rep2 ((dats m 0 c).arrAt 5 cfg0.N) (rows X A W T G 4096) := by
  have h : (dats m 0 c).arrAt 5 cfg0.N = Rep2.arr 8 1024 (rows X A W T G 4096) := by
    refine (dats m 0 c).arrAt_eq_of_after_last 5 t0_7 (by decide +kernel) _ fun j => ?_
    blk_simp
    rw [after0_5, (outs H _ _).2.1]
    rfl
  rw [h]
  exact Rep2.arr_rep _

end Run

end Cert.DownValue

end
-- ==== Proof.DownRef.lean ====
/- The derivative of the reference's last layer, read over real numbers: its two results hold the same
   tables as the kernel's. -/
module

public import proofs.«01_k».proof.Proof.Host
public import proofs.«01_k».proof.Proof.Down
public import proofs.«01_k».proof.Proof.Gen.DownRefIdeal.Run
public import proofs.«01_k».proof.Proof.Gen.DownRefIdeal.Read

@[expose] public section

set_option maxRecDepth 16384

noncomputable section

namespace Cert.DownValue

open Idealize.ShloMosaic Idealize.ShloMosaic.ValueIdx Cert.Reals Cert.DownRefIdeal.Read

section Ref
variable {x0 x4 : FVec Ideal ⟨2, ![4096, 1024]⟩ .f32} {x1 : FVec Ideal ⟨2, ![4096, 2816]⟩ .f32}
  {x2' : FVec Ideal ⟨2, ![2816, 1024]⟩ .f32} {x3 : FVec Ideal ⟨1, ![1024]⟩ .f32}
  {X A W T : ℕ → ℕ → ℝ} {G : ℕ → ℝ}
  (h0 : Rep2 x0 X) (h1 : Rep2 x1 A) (h2 : Rep2 x2' W) (h3 : Rep1 x3 G) (h4 : Rep2 x4 T)
include h0 h1 h2

theorem ref1 : Rep2 (val_main_v1 (F := Ideal) x0 x1 x2') (x2 X A W) := h0.add (h1.hdot h2 _)

theorem ref8 : Rep2 (val_main_v8 (F := Ideal) x0 x1 x2') fun r _ => ms X A W r :=
  (((((ref1 h0 h1 h2).mul (ref1 h0 h1 h2)).hrowSum (.lit lit_zero) _ _).alongRows _).hdiv ((Rep0.lit lit_1024).fill2 _)
    fun _ _ _ _ => by norm_num).add ((Rep0.lit lit_eps).fill2 _)

theorem ref9 : Rep2 (val_main_v9 (F := Ideal) x0 x1 x2') fun r _ => inv X A W r :=
  (ref8 h0 h1 h2).hrsqrt fun r _ _ _ => ms_pos X A W r

/-- The derivative of the reciprocal root: minus half of it over the mean square. -/
theorem ref12 : Rep2 (val_main_v12 (F := Ideal) x0 x1 x2') fun r _ => -(1 / 2) * (inv X A W r / ms X A W r) :=
  ((Rep0.lit lit_neg_half).fill2 _).mul ((ref9 h0 h1 h2).hdiv (ref8 h0 h1 h2) fun r _ _ _ => (ms_pos X A W r).ne')

theorem ref14 : Rep2 (val_main_v14 (F := Ideal) x0 x1 x2') (nrm X A W) := (ref1 h0 h1 h2).mul ((ref9 h0 h1 h2).hspreadCol _)

include h3 h4

theorem ref18 : Rep2 (val_main_v18 (F := Ideal) x0 x1 x2' x3 x4) (err X A W T G) :=
  ((ref14 h0 h1 h2).mul ((h3.alongCols _).hspreadRow _)).sub h4

theorem ref26 : Rep0 (val_main_v26 (F := Ideal) x0 x1 x2' x3 x4) (1 / 2 * ∑ r ∈ Finset.range 4096, lossTerm X A W T G r) :=
  (Rep0.lit lit_half).mul (((((ref18 h0 h1 h2 h3 h4).mul (ref18 h0 h1 h2 h3 h4)).hrowSum (.lit lit_zero) _ _).div
    ((Rep0.lit lit_1024).fill1 _) fun _ _ => by norm_num).hsum (.lit lit_zero) _ _)

/-- The cotangent of the network's output. -/
theorem ref32 : Rep2 (val_main_v32 (F := Ideal) x0 x1 x2' x3 x4) (dy X A W T G) :=
  Rep2.congr ((((((Rep0.lit lit_half).mul (.lit lit_one)).fill1 _).div ((Rep0.lit lit_1024).fill1 _) fun _ _ => by norm_num).alongRows _).mul
    (((Rep0.lit lit_two).fill2 _).mul (ref18 h0 h1 h2 h3 h4))) fun r j _ _ => by unfold dy; ring

/-- The gain's gradient, one number to a column. -/
theorem ref54 : Rep2 (val_main_v54 (F := Ideal) x0 x1 x2' x3 x4) fun _ j => ∑ r ∈ Finset.range 4096, dgTerm X A W T G j r :=
  Rep2.congr (((((((ref14 h0 h1 h2).mul (ref32 h0 h1 h2 h3 h4)).hcolSum (.lit lit_zero) _ _).asRow _).hcolSum (.lit lit_zero) _ _).asRow _))
    fun _ j _ _ => (Finset.sum_range_one _).trans (Finset.sum_congr rfl fun r _ => mul_comm _ _)

/-- The cotangent of the normed row. -/
theorem ref37 : Rep2 (val_main_v37 (F := Ideal) x0 x1 x2' x3 x4) fun r j => dy X A W T G r j * G j :=
  (ref32 h0 h1 h2 h3 h4).mul ((h3.alongCols _).hspreadRow _)

/-- The mean square's cotangent, spread over the row. -/
theorem ref48 : Rep2 (val_main_v48 (F := Ideal) x0 x1 x2' x3 x4) fun r _ =>
    (∑ k ∈ Finset.range 1024, x2 X A W r k * (dy X A W T G r k * G k)) * (-(1 / 2) * (inv X A W r / ms X A W r)) / 1024 :=
  Rep2.congr (((((((((ref1 h0 h1 h2).mul (ref37 h0 h1 h2 h3 h4)).hrowSum (.lit lit_zero) _ _).asCol _).mul (ref12 h0 h1 h2)).hdiv
    ((Rep0.lit lit_1024).fill2 _) fun _ _ _ _ => by norm_num).hrowSum (.lit lit_zero) _ _).alongRows _)) fun _ _ _ _ => Finset.sum_range_one _

/-- The first result: the cotangent of the residual stream. -/
theorem ref58 : Rep2 (val_main_v58 (F := Ideal) x0 x1 x2' x3 x4) (dx2 X A W T G) :=
  Rep2.congr (((((ref37 h0 h1 h2 h3 h4).mul ((ref9 h0 h1 h2).hspreadCol _)).add
    ((ref1 h0 h1 h2).mul (ref48 h0 h1 h2 h3 h4))).add ((ref48 h0 h1 h2 h3 h4).mul (ref1 h0 h1 h2))).trunc _) fun r j _ _ => by
    have hm := ms_pos X A W r
    have hs : ms X A W r = (inv X A W r * inv X A W r)⁻¹ := by
      unfold inv
      rw [← mul_inv, inv_inv, Real.mul_self_sqrt hm.le]
    have hi : inv X A W r ≠ 0 := inv_ne_zero (Real.sqrt_pos.mpr hm).ne'
    have hn : ∑ k ∈ Finset.range 1024, dy X A W T G r k * G k * nrm X A W r k
        = (∑ k ∈ Finset.range 1024, x2 X A W r k * (dy X A W T G r k * G k)) * inv X A W r := by
      rw [Finset.sum_mul]
      exact Finset.sum_congr rfl fun k _ => by unfold nrm; ring
    unfold dx2
    rw [hn, hs, nrm]
    field_simp
    ring

/-- The second result: zeros, the gain's gradient, the loss, zeros. -/
theorem ref57 : Rep2 (val_main_v57 (F := Ideal) x0 x1 x2' x3 x4) (rows X A W T G 4096) := fun i => by
  have zero1 : Rep2 (val_main_v53 (F := Ideal)) fun _ _ => 0 := (Rep0.lit lit_zero).fill2 _
  have zero4 : Rep2 (val_main_v56 (F := Ideal)) fun _ _ => 0 := (Rep0.lit lit_zero).fill2 _
  have loss : Rep2 (val_main_v55 (F := Ideal) x0 x1 x2' x3 x4) fun _ _ => _ := (ref26 h0 h1 h2 h3 h4).fill2 _
  have hi : (i 0).val < 8 := (i 0).isLt
  unfold val_main_v57 rows
  rcases (by omega : (i 0).val = 0 ∨ (i 0).val = 1 ∨ (i 0).val = 2 ∨ (i 0).val = 3 ∨ 4 ≤ (i 0).val) with h | h | h | h | h
  · refine (zero1.stackPiece _ _ 0 (by simp) rfl 0 rfl i (by omega) (by omega)).trans (congrArg Real.toEReal ?_)
    rw [if_neg (by omega), if_neg (by omega)]
  · refine (zero1.stackPiece _ _ 1 (by simp) rfl 1 rfl i (by omega) (by omega)).trans (congrArg Real.toEReal ?_)
    rw [if_neg (by omega), if_neg (by omega)]
  · refine ((ref54 h0 h1 h2 h3 h4).stackPiece _ _ 2 (by simp) rfl 2 rfl i (by omega) (by omega)).trans (congrArg Real.toEReal ?_)
    rw [if_pos h]
  · refine (loss.stackPiece _ _ 3 (by simp) rfl 3 rfl i (by omega) (by omega)).trans (congrArg Real.toEReal ?_)
    rw [if_neg (by omega), if_pos h]
  · refine (zero4.stackPiece _ _ 4 (by simp) rfl 4 rfl i (by omega) (by omega)).trans (congrArg Real.toEReal ?_)
    rw [if_neg (by omega), if_neg (by omega)]

end Ref

end Cert.DownValue
-- ==== Proof.DownClaim.lean ====
/- The claims about the last layer's backward call: the reference's frame, and that kernel and reference
   compute the same two arrays from finite arguments. -/
module

public import proofs.«01_k».proof.Proof.DownRef
public import proofs.«01_k».proof.Proof.Gen.Pre_finite_down
public import Idealize.ShloMosaic.Lib.Quiescent

@[expose] public section

set_option maxRecDepth 16384

noncomputable section

namespace Cert.DownValue

open Idealize.ShloMosaic Idealize.ShloMosaic.TcCoe Idealize.SL.Sem Cert.Reals

/-- The reference runs and leaves its arguments and counters alone. -/
theorem frame_ref (m ρ) : θ_run (Cert.DownRefIdeal.defs (F := Ideal)) (onTc (τ := Cert.DownRefIdeal.τ) (Cert.DownRefIdeal.main (F := Ideal)))
    ⟨m, fun _ => 0, ρ⟩ fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0 :=
  (θ_run Cert.DownRefIdeal.defs _ _).mono (fun r h => ⟨fun c => (h c).2.2, sem_eq_zero_of_no_sems (by decide) r.2⟩)
    (Cert.DownRefIdeal.Value.run m ρ)

/-- From finite arguments the kernel's two arrays are the reference's. -/
theorem algebraic : Cert.algebraic_DownIdeal_DownRefIdeal_pre_finite_down := fun m g m' g' hpre hargs => by
  have H : ∀ c, Holds m c _ _ _ _ _ := fun c =>
    ⟨finite2 _ (hpre c).1, finite2 _ (hpre c).2.1, finite2 _ (hpre c).2.2.1, finite1 _ (hpre c).2.2.2.1, finite2 _ (hpre c).2.2.2.2⟩
  refine ⟨_, _, Cert.DownIdeal.Value.run_blocks m g, (θ_run Cert.DownRefIdeal.defs _ _).mono (fun r h c => ?_) (Cert.DownRefIdeal.Value.run m' g')⟩
  obtain ⟨a0, a1, a2, a3, a4⟩ := hargs c
  refine ⟨(h c).1.trans ?_, (h c).2.1.trans ?_, (h c).2.2⟩
  · rw [Cert.DownRefIdeal.Read.val_main_v58_eq, a0, a1, a2, a3, a4]
    exact (ref58 (H c).x1 (H c).act (H c).w (H c).g (H c).t).eq (final4 (H c)) fun _ _ _ _ => rfl
  · rw [Cert.DownRefIdeal.Read.val_main_v57_eq, a0, a1, a2, a3, a4]
    exact (ref57 (H c).x1 (H c).act (H c).w (H c).g (H c).t).eq (final5 (H c)) fun _ _ _ _ => rfl

end Cert.DownValue
-- ==== Proof.FfnSpec.lean ====
/- The feed-forward block's backward call (`ffn_bwd`) over real numbers: what it computes, row by row. -/
module

public import proofs.«01_k».proof.Proof.Masked

@[expose] public section

noncomputable section

namespace Cert.FfnValue

open Cert.Reals
open scoped BigOperators

/-- What the call reads, as tables: the residual stream after the mixer, the cotangent of the stream after the block, the
    projected rows and the filtered gates that the forward saved, the weights of the two products, the filter's taps and
    the norm's gain. -/
structure Tabs where
  X : ℕ → ℕ → ℝ
  DX : ℕ → ℕ → ℝ
  U : ℕ → ℕ → ℝ
  C : ℕ → ℕ → ℝ
  WU : ℕ → ℕ → ℝ
  WD : ℕ → ℕ → ℝ
  WF : ℕ → ℕ → ℝ
  G : ℕ → ℝ

namespace Tabs
variable (S : Tabs)

/-- The cotangent of the gated rows. -/
def da (r j : ℕ) : ℝ := ∑ k ∈ Finset.range 1024, S.DX r k * S.WD j k
/-- The cotangent of the values. -/
def dv (r j : ℕ) : ℝ := S.da r j * (S.C r j * sigm (S.C r j))
/-- The cotangent of the filtered gates. -/
def dc (r j : ℕ) : ℝ := S.da r j * S.U r (2816 + j) * (sigm (S.C r j) * (1 + S.C r j * (1 - sigm (S.C r j))))
/-- The cotangent of the gates: the filter turned round. -/
def dg (r j : ℕ) : ℝ := S.WF 2 j * S.dc r j + S.WF 1 j * S.dc (r + 1) j + S.WF 0 j * S.dc (r + 2) j
/-- The cotangent of the projected rows: gates, then values. -/
def du (r j : ℕ) : ℝ := if j < 2816 then S.dg r j else S.dv r (j - 2816)
/-- The normed stream's cotangent from the first `l` gates and the first `l` values, -/
def part (l r j : ℕ) : ℝ := (∑ k ∈ Finset.range l, S.dg r k * S.WU j k) + ∑ k ∈ Finset.range l, S.dv r k * S.WU j (2816 + k)
/-- and from all of them. -/
def dh (r j : ℕ) : ℝ := ∑ k ∈ Finset.range 5632, S.du r k * S.WU j k
/-- The mean square of a row of the stream, with the norm's small number. -/
def ms (r : ℕ) : ℝ := (∑ k ∈ Finset.range 1024, S.X r k * S.X r k) / 1024 + eps
/-- The reciprocal root of that. -/
def rs (r : ℕ) : ℝ := (Real.sqrt (S.ms r))⁻¹
/-- The normed stream. -/
def nx (r j : ℕ) : ℝ := S.X r j * S.rs r
/-- Its cotangent. -/
def dn (r j : ℕ) : ℝ := S.dh r j * S.G j
/-- The stream's cotangent. -/
def gx (r j : ℕ) : ℝ := S.DX r j + S.rs r * (S.dn r j - S.nx r j * ((∑ k ∈ Finset.range 1024, S.dn r k * S.nx r k) / 1024))

theorem ms_pos (r : ℕ) : 0 < S.ms r :=
  add_pos_of_nonneg_of_pos (div_nonneg (Finset.sum_nonneg fun k _ => mul_self_nonneg _) (by norm_num)) eps_pos

theorem part_all (r j : ℕ) : S.part 2816 r j = S.dh r j := by
  unfold part dh
  rw [show 5632 = 2816 + 2816 from rfl, Finset.sum_range_add]
  refine congrArg₂ (· + ·) (Finset.sum_congr rfl fun k hk => ?_) (Finset.sum_congr rfl fun k _ => ?_)
  · unfold du
    rw [if_pos (Finset.mem_range.mp hk)]
  · unfold du
    rw [if_neg (by omega), Nat.add_sub_cancel_left]
theorem part_zero (r j : ℕ) : S.part 0 r j = 0 := by
  unfold part
  rw [Finset.sum_range_zero, Finset.sum_range_zero, add_zero]
theorem part_add (l n r j : ℕ) : S.part (l + n) r j = S.part l r j + (∑ k ∈ Finset.range n, S.dg r (l + k) * S.WU j (l + k))
    + ∑ k ∈ Finset.range n, S.dv r (l + k) * S.WU j (2816 + (l + k)) := by
  unfold part
  rw [Finset.sum_range_add, Finset.sum_range_add]
  ring

/-- Row `q`'s term of the small result of width 1024: the norm's gain in row 1. -/
def tm (q r j : ℕ) : ℝ := if r = 1 then S.dh q j * S.nx q j else 0
/-- Row `q`'s term of the small result of width 2816: the three taps and the offset. -/
def tf (q r j : ℕ) : ℝ :=
  if r = 0 then S.dc (q + 2) j * S.U q j else if r = 1 then S.dc (q + 1) j * S.U q j else if r = 2 then S.dc q j * S.U q j
  else if r = 3 then S.dc q j else 0
/-- The two sums over the rows from `o` on. -/
def sm (o r j : ℕ) : ℝ := ∑ q ∈ Finset.range (4096 - o), S.tm (o + q) r j
def sf (o r j : ℕ) : ℝ := ∑ q ∈ Finset.range (4096 - o), S.tf (o + q) r j

/-- A block of 256 rows put before the rows from `o + 256` on. -/
theorem sum_split (f : ℕ → ℝ) {o : ℕ} (h : o + 256 ≤ 4096) :
    ∑ q ∈ Finset.range (4096 - o), f (o + q)
      = (∑ q ∈ Finset.range (4096 - (o + 256)), f (o + 256 + q)) + ∑ q ∈ Finset.range 256, f (o + q) := by
  rw [show 4096 - o = 256 + (4096 - (o + 256)) by omega, Finset.sum_range_add, add_comm]
  exact congrArg₂ (· + ·) (Finset.sum_congr rfl fun q _ => by rw [add_assoc]) rfl

theorem sm_step {T : ℕ} (hT : T < 16) (r j : ℕ) :
    S.sm (256 * T) r j = S.sm (256 * (T + 1)) r j + ∑ q ∈ Finset.range 256, S.tm (256 * T + q) r j :=
  sum_split (fun q => S.tm q r j) (by omega)
theorem sf_step {T : ℕ} (hT : T < 16) (r j : ℕ) :
    S.sf (256 * T) r j = S.sf (256 * (T + 1)) r j + ∑ q ∈ Finset.range 256, S.tf (256 * T + q) r j :=
  sum_split (fun q => S.tf q r j) (by omega)
theorem sm_last (r j : ℕ) : S.sm (256 * (15 + 1)) r j = 0 := Finset.sum_eq_zero fun q hq => absurd (Finset.mem_range.mp hq) (by omega)
theorem sf_last (r j : ℕ) : S.sf (256 * (15 + 1)) r j = 0 := Finset.sum_eq_zero fun q hq => absurd (Finset.mem_range.mp hq) (by omega)

/-- Where the stream's cotangent is zero the filtered gates' is. -/
theorem dc_zero {r : ℕ} (h : ∀ k, S.DX r k = 0) (j : ℕ) : S.dc r j = 0 := by
  have : S.da r j = 0 := Finset.sum_eq_zero fun k _ => by rw [h, zero_mul]
  unfold dc
  rw [this, zero_mul, zero_mul]

end Tabs

end Cert.FfnValue

end
-- ==== Proof.FfnTile.lean ====
/- One tile of the feed-forward block's backward call: the tables its blocks hold, and the steps that 256 columns of it
   add to each result. -/
module

public import proofs.«01_k».proof.Defs
public import proofs.«01_k».proof.Proof.FfnSpec
public import proofs.«01_k».proof.Proof.Gen.FfnIdeal.Frame

@[expose] public section

set_option maxRecDepth 16384

noncomputable section

namespace Cert.FfnValue

open Idealize.ShloMosaic Idealize.ShloMosaic.ValueIdx Cert.Reals Cert.FfnIdeal Cert.FfnIdeal.Gen
open scoped BigOperators

variable {S : Tabs} {T l m : ℕ}

/-- The blocks of tile `T` and the two weights. -/
structure Tile (S : Tabs) (T : ℕ) (x0 : Vec Ideal S256x1024 .bf16) (x1 : Vec Ideal S256x5632 .bf16) (x2 : Vec Ideal S256x2816 .bf16)
    (x3 : Vec Ideal S256x1024 .f32) (x4 : Vec Ideal S1x1024 .f32) (x5 : Vec Ideal S8x2816 .f32) (wu : Vec Ideal S1024x5632 .bf16)
    (wd : Vec Ideal S2816x1024 .bf16) : Prop where
  dx : Rep2 x0 fun r j => S.DX (256 * T + r) j
  up : Rep2 x1 fun r j => S.U (256 * T + r) j
  gc : Rep2 x2 fun r j => S.C (256 * T + r) j
  x : Rep2 x3 fun r j => S.X (256 * T + r) j
  g : Rep2 x4 fun _ j => S.G j
  wf : Rep2 x5 S.WF
  wu : Rep2 wu S.WU
  wd : Rep2 wd S.WD

namespace Tile
variable {x0 : Vec Ideal S256x1024 .bf16} {x1 : Vec Ideal S256x5632 .bf16} {x2 : Vec Ideal S256x2816 .bf16} {x3 : Vec Ideal S256x1024 .f32}
  {x4 : Vec Ideal S1x1024 .f32} {x5 : Vec Ideal S8x2816 .f32} {wu : Vec Ideal S1024x5632 .bf16} {wd : Vec Ideal S2816x1024 .bf16}
  (B : Tile S T x0 x1 x2 x3 x4 x5 wu wd)
include B

/-- The gated rows' cotangent. -/
theorem da {i0 i1 h} : Rep2 (matmul (F := Ideal) (φ₁ := .bf16) (φ₂ := .bf16) dot_S256x1024_S256x1024_S256x256_1_1_0_0_n_n none (shapeCast S256x1024 (View.ld x0 (Rect.unit ![0, 0] ![256, 1024] i0) : FVec Ideal S256x1024 .bf16) h)
    (View.ld wd (Rect.unit ![l, 0] ![256, 1024] i1) : FVec Ideal S256x1024 .bf16) (constant S256x256 .f32 0x00000000#32)) fun r j => S.da (256 * T + r) (l + j) :=
  ((((B.dx.loadAll16 i0).cast h).dotNT (B.wd.load16 l 256 1024 0 i1) none)).congr fun r j _ _ =>
    Finset.sum_congr rfl fun k _ => by rw [Nat.zero_add]
/-- A stretch of the gates, -/
theorem gate {i h h'} : Rep2 (extf (F := Ideal) (φ := .bf16) .f32 (shapeCast S256x256 (View.ld x1 (Rect.unit ![0, l] ![256, 256] i) : FVec Ideal S256x256 .bf16) h) h')
    fun r j => S.U (256 * T + r) (l + j) :=
  Rep2.ext (φ := .bf16) ((B.up.loadCols16 256 l i).cast h) h'
/-- of the values, -/
theorem val (hm : m = 2816 + l) {i h h'} : Rep2 (extf (F := Ideal) (φ := .bf16) .f32 (shapeCast S256x256 (View.ld x1 (Rect.unit ![0, m] ![256, 256] i) : FVec Ideal S256x256 .bf16) h) h')
    fun r j => S.U (256 * T + r) (2816 + (l + j)) :=
  B.gate.congr fun r j _ _ => by rw [hm, Nat.add_assoc]
/-- of the filtered gates, -/
theorem conv {i h h'} : Rep2 (extf (F := Ideal) (φ := .bf16) .f32 (shapeCast S256x256 (View.ld x2 (Rect.unit ![0, l] ![256, 256] i) : FVec Ideal S256x256 .bf16) h) h')
    fun r j => S.C (256 * T + r) (l + j) :=
  Rep2.ext (φ := .bf16) ((B.gc.loadCols16 256 l i).cast h) h'
/-- and of a row of the filter. -/
theorem tap (k : ℕ) {i h} : Rep2 (shapeCast S1x256 (View.ld x5 (Rect.unit ![k, l] ![1, 256] i) : Vec Ideal S1x256 .f32) h) fun _ j => S.WF k (l + j) :=
  ((B.wf.load k 1 256 l i).cast h).congr fun r j hr _ => by rw [Nat.lt_one_iff.mp hr, Nat.add_zero]
end Tile

section Body
variable {da v g dc p q : FVec Ideal S256x256 .f32} {w0 w1 w2 : FVec Ideal S1x256 .f32}

theorem dv_rep (ha : Rep2 da fun r j => S.da (256 * T + r) (l + j)) (hg : Rep2 g fun r j => S.C (256 * T + r) (l + j)) :
    Rep2 (mulf da (mulf g (logistic g))) fun r j => S.dv (256 * T + r) (l + j) := ha.mul (hg.mul hg.logistic)
theorem dc_rep (ha : Rep2 da fun r j => S.da (256 * T + r) (l + j)) (hv : Rep2 v fun r j => S.U (256 * T + r) (2816 + (l + j)))
    (hg : Rep2 g fun r j => S.C (256 * T + r) (l + j)) :
    Rep2 (mulf (mulf da v) (mulf (logistic g) (addf (broadcast S256x256 (Scalar.ofBits (F := Ideal) .f32 0x3F800000#32))
      (mulf g (subf (broadcast S256x256 (Scalar.ofBits (F := Ideal) .f32 0x3F800000#32)) (logistic g)))))) fun r j => S.dc (256 * T + r) (l + j) :=
  (ha.mul hv).mul (hg.logistic.mul ((Rep2.splat lit_one).add (hg.mul ((Rep2.splat lit_one).sub hg.logistic))))
theorem dg_rep {h} (hc : Rep2 dc fun r j => S.dc (256 * T + r) (l + j)) (hp : Rep2 p fun r j => S.dc (256 * T + r + 1) (l + j))
    (hq : Rep2 q fun r j => S.dc (256 * T + r + 2) (l + j)) (h2 : Rep2 w2 fun _ j => S.WF 2 (l + j)) (h1 : Rep2 w1 fun _ j => S.WF 1 (l + j))
    (h0 : Rep2 w0 fun _ j => S.WF 0 (l + j)) :
    Rep2 (addf (addf (mulf (broadcastTo S256x256 w2 h) dc) (mulf (broadcastTo S256x256 w1 h) p)) (mulf (broadcastTo S256x256 w0 h) q))
      fun r j => S.dg (256 * T + r) (l + j) :=
  (((h2.spreadRow h).mul hc).add ((h1.spreadRow h).mul hp)).add ((h0.spreadRow h).mul hq)

variable {sig : RefSig} {κ : Kind} {sp : Space}

/-- The buffer of the filtered gates' cotangent seen `k` rows on: its last rows come from the tile after. -/
theorem shift_rep (k : ℕ) (hk : k ≤ 8) {v : View sig κ sp S264x256 .f32} {f : v.ty.Contents (Elt Ideal)} {L : List (View.Piece (Elt Ideal) S264x256 .f32)}
    {i0 i1 i h h'} {c : FVec Ideal S8x256 .f32} (hc : Rep2 dc fun r j => S.dc (256 * T + r) (l + j)) (hd : Rep2 c fun r j => S.dc (256 * (T + 1) + r) (l + j)) :
    Rep2 (View.ld (v.read (Elt Ideal) (v.writes (Elt Ideal) f (⟨Rect.unit ![256, 0] ![8, 256] i1, shapeCast S8x256 c h⟩
      :: ⟨Rect.unit ![0, 0] ![256, 256] i0, shapeCast S256x256 dc h'⟩ :: L))) (Rect.unit ![k, 0] ![256, 256] i) : Vec Ideal S256x256 .f32)
      fun r j => S.dc (256 * T + r + k) (l + j) :=
  ((((On2.nowhere _ fun q j => S.dc (256 * T + q) (l + j)).store ((hc.cast h').congr fun r j _ _ => by rw [Nat.zero_add, Nat.zero_add])).store
    ((hd.cast h).congr fun r j _ _ => by rw [Nat.zero_add, show 256 * (T + 1) + r = 256 * T + (256 + r) by omega]))).load fun r j hr hj =>
    ⟨by omega, by rw [Nat.zero_add, show 256 * T + (k + r) = 256 * T + r + k by omega]⟩

/-! ## The tap gradients -/

/-- The small result with the sums of the columns before `l` brought up to date. -/
def upto (l : ℕ) (r j : ℕ) : Prop := r < 4 ∧ j < l

section Sums
variable {v : View sig κ sp S8x2816 .f32} {f : v.ty.Contents (Elt Ideal)} {L : List (View.Piece (Elt Ideal) S8x2816 .f32)}
  {gt : FVec Ideal S256x256 .f32} {o0 o1 o2 o3 : FVec Ideal S1x256 .f32}

/-- The four sums of 256 columns. -/
theorem sf_step {i0 i1 i2 i3} (hT : T < 16)
    (hL : Rep2 (v.read (Elt Ideal) (v.writes (Elt Ideal) f L)) (upd2 (upto l) (S.sf (256 * T)) (S.sf (256 * (T + 1)))))
    (e0 : Rep2 o0 fun _ j => S.sf (256 * (T + 1)) 0 (l + j)) (e1 : Rep2 o1 fun _ j => S.sf (256 * (T + 1)) 1 (l + j))
    (e2 : Rep2 o2 fun _ j => S.sf (256 * (T + 1)) 2 (l + j)) (e3 : Rep2 o3 fun _ j => S.sf (256 * (T + 1)) 3 (l + j))
    (hg : Rep2 gt fun r j => S.U (256 * T + r) (l + j)) (hc : Rep2 dc fun r j => S.dc (256 * T + r) (l + j))
    (hp : Rep2 p fun r j => S.dc (256 * T + r + 1) (l + j)) (hq : Rep2 q fun r j => S.dc (256 * T + r + 2) (l + j)) :
    Rep2 (v.read (Elt Ideal) (v.writes (Elt Ideal) f
      (⟨Rect.unit ![3, l] ![1, 256] i3, addf (shapeCast S1x256 o3 shapeCasts_S1x256_S1x256) (shapeCast S1x256 (multiReduction .add [0] S256 dc 0x00000000#32 reduces_S256x256_S256 (.inl rfl) rfl) shapeCasts_S256_S1x256)⟩
      :: ⟨Rect.unit ![2, l] ![1, 256] i2, addf (shapeCast S1x256 o2 shapeCasts_S1x256_S1x256) (shapeCast S1x256 (multiReduction .add [0] S256 (mulf dc gt) 0x00000000#32 reduces_S256x256_S256 (.inl rfl) rfl) shapeCasts_S256_S1x256)⟩
      :: ⟨Rect.unit ![1, l] ![1, 256] i1, addf (shapeCast S1x256 o1 shapeCasts_S1x256_S1x256) (shapeCast S1x256 (multiReduction .add [0] S256 (mulf p gt) 0x00000000#32 reduces_S256x256_S256 (.inl rfl) rfl) shapeCasts_S256_S1x256)⟩
      :: ⟨Rect.unit ![0, l] ![1, 256] i0, addf (shapeCast S1x256 o0 shapeCasts_S1x256_S1x256) (shapeCast S1x256 (multiReduction .add [0] S256 (mulf q gt) 0x00000000#32 reduces_S256x256_S256 (.inl rfl) rfl) shapeCasts_S256_S1x256)⟩ :: L)))
      (upd2 (upto (l + 256)) (S.sf (256 * T)) (S.sf (256 * (T + 1)))) := by
  refine (grow (grow (grow (grow hL e0 ((hq.mul hg).colSum _ reduces_S256x256_S256 (.inl rfl) rfl shapeCasts_S256_S1x256) fun j _ => ?_) e1 ((hp.mul hg).colSum _ reduces_S256x256_S256 (.inl rfl) rfl shapeCasts_S256_S1x256) fun j _ => ?_)
    e2 ((hc.mul hg).colSum _ reduces_S256x256_S256 (.inl rfl) rfl shapeCasts_S256_S1x256) fun j _ => ?_) e3 (hc.colSum _ reduces_S256x256_S256 (.inl rfl) rfl shapeCasts_S256_S1x256) fun j _ => ?_).congr fun r j _ _ => ?_
  iterate 4 exact (S.sf_step hT _ _).symm
  unfold upd2 upto
  split_ifs <;> first | rfl | (exfalso; omega)

theorem sf_start {x : Vec Ideal S8x2816 .f32} (hx : Rep2 x (S.sf (256 * (T + 1)))) : Rep2 x (upd2 (upto 0) (S.sf (256 * T)) (S.sf (256 * (T + 1)))) :=
  hx.congr fun r j _ _ => (if_neg fun h => absurd h.2 (Nat.not_lt_zero j)).symm
theorem sf_end {x : Vec Ideal S8x2816 .f32} (hT : T < 16) (hx : Rep2 x (upd2 (upto 2816) (S.sf (256 * T)) (S.sf (256 * (T + 1))))) : Rep2 x (S.sf (256 * T)) :=
  hx.updated fun r j _ hj hp => by
    have hr : ¬r < 4 := fun h => hp ⟨h, hj⟩
    rw [S.sf_step hT, Finset.sum_eq_zero fun q _ => ?_, add_zero]
    unfold Tabs.tf
    rw [if_neg (by omega), if_neg (by omega), if_neg (by omega), if_neg (by omega)]
end Sums

/-! ## The rows handed on to the tile before -/

section Carry
variable {v : View sig κ sp S8x2816 .f32} {f : v.ty.Contents (Elt Ideal)} {L : List (View.Piece (Elt Ideal) S8x2816 .f32)}
theorem carry_step {i} (hL : On2 (fun _ j => j < l) (v.read (Elt Ideal) (v.writes (Elt Ideal) f L)) fun r j => S.dc (256 * T + r) j)
    (hc : Rep2 dc fun r j => S.dc (256 * T + r) (l + j)) :
    On2 (fun _ j => j < l + 256) (v.read (Elt Ideal) (v.writes (Elt Ideal) f (⟨Rect.unit ![0, l] ![8, 256] i,
      shapeCast S8x256 (extractStridedSlice S8x256 ![0, 0] dc slices_S256x256_o0_0_S8x256) shapeCasts_S8x256_S8x256⟩ :: L))) fun r j => S.dc (256 * T + r) j := by
  have hs : Rep2 (extractStridedSlice S8x256 ![0, 0] dc slices_S256x256_o0_0_S8x256) fun r j => S.dc (256 * T + r) (l + j) := fun i =>
    (extractStridedSlice_apply ![0, 0] dc _ i (ix2 (⟨(i 0).val, Nat.lt_trans (i 0).isLt (by decide)⟩ : Fin 256) (⟨(i 1).val, (i 1).isLt⟩ : Fin 256)) fun d => match d with
      | ⟨0, _⟩ => (Nat.zero_add _).symm
      | ⟨1, _⟩ => (Nat.zero_add _).symm).trans (hc _)
  exact (hL.store ((hs.cast shapeCasts_S8x256_S8x256).congr fun r j _ _ => by rw [Nat.zero_add])).congr fun r j hr hj h => ⟨by omega, rfl⟩
end Carry

/-! ## The projected rows' cotangent -/

/-- A store of a part of a table of `bf16` contents. -/
theorem store16 {a b : ℕ} {P : ℕ → ℕ → Prop} {X : ℕ → ℕ → ℝ} {v : View sig κ sp ⟨2, ![a, b]⟩ .bf16} {f : v.ty.Contents (Elt Ideal)}
    {L : List (View.Piece (Elt Ideal) ⟨2, ![a, b]⟩ .bf16)} (hL : On2 P (v.read (Elt Ideal) (v.writes (Elt Ideal) f L)) X)
    {o c d l : ℕ} {inb} {w : Vec Ideal ⟨2, ![c, d]⟩ .bf16} (hw : Rep2 w fun r j => X (o + r) (l + j)) :
    On2 (fun r j => P r j ∨ ((o ≤ r ∧ r < o + c) ∧ (l ≤ j ∧ j < l + d)))
      (v.read (Elt Ideal) (v.writes (Elt Ideal) f (⟨Rect.unit ![o, l] ![c, d] inb, w⟩ :: L))) X := fun i hi => by
  rw [View.read_writes_cons_unit v f inb w L i rfl]
  by_cases h : (o ≤ (i 0).val ∧ (i 0).val < o + c) ∧ (l ≤ (i 1).val ∧ (i 1).val < l + d)
  · refine (dif_pos (fun d => match d with
      | ⟨0, _⟩ => h.1
      | ⟨1, _⟩ => h.2)).trans ((hw _).trans (congrArg Real.toEReal ?_))
    show X (o + ((i 0).val - o)) (l + ((i 1).val - l)) = _
    rw [Nat.add_sub_cancel' h.1.1, Nat.add_sub_cancel' h.2.1]
  · exact (dif_neg (fun hh => h ⟨hh 0, hh 1⟩)).trans (hL i (hi.resolve_right h))

/-- The first `l` gates and the first `l` values. -/
def seen (l : ℕ) (_ j : ℕ) : Prop := j < l ∨ (2816 ≤ j ∧ j < 2816 + l)

section Store
variable {v : View sig κ sp S256x5632 .bf16} {f : v.ty.Contents (Elt Ideal)} {L : List (View.Piece (Elt Ideal) S256x5632 .bf16)} {dg dv : FVec Ideal S256x256 .f32}
theorem du_step {i i' h h'} (hm : m = 2816 + l) (hl : l + 256 ≤ 2816)
    (hL : On2 (seen l) (v.read (Elt Ideal) (v.writes (Elt Ideal) f L)) fun r j => S.du (256 * T + r) j)
    (hg : Rep2 dg fun r j => S.dg (256 * T + r) (l + j)) (hv : Rep2 dv fun r j => S.dv (256 * T + r) (l + j)) :
    On2 (seen (l + 256)) (v.read (Elt Ideal) (v.writes (Elt Ideal) f (⟨Rect.unit ![0, m] ![256, 256] i', truncf (F := Ideal) .bf16 dv h'⟩
      :: ⟨Rect.unit ![0, l] ![256, 256] i, truncf (F := Ideal) .bf16 dg h⟩ :: L))) fun r j => S.du (256 * T + r) j := by
  subst hm
  refine (store16 (store16 hL ((hg.trunc h).congr fun r j _ hj => ?_)) ((hv.trunc h').congr fun r j _ _ => ?_)).congr fun r j hr hj h => ⟨?_, rfl⟩
  · unfold Tabs.du
    rw [if_pos (by omega), Nat.zero_add]
  · unfold Tabs.du
    rw [if_neg (by omega), Nat.zero_add, show 2816 + l + j - 2816 = l + j by omega]
  · unfold seen at h ⊢
    omega
end Store

/-! ## The normed stream's cotangent -/

theorem part_step {acc : FVec Ideal S256x1024 .f32} {dg dv : FVec Ideal S256x256 .f32} {wu : Vec Ideal S1024x5632 .bf16} {i i' h h'} (hm : m = 2816 + l) (hu : Rep2 wu S.WU)
    (ha : Rep2 acc fun r j => S.part l (256 * T + r) j) (hg : Rep2 dg fun r j => S.dg (256 * T + r) (l + j)) (hv : Rep2 dv fun r j => S.dv (256 * T + r) (l + j)) :
    Rep2 (addf (F := Ideal) (addf acc (matmul (φ₁ := .bf16) (φ₂ := .bf16) dot_S256x256_S1024x256_S256x1024_1_1_0_0_n_n none (truncf (F := Ideal) .bf16 dg h) (View.ld wu (Rect.unit ![0, l] ![1024, 256] i) : FVec Ideal S1024x256 .bf16)
        (constant S256x1024 .f32 0x00000000#32)))
      (matmul (φ₁ := .bf16) (φ₂ := .bf16) dot_S256x256_S1024x256_S256x1024_1_1_0_0_n_n none (truncf (F := Ideal) .bf16 dv h') (View.ld wu (Rect.unit ![0, m] ![1024, 256] i') : FVec Ideal S1024x256 .bf16)
        (constant S256x1024 .f32 0x00000000#32))) fun r j => S.part (l + 256) (256 * T + r) j := by
  subst hm
  refine ((ha.add ((hg.trunc h).dotNT (hu.loadCols16 256 l i) none)).add ((hv.trunc h').dotNT (hu.loadCols16 256 (2816 + l) i') none)).congr fun r j _ _ => ?_
  rw [S.part_add]
  simp only [Nat.add_assoc]

/-! ## The norm -/

section Norm
variable {x dh : FVec Ideal S256x1024 .f32} {g : FVec Ideal S1x1024 .f32}

theorem rs_rep (hx : Rep2 x fun r j => S.X (256 * T + r) j) : Rep2 (k0_pay214 (F := Ideal) x) fun r _ => S.rs (256 * T + r) :=
  ((((hx.mul hx).rowSum _ _ _ _ _).div (.splat lit_1024) (fun _ _ _ _ => by norm_num)).add (.splat lit_eps)).rsqrt fun r _ _ _ => S.ms_pos _
theorem nx_rep (hx : Rep2 x fun r j => S.X (256 * T + r) j) : Rep2 (k0_pay215 (F := Ideal) x) fun r j => S.nx (256 * T + r) j :=
  hx.mul ((rs_rep hx).spreadCol _)
theorem gx_rep {d : FVec Ideal S256x1024 .f32} (hd : Rep2 d fun r j => S.DX (256 * T + r) j) (hx : Rep2 x fun r j => S.X (256 * T + r) j)
    (hh : Rep2 dh fun r j => S.dh (256 * T + r) j) (hg : Rep2 g fun _ j => S.G j) :
    Rep2 (k0_pay1 (F := Ideal) d dh (k0_pay214 x) (k0_pay215 x) g) fun r j => S.gx (256 * T + r) j :=
  let dn : Rep2 _ fun r j => S.dn (256 * T + r) j := hh.mul (hg.spreadRow broadcasts_S1x1024_S256x1024)
  (hd.add (((rs_rep hx).spreadCol _).mul (dn.sub ((nx_rep hx).mul
    ((((dn.mul (nx_rep hx)).rowSum _ _ _ _ _).div (.splat lit_1024) fun _ _ _ _ => by norm_num).spreadCol _))))).trunc _

/-- The norm's gain, brought up to date in its row. -/
theorem sm_step {v : View sig κ sp S8x1024 .f32} {f : v.ty.Contents (Elt Ideal)} {L : List (View.Piece (Elt Ideal) S8x1024 .f32)} {o : FVec Ideal S1x1024 .f32}
    {i a b c d e} (hT : T < 16) (hL : Rep2 (v.read (Elt Ideal) (v.writes (Elt Ideal) f L)) (S.sm (256 * (T + 1))))
    (ho : Rep2 o fun _ j => S.sm (256 * (T + 1)) 1 j) (hx : Rep2 x fun r j => S.X (256 * T + r) j) (hh : Rep2 dh fun r j => S.dh (256 * T + r) j) :
    Rep2 (v.read (Elt Ideal) (v.writes (Elt Ideal) f (⟨Rect.unit ![1, 0] ![1, 1024] i, addf (shapeCast S1x1024 o a)
      (shapeCast S1x1024 (multiReduction .add [0] S1024 (mulf dh (k0_pay215 x)) 0x00000000#32 b c d) e)⟩ :: L))) (S.sm (256 * T)) := by
  refine (hL.storeRow v f L 1 i ((ho.cast a).add ((hh.mul (nx_rep hx)).colSum _ b c d e))).congr fun r j _ _ => ?_
  rw [S.sm_step hT]
  unfold Tabs.tm
  by_cases h : r = 1
  · subst h
    simp only [if_true]
  · simp only [if_neg h, Finset.sum_const_zero, add_zero]
end Norm

end Body

end Cert.FfnValue

end
-- ==== Proof.FfnFirst.lean ====
/- What the feed-forward block's backward body leaves at the first point, as tables of reals. -/
module

public import proofs.«01_k».proof.Proof.FfnTile

@[expose] public section

set_option maxRecDepth 16384

noncomputable section

namespace Cert.FfnValue

open Idealize.ShloMosaic Idealize.ShloMosaic.ValueIdx Idealize.ShloMosaic.Tactic Cert.Reals Cert.FfnIdeal Cert.FfnIdeal.Gen
open scoped BigOperators

section Past
variable {sig : RefSig} {κ : Kind} {sp : Space} {a b c d p m o l c' d' : ℕ}

/-- A load of a part that a store does not touch is of what was there before it. -/
theorem past {v : View sig κ sp ⟨2, ![a, b]⟩ .f32} {f : v.ty.Contents (Elt Ideal)} {L : List (View.Piece (Elt Ideal) ⟨2, ![a, b]⟩ .f32)} {i i'}
    {w : Vec Ideal ⟨2, ![c, d]⟩ .f32} (h : (p + c ≤ o ∨ o + c' ≤ p) ∨ (m + d ≤ l ∨ l + d' ≤ m)) :
    View.ld (v.read (Elt Ideal) (v.writes (Elt Ideal) f (⟨Rect.unit ![p, m] ![c, d] i, w⟩ :: L))) (Rect.unit ![o, l] ![c', d'] i')
      = View.ld (v.read (Elt Ideal) (v.writes (Elt Ideal) f L)) (Rect.unit ![o, l] ![c', d'] i') := by
  funext y
  refine (View.read_writes_cons_unit v f i w L ((Rect.unit ![o, l] ![c', d'] i').emb y) rfl).trans (dif_neg fun hh => ?_)
  have h0 : p ≤ o + 1 * (y 0).val ∧ o + 1 * (y 0).val < p + c := hh 0
  have h1 : m ≤ l + 1 * (y 1).val ∧ l + 1 * (y 1).val < m + d := hh 1
  have y0 : (y 0).val < c' := (y 0).isLt
  have y1 : (y 1).val < d' := (y 1).isLt
  omega

variable {v : View sig κ sp S8x2816 .f32} {f : v.ty.Contents (Elt Ideal)} {L : List (View.Piece (Elt Ideal) S8x2816 .f32)}
/-- The rows handed on so far, read further right; -/
theorem past_carry {i i'} {w : Vec Ideal S8x256 .f32} (h : m + 256 ≤ l) :
    View.ld (v.read (Elt Ideal) (v.writes (Elt Ideal) f (⟨Rect.unit ![0, m] ![8, 256] i, w⟩ :: L))) (Rect.unit ![0, l] ![8, 256] i')
      = View.ld (v.read (Elt Ideal) (v.writes (Elt Ideal) f L)) (Rect.unit ![0, l] ![8, 256] i') := past (w := w) (.inr (.inl h))
/-- and the sums so far, read in another row or further right. -/
theorem past_sums {i i'} {w : Vec Ideal S1x256 .f32} (h : p + 1 ≤ o ∨ m + 256 ≤ l) :
    View.ld (v.read (Elt Ideal) (v.writes (Elt Ideal) f (⟨Rect.unit ![p, m] ![1, 256] i, w⟩ :: L))) (Rect.unit ![o, l] ![1, 256] i')
      = View.ld (v.read (Elt Ideal) (v.writes (Elt Ideal) f L)) (Rect.unit ![o, l] ![1, 256] i') :=
  past (w := w) (h.elim (fun h => .inl (.inl h)) fun h => .inr (.inl h))
end Past

variable {S : Tabs} (c : Dev nD) (i : grid0.Coords)
  (a1 : Memref sig .tc .vmem S256x1024 .bf16) (h1 : a1.IsWhole) (a2 : Memref sig .tc .vmem S256x5632 .bf16) (h2 : a2.IsWhole)
  (a3 : Memref sig .tc .vmem S256x2816 .bf16) (h3 : a3.IsWhole) (a4 : Memref sig .tc .vmem S256x1024 .f32) (h4 : a4.IsWhole)
  (a5 : Memref sig .tc .vmem S1x1024 .f32) (h5 : a5.IsWhole) (a7 : Memref sig .tc .vmem S8x2816 .f32) (h7 : a7.IsWhole)
  (a9 : Memref sig .tc .vmem S256x5632 .bf16) (h9 : a9.IsWhole) (a10 : Memref sig .tc .vmem S256x1024 .bf16) (h10 : a10.IsWhole)
  (a11 : Memref sig .tc .vmem S8x1024 .f32) (h11 : a11.IsWhole) (a12 : Memref sig .tc .vmem S8x2816 .f32) (h12 : a12.IsWhole)
  (a13 : Memref sig .tc .vmem S1024x5632 .bf16) (h13 : a13.IsWhole) (a14 : Memref sig .tc .vmem S2816x1024 .bf16) (h14 : a14.IsWhole)
  (a15 : Memref sig .tc .vmem S264x256 .f32) (h15 : a15.IsWhole) (a16 : Memref sig .tc .vmem S8x2816 .f32) (h16 : a16.IsWhole) (hc : cond0_0 i)
  {x0 : Vec Ideal S256x1024 .bf16} {x1 : Vec Ideal S256x5632 .bf16} {x2 : Vec Ideal S256x2816 .bf16} {x3 : Vec Ideal S256x1024 .f32}
  {x4 : Vec Ideal S1x1024 .f32} {x5 : Vec Ideal S8x2816 .f32}
  (f0 : HbBuf0 (F := Ideal) c hbM0_0) (f1 : HbBuf0 (F := Ideal) c hbM0_1)
  (B : Tile S 15 x0 x1 x2 x3 x4 x5 (a13.view.read (Elt Ideal) (a13.view.writes (Elt Ideal) a13.view.junk [⟨Rect.whole S1024x5632, ReadAs.same.apply (View.read (Elt Ideal) (View.whole main_v47) f0)⟩]))
    (a14.view.read (Elt Ideal) (a14.view.writes (Elt Ideal) a14.view.junk [⟨Rect.whole S2816x1024, ReadAs.same.apply (View.read (Elt Ideal) (View.whole main_v49) f1)⟩])))
  (hz : ∀ r j, S.dc (256 * (15 + 1) + r) j = 0)

/-- The rows before any has been handed on. -/
theorem zeros_carry {i} (hz : ∀ r j, S.dc (256 * (15 + 1) + r) j = 0) : Rep2 (a16.view.read (Elt Ideal) (a16.view.writes (Elt Ideal) a16.view.junk
    [⟨Rect.unit ![0, 0] ![8, 2816] i, k0_pay2 (F := Ideal)⟩])) fun r j => S.dc (256 * (15 + 1) + r) j :=
  Rep2.storeAll _ _ _ _ (((Rep2.splat lit_zero).cast _).congr fun _ _ _ _ => (hz _ _).symm)
/-- The sums before any term. -/
theorem zeros_sums {v : View sig .tc .vmem S8x2816 .f32} {i} : Rep2 (v.read (Elt Ideal) (v.writes (Elt Ideal) v.junk
    [⟨Rect.unit ![0, 0] ![8, 2816] i, k0_pay4 (F := Ideal)⟩])) (S.sf (256 * (15 + 1))) :=
  Rep2.storeAll _ _ _ _ ((Rep2.splat lit_zero).congr fun _ _ _ _ => (S.sf_last _ _).symm)
/-- The gain's sums before any term. -/
theorem zeros_gain {v : View sig .tc .vmem S8x1024 .f32} {i} : Rep2 (v.read (Elt Ideal) (v.writes (Elt Ideal) v.junk
    [⟨Rect.unit ![0, 0] ![8, 1024] i, k0_pay3 (F := Ideal)⟩])) (S.sm (256 * (15 + 1))) :=
  Rep2.storeAll _ _ _ _ ((Rep2.splat lit_zero).congr fun _ _ _ _ => (S.sm_last _ _).symm)

include B hz

set_option maxHeartbeats 4000000 in
/-- The projected rows' cotangent, -/
theorem first6 : Rep2 (out0_A_6 c i a1 h1 a2 h2 a3 h3 a4 h4 a5 h5 a7 h7 a9 h9 a10 h10 a11 h11 a12 h12 a13 h13 a14 h14 a15 h15 a16 h16 hc
    x0 x1 x2 x3 x4 x5 f0 f1) fun r j => S.du (256 * 15 + r) j := by
  unfold out0_A_6 kernelRun0_A
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  simp (disch := decide) only [past_carry]
  have hd := zeros_carry a16 (S := S) (i := inb_S8x2816_S8x2816_0_0) hz
  refine On2.all (p := seen 2816) ?_ fun r j _ hj => by unfold seen; omega
  iterate 11 refine du_step (by decide) (by decide) ?_ (dg_rep (dc_rep B.da (B.val (by decide)) B.conv)
    (shift_rep 1 (by decide) (dc_rep B.da (B.val (by decide)) B.conv) (hd.loadCols 256 _ _))
    (shift_rep 2 (by decide) (dc_rep B.da (B.val (by decide)) B.conv) (hd.loadCols 256 _ _)) (B.tap 2) (B.tap 1) (B.tap 0)) (dv_rep B.da B.conv)
  exact fun i hi => by unfold seen at hi; omega

set_option maxHeartbeats 4000000 in
/-- the middle stream's, -/
theorem first7 : Rep2 (out0_A_7 c i a1 h1 a2 h2 a3 h3 a4 h4 a5 h5 a7 h7 a9 h9 a10 h10 a11 h11 a12 h12 a13 h13 a14 h14 a15 h15 a16 h16 hc
    x0 x1 x2 x3 x4 x5 f0 f1) fun r j => S.gx (256 * 15 + r) j := by
  unfold out0_A_7 kernelRun0_A
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  simp (disch := decide) only [past_carry]
  have hd := zeros_carry a16 (S := S) (i := inb_S8x2816_S8x2816_0_0) hz
  refine Rep2.storeAll16 _ _ _ _ (gx_rep (Rep2.ext (φ := .bf16) ((B.dx.loadAll16 _).cast _) _) (B.x.loadAll _) ?_ (B.g.loadAll _))
  refine Rep2.congr (X := fun r j => S.part 2816 (256 * 15 + r) j) ?_ fun r j _ _ => S.part_all _ _
  iterate 11 refine part_step (by decide) B.wu ?_ (dg_rep (dc_rep B.da (B.val (by decide)) B.conv)
    (shift_rep 1 (by decide) (dc_rep B.da (B.val (by decide)) B.conv) (hd.loadCols 256 _ _))
    (shift_rep 2 (by decide) (dc_rep B.da (B.val (by decide)) B.conv) (hd.loadCols 256 _ _)) (B.tap 2) (B.tap 1) (B.tap 0)) (dv_rep B.da B.conv)
  exact (Rep2.splat lit_zero).congr fun r j _ _ => (S.part_zero _ _).symm

set_option maxHeartbeats 4000000 in
/-- the norm's gain's sums, -/
theorem first8 : Rep2 (out0_A_8 c i a1 h1 a2 h2 a3 h3 a4 h4 a5 h5 a7 h7 a9 h9 a10 h10 a11 h11 a12 h12 a13 h13 a14 h14 a15 h15 a16 h16 hc
    x0 x1 x2 x3 x4 x5 f0 f1) (S.sm (256 * 15)) := by
  unfold out0_A_8 kernelRun0_A
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  simp (disch := decide) only [past_carry]
  have hd := zeros_carry a16 (S := S) (i := inb_S8x2816_S8x2816_0_0) hz
  refine sm_step (by decide) zeros_gain (zeros_gain.loadRow 1 _) (B.x.loadAll _) ?_
  refine Rep2.congr (X := fun r j => S.part 2816 (256 * 15 + r) j) ?_ fun r j _ _ => S.part_all _ _
  iterate 11 refine part_step (by decide) B.wu ?_ (dg_rep (dc_rep B.da (B.val (by decide)) B.conv)
    (shift_rep 1 (by decide) (dc_rep B.da (B.val (by decide)) B.conv) (hd.loadCols 256 _ _))
    (shift_rep 2 (by decide) (dc_rep B.da (B.val (by decide)) B.conv) (hd.loadCols 256 _ _)) (B.tap 2) (B.tap 1) (B.tap 0)) (dv_rep B.da B.conv)
  exact (Rep2.splat lit_zero).congr fun r j _ _ => (S.part_zero _ _).symm

set_option maxHeartbeats 4000000 in
/-- the filter's sums, -/
theorem first9 : Rep2 (out0_A_9 c i a1 h1 a2 h2 a3 h3 a4 h4 a5 h5 a7 h7 a9 h9 a10 h10 a11 h11 a12 h12 a13 h13 a14 h14 a15 h15 a16 h16 hc
    x0 x1 x2 x3 x4 x5 f0 f1) (S.sf (256 * 15)) := by
  unfold out0_A_9 kernelRun0_A
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  simp (disch := decide) only [past_carry, past_sums]
  have hd := zeros_carry a16 (S := S) (i := inb_S8x2816_S8x2816_0_0) hz
  have hr : ∀ (k l : ℕ) {i} , Rep2 (View.ld (a12.view.read (Elt Ideal) (a12.view.writes (Elt Ideal) a12.view.junk [⟨Rect.unit ![0, 0] ![8, 2816] inb_S8x2816_S8x2816_0_0, k0_pay4 (F := Ideal)⟩])) (Rect.unit ![k, l] ![1, 256] i)) fun _ j => S.sf (256 * (15 + 1)) k (l + j) := fun k l i =>
    ((zeros_sums (S := S)).load k 1 256 l i).congr fun r j hr _ => by
      simp only [Nat.lt_one_iff.mp hr, Nat.add_zero]
  simp only [k0_pay19, k0_pay20, k0_pay21, k0_pay22, k0_pay23, k0_pay24, k0_pay39, k0_pay40, k0_pay41, k0_pay42, k0_pay43, k0_pay58, k0_pay59, k0_pay60, k0_pay61,
    k0_pay75, k0_pay78, k0_pay79, k0_pay80, k0_pay81, k0_pay96, k0_pay97, k0_pay98, k0_pay99, k0_pay100, k0_pay114, k0_pay115, k0_pay116, k0_pay117,
    k0_pay118, k0_pay134, k0_pay135, k0_pay136, k0_pay137, k0_pay151, k0_pay152, k0_pay153, k0_pay154, k0_pay170, k0_pay171, k0_pay172, k0_pay173,
    k0_pay187, k0_pay188, k0_pay189, k0_pay190, k0_pay205, k0_pay206, k0_pay207, k0_pay208, k0_pay209, k0_pay210]
  refine sf_end (by decide) ?_
  iterate 11
    refine sf_step (by decide) ?_ (hr 0 _) (hr 1 _) (hr 2 _) (hr 3 _) B.gate (dc_rep B.da (B.val (by decide)) B.conv)
      (shift_rep 1 (by decide) (dc_rep B.da (B.val (by decide)) B.conv) (hd.loadCols 256 _ _))
      (shift_rep 2 (by decide) (dc_rep B.da (B.val (by decide)) B.conv) (hd.loadCols 256 _ _))
  exact sf_start zeros_sums

omit hz in
set_option maxHeartbeats 4000000 in
/-- and the rows handed on. -/
theorem firstC : Rep2 (sout0_A_3 c i a1 h1 a2 h2 a3 h3 a4 h4 a5 h5 a7 h7 a9 h9 a10 h10 a11 h11 a12 h12 a13 h13 a14 h14 a15 h15 a16 h16 hc
    x0 x1 x2 x3 x4 x5 f0 f1) fun r j => S.dc (256 * 15 + r) j := by
  unfold sout0_A_3 kernelRun0_A
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  refine On2.all (p := fun _ j => j < 2816) ?_ fun r j _ hj => hj
  iterate 11 refine carry_step ?_ (dc_rep B.da (B.val (by decide)) B.conv)
  exact fun i hi => absurd hi (Nat.not_lt_zero _)

end Cert.FfnValue

end
-- ==== Proof.FfnLater.lean ====
/- What the feed-forward block's backward body leaves at a point after the first, as tables of reals. -/
module

public import proofs.«01_k».proof.Proof.FfnTile

@[expose] public section

set_option maxRecDepth 16384

noncomputable section

namespace Cert.FfnValue

open Idealize.ShloMosaic Idealize.ShloMosaic.ValueIdx Idealize.ShloMosaic.Tactic Cert.Reals Cert.FfnIdeal Cert.FfnIdeal.Gen
open scoped BigOperators

variable {S : Tabs} {T : ℕ} (c : Dev nD) (i : grid0.Coords)
  (a1 : Memref sig .tc .vmem S256x1024 .bf16) (h1 : a1.IsWhole) (a2 : Memref sig .tc .vmem S256x5632 .bf16) (h2 : a2.IsWhole)
  (a3 : Memref sig .tc .vmem S256x2816 .bf16) (h3 : a3.IsWhole) (a4 : Memref sig .tc .vmem S256x1024 .f32) (h4 : a4.IsWhole)
  (a5 : Memref sig .tc .vmem S1x1024 .f32) (h5 : a5.IsWhole) (a7 : Memref sig .tc .vmem S8x2816 .f32) (h7 : a7.IsWhole)
  (a9 : Memref sig .tc .vmem S256x5632 .bf16) (h9 : a9.IsWhole) (a10 : Memref sig .tc .vmem S256x1024 .bf16) (h10 : a10.IsWhole)
  (a11 : Memref sig .tc .vmem S8x1024 .f32) (h11 : a11.IsWhole) (a12 : Memref sig .tc .vmem S8x2816 .f32) (h12 : a12.IsWhole)
  (a13 : Memref sig .tc .vmem S1024x5632 .bf16) (h13 : a13.IsWhole) (a14 : Memref sig .tc .vmem S2816x1024 .bf16) (h14 : a14.IsWhole)
  (a15 : Memref sig .tc .vmem S264x256 .f32) (h15 : a15.IsWhole) (a16 : Memref sig .tc .vmem S8x2816 .f32) (h16 : a16.IsWhole) (hc : ¬cond0_0 i)
  {x0 : Vec Ideal S256x1024 .bf16} {x1 : Vec Ideal S256x5632 .bf16} {x2 : Vec Ideal S256x2816 .bf16} {x3 : Vec Ideal S256x1024 .f32}
  {x4 : Vec Ideal S1x1024 .f32} {x5 : Vec Ideal S8x2816 .f32} {o8 : Vec Ideal S8x1024 .f32} {o9 : Vec Ideal S8x2816 .f32}
  {wu : Vec Ideal S1024x5632 .bf16} {wd : Vec Ideal S2816x1024 .bf16} {ca : Vec Ideal S8x2816 .f32}
  (f0 : HbBuf0 (F := Ideal) c hbM0_0) (f1 : HbBuf0 (F := Ideal) c hbM0_1)
  (B : Tile S T x0 x1 x2 x3 x4 x5 wu wd) (hT : T < 16)
  (hd : Rep2 ca fun r j => S.dc (256 * (T + 1) + r) j)
include B hd

set_option maxHeartbeats 4000000 in
/-- The projected rows' cotangent, -/
theorem later6 : Rep2 (out0_B_6 c i a1 h1 a2 h2 a3 h3 a4 h4 a5 h5 a7 h7 a9 h9 a10 h10 a11 h11 a12 h12 a13 h13 a14 h14 a15 h15 a16 h16 hc
    x0 x1 x2 x3 x4 x5 o8 o9 wu wd ca f0 f1) fun r j => S.du (256 * T + r) j := by
  unfold out0_B_6 kernelRun0_B
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  refine On2.all (p := seen 2816) ?_ fun r j _ hj => by unfold seen; omega
  iterate 11 refine du_step (by decide) (by decide) ?_ (dg_rep (dc_rep B.da (B.val (by decide)) B.conv)
    (shift_rep 1 (by decide) (dc_rep B.da (B.val (by decide)) B.conv) (hd.loadCols 256 _ _))
    (shift_rep 2 (by decide) (dc_rep B.da (B.val (by decide)) B.conv) (hd.loadCols 256 _ _)) (B.tap 2) (B.tap 1) (B.tap 0)) (dv_rep B.da B.conv)
  exact fun i hi => by unfold seen at hi; omega

set_option maxHeartbeats 4000000 in
/-- the middle stream's, -/
theorem later7 : Rep2 (out0_B_7 c i a1 h1 a2 h2 a3 h3 a4 h4 a5 h5 a7 h7 a9 h9 a10 h10 a11 h11 a12 h12 a13 h13 a14 h14 a15 h15 a16 h16 hc
    x0 x1 x2 x3 x4 x5 o8 o9 wu wd ca f0 f1) fun r j => S.gx (256 * T + r) j := by
  unfold out0_B_7 kernelRun0_B
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  refine Rep2.storeAll16 _ _ _ _ (gx_rep (Rep2.ext (φ := .bf16) ((B.dx.loadAll16 _).cast _) _) (B.x.loadAll _) ?_ (B.g.loadAll _))
  refine Rep2.congr (X := fun r j => S.part 2816 (256 * T + r) j) ?_ fun r j _ _ => S.part_all _ _
  iterate 11 refine part_step (by decide) B.wu ?_ (dg_rep (dc_rep B.da (B.val (by decide)) B.conv)
    (shift_rep 1 (by decide) (dc_rep B.da (B.val (by decide)) B.conv) (hd.loadCols 256 _ _))
    (shift_rep 2 (by decide) (dc_rep B.da (B.val (by decide)) B.conv) (hd.loadCols 256 _ _)) (B.tap 2) (B.tap 1) (B.tap 0)) (dv_rep B.da B.conv)
  exact (Rep2.splat lit_zero).congr fun r j _ _ => (S.part_zero _ _).symm

set_option maxHeartbeats 4000000 in
/-- the norm's gain's sums, -/
theorem later8 (hT : T < 16) (ho : Rep2 o8 (S.sm (256 * (T + 1)))) : Rep2 (out0_B_8 c i a1 h1 a2 h2 a3 h3 a4 h4 a5 h5 a7 h7 a9 h9 a10 h10 a11 h11 a12 h12 a13 h13 a14 h14 a15 h15 a16 h16 hc
    x0 x1 x2 x3 x4 x5 o8 o9 wu wd ca f0 f1) (S.sm (256 * T)) := by
  unfold out0_B_8 kernelRun0_B
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  refine sm_step hT (by rw [View.writes_nil, h11.read_unread]; exact ho) (ho.loadRow 1 _) (B.x.loadAll _) ?_
  refine Rep2.congr (X := fun r j => S.part 2816 (256 * T + r) j) ?_ fun r j _ _ => S.part_all _ _
  iterate 11 refine part_step (by decide) B.wu ?_ (dg_rep (dc_rep B.da (B.val (by decide)) B.conv)
    (shift_rep 1 (by decide) (dc_rep B.da (B.val (by decide)) B.conv) (hd.loadCols 256 _ _))
    (shift_rep 2 (by decide) (dc_rep B.da (B.val (by decide)) B.conv) (hd.loadCols 256 _ _)) (B.tap 2) (B.tap 1) (B.tap 0)) (dv_rep B.da B.conv)
  exact (Rep2.splat lit_zero).congr fun r j _ _ => (S.part_zero _ _).symm

set_option maxHeartbeats 4000000 in
/-- the filter's sums, -/
theorem later9 (hT : T < 16) (ho : Rep2 o9 (S.sf (256 * (T + 1)))) : Rep2 (out0_B_9 c i a1 h1 a2 h2 a3 h3 a4 h4 a5 h5 a7 h7 a9 h9 a10 h10 a11 h11 a12 h12 a13 h13 a14 h14 a15 h15 a16 h16 hc
    x0 x1 x2 x3 x4 x5 o8 o9 wu wd ca f0 f1) (S.sf (256 * T)) := by
  unfold out0_B_9 kernelRun0_B
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  have hr : ∀ (k l : ℕ) {i} , Rep2 (View.ld o9 (Rect.unit ![k, l] ![1, 256] i)) fun _ j => S.sf (256 * (T + 1)) k (l + j) := fun k l i =>
    (ho.load k 1 256 l i).congr fun r j hr _ => by
      simp only [Nat.lt_one_iff.mp hr, Nat.add_zero]
  simp only [k0_pay19, k0_pay20, k0_pay21, k0_pay22, k0_pay23, k0_pay24, k0_pay39, k0_pay40, k0_pay41, k0_pay42, k0_pay43, k0_pay58, k0_pay59, k0_pay60, k0_pay61,
    k0_pay75, k0_pay78, k0_pay79, k0_pay80, k0_pay81, k0_pay96, k0_pay97, k0_pay98, k0_pay99, k0_pay100, k0_pay114, k0_pay115, k0_pay116, k0_pay117,
    k0_pay118, k0_pay134, k0_pay135, k0_pay136, k0_pay137, k0_pay151, k0_pay152, k0_pay153, k0_pay154, k0_pay170, k0_pay171, k0_pay172, k0_pay173,
    k0_pay187, k0_pay188, k0_pay189, k0_pay190, k0_pay205, k0_pay206, k0_pay207, k0_pay208, k0_pay209, k0_pay210]
  refine sf_end hT ?_
  iterate 11
    refine sf_step hT ?_ (hr 0 _) (hr 1 _) (hr 2 _) (hr 3 _) B.gate (dc_rep B.da (B.val (by decide)) B.conv)
      (shift_rep 1 (by decide) (dc_rep B.da (B.val (by decide)) B.conv) (hd.loadCols 256 _ _))
      (shift_rep 2 (by decide) (dc_rep B.da (B.val (by decide)) B.conv) (hd.loadCols 256 _ _))
  exact sf_start (by rw [View.writes_nil, h12.read_unread]; exact ho)

omit hd in
set_option maxHeartbeats 4000000 in
/-- and the rows handed on. -/
theorem laterC : Rep2 (sout0_B_3 c i a1 h1 a2 h2 a3 h3 a4 h4 a5 h5 a7 h7 a9 h9 a10 h10 a11 h11 a12 h12 a13 h13 a14 h14 a15 h15 a16 h16 hc
    x0 x1 x2 x3 x4 x5 o8 o9 wu wd ca f0 f1) fun r j => S.dc (256 * T + r) j := by
  unfold sout0_B_3 kernelRun0_B
  dsimp only
  sl_unfold_words
  simp only [View.readCov, View.readAt_eq_ld, h1.read_unread, h2.read_unread, h3.read_unread, h4.read_unread, h5.read_unread, h7.read_unread, h11.read_unread,
    h12.read_unread, h13.read_unread, h14.read_unread, h16.read_unread]
  refine On2.all (p := fun _ j => j < 2816) ?_ fun r j _ hj => hj
  iterate 11 refine carry_step ?_ (dc_rep B.da (B.val (by decide)) B.conv)
  exact fun i hi => absurd hi (Nat.not_lt_zero _)

end Cert.FfnValue

end
-- ==== Proof.FfnForward.lean ====
/- The forward lines of the feed-forward block read over real numbers: the tables that the backward pass reads, as the
   reference and the host code before the launch both compute them. -/
module

public import proofs.«01_k».proof.Proof.HostMore
public import proofs.«01_k».proof.Proof.FfnSpec
public import proofs.«01_k».proof.Proof.Gen.FfnRefIdeal.Run
public import proofs.«01_k».proof.Proof.Gen.FfnRefIdeal.Read

@[expose] public section

set_option maxRecDepth 16384

noncomputable section

namespace Cert.FfnValue

open Idealize.ShloMosaic Idealize.ShloMosaic.ValueIdx Cert.Reals Cert.FfnRefIdeal.Read Cert.FfnRefIdeal
open scoped BigOperators

/-- The arguments as tables; `K` holds the filter's taps and `CB` its offset. -/
structure Args where
  X : ℕ → ℕ → ℝ
  G : ℕ → ℝ
  W : ℕ → ℕ → ℝ
  K : ℕ → ℕ → ℝ
  CB : ℕ → ℝ
  WD : ℕ → ℕ → ℝ
  DX : ℕ → ℕ → ℝ

namespace Args
variable (I : Args)

/-- The reciprocal root of a row's mean square. -/
def inv (r : ℕ) : ℝ := (Real.sqrt ((∑ k ∈ Finset.range 1024, I.X r k * I.X r k) / 1024 + eps))⁻¹
/-- The projected rows: gates, then values. -/
def proj (r j : ℕ) : ℝ := ∑ k ∈ Finset.range 1024, I.X r k * I.inv r * I.G k * I.W k j
/-- The gates after two rows of zeros. -/
def late (q j : ℕ) : ℝ := if q < 2 then 0 else I.proj (q - 2) j
/-- The filtered gates. -/
def conv (r j : ℕ) : ℝ := I.late r j * I.K 0 j + I.late (1 + r) j * I.K 1 j + I.late (2 + r) j * I.K 2 j + I.CB j
/-- The tables of the backward pass. -/
def tabs : Tabs where
  X := I.X
  DX := I.DX
  U := I.proj
  C := I.conv
  WU := I.W
  WD := I.WD
  WF := I.K
  G := I.G
end Args

/-- The one row of an array as a vector. -/
theorem row_vector {b : ℕ} {X : ℕ → ℕ → ℝ} {x : (⟨2, ![1, b]⟩ : Shape).Idx → EReal} (hx : Rep2 x X) (h : (⟨2, ![1, b]⟩ : Shape).ShapeCasts ⟨1, ![b]⟩) :
    Rep1 (shapeCast ⟨1, ![b]⟩ x h) fun j => X 0 j := fun i =>
  (shapeCast_apply x h i (ix2 (0 : Fin 1) (i 0)) (by
    rw [Shape.rowMajor_val_one, Shape.rowMajor_val_two]
    show 0 * b + (i 0).val = (i 0).val
    rw [Nat.zero_mul, Nat.zero_add])).trans (hx _)

variable {x0 x6 : FVec Ideal ⟨2, ![4096, 1024]⟩ .f32} {x1 : FVec Ideal ⟨2, ![1, 1024]⟩ .f32} {x2 : FVec Ideal ⟨3, ![1, 1024, 5632]⟩ .f32}
  {x3 : FVec Ideal ⟨3, ![1, 3, 2816]⟩ .f32} {x4 : FVec Ideal ⟨2, ![1, 2816]⟩ .f32} {x5 : FVec Ideal ⟨3, ![1, 2816, 1024]⟩ .f32} {I : Args}

/-- The seven arguments hold the tables. -/
structure Holds (I : Args) (x0 : FVec Ideal ⟨2, ![4096, 1024]⟩ .f32) (x1 : FVec Ideal ⟨2, ![1, 1024]⟩ .f32) (x2 : FVec Ideal ⟨3, ![1, 1024, 5632]⟩ .f32)
    (x3 : FVec Ideal ⟨3, ![1, 3, 2816]⟩ .f32) (x4 : FVec Ideal ⟨2, ![1, 2816]⟩ .f32) (x5 : FVec Ideal ⟨3, ![1, 2816, 1024]⟩ .f32)
    (x6 : FVec Ideal ⟨2, ![4096, 1024]⟩ .f32) : Prop where
  x : Rep2 x0 I.X
  g : Rep2 x1 fun _ j => I.G j
  up : Rep2 (a := 1024) (b := 5632) (val_main_v15 (F := Ideal) x2) I.W
  taps : Rep2 (a := 3) (b := 2816) (val_main_v17 (F := Ideal) x3) I.K
  cb : Rep2 x4 fun _ j => I.CB j
  down : Rep2 (a := 2816) (b := 1024) (val_main_v47 (F := Ideal) x5) I.WD
  dx : Rep2 x6 I.DX
  past : ∀ r j, 4096 ≤ r → I.DX r j = 0
  above : ∀ r j, 3 ≤ r → I.K r j = 0

variable (H : Holds I x0 x1 x2 x3 x4 x5 x6)
include H

theorem ref6 : Rep2 (a := 4096) (b := 1) (val_main_v6 (F := Ideal) x0) fun r _ => I.tabs.ms r :=
  (((((H.x.mul H.x).hrowSum (.lit lit_zero) _ _).alongRows _).hdiv ((Rep0.lit lit_1024).fill2 _)
    fun _ _ _ _ => by norm_num).add ((Rep0.lit lit_eps).fill2 _))
theorem ref7 : Rep2 (a := 4096) (b := 1) (val_main_v7 (F := Ideal) x0) fun r _ => I.tabs.rs r :=
  (ref6 H).hrsqrt fun r _ _ _ => I.tabs.ms_pos r
theorem ref10 : Rep2 (a := 4096) (b := 1) (val_main_v10 (F := Ideal) x0) fun r _ => -(1 / 2) * (I.tabs.rs r / I.tabs.ms r) :=
  ((Rep0.lit lit_neg_half).fill2 _).mul ((ref7 H).hdiv (ref6 H) fun r _ _ _ => (I.tabs.ms_pos r).ne')
theorem ref12 : Rep2 (a := 4096) (b := 1024) (val_main_v12 (F := Ideal) x0) I.tabs.nx := H.x.mul ((ref7 H).hspreadCol _)
theorem ref16 : Rep2 (a := 4096) (b := 5632) (val_main_v16 (F := Ideal) x0 x1 x2) I.proj := ((ref12 H).mul (H.g.hspreadRow _)).hdot H.up _
theorem ref19 : Rep2 (a := 4096) (b := 2816) (val_main_v19 (F := Ideal) x0 x1 x2) fun r j => I.proj r (2816 + j) :=
  ((ref16 H).hslice _).congr fun r j _ _ => by rw [Nat.zero_add]
theorem ref21 : Rep2 (a := 4098) (b := 2816) (val_main_v21 (F := Ideal) x0 x1 x2) I.late := by
  have h18 : Rep2 (a := 4096) (b := 2816) (val_main_v18 (F := Ideal) x0 x1 x2) I.proj :=
    ((ref16 H).hslice _).congr fun r j _ _ => by rw [Nat.zero_add, Nat.zero_add]
  exact ((Rep0.lit lit_zero).fill2 _).hstack h18 rfl _
/-- The gates two rows late, -/
theorem ref23 : Rep2 (a := 4096) (b := 2816) (val_main_v23 (F := Ideal) x0 x1 x2) I.late :=
  ((ref21 H).hslice _).congr fun r j _ _ => by rw [Nat.zero_add, Nat.zero_add]
/-- one row late, -/
theorem ref29 : Rep2 (a := 4096) (b := 2816) (val_main_v29 (F := Ideal) x0 x1 x2) fun r j => I.late (1 + r) j :=
  ((ref21 H).hslice _).congr fun r j _ _ => by rw [Nat.zero_add]
/-- and in time. -/
theorem ref36 : Rep2 (a := 4096) (b := 2816) (val_main_v36 (F := Ideal) x0 x1 x2) fun r j => I.late (2 + r) j :=
  ((ref21 H).hslice _).congr fun r j _ _ => by rw [Nat.zero_add]
/-- Each tap along the rows. -/
theorem ref26 : Rep2 (a := 1) (b := 2816) (val_main_v26 (F := Ideal) x3) fun _ j => I.K 0 j :=
  Rep2.congr ((row_vector (b := 2816) (H.taps.hslice _) _).alongCols _) fun r j _ _ => by rw [Nat.zero_add, Nat.zero_add]
theorem ref32 : Rep2 (a := 1) (b := 2816) (val_main_v32 (F := Ideal) x3) fun _ j => I.K 1 j :=
  Rep2.congr ((row_vector (b := 2816) (H.taps.hslice _) _).alongCols _) fun r j _ _ => by rw [Nat.zero_add]
theorem ref39 : Rep2 (a := 1) (b := 2816) (val_main_v39 (F := Ideal) x3) fun _ j => I.K 2 j :=
  Rep2.congr ((row_vector (b := 2816) (H.taps.hslice _) _).alongCols _) fun r j _ _ => by rw [Nat.zero_add]
theorem ref44 : Rep2 (a := 4096) (b := 2816) (val_main_v44 (F := Ideal) x0 x1 x2 x3 x4) I.conv :=
  ((((ref23 H).mul ((ref26 H).hspreadRow _)).add ((ref29 H).mul ((ref32 H).hspreadRow _))).add ((ref36 H).mul ((ref39 H).hspreadRow _))).add
    (H.cb.hspreadRow _)
theorem ref45_2 : Rep2 (a := 4096) (b := 2816) (val_main_v45_2 (F := Ideal) x0 x1 x2 x3 x4) fun r j => sigm (I.conv r j) :=
  (ref44 H).hsigm ((Rep0.lit lit_one).fill2 _) ((Rep0.lit lit_one).fill2 _)
theorem ref45_1 : Rep2 (a := 4096) (b := 2816) (val_main_v45_1 (F := Ideal) x0 x1 x2 x3 x4) fun r j => sigm (I.conv r j) * (1 - sigm (I.conv r j)) :=
  (ref45_2 H).mul (((Rep0.lit lit_one).fill2 _).sub (ref45_2 H))
theorem ref45_0 : Rep2 (a := 4096) (b := 2816) (val_main_v45_0 (F := Ideal) x0 x1 x2 x3 x4) fun r j => I.conv r j * sigm (I.conv r j) :=
  (ref44 H).mul (ref45_2 H)

end Cert.FfnValue

end
-- ==== Proof.FfnValue.lean ====
/- What the feed-forward block's backward call leaves, over the reals: the arrays the host prepares for the call, the
   blocks of a grid point, the induction over the grid points, and the four results after the run. -/
module

public import proofs.«01_k».proof.Proof.FfnFirst
public import proofs.«01_k».proof.Proof.FfnLater
public import proofs.«01_k».proof.Proof.FfnForward
public import Idealize.ShloMosaic.Lib.Pipeline.ValueKit

@[expose] public section

set_option maxRecDepth 16384

noncomputable section

namespace Cert.FfnValue

open Cert.FfnIdeal Cert.FfnIdeal.Gen Cert.Reals
open Idealize.ShloMosaic Idealize.ShloMosaic.TcCoe Idealize.ShloMosaic.Tactic Idealize.SL.Sem

variable (m : (ℓ : Loc nD τ sig) → Buf (Elt Ideal) ℓ) (c : Dev nD)

/-- The memory's arguments are the tables `I`. -/
abbrev Loads (I : Args) : Prop :=
  Holds I (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable {m c} {I : Args} (H : Loads m c I)

/-! ## The grid points -/

theorem index0 : ∀ t : Fin cfg0.N, win0_0.index t = ![15 - t.val, 0] := by decide +kernel
theorem index1 : ∀ t : Fin cfg0.N, win0_1.index t = ![15 - t.val, 0] := by decide +kernel
theorem index2 : ∀ t : Fin cfg0.N, win0_2.index t = ![15 - t.val, 0] := by decide +kernel
theorem index3 : ∀ t : Fin cfg0.N, win0_3.index t = ![15 - t.val, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![15 - t.val, 0] := by decide +kernel
theorem index7 : ∀ t : Fin cfg0.N, win0_7.index t = ![15 - t.val, 0] := by decide +kernel

include H

/-! ## The arrays the host prepares -/

theorem host42 : Rep2 (V m c main_v42) I.K := by
  dsimp only [V, hostOps0, hostOps0_1, hostOps0_2, List.flatten_cons, List.flatten_nil, List.append_nil, List.cons_append, List.nil_append]
  after_results
  refine (Rep2.hpad (a := 3) (b := 2816) (p := 8) (q := 2816) (φ := .f32) H.taps (z := sitofp .f32 (constantI S_ 32 0#32)) (fun i => ?_) pads_S3x2816_S8x2816_050_000 h_S_).congr fun r j hr hj => ?_
  · rw [ValueIdx.sitofp_apply]
    exact (Ideal.scalar_sitofp_def (φ := .f32) _).trans (by rw [show (constantI S_ 32 (0#32) i).toInt = 0 from rfl, Int.cast_zero])
  · split
    · rfl
    · rename_i h
      rw [H.above r j (by omega)]
theorem host43 : Rep2 (V m c main_v43) I.DX := by
  dsimp only [V, hostOps0, hostOps0_1, hostOps0_2, List.flatten_cons, List.flatten_nil, List.append_nil, List.cons_append, List.nil_append]
  after_results
  exact Rep2.trunc (φ := .f32) H.dx _
theorem host44 : Rep2 (V m c main_v44) I.proj := by
  dsimp only [V, hostOps0, hostOps0_1, hostOps0_2, List.flatten_cons, List.flatten_nil, List.append_nil, List.cons_append, List.nil_append]
  after_results
  exact Rep2.trunc (φ := .f32) (ref16 H) _
theorem host45 : Rep2 (V m c main_v45) I.conv := by
  dsimp only [V, hostOps0, hostOps0_1, hostOps0_2, List.flatten_cons, List.flatten_nil, List.append_nil, List.cons_append, List.nil_append]
  after_results
  exact Rep2.trunc (φ := .f32) (ref44 H) _
theorem host47 : Rep2 (V m c main_v47) I.W := by
  dsimp only [V, hostOps0, hostOps0_1, hostOps0_2, List.flatten_cons, List.flatten_nil, List.append_nil, List.cons_append, List.nil_append]
  after_results
  exact Rep2.trunc (φ := .f32) H.up _
theorem host49 : Rep2 (V m c main_v49) I.WD := by
  dsimp only [V, hostOps0, hostOps0_1, hostOps0_2, List.flatten_cons, List.flatten_nil, List.append_nil, List.cons_append, List.nil_append]
  after_results
  exact Rep2.trunc (φ := .f32) H.down _

/-! ## The blocks of a grid point -/

theorem block0 (t : Fin cfg0.N) : Rep2 (iblk m c 0 t) fun r j => I.DX (256 * (15 - t.val) + r) j := fun i => by
  blk_simp [iblk]
  rw [host43 H]
  blk_simp [index0]
  rw [Nat.mul_comm]
theorem block1 (t : Fin cfg0.N) : Rep2 (iblk m c 1 t) fun r j => I.proj (256 * (15 - t.val) + r) j := fun i => by
  blk_simp [iblk]
  rw [host44 H]
  blk_simp [index1]
  rw [Nat.mul_comm]
theorem block2 (t : Fin cfg0.N) : Rep2 (iblk m c 2 t) fun r j => I.conv (256 * (15 - t.val) + r) j := fun i => by
  blk_simp [iblk]
  rw [host45 H]
  blk_simp [index2]
  rw [Nat.mul_comm]
theorem block3 (t : Fin cfg0.N) : Rep2 (iblk m c 3 t) fun r j => I.X (256 * (15 - t.val) + r) j := fun i => by
  blk_simp [iblk]
  rw [V_main_arg0, H.x]
  blk_simp [index3]
  rw [Nat.mul_comm]
theorem block4 (t : Fin cfg0.N) : Rep2 (iblk m c 4 t) fun _ j => I.G j := fun i => by
  blk_simp [iblk]
  rw [V_main_arg1, H.g]
  blk_simp [index4]
theorem block5 (t : Fin cfg0.N) : Rep2 (iblk m c 5 t) I.K := fun i => by
  blk_simp [iblk]
  rw [host42 H]
  blk_simp [index5]

/-- With the two weights they are a tile. -/
theorem tile (t : Fin cfg0.N) {wu : Vec Ideal S1024x5632 .bf16} {wd : Vec Ideal S2816x1024 .bf16} (hu : Rep2 wu I.W) (hd : Rep2 wd I.WD) :
    Tile I.tabs (15 - t.val) (iblk m c 0 t) (iblk m c 1 t) (iblk m c 2 t) (iblk m c 3 t) (iblk m c 4 t) (iblk m c 5 t) wu wd where
  dx := by dsimp only [Args.tabs]; exact block0 H t
  up := by dsimp only [Args.tabs]; exact block1 H t
  gc := by dsimp only [Args.tabs]; exact block2 H t
  x := by dsimp only [Args.tabs]; exact block3 H t
  g := by dsimp only [Args.tabs]; exact block4 H t
  wf := by dsimp only [Args.tabs]; exact block5 H t
  wu := by dsimp only [Args.tabs]; exact hu
  wd := by dsimp only [Args.tabs]; exact hd

/-! ## The grid points in order -/

omit H in
/-- What tile `T` leaves: its rows of the two large results, the sums over the rows from its first on, the two weights,
    and the rows that the tile before it reads. -/
structure Held (S : Tabs) (T : ℕ) (o : Vec Ideal S256x5632 .bf16 × Vec Ideal S256x1024 .bf16 × Vec Ideal S8x1024 .f32 × Vec Ideal S8x2816 .f32
    × Vec Ideal S1024x5632 .bf16 × Vec Ideal S2816x1024 .bf16 × Vec Ideal S8x2816 .f32) : Prop where
  du : Rep2 o.1 fun r j => S.du (256 * T + r) j
  gx : Rep2 o.2.1 fun r j => S.gx (256 * T + r) j
  sm : Rep2 o.2.2.1 (S.sm (256 * T))
  sf : Rep2 o.2.2.2.1 (S.sf (256 * T))
  wu : Rep2 o.2.2.2.2.1 S.WU
  wd : Rep2 o.2.2.2.2.2.1 S.WD
  ca : Rep2 o.2.2.2.2.2.2 fun r j => S.dc (256 * T + r) j

theorem held_first (t : Fin cfg0.N) (h : t.val = 0) : Held I.tabs (15 - t.val) (outsAt0 m c t.val t.isLt) := by
  have h0 : t.val % 16 = 0 := by omega
  have hz : ∀ r j, I.tabs.dc (256 * (15 + 1) + r) j = 0 := fun r j => I.tabs.dc_zero (fun k => H.past _ k (by omega)) j
  have hu : Rep2 (View.read (Elt Ideal) (View.whole main_v47) (V m c main_v47)) I.W := fun i => host47 H i
  have hd : Rep2 (View.read (Elt Ideal) (View.whole main_v49) (V m c main_v49)) I.WD := fun i => host49 H i
  have e : 15 = 15 - t.val := by omega
  rw [outsAt0_A m c t h0, ← e]
  have B := tile H t (Rep2.readCopied16 scM0_0.view scM0_0.view.junk hu) (Rep2.readCopied16 scM0_1.view scM0_1.view.junk hd)
  rw [← e] at B
  constructor
  · dsimp only
    exact first6 _ _ _ _ _ _ _ _ _ _ _ _ _ _ _ _ _ _ _ _ _ _ _ _ _ _ _ _ _ _ _ _ _ B hz
  · dsimp only
    exact first7 _ _ _ _ _ _ _ _ _ _ _ _ _ _ _ _ _ _ _ _ _ _ _ _ _ _ _ _ _ _ _ _ _ B hz
  · dsimp only
    exact first8 _ _ _ _ _ _ _ _ _ _ _ _ _ _ _ _ _ _ _ _ _ _ _ _ _ _ _ _ _ _ _ _ _ B hz
  · dsimp only
    exact first9 _ _ _ _ _ _ _ _ _ _ _ _ _ _ _ _ _ _ _ _ _ _ _ _ _ _ _ _ _ _ _ _ _ B hz
  · dsimp only
    unfold sout0_A_0 kernelRun0_A
    exact Rep2.readCopied16 _ _ hu
  · dsimp only
    unfold sout0_A_1 kernelRun0_A
    exact Rep2.readCopied16 _ _ hd
  · dsimp only
    exact firstC _ _ _ _ _ _ _ _ _ _ _ _ _ _ _ _ _ _ _ _ _ _ _ _ _ _ _ _ _ _ _ _ _ B

theorem held_later (t : Fin cfg0.N) (h : t.val ≠ 0)
    (ih : Held I.tabs (15 - t.val + 1) (outsAt0 m c (t.val - 1) (Nat.lt_of_le_of_lt (Nat.sub_le _ _) t.isLt))) :
    Held I.tabs (15 - t.val) (outsAt0 m c t.val t.isLt) := by
  have hN : t.val < 16 := lt_of_lt_of_eq t.isLt (show cfg0.N = 16 from N_0)
  have hT : 15 - t.val < 16 := by omega
  have B := tile H t ih.wu ih.wd
  rw [outsAt0_B m c t (by omega)]
  constructor
  · dsimp only
    exact later6 _ _ _ _ _ _ _ _ _ _ _ _ _ _ _ _ _ _ _ _ _ _ _ _ _ _ _ _ _ _ _ _ _ B ih.ca
  · dsimp only
    exact later7 _ _ _ _ _ _ _ _ _ _ _ _ _ _ _ _ _ _ _ _ _ _ _ _ _ _ _ _ _ _ _ _ _ B ih.ca
  · dsimp only
    exact later8 _ _ _ _ _ _ _ _ _ _ _ _ _ _ _ _ _ _ _ _ _ _ _ _ _ _ _ _ _ _ _ _ _ B ih.ca hT ih.sm
  · dsimp only
    exact later9 _ _ _ _ _ _ _ _ _ _ _ _ _ _ _ _ _ _ _ _ _ _ _ _ _ _ _ _ _ _ _ _ _ B ih.ca hT ih.sf
  · dsimp only [sout0_B_0, sout0_B_1]
    exact ih.wu
  · dsimp only [sout0_B_0, sout0_B_1]
    exact ih.wd
  · dsimp only
    exact laterC _ _ _ _ _ _ _ _ _ _ _ _ _ _ _ _ _ _ _ _ _ _ _ _ _ _ _ _ _ _ _ _ _ B

theorem held : ∀ (n : ℕ) (h : n < cfg0.N), Held I.tabs (15 - n) (outsAt0 m c n h)
  | 0, h => held_first H ⟨0, h⟩ rfl
  | n + 1, h => held_later H ⟨n + 1, h⟩ (Nat.succ_ne_zero n) (by
      have hN : cfg0.N = 16 := N_0
      have e : 15 - n = 15 - (n + 1) + 1 := by omega
      have ih := held n (Nat.lt_of_succ_lt h)
      rw [e] at ih
      exact ih)

/-! ## The results -/

theorem final6 : Rep2 ((dats m 0 c).arrAt 6 cfg0.N) I.tabs.du := by
  have h : (dats m 0 c).arrAt 6 cfg0.N = Rep2.arr 4096 5632 I.tabs.du := by
    refine (dats m 0 c).arrAt_eq_of_covers 6 _ (by decide +kernel) fun t hf y => ?_
    blk_simp
    rw [after0_6, (held H t.val t.isLt).du]
    unfold Rep2.arr
    blk_simp [index6]
    rw [Nat.mul_comm]
  rw [h]
  exact Rep2.arr_rep _
theorem final7 : Rep2 ((dats m 0 c).arrAt 7 cfg0.N) I.tabs.gx := by
  have h : (dats m 0 c).arrAt 7 cfg0.N = Rep2.arr 4096 1024 I.tabs.gx := by
    refine (dats m 0 c).arrAt_eq_of_covers 7 _ (by decide +kernel) fun t hf y => ?_
    blk_simp
    rw [after0_7, (held H t.val t.isLt).gx]
    unfold Rep2.arr
    blk_simp [index7]
    rw [Nat.mul_comm]
  rw [h]
  exact Rep2.arr_rep _
theorem final8 : Rep2 ((dats m 0 c).arrAt 8 cfg0.N) (I.tabs.sm 0) := by
  have h : (dats m 0 c).arrAt 8 cfg0.N = Rep2.arr 8 1024 (I.tabs.sm 0) := by
    refine (dats m 0 c).arrAt_eq_of_after_last 8 t0_15 (by decide +kernel) _ fun j => ?_
    blk_simp
    rw [after0_8, (held H _ _).sm]
    rfl
  rw [h]
  exact Rep2.arr_rep _
theorem final9 : Rep2 ((dats m 0 c).arrAt 9 cfg0.N) (I.tabs.sf 0) := by
  have h : (dats m 0 c).arrAt 9 cfg0.N = Rep2.arr 8 2816 (I.tabs.sf 0) := by
    refine (dats m 0 c).arrAt_eq_of_after_last 9 t0_15 (by decide +kernel) _ fun j => ?_
    blk_simp
    rw [after0_9, (held H _ _).sf]
    rfl
  rw [h]
  exact Rep2.arr_rep _

omit H in
/-- The run leaves these arrays in the results, and the arguments as they were. -/
theorem run_blocks (m) (ρ) : θ_run (defs (F := Ideal)) (onTc (τ := τ) (main (F := Ideal))) ⟨m, fun _ => 0, ρ⟩ fun r => ∀ c : Dev nD,
    r.2.mem ((c : Thread nD τ).loc main_v50_0) = (dats m 0 c).arrAt 6 cfg0.N
    ∧ r.2.mem ((c : Thread nD τ).loc main_v50_1) = (dats m 0 c).arrAt 7 cfg0.N
    ∧ r.2.mem ((c : Thread nD τ).loc main_v50_2) = (dats m 0 c).arrAt 8 cfg0.N
    ∧ r.2.mem ((c : Thread nD τ).loc main_v50_3) = (dats m 0 c).arrAt 9 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c => ⟨(h c).1 6, (h c).1 7, (h c).1 8, (h c).1 9,
      ((h c).1 3).trans (((dats m 0 c).arrAt_in 3 rfl _).trans ((A_eq m c 3).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.FfnValue

end
-- ==== Proof.FfnBackward.lean ====
/- The derivative of the feed-forward block, read over real numbers: the reference's four results hold the tables of the
   backward pass. -/
module

public import proofs.«01_k».proof.Proof.FfnForward
public import proofs.«01_k».proof.Proof.MixBackward

@[expose] public section

set_option maxRecDepth 16384

noncomputable section

namespace Cert.FfnValue

open Idealize.ShloMosaic Idealize.ShloMosaic.ValueIdx Cert.Reals Cert.FfnRefIdeal.Read Cert.FfnRefIdeal
open scoped BigOperators

/-- Rows read `o` late times rows in time, summed: the same as the rows in time times those `o` further on, when there is
    nothing past the last row. -/
theorem sum_late {N o : ℕ} (h : o ≤ N) {f g : ℕ → ℝ} (hg : ∀ q, N ≤ q → g q = 0) :
    ∑ q ∈ Finset.range N, (if q < o then 0 else f (q - o)) * g q = ∑ q ∈ Finset.range N, g (q + o) * f q := by
  obtain ⟨n, rfl⟩ := Nat.exists_eq_add_of_le h
  rw [Finset.sum_range_add, Nat.add_comm o n, Finset.sum_range_add,
    Finset.sum_eq_zero (s := Finset.range o) (f := fun q => (if q < o then 0 else f (q - o)) * g q) fun q hq => by
      rw [if_pos (Finset.mem_range.mp hq), zero_mul],
    Finset.sum_eq_zero (s := Finset.range o) (f := fun q => g (n + q + o) * f (n + q)) fun q _ => by rw [hg _ (by omega), zero_mul],
    zero_add, add_zero]
  refine Finset.sum_congr rfl fun q _ => ?_
  rw [if_neg (by omega), Nat.add_sub_cancel_left, Nat.add_comm o q, mul_comm]

/-- Two matrices side by side. -/
theorem side_two {a p n : ℕ} {x0 x1 : (⟨2, ![a, p]⟩ : Shape).Idx → EReal} {X0 X1 : ℕ → ℕ → ℝ} (h0 : Rep2 x0 X0) (h1 : Rep2 x1 X1) (hn : n = 2 * p)
    (h : Shape.Concatenates [⟨2, ![a, p]⟩, ⟨2, ![a, p]⟩] ⟨2, ![a, n]⟩ 1) :
    Rep2 (concatenate ⟨2, ![a, n]⟩ 1 [⟨⟨2, ![a, p]⟩, x0⟩, ⟨⟨2, ![a, p]⟩, x1⟩] h) fun r j => if j < p then X0 r j else X1 r (j - p) := fun i => by
  have hi : (i 1).val < n := (i 1).isLt
  by_cases c0 : (i 1).val < p
  · refine Eq.trans ?_ (congrArg Real.toEReal (if_pos c0).symm)
    exact h0.sidePiece [⟨⟨2, ![a, p]⟩, x0⟩, ⟨⟨2, ![a, p]⟩, x1⟩] h 0 (by simp) rfl 0 rfl i (Nat.zero_le _) (by omega)
  refine Eq.trans ?_ (congrArg Real.toEReal (if_neg c0).symm)
  exact h1.sidePiece [⟨⟨2, ![a, p]⟩, x0⟩, ⟨⟨2, ![a, p]⟩, x1⟩] h 1 (by simp) rfl p (by simp) i (by omega) (by omega)

variable {x0 x6 : FVec Ideal ⟨2, ![4096, 1024]⟩ .f32} {x1 : FVec Ideal ⟨2, ![1, 1024]⟩ .f32} {x2 : FVec Ideal ⟨3, ![1, 1024, 5632]⟩ .f32}
  {x3 : FVec Ideal ⟨3, ![1, 3, 2816]⟩ .f32} {x4 : FVec Ideal ⟨2, ![1, 2816]⟩ .f32} {x5 : FVec Ideal ⟨3, ![1, 2816, 1024]⟩ .f32} {I : Args}
variable (H : Holds I x0 x1 x2 x3 x4 x5 x6)
include H

/-! ## The gate and the values -/

theorem dc_past {r : ℕ} (h : 4096 ≤ r) (j : ℕ) : I.tabs.dc r j = 0 := I.tabs.dc_zero (fun k => H.past r k h) j

theorem ref49 : Rep2 (a := 4096) (b := 2816) (val_main_v49 (F := Ideal) x5 x6) I.tabs.da := H.dx.hdotNT H.down _
theorem ref50 : Rep2 (a := 4096) (b := 2816) (val_main_v50 (F := Ideal) x0 x1 x2 x3 x4 x5 x6) I.tabs.dv :=
  ((ref45_0 H).mul (ref49 H)).congr fun r j _ _ => mul_comm _ _
theorem ref52 : Rep2 (a := 4096) (b := 2816) (val_main_v52 (F := Ideal) x0 x1 x2 x3 x4 x5 x6) I.tabs.dc := by
  have h51 : Rep2 (a := 4096) (b := 2816) (val_main_v51 (F := Ideal) x0 x1 x2 x5 x6) _ := (ref49 H).mul (ref19 H)
  refine ((h51.mul (ref45_2 H)).add (((ref44 H).mul h51).mul (ref45_1 H))).congr fun r j _ _ => ?_
  show _ = I.tabs.da r j * I.proj r (2816 + j) * (sigm (I.conv r j) * (1 + I.conv r j * (1 - sigm (I.conv r j))))
  ring

/-! ## The filter -/

/-- The gates' cotangent: the three taps' terms moved back. -/
theorem ref87 : Rep2 (a := 4096) (b := 2816) (val_main_v87 (F := Ideal) x0 x1 x2 x3 x4 x5 x6) I.tabs.dg := by
  have h85 : Rep2 (a := 4098) (b := 2816) (val_main_v85 (F := Ideal) x0 x1 x2 x3 x4 x5 x6) _ :=
    ((Rep2.hpad ((ref52 H).mul ((ref39 H).hspreadRow _)) (.lit lit_zero) _ _).add
      (Rep2.hpad ((ref52 H).mul ((ref32 H).hspreadRow _)) (.lit lit_zero) _ _)).add
      (Rep2.hpad ((ref52 H).mul ((ref26 H).hspreadRow _)) (.lit lit_zero) _ _)
  refine (h85.hslice _).congr fun r j hr hj => ?_
  have e : ∀ {o k w : ℕ}, k + o = 2 → (if (o ≤ 2 + r ∧ 2 + r - o < 4096) ∧ 0 ≤ 0 + j ∧ 0 + j - 0 < 2816
      then I.tabs.dc (2 + r - o) (0 + j - 0) * I.K w (0 + j - 0) else 0) = I.K w j * I.tabs.dc (r + k) j := fun {o k w} ho => by
    rw [show 0 + j - 0 = j by omega, show 2 + r - o = r + k by omega]
    by_cases c : r + k < 4096
    · rw [if_pos (by omega), mul_comm]
    · rw [if_neg (by omega), dc_past H (by omega), mul_zero]
  rw [e (o := 2) (k := 0) rfl, e (o := 1) (k := 1) rfl, e (o := 0) (k := 2) rfl]
  rfl
theorem ref88 : Rep2 (a := 4096) (b := 5632) (val_main_v88 (F := Ideal) x0 x1 x2 x3 x4 x5 x6) I.tabs.du :=
  side_two (ref87 H) (ref50 H) (by norm_num) _
/-- The taps' cotangents. -/
theorem ref83 : Rep2 (a := 3) (b := 2816) (val_main_v83 (F := Ideal) x0 x1 x2 x3 x4 x5 x6) (I.tabs.sf 0) := by
  have h57 : Rep2 (a := 1) (b := 2816) (val_main_v57 (F := Ideal) x0 x1 x2 x3 x4 x5 x6) _ := (((ref36 H).mul (ref52 H)).hcolSum (.lit lit_zero) _ _).asRow _
  have h66 : Rep2 (a := 1) (b := 2816) (val_main_v66 (F := Ideal) x0 x1 x2 x3 x4 x5 x6) _ := (((ref29 H).mul (ref52 H)).hcolSum (.lit lit_zero) _ _).asRow _
  have h77 : Rep2 (a := 1) (b := 2816) (val_main_v77 (F := Ideal) x0 x1 x2 x3 x4 x5 x6) _ := (((ref23 H).mul (ref52 H)).hcolSum (.lit lit_zero) _ _).asRow _
  have h83 : Rep2 (a := 3) (b := 2816) (val_main_v83 (F := Ideal) x0 x1 x2 x3 x4 x5 x6) _ :=
    ((Rep2.hpad ((h57.hcolSum (.lit lit_zero) _ _).alongCols _) (.lit lit_zero) _ _).add
      (Rep2.hpad ((h66.hcolSum (.lit lit_zero) _ _).alongCols _) (.lit lit_zero) _ _)).add
      (Rep2.hpad ((h77.hcolSum (.lit lit_zero) _ _).alongCols _) (.lit lit_zero) _ _)
  refine h83.congr fun r j hr hj => ?_
  have hz : ∀ q, 4096 ≤ q → I.tabs.dc q j = 0 := fun q h => dc_past H h j
  have s0 := sum_late (N := 4096) (o := 2) (by norm_num) (f := fun q => I.proj q j) hz
  have s1 := sum_late (N := 4096) (o := 1) (by norm_num) (f := fun q => I.proj q j) hz
  have s2 := sum_late (N := 4096) (o := 0) (by norm_num) (f := fun q => I.proj q j) hz
  unfold Tabs.sf Tabs.tf
  simp only [Finset.sum_range_one, Nat.sub_zero, Nat.zero_add]
  have hr' : r = 0 ∨ r = 1 ∨ r = 2 := by omega
  rcases hr' with rfl | rfl | rfl
  · rw [if_neg (by omega), if_neg (by omega), if_pos (by omega), zero_add, zero_add]
    exact s0
  · rw [if_neg (by omega), if_pos (by omega), if_neg (by omega), zero_add, add_zero]
    refine Eq.trans (Finset.sum_congr rfl fun q _ => ?_) s1
    unfold Args.late
    by_cases c : q < 1
    · rw [if_pos c, if_pos (by omega)]
    · rw [if_neg c, if_neg (by omega), show 1 + q - 2 = q - 1 by omega]
  · rw [if_pos (by omega), if_neg (by omega), if_neg (by omega), add_zero, add_zero]
    refine Eq.trans (Finset.sum_congr rfl fun q _ => ?_) s2
    unfold Args.late
    rw [if_neg (by omega), if_neg (by omega), Nat.add_sub_cancel_left, Nat.sub_zero]

/-! ## The results -/

theorem ref114 : Rep2 (a := 4096) (b := 5632) (val_main_v114 (F := Ideal) x0 x1 x2 x3 x4 x5 x6) I.tabs.du := (ref88 H).trunc _
theorem ref89 : Rep2 (a := 4096) (b := 1024) (val_main_v89 (F := Ideal) x0 x1 x2 x3 x4 x5 x6) I.tabs.dh := (ref88 H).hdotNT H.up _
theorem ref116 : Rep2 (a := 4096) (b := 1024) (val_main_v116 (F := Ideal) x0 x1 x2 x3 x4 x5 x6) I.tabs.gx := by
  have h94 : Rep2 (a := 4096) (b := 1024) (val_main_v94 (F := Ideal) x0 x1 x2 x3 x4 x5 x6) I.tabs.dn := (ref89 H).mul (H.g.hspreadRow _)
  have h102 : Rep2 (a := 4096) (b := 1) (val_main_v102 (F := Ideal) x0 x1 x2 x3 x4 x5 x6) _ :=
    ((((H.x.mul h94).hrowSum (.lit lit_zero) _ _).asCol _).mul (ref10 H)).hdiv ((Rep0.lit lit_1024).fill2 _) fun _ _ _ _ => by norm_num
  have h104 : Rep2 (a := 4096) (b := 1024) (val_main_v104 (F := Ideal) x0 x1 x2 x3 x4 x5 x6) _ := (h102.hrowSum (.lit lit_zero) _ _).alongRows _
  have h115 : Rep2 (a := 4096) (b := 1024) (val_main_v115 (F := Ideal) x0 x1 x2 x3 x4 x5 x6) _ :=
    H.dx.add (((h94.mul ((ref7 H).hspreadCol _)).add (H.x.mul h104)).add (h104.mul H.x))
  refine (h115.trunc _).congr fun r j hr hj => ?_
  simp only [Finset.sum_range_one]
  have e : I.tabs.rs r / I.tabs.ms r = I.tabs.rs r * (I.tabs.rs r * I.tabs.rs r) := Cert.MixValue.root_div (I.tabs.ms_pos r)
  have e2 : ∑ k ∈ Finset.range 1024, I.tabs.dn r k * I.tabs.nx r k = (∑ k ∈ Finset.range 1024, I.X r k * I.tabs.dn r k) * I.tabs.rs r := by
    rw [Finset.sum_mul]
    exact Finset.sum_congr rfl fun k _ => by unfold Tabs.nx; rw [show I.tabs.X = I.X from rfl]; ring
  unfold Tabs.gx
  rw [e, e2, Tabs.nx, show I.tabs.X = I.X from rfl, show I.tabs.DX = I.DX from rfl]
  ring
theorem ref111 : Rep2 (a := 8) (b := 1024) (val_main_v111 (F := Ideal) x0 x1 x2 x3 x4 x5 x6) (I.tabs.sm 0) := by
  have h92 : Rep2 (a := 1) (b := 1024) (val_main_v92 (F := Ideal) x0 x1 x2 x3 x4 x5 x6) _ := (((ref12 H).mul (ref89 H)).hcolSum (.lit lit_zero) _ _).asRow _
  have h109 : Rep2 (a := 1) (b := 1024) (val_main_v109 (F := Ideal)) fun _ _ => 0 := (Rep0.lit lit_zero).fill2 _
  have h110 : Rep2 (a := 6) (b := 1024) (val_main_v110 (F := Ideal)) fun _ _ => 0 := (Rep0.lit lit_zero).fill2 _
  intro i
  have hi : (i 0).val < 8 := (i 0).isLt
  have key : ∀ {v : ℝ}, (i 0).val ≠ 1 → v = 0 → (v : EReal) = ((I.tabs.sm 0 (i 0).val (i 1).val : ℝ) : EReal) := fun h hv => by
    unfold Tabs.sm Tabs.tm; simp only [if_neg h, hv, Finset.sum_const_zero]
  by_cases c : (i 0).val = 0
  · exact (h109.stackPiece _ _ 0 (by simp) rfl 0 rfl i (Nat.zero_le _) (by omega)).trans (key (by omega) rfl)
  by_cases c1 : (i 0).val = 1
  · refine (h92.stackPiece _ _ 1 (by simp) rfl 1 rfl i (by omega) (by omega)).trans (congrArg Real.toEReal ?_)
    refine Finset.sum_congr rfl fun q _ => ?_
    unfold Tabs.tm
    rw [if_pos c1, Nat.zero_add, mul_comm]
  · exact (h110.stackPiece _ _ 2 (by simp) rfl 2 rfl i (by omega) (by omega)).trans (key c1 rfl)
theorem ref113 : Rep2 (a := 8) (b := 2816) (val_main_v113 (F := Ideal) x0 x1 x2 x3 x4 x5 x6) (I.tabs.sf 0) := by
  have h54 : Rep2 (a := 1) (b := 2816) (val_main_v54 (F := Ideal) x0 x1 x2 x3 x4 x5 x6) _ := ((ref52 H).hcolSum (.lit lit_zero) _ _).asRow _
  have h112 : Rep2 (a := 4) (b := 2816) (val_main_v112 (F := Ideal)) fun _ _ => 0 := (Rep0.lit lit_zero).fill2 _
  intro i
  have hi : (i 0).val < 8 := (i 0).isLt
  by_cases c : (i 0).val < 3
  · exact (ref83 H).stackPiece _ _ 0 (by simp) rfl 0 rfl i (Nat.zero_le _) (by omega)
  by_cases c1 : (i 0).val = 3
  · refine (h54.stackPiece _ _ 1 (by simp) rfl 3 rfl i (by omega) (by omega)).trans (congrArg Real.toEReal ?_)
    refine Finset.sum_congr rfl fun q _ => ?_
    unfold Tabs.tf
    rw [if_neg (by omega), if_neg (by omega), if_neg (by omega), if_pos c1, Nat.zero_add]
  · refine (h112.stackPiece _ _ 2 (by simp) rfl 4 rfl i (by omega) (by omega)).trans (congrArg Real.toEReal ?_)
    refine (Finset.sum_eq_zero fun q _ => ?_).symm
    unfold Tabs.tf
    rw [if_neg (by omega), if_neg (by omega), if_neg (by omega), if_neg c1]

end Cert.FfnValue

end
-- ==== Proof.FfnClaim.lean ====
/- The claims about the feed-forward block's backward call (`ffn_bwd`): the reference's frame, and that kernel and
   reference compute the same four arrays from finite arguments. -/
module

public import proofs.«01_k».proof.Defs
public import proofs.«01_k».proof.Proof.FfnValue
public import proofs.«01_k».proof.Proof.FfnBackward
public import proofs.«01_k».proof.Proof.MixClaim
public import proofs.«01_k».proof.Proof.Gen.FfnRefIdeal.Run
public import proofs.«01_k».proof.Proof.Gen.FfnRefIdeal.Read
public import proofs.«01_k».proof.Proof.Gen.Pre_finite_ffn
public import Idealize.ShloMosaic.Lib.Quiescent

@[expose] public section

set_option maxRecDepth 16384

noncomputable section

namespace Cert.FfnValue

open Idealize.ShloMosaic Idealize.ShloMosaic.TcCoe Idealize.SL.Sem Cert.Reals

/-- The reference runs and leaves its arguments and counters alone. -/
theorem frame_ref (m ρ) : θ_run (Cert.FfnRefIdeal.defs (F := Ideal)) (onTc (τ := Cert.FfnRefIdeal.τ) (Cert.FfnRefIdeal.main (F := Ideal)))
    ⟨m, fun _ => 0, ρ⟩ fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0 :=
  (θ_run Cert.FfnRefIdeal.defs _ _).mono (fun r h => ⟨fun c => (h c).2.2.2.2, sem_eq_zero_of_no_sems (by decide) r.2⟩)
    (Cert.FfnRefIdeal.Value.run m ρ)

section
variable (m : (ℓ : Loc Cert.FfnIdeal.nD Cert.FfnIdeal.τ Cert.FfnIdeal.sig) → Buf (Elt Ideal) ℓ) (c : Dev Cert.FfnIdeal.nD)

/-- The arguments in memory as tables. -/
def tables : Args where
  X := tab2 (a := 4096) (b := 1024) (m ((c : Thread Cert.FfnIdeal.nD Cert.FfnIdeal.τ).loc Cert.FfnIdeal.main_arg0))
  G := tab2 (a := 1) (b := 1024) (m ((c : Thread Cert.FfnIdeal.nD Cert.FfnIdeal.τ).loc Cert.FfnIdeal.main_arg1)) 0
  W := tab2 (a := 1024) (b := 5632) (Cert.FfnRefIdeal.Read.val_main_v15 (F := Ideal) (m ((c : Thread Cert.FfnIdeal.nD Cert.FfnIdeal.τ).loc Cert.FfnIdeal.main_arg2)))
  K := tab2 (a := 3) (b := 2816) (Cert.FfnRefIdeal.Read.val_main_v17 (F := Ideal) (m ((c : Thread Cert.FfnIdeal.nD Cert.FfnIdeal.τ).loc Cert.FfnIdeal.main_arg3)))
  CB := tab2 (a := 1) (b := 2816) (m ((c : Thread Cert.FfnIdeal.nD Cert.FfnIdeal.τ).loc Cert.FfnIdeal.main_arg4)) 0
  WD := tab2 (a := 2816) (b := 1024) (Cert.FfnRefIdeal.Read.val_main_v47 (F := Ideal) (m ((c : Thread Cert.FfnIdeal.nD Cert.FfnIdeal.τ).loc Cert.FfnIdeal.main_arg5)))
  DX := tab2 (a := 4096) (b := 1024) (m ((c : Thread Cert.FfnIdeal.nD Cert.FfnIdeal.τ).loc Cert.FfnIdeal.main_arg6))

/-- Finite arguments are their tables. -/
theorem loads (hpre : Cert.Pre_FfnIdeal_finite_ffn m) : Loads m c (tables m c) where
  x := finite2 _ (hpre c).1
  g := Cert.MixValue.one_row (finite2 _ (hpre c).2.1)
  up := rep2_tab2 (Cert.MixValue.finite_cast (Cert.MixValue.finite_at _ (hpre c).2.2.1) _)
  taps := rep2_tab2 (Cert.MixValue.finite_cast (Cert.MixValue.finite_at _ (hpre c).2.2.2.1) _)
  cb := Cert.MixValue.one_row (finite2 _ (hpre c).2.2.2.2.1)
  down := rep2_tab2 (Cert.MixValue.finite_cast (Cert.MixValue.finite_at _ (hpre c).2.2.2.2.2.1) _)
  dx := finite2 _ (hpre c).2.2.2.2.2.2
  past := fun r j h => tab2_row_ge h j
  above := fun r j h => by
    dsimp only [tables]
    exact tab2_row_ge h j

end

/-- From finite arguments the kernel's four arrays are the reference's. -/
theorem algebraic : Cert.algebraic_FfnIdeal_FfnRefIdeal_pre_finite_ffn := fun m g m' g' hpre hargs => by
  have H : ∀ c, Loads m c (tables m c) := fun c => loads m c hpre
  refine ⟨_, _, _, _, run_blocks m g, (θ_run Cert.FfnRefIdeal.defs _ _).mono (fun r h c => ?_) (Cert.FfnRefIdeal.Value.run m' g')⟩
  have R : Holds (tables m c) (m' ((c.tc : Thread Cert.FfnRefIdeal.nD Cert.FfnRefIdeal.τ).loc Cert.FfnRefIdeal.main_arg0))
      (m' ((c.tc : Thread Cert.FfnRefIdeal.nD Cert.FfnRefIdeal.τ).loc Cert.FfnRefIdeal.main_arg1))
      (m' ((c.tc : Thread Cert.FfnRefIdeal.nD Cert.FfnRefIdeal.τ).loc Cert.FfnRefIdeal.main_arg2))
      (m' ((c.tc : Thread Cert.FfnRefIdeal.nD Cert.FfnRefIdeal.τ).loc Cert.FfnRefIdeal.main_arg3))
      (m' ((c.tc : Thread Cert.FfnRefIdeal.nD Cert.FfnRefIdeal.τ).loc Cert.FfnRefIdeal.main_arg4))
      (m' ((c.tc : Thread Cert.FfnRefIdeal.nD Cert.FfnRefIdeal.τ).loc Cert.FfnRefIdeal.main_arg5))
      (m' ((c.tc : Thread Cert.FfnRefIdeal.nD Cert.FfnRefIdeal.τ).loc Cert.FfnRefIdeal.main_arg6)) := by
    obtain ⟨a0, a1, a2, a3, a4, a5, a6⟩ := hargs c
    rw [a0, a1, a2, a3, a4, a5, a6]
    exact H c
  refine ⟨(h c).1.trans ?_, (h c).2.1.trans ?_, (h c).2.2.1.trans ?_, (h c).2.2.2.1.trans ?_, (h c).2.2.2.2⟩
  · refine (Cert.FfnRefIdeal.Read.val_main_v114_eq (F := Ideal) _).trans ?_
    exact (ref114 R).eq (final6 (H c)) fun _ _ _ _ => rfl
  · refine (Cert.FfnRefIdeal.Read.val_main_v116_eq (F := Ideal) _).trans ?_
    exact (ref116 R).eq (final7 (H c)) fun _ _ _ _ => rfl
  · refine (Cert.FfnRefIdeal.Read.val_main_v111_eq (F := Ideal) _).trans ?_
    exact (ref111 R).eq (final8 (H c)) fun _ _ _ _ => rfl
  · refine (Cert.FfnRefIdeal.Read.val_main_v113_eq (F := Ideal) _).trans ?_
    exact (ref113 R).eq (final9 (H c)) fun _ _ _ _ => rfl

end Cert.FfnValue

end
-- ==== Proof.UpRef.lean ====
/- The reference of the feed-forward block's forward call (`ffn_up`) read over real numbers: normed stream, projected
   rows, filtered gates and gated rows as the tables of `FfnForward`. -/
module

public import proofs.«01_k».proof.Proof.FfnForward
public import proofs.«01_k».proof.Proof.Gen.UpRefIdeal.Run
public import proofs.«01_k».proof.Proof.Gen.UpRefIdeal.Read

@[expose] public section

set_option maxRecDepth 16384

noncomputable section

namespace Cert.UpValue

open Idealize.ShloMosaic Idealize.ShloMosaic.ValueIdx Cert.Reals Cert.FfnValue Cert.UpRefIdeal.Read Cert.UpRefIdeal
open scoped BigOperators

/-- The normed stream with its gain, -/
def normed (I : Args) (r j : ℕ) : ℝ := I.X r j * I.inv r * I.G j
/-- and the gated rows. -/
def gated (I : Args) (r j : ℕ) : ℝ := I.conv r j * sigm (I.conv r j) * I.proj r (2816 + j)

variable {x0 : FVec Ideal ⟨2, ![4096, 1024]⟩ .f32} {x1 : FVec Ideal ⟨2, ![1, 1024]⟩ .f32} {x2 : FVec Ideal ⟨3, ![1, 1024, 5632]⟩ .f32}
  {x3 : FVec Ideal ⟨3, ![1, 3, 2816]⟩ .f32} {x4 : FVec Ideal ⟨2, ![1, 2816]⟩ .f32} {I : Args}

/-- The five arguments hold the tables. -/
structure Holds (I : Args) (x0 : FVec Ideal ⟨2, ![4096, 1024]⟩ .f32) (x1 : FVec Ideal ⟨2, ![1, 1024]⟩ .f32) (x2 : FVec Ideal ⟨3, ![1, 1024, 5632]⟩ .f32)
    (x3 : FVec Ideal ⟨3, ![1, 3, 2816]⟩ .f32) (x4 : FVec Ideal ⟨2, ![1, 2816]⟩ .f32) : Prop where
  x : Rep2 x0 I.X
  g : Rep2 x1 fun _ j => I.G j
  up : Rep2 (a := 1024) (b := 5632) (val_main_v12 (F := Ideal) x2) I.W
  taps : Rep2 (a := 3) (b := 2816) (val_main_v16 (F := Ideal) x3) I.K
  cb : Rep2 x4 fun _ j => I.CB j
  above : ∀ r j, 3 ≤ r → I.K r j = 0

variable (H : Holds I x0 x1 x2 x3 x4)
include H

theorem ref6 : Rep2 (a := 4096) (b := 1) (val_main_v6 (F := Ideal) x0) fun r _ => I.tabs.ms r :=
  (((((H.x.mul H.x).hrowSum (.lit lit_zero) _ _).alongRows _).hdiv ((Rep0.lit lit_1024).fill2 _)
    fun _ _ _ _ => by norm_num).add ((Rep0.lit lit_eps).fill2 _))
theorem ref7 : Rep2 (a := 4096) (b := 1) (val_main_v7 (F := Ideal) x0) fun r _ => I.inv r :=
  (ref6 H).hrsqrt fun r _ _ _ => I.tabs.ms_pos r
theorem ref11 : Rep2 (a := 4096) (b := 1024) (val_main_v11 (F := Ideal) x0 x1) (normed I) :=
  (H.x.mul ((ref7 H).hspreadCol _)).mul (H.g.hspreadRow _)
theorem ref13 : Rep2 (a := 4096) (b := 5632) (val_main_v13 (F := Ideal) x0 x1 x2) I.proj := (ref11 H).hdot H.up _
theorem ref15 : Rep2 (a := 4096) (b := 2816) (val_main_v15 (F := Ideal) x0 x1 x2) fun r j => I.proj r (2816 + j) :=
  ((ref13 H).hslice _).congr fun r j _ _ => by rw [Nat.zero_add]
/-- The gates behind two rows of zeros. -/
theorem ref18 : Rep2 (a := 4098) (b := 2816) (val_main_v18 (F := Ideal) x0 x1 x2) I.late := by
  have h14 : Rep2 (a := 4096) (b := 2816) (val_main_v14 (F := Ideal) x0 x1 x2) I.proj :=
    ((ref13 H).hslice _).congr fun r j _ _ => by rw [Nat.zero_add, Nat.zero_add]
  exact ((Rep0.lit lit_zero).fill2 _).hstack h14 rfl _
/-- Each tap along the rows. -/
theorem ref22 : Rep2 (a := 1) (b := 2816) (val_main_v22 (F := Ideal) x3) fun _ j => I.K 0 j :=
  Rep2.congr ((row_vector (b := 2816) (H.taps.hslice _) _).alongCols _) fun r j _ _ => by rw [Nat.zero_add, Nat.zero_add]
theorem ref28 : Rep2 (a := 1) (b := 2816) (val_main_v28 (F := Ideal) x3) fun _ j => I.K 1 j :=
  Rep2.congr ((row_vector (b := 2816) (H.taps.hslice _) _).alongCols _) fun r j _ _ => by rw [Nat.zero_add]
theorem ref35 : Rep2 (a := 1) (b := 2816) (val_main_v35 (F := Ideal) x3) fun _ j => I.K 2 j :=
  Rep2.congr ((row_vector (b := 2816) (H.taps.hslice _) _).alongCols _) fun r j _ _ => by rw [Nat.zero_add]
theorem ref24 : Rep2 (a := 4096) (b := 2816) (val_main_v24 (F := Ideal) x0 x1 x2 x3) fun r j => I.late r j * I.K 0 j :=
  (Rep2.congr ((ref18 H).hslice _) fun r j _ _ => by rw [Nat.zero_add, Nat.zero_add]).mul ((ref22 H).hspreadRow _)
theorem ref30 : Rep2 (a := 4096) (b := 2816) (val_main_v30 (F := Ideal) x0 x1 x2 x3) fun r j => I.late (1 + r) j * I.K 1 j :=
  (Rep2.congr ((ref18 H).hslice _) fun r j _ _ => by rw [Nat.zero_add]).mul ((ref28 H).hspreadRow _)
theorem ref37 : Rep2 (a := 4096) (b := 2816) (val_main_v37 (F := Ideal) x0 x1 x2 x3) fun r j => I.late (2 + r) j * I.K 2 j :=
  (Rep2.congr ((ref18 H).hslice _) fun r j _ _ => by rw [Nat.zero_add]).mul ((ref35 H).hspreadRow _)
theorem ref40 : Rep2 (a := 4096) (b := 2816) (val_main_v40 (F := Ideal) x0 x1 x2 x3 x4) I.conv :=
  (((ref24 H).add (ref30 H)).add (ref37 H)).add (H.cb.hspreadRow _)
theorem ref42 : Rep2 (a := 4096) (b := 2816) (val_main_v42 (F := Ideal) x0 x1 x2 x3 x4) (gated I) :=
  ((ref40 H).mul ((ref40 H).hsigm ((Rep0.lit lit_one).fill2 _) ((Rep0.lit lit_one).fill2 _))).mul (ref15 H)

/-! The four results. -/

theorem ref43 : Rep2 (a := 4096) (b := 1024) (val_main_v43 (F := Ideal) x0 x1) (normed I) := Rep2.trunc (φ := .f32) (ref11 H) _
theorem ref44 : Rep2 (a := 4096) (b := 5632) (val_main_v44 (F := Ideal) x0 x1 x2) I.proj := Rep2.trunc (φ := .f32) (ref13 H) _
theorem ref45 : Rep2 (a := 4096) (b := 2816) (val_main_v45 (F := Ideal) x0 x1 x2 x3 x4) I.conv := Rep2.trunc (φ := .f32) (ref40 H) _
theorem ref46 : Rep2 (a := 4096) (b := 2816) (val_main_v46 (F := Ideal) x0 x1 x2 x3 x4) (gated I) := Rep2.trunc (φ := .f32) (ref42 H) _

end Cert.UpValue

end
-- ==== Proof.UpBody.lean ====
/- What one tile of the feed-forward block's forward call (`ffn_up`) leaves, as tables of reals: 512 rows of the normed
   stream, of the projected rows, of the filtered gates and of the gated rows, and the gates that the next tile's filter reads. -/
module

public import proofs.«01_k».proof.Defs
public import proofs.«01_k».proof.Proof.UpRef
public import proofs.«01_k».proof.Proof.FfnTile
public import proofs.«01_k».proof.Proof.Gen.UpIdeal.Frame

@[expose] public section

set_option maxRecDepth 16384

noncomputable section

namespace Cert.UpValue

open Idealize.ShloMosaic Idealize.ShloMosaic.ValueIdx Idealize.ShloMosaic.Tactic Cert.Reals Cert.FfnValue Cert.UpIdeal Cert.UpIdeal.Gen
open scoped BigOperators

variable {I : Args} {T : ℕ}

/-- The gates behind eight rows of zeros: the buffer of tile `T` holds rows `512 T` to `512 T + 519` of this. -/
def back (I : Args) (q j : ℕ) : ℝ := if q < 8 then 0 else I.proj (q - 8) j

theorem back_gate (r j : ℕ) : back I (8 + r) j = I.proj r j := by
  unfold back
  rw [if_neg (by omega), Nat.add_sub_cancel_left]
theorem back_late (r j : ℕ) : back I (6 + r) j = I.late r j := by
  unfold back Args.late
  by_cases h : r < 2
  · rw [if_pos h, if_pos (by omega)]
  · rw [if_neg h, if_neg (by omega), show 6 + r - 8 = r - 2 by omega]
theorem conv_eq (r j : ℕ) : I.K 0 j * back I (6 + r) j + I.K 1 j * back I (7 + r) j + I.K 2 j * I.proj r j + I.CB j = I.conv r j := by
  rw [back_late, show 7 + r = 6 + (1 + r) by omega, back_late, show I.proj r j = I.late (2 + r) j by rw [← back_late, ← back_gate, ← Nat.add_assoc]]
  unfold Args.conv
  ring

/-- The blocks of tile `T` and the weight. -/
structure Tile (I : Args) (T : ℕ) (x0 : Vec Ideal S512x1024 .f32) (x1 : Vec Ideal S1x1024 .f32) (x2 : Vec Ideal S8x2816 .f32)
    (x3 : Vec Ideal S1x2816 .f32) (wu : Vec Ideal S1024x5632 .bf16) : Prop where
  x : Rep2 x0 fun r j => I.X (512 * T + r) j
  g : Rep2 x1 fun _ j => I.G j
  wf : Rep2 x2 I.K
  cb : Rep2 x3 fun _ j => I.CB j
  wu : Rep2 wu I.W

namespace Tile
variable {x0 : Vec Ideal S512x1024 .f32} {x1 : Vec Ideal S1x1024 .f32} {x2 : Vec Ideal S8x2816 .f32} {x3 : Vec Ideal S1x2816 .f32}
  {wu : Vec Ideal S1024x5632 .bf16} (B : Tile I T x0 x1 x2 x3 wu)
include B

/-- The normed stream, -/
theorem normed {i i'} : Rep2 (k0_pay6 (F := Ideal) (View.ld x0 (Rect.unit ![0, 0] ![512, 1024] i)) (View.ld x1 (Rect.unit ![0, 0] ![1, 1024] i')))
    fun r j => normed I (512 * T + r) j :=
  have hx := B.x.loadAll i
  Rep2.trunc (φ := .f32) ((hx.mul (Rep2.spreadCol (X := fun r _ => I.inv (512 * T + r)) (((((hx.mul hx).rowSum _ _ _ _ _).div (.splat lit_1024) (fun _ _ _ _ => by norm_num)).add (.splat lit_eps)).rsqrt
    fun r _ _ _ => I.tabs.ms_pos (512 * T + r)) _)).mul ((B.g.loadAll i').spreadRow _)) _
/-- the gates, -/
theorem gate {i i' k} : Rep2 (k0_pay7 (F := Ideal) (View.ld x0 (Rect.unit ![0, 0] ![512, 1024] i)) (View.ld x1 (Rect.unit ![0, 0] ![1, 1024] i'))
    (View.ld wu (Rect.unit ![0, 0] ![1024, 2816] k))) fun r j => I.proj (512 * T + r) j :=
  Rep2.congr (B.normed.dot (B.wu.loadCols16 2816 0 k) none) fun r j _ _ => Finset.sum_congr rfl fun q _ => by rw [Nat.zero_add]; rfl
/-- and the values. -/
theorem val {i i' k} : Rep2 (k0_pay8 (F := Ideal) (View.ld x0 (Rect.unit ![0, 0] ![512, 1024] i)) (View.ld x1 (Rect.unit ![0, 0] ![1, 1024] i'))
    (View.ld wu (Rect.unit ![0, 2816] ![1024, 2816] k))) fun r j => I.proj (512 * T + r) (2816 + j) :=
  B.normed.dot (B.wu.loadCols16 2816 2816 k) none
/-- A row of the filter. -/
theorem tap (k : ℕ) {i} : Rep2 (View.ld x2 (Rect.unit ![k, 0] ![1, 2816] i) : Vec Ideal S1x2816 .f32) fun _ j => I.K k j :=
  (B.wf.load k 1 2816 0 i).congr fun r j hr _ => by rw [Nat.lt_one_iff.mp hr, Nat.add_zero, Nat.zero_add]
end Tile

section Body
variable {sig : RefSig} {κ : Kind} {sp : Space} {v : View sig κ sp S520x2816 .f32} {f : v.ty.Contents (Elt Ideal)} {L : List (View.Piece (Elt Ideal) S520x2816 .f32)}
  {gate val : FVec Ideal S512x2816 .f32}

/-- The buffer's first eight rows held, and the tile's gates stored behind them: all of it is held. -/
theorem buffer {i h} (hb : On2 (fun q _ => q < 8) (v.read (Elt Ideal) (v.writes (Elt Ideal) f L)) fun q j => back I (512 * T + q) j)
    (hg : Rep2 gate fun r j => I.proj (512 * T + r) j) :
    Rep2 (v.read (Elt Ideal) (v.writes (Elt Ideal) f (⟨Rect.unit ![8, 0] ![512, 2816] i, shapeCast S512x2816 gate h⟩ :: L))) fun q j => back I (512 * T + q) j :=
  (hb.store (c := 512) (d := 2816) ((hg.cast h).congr fun r j _ _ => by
    rw [← back_gate, Nat.zero_add, show 8 + (512 * T + r) = 512 * T + (8 + r) by omega])).all fun r j hr hj => by omega

/-- The filtered gates. -/
theorem conv_rep {b : Vec Ideal S520x2816 .f32} {w0 w1 w2 cb : Vec Ideal S1x2816 .f32} {i i'} (hb : Rep2 b fun q j => back I (512 * T + q) j)
    (hg : Rep2 gate fun r j => I.proj (512 * T + r) j) (h0 : Rep2 w0 fun _ j => I.K 0 j) (h1 : Rep2 w1 fun _ j => I.K 1 j) (h2 : Rep2 w2 fun _ j => I.K 2 j)
    (hc : Rep2 cb fun _ j => I.CB j) :
    Rep2 (k0_pay1 (F := Ideal) gate w0 (View.ld b (Rect.unit ![6, 0] ![512, 2816] i)) w1 (View.ld b (Rect.unit ![7, 0] ![512, 2816] i')) w2 cb)
      fun r j => I.conv (512 * T + r) j :=
  Rep2.congr (((((h0.cast _).spreadRow broadcasts_S1x2816_S512x2816).mul (hb.load 6 512 2816 0 i)).add (((h1.cast _).spreadRow broadcasts_S1x2816_S512x2816).mul (hb.load 7 512 2816 0 i'))).add
    (((h2.cast _).spreadRow broadcasts_S1x2816_S512x2816).mul hg) |>.add (hc.spreadRow broadcasts_S1x2816_S512x2816)) fun r j _ _ => by
    rw [← conv_eq, Nat.zero_add, show 512 * T + (6 + r) = 6 + (512 * T + r) by omega, show 512 * T + (7 + r) = 7 + (512 * T + r) by omega]

/-- The gated rows. -/
theorem gated_rep {b0 b1 : Vec Ideal S512x2816 .f32} {w0 w1 w2 cb : Vec Ideal S1x2816 .f32} (hc : Rep2 (k0_pay1 (F := Ideal) gate w0 b0 w1 b1 w2 cb) fun r j => I.conv (512 * T + r) j)
    (hv : Rep2 val fun r j => I.proj (512 * T + r) (2816 + j)) :
    Rep2 (k0_pay4 (F := Ideal) gate val w0 b0 w1 b1 w2 cb) fun r j => gated I (512 * T + r) j :=
  Rep2.trunc (φ := .f32) ((hc.mul hc.logistic).mul hv) _

/-- The tile's last eight gates, read back, -/
theorem tail {i k h} (hg : Rep2 gate fun r j => I.proj (512 * T + r) j) :
    Rep2 (a := 8) (b := 2816) (View.ld (v.read (Elt Ideal) (v.writes (Elt Ideal) f (⟨Rect.unit ![8, 0] ![512, 2816] k, shapeCast S512x2816 gate h⟩ :: L)) : Vec Ideal S520x2816 .f32)
      (Rect.unit ![512, 0] ![8, 2816] i)) fun r j => back I (512 * (T + 1) + r) j :=
  ((On2.nowhere _ fun q j => back I (512 * T + q) j).store ((hg.cast h).congr fun r j _ _ => by
    rw [← back_gate, Nat.zero_add, show 8 + (512 * T + r) = 512 * T + (8 + r) by omega])).load fun r j hr hj =>
    ⟨by omega, by rw [Nat.zero_add, show 512 * T + (512 + r) = 512 * (T + 1) + r by omega]⟩
/-- put first for the next tile. -/
theorem carry {i} {w : Vec Ideal S8x2816 .f32} (hw : Rep2 w fun r j => back I (512 * (T + 1) + r) j) :
    On2 (fun q _ => q < 8) (v.read (Elt Ideal) (v.writes (Elt Ideal) f (⟨Rect.unit ![0, 0] ![8, 2816] i, k0_pay2 (F := Ideal) w⟩ :: L)))
      fun q j => back I (512 * (T + 1) + q) j := by
  have hs : Rep2 (a := 8) (b := 2816) (k0_pay2 (F := Ideal) w) fun r j => back I (512 * (T + 1) + (0 + r)) (0 + j) :=
    Rep2.congr (Rep2.cast hw shapeCasts_S8x2816_S8x2816) fun r j _ _ => by rw [Nat.zero_add, Nat.zero_add]
  exact ((On2.nowhere _ fun q j => back I (512 * (T + 1) + q) j).store (c := 8) (d := 2816) hs).congr fun r j _ hj hr => ⟨by omega, rfl⟩
/-- The rows before the first tile. -/
theorem start {i} : On2 (fun q _ => q < 8) (v.read (Elt Ideal) (v.writes (Elt Ideal) f (⟨Rect.unit ![0, 0] ![8, 2816] i, k0_pay5 (F := Ideal)⟩ :: L)))
      fun q j => back I (512 * 0 + q) j :=
  ((On2.nowhere _ fun q j => back I (512 * 0 + q) j).store ((Rep2.splat lit_zero).cast _ |>.congr fun r j hr _ => by
    unfold back
    rw [if_pos (by omega)])).congr fun r j _ hj hr => ⟨by omega, rfl⟩

/-- Gates and values side by side. -/
theorem both {w : View sig κ sp S512x5632 .bf16} {g : w.ty.Contents (Elt Ideal)} {M : List (View.Piece (Elt Ideal) S512x5632 .bf16)} {i i' h h'}
    (hg : Rep2 gate fun r j => I.proj (512 * T + r) j) (hv : Rep2 val fun r j => I.proj (512 * T + r) (2816 + j)) :
    Rep2 (w.read (Elt Ideal) (w.writes (Elt Ideal) g (⟨Rect.unit ![0, 2816] ![512, 2816] i', truncf (F := Ideal) .bf16 val h'⟩
      :: ⟨Rect.unit ![0, 0] ![512, 2816] i, truncf (F := Ideal) .bf16 gate h⟩ :: M))) fun r j => I.proj (512 * T + r) j :=
  (store16 (store16 (On2.nowhere _ fun r j => I.proj (512 * T + r) j) (Rep2.congr (Rep2.trunc (φ := .f32) hg h) fun r j _ _ => by rw [Nat.zero_add, Nat.zero_add]))
    (Rep2.congr (Rep2.trunc (φ := .f32) hv h') fun r j _ _ => by rw [Nat.zero_add])).all fun r j hr hj => by omega
end Body

section Points
variable (c : Dev nD) (i : grid0.Coords)
  (a1 : Memref sig .tc .vmem S512x1024 .f32) (h1 : a1.IsWhole) (a2 : Memref sig .tc .vmem S1x1024 .f32) (h2 : a2.IsWhole)
  (a4 : Memref sig .tc .vmem S8x2816 .f32) (h4 : a4.IsWhole) (a5 : Memref sig .tc .vmem S1x2816 .f32) (h5 : a5.IsWhole)
  (a6 : Memref sig .tc .vmem S512x1024 .bf16) (h6 : a6.IsWhole) (a7 : Memref sig .tc .vmem S512x5632 .bf16) (h7 : a7.IsWhole)
  (a8 : Memref sig .tc .vmem S512x2816 .bf16) (h8 : a8.IsWhole) (a9 : Memref sig .tc .vmem S512x2816 .bf16) (h9 : a9.IsWhole)
  (a10 : Memref sig .tc .vmem S1024x5632 .bf16) (h10 : a10.IsWhole) (a11 : Memref sig .tc .vmem S520x2816 .f32) (h11 : a11.IsWhole)
  {x0 : Vec Ideal S512x1024 .f32} {x1 : Vec Ideal S1x1024 .f32} {x2 : Vec Ideal S8x2816 .f32} {x3 : Vec Ideal S1x2816 .f32}
  {wu : Vec Ideal S1024x5632 .bf16} {ca : Vec Ideal S520x2816 .f32} (f0 : HbBuf0 (F := Ideal) c hbM0_0)

section Later
variable (hc : ¬cond0_0 i) (B : Tile I T x0 x1 x2 x3 wu) (hd : On2 (fun q _ => q < 8) ca fun q j => back I (512 * T + q) j)
include B

theorem later4 : Rep2 (out0_B_4 c i a1 h1 a2 h2 a4 h4 a5 h5 a6 h6 a7 h7 a8 h8 a9 h9 a10 h10 a11 h11 hc x0 x1 x2 x3 wu ca f0)
    fun r j => normed I (512 * T + r) j := by
  unfold out0_B_4 kernelRun0_B
  dsimp only
  sl_unfold_words
  simp only [View.readCov, View.readAt_eq_ld, h1.read_unread, h2.read_unread, h4.read_unread, h5.read_unread, h10.read_unread]
  exact Rep2.storeAll16 _ _ _ _ B.normed
theorem later5 : Rep2 (out0_B_5 c i a1 h1 a2 h2 a4 h4 a5 h5 a6 h6 a7 h7 a8 h8 a9 h9 a10 h10 a11 h11 hc x0 x1 x2 x3 wu ca f0)
    fun r j => I.proj (512 * T + r) j := by
  unfold out0_B_5 kernelRun0_B
  dsimp only
  sl_unfold_words
  simp only [View.readCov, View.readAt_eq_ld, h1.read_unread, h2.read_unread, h4.read_unread, h5.read_unread, h10.read_unread]
  exact both B.gate B.val
include hd
theorem later6 : Rep2 (out0_B_6 c i a1 h1 a2 h2 a4 h4 a5 h5 a6 h6 a7 h7 a8 h8 a9 h9 a10 h10 a11 h11 hc x0 x1 x2 x3 wu ca f0)
    fun r j => I.conv (512 * T + r) j := by
  unfold out0_B_6 kernelRun0_B
  dsimp only
  sl_unfold_words
  simp only [View.readCov, View.readAt_eq_ld, h1.read_unread, h2.read_unread, h4.read_unread, h5.read_unread, h10.read_unread]
  exact Rep2.storeAll16 _ _ _ _ (Rep2.trunc (φ := .f32) (conv_rep (buffer (by rw [View.writes_nil, h11.read_unread]; exact hd) B.gate) B.gate (B.tap 0) (B.tap 1) (B.tap 2) (B.cb.loadAll _)) _)
theorem later7 : Rep2 (out0_B_7 c i a1 h1 a2 h2 a4 h4 a5 h5 a6 h6 a7 h7 a8 h8 a9 h9 a10 h10 a11 h11 hc x0 x1 x2 x3 wu ca f0)
    fun r j => gated I (512 * T + r) j := by
  unfold out0_B_7 kernelRun0_B
  dsimp only
  sl_unfold_words
  simp only [View.readCov, View.readAt_eq_ld, h1.read_unread, h2.read_unread, h4.read_unread, h5.read_unread, h10.read_unread]
  exact Rep2.storeAll16 _ _ _ _ (gated_rep (conv_rep (buffer (by rw [View.writes_nil, h11.read_unread]; exact hd) B.gate) B.gate (B.tap 0) (B.tap 1) (B.tap 2) (B.cb.loadAll _)) B.val)
theorem laterC : On2 (fun q _ => q < 8) (sout0_B_1 c i a1 h1 a2 h2 a4 h4 a5 h5 a6 h6 a7 h7 a8 h8 a9 h9 a10 h10 a11 h11 hc x0 x1 x2 x3 wu ca f0)
    fun q j => back I (512 * (T + 1) + q) j := by
  unfold sout0_B_1 kernelRun0_B
  dsimp only
  sl_unfold_words
  simp only [View.readCov, View.readAt_eq_ld, h1.read_unread, h2.read_unread, h4.read_unread, h5.read_unread, h10.read_unread]
  exact carry (tail B.gate)
end Later

section First
variable (hc : cond0_0 i)
  (B : Tile I 0 x0 x1 x2 x3 (a10.view.read (Elt Ideal) (a10.view.writes (Elt Ideal) a10.view.junk [⟨Rect.whole S1024x5632, ReadAs.same.apply (View.read (Elt Ideal) (View.whole main_v3) f0)⟩])))
include B

theorem first4 : Rep2 (out0_A_4 c i a1 h1 a2 h2 a4 h4 a5 h5 a6 h6 a7 h7 a8 h8 a9 h9 a10 h10 a11 h11 hc x0 x1 x2 x3 f0)
    fun r j => normed I (512 * 0 + r) j := by
  unfold out0_A_4 kernelRun0_A
  dsimp only
  sl_unfold_words
  simp only [View.readCov, View.readAt_eq_ld, h1.read_unread, h2.read_unread, h4.read_unread, h5.read_unread]
  exact Rep2.storeAll16 _ _ _ _ B.normed
theorem first5 : Rep2 (out0_A_5 c i a1 h1 a2 h2 a4 h4 a5 h5 a6 h6 a7 h7 a8 h8 a9 h9 a10 h10 a11 h11 hc x0 x1 x2 x3 f0)
    fun r j => I.proj (512 * 0 + r) j := by
  unfold out0_A_5 kernelRun0_A
  dsimp only
  sl_unfold_words
  simp only [View.readCov, View.readAt_eq_ld, h1.read_unread, h2.read_unread, h4.read_unread, h5.read_unread]
  exact both B.gate B.val
theorem first6 : Rep2 (out0_A_6 c i a1 h1 a2 h2 a4 h4 a5 h5 a6 h6 a7 h7 a8 h8 a9 h9 a10 h10 a11 h11 hc x0 x1 x2 x3 f0)
    fun r j => I.conv (512 * 0 + r) j := by
  unfold out0_A_6 kernelRun0_A
  dsimp only
  sl_unfold_words
  simp only [View.readCov, View.readAt_eq_ld, h1.read_unread, h2.read_unread, h4.read_unread, h5.read_unread]
  exact Rep2.storeAll16 _ _ _ _ (Rep2.trunc (φ := .f32) (conv_rep (buffer start B.gate) B.gate (B.tap 0) (B.tap 1) (B.tap 2) (B.cb.loadAll _)) _)
theorem first7 : Rep2 (out0_A_7 c i a1 h1 a2 h2 a4 h4 a5 h5 a6 h6 a7 h7 a8 h8 a9 h9 a10 h10 a11 h11 hc x0 x1 x2 x3 f0)
    fun r j => gated I (512 * 0 + r) j := by
  unfold out0_A_7 kernelRun0_A
  dsimp only
  sl_unfold_words
  simp only [View.readCov, View.readAt_eq_ld, h1.read_unread, h2.read_unread, h4.read_unread, h5.read_unread]
  exact Rep2.storeAll16 _ _ _ _ (gated_rep (conv_rep (buffer start B.gate) B.gate (B.tap 0) (B.tap 1) (B.tap 2) (B.cb.loadAll _)) B.val)
theorem firstC : On2 (fun q _ => q < 8) (sout0_A_1 c i a1 h1 a2 h2 a4 h4 a5 h5 a6 h6 a7 h7 a8 h8 a9 h9 a10 h10 a11 h11 hc x0 x1 x2 x3 f0)
    fun q j => back I (512 * (0 + 1) + q) j := by
  unfold sout0_A_1 kernelRun0_A
  dsimp only
  sl_unfold_words
  simp only [View.readCov, View.readAt_eq_ld, h1.read_unread, h2.read_unread, h4.read_unread, h5.read_unread]
  exact carry (tail B.gate)
end First

end Points

end Cert.UpValue

end
-- ==== Proof.UpValue.lean ====
/- What the feed-forward block's forward call (`ffn_up`) leaves, over the reals: the arrays the host prepares for the call,
   the blocks of a grid point, the induction over the grid points, and the four results after the run. -/
module

public import proofs.«01_k».proof.Proof.UpBody
public import Idealize.ShloMosaic.Lib.Pipeline.ValueKit

@[expose] public section

set_option maxRecDepth 16384

noncomputable section

namespace Cert.UpValue

open Cert.UpIdeal Cert.UpIdeal.Gen Cert.Reals
open Cert.FfnValue (Args)
open Idealize.ShloMosaic Idealize.ShloMosaic.TcCoe Idealize.ShloMosaic.Tactic Idealize.SL.Sem

variable (m : (ℓ : Loc nD τ sig) → Buf (Elt Ideal) ℓ) (c : Dev nD)

/-- The memory's arguments are the tables `I`. -/
abbrev Loads (I : Args) : Prop :=
  Holds I (m ((c : Thread nD τ).loc main_arg0)) (m ((c : Thread nD τ).loc main_arg1)) (m ((c : Thread nD τ).loc main_arg2))
    (m ((c : Thread nD τ).loc main_arg3)) (m ((c : Thread nD τ).loc main_arg4))

variable {m c} {I : Args} (H : Loads m c I)

/-! ## The grid points -/

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel
theorem index5 : ∀ t : Fin cfg0.N, win0_5.index t = ![t.val, 0] := by decide +kernel
theorem index6 : ∀ t : Fin cfg0.N, win0_6.index t = ![t.val, 0] := by decide +kernel
theorem index7 : ∀ t : Fin cfg0.N, win0_7.index t = ![t.val, 0] := by decide +kernel

include H

/-! ## The arrays the host prepares -/

theorem host1 : Rep2 (V m c main_v1) I.K := by
  dsimp only [V, hostOps0, hostOps0_1, hostOps0_2, List.flatten_cons, List.flatten_nil, List.append_nil, List.cons_append, List.nil_append]
  after_results
  refine (Rep2.hpad (a := 3) (b := 2816) (p := 8) (q := 2816) (φ := .f32) H.taps (z := sitofp .f32 (constantI S_ 32 0#32)) (fun i => ?_) pads_S3x2816_S8x2816_050_000 h_S_).congr fun r j hr hj => ?_
  · rw [ValueIdx.sitofp_apply]
    exact (Ideal.scalar_sitofp_def (φ := .f32) _).trans (by rw [show (constantI S_ 32 (0#32) i).toInt = 0 from rfl, Int.cast_zero])
  · split
    · rfl
    · rename_i h
      rw [H.above r j (by omega)]
theorem host3 : Rep2 (V m c main_v3) I.W := by
  dsimp only [V, hostOps0, hostOps0_1, hostOps0_2, List.flatten_cons, List.flatten_nil, List.append_nil, List.cons_append, List.nil_append]
  after_results
  exact Rep2.trunc (φ := .f32) H.up _

/-! ## The blocks of a grid point -/

theorem block0 (t : Fin cfg0.N) : Rep2 (iblk m c 0 t) fun r j => I.X (512 * t.val + r) j := fun i => by
  blk_simp [iblk]
  rw [V_main_arg0, H.x]
  blk_simp [index0]
  rw [Nat.mul_comm]
theorem block1 (t : Fin cfg0.N) : Rep2 (iblk m c 1 t) fun _ j => I.G j := fun i => by
  blk_simp [iblk]
  rw [V_main_arg1, H.g]
  blk_simp [index1]
theorem block2 (t : Fin cfg0.N) : Rep2 (iblk m c 2 t) I.K := fun i => by
  blk_simp [iblk]
  rw [host1 H]
  blk_simp [index2]
theorem block3 (t : Fin cfg0.N) : Rep2 (iblk m c 3 t) fun _ j => I.CB j := fun i => by
  blk_simp [iblk]
  rw [V_main_arg4, H.cb]
  blk_simp [index3]

/-- With the weight they are a tile. -/
theorem tile (t : Fin cfg0.N) {wu : Vec Ideal S1024x5632 .bf16} (hu : Rep2 wu I.W) :
    Tile I t.val (iblk m c 0 t) (iblk m c 1 t) (iblk m c 2 t) (iblk m c 3 t) wu where
  x := block0 H t
  g := block1 H t
  wf := block2 H t
  cb := block3 H t
  wu := hu

/-! ## The grid points in order -/

omit H in
/-- What tile `T` leaves: its rows of the four results, the weight, and the gates that the tile behind it reads. -/
structure Held (I : Args) (T : ℕ) (o : Vec Ideal S512x1024 .bf16 × Vec Ideal S512x5632 .bf16 × Vec Ideal S512x2816 .bf16 × Vec Ideal S512x2816 .bf16
    × Vec Ideal S1024x5632 .bf16 × Vec Ideal S520x2816 .f32) : Prop where
  h : Rep2 o.1 fun r j => normed I (512 * T + r) j
  up : Rep2 o.2.1 fun r j => I.proj (512 * T + r) j
  gc : Rep2 o.2.2.1 fun r j => I.conv (512 * T + r) j
  act : Rep2 o.2.2.2.1 fun r j => gated I (512 * T + r) j
  wu : Rep2 o.2.2.2.2.1 I.W
  ca : On2 (fun q _ => q < 8) o.2.2.2.2.2 fun q j => back I (512 * (T + 1) + q) j

theorem held_first (h : 0 < cfg0.N) : Held I 0 (outsAt0 m c 0 h) := by
  have hu : Rep2 (View.read (Elt Ideal) (View.whole main_v3) (V m c main_v3)) I.W := fun i => host3 H i
  rw [outsAt0_A m c ⟨0, h⟩ (Nat.zero_mod 8)]
  have B := tile H ⟨0, h⟩ (Rep2.readCopied16 scM0_0.view scM0_0.view.junk hu)
  constructor
  · dsimp only
    exact first4 _ _ _ _ _ _ _ _ _ _ _ _ _ _ _ _ _ _ _ _ _ _ _ _ B
  · dsimp only
    exact first5 _ _ _ _ _ _ _ _ _ _ _ _ _ _ _ _ _ _ _ _ _ _ _ _ B
  · dsimp only
    exact first6 _ _ _ _ _ _ _ _ _ _ _ _ _ _ _ _ _ _ _ _ _ _ _ _ B
  · dsimp only
    exact first7 _ _ _ _ _ _ _ _ _ _ _ _ _ _ _ _ _ _ _ _ _ _ _ _ B
  · dsimp only
    unfold sout0_A_0 kernelRun0_A
    exact Rep2.readCopied16 _ _ hu
  · dsimp only
    exact firstC _ _ _ _ _ _ _ _ _ _ _ _ _ _ _ _ _ _ _ _ _ _ _ _ B

theorem held_later (t : Fin cfg0.N) (h : t.val ≠ 0)
    (ih : Held I (t.val - 1) (outsAt0 m c (t.val - 1) (Nat.lt_of_le_of_lt (Nat.sub_le _ _) t.isLt))) :
    Held I t.val (outsAt0 m c t.val t.isLt) := by
  have hN : t.val < 8 := lt_of_lt_of_eq t.isLt (show cfg0.N = 8 from N_0)
  have B := tile H t ih.wu
  have hd := ih.ca
  rw [show t.val - 1 + 1 = t.val by omega] at hd
  rw [outsAt0_B m c t (by omega)]
  constructor
  · dsimp only
    exact later4 _ _ _ _ _ _ _ _ _ _ _ _ _ _ _ _ _ _ _ _ _ _ _ _ B
  · dsimp only
    exact later5 _ _ _ _ _ _ _ _ _ _ _ _ _ _ _ _ _ _ _ _ _ _ _ _ B
  · dsimp only
    exact later6 _ _ _ _ _ _ _ _ _ _ _ _ _ _ _ _ _ _ _ _ _ _ _ _ B hd
  · dsimp only
    exact later7 _ _ _ _ _ _ _ _ _ _ _ _ _ _ _ _ _ _ _ _ _ _ _ _ B hd
  · dsimp only [sout0_B_0]
    exact ih.wu
  · dsimp only
    exact laterC _ _ _ _ _ _ _ _ _ _ _ _ _ _ _ _ _ _ _ _ _ _ _ _ B hd

theorem held : ∀ (n : ℕ) (h : n < cfg0.N), Held I n (outsAt0 m c n h)
  | 0, h => held_first H h
  | n + 1, h => held_later H ⟨n + 1, h⟩ (Nat.succ_ne_zero n) (held n (Nat.lt_of_succ_lt h))

/-! ## The results -/

theorem final4 : Rep2 ((dats m 0 c).arrAt 4 cfg0.N) (normed I) := by
  have h : (dats m 0 c).arrAt 4 cfg0.N = Rep2.arr 4096 1024 (normed I) := by
    refine (dats m 0 c).arrAt_eq_of_covers 4 _ (by decide +kernel) fun t hf y => ?_
    blk_simp
    rw [after0_4, (held H t.val t.isLt).h]
    unfold Rep2.arr
    blk_simp [index4]
    rw [Nat.mul_comm]
  rw [h]
  exact Rep2.arr_rep _
theorem final5 : Rep2 ((dats m 0 c).arrAt 5 cfg0.N) I.proj := by
  have h : (dats m 0 c).arrAt 5 cfg0.N = Rep2.arr 4096 5632 I.proj := by
    refine (dats m 0 c).arrAt_eq_of_covers 5 _ (by decide +kernel) fun t hf y => ?_
    blk_simp
    rw [after0_5, (held H t.val t.isLt).up]
    unfold Rep2.arr
    blk_simp [index5]
    rw [Nat.mul_comm]
  rw [h]
  exact Rep2.arr_rep _
theorem final6 : Rep2 ((dats m 0 c).arrAt 6 cfg0.N) I.conv := by
  have h : (dats m 0 c).arrAt 6 cfg0.N = Rep2.arr 4096 2816 I.conv := by
    refine (dats m 0 c).arrAt_eq_of_covers 6 _ (by decide +kernel) fun t hf y => ?_
    blk_simp
    rw [after0_6, (held H t.val t.isLt).gc]
    unfold Rep2.arr
    blk_simp [index6]
    rw [Nat.mul_comm]
  rw [h]
  exact Rep2.arr_rep _
theorem final7 : Rep2 ((dats m 0 c).arrAt 7 cfg0.N) (gated I) := by
  have h : (dats m 0 c).arrAt 7 cfg0.N = Rep2.arr 4096 2816 (gated I) := by
    refine (dats m 0 c).arrAt_eq_of_covers 7 _ (by decide +kernel) fun t hf y => ?_
    blk_simp
    rw [after0_7, (held H t.val t.isLt).act]
    unfold Rep2.arr
    blk_simp [index7]
    rw [Nat.mul_comm]
  rw [h]
  exact Rep2.arr_rep _

omit H in
/-- The run leaves these arrays in the results, and the arguments as they were. -/
theorem run_blocks (m) (ρ) : θ_run (defs (F := Ideal)) (onTc (τ := τ) (main (F := Ideal))) ⟨m, fun _ => 0, ρ⟩ fun r => ∀ c : Dev nD,
    r.2.mem ((c : Thread nD τ).loc main_v4_0) = (dats m 0 c).arrAt 4 cfg0.N
    ∧ r.2.mem ((c : Thread nD τ).loc main_v4_1) = (dats m 0 c).arrAt 5 cfg0.N
    ∧ r.2.mem ((c : Thread nD τ).loc main_v4_2) = (dats m 0 c).arrAt 6 cfg0.N
    ∧ r.2.mem ((c : Thread nD τ).loc main_v4_3) = (dats m 0 c).arrAt 7 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨(h c).1 4, (h c).1 5, (h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c)))⟩) (run_main m ρ)

end Cert.UpValue

end
-- ==== Proof.UpClaim.lean ====
/- The claims about the feed-forward block's forward call (`ffn_up`): the reference's frame, and that kernel and
   reference compute the same four arrays from finite arguments. -/
module

public import proofs.«01_k».proof.Defs
public import proofs.«01_k».proof.Proof.UpValue
public import proofs.«01_k».proof.Proof.MixClaim
public import proofs.«01_k».proof.Proof.Gen.UpRefIdeal.Run
public import proofs.«01_k».proof.Proof.Gen.UpRefIdeal.Read
public import proofs.«01_k».proof.Proof.Gen.Pre_finite_up
public import Idealize.ShloMosaic.Lib.Quiescent

@[expose] public section

set_option maxRecDepth 16384

noncomputable section

namespace Cert.UpValue

open Idealize.ShloMosaic Idealize.ShloMosaic.TcCoe Idealize.SL.Sem Cert.Reals
open Cert.FfnValue (Args)

/-- The reference runs and leaves its arguments and counters alone. -/
theorem frame_ref (m ρ) : θ_run (Cert.UpRefIdeal.defs (F := Ideal)) (onTc (τ := Cert.UpRefIdeal.τ) (Cert.UpRefIdeal.main (F := Ideal)))
    ⟨m, fun _ => 0, ρ⟩ fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0 :=
  (θ_run Cert.UpRefIdeal.defs _ _).mono (fun r h => ⟨fun c => (h c).2.2.2.2, sem_eq_zero_of_no_sems (by decide) r.2⟩)
    (Cert.UpRefIdeal.Value.run m ρ)

section
variable (m : (ℓ : Loc Cert.UpIdeal.nD Cert.UpIdeal.τ Cert.UpIdeal.sig) → Buf (Elt Ideal) ℓ) (c : Dev Cert.UpIdeal.nD)

/-- The arguments in memory as tables; the call reads neither the down weight nor a gradient. -/
def tables : Args where
  X := tab2 (a := 4096) (b := 1024) (m ((c : Thread Cert.UpIdeal.nD Cert.UpIdeal.τ).loc Cert.UpIdeal.main_arg0))
  G := tab2 (a := 1) (b := 1024) (m ((c : Thread Cert.UpIdeal.nD Cert.UpIdeal.τ).loc Cert.UpIdeal.main_arg1)) 0
  W := tab2 (a := 1024) (b := 5632) (Cert.UpRefIdeal.Read.val_main_v12 (F := Ideal) (m ((c : Thread Cert.UpIdeal.nD Cert.UpIdeal.τ).loc Cert.UpIdeal.main_arg2)))
  K := tab2 (a := 3) (b := 2816) (Cert.UpRefIdeal.Read.val_main_v16 (F := Ideal) (m ((c : Thread Cert.UpIdeal.nD Cert.UpIdeal.τ).loc Cert.UpIdeal.main_arg3)))
  CB := tab2 (a := 1) (b := 2816) (m ((c : Thread Cert.UpIdeal.nD Cert.UpIdeal.τ).loc Cert.UpIdeal.main_arg4)) 0
  WD := fun _ _ => 0
  DX := fun _ _ => 0

/-- Finite arguments are their tables. -/
theorem loads (hpre : Cert.Pre_UpIdeal_finite_up m) : Loads m c (tables m c) where
  x := finite2 _ (hpre c).1
  g := Cert.MixValue.one_row (finite2 _ (hpre c).2.1)
  up := rep2_tab2 (Cert.MixValue.finite_cast (Cert.MixValue.finite_at _ (hpre c).2.2.1) _)
  taps := rep2_tab2 (Cert.MixValue.finite_cast (Cert.MixValue.finite_at _ (hpre c).2.2.2.1) _)
  cb := Cert.MixValue.one_row (finite2 _ (hpre c).2.2.2.2)
  above := fun r j h => by
    dsimp only [tables]
    exact tab2_row_ge h j

end

/-- From finite arguments the kernel's four arrays are the reference's. -/
theorem algebraic : Cert.algebraic_UpIdeal_UpRefIdeal_pre_finite_up := fun m g m' g' hpre hargs => by
  have H : ∀ c, Loads m c (tables m c) := fun c => loads m c hpre
  refine ⟨_, _, _, _, run_blocks m g, (θ_run Cert.UpRefIdeal.defs _ _).mono (fun r h c => ?_) (Cert.UpRefIdeal.Value.run m' g')⟩
  have R : Holds (tables m c) (m' ((c.tc : Thread Cert.UpRefIdeal.nD Cert.UpRefIdeal.τ).loc Cert.UpRefIdeal.main_arg0))
      (m' ((c.tc : Thread Cert.UpRefIdeal.nD Cert.UpRefIdeal.τ).loc Cert.UpRefIdeal.main_arg1))
      (m' ((c.tc : Thread Cert.UpRefIdeal.nD Cert.UpRefIdeal.τ).loc Cert.UpRefIdeal.main_arg2))
      (m' ((c.tc : Thread Cert.UpRefIdeal.nD Cert.UpRefIdeal.τ).loc Cert.UpRefIdeal.main_arg3))
      (m' ((c.tc : Thread Cert.UpRefIdeal.nD Cert.UpRefIdeal.τ).loc Cert.UpRefIdeal.main_arg4)) := by
    obtain ⟨a0, a1, a2, a3, a4⟩ := hargs c
    rw [a0, a1, a2, a3, a4]
    exact H c
  refine ⟨(h c).1.trans ?_, (h c).2.1.trans ?_, (h c).2.2.1.trans ?_, (h c).2.2.2.1.trans ?_, (h c).2.2.2.2⟩
  · refine (Cert.UpRefIdeal.Read.val_main_v43_eq (F := Ideal) _ _).trans ?_
    exact (ref43 R).eq (final4 (H c)) fun _ _ _ _ => rfl
  · refine (Cert.UpRefIdeal.Read.val_main_v44_eq (F := Ideal) _ _ _).trans ?_
    exact (ref44 R).eq (final5 (H c)) fun _ _ _ _ => rfl
  · refine (Cert.UpRefIdeal.Read.val_main_v45_eq (F := Ideal) _ _).trans ?_
    exact (ref45 R).eq (final6 (H c)) fun _ _ _ _ => rfl
  · refine (Cert.UpRefIdeal.Read.val_main_v46_eq (F := Ideal) _ _).trans ?_
    exact (ref46 R).eq (final7 (H c)) fun _ _ _ _ => rfl

end Cert.UpValue

end
-- ==== Proof.FwdRef.lean ====
/- The reference of the mixer's forward call (`mixer_fwd`) read over real numbers. Its lines up to the pools are those that
   the backward call's reference computes once more, so their tables are the ones of `MixForward`. -/
module

public import proofs.«01_k».proof.Proof.MixBackward
public import proofs.«01_k».proof.Proof.Gen.FwdRefIdeal.Run
public import proofs.«01_k».proof.Proof.Gen.FwdRefIdeal.Read

@[expose] public section

set_option maxRecDepth 16384

noncomputable section

namespace Cert.FwdValue

open Idealize.ShloMosaic Idealize.ShloMosaic.ValueIdx Cert.Reals Cert.MixValue Cert.FwdRefIdeal.Read Cert.FwdRefIdeal
open scoped BigOperators

/-- The normed stream with its gain, -/
def normed (I : Args) (r j : ℕ) : ℝ := I.X r j * I.inv r * I.G j
/-- the filter's branch, -/
def ya (I : Args) (r j : ℕ) : ℝ := I.tabs.ln r j * sigm (I.tabs.ln r j)
/-- the pools' branch, -/
def yb (I : Args) (r j : ℕ) : ℝ := I.tabs.yp (j / 128) r (j % 128) * I.PS j
/-- the two side by side, -/
def joined (I : Args) (r j : ℕ) : ℝ := if j < 512 then ya I r j else yb I r (j - 512)
/-- and the stream after the branches' product is added to it. -/
def after (I : Args) (r j : ℕ) : ℝ := I.X r j + ∑ k ∈ Finset.range 1024, joined I r k * I.WO k j

/-- The pools' input after 16 rows of zeros. -/
def back (I : Args) (q j : ℕ) : ℝ := if q < 16 then 0 else I.proj (q - 16) (1024 + j)

/-! ## A window's sum is the difference of two sums from the start -/

/-- The sums up to each row, as sums of the padded rows. -/
theorem cum_eq (I : Args) {q : ℕ} (hq : q < 4112) (j : ℕ) : I.cum q j = ∑ s ∈ Finset.range (q + 1), back I s j := by
  by_cases h : q < 16
  · rw [Args.cum, if_pos h]
    exact (Finset.sum_eq_zero fun s hs => by rw [back, if_pos (by have := Finset.mem_range.mp hs; omega)]).symm
  rw [Args.cum, if_neg h, show q + 1 = 16 + (q - 15) by omega, Finset.sum_range_add]
  rw [Finset.sum_eq_zero (s := Finset.range 16) fun s hs => by rw [back, if_pos (Finset.mem_range.mp hs)], zero_add]
  rw [show 4096 = (4095 - (q - 16)) + (q - 15) by omega, Finset.sum_range_add]
  rw [Finset.sum_eq_zero (s := Finset.range (4095 - (q - 16))) fun s hs => if_neg (by have := Finset.mem_range.mp hs; omega), zero_add]
  refine Finset.sum_congr rfl fun s hs => ?_
  have := Finset.mem_range.mp hs
  rw [if_pos (by omega), back, if_neg (by omega), show q - 16 + (4095 - (q - 16) + s) - 4095 = s by omega, show 16 + s - 16 = s by omega]

/-- The window of `w` rows that ends at row `r`. -/
theorem window_eq (I : Args) {w r : ℕ} (hw : w ≤ 16) (hr : r < 4096) (j : ℕ) :
    I.cum (16 + r) j - I.cum (16 - w + r) j = ∑ k ∈ Finset.range w, back I (16 - k + r) j := by
  rw [cum_eq I (by omega), cum_eq I (by omega), show 16 + r + 1 = (16 - w + r + 1) + w by omega, Finset.sum_range_add, add_sub_cancel_left,
    ← Finset.sum_range_reflect]
  refine Finset.sum_congr rfl fun k hk => ?_
  have := Finset.mem_range.mp hk
  rw [show 16 - w + r + 1 + (w - 1 - k) = 16 - k + r by omega]

theorem width_le (g : ℕ) (hg : g < 4) : Tabs.width g ≤ 16 := Nat.pow_le_pow_right (n := 2) (by norm_num) (show g + 1 ≤ 4 by omega)

/-- The differences, as the kernel sums them. -/
theorem diff_eq (I : Args) {r j : ℕ} (hr : r < 4096) (hj : j < 512) :
    I.diff r j = (∑ k ∈ Finset.range (Tabs.width (j / 128)), back I (16 - k + r) j) / Tabs.cnt (j / 128) r - I.proj r (1024 + j) := by
  rw [Args.diff, window_eq I (width_le _ (by omega)) hr]

/-! ## The reference -/

variable {x0 x10 : FVec Ideal ⟨2, ![4096, 1024]⟩ .f32} {x1 : FVec Ideal ⟨2, ![1, 1024]⟩ .f32} {x2 : FVec Ideal ⟨3, ![1, 1024, 1536]⟩ .f32}
  {x3 : FVec Ideal ⟨3, ![1, 31, 512]⟩ .f32} {x4 x5 x6 x8 : FVec Ideal ⟨2, ![1, 512]⟩ .f32} {x7 : FVec Ideal ⟨4, ![1, 4, 128, 128]⟩ .f32}
  {x9 : FVec Ideal ⟨3, ![1, 1024, 1024]⟩ .f32} {I : Args}

variable (H : Holds I x0 x1 x2 x3 x4 x5 x6 x7 x8 x9 x10)
include H

theorem ref11 : Rep2 (a := 4096) (b := 1024) (val_main_v11 (F := Ideal) x0 x1) (normed I) :=
  (H.x.mul ((ref7 H).hspreadCol _)).mul (H.g.hspreadRow _)
theorem ref13 : Rep2 (a := 4096) (b := 1536) (val_main_v13 (F := Ideal) x0 x1 x2) I.proj := ref16 H
theorem ref39 : Rep2 (a := 4096) (b := 512) (val_main_v39 (F := Ideal) x0 x1 x2 x3 x4) I.conv := ref49 H
theorem ref59 : Rep2 (a := 4096) (b := 512) (val_main_v59 (F := Ideal) x0 x1 x2 x3 x4 x5 x6) I.tabs.ln := ref72 H
theorem ref60 : Rep2 (a := 4096) (b := 512) (val_main_v60 (F := Ideal) x0 x1 x2 x3 x4 x5 x6) (ya I) :=
  (ref59 H).mul ((ref59 H).hsigm ((Rep0.lit lit_one).fill2 _) ((Rep0.lit lit_one).fill2 _))
theorem ref85 : Rep2 (a := 4096) (b := 512) (val_main_v85 (F := Ideal) x0 x1 x2) I.diff := ref99 H
theorem ref90 : Rep2 (a := 4096) (b := 512) (val_main_v90 (F := Ideal) x0 x1 x2 x7) fun r j => I.tabs.yp (j / 128) r (j % 128) := ref103 H
theorem ref93 : Rep2 (a := 4096) (b := 1024) (val_main_v93 (F := Ideal) x0 x1 x2 x3 x4 x5 x6 x7 x8) (joined I) := fun i => by
  have h92 : Rep2 (a := 4096) (b := 512) (val_main_v92 (F := Ideal) x0 x1 x2 x7 x8) (yb I) := (ref90 H).mul (H.ps.hspreadRow _)
  have hi : (i 1).val < 1024 := (i 1).isLt
  by_cases c0 : (i 1).val < 512
  · refine Eq.trans ?_ (congrArg Real.toEReal (if_pos c0).symm)
    exact (ref60 H).sidePiece [⟨⟨2, ![4096, 512]⟩, _⟩, ⟨⟨2, ![4096, 512]⟩, _⟩] _ 0 (by simp) rfl 0 rfl i (Nat.zero_le _) (by omega)
  refine Eq.trans ?_ (congrArg Real.toEReal (if_neg c0).symm)
  exact h92.sidePiece [⟨⟨2, ![4096, 512]⟩, _⟩, ⟨⟨2, ![4096, 512]⟩, _⟩] _ 1 (by simp) rfl 512 (by simp) i (by omega) (by omega)

/-! The six results. -/

theorem ref94 : Rep2 (a := 4096) (b := 1024) (val_main_v94 (F := Ideal) x0 x1) (normed I) := Rep2.trunc (φ := .f32) (ref11 H) _
theorem ref95' : Rep2 (a := 4096) (b := 1536) (val_main_v95 (F := Ideal) x0 x1 x2) I.proj := Rep2.trunc (φ := .f32) (ref13 H) _
theorem ref96 : Rep2 (a := 4096) (b := 512) (val_main_v96 (F := Ideal) x0 x1 x2 x3 x4) I.conv := Rep2.trunc (φ := .f32) (ref39 H) _
theorem ref97 : Rep2 (a := 4096) (b := 512) (val_main_v97 (F := Ideal) x0 x1 x2) I.diff := Rep2.trunc (φ := .f32) (ref85 H) _
theorem ref98 : Rep2 (a := 4096) (b := 1024) (val_main_v98 (F := Ideal) x0 x1 x2 x3 x4 x5 x6 x7 x8) (joined I) := Rep2.trunc (φ := .f32) (ref93 H) _
theorem ref101 : Rep2 (a := 4096) (b := 1024) (val_main_v101 (F := Ideal) x0 x1 x2 x3 x4 x5 x6 x7 x8 x9) (after I) :=
  H.x.add (Rep2.hdot (ref93 H) H.wo _)

end Cert.FwdValue

end
-- ==== Proof.FwdTile.lean ====
/- The pieces of one tile of the mixer's forward call (`mixer_fwd`) as tables of reals: the normed and projected rows, the
   filter's 31 taps, the four pools' differences, and the two branches with the product that joins them to the stream. -/
module

public import proofs.«01_k».proof.Defs
public import proofs.«01_k».proof.Proof.FwdRef
public import proofs.«01_k».proof.Proof.MixBody
public import proofs.«01_k».proof.Proof.MixTile
public import proofs.«01_k».proof.Proof.Gen.FwdIdeal.Frame

@[expose] public section

set_option maxRecDepth 16384

noncomputable section

namespace Cert.FwdValue

open Idealize.ShloMosaic Idealize.ShloMosaic.ValueIdx Idealize.ShloMosaic.Tactic Cert.Reals Cert.FwdIdeal Cert.FwdIdeal.Gen
open Cert.MixValue (Args Tabs shifts plane_at view_at count)
open scoped BigOperators

variable {I : Args} {T : ℕ}

/-! ## The first rows -/

section First
variable {x : Vec Ideal S512x1024 .f32} {g : Vec Ideal S1x1024 .f32} {w : Vec Ideal S1024x1536 .bf16}
  (hx : Rep2 x fun r j => I.X (512 * T + r) j) (hg : Rep2 g fun _ j => I.G j) (hw : Rep2 w I.W)
include hx hg

/-- The normed stream, -/
theorem normed_rep : Rep2 (k0_pay7 (F := Ideal) x g) fun r j => normed I (512 * T + r) j :=
  Rep2.trunc (φ := .f32) ((hx.mul (Rep2.spreadCol (X := fun r _ => I.inv (512 * T + r)) (((((hx.mul hx).rowSum _ _ _ _ _).div (.splat lit_1024) (fun _ _ _ _ => by norm_num)).add (.splat lit_eps)).rsqrt
    fun r _ _ _ => I.tabs.ms_pos (512 * T + r)) _)).mul (hg.spreadRow _)) _
include hw
/-- its projection, -/
theorem proj_rep : Rep2 (k0_pay8 (F := Ideal) x g w) fun r j => I.proj (512 * T + r) j := (normed_rep hx hg).dot hw none
/-- the pools' columns of it, -/
theorem pool_rep : Rep2 (k0_pay10 (F := Ideal) x g w) fun r j => I.proj (512 * T + r) (1024 + j) := (proj_rep hx hg hw).cols 512 1024 slices_S512x1536_o0_1024_S512x512
/-- and the gated rows. -/
theorem gated_rep : Rep2 (k0_pay11 (F := Ideal) x g w) fun r j => I.tabs.u (512 * T + r) j :=
  ((((proj_rep hx hg hw).cols 512 0 slices_S512x1536_o0_0_S512x512).mul ((proj_rep hx hg hw).cols 512 512 slices_S512x1536_o0_512_S512x512).logistic).cast shapeCasts_S512x512_S512x512).congr
    fun r j _ _ => by rw [Nat.zero_add]; rfl
end First

/-! ## The filter -/

theorem late_up (q j : ℕ) : I.late q j = I.tabs.up (2 + q) j := by
  unfold Args.late Tabs.up
  by_cases h : q < 30
  · rw [if_pos h, if_pos (by omega)]
  · rw [if_neg h, if_neg (by omega), show 2 + q - 32 = q - 30 by omega]
    rfl
theorem conv_eq (I : Args) (T r j : ℕ) : (∑ k ∈ Finset.range 31, I.K k j * I.tabs.up (512 * T + (2 + k + r)) j) + I.CB j = I.conv (512 * T + r) j := by
  unfold Args.conv
  congr 1
  exact Finset.sum_congr rfl fun k _ => by rw [late_up, mul_comm, show 2 + (k + (512 * T + r)) = 512 * T + (2 + k + r) by omega]

/-- One tap's product, -/
theorem tapOne {w : FVec Ideal S1x512 .f32} {v : FVec Ideal S512x512 .f32} {n : ℕ} (hw : Rep2 w fun _ j => I.K n j) (hv : Rep2 v fun r j => I.tabs.up (512 * T + (2 + n + r)) j) {h} :
    Rep2 (mulf (broadcastTo S512x512 w h) v) fun r j => I.K n j * I.tabs.up (512 * T + (2 + n + r)) j := (hw.spreadRow h).mul hv
/-- and one more after the first `n`. -/
theorem tapMore {x : FVec Ideal S512x512 .f32} {w : FVec Ideal S1x512 .f32} {v : FVec Ideal S512x512 .f32} {n : ℕ}
    (hx : Rep2 x fun r j => ∑ k ∈ Finset.range n, I.K k j * I.tabs.up (512 * T + (2 + k + r)) j) (hw : Rep2 w fun _ j => I.K n j)
    (hv : Rep2 v fun r j => I.tabs.up (512 * T + (2 + n + r)) j) {h} :
    Rep2 (addf x (mulf (broadcastTo S512x512 w h) v)) fun r j => ∑ k ∈ Finset.range (n + 1), I.K k j * I.tabs.up (512 * T + (2 + k + r)) j :=
  Rep2.addTerm (f := fun k r j => I.K k j * I.tabs.up (512 * T + (2 + k + r)) j) hx (tapOne hw hv)
/-- The rows a tap meets, in the buffer -/
theorem inBuf {b : Vec Ideal S544x512 .f32} (hb : Rep2 b fun q j => I.tabs.up (512 * T + q) j) {n o : ℕ} {inb} (h : o = 2 + n) :
    Rep2 (View.ld b (Rect.unit ![o, 0] ![512, 512] inb) : Vec Ideal S512x512 .f32) fun r j => I.tabs.up (512 * T + (2 + n + r)) j :=
  view_at hb fun r j => by rw [h]
/-- and in the copies of it. -/
theorem inPlane {s : Vec Ideal S7x536x512 .f32} (hs : On3 (fun k => k < 7) s fun k r j => I.tabs.up (512 * T + (k + 1 + r)) j) {n k o : ℕ} {inb g} (hk : k < 7) (h : k + 1 + o = 2 + n) :
    Rep2 (shapeCast S512x512 (View.ld s (Rect.unit ![k, o, 0] ![1, 512, 512] inb) : Vec Ideal S1x512x512 .f32) g) fun r j => I.tabs.up (512 * T + (2 + n + r)) j :=
  plane_at (Y := fun q j => I.tabs.up (512 * T + q) j) hs hk fun r j => by rw [← h, Nat.add_assoc (k + 1)]

section Taps
variable {wa : Vec Ideal S32x512 .f32} {b : Vec Ideal S544x512 .f32} {s : Vec Ideal S7x536x512 .f32}
  (hw : Rep2 wa I.K)
include hw
/-- A row of the filter. -/
theorem tap (k : ℕ) {i} : Rep2 (View.ld wa (Rect.unit ![k, 0] ![1, 512] i) : Vec Ideal S1x512 .f32) fun _ j => I.K k j :=
  (hw.load k 1 512 0 i).congr fun r j hr _ => by rw [Nat.lt_one_iff.mp hr, Nat.add_zero, Nat.zero_add]
variable (hb : Rep2 b fun q j => I.tabs.up (512 * T + q) j) (hs : On3 (fun k => k < 7) s fun k r j => I.tabs.up (512 * T + (k + 1 + r)) j)
include hb hs
omit hb in
theorem taps19 {w0 v0} {w1 v1} {w2 v2} {w3 v3} : Rep2 (k0_pay19 (F := Ideal) (View.ld wa (Rect.unit ![0, 0] ![1, 512] w0) : Vec Ideal S1x512 .f32) (View.ld s (Rect.unit ![1, 0, 0] ![1, 512, 512] v0) : Vec Ideal S1x512x512 .f32)
      (View.ld wa (Rect.unit ![1, 0] ![1, 512] w1) : Vec Ideal S1x512 .f32) (View.ld s (Rect.unit ![2, 0, 0] ![1, 512, 512] v1) : Vec Ideal S1x512x512 .f32)
      (View.ld wa (Rect.unit ![2, 0] ![1, 512] w2) : Vec Ideal S1x512 .f32) (View.ld s (Rect.unit ![3, 0, 0] ![1, 512, 512] v2) : Vec Ideal S1x512x512 .f32)
      (View.ld wa (Rect.unit ![3, 0] ![1, 512] w3) : Vec Ideal S1x512 .f32) (View.ld s (Rect.unit ![4, 0, 0] ![1, 512, 512] v3) : Vec Ideal S1x512x512 .f32)) fun r j => ∑ k ∈ Finset.range 4, I.K k j * I.tabs.up (512 * T + (2 + k + r)) j :=
  tapMore (n := 3) (tapMore (n := 2) (tapMore (n := 1) (tapOne (n := 0) (tap hw 0) (inPlane hs (n := 0) (k := 1) (o := 0) (by norm_num) rfl) |>.congr fun r j _ _ => (Finset.sum_range_one (fun k => I.K k j * I.tabs.up (512 * T + (2 + k + r)) j)).symm) (tap hw 1) (inPlane hs (n := 1) (k := 2) (o := 0) (by norm_num) rfl)) (tap hw 2) (inPlane hs (n := 2) (k := 3) (o := 0) (by norm_num) rfl)) (tap hw 3) (inPlane hs (n := 3) (k := 4) (o := 0) (by norm_num) rfl)
theorem taps20 {x : FVec Ideal S512x512 .f32} (hx : Rep2 x fun r j => ∑ k ∈ Finset.range 4, I.K k j * I.tabs.up (512 * T + (2 + k + r)) j) {w4 v4} {w5 v5} {w6 v6} {w7 v7} {w8 v8} {w9 v9} : Rep2 (k0_pay20 (F := Ideal) x (View.ld wa (Rect.unit ![4, 0] ![1, 512] w4) : Vec Ideal S1x512 .f32) (View.ld s (Rect.unit ![5, 0, 0] ![1, 512, 512] v4) : Vec Ideal S1x512x512 .f32)
      (View.ld wa (Rect.unit ![5, 0] ![1, 512] w5) : Vec Ideal S1x512 .f32) (View.ld s (Rect.unit ![6, 0, 0] ![1, 512, 512] v5) : Vec Ideal S1x512x512 .f32)
      (View.ld wa (Rect.unit ![6, 0] ![1, 512] w6) : Vec Ideal S1x512 .f32) (View.ld b (Rect.unit ![8, 0] ![512, 512] v6) : Vec Ideal S512x512 .f32)
      (View.ld wa (Rect.unit ![7, 0] ![1, 512] w7) : Vec Ideal S1x512 .f32) (View.ld s (Rect.unit ![0, 8, 0] ![1, 512, 512] v7) : Vec Ideal S1x512x512 .f32)
      (View.ld wa (Rect.unit ![8, 0] ![1, 512] w8) : Vec Ideal S1x512 .f32) (View.ld s (Rect.unit ![1, 8, 0] ![1, 512, 512] v8) : Vec Ideal S1x512x512 .f32)
      (View.ld wa (Rect.unit ![9, 0] ![1, 512] w9) : Vec Ideal S1x512 .f32) (View.ld s (Rect.unit ![2, 8, 0] ![1, 512, 512] v9) : Vec Ideal S1x512x512 .f32)) fun r j => ∑ k ∈ Finset.range 10, I.K k j * I.tabs.up (512 * T + (2 + k + r)) j :=
  tapMore (n := 9) (tapMore (n := 8) (tapMore (n := 7) (tapMore (n := 6) (tapMore (n := 5) (tapMore (n := 4) (hx) (tap hw 4) (inPlane hs (n := 4) (k := 5) (o := 0) (by norm_num) rfl)) (tap hw 5) (inPlane hs (n := 5) (k := 6) (o := 0) (by norm_num) rfl)) (tap hw 6) (inBuf hb (n := 6) (o := 8) rfl)) (tap hw 7) (inPlane hs (n := 7) (k := 0) (o := 8) (by norm_num) rfl)) (tap hw 8) (inPlane hs (n := 8) (k := 1) (o := 8) (by norm_num) rfl)) (tap hw 9) (inPlane hs (n := 9) (k := 2) (o := 8) (by norm_num) rfl)
theorem taps21 {x : FVec Ideal S512x512 .f32} (hx : Rep2 x fun r j => ∑ k ∈ Finset.range 10, I.K k j * I.tabs.up (512 * T + (2 + k + r)) j) {w10 v10} {w11 v11} {w12 v12} {w13 v13} {w14 v14} : Rep2 (k0_pay21 (F := Ideal) x (View.ld wa (Rect.unit ![10, 0] ![1, 512] w10) : Vec Ideal S1x512 .f32) (View.ld s (Rect.unit ![3, 8, 0] ![1, 512, 512] v10) : Vec Ideal S1x512x512 .f32)
      (View.ld wa (Rect.unit ![11, 0] ![1, 512] w11) : Vec Ideal S1x512 .f32) (View.ld s (Rect.unit ![4, 8, 0] ![1, 512, 512] v11) : Vec Ideal S1x512x512 .f32)
      (View.ld wa (Rect.unit ![12, 0] ![1, 512] w12) : Vec Ideal S1x512 .f32) (View.ld s (Rect.unit ![5, 8, 0] ![1, 512, 512] v12) : Vec Ideal S1x512x512 .f32)
      (View.ld wa (Rect.unit ![13, 0] ![1, 512] w13) : Vec Ideal S1x512 .f32) (View.ld s (Rect.unit ![6, 8, 0] ![1, 512, 512] v13) : Vec Ideal S1x512x512 .f32)
      (View.ld wa (Rect.unit ![14, 0] ![1, 512] w14) : Vec Ideal S1x512 .f32) (View.ld b (Rect.unit ![16, 0] ![512, 512] v14) : Vec Ideal S512x512 .f32)) fun r j => ∑ k ∈ Finset.range 15, I.K k j * I.tabs.up (512 * T + (2 + k + r)) j :=
  tapMore (n := 14) (tapMore (n := 13) (tapMore (n := 12) (tapMore (n := 11) (tapMore (n := 10) (hx) (tap hw 10) (inPlane hs (n := 10) (k := 3) (o := 8) (by norm_num) rfl)) (tap hw 11) (inPlane hs (n := 11) (k := 4) (o := 8) (by norm_num) rfl)) (tap hw 12) (inPlane hs (n := 12) (k := 5) (o := 8) (by norm_num) rfl)) (tap hw 13) (inPlane hs (n := 13) (k := 6) (o := 8) (by norm_num) rfl)) (tap hw 14) (inBuf hb (n := 14) (o := 16) rfl)
omit hb in
theorem taps22 {w15 v15} : Rep2 (k0_pay22 (F := Ideal) (View.ld wa (Rect.unit ![15, 0] ![1, 512] w15) : Vec Ideal S1x512 .f32) (View.ld s (Rect.unit ![0, 16, 0] ![1, 512, 512] v15) : Vec Ideal S1x512x512 .f32))
    fun r j => I.K 15 j * I.tabs.up (512 * T + (2 + 15 + r)) j :=
  tapOne (n := 15) (tap hw 15) (inPlane hs (n := 15) (k := 0) (o := 16) (by norm_num) rfl)
omit hb in
theorem taps23 {x y : FVec Ideal S512x512 .f32} (hx : Rep2 x fun r j => ∑ k ∈ Finset.range 15, I.K k j * I.tabs.up (512 * T + (2 + k + r)) j) (hy : Rep2 y fun r j => I.K 15 j * I.tabs.up (512 * T + (2 + 15 + r)) j) {w16 v16} {w17 v17} {w18 v18} {w19 v19} {w20 v20} : Rep2 (k0_pay23 (F := Ideal) x y (View.ld wa (Rect.unit ![16, 0] ![1, 512] w16) : Vec Ideal S1x512 .f32) (View.ld s (Rect.unit ![1, 16, 0] ![1, 512, 512] v16) : Vec Ideal S1x512x512 .f32)
      (View.ld wa (Rect.unit ![17, 0] ![1, 512] w17) : Vec Ideal S1x512 .f32) (View.ld s (Rect.unit ![2, 16, 0] ![1, 512, 512] v17) : Vec Ideal S1x512x512 .f32)
      (View.ld wa (Rect.unit ![18, 0] ![1, 512] w18) : Vec Ideal S1x512 .f32) (View.ld s (Rect.unit ![3, 16, 0] ![1, 512, 512] v18) : Vec Ideal S1x512x512 .f32)
      (View.ld wa (Rect.unit ![19, 0] ![1, 512] w19) : Vec Ideal S1x512 .f32) (View.ld s (Rect.unit ![4, 16, 0] ![1, 512, 512] v19) : Vec Ideal S1x512x512 .f32)
      (View.ld wa (Rect.unit ![20, 0] ![1, 512] w20) : Vec Ideal S1x512 .f32) (View.ld s (Rect.unit ![5, 16, 0] ![1, 512, 512] v20) : Vec Ideal S1x512x512 .f32)) fun r j => ∑ k ∈ Finset.range 21, I.K k j * I.tabs.up (512 * T + (2 + k + r)) j :=
  tapMore (n := 20) (tapMore (n := 19) (tapMore (n := 18) (tapMore (n := 17) (tapMore (n := 16) (Rep2.addTerm (f := fun k r j => I.K k j * I.tabs.up (512 * T + (2 + k + r)) j) hx hy) (tap hw 16) (inPlane hs (n := 16) (k := 1) (o := 16) (by norm_num) rfl)) (tap hw 17) (inPlane hs (n := 17) (k := 2) (o := 16) (by norm_num) rfl)) (tap hw 18) (inPlane hs (n := 18) (k := 3) (o := 16) (by norm_num) rfl)) (tap hw 19) (inPlane hs (n := 19) (k := 4) (o := 16) (by norm_num) rfl)) (tap hw 20) (inPlane hs (n := 20) (k := 5) (o := 16) (by norm_num) rfl)
theorem taps24 {x : FVec Ideal S512x512 .f32} (hx : Rep2 x fun r j => ∑ k ∈ Finset.range 21, I.K k j * I.tabs.up (512 * T + (2 + k + r)) j) {w21 v21} {w22 v22} {w23 v23} {w24 v24} {w25 v25} {w26 v26} : Rep2 (k0_pay24 (F := Ideal) x (View.ld wa (Rect.unit ![21, 0] ![1, 512] w21) : Vec Ideal S1x512 .f32) (View.ld s (Rect.unit ![6, 16, 0] ![1, 512, 512] v21) : Vec Ideal S1x512x512 .f32)
      (View.ld wa (Rect.unit ![22, 0] ![1, 512] w22) : Vec Ideal S1x512 .f32) (View.ld b (Rect.unit ![24, 0] ![512, 512] v22) : Vec Ideal S512x512 .f32)
      (View.ld wa (Rect.unit ![23, 0] ![1, 512] w23) : Vec Ideal S1x512 .f32) (View.ld s (Rect.unit ![0, 24, 0] ![1, 512, 512] v23) : Vec Ideal S1x512x512 .f32)
      (View.ld wa (Rect.unit ![24, 0] ![1, 512] w24) : Vec Ideal S1x512 .f32) (View.ld s (Rect.unit ![1, 24, 0] ![1, 512, 512] v24) : Vec Ideal S1x512x512 .f32)
      (View.ld wa (Rect.unit ![25, 0] ![1, 512] w25) : Vec Ideal S1x512 .f32) (View.ld s (Rect.unit ![2, 24, 0] ![1, 512, 512] v25) : Vec Ideal S1x512x512 .f32)
      (View.ld wa (Rect.unit ![26, 0] ![1, 512] w26) : Vec Ideal S1x512 .f32) (View.ld s (Rect.unit ![3, 24, 0] ![1, 512, 512] v26) : Vec Ideal S1x512x512 .f32)) fun r j => ∑ k ∈ Finset.range 27, I.K k j * I.tabs.up (512 * T + (2 + k + r)) j :=
  tapMore (n := 26) (tapMore (n := 25) (tapMore (n := 24) (tapMore (n := 23) (tapMore (n := 22) (tapMore (n := 21) (hx) (tap hw 21) (inPlane hs (n := 21) (k := 6) (o := 16) (by norm_num) rfl)) (tap hw 22) (inBuf hb (n := 22) (o := 24) rfl)) (tap hw 23) (inPlane hs (n := 23) (k := 0) (o := 24) (by norm_num) rfl)) (tap hw 24) (inPlane hs (n := 24) (k := 1) (o := 24) (by norm_num) rfl)) (tap hw 25) (inPlane hs (n := 25) (k := 2) (o := 24) (by norm_num) rfl)) (tap hw 26) (inPlane hs (n := 26) (k := 3) (o := 24) (by norm_num) rfl)
omit hb in
theorem taps25 {x : FVec Ideal S512x512 .f32} (hx : Rep2 x fun r j => ∑ k ∈ Finset.range 27, I.K k j * I.tabs.up (512 * T + (2 + k + r)) j) {cb : Vec Ideal S1x512 .f32} (hc : Rep2 cb fun _ j => I.CB j) {own : Vec Ideal S512x512 .f32} (ho : Rep2 own fun r j => I.tabs.up (512 * T + (2 + 30 + r)) j) {w27 v27} {w28 v28} {w29 v29} {w30} :
    Rep2 (k0_pay25 (F := Ideal) x (View.ld wa (Rect.unit ![27, 0] ![1, 512] w27) : Vec Ideal S1x512 .f32) (View.ld s (Rect.unit ![4, 24, 0] ![1, 512, 512] v27) : Vec Ideal S1x512x512 .f32)
      (View.ld wa (Rect.unit ![28, 0] ![1, 512] w28) : Vec Ideal S1x512 .f32) (View.ld s (Rect.unit ![5, 24, 0] ![1, 512, 512] v28) : Vec Ideal S1x512x512 .f32)
      (View.ld wa (Rect.unit ![29, 0] ![1, 512] w29) : Vec Ideal S1x512 .f32) (View.ld s (Rect.unit ![6, 24, 0] ![1, 512, 512] v29) : Vec Ideal S1x512x512 .f32)
      (View.ld wa (Rect.unit ![30, 0] ![1, 512] w30) : Vec Ideal S1x512 .f32) own cb) fun r j => I.conv (512 * T + r) j :=
  Rep2.congr (((tapMore (n := 30) (tapMore (n := 29) (tapMore (n := 28) (tapMore (n := 27) (hx) (tap hw 27) (inPlane hs (n := 27) (k := 4) (o := 24) (by norm_num) rfl)) (tap hw 28) (inPlane hs (n := 28) (k := 5) (o := 24) (by norm_num) rfl)) (tap hw 29) (inPlane hs (n := 29) (k := 6) (o := 24) (by norm_num) rfl)) (tap hw 30) ho) : Rep2 _ fun r j => ∑ k ∈ Finset.range 31, I.K k j * I.tabs.up (512 * T + (2 + k + r)) j).add (hc.spreadRow broadcasts_S1x512_S512x512)) fun r j _ _ => conv_eq I _ _ _
end Taps

/-- A row less its mean, -/
theorem centred {x : FVec Ideal S512x512 .f32} (hx : Rep2 x fun r j => I.conv (512 * T + r) j) {h1 h2 h3 h4 h5} :
    Rep2 (subf x (broadcastTo S512x512 (divf (shapeCast S512x1 (multiReduction .add [1] S512 x 0x00000000#32 h1 h2 h3) h4)
      (broadcast S512x1 (Scalar.ofBits (F := Ideal) .f32 0x44000000#32))) h5)) fun r j => I.tabs.xc (512 * T + r) j :=
  hx.sub (Rep2.spreadCol (X := fun r _ => I.tabs.mu (512 * T + r)) ((hx.rowSum _ _ _ _ _).div (.splat lit_512) fun _ _ _ _ => by norm_num) _)
theorem unit_rep {x : FVec Ideal S512x512 .f32} {X : ℕ → ℕ → ℝ} (hx : Rep2 x X) : Rep2 (mulf x (logistic x)) fun r j => X r j * sigm (X r j) := hx.mul hx.logistic
/-- and the layer norm with the unit behind it. -/
theorem branch_rep {x : FVec Ideal S512x512 .f32} {lg lb : Vec Ideal S1x512 .f32} (hx : Rep2 x fun r j => I.conv (512 * T + r) j)
    (hg : Rep2 lg fun _ j => I.LG j) (hl : Rep2 lb fun _ j => I.LB j) : Rep2 (k0_pay28 (F := Ideal) x lg lb) fun r j => ya I (512 * T + r) j :=
  unit_rep (X := fun r j => I.tabs.ln (512 * T + r) j) (Rep2.add (Rep2.mul (Rep2.mul (centred hx) (Rep2.spreadCol (X := fun r _ => I.tabs.rs (512 * T + r))
    (Rep2.rsqrt (Rep2.add (Rep2.div (Rep2.rowSum ((centred hx).mul (centred hx)) _ _ _ _ _) (.splat lit_512) (fun _ _ _ _ => by norm_num)) (.splat lit_eps))
      fun r _ _ _ => I.tabs.va_pos (512 * T + r)) _)) (hg.spreadRow _)) (hl.spreadRow _))

/-! ## The pools -/

theorem back_row (r j : ℕ) : back I (16 + r) j = I.proj r (1024 + j) := by
  unfold back
  rw [if_neg (by omega), Nat.add_sub_cancel_left]

section Pools
variable {v0 : BitVec 32} {y : FVec Ideal S512x512 .f32} {z : Vec Ideal S528x512 .f32}

/-- A pool's rows `k` before each row, -/
theorem late (hz : Rep2 z fun q j => back I (512 * T + q) j) {k g o l : ℕ} (hk : k ≤ 16) (ho : o = 16 - k) (hl : l = 128 * g) {i} :
    Rep2 (View.ld z (Rect.unit ![o, l] ![512, 128] i) : Vec Ideal S512x128 .f32) fun r j => back I (16 - k + (512 * T + r)) (128 * g + j) :=
  (hz.load o 512 128 l i).congr fun r j _ _ => by rw [hl, show 512 * T + (o + r) = 16 - k + (512 * T + r) by omega]
/-- its rows themselves, -/
theorem present (hy : Rep2 y fun r j => I.proj (512 * T + r) (1024 + j)) (g : ℕ) {l : ℕ} (hl : l = 128 * g) {h} :
    Rep2 (extractStridedSlice S512x128 ![0, l] y h) fun r j => ∑ k ∈ Finset.range 1, back I (16 - k + (512 * T + r)) (128 * g + j) :=
  (hy.cols 128 l h).congr fun r j _ _ => by rw [Finset.sum_range_one, Nat.sub_zero, back_row, hl]
/-- and its windowed mean less each row. -/
theorem pool {s u : FVec Ideal S512x128 .f32} {w : BitVec 32} {g l n : ℕ} (hv : v0 = BitVec.ofNat 32 T) (hT : T < 8) (hw : w = BitVec.ofNat 32 (Tabs.width g))
    (hn : n = Tabs.width g) (hl : l = 128 * g) (hg : g < 4) (hs : Rep2 s fun r j => ∑ k ∈ Finset.range n, back I (16 - k + (512 * T + r)) (128 * g + j))
    (hu : Rep2 u fun r j => I.proj (512 * T + r) (1024 + (l + j))) :
    Rep2 (subf (divf s (sitofp (F := Ideal) .f32 (minsi (addi (addi (iota .tc S512x128 32 [0] iota_S512x128_d0_w32) (broadcast S512x128 (Scalar.muli v0 512#32)))
      (broadcast S512x128 1#32)) (broadcast S512x128 w)))) u) fun r j => I.diff (512 * T + r) (128 * g + j) :=
  ((hs.div (count hv hT hw hg) fun _ _ _ _ => Tabs.cnt_ne _ _).sub hu).congr fun r j hr hj => by
    rw [diff_eq I (by omega) (by omega), show (128 * g + j) / 128 = g by omega, hn, hl]

variable (hy : Rep2 y fun r j => I.proj (512 * T + r) (1024 + j)) (hz : Rep2 z fun q j => back I (512 * T + q) j)
include hy hz
theorem pool0 (hv : v0 = BitVec.ofNat 32 T) (hT : T < 8) {p1} : Rep2 (k0_pay30 (F := Ideal) v0 y (View.ld z (Rect.unit ![15, 0] ![512, 128] p1) : Vec Ideal S512x128 .f32)) fun r j => I.diff (512 * T + r) (128 * 0 + j) :=
  pool (g := 0) (l := 0) (n := 2) hv hT rfl rfl rfl (by norm_num) (Rep2.addTerm (f := fun k r j => back I (16 - k + (512 * T + r)) (128 * 0 + j)) (present hy 0 rfl) (late hz (k := 1) (g := 0) (o := 15) (l := 0) (by norm_num) rfl rfl)) (hy.cols 128 _ _)
theorem pool1 (hv : v0 = BitVec.ofNat 32 T) (hT : T < 8) {p1} {p2} {p3} : Rep2 (k0_pay32 (F := Ideal) v0 y (View.ld z (Rect.unit ![15, 128] ![512, 128] p1) : Vec Ideal S512x128 .f32) (View.ld z (Rect.unit ![14, 128] ![512, 128] p2) : Vec Ideal S512x128 .f32) (View.ld z (Rect.unit ![13, 128] ![512, 128] p3) : Vec Ideal S512x128 .f32)) fun r j => I.diff (512 * T + r) (128 * 1 + j) :=
  pool (g := 1) (l := 128) (n := 4) hv hT rfl rfl rfl (by norm_num) (Rep2.addTerm (f := fun k r j => back I (16 - k + (512 * T + r)) (128 * 1 + j)) (Rep2.addTerm (f := fun k r j => back I (16 - k + (512 * T + r)) (128 * 1 + j)) (Rep2.addTerm (f := fun k r j => back I (16 - k + (512 * T + r)) (128 * 1 + j)) (present hy 1 rfl) (late hz (k := 1) (g := 1) (o := 15) (l := 128) (by norm_num) rfl rfl)) (late hz (k := 2) (g := 1) (o := 14) (l := 128) (by norm_num) rfl rfl)) (late hz (k := 3) (g := 1) (o := 13) (l := 128) (by norm_num) rfl rfl)) (hy.cols 128 _ _)
theorem part2 {p1} {p2} {p3} : Rep2 (k0_pay34 (F := Ideal) y (View.ld z (Rect.unit ![15, 256] ![512, 128] p1) : Vec Ideal S512x128 .f32) (View.ld z (Rect.unit ![14, 256] ![512, 128] p2) : Vec Ideal S512x128 .f32) (View.ld z (Rect.unit ![13, 256] ![512, 128] p3) : Vec Ideal S512x128 .f32)) fun r j => ∑ k ∈ Finset.range 4, back I (16 - k + (512 * T + r)) (128 * 2 + j) :=
  Rep2.addTerm (f := fun k r j => back I (16 - k + (512 * T + r)) (128 * 2 + j)) (Rep2.addTerm (f := fun k r j => back I (16 - k + (512 * T + r)) (128 * 2 + j)) (Rep2.addTerm (f := fun k r j => back I (16 - k + (512 * T + r)) (128 * 2 + j)) (present hy 2 rfl) (late hz (k := 1) (g := 2) (o := 15) (l := 256) (by norm_num) rfl rfl)) (late hz (k := 2) (g := 2) (o := 14) (l := 256) (by norm_num) rfl rfl)) (late hz (k := 3) (g := 2) (o := 13) (l := 256) (by norm_num) rfl rfl)
theorem pool2 (hv : v0 = BitVec.ofNat 32 T) (hT : T < 8) {x : FVec Ideal S512x128 .f32} (hx : Rep2 x fun r j => ∑ k ∈ Finset.range 4, back I (16 - k + (512 * T + r)) (128 * 2 + j)) {p4} {p5} {p6} {p7} : Rep2 (k0_pay35 (F := Ideal) v0 y x (View.ld z (Rect.unit ![12, 256] ![512, 128] p4) : Vec Ideal S512x128 .f32) (View.ld z (Rect.unit ![11, 256] ![512, 128] p5) : Vec Ideal S512x128 .f32) (View.ld z (Rect.unit ![10, 256] ![512, 128] p6) : Vec Ideal S512x128 .f32) (View.ld z (Rect.unit ![9, 256] ![512, 128] p7) : Vec Ideal S512x128 .f32)) fun r j => I.diff (512 * T + r) (128 * 2 + j) :=
  pool (g := 2) (l := 256) (n := 8) hv hT rfl rfl rfl (by norm_num) (Rep2.addTerm (f := fun k r j => back I (16 - k + (512 * T + r)) (128 * 2 + j)) (Rep2.addTerm (f := fun k r j => back I (16 - k + (512 * T + r)) (128 * 2 + j)) (Rep2.addTerm (f := fun k r j => back I (16 - k + (512 * T + r)) (128 * 2 + j)) (Rep2.addTerm (f := fun k r j => back I (16 - k + (512 * T + r)) (128 * 2 + j)) (hx) (late hz (k := 4) (g := 2) (o := 12) (l := 256) (by norm_num) rfl rfl)) (late hz (k := 5) (g := 2) (o := 11) (l := 256) (by norm_num) rfl rfl)) (late hz (k := 6) (g := 2) (o := 10) (l := 256) (by norm_num) rfl rfl)) (late hz (k := 7) (g := 2) (o := 9) (l := 256) (by norm_num) rfl rfl)) (hy.cols 128 _ _)
theorem part3 {p1} {p2} {p3} {p4} {p5} : Rep2 (k0_pay37 (F := Ideal) y (View.ld z (Rect.unit ![15, 384] ![512, 128] p1) : Vec Ideal S512x128 .f32) (View.ld z (Rect.unit ![14, 384] ![512, 128] p2) : Vec Ideal S512x128 .f32) (View.ld z (Rect.unit ![13, 384] ![512, 128] p3) : Vec Ideal S512x128 .f32) (View.ld z (Rect.unit ![12, 384] ![512, 128] p4) : Vec Ideal S512x128 .f32) (View.ld z (Rect.unit ![11, 384] ![512, 128] p5) : Vec Ideal S512x128 .f32)) fun r j => ∑ k ∈ Finset.range 6, back I (16 - k + (512 * T + r)) (128 * 3 + j) :=
  Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (present hy 3 rfl) (late hz (k := 1) (g := 3) (o := 15) (l := 384) (by norm_num) rfl rfl)) (late hz (k := 2) (g := 3) (o := 14) (l := 384) (by norm_num) rfl rfl)) (late hz (k := 3) (g := 3) (o := 13) (l := 384) (by norm_num) rfl rfl)) (late hz (k := 4) (g := 3) (o := 12) (l := 384) (by norm_num) rfl rfl)) (late hz (k := 5) (g := 3) (o := 11) (l := 384) (by norm_num) rfl rfl)
theorem pool3 (hv : v0 = BitVec.ofNat 32 T) (hT : T < 8) {x : FVec Ideal S512x128 .f32} (hx : Rep2 x fun r j => ∑ k ∈ Finset.range 6, back I (16 - k + (512 * T + r)) (128 * 3 + j)) {p6} {p7} {p8} {p9} {p10} {p11} {p12} {p13} {p14} {p15} : Rep2 (k0_pay38 (F := Ideal) v0 y x (View.ld z (Rect.unit ![10, 384] ![512, 128] p6) : Vec Ideal S512x128 .f32) (View.ld z (Rect.unit ![9, 384] ![512, 128] p7) : Vec Ideal S512x128 .f32) (View.ld z (Rect.unit ![8, 384] ![512, 128] p8) : Vec Ideal S512x128 .f32) (View.ld z (Rect.unit ![7, 384] ![512, 128] p9) : Vec Ideal S512x128 .f32) (View.ld z (Rect.unit ![6, 384] ![512, 128] p10) : Vec Ideal S512x128 .f32) (View.ld z (Rect.unit ![5, 384] ![512, 128] p11) : Vec Ideal S512x128 .f32) (View.ld z (Rect.unit ![4, 384] ![512, 128] p12) : Vec Ideal S512x128 .f32) (View.ld z (Rect.unit ![3, 384] ![512, 128] p13) : Vec Ideal S512x128 .f32) (View.ld z (Rect.unit ![2, 384] ![512, 128] p14) : Vec Ideal S512x128 .f32) (View.ld z (Rect.unit ![1, 384] ![512, 128] p15) : Vec Ideal S512x128 .f32)) fun r j => I.diff (512 * T + r) (128 * 3 + j) :=
  pool (g := 3) (l := 384) (n := 16) hv hT rfl rfl rfl (by norm_num) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (Rep2.addTerm (f := fun k r j => back I (16 - k + (512 * T + r)) (128 * 3 + j)) (hx) (late hz (k := 6) (g := 3) (o := 10) (l := 384) (by norm_num) rfl rfl)) (late hz (k := 7) (g := 3) (o := 9) (l := 384) (by norm_num) rfl rfl)) (late hz (k := 8) (g := 3) (o := 8) (l := 384) (by norm_num) rfl rfl)) (late hz (k := 9) (g := 3) (o := 7) (l := 384) (by norm_num) rfl rfl)) (late hz (k := 10) (g := 3) (o := 6) (l := 384) (by norm_num) rfl rfl)) (late hz (k := 11) (g := 3) (o := 5) (l := 384) (by norm_num) rfl rfl)) (late hz (k := 12) (g := 3) (o := 4) (l := 384) (by norm_num) rfl rfl)) (late hz (k := 13) (g := 3) (o := 3) (l := 384) (by norm_num) rfl rfl)) (late hz (k := 14) (g := 3) (o := 2) (l := 384) (by norm_num) rfl rfl)) (late hz (k := 15) (g := 3) (o := 1) (l := 384) (by norm_num) rfl rfl)) (hy.cols 128 _ _)
end Pools

/-- A pool's product. -/
theorem weigh {x : FVec Ideal S512x128 .f32} {pw : Vec Ideal S4x128x128 .f32} {g : ℕ} (hx : Rep2 x fun r j => I.diff (512 * T + r) (128 * g + j)) (hp : Rep3 pw I.PW) {i h h' h''} :
    Rep2 (matmul dot_S512x128_S128x128_S512x128_1_0_0_1_n_n none (truncf (F := Ideal) (φ := .f32) .bf16 x h'')
      (truncf (F := Ideal) (φ := .f32) .bf16 (shapeCast S128x128 (View.ld pw (Rect.unit ![g, 0, 0] ![1, 128, 128] i) : Vec Ideal S1x128x128 .f32) h) h') (constant S512x128 .f32 0x00000000#32))
      fun r j => I.tabs.yp g (512 * T + r) j :=
  (Rep2.trunc (φ := .f32) hx _).dot (((On3.of_rep (p := fun _ => True) hp).load trivial fun r j _ _ => by rw [Nat.zero_add]; rfl).trunc (φ := .f32) h') none

/-- Four pools side by side. -/
theorem four {x0 x1 x2 x3 : FVec Ideal S512x128 .f32} {X : ℕ → ℕ → ℕ → ℝ} (h0 : Rep2 x0 (X 0)) (h1 : Rep2 x1 (X 1)) (h2 : Rep2 x2 (X 2)) (h3 : Rep2 x3 (X 3)) {h} :
    Rep2 (concatenate S512x512 1 [⟨S512x128, x0⟩, ⟨S512x128, x1⟩, ⟨S512x128, x2⟩, ⟨S512x128, x3⟩] h) fun r j => X (j / 128) r (j % 128) :=
  Rep2.hside4 (a := 512) (p := 128) (n := 512) h0 h1 h2 h3 (by norm_num) (by norm_num) _
/-- The differences of all four. -/
theorem diffs {x0 x1 x2 x3 : FVec Ideal S512x128 .f32} (h0 : Rep2 x0 fun r j => I.diff (512 * T + r) (128 * 0 + j)) (h1 : Rep2 x1 fun r j => I.diff (512 * T + r) (128 * 1 + j))
    (h2 : Rep2 x2 fun r j => I.diff (512 * T + r) (128 * 2 + j)) (h3 : Rep2 x3 fun r j => I.diff (512 * T + r) (128 * 3 + j)) :
    Rep2 (k0_pay2 (F := Ideal) x0 x1 x2 x3) fun r j => I.diff (512 * T + r) j :=
  (Rep2.trunc (φ := .f32) (four (X := fun g r j => I.diff (512 * T + r) (128 * g + j)) h0 h1 h2 h3) _).congr fun r j _ _ => by rw [Nat.div_add_mod]

section Join
variable {a : FVec Ideal S512x512 .f32} {x0 x1 x2 : FVec Ideal S512x128 .f32} {x3 : FVec Ideal S512x128 .f32} {pw : Vec Ideal S4x128x128 .f32} {ps : Vec Ideal S1x512 .f32}
  (ha : Rep2 a fun r j => ya I (512 * T + r) j) (h0 : Rep2 x0 fun r j => I.tabs.yp 0 (512 * T + r) j) (h1 : Rep2 x1 fun r j => I.tabs.yp 1 (512 * T + r) j)
  (h2 : Rep2 x2 fun r j => I.tabs.yp 2 (512 * T + r) j) (h3 : Rep2 x3 fun r j => I.diff (512 * T + r) (128 * 3 + j)) (hp : Rep3 pw I.PW) (hs : Rep2 ps fun _ j => I.PS j)
include ha h0 h1 h2 h3 hp hs
/-- The two branches, -/
theorem joined_rep {h i} : Rep2 (k0_pay3 (F := Ideal) a x0 x1 x2 (truncf (F := Ideal) (φ := .f32) .bf16 x3 h) (View.ld pw (Rect.unit ![3, 0, 0] ![1, 128, 128] i) : Vec Ideal S1x128x128 .f32) ps)
    fun r j => joined I (512 * T + r) j := by
  have hb : Rep2 _ fun r j => yb I (512 * T + r) j := Rep2.mul (φ := .f32) (four (X := fun g r j => I.tabs.yp g (512 * T + r) j) h0 h1 h2
    (weigh (i := i) (h := shapeCasts_S1x128x128_S128x128) (h' := bitsLt_bf16_f32) (h'' := h) h3 hp) (h := concatenates_S512x128_S512x128_S512x128_S512x128_S512x512_d1))
    (hs.spreadRow broadcasts_S1x512_S512x512)
  refine Rep2.trunc (φ := .f32) (fun i => ?_) _
  have hi : (i 1).val < 1024 := (i 1).isLt
  by_cases c0 : (i 1).val < 512
  · refine Eq.trans ?_ (congrArg Real.toEReal (if_pos c0).symm)
    exact ha.sidePiece [⟨⟨2, ![512, 512]⟩, _⟩, ⟨⟨2, ![512, 512]⟩, _⟩] _ 0 (by simp) rfl 0 rfl i (Nat.zero_le _) (by omega)
  refine Eq.trans ?_ (congrArg Real.toEReal (if_neg c0).symm)
  exact hb.sidePiece [⟨⟨2, ![512, 512]⟩, _⟩, ⟨⟨2, ![512, 512]⟩, _⟩] _ 1 (by simp) rfl 512 (by simp) i (by omega) (by omega)
/-- and the stream with their product. -/
theorem after_rep {x : Vec Ideal S512x1024 .f32} {w : Vec Ideal S1024x1024 .bf16} (hx : Rep2 x fun r j => I.X (512 * T + r) j) (hw : Rep2 w I.WO) {h i} :
    Rep2 (k0_pay4 (F := Ideal) x a x0 x1 x2 (truncf (F := Ideal) (φ := .f32) .bf16 x3 h) (View.ld pw (Rect.unit ![3, 0, 0] ![1, 128, 128] i) : Vec Ideal S1x128x128 .f32) ps w)
    fun r j => after I (512 * T + r) j :=
  hx.add ((joined_rep ha h0 h1 h2 h3 hp hs).dot hw none)
end Join

end Cert.FwdValue

end
-- ==== Proof.FwdBody.lean ====
/- What one tile of the mixer's forward call (`mixer_fwd`) leaves, as tables of reals: 512 rows of its six results, and the
   rows that the next tile's filter and pools read. -/
module

public import proofs.«01_k».proof.Defs
public import proofs.«01_k».proof.Proof.FwdTile
public import proofs.«01_k».proof.Proof.MixBody
public import proofs.«01_k».proof.Proof.MixTile
public import proofs.«01_k».proof.Proof.Gen.FwdIdeal.Frame

@[expose] public section

set_option maxRecDepth 16384

noncomputable section

namespace Cert.FwdValue

open Idealize.ShloMosaic Idealize.ShloMosaic.ValueIdx Idealize.ShloMosaic.Tactic Cert.Reals Cert.FwdIdeal Cert.FwdIdeal.Gen
open Cert.MixValue (Args Tabs shifts plane_at view_at count)
open scoped BigOperators

variable {I : Args} {T : ℕ}

theorem up_row (r j : ℕ) : I.tabs.up (32 + r) j = I.tabs.u r j := by
  unfold Tabs.up
  rw [if_neg (by omega), Nat.add_sub_cancel_left]

/-! ## The buffers -/

section Body
variable {sig : RefSig} {κ : Kind} {sp : Space}

section U
variable {v : View sig κ sp S544x512 .f32} {f : v.ty.Contents (Elt Ideal)} {L : List (View.Piece (Elt Ideal) S544x512 .f32)} {u : FVec Ideal S512x512 .f32}
/-- The buffer's first 32 rows held, and the tile's own stored behind them: all of it is held. -/
theorem bufferU {i} (hb : On2 (fun q _ => q < 32) (v.read (Elt Ideal) (v.writes (Elt Ideal) f L)) fun q j => I.tabs.up (512 * T + q) j)
    (hu : Rep2 u fun r j => I.tabs.u (512 * T + r) j) :
    Rep2 (v.read (Elt Ideal) (v.writes (Elt Ideal) f (⟨Rect.unit ![32, 0] ![512, 512] i, u⟩ :: L))) fun q j => I.tabs.up (512 * T + q) j :=
  (hb.store (c := 512) (d := 512) (hu.congr fun r j _ _ => by
    rw [← up_row, Nat.zero_add, show 32 + (512 * T + r) = 512 * T + (32 + r) by omega])).all fun r j hr hj => by omega
/-- The last 32 rows, read back, -/
theorem tailU {i k} (hu : Rep2 u fun r j => I.tabs.u (512 * T + r) j) :
    Rep2 (a := 32) (b := 512) (View.ld (v.read (Elt Ideal) (v.writes (Elt Ideal) f (⟨Rect.unit ![32, 0] ![512, 512] k, u⟩ :: L)) : Vec Ideal S544x512 .f32)
      (Rect.unit ![512, 0] ![32, 512] i)) fun r j => I.tabs.up (512 * (T + 1) + r) j :=
  ((On2.nowhere _ fun q j => I.tabs.up (512 * T + q) j).store (hu.congr fun r j _ _ => by
    rw [← up_row, Nat.zero_add, show 32 + (512 * T + r) = 512 * T + (32 + r) by omega])).load fun r j hr hj =>
    ⟨by omega, by rw [Nat.zero_add, show 512 * T + (512 + r) = 512 * (T + 1) + r by omega]⟩
/-- the tile's own rows, read back, -/
theorem ownU {i k} (hu : Rep2 u fun r j => I.tabs.u (512 * T + r) j) :
    Rep2 (a := 512) (b := 512) (View.ld (v.read (Elt Ideal) (v.writes (Elt Ideal) f (⟨Rect.unit ![32, 0] ![512, 512] k, u⟩ :: L)) : Vec Ideal S544x512 .f32)
      (Rect.unit ![32, 0] ![512, 512] i)) fun r j => I.tabs.up (512 * T + (2 + 30 + r)) j :=
  ((On2.nowhere _ fun q j => I.tabs.up (512 * T + q) j).store (hu.congr fun r j _ _ => by
    rw [← up_row, Nat.zero_add, show 32 + (512 * T + r) = 512 * T + (32 + r) by omega])).load fun r j hr hj =>
    ⟨by omega, by rw [Nat.zero_add]⟩
/-- put first for the next tile. -/
theorem carryU {i} {w : Vec Ideal S32x512 .f32} (hw : Rep2 w fun r j => I.tabs.up (512 * (T + 1) + r) j) :
    On2 (fun q _ => q < 32) (v.read (Elt Ideal) (v.writes (Elt Ideal) f (⟨Rect.unit ![0, 0] ![32, 512] i, k0_pay26 (F := Ideal) w⟩ :: L)))
      fun q j => I.tabs.up (512 * (T + 1) + q) j := by
  have hs : Rep2 (a := 32) (b := 512) (k0_pay26 (F := Ideal) w) fun r j => I.tabs.up (512 * (T + 1) + (0 + r)) (0 + j) :=
    Rep2.congr (Rep2.cast hw shapeCasts_S32x512_S32x512) fun r j _ _ => by rw [Nat.zero_add, Nat.zero_add]
  exact ((On2.nowhere _ fun q j => I.tabs.up (512 * (T + 1) + q) j).store (c := 32) (d := 512) hs).congr fun r j _ hj hr => ⟨by omega, rfl⟩
/-- The rows before the first tile. -/
theorem startU {i} : On2 (fun q _ => q < 32) (v.read (Elt Ideal) (v.writes (Elt Ideal) f (⟨Rect.unit ![0, 0] ![32, 512] i, k0_pay5 (F := Ideal)⟩ :: L)))
      fun q j => I.tabs.up (512 * 0 + q) j :=
  ((On2.nowhere _ fun q j => I.tabs.up (512 * 0 + q) j).store ((Rep2.splat lit_zero).cast _ |>.congr fun r j hr _ => by
    unfold Tabs.up
    rw [if_pos (by omega)])).congr fun r j _ hj hr => ⟨by omega, rfl⟩
end U

section V
variable {v : View sig κ sp S528x512 .f32} {f : v.ty.Contents (Elt Ideal)} {L : List (View.Piece (Elt Ideal) S528x512 .f32)} {u : FVec Ideal S512x512 .f32}
/-- The buffer's first 16 rows held, and the tile's own stored behind them: all of it is held. -/
theorem bufferV {i} (hb : On2 (fun q _ => q < 16) (v.read (Elt Ideal) (v.writes (Elt Ideal) f L)) fun q j => back I (512 * T + q) j)
    (hu : Rep2 u fun r j => I.proj (512 * T + r) (1024 + j)) :
    Rep2 (v.read (Elt Ideal) (v.writes (Elt Ideal) f (⟨Rect.unit ![16, 0] ![512, 512] i, u⟩ :: L))) fun q j => back I (512 * T + q) j :=
  (hb.store (c := 512) (d := 512) (hu.congr fun r j _ _ => by
    rw [← back_row, Nat.zero_add, show 16 + (512 * T + r) = 512 * T + (16 + r) by omega])).all fun r j hr hj => by omega
/-- The last 16 rows, read back, -/
theorem tailV {i k} (hu : Rep2 u fun r j => I.proj (512 * T + r) (1024 + j)) :
    Rep2 (a := 16) (b := 512) (View.ld (v.read (Elt Ideal) (v.writes (Elt Ideal) f (⟨Rect.unit ![16, 0] ![512, 512] k, u⟩ :: L)) : Vec Ideal S528x512 .f32)
      (Rect.unit ![512, 0] ![16, 512] i)) fun r j => back I (512 * (T + 1) + r) j :=
  ((On2.nowhere _ fun q j => back I (512 * T + q) j).store (hu.congr fun r j _ _ => by
    rw [← back_row, Nat.zero_add, show 16 + (512 * T + r) = 512 * T + (16 + r) by omega])).load fun r j hr hj =>
    ⟨by omega, by rw [Nat.zero_add, show 512 * T + (512 + r) = 512 * (T + 1) + r by omega]⟩
/-- put first for the next tile. -/
theorem carryV {i} {w : Vec Ideal S16x512 .f32} (hw : Rep2 w fun r j => back I (512 * (T + 1) + r) j) :
    On2 (fun q _ => q < 16) (v.read (Elt Ideal) (v.writes (Elt Ideal) f (⟨Rect.unit ![0, 0] ![16, 512] i, k0_pay1 (F := Ideal) w⟩ :: L)))
      fun q j => back I (512 * (T + 1) + q) j := by
  have hs : Rep2 (a := 16) (b := 512) (k0_pay1 (F := Ideal) w) fun r j => back I (512 * (T + 1) + (0 + r)) (0 + j) :=
    Rep2.congr (Rep2.cast hw shapeCasts_S16x512_S16x512) fun r j _ _ => by rw [Nat.zero_add, Nat.zero_add]
  exact ((On2.nowhere _ fun q j => back I (512 * (T + 1) + q) j).store (c := 16) (d := 512) hs).congr fun r j _ hj hr => ⟨by omega, rfl⟩
/-- The rows before the first tile. -/
theorem startV {i} : On2 (fun q _ => q < 16) (v.read (Elt Ideal) (v.writes (Elt Ideal) f (⟨Rect.unit ![0, 0] ![16, 512] i, k0_pay6 (F := Ideal)⟩ :: L)))
      fun q j => back I (512 * 0 + q) j :=
  ((On2.nowhere _ fun q j => back I (512 * 0 + q) j).store ((Rep2.splat lit_zero).cast _ |>.congr fun r j hr _ => by
    unfold back
    rw [if_pos (by omega)])).congr fun r j _ hj hr => ⟨by omega, rfl⟩
end V
end Body

/-! ## A tile -/

/-- The blocks of tile `T`, the two weights and the filter. -/
structure Tile (I : Args) (T : ℕ) (x0 : Vec Ideal S512x1024 .f32) (x1 : Vec Ideal S1x1024 .f32) (x2 x3 x4 : Vec Ideal S1x512 .f32)
    (x5 : Vec Ideal S4x128x128 .f32) (x6 : Vec Ideal S1x512 .f32) (wi : Vec Ideal S1024x1536 .bf16) (wo : Vec Ideal S1024x1024 .bf16) (wa : Vec Ideal S32x512 .f32) : Prop where
  x : Rep2 x0 fun r j => I.X (512 * T + r) j
  g : Rep2 x1 fun _ j => I.G j
  cb : Rep2 x2 fun _ j => I.CB j
  lg : Rep2 x3 fun _ j => I.LG j
  lb : Rep2 x4 fun _ j => I.LB j
  pw : Rep3 x5 I.PW
  ps : Rep2 x6 fun _ j => I.PS j
  wi : Rep2 wi I.W
  wo : Rep2 wo I.WO
  wa : Rep2 wa I.K

section Points
variable (c : Dev nD) (i : grid0.Coords)
  (a1 : Memref sig .tc .vmem S512x1024 .f32) (h1 : a1.IsWhole) (a2 : Memref sig .tc .vmem S1x1024 .f32) (h2 : a2.IsWhole)
  (a6 : Memref sig .tc .vmem S1x512 .f32) (h6 : a6.IsWhole) (a7 : Memref sig .tc .vmem S1x512 .f32) (h7 : a7.IsWhole)
  (a8 : Memref sig .tc .vmem S1x512 .f32) (h8 : a8.IsWhole) (a9 : Memref sig .tc .vmem S4x128x128 .f32) (h9 : a9.IsWhole)
  (a10 : Memref sig .tc .vmem S1x512 .f32) (h10 : a10.IsWhole) (a11 : Memref sig .tc .vmem S512x1024 .bf16) (h11 : a11.IsWhole)
  (a12 : Memref sig .tc .vmem S512x1536 .bf16) (h12 : a12.IsWhole) (a13 : Memref sig .tc .vmem S512x512 .bf16) (h13 : a13.IsWhole)
  (a14 : Memref sig .tc .vmem S512x512 .bf16) (h14 : a14.IsWhole) (a15 : Memref sig .tc .vmem S512x1024 .bf16) (h15 : a15.IsWhole)
  (a16 : Memref sig .tc .vmem S512x1024 .f32) (h16 : a16.IsWhole) (a17 : Memref sig .tc .vmem S1024x1536 .bf16) (h17 : a17.IsWhole)
  (a18 : Memref sig .tc .vmem S1024x1024 .bf16) (h18 : a18.IsWhole) (a19 : Memref sig .tc .vmem S32x512 .f32) (h19 : a19.IsWhole)
  (a20 : Memref sig .tc .vmem S544x512 .f32) (h20 : a20.IsWhole) (a21 : Memref sig .tc .vmem S7x536x512 .f32) (h21 : a21.IsWhole)
  (a22 : Memref sig .tc .vmem S528x512 .f32) (h22 : a22.IsWhole)
  {x0 : Vec Ideal S512x1024 .f32} {x1 : Vec Ideal S1x1024 .f32} {x2 x3 x4 x6 : Vec Ideal S1x512 .f32} {x5 : Vec Ideal S4x128x128 .f32}
  {wi : Vec Ideal S1024x1536 .bf16} {wo : Vec Ideal S1024x1024 .bf16} {wa : Vec Ideal S32x512 .f32} {ub : Vec Ideal S544x512 .f32} {bb : Vec Ideal S528x512 .f32}
  (f0 : HbBuf0 (F := Ideal) c hbM0_0) (f1 : HbBuf0 (F := Ideal) c hbM0_1) (f2 : HbBuf0 (F := Ideal) c hbM0_2)

section Later
variable (hc : ¬cond0_0 i) (hc' : ¬cond0_1 i) (hc'' : ¬cond0_2 i) (B : Tile I T x0 x1 x2 x3 x4 x5 x6 wi wo wa)
  (hu : On2 (fun q _ => q < 32) ub fun q j => I.tabs.up (512 * T + q) j) (hv : On2 (fun q _ => q < 16) bb fun q j => back I (512 * T + q) j)
  (hn : BitVec.ofNat 32 (i 0).val = BitVec.ofNat 32 T) (hT : T < 8)
include B in
theorem later7 : Rep2 (out0_B_7 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 wi wo wa ub bb f0 f1 f2) fun r j => normed I (512 * T + r) j := by
  unfold out0_B_7 kernelRun0_B
  dsimp only
  sl_unfold_words
  simp only [View.readCov, View.readAt_eq_ld, h1.read_unread, h2.read_unread, h6.read_unread, h7.read_unread, h8.read_unread, h9.read_unread, h10.read_unread, h17.read_unread, h18.read_unread, h19.read_unread]
  exact Rep2.storeAll16 _ _ _ _ (normed_rep (B.x.loadAll inb_S512x1024_S512x1024_0_0) (B.g.loadAll inb_S1x1024_S1x1024_0_0))
include B in
theorem later8 : Rep2 (out0_B_8 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 wi wo wa ub bb f0 f1 f2) fun r j => I.proj (512 * T + r) j := by
  unfold out0_B_8 kernelRun0_B
  dsimp only
  sl_unfold_words
  simp only [View.readCov, View.readAt_eq_ld, h1.read_unread, h2.read_unread, h6.read_unread, h7.read_unread, h8.read_unread, h9.read_unread, h10.read_unread, h17.read_unread, h18.read_unread, h19.read_unread]
  exact Rep2.storeAll16 _ _ _ _ (Rep2.trunc (φ := .f32) (proj_rep (B.x.loadAll inb_S512x1024_S512x1024_0_0) (B.g.loadAll inb_S1x1024_S1x1024_0_0) (B.wi.loadAll16 inb_S1024x1536_S1024x1536_0_0)) _)
include B in
theorem laterU : On2 (fun q _ => q < 32) (sout0_B_3 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 wi wo wa ub bb f0 f1 f2) fun q j => I.tabs.up (512 * (T + 1) + q) j := by
  unfold sout0_B_3 kernelRun0_B
  dsimp only
  sl_unfold_words
  simp only [View.readCov, View.readAt_eq_ld, h1.read_unread, h2.read_unread, h6.read_unread, h7.read_unread, h8.read_unread, h9.read_unread, h10.read_unread, h17.read_unread, h18.read_unread, h19.read_unread]
  exact carryU (tailU (gated_rep (B.x.loadAll inb_S512x1024_S512x1024_0_0) (B.g.loadAll inb_S1x1024_S1x1024_0_0) (B.wi.loadAll16 inb_S1024x1536_S1024x1536_0_0)))
include B in
theorem laterV : On2 (fun q _ => q < 16) (sout0_B_5 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 wi wo wa ub bb f0 f1 f2) fun q j => back I (512 * (T + 1) + q) j := by
  unfold sout0_B_5 kernelRun0_B
  dsimp only
  sl_unfold_words
  simp only [View.readCov, View.readAt_eq_ld, h1.read_unread, h2.read_unread, h6.read_unread, h7.read_unread, h8.read_unread, h9.read_unread, h10.read_unread, h17.read_unread, h18.read_unread, h19.read_unread]
  exact carryV (tailV ((pool_rep (B.x.loadAll inb_S512x1024_S512x1024_0_0) (B.g.loadAll inb_S1x1024_S1x1024_0_0) (B.wi.loadAll16 inb_S1024x1536_S1024x1536_0_0)).cast _))
include B hu in
theorem later9 : Rep2 (out0_B_9 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 wi wo wa ub bb f0 f1 f2) fun r j => I.conv (512 * T + r) j := by
  unfold out0_B_9 kernelRun0_B
  dsimp only
  sl_unfold_words
  simp only [View.readCov, View.readAt_eq_ld, h1.read_unread, h2.read_unread, h6.read_unread, h7.read_unread, h8.read_unread, h9.read_unread, h10.read_unread, h17.read_unread, h18.read_unread, h19.read_unread]
  exact Rep2.storeAll16 _ _ _ _ (Rep2.trunc (φ := .f32) (taps25 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps24 B.wa (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps23 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps21 B.wa (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps20 B.wa (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps19 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _)))) (taps22 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _)))) (B.cb.loadAll _) (ownU (k := inb_S544x512_S512x512_32_0) (gated_rep (B.x.loadAll inb_S512x1024_S512x1024_0_0) (B.g.loadAll inb_S1x1024_S1x1024_0_0) (B.wi.loadAll16 inb_S1024x1536_S1024x1536_0_0)))) _)
include B hv hn hT in
theorem later10 : Rep2 (out0_B_10 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 wi wo wa ub bb f0 f1 f2) fun r j => I.diff (512 * T + r) j := by
  unfold out0_B_10 kernelRun0_B
  dsimp only
  sl_unfold_words
  simp only [View.readCov, View.readAt_eq_ld, h1.read_unread, h2.read_unread, h6.read_unread, h7.read_unread, h8.read_unread, h9.read_unread, h10.read_unread, h17.read_unread, h18.read_unread, h19.read_unread]
  exact Rep2.storeAll16 _ _ _ _ (diffs (pool0 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT) (pool1 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT) (pool2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT (part2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)))) (pool3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT (part3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)))))
include B hu hv hn hT in
theorem later11 : Rep2 (out0_B_11 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 wi wo wa ub bb f0 f1 f2) fun r j => joined I (512 * T + r) j := by
  unfold out0_B_11 kernelRun0_B
  dsimp only
  sl_unfold_words
  simp only [View.readCov, View.readAt_eq_ld, h1.read_unread, h2.read_unread, h6.read_unread, h7.read_unread, h8.read_unread, h9.read_unread, h10.read_unread, h17.read_unread, h18.read_unread, h19.read_unread]
  exact Rep2.storeAll16 _ _ _ _ (joined_rep (branch_rep (taps25 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps24 B.wa (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps23 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps21 B.wa (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps20 B.wa (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps19 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _)))) (taps22 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _)))) (B.cb.loadAll _) (ownU (k := inb_S544x512_S512x512_32_0) (gated_rep (B.x.loadAll inb_S512x1024_S512x1024_0_0) (B.g.loadAll inb_S1x1024_S1x1024_0_0) (B.wi.loadAll16 inb_S1024x1536_S1024x1536_0_0)))) (B.lg.loadAll _) (B.lb.loadAll _)) (weigh (pool0 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT) B.pw) (weigh (pool1 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT) B.pw) (weigh (pool2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT (part2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)))) B.pw) (pool3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT (part3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)))) B.pw (B.ps.loadAll _))
include B hu hv hn hT in
theorem later12 : Rep2 (out0_B_12 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 wi wo wa ub bb f0 f1 f2) fun r j => after I (512 * T + r) j := by
  unfold out0_B_12 kernelRun0_B
  dsimp only
  sl_unfold_words
  simp only [View.readCov, View.readAt_eq_ld, h1.read_unread, h2.read_unread, h6.read_unread, h7.read_unread, h8.read_unread, h9.read_unread, h10.read_unread, h17.read_unread, h18.read_unread, h19.read_unread]
  exact Rep2.storeAll _ _ _ _ (after_rep (branch_rep (taps25 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps24 B.wa (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps23 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps21 B.wa (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps20 B.wa (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _) (taps19 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _)))) (taps22 B.wa (shifts (bufferU (i := inb_S544x512_S512x512_32_0) (by rw [View.writes_nil, h20.read_unread]; exact hu) (gated_rep (B.x.loadAll inb_S512x1024_S512x1024_0_0) (B.g.loadAll inb_S1x1024_S1x1024_0_0) (B.wi.loadAll16 inb_S1024x1536_S1024x1536_0_0))) _)))) (B.cb.loadAll _) (ownU (k := inb_S544x512_S512x512_32_0) (gated_rep (B.x.loadAll inb_S512x1024_S512x1024_0_0) (B.g.loadAll inb_S1x1024_S1x1024_0_0) (B.wi.loadAll16 inb_S1024x1536_S1024x1536_0_0)))) (B.lg.loadAll _) (B.lb.loadAll _)) (weigh (pool0 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT) B.pw) (weigh (pool1 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT) B.pw) (weigh (pool2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT (part2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)))) B.pw) (pool3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)) hn hT (part3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by rw [View.writes_nil, h22.read_unread]; exact hv) ((pool_rep (B.x.loadAll inb_S512x1024_S512x1024_0_0) (B.g.loadAll inb_S1x1024_S1x1024_0_0) (B.wi.loadAll16 inb_S1024x1536_S1024x1536_0_0)).cast _)))) B.pw (B.ps.loadAll _) (B.x.loadAll _) (B.wo.loadAll16 _))
end Later

section First
variable (hc : cond0_0 i) (hc' : cond0_1 i) (hc'' : cond0_2 i)
  (B : Tile I 0 x0 x1 x2 x3 x4 x5 x6 (a17.view.read (Elt Ideal) (a17.view.writes (Elt Ideal) a17.view.junk [⟨Rect.whole S1024x1536, ReadAs.same.apply (View.read (Elt Ideal) (View.whole main_v3) f0)⟩]))
    (a18.view.read (Elt Ideal) (a18.view.writes (Elt Ideal) a18.view.junk [⟨Rect.whole S1024x1024, ReadAs.same.apply (View.read (Elt Ideal) (View.whole main_v5) f1)⟩]))
    (a19.view.read (Elt Ideal) (a19.view.writes (Elt Ideal) a19.view.junk [⟨Rect.whole S32x512, ReadAs.same.apply (View.read (Elt Ideal) (View.whole main_v1) f2)⟩])))
  (hn : BitVec.ofNat 32 (i 0).val = BitVec.ofNat 32 0)
include B in
theorem first7 : Rep2 (out0_A_7 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 f0 f1 f2) fun r j => normed I (512 * 0 + r) j := by
  unfold out0_A_7 kernelRun0_A
  dsimp only
  sl_unfold_words
  simp only [View.readCov, View.readAt_eq_ld, h1.read_unread, h2.read_unread, h6.read_unread, h7.read_unread, h8.read_unread, h9.read_unread, h10.read_unread]
  exact Rep2.storeAll16 _ _ _ _ (normed_rep (B.x.loadAll inb_S512x1024_S512x1024_0_0) (B.g.loadAll inb_S1x1024_S1x1024_0_0))
include B in
theorem first8 : Rep2 (out0_A_8 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 f0 f1 f2) fun r j => I.proj (512 * 0 + r) j := by
  unfold out0_A_8 kernelRun0_A
  dsimp only
  sl_unfold_words
  simp only [View.readCov, View.readAt_eq_ld, h1.read_unread, h2.read_unread, h6.read_unread, h7.read_unread, h8.read_unread, h9.read_unread, h10.read_unread]
  exact Rep2.storeAll16 _ _ _ _ (Rep2.trunc (φ := .f32) (proj_rep (B.x.loadAll inb_S512x1024_S512x1024_0_0) (B.g.loadAll inb_S1x1024_S1x1024_0_0) (B.wi.loadAll16 inb_S1024x1536_S1024x1536_0_0)) _)
include B in
theorem firstU : On2 (fun q _ => q < 32) (sout0_A_3 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 f0 f1 f2) fun q j => I.tabs.up (512 * (0 + 1) + q) j := by
  unfold sout0_A_3 kernelRun0_A
  dsimp only
  sl_unfold_words
  simp only [View.readCov, View.readAt_eq_ld, h1.read_unread, h2.read_unread, h6.read_unread, h7.read_unread, h8.read_unread, h9.read_unread, h10.read_unread]
  exact carryU (tailU (gated_rep (B.x.loadAll inb_S512x1024_S512x1024_0_0) (B.g.loadAll inb_S1x1024_S1x1024_0_0) (B.wi.loadAll16 inb_S1024x1536_S1024x1536_0_0)))
include B in
theorem firstV : On2 (fun q _ => q < 16) (sout0_A_5 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 f0 f1 f2) fun q j => back I (512 * (0 + 1) + q) j := by
  unfold sout0_A_5 kernelRun0_A
  dsimp only
  sl_unfold_words
  simp only [View.readCov, View.readAt_eq_ld, h1.read_unread, h2.read_unread, h6.read_unread, h7.read_unread, h8.read_unread, h9.read_unread, h10.read_unread]
  exact carryV (tailV ((pool_rep (B.x.loadAll inb_S512x1024_S512x1024_0_0) (B.g.loadAll inb_S1x1024_S1x1024_0_0) (B.wi.loadAll16 inb_S1024x1536_S1024x1536_0_0)).cast _))
include B in
theorem first9 : Rep2 (out0_A_9 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 f0 f1 f2) fun r j => I.conv (512 * 0 + r) j := by
  unfold out0_A_9 kernelRun0_A
  dsimp only
  sl_unfold_words
  simp only [View.readCov, View.readAt_eq_ld, h1.read_unread, h2.read_unread, h6.read_unread, h7.read_unread, h8.read_unread, h9.read_unread, h10.read_unread]
  exact Rep2.storeAll16 _ _ _ _ (Rep2.trunc (φ := .f32) (taps25 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps24 B.wa (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps23 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps21 B.wa (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps20 B.wa (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps19 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _)))) (taps22 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _)))) (B.cb.loadAll _) (ownU (k := inb_S544x512_S512x512_32_0) (gated_rep (B.x.loadAll inb_S512x1024_S512x1024_0_0) (B.g.loadAll inb_S1x1024_S1x1024_0_0) (B.wi.loadAll16 inb_S1024x1536_S1024x1536_0_0)))) _)
include B hn in
theorem first10 : Rep2 (out0_A_10 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 f0 f1 f2) fun r j => I.diff (512 * 0 + r) j := by
  unfold out0_A_10 kernelRun0_A
  dsimp only
  sl_unfold_words
  simp only [View.readCov, View.readAt_eq_ld, h1.read_unread, h2.read_unread, h6.read_unread, h7.read_unread, h8.read_unread, h9.read_unread, h10.read_unread]
  exact Rep2.storeAll16 _ _ _ _ (diffs (pool0 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num)) (pool1 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num)) (pool2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num) (part2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)))) (pool3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num) (part3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)))))
include B hn in
theorem first11 : Rep2 (out0_A_11 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 f0 f1 f2) fun r j => joined I (512 * 0 + r) j := by
  unfold out0_A_11 kernelRun0_A
  dsimp only
  sl_unfold_words
  simp only [View.readCov, View.readAt_eq_ld, h1.read_unread, h2.read_unread, h6.read_unread, h7.read_unread, h8.read_unread, h9.read_unread, h10.read_unread]
  exact Rep2.storeAll16 _ _ _ _ (joined_rep (branch_rep (taps25 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps24 B.wa (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps23 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps21 B.wa (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps20 B.wa (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps19 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _)))) (taps22 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _)))) (B.cb.loadAll _) (ownU (k := inb_S544x512_S512x512_32_0) (gated_rep (B.x.loadAll inb_S512x1024_S512x1024_0_0) (B.g.loadAll inb_S1x1024_S1x1024_0_0) (B.wi.loadAll16 inb_S1024x1536_S1024x1536_0_0)))) (B.lg.loadAll _) (B.lb.loadAll _)) (weigh (pool0 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num)) B.pw) (weigh (pool1 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num)) B.pw) (weigh (pool2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num) (part2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)))) B.pw) (pool3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num) (part3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)))) B.pw (B.ps.loadAll _))
include B hn in
theorem first12 : Rep2 (out0_A_12 c i a1 h1 a2 h2 a6 h6 a7 h7 a8 h8 a9 h9 a10 h10 a11 h11 a12 h12 a13 h13 a14 h14 a15 h15 a16 h16 a17 h17 a18 h18 a19 h19 a20 h20 a21 h21 a22 h22 hc hc' hc'' x0 x1 x2 x3 x4 x5 x6 f0 f1 f2) fun r j => after I (512 * 0 + r) j := by
  unfold out0_A_12 kernelRun0_A
  dsimp only
  sl_unfold_words
  simp only [View.readCov, View.readAt_eq_ld, h1.read_unread, h2.read_unread, h6.read_unread, h7.read_unread, h8.read_unread, h9.read_unread, h10.read_unread]
  exact Rep2.storeAll _ _ _ _ (after_rep (branch_rep (taps25 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps24 B.wa (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps23 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps21 B.wa (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps20 B.wa (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _) (taps19 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _)))) (taps22 B.wa (shifts (bufferU (i := inb_S544x512_S512x512_32_0) (by exact startU) (gated_rep (B.x.loadAll inb_S512x1024_S512x1024_0_0) (B.g.loadAll inb_S1x1024_S1x1024_0_0) (B.wi.loadAll16 inb_S1024x1536_S1024x1536_0_0))) _)))) (B.cb.loadAll _) (ownU (k := inb_S544x512_S512x512_32_0) (gated_rep (B.x.loadAll inb_S512x1024_S512x1024_0_0) (B.g.loadAll inb_S1x1024_S1x1024_0_0) (B.wi.loadAll16 inb_S1024x1536_S1024x1536_0_0)))) (B.lg.loadAll _) (B.lb.loadAll _)) (weigh (pool0 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num)) B.pw) (weigh (pool1 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num)) B.pw) (weigh (pool2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num) (part2 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)))) B.pw) (pool3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)) hn (by norm_num) (part3 (pool_rep (B.x.loadAll inb_S512x1024_S512x1024_0_0) (B.g.loadAll inb_S1x1024_S1x1024_0_0) (B.wi.loadAll16 inb_S1024x1536_S1024x1536_0_0)) (bufferV (i := inb_S528x512_S512x512_16_0) (by exact startV) ((pool_rep (B.x.loadAll inb_S512x1024_S512x1024_0_0) (B.g.loadAll inb_S1x1024_S1x1024_0_0) (B.wi.loadAll16 inb_S1024x1536_S1024x1536_0_0)).cast _)))) B.pw (B.ps.loadAll _) (B.x.loadAll _) (B.wo.loadAll16 _))
end First

end Points

end Cert.FwdValue

end
-- ==== Proof.FwdValue.lean ====
/- What the mixer's forward call (`mixer_fwd`) leaves, over the reals: the arrays the host prepares for the call, the blocks
   of a grid point, the induction over the grid points, and the six results after the run. -/
module

public import proofs.«01_k».proof.Proof.FwdBody
public import Idealize.ShloMosaic.Lib.Pipeline.ValueKit

@[expose] public section

set_option maxRecDepth 16384

noncomputable section

namespace Cert.FwdValue

open Cert.FwdIdeal Cert.FwdIdeal.Gen Cert.Reals
open Cert.MixValue (Args Holds)
open Idealize.ShloMosaic Idealize.ShloMosaic.TcCoe Idealize.ShloMosaic.Tactic Idealize.SL.Sem

variable (m : (ℓ : Loc nD τ sig) → Buf (Elt Ideal) ℓ) (c : Dev nD)

/-- The memory's arguments are the tables `I`; the call reads no gradient. -/
abbrev Loads (I : Args) : Prop :=
  Holds I (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9)) fun _ => 0

variable {m c} {I : Args} (H : Loads m c I)

/-! ## The grid points -/

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0, 0] := by decide +kernel
theorem index6 : ∀ t : Fin cfg0.N, win0_6.index t = ![0, 0] := by decide +kernel
theorem index7 : ∀ t : Fin cfg0.N, win0_7.index t = ![t.val, 0] := by decide +kernel
theorem index8 : ∀ t : Fin cfg0.N, win0_8.index t = ![t.val, 0] := by decide +kernel
theorem index9 : ∀ t : Fin cfg0.N, win0_9.index t = ![t.val, 0] := by decide +kernel
theorem index10 : ∀ t : Fin cfg0.N, win0_10.index t = ![t.val, 0] := by decide +kernel
theorem index11 : ∀ t : Fin cfg0.N, win0_11.index t = ![t.val, 0] := by decide +kernel
theorem index12 : ∀ t : Fin cfg0.N, win0_12.index t = ![t.val, 0] := by decide +kernel
theorem tile_word : ∀ t : Fin cfg0.N, BitVec.ofNat 32 (grid0.coords t 0).val = BitVec.ofNat 32 t.val := by decide +kernel

include H

/-! ## The arrays the host prepares -/

theorem host1 : Rep2 (V m c main_v1) I.K := by
  dsimp only [V, hostOps0, hostOps0_1, hostOps0_2, List.flatten_cons, List.flatten_nil, List.append_nil, List.cons_append, List.nil_append]
  after_results
  refine (Rep2.hpad (a := 31) (b := 512) (p := 32) (q := 512) (φ := .f32) H.taps (z := sitofp .f32 (constantI S_ 32 0#32)) (fun i => ?_) pads_S31x512_S32x512_010_000 h_S_).congr fun r j hr hj => ?_
  · rw [ValueIdx.sitofp_apply]
    exact (Ideal.scalar_sitofp_def (φ := .f32) _).trans (by rw [show (constantI S_ 32 (0#32) i).toInt = 0 from rfl, Int.cast_zero])
  · split
    · rfl
    · rename_i h
      rw [show r = 31 by omega, H.above j]
theorem host3 : Rep2 (V m c main_v3) I.W := by
  dsimp only [V, hostOps0, hostOps0_1, hostOps0_2, List.flatten_cons, List.flatten_nil, List.append_nil, List.cons_append, List.nil_append]
  after_results
  exact Rep2.trunc (φ := .f32) H.win _
theorem host5 : Rep2 (V m c main_v5) I.WO := by
  dsimp only [V, hostOps0, hostOps0_1, hostOps0_2, List.flatten_cons, List.flatten_nil, List.append_nil, List.cons_append, List.nil_append]
  after_results
  exact Rep2.trunc (φ := .f32) H.wo _
theorem host6 : Rep3 (V m c main_v6) I.PW := by
  dsimp only [V, hostOps0, hostOps0_1, hostOps0_2, List.flatten_cons, List.flatten_nil, List.append_nil, List.cons_append, List.nil_append]
  after_results
  exact H.pw

/-! ## The blocks of a grid point -/

theorem block0 (t : Fin cfg0.N) : Rep2 (iblk m c 0 t) fun r j => I.X (512 * t.val + r) j := fun i => by
  blk_simp [iblk]
  rw [V_main_arg0, H.x]
  blk_simp [index0]
  rw [Nat.mul_comm]
theorem block1 (t : Fin cfg0.N) : Rep2 (iblk m c 1 t) fun _ j => I.G j := fun i => by
  blk_simp [iblk]
  rw [V_main_arg1, H.g]
  blk_simp [index1]
theorem block2 (t : Fin cfg0.N) : Rep2 (iblk m c 2 t) fun _ j => I.CB j := fun i => by
  blk_simp [iblk]
  rw [V_main_arg4, H.cb]
  blk_simp [index2]
theorem block3 (t : Fin cfg0.N) : Rep2 (iblk m c 3 t) fun _ j => I.LG j := fun i => by
  blk_simp [iblk]
  rw [V_main_arg5, H.lg]
  blk_simp [index3]
theorem block4 (t : Fin cfg0.N) : Rep2 (iblk m c 4 t) fun _ j => I.LB j := fun i => by
  blk_simp [iblk]
  rw [V_main_arg6, H.lb]
  blk_simp [index4]
theorem block5 (t : Fin cfg0.N) : Rep3 (iblk m c 5 t) I.PW := fun i => by
  blk_simp [iblk]
  rw [host6 H]
  blk_simp [index5]
theorem block6 (t : Fin cfg0.N) : Rep2 (iblk m c 6 t) fun _ j => I.PS j := fun i => by
  blk_simp [iblk]
  rw [V_main_arg8, H.ps]
  blk_simp [index6]

/-- With the weights and the filter they are a tile. -/
theorem tile (t : Fin cfg0.N) {wi : Vec Ideal S1024x1536 .bf16} {wo : Vec Ideal S1024x1024 .bf16} {wa : Vec Ideal S32x512 .f32}
    (hi : Rep2 wi I.W) (ho : Rep2 wo I.WO) (ha : Rep2 wa I.K) :
    Tile I t.val (iblk m c 0 t) (iblk m c 1 t) (iblk m c 2 t) (iblk m c 3 t) (iblk m c 4 t) (iblk m c 5 t) (iblk m c 6 t) wi wo wa where
  x := block0 H t
  g := block1 H t
  cb := block2 H t
  lg := block3 H t
  lb := block4 H t
  pw := block5 H t
  ps := block6 H t
  wi := hi
  wo := ho
  wa := ha

/-! ## The grid points in order -/

omit H in
/-- What tile `T` leaves: its rows of the six results, the weights and the filter, and the rows that the tile behind it reads. -/
structure Held (I : Args) (T : ℕ) (o : Vec Ideal S512x1024 .bf16 × Vec Ideal S512x1536 .bf16 × Vec Ideal S512x512 .bf16 × Vec Ideal S512x512 .bf16
    × Vec Ideal S512x1024 .bf16 × Vec Ideal S512x1024 .f32 × Vec Ideal S1024x1536 .bf16 × Vec Ideal S1024x1024 .bf16 × Vec Ideal S32x512 .f32
    × Vec Ideal S544x512 .f32 × Vec Ideal S528x512 .f32) : Prop where
  h : Rep2 o.1 fun r j => normed I (512 * T + r) j
  proj : Rep2 o.2.1 fun r j => I.proj (512 * T + r) j
  conv : Rep2 o.2.2.1 fun r j => I.conv (512 * T + r) j
  diff : Rep2 o.2.2.2.1 fun r j => I.diff (512 * T + r) j
  both : Rep2 o.2.2.2.2.1 fun r j => joined I (512 * T + r) j
  out : Rep2 o.2.2.2.2.2.1 fun r j => after I (512 * T + r) j
  wi : Rep2 o.2.2.2.2.2.2.1 I.W
  wo : Rep2 o.2.2.2.2.2.2.2.1 I.WO
  wa : Rep2 o.2.2.2.2.2.2.2.2.1 I.K
  ub : On2 (fun q _ => q < 32) o.2.2.2.2.2.2.2.2.2.1 fun q j => I.tabs.up (512 * (T + 1) + q) j
  bb : On2 (fun q _ => q < 16) o.2.2.2.2.2.2.2.2.2.2 fun q j => back I (512 * (T + 1) + q) j

omit H in
/-- The filter's scratch after its one copy. -/
theorem filled {sig : RefSig} {κ : Kind} {sp : Space} {a b : ℕ} {X : ℕ → ℕ → ℝ} (v : View sig κ sp ⟨2, ![a, b]⟩ .f32) (f : v.ty.Contents (Elt Ideal))
    {w : Vec Ideal ⟨2, ![a, b]⟩ .f32} (hw : Rep2 w X) :
    Rep2 (v.read (Elt Ideal) (v.writes (Elt Ideal) f [⟨Rect.whole ⟨2, ![a, b]⟩, w⟩])) X := fun i => by
  have h := View.read_writes_cons_emb (Val := Elt Ideal) v f (Rect.whole ⟨2, ![a, b]⟩) w [] i
  rw [Rect.emb_whole_apply] at h
  exact h.trans (hw i)

theorem held_first (h : 0 < cfg0.N) : Held I 0 (outsAt0 m c 0 h) := by
  have hi : Rep2 (View.read (Elt Ideal) (View.whole main_v3) (V m c main_v3)) I.W := fun i => host3 H i
  have ho : Rep2 (View.read (Elt Ideal) (View.whole main_v5) (V m c main_v5)) I.WO := fun i => host5 H i
  have ha : Rep2 (View.read (Elt Ideal) (View.whole main_v1) (V m c main_v1)) I.K := fun i => host1 H i
  have hn := tile_word ⟨0, h⟩
  rw [outsAt0_A m c ⟨0, h⟩ (Nat.zero_mod 8) (Nat.zero_mod 8) (Nat.zero_mod 8)]
  have B := tile H ⟨0, h⟩ (Rep2.readCopied16 scM0_0.view scM0_0.view.junk hi) (Rep2.readCopied16 scM0_1.view scM0_1.view.junk ho)
    (filled scM0_2.view scM0_2.view.junk ha)
  constructor
  · dsimp only
    exact first7 _ _ _ _ _ _ _ _ _ _ _ _ _ _ _ _ _ _ _ _ _ _ _ _ _ _ _ _ _ _ _ _ _ _ _ _ _ _ _ _ _ _ _ _ _ _ B
  · dsimp only
    exact first8 _ _ _ _ _ _ _ _ _ _ _ _ _ _ _ _ _ _ _ _ _ _ _ _ _ _ _ _ _ _ _ _ _ _ _ _ _ _ _ _ _ _ _ _ _ _ B
  · dsimp only
    exact first9 _ _ _ _ _ _ _ _ _ _ _ _ _ _ _ _ _ _ _ _ _ _ _ _ _ _ _ _ _ _ _ _ _ _ _ _ _ _ _ _ _ _ _ _ _ _ B
  · dsimp only
    exact first10 _ _ _ _ _ _ _ _ _ _ _ _ _ _ _ _ _ _ _ _ _ _ _ _ _ _ _ _ _ _ _ _ _ _ _ _ _ _ _ _ _ _ _ _ _ _ B hn
  · dsimp only
    exact first11 _ _ _ _ _ _ _ _ _ _ _ _ _ _ _ _ _ _ _ _ _ _ _ _ _ _ _ _ _ _ _ _ _ _ _ _ _ _ _ _ _ _ _ _ _ _ B hn
  · dsimp only
    exact first12 _ _ _ _ _ _ _ _ _ _ _ _ _ _ _ _ _ _ _ _ _ _ _ _ _ _ _ _ _ _ _ _ _ _ _ _ _ _ _ _ _ _ _ _ _ _ B hn
  · dsimp only
    unfold sout0_A_0 kernelRun0_A
    exact Rep2.readCopied16 _ _ hi
  · dsimp only
    unfold sout0_A_1 kernelRun0_A
    exact Rep2.readCopied16 _ _ ho
  · dsimp only
    unfold sout0_A_2 kernelRun0_A
    exact filled _ _ ha
  · dsimp only
    exact firstU _ _ _ _ _ _ _ _ _ _ _ _ _ _ _ _ _ _ _ _ _ _ _ _ _ _ _ _ _ _ _ _ _ _ _ _ _ _ _ _ _ _ _ _ _ _ B
  · dsimp only
    exact firstV _ _ _ _ _ _ _ _ _ _ _ _ _ _ _ _ _ _ _ _ _ _ _ _ _ _ _ _ _ _ _ _ _ _ _ _ _ _ _ _ _ _ _ _ _ _ B

theorem held_later (t : Fin cfg0.N) (h : t.val ≠ 0)
    (ih : Held I (t.val - 1) (outsAt0 m c (t.val - 1) (Nat.lt_of_le_of_lt (Nat.sub_le _ _) t.isLt))) :
    Held I t.val (outsAt0 m c t.val t.isLt) := by
  have hN : t.val < 8 := lt_of_lt_of_eq t.isLt (show cfg0.N = 8 from N_0)
  have hn := tile_word t
  have B := tile H t ih.wi ih.wo ih.wa
  have hu := ih.ub
  have hv := ih.bb
  rw [show t.val - 1 + 1 = t.val by omega] at hu hv
  rw [outsAt0_B m c t (by omega) (by omega) (by omega)]
  constructor
  · dsimp only
    exact later7 _ _ _ _ _ _ _ _ _ _ _ _ _ _ _ _ _ _ _ _ _ _ _ _ _ _ _ _ _ _ _ _ _ _ _ _ _ _ _ _ _ _ _ _ _ _ B
  · dsimp only
    exact later8 _ _ _ _ _ _ _ _ _ _ _ _ _ _ _ _ _ _ _ _ _ _ _ _ _ _ _ _ _ _ _ _ _ _ _ _ _ _ _ _ _ _ _ _ _ _ B
  · dsimp only
    exact later9 _ _ _ _ _ _ _ _ _ _ _ _ _ _ _ _ _ _ _ _ _ _ _ _ _ _ _ _ _ _ _ _ _ _ _ _ _ _ _ _ _ _ _ _ _ _ B hu
  · dsimp only
    exact later10 _ _ _ _ _ _ _ _ _ _ _ _ _ _ _ _ _ _ _ _ _ _ _ _ _ _ _ _ _ _ _ _ _ _ _ _ _ _ _ _ _ _ _ _ _ _ B hv hn hN
  · dsimp only
    exact later11 _ _ _ _ _ _ _ _ _ _ _ _ _ _ _ _ _ _ _ _ _ _ _ _ _ _ _ _ _ _ _ _ _ _ _ _ _ _ _ _ _ _ _ _ _ _ B hu hv hn hN
  · dsimp only
    exact later12 _ _ _ _ _ _ _ _ _ _ _ _ _ _ _ _ _ _ _ _ _ _ _ _ _ _ _ _ _ _ _ _ _ _ _ _ _ _ _ _ _ _ _ _ _ _ B hu hv hn hN
  · dsimp only [sout0_B_0]
    exact ih.wi
  · dsimp only [sout0_B_1]
    exact ih.wo
  · dsimp only [sout0_B_2]
    exact ih.wa
  · dsimp only
    exact laterU _ _ _ _ _ _ _ _ _ _ _ _ _ _ _ _ _ _ _ _ _ _ _ _ _ _ _ _ _ _ _ _ _ _ _ _ _ _ _ _ _ _ _ _ _ _ B
  · dsimp only
    exact laterV _ _ _ _ _ _ _ _ _ _ _ _ _ _ _ _ _ _ _ _ _ _ _ _ _ _ _ _ _ _ _ _ _ _ _ _ _ _ _ _ _ _ _ _ _ _ B

theorem held : ∀ (n : ℕ) (h : n < cfg0.N), Held I n (outsAt0 m c n h)
  | 0, h => held_first H h
  | n + 1, h => held_later H ⟨n + 1, h⟩ (Nat.succ_ne_zero n) (held n (Nat.lt_of_succ_lt h))

/-! ## The results -/

theorem final7 : Rep2 ((dats m 0 c).arrAt 7 cfg0.N) (normed I) := by
  have h : (dats m 0 c).arrAt 7 cfg0.N = Rep2.arr 4096 1024 (normed I) := by
    refine (dats m 0 c).arrAt_eq_of_covers 7 _ (by decide +kernel) fun t hf y => ?_
    blk_simp
    rw [after0_7, (held H t.val t.isLt).h]
    unfold Rep2.arr
    blk_simp [index7]
    rw [Nat.mul_comm]
  rw [h]
  exact Rep2.arr_rep _
theorem final8 : Rep2 ((dats m 0 c).arrAt 8 cfg0.N) I.proj := by
  have h : (dats m 0 c).arrAt 8 cfg0.N = Rep2.arr 4096 1536 I.proj := by
    refine (dats m 0 c).arrAt_eq_of_covers 8 _ (by decide +kernel) fun t hf y => ?_
    blk_simp
    rw [after0_8, (held H t.val t.isLt).proj]
    unfold Rep2.arr
    blk_simp [index8]
    rw [Nat.mul_comm]
  rw [h]
  exact Rep2.arr_rep _
theorem final9 : Rep2 ((dats m 0 c).arrAt 9 cfg0.N) I.conv := by
  have h : (dats m 0 c).arrAt 9 cfg0.N = Rep2.arr 4096 512 I.conv := by
    refine (dats m 0 c).arrAt_eq_of_covers 9 _ (by decide +kernel) fun t hf y => ?_
    blk_simp
    rw [after0_9, (held H t.val t.isLt).conv]
    unfold Rep2.arr
    blk_simp [index9]
    rw [Nat.mul_comm]
  rw [h]
  exact Rep2.arr_rep _
theorem final10 : Rep2 ((dats m 0 c).arrAt 10 cfg0.N) I.diff := by
  have h : (dats m 0 c).arrAt 10 cfg0.N = Rep2.arr 4096 512 I.diff := by
    refine (dats m 0 c).arrAt_eq_of_covers 10 _ (by decide +kernel) fun t hf y => ?_
    blk_simp
    rw [after0_10, (held H t.val t.isLt).diff]
    unfold Rep2.arr
    blk_simp [index10]
    rw [Nat.mul_comm]
  rw [h]
  exact Rep2.arr_rep _
theorem final11 : Rep2 ((dats m 0 c).arrAt 11 cfg0.N) (joined I) := by
  have h : (dats m 0 c).arrAt 11 cfg0.N = Rep2.arr 4096 1024 (joined I) := by
    refine (dats m 0 c).arrAt_eq_of_covers 11 _ (by decide +kernel) fun t hf y => ?_
    blk_simp
    rw [after0_11, (held H t.val t.isLt).both]
    unfold Rep2.arr
    blk_simp [index11]
    rw [Nat.mul_comm]
  rw [h]
  exact Rep2.arr_rep _
theorem final12 : Rep2 ((dats m 0 c).arrAt 12 cfg0.N) (after I) := by
  have h : (dats m 0 c).arrAt 12 cfg0.N = Rep2.arr 4096 1024 (after I) := by
    refine (dats m 0 c).arrAt_eq_of_covers 12 _ (by decide +kernel) fun t hf y => ?_
    blk_simp
    rw [after0_12, (held H t.val t.isLt).out]
    unfold Rep2.arr
    blk_simp [index12]
    rw [Nat.mul_comm]
  rw [h]
  exact Rep2.arr_rep _

omit H in
/-- The run leaves these arrays in the results, and the arguments as they were. -/
theorem run_blocks (m) (ρ) : θ_run (defs (F := Ideal)) (onTc (τ := τ) (main (F := Ideal))) ⟨m, fun _ => 0, ρ⟩ fun r => ∀ c : Dev nD,
    r.2.mem ((c : Thread nD τ).loc main_v7_0) = (dats m 0 c).arrAt 7 cfg0.N
    ∧ r.2.mem ((c : Thread nD τ).loc main_v7_1) = (dats m 0 c).arrAt 8 cfg0.N
    ∧ r.2.mem ((c : Thread nD τ).loc main_v7_2) = (dats m 0 c).arrAt 9 cfg0.N
    ∧ r.2.mem ((c : Thread nD τ).loc main_v7_3) = (dats m 0 c).arrAt 10 cfg0.N
    ∧ r.2.mem ((c : Thread nD τ).loc main_v7_4) = (dats m 0 c).arrAt 11 cfg0.N
    ∧ r.2.mem ((c : Thread nD τ).loc main_v7_5) = (dats m 0 c).arrAt 12 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  (θ_run defs _ _).mono (fun r h c => ⟨(h c).1 7, (h c).1 8, (h c).1 9, (h c).1 10, (h c).1 11, (h c).1 12,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).2 main_arg7 (Pipeline.mem_restRefs_of main_arg7 (by decide) (by decide))).trans (V_main_arg7 m c),
      ((h c).1 6).trans (((dats m 0 c).arrAt_in 6 rfl _).trans ((A_eq m c 6).trans (V_main_arg8 m c))),
      ((h c).2 main_arg9 (Pipeline.mem_restRefs_of main_arg9 (by decide) (by decide))).trans (V_main_arg9 m c)⟩) (run_main m ρ)

end Cert.FwdValue

end
-- ==== Proof.FwdClaim.lean ====
/- The claims about the mixer's forward call (`mixer_fwd`): the reference's frame, and that kernel and reference compute
   the same six arrays from finite arguments. -/
module

public import proofs.«01_k».proof.Defs
public import proofs.«01_k».proof.Proof.FwdValue
public import proofs.«01_k».proof.Proof.MixClaim
public import proofs.«01_k».proof.Proof.Gen.FwdRefIdeal.Run
public import proofs.«01_k».proof.Proof.Gen.FwdRefIdeal.Read
public import proofs.«01_k».proof.Proof.Gen.Pre_finite_fwd
public import Idealize.ShloMosaic.Lib.Quiescent

@[expose] public section

set_option maxRecDepth 16384

noncomputable section

namespace Cert.FwdValue

open Idealize.ShloMosaic Idealize.ShloMosaic.TcCoe Idealize.SL.Sem Cert.Reals
open Cert.MixValue (Args Holds finite_at finite_cast one_row tab3 rep3_tab3)

/-- The reference runs and leaves its arguments and counters alone. -/
theorem frame_ref (m ρ) : θ_run (Cert.FwdRefIdeal.defs (F := Ideal)) (onTc (τ := Cert.FwdRefIdeal.τ) (Cert.FwdRefIdeal.main (F := Ideal)))
    ⟨m, fun _ => 0, ρ⟩ fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9))
      ∧ r.2.sem = fun _ => 0 :=
  (θ_run Cert.FwdRefIdeal.defs _ _).mono (fun r h => ⟨fun c => (h c).2.2.2.2.2.2, sem_eq_zero_of_no_sems (by decide) r.2⟩)
    (Cert.FwdRefIdeal.Value.run m ρ)

section
variable (m : (ℓ : Loc Cert.FwdIdeal.nD Cert.FwdIdeal.τ Cert.FwdIdeal.sig) → Buf (Elt Ideal) ℓ) (c : Dev Cert.FwdIdeal.nD)

/-- The arguments in memory as tables; the call reads no gradient. -/
def tables : Args where
  X := tab2 (a := 4096) (b := 1024) (m ((c : Thread Cert.FwdIdeal.nD Cert.FwdIdeal.τ).loc Cert.FwdIdeal.main_arg0))
  G := tab2 (a := 1) (b := 1024) (m ((c : Thread Cert.FwdIdeal.nD Cert.FwdIdeal.τ).loc Cert.FwdIdeal.main_arg1)) 0
  W := tab2 (a := 1024) (b := 1536) (Cert.MixRefIdeal.Read.val_main_v15 (F := Ideal) (m ((c : Thread Cert.FwdIdeal.nD Cert.FwdIdeal.τ).loc Cert.FwdIdeal.main_arg2)))
  K := tab2 (a := 31) (b := 512) (Cert.MixRefIdeal.Read.val_main_v17 (F := Ideal) (m ((c : Thread Cert.FwdIdeal.nD Cert.FwdIdeal.τ).loc Cert.FwdIdeal.main_arg3)))
  CB := tab2 (a := 1) (b := 512) (m ((c : Thread Cert.FwdIdeal.nD Cert.FwdIdeal.τ).loc Cert.FwdIdeal.main_arg4)) 0
  LG := tab2 (a := 1) (b := 512) (m ((c : Thread Cert.FwdIdeal.nD Cert.FwdIdeal.τ).loc Cert.FwdIdeal.main_arg5)) 0
  LB := tab2 (a := 1) (b := 512) (m ((c : Thread Cert.FwdIdeal.nD Cert.FwdIdeal.τ).loc Cert.FwdIdeal.main_arg6)) 0
  PW := tab3 (n := 4) (a := 128) (b := 128) (Cert.MixRefIdeal.Read.val_main_v18 (F := Ideal) (m ((c : Thread Cert.FwdIdeal.nD Cert.FwdIdeal.τ).loc Cert.FwdIdeal.main_arg7)))
  PS := tab2 (a := 1) (b := 512) (m ((c : Thread Cert.FwdIdeal.nD Cert.FwdIdeal.τ).loc Cert.FwdIdeal.main_arg8)) 0
  WO := tab2 (a := 1024) (b := 1024) (Cert.MixRefIdeal.Read.val_main_v19 (F := Ideal) (m ((c : Thread Cert.FwdIdeal.nD Cert.FwdIdeal.τ).loc Cert.FwdIdeal.main_arg9)))
  DX := fun _ _ => 0

/-- Finite arguments are their tables. -/
theorem loads (hpre : Cert.Pre_FwdIdeal_finite_fwd m) : Loads m c (tables m c) where
  x := finite2 _ (hpre c).1
  g := one_row (finite2 _ (hpre c).2.1)
  win := rep2_tab2 (finite_cast (finite_at _ (hpre c).2.2.1) _)
  taps := rep2_tab2 (finite_cast (finite_at _ (hpre c).2.2.2.1) _)
  cb := one_row (finite2 _ (hpre c).2.2.2.2.1)
  lg := one_row (finite2 _ (hpre c).2.2.2.2.2.1)
  lb := one_row (finite2 _ (hpre c).2.2.2.2.2.2.1)
  pw := rep3_tab3 (finite_cast (finite_at _ (hpre c).2.2.2.2.2.2.2.1) _)
  ps := one_row (finite2 _ (hpre c).2.2.2.2.2.2.2.2.1)
  wo := rep2_tab2 (finite_cast (finite_at _ (hpre c).2.2.2.2.2.2.2.2.2) _)
  dx := fun _ => EReal.coe_zero.symm
  past := fun _ _ _ => rfl
  above := fun j => by
    dsimp only [tables]
    exact tab2_row_ge (le_refl 31) j

end

/-- From finite arguments the kernel's six arrays are the reference's. -/
theorem algebraic : Cert.algebraic_FwdIdeal_FwdRefIdeal_pre_finite_fwd := fun m g m' g' hpre hargs => by
  have H : ∀ c, Loads m c (tables m c) := fun c => loads m c hpre
  refine ⟨_, _, _, _, _, _, run_blocks m g, (θ_run Cert.FwdRefIdeal.defs _ _).mono (fun r h c => ?_) (Cert.FwdRefIdeal.Value.run m' g')⟩
  have R : Holds (tables m c) (m' ((c.tc : Thread Cert.FwdRefIdeal.nD Cert.FwdRefIdeal.τ).loc Cert.FwdRefIdeal.main_arg0))
      (m' ((c.tc : Thread Cert.FwdRefIdeal.nD Cert.FwdRefIdeal.τ).loc Cert.FwdRefIdeal.main_arg1))
      (m' ((c.tc : Thread Cert.FwdRefIdeal.nD Cert.FwdRefIdeal.τ).loc Cert.FwdRefIdeal.main_arg2))
      (m' ((c.tc : Thread Cert.FwdRefIdeal.nD Cert.FwdRefIdeal.τ).loc Cert.FwdRefIdeal.main_arg3))
      (m' ((c.tc : Thread Cert.FwdRefIdeal.nD Cert.FwdRefIdeal.τ).loc Cert.FwdRefIdeal.main_arg4))
      (m' ((c.tc : Thread Cert.FwdRefIdeal.nD Cert.FwdRefIdeal.τ).loc Cert.FwdRefIdeal.main_arg5))
      (m' ((c.tc : Thread Cert.FwdRefIdeal.nD Cert.FwdRefIdeal.τ).loc Cert.FwdRefIdeal.main_arg6))
      (m' ((c.tc : Thread Cert.FwdRefIdeal.nD Cert.FwdRefIdeal.τ).loc Cert.FwdRefIdeal.main_arg7))
      (m' ((c.tc : Thread Cert.FwdRefIdeal.nD Cert.FwdRefIdeal.τ).loc Cert.FwdRefIdeal.main_arg8))
      (m' ((c.tc : Thread Cert.FwdRefIdeal.nD Cert.FwdRefIdeal.τ).loc Cert.FwdRefIdeal.main_arg9)) fun _ => 0 := by
    obtain ⟨a0, a1, a2, a3, a4, a5, a6, a7, a8, a9⟩ := hargs c
    rw [a0, a1, a2, a3, a4, a5, a6, a7, a8, a9]
    exact H c
  refine ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩
  · refine (Cert.FwdRefIdeal.Read.val_main_v94_eq (F := Ideal) _ _).trans ?_
    exact (ref94 R).eq (final7 (H c)) fun _ _ _ _ => rfl
  · refine (Cert.FwdRefIdeal.Read.val_main_v95_eq (F := Ideal) _ _ _).trans ?_
    exact (ref95' R).eq (final8 (H c)) fun _ _ _ _ => rfl
  · refine (Cert.FwdRefIdeal.Read.val_main_v96_eq (F := Ideal) _ _ _ _ _).trans ?_
    exact (ref96 R).eq (final9 (H c)) fun _ _ _ _ => rfl
  · refine (Cert.FwdRefIdeal.Read.val_main_v97_eq (F := Ideal) _ _).trans ?_
    exact (ref97 R).eq (final10 (H c)) fun _ _ _ _ => rfl
  · refine (Cert.FwdRefIdeal.Read.val_main_v98_eq (F := Ideal) _ _).trans ?_
    exact (ref98 R).eq (final11 (H c)) fun _ _ _ _ => rfl
  · refine (Cert.FwdRefIdeal.Read.val_main_v101_eq (F := Ideal) _ _).trans ?_
    exact (ref101 R).eq (final12 (H c)) fun _ _ _ _ => rfl

end Cert.FwdValue

end
-- ==== Proof.PairRun.lean ====
/-
The exchange between the two siblings, run.

Two devices, each with one half of a sum of products to give away.  Each tells the other that it may write, waits to be
told the same, copies the half that belongs to its sibling into the sibling's result, and waits for its own copy to have
left and for the sibling's to have come.  Here is what each of the three semaphores of a device stands for, the body
step by step, and the run of the whole program: the result of each device is the half that its sibling held for it, the
argument is as it was, and every semaphore is back at zero.
-/
module

public import proofs.«01_k».proof.Proof.Gen.PairIdeal
public import proofs.«01_k».proof.Proof.Gen.PairIdeal.Skeleton
public import proofs.«01_k».proof.Proof.Gen.PairIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.PairProof

open Cert.PairIdeal Cert.PairIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The ghost state: the launch's own, and that of the three semaphores, each with one thing to be paid. -/
abbrev Gh : Type := UR sig nD τ × URounds (GSem nD τ sig) Unit

local notation "𝕄" => MT nD τ sig Unit (Elt F) ℕ Gh ℕ

abbrev EL : Emb (UR sig nD τ) (MT nD τ sig Unit (Elt F) ℕ Gh ℕ) := embL
abbrev EX : Emb (URounds (GSem nD τ sig) Unit) (MT nD τ sig Unit (Elt F) ℕ Gh ℕ) := embR

variable (m : (ℓ : Loc nD τ sig) → Buf (Elt F) ℓ) (ρ : Dev nD → PrngReg)

/-! ## The sibling, the buffers, the semaphores -/

set_option backward.proofsInPublic true in
/-- The other device. -/
def peer (c : Dev nD) : Dev nD := ⟨1 - c.val, by show 1 - c.val < 2; omega⟩

theorem peer_peer (c : Dev nD) : peer (peer c) = c := by revert c; decide

/-- The two devices, exchanged. -/
def flip : Dev nD ≃ Dev nD := ⟨peer, peer, peer_peer, peer_peer⟩

theorem told (c : Dev nD) : (⟨k0_dev1 c, k0_dev1_lt c⟩ : Dev nD) = peer c := Fin.ext (k0_dev1_eq c)
theorem sentTo (c : Dev nD) : (⟨k0_dev2 c, k0_dev2_lt c⟩ : Dev nD) = peer c := Fin.ext (k0_dev2_eq c)

abbrev give : Memref sig .tc .hbm S2x4x128x1024 .bf16 := Memref.whole main_arg0
abbrev take : Memref sig .tc .hbm S4x128x1024 .bf16 := Memref.whole main_v1

/-- The half of device `c`'s argument that it copies to its sibling. -/
abbrev half (c : Dev nD) : Memref sig .tc .hbm S4x128x1024 .bf16 :=
  (give.slice (Rect.unit (s := S2x4x128x1024) (k0_off1 c) S1x4x128x1024.size (k0_off1_inb c)) (fun _ => rfl)).squeeze
    S4x128x1024 squeezes_S1x4x128x1024_S4x128x1024

abbrev one (s : DmaSems sig S1) : DmaSem sig :=
  ((s.slice (Rect.unit (s := S1) ![0] S1.size inb_S1_S1_0)).squeeze S_ squeezes_S1_S_).sem

/-- May-write, has-left, has-come. -/
abbrev maySem : SemLoc sig := .reg (SemArray.scalar (sig.barrier 0 rfl) : Sems sig S_).sem
abbrev leftSem : SemLoc sig := .dma (one cc0_scratch0)
abbrev cameSem : SemLoc sig := .dma (one cc0_scratch1)

abbrev may (c : Dev nD) : GSem nD τ sig := ((c : Thread nD τ), maySem)
abbrev left (c : Dev nD) : GSem nD τ sig := ((c : Thread nD τ), leftSem)
abbrev came (c : Dev nD) : GSem nD τ sig := ((c : Thread nD τ), cameSem)

abbrev own2 : Fin 2 → SemLoc sig := fun | 0 => leftSem | 1 => cameSem
abbrev sem3 : Fin 3 → SemLoc sig := fun | 0 => maySem | 1 => leftSem | 2 => cameSem
abbrev cell (x : Dev nD × Fin 3) : GSem nD τ sig := ((x.1 : Thread nD τ), sem3 x.2)

/-- Which of the three a semaphore is. -/
def role (s : SemLoc sig) : Option (Fin 3) :=
  if s = maySem then some 0 else if s = leftSem then some 1 else if s = cameSem then some 2 else none

theorem role_sem3 : ∀ k, role (sem3 k) = some k := by decide

abbrev N : ℕ := take.view.dmaCredit
theorem N_pos : 0 < N := View.dmaCredit_pos _ (by decide)

/-! ## What is held and handed over -/

abbrev argAt (c : Dev nD) : Buf (Elt F) ((c : Thread nD τ).loc main_arg0) := m ((c : Thread nD τ).loc main_arg0)

/-- What device `c` ends with: the half its sibling held for it. -/
def landed (c : Dev nD) : (main_v1 : Ref sig .tc).ty.Contents (Elt F) :=
  (half (peer c)).view.read (Elt F) (argAt m (peer c))

omit [FloatOps F] in
theorem write_take (fd w : (main_v1 : Ref sig .tc).ty.Contents (Elt F)) :
    take.view.write (Elt F) fd w Finset.univ = w := by
  show (View.whole main_v1).write (Elt F) fd w Finset.univ = w
  exact View.write_whole_univ _ _ _

def takePts (c : Dev nD) (f : Buf (Elt F) ((c : Thread nD τ).loc main_v1)) : sProp 𝕄 :=
  take.view.loc (c : Thread nD τ) ↦[take.view.set]{fullShare} f
def halfPts (c : Dev nD) : sProp 𝕄 :=
  (half c).view.loc (c : Thread nD τ) ↦[(half c).view.set]{fullShare} argAt m c

omit [FloatOps F] in
instance takePts_storable (c : Dev nD) (f) : BI.Storable (upEmb : UEmb _ 𝕄) (takePts (F := F) c f) := by
  unfold takePts; infer_instance
omit [FloatOps F] in
instance halfPts_storable (c : Dev nD) : BI.Storable (upEmb : UEmb _ 𝕄) (halfPts (F := F) m c) := by
  unfold halfPts; infer_instance

omit [FloatOps F] in
theorem takePts_eq (c : Dev nD) (f : Buf (Elt F) ((c : Thread nD τ).loc main_v1)) :
    takePts c f = (((c : Thread nD τ).loc main_v1) ↦{fullShare} f : sProp 𝕄) := by
  unfold takePts; rw [show take.view.set = Finset.univ from View.set_whole _]

/-- The argument less the half given away. -/
def restPts (c : Dev nD) : sProp 𝕄 :=
  (half c).view.loc (c : Thread nD τ) ↦[Finset.univ \ (half c).view.set]{fullShare} argAt m c

omit [FloatOps F] in
theorem halve (c : Dev nD) :
    (((c : Thread nD τ).loc main_arg0) ↦{fullShare} argAt m c : sProp 𝕄) ⊢ iprop(halfPts m c ∗ restPts m c) :=
  (pointsTo_split_subset (ℓ := (half c).view.loc (c : Thread nD τ)) (Finset.subset_univ _)).1
omit [FloatOps F] in
theorem unhalve (c : Dev nD) :
    iprop(halfPts m c ∗ restPts m c) ⊢ (((c : Thread nD τ).loc main_arg0) ↦{fullShare} argAt m c : sProp 𝕄) :=
  (pointsTo_split_subset (ℓ := (half c).view.loc (c : Thread nD τ)) (Finset.subset_univ _)).2

/-! ## The one round of the three semaphores -/

/-- What waiting on each of the three brings device `c`: its sibling's result to write in, together with the mark that
    the sibling stands ready to receive; its own half back; its result with the sibling's half in it. -/
def brings : Fin 3 → Dev nD → sProp 𝕄
  | 0, c => iprop((∃ f, takePts (peer c) f) ∗ reached EX (came (peer c)) 0)
  | 1, c => halfPts m c
  | 2, c => takePts c (landed m c)

def sched : Rounds.Schedule (GSem nD τ sig) Unit 𝕄 where
  duties g r := if r = 0 ∧ g.1.2 = .tc ∧ (role g.2).isSome then {()} else ∅
  unitless _ := False
  amount g _ _ := if role g.2 = some 0 then 1 else N
  payload g _ _ := match role g.2 with | some k => brings m k g.1.1 | none => iprop(emp)
  amount_pos g _ _ _ := by split; exacts [Nat.one_pos, N_pos]

instance brings_storable (k : Fin 3) (c : Dev nD) : BI.Storable (upEmb : UEmb _ 𝕄) (brings (F := F) m k c) := by
  fin_cases k <;> (dsimp only [brings]; infer_instance)

instance sched_storable (g : GSem nD τ sig) (r : ℕ) (d : Unit) :
    BI.Storable (upEmb : UEmb _ 𝕄) ((sched (F := F) m).payload g r d) := by
  show BI.Storable upEmb (match role g.2 with | some k => brings m k g.1.1 | none => iprop(emp))
  split <;> infer_instance

omit [FloatOps F] in
theorem duties_cell (x : Dev nD × Fin 3) : (sched (F := F) m).duties (cell x) 0 = {()} := by
  dsimp only [sched]; rw [role_sem3]; exact if_pos ⟨rfl, rfl, rfl⟩
omit [FloatOps F] in
theorem duties_over (g : GSem nD τ sig) : ∀ r, 1 ≤ r → (sched (F := F) m).duties g r = ∅ :=
  fun r hr => by dsimp only [sched]; exact if_neg fun h => by omega
omit [FloatOps F] in
theorem duty_mem (x : Dev nD × Fin 3) : () ∈ (sched (F := F) m).duties (cell x) 0 := by
  rw [duties_cell]; exact Finset.mem_singleton_self _
/-- How much each of the three is paid. -/
def due (k : Fin 3) : ℕ := if k = 0 then 1 else N
theorem due_may : due 0 = 1 := if_pos rfl
theorem due_left : due 1 = N := if_neg (by decide)
theorem due_came : due 2 = N := if_neg (by decide)
omit [FloatOps F] in
theorem amount_cell (x : Dev nD × Fin 3) : (sched (F := F) m).amount (cell x) 0 () = due x.2 := by
  dsimp only [sched, due]; rw [role_sem3]; simp only [Option.some.injEq]
omit [FloatOps F] in
theorem expect_cell (x : Dev nD × Fin 3) : (sched (F := F) m).expect (cell x) 0 = due x.2 := by
  unfold Schedule.expect Schedule.amountOf; rw [duties_cell, Finset.sum_singleton, amount_cell]
omit [FloatOps F] in
theorem payload_cell (x : Dev nD × Fin 3) : (sched (F := F) m).payload (cell x) 0 () = brings m x.2 x.1 := by
  dsimp only [sched]; rw [role_sem3]
omit [FloatOps F] in
theorem whole_cell (x : Dev nD × Fin 3) :
    bigSep ((sched (F := F) m).duties (cell x) 0 \ ∅) (fun d => (sched (F := F) m).payload (cell x) 0 d) = brings m x.2 x.1 := by
  rw [Finset.sdiff_empty, duties_cell, bigSep_singleton, payload_cell]

/-! ## What is owed at the start, and in what order it may be waited for -/

def owed₀ (c : Dev nD) : CellTallies nD τ sig Unit := tallyAt (came (peer c)) () N + tallyAt (may (peer c)) () 1

def named (g : GSem nD τ sig) : Finset Unit := if g.1.2 = .tc then {()} else ∅
/-- A copy's coming is above the leave to write, and both above the rest. -/
def height (g : GSem nD τ sig) (_ : Unit) : ℕ := match role g.2 with | some 0 => 1 | some 2 => 2 | _ => 0

theorem named_tc (c : Dev nD) (s : SemLoc sig) : () ∈ named ((c : Thread nD τ), s) := by
  rw [show named ((c : Thread nD τ), s) = {()} from if_pos rfl]; exact Finset.mem_singleton_self _

theorem tally_pos {g h : GSem nD τ sig} {n : ℕ} {u : Unit} (hp : 0 < (tallyAt g () n : CellTallies nD τ sig Unit) h u) : h = g := by
  by_contra hn
  rw [tallyAt_apply, if_neg fun e => hn e.1] at hp
  exact Nat.lt_irrefl 0 hp

omit [FloatOps F] in
/-- While it waits to be told, a device owes its sibling the copy only. -/
theorem may_wait (c : Dev nD) :
    (levAts named height : sProp 𝕄) ⊢ MayWait (c : Thread nD τ) maySem () (tallyAt (came (peer c)) () N) :=
  MayOwe.of_cut (L := named) (lev := height) 1
    (fun p hp => by rw [Finset.mem_singleton.mp hp]; exact named_tc c _)
    (fun g u hg => by rw [tally_pos hg]; exact named_tc _ _)
    (fun p hp => by rw [Finset.mem_singleton.mp hp]; show height (may c) () ≤ 1; unfold height; rw [show role (may c).2 = some 0 from role_sem3 0]; exact Nat.le_refl 1)
    (fun g u hg => by rw [tally_pos hg]; show 1 < height (came (peer c)) (); unfold height; rw [show role (came (peer c)).2 = some 2 from role_sem3 2]; decide)

/-! ## The proof data of the launch -/

def invs (K : Dev nD × Fin 3 → ℕ) (c : Dev nD) : sProp 𝕄 :=
  iprop(cellInv EX (sched m) (K (c, 0)) (may c) ∗ cellInv EX (sched m) (K (c, 1)) (left c) ∗ cellInv EX (sched m) (K (c, 2)) (came c)
    ∗ cellInv EX (sched m) (K (peer c, 0)) (may (peer c)) ∗ cellInv EX (sched m) (K (peer c, 2)) (came (peer c)))

instance invs_persistent (K : Dev nD × Fin 3 → ℕ) (c : Dev nD) : BI.Persistent (invs m K c) := by unfold invs; infer_instance

/-- Where device `c` stands at the start: before the round on its own three, and with the three payments to make. -/
def stand (c : Dev nD) : sProp 𝕄 :=
  iprop((atPos EX (may c) 0 ∅ 0 ∗ atPos EX (left c) 0 ∅ 0 ∗ atPos EX (came c) 0 ∅ 0)
    ∗ dutyTok EX (may (peer c)) 0 () ∗ dutyTok EX (left c) 0 () ∗ dutyTok EX (came (peer c)) 0 ())

def marks (c : Dev nD) : sProp 𝕄 :=
  iprop(reached EX (may (peer c)) 0 ∗ reached EX (left c) 0 ∗ reached EX (came c) 0)

instance marks_persistent (c : Dev nD) : BI.Persistent (marks (F := F) c) := by unfold marks; infer_instance

def ready (c : Dev nD) : sProp 𝕄 := iprop(∃ K, invs m K c ∗ marks c ∗ stand c)

def creds (c : Dev nD) : sProp 𝕄 := iprop(cred (tallyAt (may c) () 1) ∗ cred (tallyAt (came c) () N))

def before (c : Dev nD) : sProp 𝕄 :=
  iprop((ready m c ∗ creds c ∗ levAts named height)
    ∗ (((c : Thread nD τ).loc main_arg0) ↦{fullShare} argAt m c) ∗ ∃ f, takePts c f)

def after (c : Dev nD) : sProp 𝕄 :=
  iprop(((((c : Thread nD τ).loc main_arg0) ↦{fullShare} argAt m c) ∗ takePts c (landed m c) ∗ semVal (may c) 0)
    ∗ semVal (left c) 0 ∗ semVal (came c) 0)

def dats (_ : Fin 1) (c : Dev nD) : Dat τ (Elt F) Unit ℕ Gh ℕ cfg0 c where
  A w := w.elim0
  after w := w.elim0
  Φ t := if t.val = 0 then before m c else after m c
  q _ := fullShare
  owed t := if t.val = 0 then owed₀ c else 0

abbrev 𝒱₀ : Variants := Variants.none

/-! ## The body -/

section Body
variable (K : Dev nD × Fin 3 → ℕ)

/-- The copy to the sibling `n`, both payments made from what is held. -/
theorem wp_copy (c n : Dev nD) (hn : n = peer c)
    {hsc : (take : Memref sig (Dev.tc n : Thread nD τ).2.kind .hbm S4x128x1024 .bf16).view.ref.isScScratch = false}
    {hsrc : (half c).view.WordExact} {hdst : take.view.WordExact}
    {hsem : DmaTarget.Typed .hbm cameSem (.remote (Dev.tc n : Thread nD τ) take leftSem hsc)}
    {α : Type} {Q : α → sProp 𝕄} {k : PUnit → Prog (TpuEff nD τ sig (Elt F) Λ₀ .tc) α}
    (fn : Buf (Elt F) ((peer c : Thread nD τ).loc main_v1)) (W : Waits sig Unit) :
    iprop(cellInv EX (sched m) (K (c, 1)) (left c) ∗ cellInv EX (sched m) (K (peer c, 2)) (came (peer c))
        ∗ halfPts m c ∗ takePts (peer c) fn
        ∗ owes (c : Thread nD τ) (tallyAt (came (peer c)) () N) W
        ∗ dutyTok EX (left c) 0 () ∗ reached EX (left c) 0
        ∗ dutyTok EX (came (peer c)) 0 () ∗ reached EX (came (peer c)) 0)
      ⊢ iprop(((cred (tallyAt (left c) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (half c) (.remote (Dev.tc n : Thread nD τ) take leftSem hsc) cameSem hsrc hdst hsem) k) Q) := by
  subst hn
  unfold halfPts takePts
  exact Rounds.wp_send_pointsTo (defs := defs₀ (F := F)) 𝒱₀ EX (sched m) (c : Thread nD τ) none (c' := (peer c : Thread nD τ))
    (src := half c) (dst := take) (hsc := hsc) (sS := leftSem) (sem := cameSem) (hsrc := hsrc) (hdst := hdst) (hsem := hsem)
    (k := k) (Q := Q) (q := fullShare) (fs := argAt m c) (κ₁ := K (c, 1)) (κ₂ := K (peer c, 2))
    (r₁ := 0) (r₂ := 0) (d₁ := ()) (d₂ := ()) (fd := fn) (Es := Set.univ) (O₀ := tallyAt (came (peer c)) () N)
    (duty_mem m (c, 1)) (duty_mem m (peer c, 2)) () () N rfl ((amount_cell m (c, 1)).trans due_left) ((amount_cell m (peer c, 2)).trans due_came) 0 (by rw [zero_add]) (W := W)
    (by rw [payload_cell m (c, 1)]; exact BI.Entails.refl _)
    (by rw [payload_cell m (peer c, 2)]; dsimp only [brings]; unfold takePts landed; rw [write_take, peer_peer])

def pre (c : Dev nD) : sProp 𝕄 :=
  iprop(((invs m K c ∗ marks c ∗ stand c) ∗ creds c ∗ levAts named height)
    ∗ ((((c : Thread nD τ).loc main_arg0) ↦{fullShare} argAt m c) ∗ ∃ f, takePts c f)
    ∗ (dats m 0 c).owesAt () t0_0.castSucc)

def post (c : Dev nD) : sProp 𝕄 := iprop(after m c ∗ (dats m 0 c).owesAt () t0_0.succ)

set_option maxHeartbeats 1600000 in
theorem body (c : Dev nD) (Q : PUnit → sProp 𝕄) :
    iprop(pre m K c ∗ (post m c -∗ Q ⟨⟩))
      ⊢ wp frame (wpE (defs₀ (F := F)) 𝒱₀ c none) Set.univ
          (cc0_sibling_exchange_early (Memref.whole main_arg0) (Memref.isWhole_whole _) (Memref.whole main_v1) (Memref.isWhole_whole _)
            cc0_scratch0 cc0_scratch1) Q := by
  simp only [cc0_sibling_exchange_early_eq_skeleton]; unfold cc0_sibling_exchange_early_skel
  simp only [k0_part1_eq_skeleton]; unfold k0_part1_skel
  simp only [semSignalWord, semWaitWord, Prog.lift, Prog.bind_op, Prog.bind_ret, Prog.pure_eq_ret, wp_deviceId]
  unfold pre invs marks stand creds
  iintro ⟨⟨⟨⟨⟨#IM, #IL, #IC, #IMp, #ICp⟩, ⟨#rM, #rL, #rC⟩, ⟨aM, aL, aC⟩, tM, tL, tC⟩, ⟨cM, cC⟩, #Hlev⟩, ⟨Harg, %f0, Htake⟩, Ho⟩, Hk⟩
  unfold Dat.owesAt Pipeline.owesWithin
  icases Ho with ⟨%W, %hW, HO⟩
  rw [show (dats m 0 c).owed t0_0.castSucc = owed₀ c from rfl]
  unfold owed₀
  simp only [told c]
  -- the sibling is told that it may write
  iapply (Rounds.wp_signal 𝒱₀ EX (sched m) (c : Thread nD τ) none (dst := (peer c : Thread nD τ)) (κ := K (peer c, 0))
      (d := ()) (duty_mem m (peer c, 0)) ((amount_cell m (peer c, 0)).trans due_may) () (tallyAt (came (peer c)) () N) rfl)
    $$ [HO tM Htake]
  · isplitr; · iexact IMp
    isplitl [HO]; · iexact HO
    isplitl [tM]; · iexact tM
    isplitl [Htake]
    · rw [payload_cell m (peer c, 0)]; dsimp only [brings]; rw [peer_peer]
      isplitl [Htake]; · iexists f0; iexact Htake
      iexact rC
    · iexact rM
  iintro HO
  -- its own leave to write
  iapply (Rounds.wp_wait_rest_token 𝒱₀ EX (sched m) (c : Thread nD τ) none (κ := K (c, 0))
      (wpE_semWait_eq 𝒱₀ (c : Thread nD τ) none Set.univ) (Set.mem_univ _) () (O := tallyAt (came (peer c)) () N) (W := W) (R := 0) (m := 0) (T := ∅)
      (by rw [expect_cell m (c, 0)]; exact due_may.symm)) $$ [cM HO aM]
  · isplitr; · iexact IM
    isplitl [cM]; · iexact cM
    isplitl [HO]; · iexact HO
    isplitr; · iapply (may_wait c); iexact Hlev
    iexact aM
  iintro ⟨HO, aM, -, Hpay⟩
  ihave Hp := (Entails.of_eq (whole_cell m (c, 0))) $$ Hpay
  dsimp only [brings]
  icases Hp with ⟨⟨%fn, HtakeP⟩, #rCp⟩
  -- the copy
  ihave Hh := (halve m c) $$ Harg
  icases Hh with ⟨Hhalf, Hrest⟩
  iapply (wp_copy m K c _ (sentTo c) fn (insert (maySem, ()) W)) $$ [Hhalf HtakeP HO tL tC]
  · isplitr; · iexact IL
    isplitr; · iexact ICp
    isplitl [Hhalf]; · iexact Hhalf
    isplitl [HtakeP]; · iexact HtakeP
    isplitl [HO]; · iexact HO
    isplitl [tL]; · iexact tL
    isplitr; · iexact rL
    isplitl [tC]; · iexact tC
    iexact rCp
  iintro ⟨cL, HO⟩
  -- it has left
  iapply (Rounds.wp_wait_rest_token 𝒱₀ EX (sched m) (c : Thread nD τ) none (κ := K (c, 1))
      (wpE_waitDma2_eq 𝒱₀ (c : Thread nD τ) none Set.univ) (Set.mem_univ _) () (O := 0) (W := insert (maySem, ()) W) (R := 0) (m := 0) (T := ∅)
      (by rw [Nat.zero_add, expect_cell m (c, 1)]; exact due_left.symm)) $$ [cL HO aL]
  · isplitr; · iexact IL
    isplitl [cL]; · iexact cL
    isplitl [HO]; · iexact HO
    isplitr; · rw [MayWait_zero]; iempintro
    iexact aL
  iintro ⟨HO, aL, -, Hpay⟩
  ihave Hhalf := (Entails.of_eq (whole_cell m (c, 1))) $$ Hpay
  -- the sibling's has come
  iapply (Rounds.wp_wait_rest_token 𝒱₀ EX (sched m) (c : Thread nD τ) none (κ := K (c, 2))
      (wpE_waitDma2_eq 𝒱₀ (c : Thread nD τ) none Set.univ) (Set.mem_univ _) () (O := 0)
      (W := insert (leftSem, ()) (insert (maySem, ()) W)) (R := 0) (m := 0) (T := ∅)
      (by rw [Nat.zero_add, expect_cell m (c, 2)]; exact due_came.symm)) $$ [cC HO aC]
  · isplitr; · iexact IC
    isplitl [cC]; · iexact cC
    isplitl [HO]; · iexact HO
    isplitr; · rw [MayWait_zero]; iempintro
    iexact aC
  iintro ⟨HO, aC, -, Hpay⟩
  ihave Htake := (Entails.of_eq (whole_cell m (c, 2))) $$ Hpay
  dsimp only [brings]
  ihave Harg := (unhalve m c) $$ [Hhalf Hrest]
  · isplitl [Hhalf] <;> iassumption
  -- the three semaphores are the device's again, at zero
  imod (Rounds.cell_close EX (sched m) (Set.mem_univ (K (c, 0))) (fun h => h) (R := 0 + 1) (duties_over m (may c))) $$ [aM] with zM
  · isplitr; · iexact IM
    iexact aM
  imod (Rounds.cell_close EX (sched m) (Set.mem_univ (K (c, 1))) (fun h => h) (R := 0 + 1) (duties_over m (left c))) $$ [aL] with zL
  · isplitr; · iexact IL
    iexact aL
  imod (Rounds.cell_close EX (sched m) (Set.mem_univ (K (c, 2))) (fun h => h) (R := 0 + 1) (duties_over m (came c))) $$ [aC] with zC
  · isplitr; · iexact IC
    iexact aC
  rw [wp_ret]; imodintro
  iapply Hk
  unfold post after Dat.owesAt Pipeline.owesWithin
  rw [show (dats m 0 c).owed t0_0.succ = 0 from rfl]
  isplitr [HO]
  · isplitl [Harg Htake zM]
    · isplitl [Harg]; · iexact Harg
      isplitl [Htake] <;> iassumption
    isplitl [zL] <;> iassumption
  · iexists (insert (cameSem, ()) (insert (leftSem, ()) (insert (maySem, ()) W)))
    isplitr; · ipureintro; exact fun _ _ => Or.inl trivial
    iexact HO

omit [FloatOps F] in
theorem none_W (Φ : Fin cfg0.W → sProp 𝕄) : bigSep Finset.univ Φ = iprop(emp) := by
  rw [show (Finset.univ : Finset (Fin cfg0.W)) = ∅ from rfl]; exact bigSep_empty

theorem obligation (c : Dev nD) : BodyObligation (dats (F := F) m 0 c) (defs₀ (F := F)) 𝒱₀ () Set.univ := fun t => by
  rw [fin_N0 t, none_W, none_W]
  show iprop(before m c ∗ (dats m 0 c).owesAt () t0_0.castSucc ∗ emp) ⊢ wp frame (wpE (defs₀ (F := F)) 𝒱₀ c none) Set.univ
    (cc0_sibling_exchange_early (Memref.whole main_arg0) (Memref.isWhole_whole _) (Memref.whole main_v1) (Memref.isWhole_whole _)
      cc0_scratch0 cc0_scratch1) (fun _ => iprop(after m c ∗ (dats m 0 c).owesAt () t0_0.succ ∗ emp))
  unfold before ready
  iintro ⟨⟨⟨⟨%K, Hg⟩, Hcr, Hlev⟩, Hbufs⟩, Ho, -⟩
  iapply (body m K c fun _ => iprop(after m c ∗ (dats m 0 c).owesAt () t0_0.succ ∗ emp))
  unfold pre post
  isplitr []
  · isplitl [Hg Hcr Hlev]
    · isplitl [Hg]; · iexact Hg
      isplitl [Hcr] <;> iassumption
    isplitl [Hbufs] <;> iassumption
  · iintro ⟨Ha, Hw⟩
    isplitl [Ha]; · iexact Ha
    isplitl [Hw]; · iexact Hw
    iempintro

end Body

/-! ## The launch -/

theorem own2Facts : Pipeline.OwnSemFacts cfg0.spec own2 := by decide

theorem cell_inj : Function.Injective (cell : Dev nD × Fin 3 → GSem nD τ sig) := by
  rintro ⟨c, k⟩ ⟨c', k'⟩ h
  have hc : c = c' := congrArg (fun g : GSem nD τ sig => g.1.1) h
  have hk : some k = some k' := by
    rw [← role_sem3 k, ← role_sem3 k']; exact congrArg role (congrArg Prod.snd h)
  rw [hc, Option.some.inj hk]

def cells : Finset (GSem nD τ sig) := Finset.univ.map ⟨cell, cell_inj⟩

/-- The one payment of each cell. -/
def pays : Finset (GSem nD τ sig × ℕ × Unit) :=
  Finset.univ.map ⟨fun x : Dev nD × Fin 3 => (cell x, 0, ()), fun _ _ h => cell_inj (congrArg Prod.fst h)⟩

def gh₀ : Gh :=
  (initOf (Pipeline.cells cfgs cellOf_inj) (Pipeline.launchToks cfgs cellOf_inj), initOf cells pays)

/-- What each device is dealt: per cell its round, its place before it with the mark, and its payment. -/
def dealt (c : Dev nD) : sProp 𝕄 :=
  iprop((bigSep Finset.univ fun k : Fin 3 => roundState EX (sched m) (cell (c, k)) 0)
    ∗ (bigSep Finset.univ fun k : Fin 3 => atPos EX (cell (c, k)) 0 ∅ 0)
    ∗ (bigSep Finset.univ fun k : Fin 3 => reached EX (cell (c, k)) 0)
    ∗ bigSep Finset.univ fun k : Fin 3 => dutyTok EX (cell (c, k)) 0 ())

omit [FloatOps F] in
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem deal : BI.own (EX (initOf cells pays)) ⊢ (|==> bigSep Finset.univ (dealt m) : sProp 𝕄) := by
  have hc (Φ : GSem nD τ sig → sProp 𝕄) :
      bigSep cells Φ = bigSep Finset.univ fun c : Dev nD => bigSep Finset.univ fun k : Fin 3 => Φ (cell (c, k)) := by
    unfold cells; rw [bigSep_map, bigSep_univ_prod]; rfl
  have hp : bigSep pays (fun x => (dutyTok EX x.1 x.2.1 x.2.2 : sProp 𝕄))
      = bigSep Finset.univ fun c : Dev nD => bigSep Finset.univ fun k : Fin 3 => dutyTok EX (cell (c, k)) 0 () := by
    unfold pays; rw [bigSep_map, bigSep_univ_prod]; rfl
  iintro H
  imod (Rounds.fund EX (sched m) cells pays) $$ H with ⟨Hst, Hr, Hat, Htok⟩
  imodintro
  unfold dealt; simp only [bigSep_sep']
  isplitl [Hst]; · iapply (Entails.of_eq (hc fun g => roundState EX (sched m) g 0)); iexact Hst
  isplitl [Hat]; · iapply (Entails.of_eq (hc fun g => atPos EX g 0 ∅ 0)); iexact Hat
  isplitl [Hr]; · iapply (Entails.of_eq (hc fun g => reached EX g 0)); iexact Hr
  iapply (Entails.of_eq hp); iexact Htok

omit [FloatOps F] in
theorem own_sems (c : Dev nD) :
    (Pipeline.ownSems0 (Ix := Unit) (Name := ℕ) (U := Gh) (Lvl := ℕ) (Val := Elt F) (τ := τ) own2 c : sProp 𝕄)
      = iprop(semVal (left c) 0 ∗ semVal (came c) 0) := by
  rw [Pipeline.ownSems0_eq_of_list c own2 [0, 1] (by decide) (by decide)]; rfl
omit [FloatOps F] in
theorem shared_sem (c : Dev nD) : (unscopedSems0 c : sProp 𝕄) = semVal (may c) 0 := by
  unfold unscopedSems0; rw [bigSep_eq_bigSepL_of_eq [maySem] (by decide) (by decide)]; rfl

/-- A device's cells with their invariants standing, at names not yet told. -/
def stood (c : Dev nD) : sProp 𝕄 :=
  iprop((bigSep Finset.univ fun k : Fin 3 => iprop(∃ κ : ℕ, cellInv EX (sched m) κ (cell (c, k))))
    ∗ (bigSep Finset.univ fun k : Fin 3 => atPos EX (cell (c, k)) 0 ∅ 0)
    ∗ (bigSep Finset.univ fun k : Fin 3 => reached EX (cell (c, k)) 0)
    ∗ bigSep Finset.univ fun k : Fin 3 => dutyTok EX (cell (c, k)) 0 ())

omit [FloatOps F] in
theorem stand_up (c : Dev nD) :
    iprop(Pipeline.ownSems0 (Ix := Unit) (Name := ℕ) (U := Gh) (Lvl := ℕ) (Val := Elt F) (τ := τ) own2 c ∗ unscopedSems0 c ∗ dealt m c)
      ⊢ |={Set.univ}=> stood m c := by
  rw [own_sems, shared_sem]
  unfold dealt stood
  iintro ⟨⟨zL, zC⟩, zM, Hst, Hrest⟩
  imod (show iprop((bigSep Finset.univ fun k : Fin 3 => semVal (cell (c, k)) 0) ∗ bigSep Finset.univ fun k : Fin 3 => roundState EX (sched m) (cell (c, k)) 0)
      ⊢ (|={Set.univ}=> bigSep Finset.univ fun k => iprop(∃ κ : ℕ, cellInv EX (sched m) κ (cell (c, k))) : sProp 𝕄) from by
        rw [← bigSep_sep']
        exact (bigSep_mono fun k _ => (Rounds.body_intro EX (sched m) (cell (c, k))).trans inv_alloc).trans (bigSep_fupd _ _))
    $$ [zL zC zM Hst] with Hinv
  · isplitr [Hst]
    · rw [three]
      isplitl [zM]; · iexact zM
      isplitl [zL] <;> iassumption
    iexact Hst
  imodintro
  isplitl [Hinv] <;> iassumption

/-- What every device may look up: the invariants and the marks of all cells. -/
def book (K : Dev nD × Fin 3 → ℕ) : sProp 𝕄 :=
  iprop((bigSep Finset.univ fun x : Dev nD × Fin 3 => cellInv EX (sched m) (K x) (cell x))
    ∗ bigSep Finset.univ fun x : Dev nD × Fin 3 => reached EX (cell x) 0)

instance book_persistent (K : Dev nD × Fin 3 → ℕ) : BI.Persistent (book m K) := by unfold book; infer_instance

omit [FloatOps F] in
theorem look_inv (K : Dev nD × Fin 3 → ℕ) (x : Dev nD × Fin 3) : book m K ⊢ (cellInv EX (sched m) (K x) (cell x) : sProp 𝕄) := by
  unfold book
  exact (sep_mono_left (bigSep_elim (Finset.mem_univ x))).trans (by iintro ⟨H, -⟩; iexact H)
omit [FloatOps F] in
theorem look_mark (K : Dev nD × Fin 3 → ℕ) (x : Dev nD × Fin 3) : book m K ⊢ (reached EX (cell x) 0 : sProp 𝕄) := by
  unfold book
  exact (sep_mono_right (bigSep_elim (Finset.mem_univ x))).trans (by iintro ⟨-, H⟩; iexact H)

omit [FloatOps F] in
theorem make_ready (K : Dev nD × Fin 3 → ℕ) (c : Dev nD) : iprop(book m K ∗ stand c) ⊢ ready m c := by
  unfold ready invs marks
  iintro ⟨#B, Hs⟩
  iexists K
  isplitr
  · isplitr; · iapply (look_inv m K (c, 0)); iexact B
    isplitr; · iapply (look_inv m K (c, 1)); iexact B
    isplitr; · iapply (look_inv m K (c, 2)); iexact B
    isplitr; · iapply (look_inv m K (peer c, 0)); iexact B
    iapply (look_inv m K (peer c, 2)); iexact B
  isplitr
  · isplitr; · iapply (look_mark m K (peer c, 0)); iexact B
    isplitr; · iapply (look_mark m K (c, 1)); iexact B
    iapply (look_mark m K (c, 2)); iexact B
  iexact Hs

omit [FloatOps F] in
/-- The payments of the leave and of the coming change hands, that of the leaving stays. -/
theorem swap :
    iprop((bigSep Finset.univ fun c : Dev nD => bigSep Finset.univ fun k : Fin 3 => (atPos EX (cell (c, k)) 0 ∅ 0 : sProp 𝕄))
      ∗ bigSep Finset.univ fun c : Dev nD => bigSep Finset.univ fun k : Fin 3 => (dutyTok EX (cell (c, k)) 0 () : sProp 𝕄))
      ⊢ bigSep Finset.univ fun c : Dev nD => (stand c : sProp 𝕄) := by
  unfold stand
  simp only [three, bigSep_sep']
  rw [bigSep_univ_equiv flip (fun c : Dev nD => (dutyTok EX (cell (c, 0)) 0 () : sProp 𝕄)),
    bigSep_univ_equiv flip (fun c : Dev nD => (dutyTok EX (cell (c, 2)) 0 () : sProp 𝕄))]
  iintro ⟨Ha, Ht⟩
  isplitl [Ha]; · iexact Ha
  iexact Ht

omit [FloatOps F] in
theorem all_ready : (bigSep Finset.univ (stood m) : sProp 𝕄) ⊢ bigSep Finset.univ (ready m) := by
  unfold stood
  rw [bigSep_sep', bigSep_sep', bigSep_sep', ← bigSep_univ_prod (fun x : Dev nD × Fin 3 => iprop(∃ κ : ℕ, cellInv EX (sched m) κ (cell x))),
    ← bigSep_univ_prod (fun x : Dev nD × Fin 3 => (reached EX (cell x) 0 : sProp 𝕄))]
  iintro ⟨HI, Hat, #HR, Ht⟩
  ihave HK := (BI.bigSep_exists_pi Finset.univ (fun (x : Dev nD × Fin 3) (κ : ℕ) => (cellInv EX (sched m) κ (cell x) : sProp 𝕄))) $$ HI
  icases HK with ⟨%K, #HI⟩
  iapply ((sep_mono_left (BI.bigSep_of_persistent Finset.univ (book m K))).trans
    (by rw [← bigSep_sep']; exact bigSep_mono fun c _ => make_ready m K c) :
      iprop(book m K ∗ bigSep Finset.univ fun c : Dev nD => (stand c : sProp 𝕄)) ⊢ bigSep Finset.univ (ready m))
  isplitr
  · unfold book; isplitr; · iexact HI
    iexact HR
  · iapply (swap (F := F))
    isplitl [Hat] <;> iassumption

omit [FloatOps F] in
theorem set_up : (bigSep Finset.univ fun c => iprop(Pipeline.ownSems0 (Ix := Unit) (Name := ℕ) (U := Gh) (Lvl := ℕ) (Val := Elt F) (τ := τ) own2 c ∗ unscopedSems0 c ∗ dealt m c) : sProp 𝕄)
    ⊢ |={Set.univ}=> bigSep Finset.univ (ready m) :=
  ((bigSep_mono fun c _ => stand_up m c).trans (bigSep_fupd _ _)).trans (BI.fupd_mono (all_ready m))

/-! ### The credit at the start -/

theorem owed_to (d c : Dev nD) (k : Fin 3) (hk : k ≠ 1) : owed₀ d (cell (c, k)) () = if d = peer c then due k else 0 := by
  have hcell (k' : Fin 3) : (cell (c, k) = cell (peer d, k')) ↔ (d = peer c ∧ k = k') :=
    ⟨fun h => by
      have e := cell_inj h
      exact ⟨(peer_peer d).symm.trans (congrArg peer (congrArg Prod.fst e).symm), congrArg Prod.snd e⟩,
     fun h => by rw [h.1, h.2, peer_peer]⟩
  unfold owed₀
  rw [Pi.add_apply, Finsupp.add_apply, tallyAt_apply, tallyAt_apply]
  rw [if_congr ((and_iff_left rfl).trans (hcell 2)) rfl rfl, if_congr ((and_iff_left rfl).trans (hcell 0)) rfl rfl]
  by_cases hd : d = peer c
  · rw [if_pos hd, if_congr (and_iff_right hd) rfl rfl, if_congr (and_iff_right hd) rfl rfl]
    rcases (by decide : ∀ k : Fin 3, k ≠ 1 → k = 0 ∨ k = 2) k hk with rfl | rfl
    · rw [if_neg (by decide), if_pos rfl, Nat.zero_add]; exact due_may.symm
    · rw [if_pos rfl, if_neg (by decide), Nat.add_zero]; exact due_came.symm
  · rw [if_neg fun h => hd h.1, if_neg fun h => hd h.1, if_neg hd]

omit [FloatOps F] in
theorem credit_of (c : Dev nD) (k : Fin 3) (hk : k ≠ 1) :
    tallyOn (cell (c, k)) (launchCredit (Pipeline.owing owed₀) 0 (cell (c, k))) = (tallyAt (cell (c, k)) () (due k) : CellTallies nD τ sig Unit) := by
  unfold tallyAt; refine congrArg _ (Finsupp.ext fun u => ?_); cases u
  rw [Pipeline.launchCredit_owing, Finsupp.single_eq_same, Finset.sum_congr rfl fun d _ => owed_to d c k hk,
    Finset.sum_ite_eq' Finset.univ (peer c) fun _ => due k, if_pos (Finset.mem_univ _)]

omit [FloatOps F] in
theorem credits (c : Dev nD) : (Pipeline.launchCred owed₀ c : sProp 𝕄) ⊢ creds c := by
  unfold Pipeline.launchCred creds
  rw [bigSep_univ_at _ maySem, show (tallyAt (may c) () 1 : CellTallies nD τ sig Unit) = tallyAt (may c) () (due 0) from by rw [due_may],
    show (tallyAt (came c) () N : CellTallies nD τ sig Unit) = tallyAt (came c) () (due 2) from by rw [due_came],
    ← credit_of c 0 (by decide), ← credit_of c 2 (by decide)]
  exact sep_mono_right (bigSep_elim (Finset.mem_erase.mpr ⟨(by decide : cameSem ≠ maySem), Finset.mem_univ _⟩))

/-! ### The ends of the launch -/

def begins (c : Dev nD) : sProp 𝕄 :=
  iprop((ready m c ∗ creds c ∗ levAts named height)
    ∗ (((c : Thread nD τ).loc main_arg0) ↦{fullShare} argAt m c) ∗ (((c : Thread nD τ).loc main_v1) ↦{fullShare} m ((c : Thread nD τ).loc main_v1)))

omit [FloatOps F] in
theorem begin_with (c : Dev nD) :
    iprop(Pipeline.unscopedRestP Pipeline.Prefetch.none cfg0.spec c (fun b => m ((c : Thread nD τ).loc b)) ∗ levAts named height
        ∗ Pipeline.launchCred owed₀ c ∗ prngReg c (ρ c) ∗ ready m c)
      ⊢ |={Set.univ}=> iprop(begins m c ∗ emp) := by
  rw [Pipeline.unscopedRestP_none, unscopedRest0_eq]
  iintro ⟨⟨Ha, Hv⟩, Hlev, Hcr, -, HG⟩
  ihave Hc := (credits (F := F) c) $$ Hcr
  imodintro
  unfold begins
  isplitl
  · isplitl [HG Hc Hlev]
    · isplitl [HG]; · iexact HG
      isplitl [Hc] <;> iassumption
    isplitl [Ha] <;> iassumption
  · iempintro

theorem enter (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before begins
  iintro ⟨⟨Hs, Ha, Hv⟩, -, -⟩
  isplitl [Hs]; · iexact Hs
  isplitl [Ha]; · iexact Ha
  iexists (m ((c : Thread nD τ).loc main_v1)); rw [takePts_eq]; iexact Hv

/-- What is left to be read off: the argument, the result, the shared semaphore. -/
def ends (c : Dev nD) : sProp 𝕄 :=
  iprop((((c : Thread nD τ).loc main_arg0) ↦{fullShare} argAt m c) ∗ takePts c (landed m c) ∗ unscopedSems0 c)

theorem leave (c : Dev nD) :
    (dats m 0 c).Φ (Fin.last cfg0.N) ⊢ iprop(ends m c ∗ Pipeline.ownSems0 own2 c ∗ Pipeline.scopedRest cfg0.spec c) := by
  rw [show (dats m 0 c).Φ (Fin.last cfg0.N) = after m c from rfl, scopedRest0_eq, own_sems]
  unfold after ends
  rw [shared_sem]
  iintro ⟨H, Hz⟩
  isplitl [H]; · iexact H
  isplitl [Hz]; · iexact Hz
  iempintro

/-- What holds of device `c`'s memory at the end. -/
def Ended (c : Dev nD) (s : MemSt nD τ sig (Elt F)) : Prop :=
  (s.mem ((c : Thread nD τ).loc main_v1) = landed m c ∧ s.mem ((c : Thread nD τ).loc main_arg0) = argAt m c)
    ∧ ∀ sm : SemLoc sig, sm.isScoped .tc = false → s.sem ((c : Thread nD τ), sm) = 0

omit [FloatOps F] in
theorem read_off (c : Dev nD) (s' : Phys nD τ sig (Elt F)) :
    iprop(ends m c ∗ emp ∗ SI s') ⊢ (|={Set.univ}=> iprop(⌜Ended m c s'.mem⌝ ∗ SI s') : sProp 𝕄) := by
  unfold ends
  rw [takePts_eq]
  iintro ⟨⟨Ha, Hv, Hu⟩, -, HSI⟩
  icombine HSI Ha gives %ha
  icombine HSI Hv gives %hv
  imod (Pipeline.unscopedSems0_read (X := unscopedSems0 c) (c := c) fupd_intro s') $$ [Hu HSI] with ⟨%hu, HSI⟩
  · isplitl [Hu] <;> iassumption
  imodintro
  isplitr
  · ipureintro
    exact ⟨⟨Buf.eq_of_forall_mem_univ hv, Buf.eq_of_forall_mem_univ ha⟩, hu⟩
  iexact HSI

theorem waits (c : Dev nD) : (levAts named height : sProp 𝕄) ⊢ Pipeline.cellsWaits cfgs (dats m) () 0 c :=
  Pipeline.cellsWaits_intro cfgs (dats m) () 0 c fun w => w.elim0

set_option maxRecDepth 8000 in
/-- From any memory with every semaphore at zero the exchange runs to its end, and at every end each device holds the
    half its sibling held for it, its argument as it was, and every semaphore at zero. -/
theorem run : θ_run defs (onTc (τ := τ) (main (F := F))) ⟨m, fun _ => 0, ρ⟩ (fun r =>
    (∀ c : Dev nD, r.2.mem ((c : Thread nD τ).loc main_v1) = landed m c ∧ r.2.mem ((c : Thread nD τ).loc main_arg0) = argAt m c)
      ∧ r.2.sem = fun _ => 0) :=
  Pipeline.θ_run_region_owing_glob_pf (fun p => (cfgs p).toPCfg) (fun p => (cfgs p).toPCfg_adm) (dats m) () cellOf_inj (0 : Fin 1)
    winFacts0.to₀ own2Facts (Pipeline.PreFacts.none _) EL defs₀ 𝒱₀ m ρ main
    (hmain := fun _ => rfl)
    (hbody := obligation m) (hne := fun w => w.elim0) (harr := arr_whole0) (hstage := stage_whole0) (hshare := fun _ w => w.elim0)
    (hdistinct := winFacts0.arr_inj)
    (O₀ := owed₀) (howed₀ := fun _ => rfl) (howedN := fun _ => rfl)
    (L := named) (lv := height) (hL := fun _ h => if_neg h) (hwaits := waits m)
    (G := dealt m) (G' := ready m) (u₀ := gh₀)
    (hu₀ := by
      unfold gh₀
      iintro Hu
      ihave H := (ownU_pair _ _) $$ Hu
      icases H with ⟨HP, HX⟩
      imod (deal m) $$ HX with HG
      imodintro
      isplitl [HP] <;> iassumption)
    (hglob := set_up m)
    (hA := fun _ w => w.elim0) (hpf := fun _ k => k.elim0)
    (X := begins m) (Y := ends m) (Z := fun _ => iprop(emp))
    (hX := begin_with m ρ) (hin := enter m) (hout := leave m)
    (QY := Ended m) (hY := read_off m)
    (hQ := fun _ h hs => ⟨fun c => (h c).2.2.1, sem_eq_zero hs fun c => (h c).2.2.2⟩)

end Cert.PairProof

end
-- ==== Proof.PairClaim.lean ====
/- The claims about the exchange between the two siblings: the frames, and that each device ends with its part of what the
   plain reference puts together from the whole array. -/
module

public import proofs.«01_k».proof.Defs
public import proofs.«01_k».proof.Proof.PairRun
public import proofs.«01_k».proof.Proof.Gen.Pair
public import proofs.«01_k».proof.Proof.Gen.PairRefIdeal
public import proofs.«01_k».proof.Proof.Gen.PairRefIdeal.Run
public import proofs.«01_k».proof.Proof.Gen.PairRefIdeal.Read
public import Idealize.ShloMosaic.Lib.Layout
public import Idealize.ShloMosaic.Lib.Pipeline.Value
public import Idealize.ShloMosaic.Lib.Quiescent

@[expose] public section

set_option maxRecDepth 16384

noncomputable section

namespace Cert.PairValue

open Idealize.ShloMosaic Idealize.ShloMosaic.TcCoe Idealize.SL.Sem

/-! ## The frames -/

/-- The exchange leaves its argument and every counter alone. -/
theorem frame_ideal (m ρ) : θ_run (Cert.PairIdeal.defs (F := Ideal)) (onTc (τ := Cert.PairIdeal.τ) (Cert.PairIdeal.main (F := Ideal)))
    ⟨m, fun _ => 0, ρ⟩ fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ r.2.sem = fun _ => 0 :=
  (θ_run Cert.PairIdeal.defs _ _).mono (fun _ h => ⟨fun c => (h.1 c).2, h.2⟩) (Cert.PairProof.run (F := Ideal) m ρ)

/-- On words it is the same text. -/
theorem frame_words (m ρ) : θ_run (Cert.Pair.defs (F := Bits)) (onTc (τ := Cert.Pair.τ) (Cert.Pair.main (F := Bits)))
    ⟨m, fun _ => 0, ρ⟩ fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0))
      ∧ r.2.sem = fun _ => 0 :=
  (θ_run Cert.Pair.defs _ _).mono (fun _ h => ⟨fun c => (h.1 c).2, h.2⟩)
    (show θ_run (Cert.Pair.defs (F := Bits)) (onTc (τ := Cert.Pair.τ) (Cert.Pair.main (F := Bits))) ⟨m, fun _ => 0, ρ⟩ _
      from Cert.PairProof.run (F := Bits) m ρ)

/-- The reference leaves its argument alone, and has no counters. -/
theorem frame_ref (m ρ) : θ_run (Cert.PairRefIdeal.defs (F := Ideal)) (onTc (τ := Cert.PairRefIdeal.τ) (Cert.PairRefIdeal.main (F := Ideal)))
    ⟨m, fun _ => 0, ρ⟩ fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0))
      ∧ r.2.sem = fun _ => 0 :=
  (θ_run Cert.PairRefIdeal.defs _ _).mono (fun r h => ⟨fun c => (h c).2, sem_eq_zero_of_no_sems (by decide) r.2⟩)
    (Cert.PairRefIdeal.Value.run m ρ)

/-! ## Where an element comes from -/

section Kernel
open Cert.PairIdeal Cert.PairIdeal.Gen Cert.PairProof
variable (m : (ℓ : Loc nD τ sig) → Buf (Elt Ideal) ℓ)

/-- Place `i` of part `p`. -/
abbrev inPart (p : Fin 2) (i : S4x128x1024.Idx) : S2x4x128x1024.Idx := fun a => match a with
  | ⟨0, _⟩ => p
  | ⟨1, _⟩ => i 0
  | ⟨2, _⟩ => i 1
  | ⟨3, _⟩ => i 2

/-- The same place in the one part of a slice. -/
abbrev inOne (i : S4x128x1024.Idx) : S1x4x128x1024.Idx := fun a => match a with
  | ⟨0, _⟩ => (0 : Fin 1)
  | ⟨1, _⟩ => i 0
  | ⟨2, _⟩ => i 1
  | ⟨3, _⟩ => i 2

/-- What device `c` ends with is its own part of its sibling's argument. -/
theorem landed_apply (c : Dev nD) (i : S4x128x1024.Idx) : landed m c i = argAt m (peer c) (inPart c i) := by
  unfold landed
  rw [Memref.read_squeeze_slice give _ _ _ (show S1x4x128x1024.ShapeCasts S4x128x1024 by decide)]
  rw [shapeCast_apply _ _ i (inOne i) (by
    rw [Shape.rowMajor_val_four, Shape.rowMajor_val_three]
    show ((0 * 4 + (i 0).val) * 128 + (i 1).val) * 1024 + (i 2).val = ((i 0).val * 128 + (i 1).val) * 1024 + (i 2).val
    omega)]
  refine congrArg (argAt m (peer c)) (funext fun a => Fin.ext ?_)
  show k0_off1 (peer c) a + 1 * (inOne i a).val = _
  rw [k0_off1_eq, Nat.one_mul]
  exact match a with
    | ⟨0, _⟩ => by
      show (1 - (1 - c.val)) + 0 = c.val
      have hc : c.val < 2 := c.isLt
      omega
    | ⟨1, _⟩ => Nat.zero_add _
    | ⟨2, _⟩ => Nat.zero_add _
    | ⟨3, _⟩ => Nat.zero_add _

end Kernel

section Reference
open Cert.PairRefIdeal Cert.PairRefIdeal.Gen Cert.PairRefIdeal.Read
variable (x : (⟨S4x4x128x1024, .bf16⟩ : BufTy).Contents (Elt Ideal))

/-- Place `i` of quarter `p`. -/
abbrev inQuarter (p : Fin 4) (i : S4x128x1024.Idx) : S4x4x128x1024.Idx := fun a => match a with
  | ⟨0, _⟩ => p
  | ⟨1, _⟩ => i 0
  | ⟨2, _⟩ => i 1
  | ⟨3, _⟩ => i 2

abbrev inSquare (p q : Fin 2) (i : S4x128x1024.Idx) : S2x2x4x128x1024.Idx := fun a => match a with
  | ⟨0, _⟩ => p
  | ⟨1, _⟩ => q
  | ⟨2, _⟩ => i 0
  | ⟨3, _⟩ => i 1
  | ⟨4, _⟩ => i 2

abbrev inCell (i : S4x128x1024.Idx) : S1x1x4x128x1024.Idx := fun a => match a with
  | ⟨0, _⟩ => (0 : Fin 1)
  | ⟨1, _⟩ => (0 : Fin 1)
  | ⟨2, _⟩ => i 0
  | ⟨3, _⟩ => i 1
  | ⟨4, _⟩ => i 2

theorem square_apply (p q : Fin 2) (r : Fin 4) (hr : r.val = 2 * p.val + q.val) (i : S4x128x1024.Idx) :
    val_main_v0 (F := Ideal) x (inSquare p q i) = x (inQuarter r i) := by
  unfold val_main_v0
  refine shapeCast_apply _ _ _ _ ?_
  rw [Shape.rowMajor_val_five, Shape.rowMajor_val_four]
  show ((r.val * 4 + (i 0).val) * 128 + (i 1).val) * 1024 + (i 2).val
    = (((p.val * 2 + q.val) * 4 + (i 0).val) * 128 + (i 1).val) * 1024 + (i 2).val
  omega

theorem cell_pos (i : S4x128x1024.Idx) : (S1x1x4x128x1024.rowMajor (inCell i)).val = (S4x128x1024.rowMajor i).val := by
  rw [Shape.rowMajor_val_five, Shape.rowMajor_val_three]
  show (((0 * 1 + 0) * 4 + (i 0).val) * 128 + (i 1).val) * 1024 + (i 2).val = ((i 0).val * 128 + (i 1).val) * 1024 + (i 2).val
  omega

theorem first_apply (i : S4x128x1024.Idx) : val_main_v2 (F := Ideal) x i = x (inQuarter 2 i) := by
  unfold val_main_v2 val_main_v1
  rw [shapeCast_apply _ _ i (inCell i) (cell_pos i), extractStridedSlice_apply _ _ _ _ (inSquare 1 0 i) (fun a => match a with
    | ⟨0, _⟩ => rfl
    | ⟨1, _⟩ => rfl
    | ⟨2, _⟩ => (Nat.zero_add _).symm
    | ⟨3, _⟩ => (Nat.zero_add _).symm
    | ⟨4, _⟩ => (Nat.zero_add _).symm)]
  exact square_apply x 1 0 2 rfl i

theorem second_apply (i : S4x128x1024.Idx) : val_main_v4 (F := Ideal) x i = x (inQuarter 1 i) := by
  unfold val_main_v4 val_main_v3
  rw [shapeCast_apply _ _ i (inCell i) (cell_pos i), extractStridedSlice_apply _ _ _ _ (inSquare 0 1 i) (fun a => match a with
    | ⟨0, _⟩ => rfl
    | ⟨1, _⟩ => rfl
    | ⟨2, _⟩ => (Nat.zero_add _).symm
    | ⟨3, _⟩ => (Nat.zero_add _).symm
    | ⟨4, _⟩ => (Nat.zero_add _).symm)]
  exact square_apply x 0 1 1 rfl i

/-- Part `c` of the reference's result is quarter `2 - c` of its argument. -/
theorem joined_apply (c : Fin 2) (r : Fin 4) (hr : r.val = 2 - c.val) (i : S4x128x1024.Idx) (j : S8x128x1024.Idx)
    (h0 : (j 0).val = c.val * 4 + (i 0).val) (h1 : (j 1).val = (i 1).val) (h2 : (j 2).val = (i 2).val) :
    val_main_v5 (F := Ideal) x j = x (inQuarter r i) := by
  unfold val_main_v5
  match c with
  | ⟨0, _⟩ =>
    have hr' : r = 2 := Fin.ext hr
    rw [hr', ← first_apply x i]
    exact concatenate_apply_piece 0 _ _ j 0 (by exact Nat.zero_lt_two) S4x128x1024 _ rfl rfl 0 rfl i (fun b hb => match b with
      | ⟨0, _⟩ => absurd rfl hb
      | ⟨1, _⟩ => h1.symm
      | ⟨2, _⟩ => h2.symm) (by show 0 + (i 0).val = (j 0).val; rw [h0]; show _ = 0 * 4 + _; omega)
  | ⟨1, _⟩ =>
    have hr' : r = 1 := Fin.ext hr
    rw [hr', ← second_apply x i]
    exact concatenate_apply_piece 0 _ _ j 1 (by exact Nat.one_lt_two) S4x128x1024 _ rfl rfl 4 rfl i (fun b hb => match b with
      | ⟨0, _⟩ => absurd rfl hb
      | ⟨1, _⟩ => h1.symm
      | ⟨2, _⟩ => h2.symm) (by show 4 + (i 0).val = (j 0).val; rw [h0]; show _ = 1 * 4 + _; omega)

end Reference

/-! ## The two results -/

/-- From memories that agree, each device ends with its part of the reference's result. -/
theorem algebraic : Cert.algebraic_PairIdeal_PairRefIdeal := fun m g m' g' _ hargs => by
  refine ⟨Cert.PairRefIdeal.Read.val_main_v5 (F := Ideal) (m' (((0 : Dev Cert.PairRefIdeal.nD).tc : Thread Cert.PairRefIdeal.nD Cert.PairRefIdeal.τ).loc Cert.PairRefIdeal.main_arg0)),
    (θ_run Cert.PairIdeal.defs _ _).mono (fun r h c => ⟨(h.1 c).1.trans (funext fun i => ?_), (h.1 c).2⟩) (Cert.PairProof.run (F := Ideal) m g),
    (θ_run Cert.PairRefIdeal.defs _ _).mono (fun r h => ⟨(h 0).1.trans (Cert.PairRefIdeal.Read.val_main_v5_eq (F := Ideal) _), (h 0).2⟩)
      (Cert.PairRefIdeal.Value.run m' g')⟩
  have hc : c.val < 2 := c.isLt
  rw [landed_apply m c i]
  refine (congrFun (hargs (Cert.PairProof.peer c)) (inPart c i)).trans ?_
  refine Eq.trans ?_ (joined_apply _ c ⟨2 - c.val, by omega⟩ rfl i _ rfl rfl rfl).symm
  refine congrArg (m' (((0 : Dev Cert.PairRefIdeal.nD).tc : Thread Cert.PairRefIdeal.nD Cert.PairRefIdeal.τ).loc Cert.PairRefIdeal.main_arg0)) (funext fun a => Fin.ext ?_)
  exact match a with
    | ⟨0, _⟩ => by show (1 - c.val) * 2 + c.val = 2 - c.val; omega
    | ⟨1, _⟩ => rfl
    | ⟨2, _⟩ => rfl
    | ⟨3, _⟩ => rfl

end Cert.PairValue

end
-- ==== Proof.lean ====
module

public import proofs.«01_k».proof.Proof.MixClaim
public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Pre_finite_down
public import proofs.«01_k».proof.Proof.DownClaim
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.FfnClaim
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_finite_ffn
public import proofs.«01_k».proof.Proof.UpClaim
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_finite_up
public import proofs.«01_k».proof.Proof.FwdClaim
public import proofs.«01_k».proof.Proof.Gen.Fwd
public import proofs.«01_k».proof.Proof.Gen.Fwd.Frame
public import proofs.«01_k».proof.Proof.Gen.FwdIdeal
public import proofs.«01_k».proof.Proof.Gen.FwdIdeal.Frame
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.Pre_finite_fwd
public import proofs.«01_k».proof.Proof.PairClaim
public import proofs.«01_k».proof.Proof.Gen.Pair
public import proofs.«01_k».proof.Proof.Gen.PairIdeal
public import proofs.«01_k».proof.Proof.Gen.PairIdeal.Skeleton
public import proofs.«01_k».proof.Proof.Gen.PairIdeal.Launch
public import proofs.«01_k».proof.Proof.Gen.PairIdeal.Frame
public import proofs.«01_k».proof.Proof.Gen.PairRefIdeal
public import proofs.«01_k».proof.Proof.Gen.PairRefIdeal.Run
public import proofs.«01_k».proof.Proof.Gen.PairRefIdeal.Read
public import Idealize.ShloMosaic.Adequacy
public import Idealize.ShloMosaic.Init

@[expose] public section

noncomputable section

namespace Cert.Proof

open Idealize.ShloMosaic Idealize.SL.Sem Cert.Down

/-- Every claim of the certificate. -/
theorem claim : Cert.Claim := ⟨Cert.Down.Gen.facts, Cert.DownIdeal.Gen.facts, Cert.DownRefIdeal.Gen.facts,
  Cert.Mix.Gen.facts, Cert.MixIdeal.Gen.facts, Cert.MixRefIdeal.Gen.facts,
  Cert.Ffn.Gen.facts, Cert.FfnIdeal.Gen.facts, Cert.FfnRefIdeal.Gen.facts,
  Cert.Up.Gen.facts, Cert.UpIdeal.Gen.facts, Cert.UpRefIdeal.Gen.facts,
  Cert.Fwd.Gen.facts, Cert.FwdIdeal.Gen.facts, Cert.FwdRefIdeal.Gen.facts,
  Cert.Pair.Gen.facts, Cert.PairIdeal.Gen.facts, Cert.PairRefIdeal.Gen.facts, Cert.Pre_finite_down.Gen.facts, Cert.Pre_finite_mix.Gen.facts,
  Cert.Pre_finite_ffn.Gen.facts, Cert.Pre_finite_up.Gen.facts, Cert.Pre_finite_fwd.Gen.facts,
  fun m ρ _ => Cert.Down.Gen.frame m ρ,
  fun m ρ _ => Cert.DownIdeal.Gen.frame m ρ,
  fun m ρ _ => Cert.DownIdeal.Gen.frame m ρ,
  fun m ρ _ => Cert.DownValue.frame_ref m ρ,
  fun m ρ _ => Cert.DownValue.frame_ref m ρ,
  fun m ρ _ => Cert.MixValue.frame_words m ρ,
  fun m ρ _ => Cert.MixValue.frame_ideal m ρ,
  fun m ρ _ => Cert.MixValue.frame_ideal m ρ,
  fun m ρ _ => Cert.MixValue.frame_ref m ρ,
  fun m ρ _ => Cert.MixValue.frame_ref m ρ,
  fun m ρ _ => Cert.Ffn.Gen.frame m ρ,
  fun m ρ _ => Cert.FfnIdeal.Gen.frame m ρ,
  fun m ρ _ => Cert.FfnIdeal.Gen.frame m ρ,
  fun m ρ _ => Cert.FfnValue.frame_ref m ρ,
  fun m ρ _ => Cert.FfnValue.frame_ref m ρ,
  fun m ρ _ => Cert.Up.Gen.frame m ρ,
  fun m ρ _ => Cert.UpIdeal.Gen.frame m ρ,
  fun m ρ _ => Cert.UpIdeal.Gen.frame m ρ,
  fun m ρ _ => Cert.UpValue.frame_ref m ρ,
  fun m ρ _ => Cert.UpValue.frame_ref m ρ,
  fun m ρ _ => Cert.Fwd.Gen.frame m ρ,
  fun m ρ _ => Cert.FwdIdeal.Gen.frame m ρ,
  fun m ρ _ => Cert.FwdIdeal.Gen.frame m ρ,
  fun m ρ _ => Cert.FwdValue.frame_ref m ρ,
  fun m ρ _ => Cert.FwdValue.frame_ref m ρ,
  fun m ρ _ => Cert.PairValue.frame_words m ρ,
  fun m ρ _ => Cert.PairValue.frame_ideal m ρ,
  fun m ρ _ => Cert.PairValue.frame_ref m ρ,
  trivial,
  Cert.DownValue.algebraic,
  trivial,
  Cert.MixValue.algebraic,
  trivial,
  Cert.FfnValue.algebraic,
  trivial,
  Cert.UpValue.algebraic,
  trivial,
  Cert.FwdValue.algebraic,
  trivial,
  Cert.PairValue.algebraic⟩

end Cert.Proof

end
